-- ==== Defs.lean ====
def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_LayerOne (m : (ℓ : Loc Cert.LayerOne.nD Cert.LayerOne.τ Cert.LayerOne.sig) → Buf (Elt Bits) ℓ) : Prop :=
  True

def Pre_LayerOneIdeal (m : (ℓ : Loc Cert.LayerOneIdeal.nD Cert.LayerOneIdeal.τ Cert.LayerOneIdeal.sig) → Buf (Elt Ideal) ℓ) : Prop :=
  True

def Pre_LayerOneIdeal_finite_qm [hPre_finite_qm : Cert.Pre_finite_qm.Facts] (m : (ℓ : Loc Cert.LayerOneIdeal.nD Cert.LayerOneIdeal.τ Cert.LayerOneIdeal.sig) → Buf (Elt Ideal) ℓ) : Prop :=
  ∀ c : Dev Cert.LayerOneIdeal.nD,
    (Cert.Pre_finite_qm.fn (F := Ideal) (m ((c.tc : Thread Cert.LayerOneIdeal.nD Cert.LayerOneIdeal.τ).loc Cert.LayerOneIdeal.main_arg0)) (m ((c.tc : Thread Cert.LayerOneIdeal.nD Cert.LayerOneIdeal.τ).loc Cert.LayerOneIdeal.main_arg1)) (m ((c.tc : Thread Cert.LayerOneIdeal.nD Cert.LayerOneIdeal.τ).loc Cert.LayerOneIdeal.main_arg2)) (m ((c.tc : Thread Cert.LayerOneIdeal.nD Cert.LayerOneIdeal.τ).loc Cert.LayerOneIdeal.main_arg3)) (m ((c.tc : Thread Cert.LayerOneIdeal.nD Cert.LayerOneIdeal.τ).loc Cert.LayerOneIdeal.main_arg4)) (m ((c.tc : Thread Cert.LayerOneIdeal.nD Cert.LayerOneIdeal.τ).loc Cert.LayerOneIdeal.main_arg5)) (m ((c.tc : Thread Cert.LayerOneIdeal.nD Cert.LayerOneIdeal.τ).loc Cert.LayerOneIdeal.main_arg6)) (m ((c.tc : Thread Cert.LayerOneIdeal.nD Cert.LayerOneIdeal.τ).loc Cert.LayerOneIdeal.main_arg7)) (m ((c.tc : Thread Cert.LayerOneIdeal.nD Cert.LayerOneIdeal.τ).loc Cert.LayerOneIdeal.main_arg8)) (m ((c.tc : Thread Cert.LayerOneIdeal.nD Cert.LayerOneIdeal.τ).loc Cert.LayerOneIdeal.main_arg9))) = (fun _ => 1#1)

def Pre_LayerOneRefIdeal (m : (ℓ : Loc Cert.LayerOneRefIdeal.nD Cert.LayerOneRefIdeal.τ Cert.LayerOneRefIdeal.sig) → Buf (Elt Ideal) ℓ) : Prop :=
  True

def Pre_LayerOneRefIdeal_finite_qm [hPre_finite_qm : Cert.Pre_finite_qm.Facts] (m : (ℓ : Loc Cert.LayerOneRefIdeal.nD Cert.LayerOneRefIdeal.τ Cert.LayerOneRefIdeal.sig) → Buf (Elt Ideal) ℓ) : Prop :=
  ∀ c : Dev Cert.LayerOneRefIdeal.nD,
    (Cert.Pre_finite_qm.fn (F := Ideal) (m ((c.tc : Thread Cert.LayerOneRefIdeal.nD Cert.LayerOneRefIdeal.τ).loc Cert.LayerOneRefIdeal.main_arg0)) (m ((c.tc : Thread Cert.LayerOneRefIdeal.nD Cert.LayerOneRefIdeal.τ).loc Cert.LayerOneRefIdeal.main_arg1)) (m ((c.tc : Thread Cert.LayerOneRefIdeal.nD Cert.LayerOneRefIdeal.τ).loc Cert.LayerOneRefIdeal.main_arg2)) (m ((c.tc : Thread Cert.LayerOneRefIdeal.nD Cert.LayerOneRefIdeal.τ).loc Cert.LayerOneRefIdeal.main_arg3)) (m ((c.tc : Thread Cert.LayerOneRefIdeal.nD Cert.LayerOneRefIdeal.τ).loc Cert.LayerOneRefIdeal.main_arg4)) (m ((c.tc : Thread Cert.LayerOneRefIdeal.nD Cert.LayerOneRefIdeal.τ).loc Cert.LayerOneRefIdeal.main_arg5)) (m ((c.tc : Thread Cert.LayerOneRefIdeal.nD Cert.LayerOneRefIdeal.τ).loc Cert.LayerOneRefIdeal.main_arg6)) (m ((c.tc : Thread Cert.LayerOneRefIdeal.nD Cert.LayerOneRefIdeal.τ).loc Cert.LayerOneRefIdeal.main_arg7)) (m ((c.tc : Thread Cert.LayerOneRefIdeal.nD Cert.LayerOneRefIdeal.τ).loc Cert.LayerOneRefIdeal.main_arg8)) (m ((c.tc : Thread Cert.LayerOneRefIdeal.nD Cert.LayerOneRefIdeal.τ).loc Cert.LayerOneRefIdeal.main_arg9))) = (fun _ => 1#1)

def Pre_LayerZero (m : (ℓ : Loc Cert.LayerZero.nD Cert.LayerZero.τ Cert.LayerZero.sig) → Buf (Elt Bits) ℓ) : Prop :=
  True

def Pre_LayerZeroIdeal (m : (ℓ : Loc Cert.LayerZeroIdeal.nD Cert.LayerZeroIdeal.τ Cert.LayerZeroIdeal.sig) → Buf (Elt Ideal) ℓ) : Prop :=
  True

def Pre_LayerZeroIdeal_finite_in [hPre_finite_in : Cert.Pre_finite_in.Facts] (m : (ℓ : Loc Cert.LayerZeroIdeal.nD Cert.LayerZeroIdeal.τ Cert.LayerZeroIdeal.sig) → Buf (Elt Ideal) ℓ) : Prop :=
  ∀ c : Dev Cert.LayerZeroIdeal.nD,
    (Cert.Pre_finite_in.fn (F := Ideal) (m ((c.tc : Thread Cert.LayerZeroIdeal.nD Cert.LayerZeroIdeal.τ).loc Cert.LayerZeroIdeal.main_arg0)) (m ((c.tc : Thread Cert.LayerZeroIdeal.nD Cert.LayerZeroIdeal.τ).loc Cert.LayerZeroIdeal.main_arg1)) (m ((c.tc : Thread Cert.LayerZeroIdeal.nD Cert.LayerZeroIdeal.τ).loc Cert.LayerZeroIdeal.main_arg2)) (m ((c.tc : Thread Cert.LayerZeroIdeal.nD Cert.LayerZeroIdeal.τ).loc Cert.LayerZeroIdeal.main_arg3)) (m ((c.tc : Thread Cert.LayerZeroIdeal.nD Cert.LayerZeroIdeal.τ).loc Cert.LayerZeroIdeal.main_arg4)) (m ((c.tc : Thread Cert.LayerZeroIdeal.nD Cert.LayerZeroIdeal.τ).loc Cert.LayerZeroIdeal.main_arg5)) (m ((c.tc : Thread Cert.LayerZeroIdeal.nD Cert.LayerZeroIdeal.τ).loc Cert.LayerZeroIdeal.main_arg6)) (m ((c.tc : Thread Cert.LayerZeroIdeal.nD Cert.LayerZeroIdeal.τ).loc Cert.LayerZeroIdeal.main_arg7)) (m ((c.tc : Thread Cert.LayerZeroIdeal.nD Cert.LayerZeroIdeal.τ).loc Cert.LayerZeroIdeal.main_arg8)) (m ((c.tc : Thread Cert.LayerZeroIdeal.nD Cert.LayerZeroIdeal.τ).loc Cert.LayerZeroIdeal.main_arg9)) (m ((c.tc : Thread Cert.LayerZeroIdeal.nD Cert.LayerZeroIdeal.τ).loc Cert.LayerZeroIdeal.main_arg10)) (m ((c.tc : Thread Cert.LayerZeroIdeal.nD Cert.LayerZeroIdeal.τ).loc Cert.LayerZeroIdeal.main_arg11)) (m ((c.tc : Thread Cert.LayerZeroIdeal.nD Cert.LayerZeroIdeal.τ).loc Cert.LayerZeroIdeal.main_arg12)) (m ((c.tc : Thread Cert.LayerZeroIdeal.nD Cert.LayerZeroIdeal.τ).loc Cert.LayerZeroIdeal.main_arg13))) = (fun _ => 1#1)

def Pre_LayerZeroRefIdeal (m : (ℓ : Loc Cert.LayerZeroRefIdeal.nD Cert.LayerZeroRefIdeal.τ Cert.LayerZeroRefIdeal.sig) → Buf (Elt Ideal) ℓ) : Prop :=
  True

def Pre_LayerZeroRefIdeal_finite_in [hPre_finite_in : Cert.Pre_finite_in.Facts] (m : (ℓ : Loc Cert.LayerZeroRefIdeal.nD Cert.LayerZeroRefIdeal.τ Cert.LayerZeroRefIdeal.sig) → Buf (Elt Ideal) ℓ) : Prop :=
  ∀ c : Dev Cert.LayerZeroRefIdeal.nD,
    (Cert.Pre_finite_in.fn (F := Ideal) (m ((c.tc : Thread Cert.LayerZeroRefIdeal.nD Cert.LayerZeroRefIdeal.τ).loc Cert.LayerZeroRefIdeal.main_arg0)) (m ((c.tc : Thread Cert.LayerZeroRefIdeal.nD Cert.LayerZeroRefIdeal.τ).loc Cert.LayerZeroRefIdeal.main_arg1)) (m ((c.tc : Thread Cert.LayerZeroRefIdeal.nD Cert.LayerZeroRefIdeal.τ).loc Cert.LayerZeroRefIdeal.main_arg2)) (m ((c.tc : Thread Cert.LayerZeroRefIdeal.nD Cert.LayerZeroRefIdeal.τ).loc Cert.LayerZeroRefIdeal.main_arg3)) (m ((c.tc : Thread Cert.LayerZeroRefIdeal.nD Cert.LayerZeroRefIdeal.τ).loc Cert.LayerZeroRefIdeal.main_arg4)) (m ((c.tc : Thread Cert.LayerZeroRefIdeal.nD Cert.LayerZeroRefIdeal.τ).loc Cert.LayerZeroRefIdeal.main_arg5)) (m ((c.tc : Thread Cert.LayerZeroRefIdeal.nD Cert.LayerZeroRefIdeal.τ).loc Cert.LayerZeroRefIdeal.main_arg6)) (m ((c.tc : Thread Cert.LayerZeroRefIdeal.nD Cert.LayerZeroRefIdeal.τ).loc Cert.LayerZeroRefIdeal.main_arg7)) (m ((c.tc : Thread Cert.LayerZeroRefIdeal.nD Cert.LayerZeroRefIdeal.τ).loc Cert.LayerZeroRefIdeal.main_arg8)) (m ((c.tc : Thread Cert.LayerZeroRefIdeal.nD Cert.LayerZeroRefIdeal.τ).loc Cert.LayerZeroRefIdeal.main_arg9)) (m ((c.tc : Thread Cert.LayerZeroRefIdeal.nD Cert.LayerZeroRefIdeal.τ).loc Cert.LayerZeroRefIdeal.main_arg10)) (m ((c.tc : Thread Cert.LayerZeroRefIdeal.nD Cert.LayerZeroRefIdeal.τ).loc Cert.LayerZeroRefIdeal.main_arg11)) (m ((c.tc : Thread Cert.LayerZeroRefIdeal.nD Cert.LayerZeroRefIdeal.τ).loc Cert.LayerZeroRefIdeal.main_arg12)) (m ((c.tc : Thread Cert.LayerZeroRefIdeal.nD Cert.LayerZeroRefIdeal.τ).loc Cert.LayerZeroRefIdeal.main_arg13))) = (fun _ => 1#1)

def Pre_LayerZeroS (m : (ℓ : Loc Cert.LayerZeroS.nD Cert.LayerZeroS.τ Cert.LayerZeroS.sig) → Buf (Elt Bits) ℓ) : Prop :=
  True

def Pre_LayerZeroSIdeal (m : (ℓ : Loc Cert.LayerZeroSIdeal.nD Cert.LayerZeroSIdeal.τ Cert.LayerZeroSIdeal.sig) → Buf (Elt Ideal) ℓ) : Prop :=
  True

def Pre_LayerZeroSIdeal_finite_state [hPre_finite_state : Cert.Pre_finite_state.Facts] (m : (ℓ : Loc Cert.LayerZeroSIdeal.nD Cert.LayerZeroSIdeal.τ Cert.LayerZeroSIdeal.sig) → Buf (Elt Ideal) ℓ) : Prop :=
  ∀ c : Dev Cert.LayerZeroSIdeal.nD,
    (Cert.Pre_finite_state.fn (F := Ideal) (m ((c.tc : Thread Cert.LayerZeroSIdeal.nD Cert.LayerZeroSIdeal.τ).loc Cert.LayerZeroSIdeal.main_arg0)) (m ((c.tc : Thread Cert.LayerZeroSIdeal.nD Cert.LayerZeroSIdeal.τ).loc Cert.LayerZeroSIdeal.main_arg1)) (m ((c.tc : Thread Cert.LayerZeroSIdeal.nD Cert.LayerZeroSIdeal.τ).loc Cert.LayerZeroSIdeal.main_arg2)) (m ((c.tc : Thread Cert.LayerZeroSIdeal.nD Cert.LayerZeroSIdeal.τ).loc Cert.LayerZeroSIdeal.main_arg3)) (m ((c.tc : Thread Cert.LayerZeroSIdeal.nD Cert.LayerZeroSIdeal.τ).loc Cert.LayerZeroSIdeal.main_arg4)) (m ((c.tc : Thread Cert.LayerZeroSIdeal.nD Cert.LayerZeroSIdeal.τ).loc Cert.LayerZeroSIdeal.main_arg5)) (m ((c.tc : Thread Cert.LayerZeroSIdeal.nD Cert.LayerZeroSIdeal.τ).loc Cert.LayerZeroSIdeal.main_arg6)) (m ((c.tc : Thread Cert.LayerZeroSIdeal.nD Cert.LayerZeroSIdeal.τ).loc Cert.LayerZeroSIdeal.main_arg7)) (m ((c.tc : Thread Cert.LayerZeroSIdeal.nD Cert.LayerZeroSIdeal.τ).loc Cert.LayerZeroSIdeal.main_arg8)) (m ((c.tc : Thread Cert.LayerZeroSIdeal.nD Cert.LayerZeroSIdeal.τ).loc Cert.LayerZeroSIdeal.main_arg9)) (m ((c.tc : Thread Cert.LayerZeroSIdeal.nD Cert.LayerZeroSIdeal.τ).loc Cert.LayerZeroSIdeal.main_arg10)) (m ((c.tc : Thread Cert.LayerZeroSIdeal.nD Cert.LayerZeroSIdeal.τ).loc Cert.LayerZeroSIdeal.main_arg11)) (m ((c.tc : Thread Cert.LayerZeroSIdeal.nD Cert.LayerZeroSIdeal.τ).loc Cert.LayerZeroSIdeal.main_arg12)) (m ((c.tc : Thread Cert.LayerZeroSIdeal.nD Cert.LayerZeroSIdeal.τ).loc Cert.LayerZeroSIdeal.main_arg13)) (m ((c.tc : Thread Cert.LayerZeroSIdeal.nD Cert.LayerZeroSIdeal.τ).loc Cert.LayerZeroSIdeal.main_arg14)) (m ((c.tc : Thread Cert.LayerZeroSIdeal.nD Cert.LayerZeroSIdeal.τ).loc Cert.LayerZeroSIdeal.main_arg15))) = (fun _ => 1#1)

def Pre_LayerZeroSRefIdeal (m : (ℓ : Loc Cert.LayerZeroSRefIdeal.nD Cert.LayerZeroSRefIdeal.τ Cert.LayerZeroSRefIdeal.sig) → Buf (Elt Ideal) ℓ) : Prop :=
  True

def Pre_LayerZeroSRefIdeal_finite_state [hPre_finite_state : Cert.Pre_finite_state.Facts] (m : (ℓ : Loc Cert.LayerZeroSRefIdeal.nD Cert.LayerZeroSRefIdeal.τ Cert.LayerZeroSRefIdeal.sig) → Buf (Elt Ideal) ℓ) : Prop :=
  ∀ c : Dev Cert.LayerZeroSRefIdeal.nD,
    (Cert.Pre_finite_state.fn (F := Ideal) (m ((c.tc : Thread Cert.LayerZeroSRefIdeal.nD Cert.LayerZeroSRefIdeal.τ).loc Cert.LayerZeroSRefIdeal.main_arg0)) (m ((c.tc : Thread Cert.LayerZeroSRefIdeal.nD Cert.LayerZeroSRefIdeal.τ).loc Cert.LayerZeroSRefIdeal.main_arg1)) (m ((c.tc : Thread Cert.LayerZeroSRefIdeal.nD Cert.LayerZeroSRefIdeal.τ).loc Cert.LayerZeroSRefIdeal.main_arg2)) (m ((c.tc : Thread Cert.LayerZeroSRefIdeal.nD Cert.LayerZeroSRefIdeal.τ).loc Cert.LayerZeroSRefIdeal.main_arg3)) (m ((c.tc : Thread Cert.LayerZeroSRefIdeal.nD Cert.LayerZeroSRefIdeal.τ).loc Cert.LayerZeroSRefIdeal.main_arg4)) (m ((c.tc : Thread Cert.LayerZeroSRefIdeal.nD Cert.LayerZeroSRefIdeal.τ).loc Cert.LayerZeroSRefIdeal.main_arg5)) (m ((c.tc : Thread Cert.LayerZeroSRefIdeal.nD Cert.LayerZeroSRefIdeal.τ).loc Cert.LayerZeroSRefIdeal.main_arg6)) (m ((c.tc : Thread Cert.LayerZeroSRefIdeal.nD Cert.LayerZeroSRefIdeal.τ).loc Cert.LayerZeroSRefIdeal.main_arg7)) (m ((c.tc : Thread Cert.LayerZeroSRefIdeal.nD Cert.LayerZeroSRefIdeal.τ).loc Cert.LayerZeroSRefIdeal.main_arg8)) (m ((c.tc : Thread Cert.LayerZeroSRefIdeal.nD Cert.LayerZeroSRefIdeal.τ).loc Cert.LayerZeroSRefIdeal.main_arg9)) (m ((c.tc : Thread Cert.LayerZeroSRefIdeal.nD Cert.LayerZeroSRefIdeal.τ).loc Cert.LayerZeroSRefIdeal.main_arg10)) (m ((c.tc : Thread Cert.LayerZeroSRefIdeal.nD Cert.LayerZeroSRefIdeal.τ).loc Cert.LayerZeroSRefIdeal.main_arg11)) (m ((c.tc : Thread Cert.LayerZeroSRefIdeal.nD Cert.LayerZeroSRefIdeal.τ).loc Cert.LayerZeroSRefIdeal.main_arg12)) (m ((c.tc : Thread Cert.LayerZeroSRefIdeal.nD Cert.LayerZeroSRefIdeal.τ).loc Cert.LayerZeroSRefIdeal.main_arg13)) (m ((c.tc : Thread Cert.LayerZeroSRefIdeal.nD Cert.LayerZeroSRefIdeal.τ).loc Cert.LayerZeroSRefIdeal.main_arg14)) (m ((c.tc : Thread Cert.LayerZeroSRefIdeal.nD Cert.LayerZeroSRefIdeal.τ).loc Cert.LayerZeroSRefIdeal.main_arg15))) = (fun _ => 1#1)

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_named [hPre_experts_named : Cert.Pre_experts_named.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_named.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_ExpertsOne [hPre_experts_named : Cert.Pre_experts_named.Facts] (m : (ℓ : Loc Cert.ExpertsOne.nD Cert.ExpertsOne.τ Cert.ExpertsOne.sig) → Buf (Elt Bits) ℓ) : Prop :=
  ∀ c : Dev Cert.ExpertsOne.nD,
    (Cert.Pre_experts_named.fn (F := Bits) (m ((c.tc : Thread Cert.ExpertsOne.nD Cert.ExpertsOne.τ).loc Cert.ExpertsOne.main_arg0)) (m ((c.tc : Thread Cert.ExpertsOne.nD Cert.ExpertsOne.τ).loc Cert.ExpertsOne.main_arg1)) (m ((c.tc : Thread Cert.ExpertsOne.nD Cert.ExpertsOne.τ).loc Cert.ExpertsOne.main_arg2)) (m ((c.tc : Thread Cert.ExpertsOne.nD Cert.ExpertsOne.τ).loc Cert.ExpertsOne.main_arg3)) (m ((c.tc : Thread Cert.ExpertsOne.nD Cert.ExpertsOne.τ).loc Cert.ExpertsOne.main_arg4)) (m ((c.tc : Thread Cert.ExpertsOne.nD Cert.ExpertsOne.τ).loc Cert.ExpertsOne.main_arg5))) = (fun _ => 1#1)

def Pre_ExpertsOneIdeal [hPre_experts_named : Cert.Pre_experts_named.Facts] (m : (ℓ : Loc Cert.ExpertsOneIdeal.nD Cert.ExpertsOneIdeal.τ Cert.ExpertsOneIdeal.sig) → Buf (Elt Ideal) ℓ) : Prop :=
  ∀ c : Dev Cert.ExpertsOneIdeal.nD,
    (Cert.Pre_experts_named.fn (F := Ideal) (m ((c.tc : Thread Cert.ExpertsOneIdeal.nD Cert.ExpertsOneIdeal.τ).loc Cert.ExpertsOneIdeal.main_arg0)) (m ((c.tc : Thread Cert.ExpertsOneIdeal.nD Cert.ExpertsOneIdeal.τ).loc Cert.ExpertsOneIdeal.main_arg1)) (m ((c.tc : Thread Cert.ExpertsOneIdeal.nD Cert.ExpertsOneIdeal.τ).loc Cert.ExpertsOneIdeal.main_arg2)) (m ((c.tc : Thread Cert.ExpertsOneIdeal.nD Cert.ExpertsOneIdeal.τ).loc Cert.ExpertsOneIdeal.main_arg3)) (m ((c.tc : Thread Cert.ExpertsOneIdeal.nD Cert.ExpertsOneIdeal.τ).loc Cert.ExpertsOneIdeal.main_arg4)) (m ((c.tc : Thread Cert.ExpertsOneIdeal.nD Cert.ExpertsOneIdeal.τ).loc Cert.ExpertsOneIdeal.main_arg5))) = (fun _ => 1#1)

def Pre_ExpertsOneRefIdeal (m : (ℓ : Loc Cert.ExpertsOneRefIdeal.nD Cert.ExpertsOneRefIdeal.τ Cert.ExpertsOneRefIdeal.sig) → Buf (Elt Ideal) ℓ) : Prop :=
  True

def Pre_ExpertsOneRefIdeal_experts_named [hPre_experts_named : Cert.Pre_experts_named.Facts] (m : (ℓ : Loc Cert.ExpertsOneRefIdeal.nD Cert.ExpertsOneRefIdeal.τ Cert.ExpertsOneRefIdeal.sig) → Buf (Elt Ideal) ℓ) : Prop :=
  ∀ c : Dev Cert.ExpertsOneRefIdeal.nD,
    (Cert.Pre_experts_named.fn (F := Ideal) (m ((c.tc : Thread Cert.ExpertsOneRefIdeal.nD Cert.ExpertsOneRefIdeal.τ).loc Cert.ExpertsOneRefIdeal.main_arg0)) (m ((c.tc : Thread Cert.ExpertsOneRefIdeal.nD Cert.ExpertsOneRefIdeal.τ).loc Cert.ExpertsOneRefIdeal.main_arg1)) (m ((c.tc : Thread Cert.ExpertsOneRefIdeal.nD Cert.ExpertsOneRefIdeal.τ).loc Cert.ExpertsOneRefIdeal.main_arg2)) (m ((c.tc : Thread Cert.ExpertsOneRefIdeal.nD Cert.ExpertsOneRefIdeal.τ).loc Cert.ExpertsOneRefIdeal.main_arg3)) (m ((c.tc : Thread Cert.ExpertsOneRefIdeal.nD Cert.ExpertsOneRefIdeal.τ).loc Cert.ExpertsOneRefIdeal.main_arg4)) (m ((c.tc : Thread Cert.ExpertsOneRefIdeal.nD Cert.ExpertsOneRefIdeal.τ).loc Cert.ExpertsOneRefIdeal.main_arg5))) = (fun _ => 1#1)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_LayerOne [hLayerOne : Cert.LayerOne.Facts] : Prop :=
  ∀ (m : (ℓ : Loc Cert.LayerOne.nD Cert.LayerOne.τ Cert.LayerOne.sig) → Buf (Elt Bits) ℓ) (g : Dev Cert.LayerOne.nD → PrngReg), Pre_LayerOne m →
    θ_run (Cert.LayerOne.defs (F := Bits)) (onTc (τ := Cert.LayerOne.τ) (Cert.LayerOne.main (F := Bits))) ⟨m, fun _ => 0, g⟩ (fun r => (∀ c : Dev Cert.LayerOne.nD,
      r.2.mem ((c.tc : Thread Cert.LayerOne.nD Cert.LayerOne.τ).loc Cert.LayerOne.main_arg0) = m ((c.tc : Thread Cert.LayerOne.nD Cert.LayerOne.τ).loc Cert.LayerOne.main_arg0)
      ∧ r.2.mem ((c.tc : Thread Cert.LayerOne.nD Cert.LayerOne.τ).loc Cert.LayerOne.main_arg1) = m ((c.tc : Thread Cert.LayerOne.nD Cert.LayerOne.τ).loc Cert.LayerOne.main_arg1)
      ∧ r.2.mem ((c.tc : Thread Cert.LayerOne.nD Cert.LayerOne.τ).loc Cert.LayerOne.main_arg2) = m ((c.tc : Thread Cert.LayerOne.nD Cert.LayerOne.τ).loc Cert.LayerOne.main_arg2)
      ∧ r.2.mem ((c.tc : Thread Cert.LayerOne.nD Cert.LayerOne.τ).loc Cert.LayerOne.main_arg3) = m ((c.tc : Thread Cert.LayerOne.nD Cert.LayerOne.τ).loc Cert.LayerOne.main_arg3)
      ∧ r.2.mem ((c.tc : Thread Cert.LayerOne.nD Cert.LayerOne.τ).loc Cert.LayerOne.main_arg4) = m ((c.tc : Thread Cert.LayerOne.nD Cert.LayerOne.τ).loc Cert.LayerOne.main_arg4)
      ∧ r.2.mem ((c.tc : Thread Cert.LayerOne.nD Cert.LayerOne.τ).loc Cert.LayerOne.main_arg5) = m ((c.tc : Thread Cert.LayerOne.nD Cert.LayerOne.τ).loc Cert.LayerOne.main_arg5)
      ∧ r.2.mem ((c.tc : Thread Cert.LayerOne.nD Cert.LayerOne.τ).loc Cert.LayerOne.main_arg6) = m ((c.tc : Thread Cert.LayerOne.nD Cert.LayerOne.τ).loc Cert.LayerOne.main_arg6)
      ∧ r.2.mem ((c.tc : Thread Cert.LayerOne.nD Cert.LayerOne.τ).loc Cert.LayerOne.main_arg7) = m ((c.tc : Thread Cert.LayerOne.nD Cert.LayerOne.τ).loc Cert.LayerOne.main_arg7)
      ∧ r.2.mem ((c.tc : Thread Cert.LayerOne.nD Cert.LayerOne.τ).loc Cert.LayerOne.main_arg8) = m ((c.tc : Thread Cert.LayerOne.nD Cert.LayerOne.τ).loc Cert.LayerOne.main_arg8)
      ∧ r.2.mem ((c.tc : Thread Cert.LayerOne.nD Cert.LayerOne.τ).loc Cert.LayerOne.main_arg9) = m ((c.tc : Thread Cert.LayerOne.nD Cert.LayerOne.τ).loc Cert.LayerOne.main_arg9))
      ∧ r.2.sem = fun _ => 0)

def quiescent_LayerOneIdeal [hLayerOneIdeal : Cert.LayerOneIdeal.Facts] : Prop :=
  ∀ (m : (ℓ : Loc Cert.LayerOneIdeal.nD Cert.LayerOneIdeal.τ Cert.LayerOneIdeal.sig) → Buf (Elt Ideal) ℓ) (g : Dev Cert.LayerOneIdeal.nD → PrngReg), Pre_LayerOneIdeal m →
    θ_run (Cert.LayerOneIdeal.defs (F := Ideal)) (onTc (τ := Cert.LayerOneIdeal.τ) (Cert.LayerOneIdeal.main (F := Ideal))) ⟨m, fun _ => 0, g⟩ (fun r => (∀ c : Dev Cert.LayerOneIdeal.nD,
      r.2.mem ((c.tc : Thread Cert.LayerOneIdeal.nD Cert.LayerOneIdeal.τ).loc Cert.LayerOneIdeal.main_arg0) = m ((c.tc : Thread Cert.LayerOneIdeal.nD Cert.LayerOneIdeal.τ).loc Cert.LayerOneIdeal.main_arg0)
      ∧ r.2.mem ((c.tc : Thread Cert.LayerOneIdeal.nD Cert.LayerOneIdeal.τ).loc Cert.LayerOneIdeal.main_arg1) = m ((c.tc : Thread Cert.LayerOneIdeal.nD Cert.LayerOneIdeal.τ).loc Cert.LayerOneIdeal.main_arg1)
      ∧ r.2.mem ((c.tc : Thread Cert.LayerOneIdeal.nD Cert.LayerOneIdeal.τ).loc Cert.LayerOneIdeal.main_arg2) = m ((c.tc : Thread Cert.LayerOneIdeal.nD Cert.LayerOneIdeal.τ).loc Cert.LayerOneIdeal.main_arg2)
      ∧ r.2.mem ((c.tc : Thread Cert.LayerOneIdeal.nD Cert.LayerOneIdeal.τ).loc Cert.LayerOneIdeal.main_arg3) = m ((c.tc : Thread Cert.LayerOneIdeal.nD Cert.LayerOneIdeal.τ).loc Cert.LayerOneIdeal.main_arg3)
      ∧ r.2.mem ((c.tc : Thread Cert.LayerOneIdeal.nD Cert.LayerOneIdeal.τ).loc Cert.LayerOneIdeal.main_arg4) = m ((c.tc : Thread Cert.LayerOneIdeal.nD Cert.LayerOneIdeal.τ).loc Cert.LayerOneIdeal.main_arg4)
      ∧ r.2.mem ((c.tc : Thread Cert.LayerOneIdeal.nD Cert.LayerOneIdeal.τ).loc Cert.LayerOneIdeal.main_arg5) = m ((c.tc : Thread Cert.LayerOneIdeal.nD Cert.LayerOneIdeal.τ).loc Cert.LayerOneIdeal.main_arg5)
      ∧ r.2.mem ((c.tc : Thread Cert.LayerOneIdeal.nD Cert.LayerOneIdeal.τ).loc Cert.LayerOneIdeal.main_arg6) = m ((c.tc : Thread Cert.LayerOneIdeal.nD Cert.LayerOneIdeal.τ).loc Cert.LayerOneIdeal.main_arg6)
      ∧ r.2.mem ((c.tc : Thread Cert.LayerOneIdeal.nD Cert.LayerOneIdeal.τ).loc Cert.LayerOneIdeal.main_arg7) = m ((c.tc : Thread Cert.LayerOneIdeal.nD Cert.LayerOneIdeal.τ).loc Cert.LayerOneIdeal.main_arg7)
      ∧ r.2.mem ((c.tc : Thread Cert.LayerOneIdeal.nD Cert.LayerOneIdeal.τ).loc Cert.LayerOneIdeal.main_arg8) = m ((c.tc : Thread Cert.LayerOneIdeal.nD Cert.LayerOneIdeal.τ).loc Cert.LayerOneIdeal.main_arg8)
      ∧ r.2.mem ((c.tc : Thread Cert.LayerOneIdeal.nD Cert.LayerOneIdeal.τ).loc Cert.LayerOneIdeal.main_arg9) = m ((c.tc : Thread Cert.LayerOneIdeal.nD Cert.LayerOneIdeal.τ).loc Cert.LayerOneIdeal.main_arg9))
      ∧ r.2.sem = fun _ => 0)

def quiescent_LayerOneIdeal_pre_finite_qm [hLayerOneIdeal : Cert.LayerOneIdeal.Facts] [hPre_finite_qm : Cert.Pre_finite_qm.Facts] : Prop :=
  ∀ (m : (ℓ : Loc Cert.LayerOneIdeal.nD Cert.LayerOneIdeal.τ Cert.LayerOneIdeal.sig) → Buf (Elt Ideal) ℓ) (g : Dev Cert.LayerOneIdeal.nD → PrngReg), Pre_LayerOneIdeal_finite_qm m →
    θ_run (Cert.LayerOneIdeal.defs (F := Ideal)) (onTc (τ := Cert.LayerOneIdeal.τ) (Cert.LayerOneIdeal.main (F := Ideal))) ⟨m, fun _ => 0, g⟩ (fun r => (∀ c : Dev Cert.LayerOneIdeal.nD,
      r.2.mem ((c.tc : Thread Cert.LayerOneIdeal.nD Cert.LayerOneIdeal.τ).loc Cert.LayerOneIdeal.main_arg0) = m ((c.tc : Thread Cert.LayerOneIdeal.nD Cert.LayerOneIdeal.τ).loc Cert.LayerOneIdeal.main_arg0)
      ∧ r.2.mem ((c.tc : Thread Cert.LayerOneIdeal.nD Cert.LayerOneIdeal.τ).loc Cert.LayerOneIdeal.main_arg1) = m ((c.tc : Thread Cert.LayerOneIdeal.nD Cert.LayerOneIdeal.τ).loc Cert.LayerOneIdeal.main_arg1)
      ∧ r.2.mem ((c.tc : Thread Cert.LayerOneIdeal.nD Cert.LayerOneIdeal.τ).loc Cert.LayerOneIdeal.main_arg2) = m ((c.tc : Thread Cert.LayerOneIdeal.nD Cert.LayerOneIdeal.τ).loc Cert.LayerOneIdeal.main_arg2)
      ∧ r.2.mem ((c.tc : Thread Cert.LayerOneIdeal.nD Cert.LayerOneIdeal.τ).loc Cert.LayerOneIdeal.main_arg3) = m ((c.tc : Thread Cert.LayerOneIdeal.nD Cert.LayerOneIdeal.τ).loc Cert.LayerOneIdeal.main_arg3)
      ∧ r.2.mem ((c.tc : Thread Cert.LayerOneIdeal.nD Cert.LayerOneIdeal.τ).loc Cert.LayerOneIdeal.main_arg4) = m ((c.tc : Thread Cert.LayerOneIdeal.nD Cert.LayerOneIdeal.τ).loc Cert.LayerOneIdeal.main_arg4)
      ∧ r.2.mem ((c.tc : Thread Cert.LayerOneIdeal.nD Cert.LayerOneIdeal.τ).loc Cert.LayerOneIdeal.main_arg5) = m ((c.tc : Thread Cert.LayerOneIdeal.nD Cert.LayerOneIdeal.τ).loc Cert.LayerOneIdeal.main_arg5)
      ∧ r.2.mem ((c.tc : Thread Cert.LayerOneIdeal.nD Cert.LayerOneIdeal.τ).loc Cert.LayerOneIdeal.main_arg6) = m ((c.tc : Thread Cert.LayerOneIdeal.nD Cert.LayerOneIdeal.τ).loc Cert.LayerOneIdeal.main_arg6)
      ∧ r.2.mem ((c.tc : Thread Cert.LayerOneIdeal.nD Cert.LayerOneIdeal.τ).loc Cert.LayerOneIdeal.main_arg7) = m ((c.tc : Thread Cert.LayerOneIdeal.nD Cert.LayerOneIdeal.τ).loc Cert.LayerOneIdeal.main_arg7)
      ∧ r.2.mem ((c.tc : Thread Cert.LayerOneIdeal.nD Cert.LayerOneIdeal.τ).loc Cert.LayerOneIdeal.main_arg8) = m ((c.tc : Thread Cert.LayerOneIdeal.nD Cert.LayerOneIdeal.τ).loc Cert.LayerOneIdeal.main_arg8)
      ∧ r.2.mem ((c.tc : Thread Cert.LayerOneIdeal.nD Cert.LayerOneIdeal.τ).loc Cert.LayerOneIdeal.main_arg9) = m ((c.tc : Thread Cert.LayerOneIdeal.nD Cert.LayerOneIdeal.τ).loc Cert.LayerOneIdeal.main_arg9))
      ∧ r.2.sem = fun _ => 0)

def quiescent_LayerOneRefIdeal [hLayerOneRefIdeal : Cert.LayerOneRefIdeal.Facts] : Prop :=
  ∀ (m : (ℓ : Loc Cert.LayerOneRefIdeal.nD Cert.LayerOneRefIdeal.τ Cert.LayerOneRefIdeal.sig) → Buf (Elt Ideal) ℓ) (g : Dev Cert.LayerOneRefIdeal.nD → PrngReg), Pre_LayerOneRefIdeal m →
    θ_run (Cert.LayerOneRefIdeal.defs (F := Ideal)) (onTc (τ := Cert.LayerOneRefIdeal.τ) (Cert.LayerOneRefIdeal.main (F := Ideal))) ⟨m, fun _ => 0, g⟩ (fun r => (∀ c : Dev Cert.LayerOneRefIdeal.nD,
      r.2.mem ((c.tc : Thread Cert.LayerOneRefIdeal.nD Cert.LayerOneRefIdeal.τ).loc Cert.LayerOneRefIdeal.main_arg0) = m ((c.tc : Thread Cert.LayerOneRefIdeal.nD Cert.LayerOneRefIdeal.τ).loc Cert.LayerOneRefIdeal.main_arg0)
      ∧ r.2.mem ((c.tc : Thread Cert.LayerOneRefIdeal.nD Cert.LayerOneRefIdeal.τ).loc Cert.LayerOneRefIdeal.main_arg1) = m ((c.tc : Thread Cert.LayerOneRefIdeal.nD Cert.LayerOneRefIdeal.τ).loc Cert.LayerOneRefIdeal.main_arg1)
      ∧ r.2.mem ((c.tc : Thread Cert.LayerOneRefIdeal.nD Cert.LayerOneRefIdeal.τ).loc Cert.LayerOneRefIdeal.main_arg2) = m ((c.tc : Thread Cert.LayerOneRefIdeal.nD Cert.LayerOneRefIdeal.τ).loc Cert.LayerOneRefIdeal.main_arg2)
      ∧ r.2.mem ((c.tc : Thread Cert.LayerOneRefIdeal.nD Cert.LayerOneRefIdeal.τ).loc Cert.LayerOneRefIdeal.main_arg3) = m ((c.tc : Thread Cert.LayerOneRefIdeal.nD Cert.LayerOneRefIdeal.τ).loc Cert.LayerOneRefIdeal.main_arg3)
      ∧ r.2.mem ((c.tc : Thread Cert.LayerOneRefIdeal.nD Cert.LayerOneRefIdeal.τ).loc Cert.LayerOneRefIdeal.main_arg4) = m ((c.tc : Thread Cert.LayerOneRefIdeal.nD Cert.LayerOneRefIdeal.τ).loc Cert.LayerOneRefIdeal.main_arg4)
      ∧ r.2.mem ((c.tc : Thread Cert.LayerOneRefIdeal.nD Cert.LayerOneRefIdeal.τ).loc Cert.LayerOneRefIdeal.main_arg5) = m ((c.tc : Thread Cert.LayerOneRefIdeal.nD Cert.LayerOneRefIdeal.τ).loc Cert.LayerOneRefIdeal.main_arg5)
      ∧ r.2.mem ((c.tc : Thread Cert.LayerOneRefIdeal.nD Cert.LayerOneRefIdeal.τ).loc Cert.LayerOneRefIdeal.main_arg6) = m ((c.tc : Thread Cert.LayerOneRefIdeal.nD Cert.LayerOneRefIdeal.τ).loc Cert.LayerOneRefIdeal.main_arg6)
      ∧ r.2.mem ((c.tc : Thread Cert.LayerOneRefIdeal.nD Cert.LayerOneRefIdeal.τ).loc Cert.LayerOneRefIdeal.main_arg7) = m ((c.tc : Thread Cert.LayerOneRefIdeal.nD Cert.LayerOneRefIdeal.τ).loc Cert.LayerOneRefIdeal.main_arg7)
      ∧ r.2.mem ((c.tc : Thread Cert.LayerOneRefIdeal.nD Cert.LayerOneRefIdeal.τ).loc Cert.LayerOneRefIdeal.main_arg8) = m ((c.tc : Thread Cert.LayerOneRefIdeal.nD Cert.LayerOneRefIdeal.τ).loc Cert.LayerOneRefIdeal.main_arg8)
      ∧ r.2.mem ((c.tc : Thread Cert.LayerOneRefIdeal.nD Cert.LayerOneRefIdeal.τ).loc Cert.LayerOneRefIdeal.main_arg9) = m ((c.tc : Thread Cert.LayerOneRefIdeal.nD Cert.LayerOneRefIdeal.τ).loc Cert.LayerOneRefIdeal.main_arg9))
      ∧ r.2.sem = fun _ => 0)

def quiescent_LayerOneRefIdeal_pre_finite_qm [hLayerOneRefIdeal : Cert.LayerOneRefIdeal.Facts] [hPre_finite_qm : Cert.Pre_finite_qm.Facts] : Prop :=
  ∀ (m : (ℓ : Loc Cert.LayerOneRefIdeal.nD Cert.LayerOneRefIdeal.τ Cert.LayerOneRefIdeal.sig) → Buf (Elt Ideal) ℓ) (g : Dev Cert.LayerOneRefIdeal.nD → PrngReg), Pre_LayerOneRefIdeal_finite_qm m →
    θ_run (Cert.LayerOneRefIdeal.defs (F := Ideal)) (onTc (τ := Cert.LayerOneRefIdeal.τ) (Cert.LayerOneRefIdeal.main (F := Ideal))) ⟨m, fun _ => 0, g⟩ (fun r => (∀ c : Dev Cert.LayerOneRefIdeal.nD,
      r.2.mem ((c.tc : Thread Cert.LayerOneRefIdeal.nD Cert.LayerOneRefIdeal.τ).loc Cert.LayerOneRefIdeal.main_arg0) = m ((c.tc : Thread Cert.LayerOneRefIdeal.nD Cert.LayerOneRefIdeal.τ).loc Cert.LayerOneRefIdeal.main_arg0)
      ∧ r.2.mem ((c.tc : Thread Cert.LayerOneRefIdeal.nD Cert.LayerOneRefIdeal.τ).loc Cert.LayerOneRefIdeal.main_arg1) = m ((c.tc : Thread Cert.LayerOneRefIdeal.nD Cert.LayerOneRefIdeal.τ).loc Cert.LayerOneRefIdeal.main_arg1)
      ∧ r.2.mem ((c.tc : Thread Cert.LayerOneRefIdeal.nD Cert.LayerOneRefIdeal.τ).loc Cert.LayerOneRefIdeal.main_arg2) = m ((c.tc : Thread Cert.LayerOneRefIdeal.nD Cert.LayerOneRefIdeal.τ).loc Cert.LayerOneRefIdeal.main_arg2)
      ∧ r.2.mem ((c.tc : Thread Cert.LayerOneRefIdeal.nD Cert.LayerOneRefIdeal.τ).loc Cert.LayerOneRefIdeal.main_arg3) = m ((c.tc : Thread Cert.LayerOneRefIdeal.nD Cert.LayerOneRefIdeal.τ).loc Cert.LayerOneRefIdeal.main_arg3)
      ∧ r.2.mem ((c.tc : Thread Cert.LayerOneRefIdeal.nD Cert.LayerOneRefIdeal.τ).loc Cert.LayerOneRefIdeal.main_arg4) = m ((c.tc : Thread Cert.LayerOneRefIdeal.nD Cert.LayerOneRefIdeal.τ).loc Cert.LayerOneRefIdeal.main_arg4)
      ∧ r.2.mem ((c.tc : Thread Cert.LayerOneRefIdeal.nD Cert.LayerOneRefIdeal.τ).loc Cert.LayerOneRefIdeal.main_arg5) = m ((c.tc : Thread Cert.LayerOneRefIdeal.nD Cert.LayerOneRefIdeal.τ).loc Cert.LayerOneRefIdeal.main_arg5)
      ∧ r.2.mem ((c.tc : Thread Cert.LayerOneRefIdeal.nD Cert.LayerOneRefIdeal.τ).loc Cert.LayerOneRefIdeal.main_arg6) = m ((c.tc : Thread Cert.LayerOneRefIdeal.nD Cert.LayerOneRefIdeal.τ).loc Cert.LayerOneRefIdeal.main_arg6)
      ∧ r.2.mem ((c.tc : Thread Cert.LayerOneRefIdeal.nD Cert.LayerOneRefIdeal.τ).loc Cert.LayerOneRefIdeal.main_arg7) = m ((c.tc : Thread Cert.LayerOneRefIdeal.nD Cert.LayerOneRefIdeal.τ).loc Cert.LayerOneRefIdeal.main_arg7)
      ∧ r.2.mem ((c.tc : Thread Cert.LayerOneRefIdeal.nD Cert.LayerOneRefIdeal.τ).loc Cert.LayerOneRefIdeal.main_arg8) = m ((c.tc : Thread Cert.LayerOneRefIdeal.nD Cert.LayerOneRefIdeal.τ).loc Cert.LayerOneRefIdeal.main_arg8)
      ∧ r.2.mem ((c.tc : Thread Cert.LayerOneRefIdeal.nD Cert.LayerOneRefIdeal.τ).loc Cert.LayerOneRefIdeal.main_arg9) = m ((c.tc : Thread Cert.LayerOneRefIdeal.nD Cert.LayerOneRefIdeal.τ).loc Cert.LayerOneRefIdeal.main_arg9))
      ∧ r.2.sem = fun _ => 0)

def quiescent_LayerZero [hLayerZero : Cert.LayerZero.Facts] : Prop :=
  ∀ (m : (ℓ : Loc Cert.LayerZero.nD Cert.LayerZero.τ Cert.LayerZero.sig) → Buf (Elt Bits) ℓ) (g : Dev Cert.LayerZero.nD → PrngReg), Pre_LayerZero m →
    θ_run (Cert.LayerZero.defs (F := Bits)) (onTc (τ := Cert.LayerZero.τ) (Cert.LayerZero.main (F := Bits))) ⟨m, fun _ => 0, g⟩ (fun r => (∀ c : Dev Cert.LayerZero.nD,
      r.2.mem ((c.tc : Thread Cert.LayerZero.nD Cert.LayerZero.τ).loc Cert.LayerZero.main_arg0) = m ((c.tc : Thread Cert.LayerZero.nD Cert.LayerZero.τ).loc Cert.LayerZero.main_arg0)
      ∧ r.2.mem ((c.tc : Thread Cert.LayerZero.nD Cert.LayerZero.τ).loc Cert.LayerZero.main_arg1) = m ((c.tc : Thread Cert.LayerZero.nD Cert.LayerZero.τ).loc Cert.LayerZero.main_arg1)
      ∧ r.2.mem ((c.tc : Thread Cert.LayerZero.nD Cert.LayerZero.τ).loc Cert.LayerZero.main_arg2) = m ((c.tc : Thread Cert.LayerZero.nD Cert.LayerZero.τ).loc Cert.LayerZero.main_arg2)
      ∧ r.2.mem ((c.tc : Thread Cert.LayerZero.nD Cert.LayerZero.τ).loc Cert.LayerZero.main_arg3) = m ((c.tc : Thread Cert.LayerZero.nD Cert.LayerZero.τ).loc Cert.LayerZero.main_arg3)
      ∧ r.2.mem ((c.tc : Thread Cert.LayerZero.nD Cert.LayerZero.τ).loc Cert.LayerZero.main_arg4) = m ((c.tc : Thread Cert.LayerZero.nD Cert.LayerZero.τ).loc Cert.LayerZero.main_arg4)
      ∧ r.2.mem ((c.tc : Thread Cert.LayerZero.nD Cert.LayerZero.τ).loc Cert.LayerZero.main_arg5) = m ((c.tc : Thread Cert.LayerZero.nD Cert.LayerZero.τ).loc Cert.LayerZero.main_arg5)
      ∧ r.2.mem ((c.tc : Thread Cert.LayerZero.nD Cert.LayerZero.τ).loc Cert.LayerZero.main_arg6) = m ((c.tc : Thread Cert.LayerZero.nD Cert.LayerZero.τ).loc Cert.LayerZero.main_arg6)
      ∧ r.2.mem ((c.tc : Thread Cert.LayerZero.nD Cert.LayerZero.τ).loc Cert.LayerZero.main_arg7) = m ((c.tc : Thread Cert.LayerZero.nD Cert.LayerZero.τ).loc Cert.LayerZero.main_arg7)
      ∧ r.2.mem ((c.tc : Thread Cert.LayerZero.nD Cert.LayerZero.τ).loc Cert.LayerZero.main_arg8) = m ((c.tc : Thread Cert.LayerZero.nD Cert.LayerZero.τ).loc Cert.LayerZero.main_arg8)
      ∧ r.2.mem ((c.tc : Thread Cert.LayerZero.nD Cert.LayerZero.τ).loc Cert.LayerZero.main_arg9) = m ((c.tc : Thread Cert.LayerZero.nD Cert.LayerZero.τ).loc Cert.LayerZero.main_arg9)
      ∧ r.2.mem ((c.tc : Thread Cert.LayerZero.nD Cert.LayerZero.τ).loc Cert.LayerZero.main_arg10) = m ((c.tc : Thread Cert.LayerZero.nD Cert.LayerZero.τ).loc Cert.LayerZero.main_arg10)
      ∧ r.2.mem ((c.tc : Thread Cert.LayerZero.nD Cert.LayerZero.τ).loc Cert.LayerZero.main_arg11) = m ((c.tc : Thread Cert.LayerZero.nD Cert.LayerZero.τ).loc Cert.LayerZero.main_arg11)
      ∧ r.2.mem ((c.tc : Thread Cert.LayerZero.nD Cert.LayerZero.τ).loc Cert.LayerZero.main_arg12) = m ((c.tc : Thread Cert.LayerZero.nD Cert.LayerZero.τ).loc Cert.LayerZero.main_arg12)
      ∧ r.2.mem ((c.tc : Thread Cert.LayerZero.nD Cert.LayerZero.τ).loc Cert.LayerZero.main_arg13) = m ((c.tc : Thread Cert.LayerZero.nD Cert.LayerZero.τ).loc Cert.LayerZero.main_arg13))
      ∧ r.2.sem = fun _ => 0)

def quiescent_LayerZeroIdeal [hLayerZeroIdeal : Cert.LayerZeroIdeal.Facts] : Prop :=
  ∀ (m : (ℓ : Loc Cert.LayerZeroIdeal.nD Cert.LayerZeroIdeal.τ Cert.LayerZeroIdeal.sig) → Buf (Elt Ideal) ℓ) (g : Dev Cert.LayerZeroIdeal.nD → PrngReg), Pre_LayerZeroIdeal m →
    θ_run (Cert.LayerZeroIdeal.defs (F := Ideal)) (onTc (τ := Cert.LayerZeroIdeal.τ) (Cert.LayerZeroIdeal.main (F := Ideal))) ⟨m, fun _ => 0, g⟩ (fun r => (∀ c : Dev Cert.LayerZeroIdeal.nD,
      r.2.mem ((c.tc : Thread Cert.LayerZeroIdeal.nD Cert.LayerZeroIdeal.τ).loc Cert.LayerZeroIdeal.main_arg0) = m ((c.tc : Thread Cert.LayerZeroIdeal.nD Cert.LayerZeroIdeal.τ).loc Cert.LayerZeroIdeal.main_arg0)
      ∧ r.2.mem ((c.tc : Thread Cert.LayerZeroIdeal.nD Cert.LayerZeroIdeal.τ).loc Cert.LayerZeroIdeal.main_arg1) = m ((c.tc : Thread Cert.LayerZeroIdeal.nD Cert.LayerZeroIdeal.τ).loc Cert.LayerZeroIdeal.main_arg1)
      ∧ r.2.mem ((c.tc : Thread Cert.LayerZeroIdeal.nD Cert.LayerZeroIdeal.τ).loc Cert.LayerZeroIdeal.main_arg2) = m ((c.tc : Thread Cert.LayerZeroIdeal.nD Cert.LayerZeroIdeal.τ).loc Cert.LayerZeroIdeal.main_arg2)
      ∧ r.2.mem ((c.tc : Thread Cert.LayerZeroIdeal.nD Cert.LayerZeroIdeal.τ).loc Cert.LayerZeroIdeal.main_arg3) = m ((c.tc : Thread Cert.LayerZeroIdeal.nD Cert.LayerZeroIdeal.τ).loc Cert.LayerZeroIdeal.main_arg3)
      ∧ r.2.mem ((c.tc : Thread Cert.LayerZeroIdeal.nD Cert.LayerZeroIdeal.τ).loc Cert.LayerZeroIdeal.main_arg4) = m ((c.tc : Thread Cert.LayerZeroIdeal.nD Cert.LayerZeroIdeal.τ).loc Cert.LayerZeroIdeal.main_arg4)
      ∧ r.2.mem ((c.tc : Thread Cert.LayerZeroIdeal.nD Cert.LayerZeroIdeal.τ).loc Cert.LayerZeroIdeal.main_arg5) = m ((c.tc : Thread Cert.LayerZeroIdeal.nD Cert.LayerZeroIdeal.τ).loc Cert.LayerZeroIdeal.main_arg5)
      ∧ r.2.mem ((c.tc : Thread Cert.LayerZeroIdeal.nD Cert.LayerZeroIdeal.τ).loc Cert.LayerZeroIdeal.main_arg6) = m ((c.tc : Thread Cert.LayerZeroIdeal.nD Cert.LayerZeroIdeal.τ).loc Cert.LayerZeroIdeal.main_arg6)
      ∧ r.2.mem ((c.tc : Thread Cert.LayerZeroIdeal.nD Cert.LayerZeroIdeal.τ).loc Cert.LayerZeroIdeal.main_arg7) = m ((c.tc : Thread Cert.LayerZeroIdeal.nD Cert.LayerZeroIdeal.τ).loc Cert.LayerZeroIdeal.main_arg7)
      ∧ r.2.mem ((c.tc : Thread Cert.LayerZeroIdeal.nD Cert.LayerZeroIdeal.τ).loc Cert.LayerZeroIdeal.main_arg8) = m ((c.tc : Thread Cert.LayerZeroIdeal.nD Cert.LayerZeroIdeal.τ).loc Cert.LayerZeroIdeal.main_arg8)
      ∧ r.2.mem ((c.tc : Thread Cert.LayerZeroIdeal.nD Cert.LayerZeroIdeal.τ).loc Cert.LayerZeroIdeal.main_arg9) = m ((c.tc : Thread Cert.LayerZeroIdeal.nD Cert.LayerZeroIdeal.τ).loc Cert.LayerZeroIdeal.main_arg9)
      ∧ r.2.mem ((c.tc : Thread Cert.LayerZeroIdeal.nD Cert.LayerZeroIdeal.τ).loc Cert.LayerZeroIdeal.main_arg10) = m ((c.tc : Thread Cert.LayerZeroIdeal.nD Cert.LayerZeroIdeal.τ).loc Cert.LayerZeroIdeal.main_arg10)
      ∧ r.2.mem ((c.tc : Thread Cert.LayerZeroIdeal.nD Cert.LayerZeroIdeal.τ).loc Cert.LayerZeroIdeal.main_arg11) = m ((c.tc : Thread Cert.LayerZeroIdeal.nD Cert.LayerZeroIdeal.τ).loc Cert.LayerZeroIdeal.main_arg11)
      ∧ r.2.mem ((c.tc : Thread Cert.LayerZeroIdeal.nD Cert.LayerZeroIdeal.τ).loc Cert.LayerZeroIdeal.main_arg12) = m ((c.tc : Thread Cert.LayerZeroIdeal.nD Cert.LayerZeroIdeal.τ).loc Cert.LayerZeroIdeal.main_arg12)
      ∧ r.2.mem ((c.tc : Thread Cert.LayerZeroIdeal.nD Cert.LayerZeroIdeal.τ).loc Cert.LayerZeroIdeal.main_arg13) = m ((c.tc : Thread Cert.LayerZeroIdeal.nD Cert.LayerZeroIdeal.τ).loc Cert.LayerZeroIdeal.main_arg13))
      ∧ r.2.sem = fun _ => 0)

def quiescent_LayerZeroIdeal_pre_finite_in [hLayerZeroIdeal : Cert.LayerZeroIdeal.Facts] [hPre_finite_in : Cert.Pre_finite_in.Facts] : Prop :=
  ∀ (m : (ℓ : Loc Cert.LayerZeroIdeal.nD Cert.LayerZeroIdeal.τ Cert.LayerZeroIdeal.sig) → Buf (Elt Ideal) ℓ) (g : Dev Cert.LayerZeroIdeal.nD → PrngReg), Pre_LayerZeroIdeal_finite_in m →
    θ_run (Cert.LayerZeroIdeal.defs (F := Ideal)) (onTc (τ := Cert.LayerZeroIdeal.τ) (Cert.LayerZeroIdeal.main (F := Ideal))) ⟨m, fun _ => 0, g⟩ (fun r => (∀ c : Dev Cert.LayerZeroIdeal.nD,
      r.2.mem ((c.tc : Thread Cert.LayerZeroIdeal.nD Cert.LayerZeroIdeal.τ).loc Cert.LayerZeroIdeal.main_arg0) = m ((c.tc : Thread Cert.LayerZeroIdeal.nD Cert.LayerZeroIdeal.τ).loc Cert.LayerZeroIdeal.main_arg0)
      ∧ r.2.mem ((c.tc : Thread Cert.LayerZeroIdeal.nD Cert.LayerZeroIdeal.τ).loc Cert.LayerZeroIdeal.main_arg1) = m ((c.tc : Thread Cert.LayerZeroIdeal.nD Cert.LayerZeroIdeal.τ).loc Cert.LayerZeroIdeal.main_arg1)
      ∧ r.2.mem ((c.tc : Thread Cert.LayerZeroIdeal.nD Cert.LayerZeroIdeal.τ).loc Cert.LayerZeroIdeal.main_arg2) = m ((c.tc : Thread Cert.LayerZeroIdeal.nD Cert.LayerZeroIdeal.τ).loc Cert.LayerZeroIdeal.main_arg2)
      ∧ r.2.mem ((c.tc : Thread Cert.LayerZeroIdeal.nD Cert.LayerZeroIdeal.τ).loc Cert.LayerZeroIdeal.main_arg3) = m ((c.tc : Thread Cert.LayerZeroIdeal.nD Cert.LayerZeroIdeal.τ).loc Cert.LayerZeroIdeal.main_arg3)
      ∧ r.2.mem ((c.tc : Thread Cert.LayerZeroIdeal.nD Cert.LayerZeroIdeal.τ).loc Cert.LayerZeroIdeal.main_arg4) = m ((c.tc : Thread Cert.LayerZeroIdeal.nD Cert.LayerZeroIdeal.τ).loc Cert.LayerZeroIdeal.main_arg4)
      ∧ r.2.mem ((c.tc : Thread Cert.LayerZeroIdeal.nD Cert.LayerZeroIdeal.τ).loc Cert.LayerZeroIdeal.main_arg5) = m ((c.tc : Thread Cert.LayerZeroIdeal.nD Cert.LayerZeroIdeal.τ).loc Cert.LayerZeroIdeal.main_arg5)
      ∧ r.2.mem ((c.tc : Thread Cert.LayerZeroIdeal.nD Cert.LayerZeroIdeal.τ).loc Cert.LayerZeroIdeal.main_arg6) = m ((c.tc : Thread Cert.LayerZeroIdeal.nD Cert.LayerZeroIdeal.τ).loc Cert.LayerZeroIdeal.main_arg6)
      ∧ r.2.mem ((c.tc : Thread Cert.LayerZeroIdeal.nD Cert.LayerZeroIdeal.τ).loc Cert.LayerZeroIdeal.main_arg7) = m ((c.tc : Thread Cert.LayerZeroIdeal.nD Cert.LayerZeroIdeal.τ).loc Cert.LayerZeroIdeal.main_arg7)
      ∧ r.2.mem ((c.tc : Thread Cert.LayerZeroIdeal.nD Cert.LayerZeroIdeal.τ).loc Cert.LayerZeroIdeal.main_arg8) = m ((c.tc : Thread Cert.LayerZeroIdeal.nD Cert.LayerZeroIdeal.τ).loc Cert.LayerZeroIdeal.main_arg8)
      ∧ r.2.mem ((c.tc : Thread Cert.LayerZeroIdeal.nD Cert.LayerZeroIdeal.τ).loc Cert.LayerZeroIdeal.main_arg9) = m ((c.tc : Thread Cert.LayerZeroIdeal.nD Cert.LayerZeroIdeal.τ).loc Cert.LayerZeroIdeal.main_arg9)
      ∧ r.2.mem ((c.tc : Thread Cert.LayerZeroIdeal.nD Cert.LayerZeroIdeal.τ).loc Cert.LayerZeroIdeal.main_arg10) = m ((c.tc : Thread Cert.LayerZeroIdeal.nD Cert.LayerZeroIdeal.τ).loc Cert.LayerZeroIdeal.main_arg10)
      ∧ r.2.mem ((c.tc : Thread Cert.LayerZeroIdeal.nD Cert.LayerZeroIdeal.τ).loc Cert.LayerZeroIdeal.main_arg11) = m ((c.tc : Thread Cert.LayerZeroIdeal.nD Cert.LayerZeroIdeal.τ).loc Cert.LayerZeroIdeal.main_arg11)
      ∧ r.2.mem ((c.tc : Thread Cert.LayerZeroIdeal.nD Cert.LayerZeroIdeal.τ).loc Cert.LayerZeroIdeal.main_arg12) = m ((c.tc : Thread Cert.LayerZeroIdeal.nD Cert.LayerZeroIdeal.τ).loc Cert.LayerZeroIdeal.main_arg12)
      ∧ r.2.mem ((c.tc : Thread Cert.LayerZeroIdeal.nD Cert.LayerZeroIdeal.τ).loc Cert.LayerZeroIdeal.main_arg13) = m ((c.tc : Thread Cert.LayerZeroIdeal.nD Cert.LayerZeroIdeal.τ).loc Cert.LayerZeroIdeal.main_arg13))
      ∧ r.2.sem = fun _ => 0)

def quiescent_LayerZeroRefIdeal [hLayerZeroRefIdeal : Cert.LayerZeroRefIdeal.Facts] : Prop :=
  ∀ (m : (ℓ : Loc Cert.LayerZeroRefIdeal.nD Cert.LayerZeroRefIdeal.τ Cert.LayerZeroRefIdeal.sig) → Buf (Elt Ideal) ℓ) (g : Dev Cert.LayerZeroRefIdeal.nD → PrngReg), Pre_LayerZeroRefIdeal m →
    θ_run (Cert.LayerZeroRefIdeal.defs (F := Ideal)) (onTc (τ := Cert.LayerZeroRefIdeal.τ) (Cert.LayerZeroRefIdeal.main (F := Ideal))) ⟨m, fun _ => 0, g⟩ (fun r => (∀ c : Dev Cert.LayerZeroRefIdeal.nD,
      r.2.mem ((c.tc : Thread Cert.LayerZeroRefIdeal.nD Cert.LayerZeroRefIdeal.τ).loc Cert.LayerZeroRefIdeal.main_arg0) = m ((c.tc : Thread Cert.LayerZeroRefIdeal.nD Cert.LayerZeroRefIdeal.τ).loc Cert.LayerZeroRefIdeal.main_arg0)
      ∧ r.2.mem ((c.tc : Thread Cert.LayerZeroRefIdeal.nD Cert.LayerZeroRefIdeal.τ).loc Cert.LayerZeroRefIdeal.main_arg1) = m ((c.tc : Thread Cert.LayerZeroRefIdeal.nD Cert.LayerZeroRefIdeal.τ).loc Cert.LayerZeroRefIdeal.main_arg1)
      ∧ r.2.mem ((c.tc : Thread Cert.LayerZeroRefIdeal.nD Cert.LayerZeroRefIdeal.τ).loc Cert.LayerZeroRefIdeal.main_arg2) = m ((c.tc : Thread Cert.LayerZeroRefIdeal.nD Cert.LayerZeroRefIdeal.τ).loc Cert.LayerZeroRefIdeal.main_arg2)
      ∧ r.2.mem ((c.tc : Thread Cert.LayerZeroRefIdeal.nD Cert.LayerZeroRefIdeal.τ).loc Cert.LayerZeroRefIdeal.main_arg3) = m ((c.tc : Thread Cert.LayerZeroRefIdeal.nD Cert.LayerZeroRefIdeal.τ).loc Cert.LayerZeroRefIdeal.main_arg3)
      ∧ r.2.mem ((c.tc : Thread Cert.LayerZeroRefIdeal.nD Cert.LayerZeroRefIdeal.τ).loc Cert.LayerZeroRefIdeal.main_arg4) = m ((c.tc : Thread Cert.LayerZeroRefIdeal.nD Cert.LayerZeroRefIdeal.τ).loc Cert.LayerZeroRefIdeal.main_arg4)
      ∧ r.2.mem ((c.tc : Thread Cert.LayerZeroRefIdeal.nD Cert.LayerZeroRefIdeal.τ).loc Cert.LayerZeroRefIdeal.main_arg5) = m ((c.tc : Thread Cert.LayerZeroRefIdeal.nD Cert.LayerZeroRefIdeal.τ).loc Cert.LayerZeroRefIdeal.main_arg5)
      ∧ r.2.mem ((c.tc : Thread Cert.LayerZeroRefIdeal.nD Cert.LayerZeroRefIdeal.τ).loc Cert.LayerZeroRefIdeal.main_arg6) = m ((c.tc : Thread Cert.LayerZeroRefIdeal.nD Cert.LayerZeroRefIdeal.τ).loc Cert.LayerZeroRefIdeal.main_arg6)
      ∧ r.2.mem ((c.tc : Thread Cert.LayerZeroRefIdeal.nD Cert.LayerZeroRefIdeal.τ).loc Cert.LayerZeroRefIdeal.main_arg7) = m ((c.tc : Thread Cert.LayerZeroRefIdeal.nD Cert.LayerZeroRefIdeal.τ).loc Cert.LayerZeroRefIdeal.main_arg7)
      ∧ r.2.mem ((c.tc : Thread Cert.LayerZeroRefIdeal.nD Cert.LayerZeroRefIdeal.τ).loc Cert.LayerZeroRefIdeal.main_arg8) = m ((c.tc : Thread Cert.LayerZeroRefIdeal.nD Cert.LayerZeroRefIdeal.τ).loc Cert.LayerZeroRefIdeal.main_arg8)
      ∧ r.2.mem ((c.tc : Thread Cert.LayerZeroRefIdeal.nD Cert.LayerZeroRefIdeal.τ).loc Cert.LayerZeroRefIdeal.main_arg9) = m ((c.tc : Thread Cert.LayerZeroRefIdeal.nD Cert.LayerZeroRefIdeal.τ).loc Cert.LayerZeroRefIdeal.main_arg9)
      ∧ r.2.mem ((c.tc : Thread Cert.LayerZeroRefIdeal.nD Cert.LayerZeroRefIdeal.τ).loc Cert.LayerZeroRefIdeal.main_arg10) = m ((c.tc : Thread Cert.LayerZeroRefIdeal.nD Cert.LayerZeroRefIdeal.τ).loc Cert.LayerZeroRefIdeal.main_arg10)
      ∧ r.2.mem ((c.tc : Thread Cert.LayerZeroRefIdeal.nD Cert.LayerZeroRefIdeal.τ).loc Cert.LayerZeroRefIdeal.main_arg11) = m ((c.tc : Thread Cert.LayerZeroRefIdeal.nD Cert.LayerZeroRefIdeal.τ).loc Cert.LayerZeroRefIdeal.main_arg11)
      ∧ r.2.mem ((c.tc : Thread Cert.LayerZeroRefIdeal.nD Cert.LayerZeroRefIdeal.τ).loc Cert.LayerZeroRefIdeal.main_arg12) = m ((c.tc : Thread Cert.LayerZeroRefIdeal.nD Cert.LayerZeroRefIdeal.τ).loc Cert.LayerZeroRefIdeal.main_arg12)
      ∧ r.2.mem ((c.tc : Thread Cert.LayerZeroRefIdeal.nD Cert.LayerZeroRefIdeal.τ).loc Cert.LayerZeroRefIdeal.main_arg13) = m ((c.tc : Thread Cert.LayerZeroRefIdeal.nD Cert.LayerZeroRefIdeal.τ).loc Cert.LayerZeroRefIdeal.main_arg13))
      ∧ r.2.sem = fun _ => 0)

def quiescent_LayerZeroRefIdeal_pre_finite_in [hLayerZeroRefIdeal : Cert.LayerZeroRefIdeal.Facts] [hPre_finite_in : Cert.Pre_finite_in.Facts] : Prop :=
  ∀ (m : (ℓ : Loc Cert.LayerZeroRefIdeal.nD Cert.LayerZeroRefIdeal.τ Cert.LayerZeroRefIdeal.sig) → Buf (Elt Ideal) ℓ) (g : Dev Cert.LayerZeroRefIdeal.nD → PrngReg), Pre_LayerZeroRefIdeal_finite_in m →
    θ_run (Cert.LayerZeroRefIdeal.defs (F := Ideal)) (onTc (τ := Cert.LayerZeroRefIdeal.τ) (Cert.LayerZeroRefIdeal.main (F := Ideal))) ⟨m, fun _ => 0, g⟩ (fun r => (∀ c : Dev Cert.LayerZeroRefIdeal.nD,
      r.2.mem ((c.tc : Thread Cert.LayerZeroRefIdeal.nD Cert.LayerZeroRefIdeal.τ).loc Cert.LayerZeroRefIdeal.main_arg0) = m ((c.tc : Thread Cert.LayerZeroRefIdeal.nD Cert.LayerZeroRefIdeal.τ).loc Cert.LayerZeroRefIdeal.main_arg0)
      ∧ r.2.mem ((c.tc : Thread Cert.LayerZeroRefIdeal.nD Cert.LayerZeroRefIdeal.τ).loc Cert.LayerZeroRefIdeal.main_arg1) = m ((c.tc : Thread Cert.LayerZeroRefIdeal.nD Cert.LayerZeroRefIdeal.τ).loc Cert.LayerZeroRefIdeal.main_arg1)
      ∧ r.2.mem ((c.tc : Thread Cert.LayerZeroRefIdeal.nD Cert.LayerZeroRefIdeal.τ).loc Cert.LayerZeroRefIdeal.main_arg2) = m ((c.tc : Thread Cert.LayerZeroRefIdeal.nD Cert.LayerZeroRefIdeal.τ).loc Cert.LayerZeroRefIdeal.main_arg2)
      ∧ r.2.mem ((c.tc : Thread Cert.LayerZeroRefIdeal.nD Cert.LayerZeroRefIdeal.τ).loc Cert.LayerZeroRefIdeal.main_arg3) = m ((c.tc : Thread Cert.LayerZeroRefIdeal.nD Cert.LayerZeroRefIdeal.τ).loc Cert.LayerZeroRefIdeal.main_arg3)
      ∧ r.2.mem ((c.tc : Thread Cert.LayerZeroRefIdeal.nD Cert.LayerZeroRefIdeal.τ).loc Cert.LayerZeroRefIdeal.main_arg4) = m ((c.tc : Thread Cert.LayerZeroRefIdeal.nD Cert.LayerZeroRefIdeal.τ).loc Cert.LayerZeroRefIdeal.main_arg4)
      ∧ r.2.mem ((c.tc : Thread Cert.LayerZeroRefIdeal.nD Cert.LayerZeroRefIdeal.τ).loc Cert.LayerZeroRefIdeal.main_arg5) = m ((c.tc : Thread Cert.LayerZeroRefIdeal.nD Cert.LayerZeroRefIdeal.τ).loc Cert.LayerZeroRefIdeal.main_arg5)
      ∧ r.2.mem ((c.tc : Thread Cert.LayerZeroRefIdeal.nD Cert.LayerZeroRefIdeal.τ).loc Cert.LayerZeroRefIdeal.main_arg6) = m ((c.tc : Thread Cert.LayerZeroRefIdeal.nD Cert.LayerZeroRefIdeal.τ).loc Cert.LayerZeroRefIdeal.main_arg6)
      ∧ r.2.mem ((c.tc : Thread Cert.LayerZeroRefIdeal.nD Cert.LayerZeroRefIdeal.τ).loc Cert.LayerZeroRefIdeal.main_arg7) = m ((c.tc : Thread Cert.LayerZeroRefIdeal.nD Cert.LayerZeroRefIdeal.τ).loc Cert.LayerZeroRefIdeal.main_arg7)
      ∧ r.2.mem ((c.tc : Thread Cert.LayerZeroRefIdeal.nD Cert.LayerZeroRefIdeal.τ).loc Cert.LayerZeroRefIdeal.main_arg8) = m ((c.tc : Thread Cert.LayerZeroRefIdeal.nD Cert.LayerZeroRefIdeal.τ).loc Cert.LayerZeroRefIdeal.main_arg8)
      ∧ r.2.mem ((c.tc : Thread Cert.LayerZeroRefIdeal.nD Cert.LayerZeroRefIdeal.τ).loc Cert.LayerZeroRefIdeal.main_arg9) = m ((c.tc : Thread Cert.LayerZeroRefIdeal.nD Cert.LayerZeroRefIdeal.τ).loc Cert.LayerZeroRefIdeal.main_arg9)
      ∧ r.2.mem ((c.tc : Thread Cert.LayerZeroRefIdeal.nD Cert.LayerZeroRefIdeal.τ).loc Cert.LayerZeroRefIdeal.main_arg10) = m ((c.tc : Thread Cert.LayerZeroRefIdeal.nD Cert.LayerZeroRefIdeal.τ).loc Cert.LayerZeroRefIdeal.main_arg10)
      ∧ r.2.mem ((c.tc : Thread Cert.LayerZeroRefIdeal.nD Cert.LayerZeroRefIdeal.τ).loc Cert.LayerZeroRefIdeal.main_arg11) = m ((c.tc : Thread Cert.LayerZeroRefIdeal.nD Cert.LayerZeroRefIdeal.τ).loc Cert.LayerZeroRefIdeal.main_arg11)
      ∧ r.2.mem ((c.tc : Thread Cert.LayerZeroRefIdeal.nD Cert.LayerZeroRefIdeal.τ).loc Cert.LayerZeroRefIdeal.main_arg12) = m ((c.tc : Thread Cert.LayerZeroRefIdeal.nD Cert.LayerZeroRefIdeal.τ).loc Cert.LayerZeroRefIdeal.main_arg12)
      ∧ r.2.mem ((c.tc : Thread Cert.LayerZeroRefIdeal.nD Cert.LayerZeroRefIdeal.τ).loc Cert.LayerZeroRefIdeal.main_arg13) = m ((c.tc : Thread Cert.LayerZeroRefIdeal.nD Cert.LayerZeroRefIdeal.τ).loc Cert.LayerZeroRefIdeal.main_arg13))
      ∧ r.2.sem = fun _ => 0)

def quiescent_LayerZeroS [hLayerZeroS : Cert.LayerZeroS.Facts] : Prop :=
  ∀ (m : (ℓ : Loc Cert.LayerZeroS.nD Cert.LayerZeroS.τ Cert.LayerZeroS.sig) → Buf (Elt Bits) ℓ) (g : Dev Cert.LayerZeroS.nD → PrngReg), Pre_LayerZeroS m →
    θ_run (Cert.LayerZeroS.defs (F := Bits)) (onTc (τ := Cert.LayerZeroS.τ) (Cert.LayerZeroS.main (F := Bits))) ⟨m, fun _ => 0, g⟩ (fun r => (∀ c : Dev Cert.LayerZeroS.nD,
      r.2.mem ((c.tc : Thread Cert.LayerZeroS.nD Cert.LayerZeroS.τ).loc Cert.LayerZeroS.main_arg0) = m ((c.tc : Thread Cert.LayerZeroS.nD Cert.LayerZeroS.τ).loc Cert.LayerZeroS.main_arg0)
      ∧ r.2.mem ((c.tc : Thread Cert.LayerZeroS.nD Cert.LayerZeroS.τ).loc Cert.LayerZeroS.main_arg1) = m ((c.tc : Thread Cert.LayerZeroS.nD Cert.LayerZeroS.τ).loc Cert.LayerZeroS.main_arg1)
      ∧ r.2.mem ((c.tc : Thread Cert.LayerZeroS.nD Cert.LayerZeroS.τ).loc Cert.LayerZeroS.main_arg2) = m ((c.tc : Thread Cert.LayerZeroS.nD Cert.LayerZeroS.τ).loc Cert.LayerZeroS.main_arg2)
      ∧ r.2.mem ((c.tc : Thread Cert.LayerZeroS.nD Cert.LayerZeroS.τ).loc Cert.LayerZeroS.main_arg3) = m ((c.tc : Thread Cert.LayerZeroS.nD Cert.LayerZeroS.τ).loc Cert.LayerZeroS.main_arg3)
      ∧ r.2.mem ((c.tc : Thread Cert.LayerZeroS.nD Cert.LayerZeroS.τ).loc Cert.LayerZeroS.main_arg4) = m ((c.tc : Thread Cert.LayerZeroS.nD Cert.LayerZeroS.τ).loc Cert.LayerZeroS.main_arg4)
      ∧ r.2.mem ((c.tc : Thread Cert.LayerZeroS.nD Cert.LayerZeroS.τ).loc Cert.LayerZeroS.main_arg5) = m ((c.tc : Thread Cert.LayerZeroS.nD Cert.LayerZeroS.τ).loc Cert.LayerZeroS.main_arg5)
      ∧ r.2.mem ((c.tc : Thread Cert.LayerZeroS.nD Cert.LayerZeroS.τ).loc Cert.LayerZeroS.main_arg6) = m ((c.tc : Thread Cert.LayerZeroS.nD Cert.LayerZeroS.τ).loc Cert.LayerZeroS.main_arg6)
      ∧ r.2.mem ((c.tc : Thread Cert.LayerZeroS.nD Cert.LayerZeroS.τ).loc Cert.LayerZeroS.main_arg7) = m ((c.tc : Thread Cert.LayerZeroS.nD Cert.LayerZeroS.τ).loc Cert.LayerZeroS.main_arg7)
      ∧ r.2.mem ((c.tc : Thread Cert.LayerZeroS.nD Cert.LayerZeroS.τ).loc Cert.LayerZeroS.main_arg8) = m ((c.tc : Thread Cert.LayerZeroS.nD Cert.LayerZeroS.τ).loc Cert.LayerZeroS.main_arg8)
      ∧ r.2.mem ((c.tc : Thread Cert.LayerZeroS.nD Cert.LayerZeroS.τ).loc Cert.LayerZeroS.main_arg9) = m ((c.tc : Thread Cert.LayerZeroS.nD Cert.LayerZeroS.τ).loc Cert.LayerZeroS.main_arg9)
      ∧ r.2.mem ((c.tc : Thread Cert.LayerZeroS.nD Cert.LayerZeroS.τ).loc Cert.LayerZeroS.main_arg10) = m ((c.tc : Thread Cert.LayerZeroS.nD Cert.LayerZeroS.τ).loc Cert.LayerZeroS.main_arg10)
      ∧ r.2.mem ((c.tc : Thread Cert.LayerZeroS.nD Cert.LayerZeroS.τ).loc Cert.LayerZeroS.main_arg11) = m ((c.tc : Thread Cert.LayerZeroS.nD Cert.LayerZeroS.τ).loc Cert.LayerZeroS.main_arg11)
      ∧ r.2.mem ((c.tc : Thread Cert.LayerZeroS.nD Cert.LayerZeroS.τ).loc Cert.LayerZeroS.main_arg12) = m ((c.tc : Thread Cert.LayerZeroS.nD Cert.LayerZeroS.τ).loc Cert.LayerZeroS.main_arg12)
      ∧ r.2.mem ((c.tc : Thread Cert.LayerZeroS.nD Cert.LayerZeroS.τ).loc Cert.LayerZeroS.main_arg13) = m ((c.tc : Thread Cert.LayerZeroS.nD Cert.LayerZeroS.τ).loc Cert.LayerZeroS.main_arg13)
      ∧ r.2.mem ((c.tc : Thread Cert.LayerZeroS.nD Cert.LayerZeroS.τ).loc Cert.LayerZeroS.main_arg14) = m ((c.tc : Thread Cert.LayerZeroS.nD Cert.LayerZeroS.τ).loc Cert.LayerZeroS.main_arg14)
      ∧ r.2.mem ((c.tc : Thread Cert.LayerZeroS.nD Cert.LayerZeroS.τ).loc Cert.LayerZeroS.main_arg15) = m ((c.tc : Thread Cert.LayerZeroS.nD Cert.LayerZeroS.τ).loc Cert.LayerZeroS.main_arg15))
      ∧ r.2.sem = fun _ => 0)

def quiescent_LayerZeroSIdeal [hLayerZeroSIdeal : Cert.LayerZeroSIdeal.Facts] : Prop :=
  ∀ (m : (ℓ : Loc Cert.LayerZeroSIdeal.nD Cert.LayerZeroSIdeal.τ Cert.LayerZeroSIdeal.sig) → Buf (Elt Ideal) ℓ) (g : Dev Cert.LayerZeroSIdeal.nD → PrngReg), Pre_LayerZeroSIdeal m →
    θ_run (Cert.LayerZeroSIdeal.defs (F := Ideal)) (onTc (τ := Cert.LayerZeroSIdeal.τ) (Cert.LayerZeroSIdeal.main (F := Ideal))) ⟨m, fun _ => 0, g⟩ (fun r => (∀ c : Dev Cert.LayerZeroSIdeal.nD,
      r.2.mem ((c.tc : Thread Cert.LayerZeroSIdeal.nD Cert.LayerZeroSIdeal.τ).loc Cert.LayerZeroSIdeal.main_arg0) = m ((c.tc : Thread Cert.LayerZeroSIdeal.nD Cert.LayerZeroSIdeal.τ).loc Cert.LayerZeroSIdeal.main_arg0)
      ∧ r.2.mem ((c.tc : Thread Cert.LayerZeroSIdeal.nD Cert.LayerZeroSIdeal.τ).loc Cert.LayerZeroSIdeal.main_arg1) = m ((c.tc : Thread Cert.LayerZeroSIdeal.nD Cert.LayerZeroSIdeal.τ).loc Cert.LayerZeroSIdeal.main_arg1)
      ∧ r.2.mem ((c.tc : Thread Cert.LayerZeroSIdeal.nD Cert.LayerZeroSIdeal.τ).loc Cert.LayerZeroSIdeal.main_arg2) = m ((c.tc : Thread Cert.LayerZeroSIdeal.nD Cert.LayerZeroSIdeal.τ).loc Cert.LayerZeroSIdeal.main_arg2)
      ∧ r.2.mem ((c.tc : Thread Cert.LayerZeroSIdeal.nD Cert.LayerZeroSIdeal.τ).loc Cert.LayerZeroSIdeal.main_arg3) = m ((c.tc : Thread Cert.LayerZeroSIdeal.nD Cert.LayerZeroSIdeal.τ).loc Cert.LayerZeroSIdeal.main_arg3)
      ∧ r.2.mem ((c.tc : Thread Cert.LayerZeroSIdeal.nD Cert.LayerZeroSIdeal.τ).loc Cert.LayerZeroSIdeal.main_arg4) = m ((c.tc : Thread Cert.LayerZeroSIdeal.nD Cert.LayerZeroSIdeal.τ).loc Cert.LayerZeroSIdeal.main_arg4)
      ∧ r.2.mem ((c.tc : Thread Cert.LayerZeroSIdeal.nD Cert.LayerZeroSIdeal.τ).loc Cert.LayerZeroSIdeal.main_arg5) = m ((c.tc : Thread Cert.LayerZeroSIdeal.nD Cert.LayerZeroSIdeal.τ).loc Cert.LayerZeroSIdeal.main_arg5)
      ∧ r.2.mem ((c.tc : Thread Cert.LayerZeroSIdeal.nD Cert.LayerZeroSIdeal.τ).loc Cert.LayerZeroSIdeal.main_arg6) = m ((c.tc : Thread Cert.LayerZeroSIdeal.nD Cert.LayerZeroSIdeal.τ).loc Cert.LayerZeroSIdeal.main_arg6)
      ∧ r.2.mem ((c.tc : Thread Cert.LayerZeroSIdeal.nD Cert.LayerZeroSIdeal.τ).loc Cert.LayerZeroSIdeal.main_arg7) = m ((c.tc : Thread Cert.LayerZeroSIdeal.nD Cert.LayerZeroSIdeal.τ).loc Cert.LayerZeroSIdeal.main_arg7)
      ∧ r.2.mem ((c.tc : Thread Cert.LayerZeroSIdeal.nD Cert.LayerZeroSIdeal.τ).loc Cert.LayerZeroSIdeal.main_arg8) = m ((c.tc : Thread Cert.LayerZeroSIdeal.nD Cert.LayerZeroSIdeal.τ).loc Cert.LayerZeroSIdeal.main_arg8)
      ∧ r.2.mem ((c.tc : Thread Cert.LayerZeroSIdeal.nD Cert.LayerZeroSIdeal.τ).loc Cert.LayerZeroSIdeal.main_arg9) = m ((c.tc : Thread Cert.LayerZeroSIdeal.nD Cert.LayerZeroSIdeal.τ).loc Cert.LayerZeroSIdeal.main_arg9)
      ∧ r.2.mem ((c.tc : Thread Cert.LayerZeroSIdeal.nD Cert.LayerZeroSIdeal.τ).loc Cert.LayerZeroSIdeal.main_arg10) = m ((c.tc : Thread Cert.LayerZeroSIdeal.nD Cert.LayerZeroSIdeal.τ).loc Cert.LayerZeroSIdeal.main_arg10)
      ∧ r.2.mem ((c.tc : Thread Cert.LayerZeroSIdeal.nD Cert.LayerZeroSIdeal.τ).loc Cert.LayerZeroSIdeal.main_arg11) = m ((c.tc : Thread Cert.LayerZeroSIdeal.nD Cert.LayerZeroSIdeal.τ).loc Cert.LayerZeroSIdeal.main_arg11)
      ∧ r.2.mem ((c.tc : Thread Cert.LayerZeroSIdeal.nD Cert.LayerZeroSIdeal.τ).loc Cert.LayerZeroSIdeal.main_arg12) = m ((c.tc : Thread Cert.LayerZeroSIdeal.nD Cert.LayerZeroSIdeal.τ).loc Cert.LayerZeroSIdeal.main_arg12)
      ∧ r.2.mem ((c.tc : Thread Cert.LayerZeroSIdeal.nD Cert.LayerZeroSIdeal.τ).loc Cert.LayerZeroSIdeal.main_arg13) = m ((c.tc : Thread Cert.LayerZeroSIdeal.nD Cert.LayerZeroSIdeal.τ).loc Cert.LayerZeroSIdeal.main_arg13)
      ∧ r.2.mem ((c.tc : Thread Cert.LayerZeroSIdeal.nD Cert.LayerZeroSIdeal.τ).loc Cert.LayerZeroSIdeal.main_arg14) = m ((c.tc : Thread Cert.LayerZeroSIdeal.nD Cert.LayerZeroSIdeal.τ).loc Cert.LayerZeroSIdeal.main_arg14)
      ∧ r.2.mem ((c.tc : Thread Cert.LayerZeroSIdeal.nD Cert.LayerZeroSIdeal.τ).loc Cert.LayerZeroSIdeal.main_arg15) = m ((c.tc : Thread Cert.LayerZeroSIdeal.nD Cert.LayerZeroSIdeal.τ).loc Cert.LayerZeroSIdeal.main_arg15))
      ∧ r.2.sem = fun _ => 0)

def quiescent_LayerZeroSIdeal_pre_finite_state [hLayerZeroSIdeal : Cert.LayerZeroSIdeal.Facts] [hPre_finite_state : Cert.Pre_finite_state.Facts] : Prop :=
  ∀ (m : (ℓ : Loc Cert.LayerZeroSIdeal.nD Cert.LayerZeroSIdeal.τ Cert.LayerZeroSIdeal.sig) → Buf (Elt Ideal) ℓ) (g : Dev Cert.LayerZeroSIdeal.nD → PrngReg), Pre_LayerZeroSIdeal_finite_state m →
    θ_run (Cert.LayerZeroSIdeal.defs (F := Ideal)) (onTc (τ := Cert.LayerZeroSIdeal.τ) (Cert.LayerZeroSIdeal.main (F := Ideal))) ⟨m, fun _ => 0, g⟩ (fun r => (∀ c : Dev Cert.LayerZeroSIdeal.nD,
      r.2.mem ((c.tc : Thread Cert.LayerZeroSIdeal.nD Cert.LayerZeroSIdeal.τ).loc Cert.LayerZeroSIdeal.main_arg0) = m ((c.tc : Thread Cert.LayerZeroSIdeal.nD Cert.LayerZeroSIdeal.τ).loc Cert.LayerZeroSIdeal.main_arg0)
      ∧ r.2.mem ((c.tc : Thread Cert.LayerZeroSIdeal.nD Cert.LayerZeroSIdeal.τ).loc Cert.LayerZeroSIdeal.main_arg1) = m ((c.tc : Thread Cert.LayerZeroSIdeal.nD Cert.LayerZeroSIdeal.τ).loc Cert.LayerZeroSIdeal.main_arg1)
      ∧ r.2.mem ((c.tc : Thread Cert.LayerZeroSIdeal.nD Cert.LayerZeroSIdeal.τ).loc Cert.LayerZeroSIdeal.main_arg2) = m ((c.tc : Thread Cert.LayerZeroSIdeal.nD Cert.LayerZeroSIdeal.τ).loc Cert.LayerZeroSIdeal.main_arg2)
      ∧ r.2.mem ((c.tc : Thread Cert.LayerZeroSIdeal.nD Cert.LayerZeroSIdeal.τ).loc Cert.LayerZeroSIdeal.main_arg3) = m ((c.tc : Thread Cert.LayerZeroSIdeal.nD Cert.LayerZeroSIdeal.τ).loc Cert.LayerZeroSIdeal.main_arg3)
      ∧ r.2.mem ((c.tc : Thread Cert.LayerZeroSIdeal.nD Cert.LayerZeroSIdeal.τ).loc Cert.LayerZeroSIdeal.main_arg4) = m ((c.tc : Thread Cert.LayerZeroSIdeal.nD Cert.LayerZeroSIdeal.τ).loc Cert.LayerZeroSIdeal.main_arg4)
      ∧ r.2.mem ((c.tc : Thread Cert.LayerZeroSIdeal.nD Cert.LayerZeroSIdeal.τ).loc Cert.LayerZeroSIdeal.main_arg5) = m ((c.tc : Thread Cert.LayerZeroSIdeal.nD Cert.LayerZeroSIdeal.τ).loc Cert.LayerZeroSIdeal.main_arg5)
      ∧ r.2.mem ((c.tc : Thread Cert.LayerZeroSIdeal.nD Cert.LayerZeroSIdeal.τ).loc Cert.LayerZeroSIdeal.main_arg6) = m ((c.tc : Thread Cert.LayerZeroSIdeal.nD Cert.LayerZeroSIdeal.τ).loc Cert.LayerZeroSIdeal.main_arg6)
      ∧ r.2.mem ((c.tc : Thread Cert.LayerZeroSIdeal.nD Cert.LayerZeroSIdeal.τ).loc Cert.LayerZeroSIdeal.main_arg7) = m ((c.tc : Thread Cert.LayerZeroSIdeal.nD Cert.LayerZeroSIdeal.τ).loc Cert.LayerZeroSIdeal.main_arg7)
      ∧ r.2.mem ((c.tc : Thread Cert.LayerZeroSIdeal.nD Cert.LayerZeroSIdeal.τ).loc Cert.LayerZeroSIdeal.main_arg8) = m ((c.tc : Thread Cert.LayerZeroSIdeal.nD Cert.LayerZeroSIdeal.τ).loc Cert.LayerZeroSIdeal.main_arg8)
      ∧ r.2.mem ((c.tc : Thread Cert.LayerZeroSIdeal.nD Cert.LayerZeroSIdeal.τ).loc Cert.LayerZeroSIdeal.main_arg9) = m ((c.tc : Thread Cert.LayerZeroSIdeal.nD Cert.LayerZeroSIdeal.τ).loc Cert.LayerZeroSIdeal.main_arg9)
      ∧ r.2.mem ((c.tc : Thread Cert.LayerZeroSIdeal.nD Cert.LayerZeroSIdeal.τ).loc Cert.LayerZeroSIdeal.main_arg10) = m ((c.tc : Thread Cert.LayerZeroSIdeal.nD Cert.LayerZeroSIdeal.τ).loc Cert.LayerZeroSIdeal.main_arg10)
      ∧ r.2.mem ((c.tc : Thread Cert.LayerZeroSIdeal.nD Cert.LayerZeroSIdeal.τ).loc Cert.LayerZeroSIdeal.main_arg11) = m ((c.tc : Thread Cert.LayerZeroSIdeal.nD Cert.LayerZeroSIdeal.τ).loc Cert.LayerZeroSIdeal.main_arg11)
      ∧ r.2.mem ((c.tc : Thread Cert.LayerZeroSIdeal.nD Cert.LayerZeroSIdeal.τ).loc Cert.LayerZeroSIdeal.main_arg12) = m ((c.tc : Thread Cert.LayerZeroSIdeal.nD Cert.LayerZeroSIdeal.τ).loc Cert.LayerZeroSIdeal.main_arg12)
      ∧ r.2.mem ((c.tc : Thread Cert.LayerZeroSIdeal.nD Cert.LayerZeroSIdeal.τ).loc Cert.LayerZeroSIdeal.main_arg13) = m ((c.tc : Thread Cert.LayerZeroSIdeal.nD Cert.LayerZeroSIdeal.τ).loc Cert.LayerZeroSIdeal.main_arg13)
      ∧ r.2.mem ((c.tc : Thread Cert.LayerZeroSIdeal.nD Cert.LayerZeroSIdeal.τ).loc Cert.LayerZeroSIdeal.main_arg14) = m ((c.tc : Thread Cert.LayerZeroSIdeal.nD Cert.LayerZeroSIdeal.τ).loc Cert.LayerZeroSIdeal.main_arg14)
      ∧ r.2.mem ((c.tc : Thread Cert.LayerZeroSIdeal.nD Cert.LayerZeroSIdeal.τ).loc Cert.LayerZeroSIdeal.main_arg15) = m ((c.tc : Thread Cert.LayerZeroSIdeal.nD Cert.LayerZeroSIdeal.τ).loc Cert.LayerZeroSIdeal.main_arg15))
      ∧ r.2.sem = fun _ => 0)

def quiescent_LayerZeroSRefIdeal [hLayerZeroSRefIdeal : Cert.LayerZeroSRefIdeal.Facts] : Prop :=
  ∀ (m : (ℓ : Loc Cert.LayerZeroSRefIdeal.nD Cert.LayerZeroSRefIdeal.τ Cert.LayerZeroSRefIdeal.sig) → Buf (Elt Ideal) ℓ) (g : Dev Cert.LayerZeroSRefIdeal.nD → PrngReg), Pre_LayerZeroSRefIdeal m →
    θ_run (Cert.LayerZeroSRefIdeal.defs (F := Ideal)) (onTc (τ := Cert.LayerZeroSRefIdeal.τ) (Cert.LayerZeroSRefIdeal.main (F := Ideal))) ⟨m, fun _ => 0, g⟩ (fun r => (∀ c : Dev Cert.LayerZeroSRefIdeal.nD,
      r.2.mem ((c.tc : Thread Cert.LayerZeroSRefIdeal.nD Cert.LayerZeroSRefIdeal.τ).loc Cert.LayerZeroSRefIdeal.main_arg0) = m ((c.tc : Thread Cert.LayerZeroSRefIdeal.nD Cert.LayerZeroSRefIdeal.τ).loc Cert.LayerZeroSRefIdeal.main_arg0)
      ∧ r.2.mem ((c.tc : Thread Cert.LayerZeroSRefIdeal.nD Cert.LayerZeroSRefIdeal.τ).loc Cert.LayerZeroSRefIdeal.main_arg1) = m ((c.tc : Thread Cert.LayerZeroSRefIdeal.nD Cert.LayerZeroSRefIdeal.τ).loc Cert.LayerZeroSRefIdeal.main_arg1)
      ∧ r.2.mem ((c.tc : Thread Cert.LayerZeroSRefIdeal.nD Cert.LayerZeroSRefIdeal.τ).loc Cert.LayerZeroSRefIdeal.main_arg2) = m ((c.tc : Thread Cert.LayerZeroSRefIdeal.nD Cert.LayerZeroSRefIdeal.τ).loc Cert.LayerZeroSRefIdeal.main_arg2)
      ∧ r.2.mem ((c.tc : Thread Cert.LayerZeroSRefIdeal.nD Cert.LayerZeroSRefIdeal.τ).loc Cert.LayerZeroSRefIdeal.main_arg3) = m ((c.tc : Thread Cert.LayerZeroSRefIdeal.nD Cert.LayerZeroSRefIdeal.τ).loc Cert.LayerZeroSRefIdeal.main_arg3)
      ∧ r.2.mem ((c.tc : Thread Cert.LayerZeroSRefIdeal.nD Cert.LayerZeroSRefIdeal.τ).loc Cert.LayerZeroSRefIdeal.main_arg4) = m ((c.tc : Thread Cert.LayerZeroSRefIdeal.nD Cert.LayerZeroSRefIdeal.τ).loc Cert.LayerZeroSRefIdeal.main_arg4)
      ∧ r.2.mem ((c.tc : Thread Cert.LayerZeroSRefIdeal.nD Cert.LayerZeroSRefIdeal.τ).loc Cert.LayerZeroSRefIdeal.main_arg5) = m ((c.tc : Thread Cert.LayerZeroSRefIdeal.nD Cert.LayerZeroSRefIdeal.τ).loc Cert.LayerZeroSRefIdeal.main_arg5)
      ∧ r.2.mem ((c.tc : Thread Cert.LayerZeroSRefIdeal.nD Cert.LayerZeroSRefIdeal.τ).loc Cert.LayerZeroSRefIdeal.main_arg6) = m ((c.tc : Thread Cert.LayerZeroSRefIdeal.nD Cert.LayerZeroSRefIdeal.τ).loc Cert.LayerZeroSRefIdeal.main_arg6)
      ∧ r.2.mem ((c.tc : Thread Cert.LayerZeroSRefIdeal.nD Cert.LayerZeroSRefIdeal.τ).loc Cert.LayerZeroSRefIdeal.main_arg7) = m ((c.tc : Thread Cert.LayerZeroSRefIdeal.nD Cert.LayerZeroSRefIdeal.τ).loc Cert.LayerZeroSRefIdeal.main_arg7)
      ∧ r.2.mem ((c.tc : Thread Cert.LayerZeroSRefIdeal.nD Cert.LayerZeroSRefIdeal.τ).loc Cert.LayerZeroSRefIdeal.main_arg8) = m ((c.tc : Thread Cert.LayerZeroSRefIdeal.nD Cert.LayerZeroSRefIdeal.τ).loc Cert.LayerZeroSRefIdeal.main_arg8)
      ∧ r.2.mem ((c.tc : Thread Cert.LayerZeroSRefIdeal.nD Cert.LayerZeroSRefIdeal.τ).loc Cert.LayerZeroSRefIdeal.main_arg9) = m ((c.tc : Thread Cert.LayerZeroSRefIdeal.nD Cert.LayerZeroSRefIdeal.τ).loc Cert.LayerZeroSRefIdeal.main_arg9)
      ∧ r.2.mem ((c.tc : Thread Cert.LayerZeroSRefIdeal.nD Cert.LayerZeroSRefIdeal.τ).loc Cert.LayerZeroSRefIdeal.main_arg10) = m ((c.tc : Thread Cert.LayerZeroSRefIdeal.nD Cert.LayerZeroSRefIdeal.τ).loc Cert.LayerZeroSRefIdeal.main_arg10)
      ∧ r.2.mem ((c.tc : Thread Cert.LayerZeroSRefIdeal.nD Cert.LayerZeroSRefIdeal.τ).loc Cert.LayerZeroSRefIdeal.main_arg11) = m ((c.tc : Thread Cert.LayerZeroSRefIdeal.nD Cert.LayerZeroSRefIdeal.τ).loc Cert.LayerZeroSRefIdeal.main_arg11)
      ∧ r.2.mem ((c.tc : Thread Cert.LayerZeroSRefIdeal.nD Cert.LayerZeroSRefIdeal.τ).loc Cert.LayerZeroSRefIdeal.main_arg12) = m ((c.tc : Thread Cert.LayerZeroSRefIdeal.nD Cert.LayerZeroSRefIdeal.τ).loc Cert.LayerZeroSRefIdeal.main_arg12)
      ∧ r.2.mem ((c.tc : Thread Cert.LayerZeroSRefIdeal.nD Cert.LayerZeroSRefIdeal.τ).loc Cert.LayerZeroSRefIdeal.main_arg13) = m ((c.tc : Thread Cert.LayerZeroSRefIdeal.nD Cert.LayerZeroSRefIdeal.τ).loc Cert.LayerZeroSRefIdeal.main_arg13)
      ∧ r.2.mem ((c.tc : Thread Cert.LayerZeroSRefIdeal.nD Cert.LayerZeroSRefIdeal.τ).loc Cert.LayerZeroSRefIdeal.main_arg14) = m ((c.tc : Thread Cert.LayerZeroSRefIdeal.nD Cert.LayerZeroSRefIdeal.τ).loc Cert.LayerZeroSRefIdeal.main_arg14)
      ∧ r.2.mem ((c.tc : Thread Cert.LayerZeroSRefIdeal.nD Cert.LayerZeroSRefIdeal.τ).loc Cert.LayerZeroSRefIdeal.main_arg15) = m ((c.tc : Thread Cert.LayerZeroSRefIdeal.nD Cert.LayerZeroSRefIdeal.τ).loc Cert.LayerZeroSRefIdeal.main_arg15))
      ∧ r.2.sem = fun _ => 0)

def quiescent_LayerZeroSRefIdeal_pre_finite_state [hLayerZeroSRefIdeal : Cert.LayerZeroSRefIdeal.Facts] [hPre_finite_state : Cert.Pre_finite_state.Facts] : Prop :=
  ∀ (m : (ℓ : Loc Cert.LayerZeroSRefIdeal.nD Cert.LayerZeroSRefIdeal.τ Cert.LayerZeroSRefIdeal.sig) → Buf (Elt Ideal) ℓ) (g : Dev Cert.LayerZeroSRefIdeal.nD → PrngReg), Pre_LayerZeroSRefIdeal_finite_state m →
    θ_run (Cert.LayerZeroSRefIdeal.defs (F := Ideal)) (onTc (τ := Cert.LayerZeroSRefIdeal.τ) (Cert.LayerZeroSRefIdeal.main (F := Ideal))) ⟨m, fun _ => 0, g⟩ (fun r => (∀ c : Dev Cert.LayerZeroSRefIdeal.nD,
      r.2.mem ((c.tc : Thread Cert.LayerZeroSRefIdeal.nD Cert.LayerZeroSRefIdeal.τ).loc Cert.LayerZeroSRefIdeal.main_arg0) = m ((c.tc : Thread Cert.LayerZeroSRefIdeal.nD Cert.LayerZeroSRefIdeal.τ).loc Cert.LayerZeroSRefIdeal.main_arg0)
      ∧ r.2.mem ((c.tc : Thread Cert.LayerZeroSRefIdeal.nD Cert.LayerZeroSRefIdeal.τ).loc Cert.LayerZeroSRefIdeal.main_arg1) = m ((c.tc : Thread Cert.LayerZeroSRefIdeal.nD Cert.LayerZeroSRefIdeal.τ).loc Cert.LayerZeroSRefIdeal.main_arg1)
      ∧ r.2.mem ((c.tc : Thread Cert.LayerZeroSRefIdeal.nD Cert.LayerZeroSRefIdeal.τ).loc Cert.LayerZeroSRefIdeal.main_arg2) = m ((c.tc : Thread Cert.LayerZeroSRefIdeal.nD Cert.LayerZeroSRefIdeal.τ).loc Cert.LayerZeroSRefIdeal.main_arg2)
      ∧ r.2.mem ((c.tc : Thread Cert.LayerZeroSRefIdeal.nD Cert.LayerZeroSRefIdeal.τ).loc Cert.LayerZeroSRefIdeal.main_arg3) = m ((c.tc : Thread Cert.LayerZeroSRefIdeal.nD Cert.LayerZeroSRefIdeal.τ).loc Cert.LayerZeroSRefIdeal.main_arg3)
      ∧ r.2.mem ((c.tc : Thread Cert.LayerZeroSRefIdeal.nD Cert.LayerZeroSRefIdeal.τ).loc Cert.LayerZeroSRefIdeal.main_arg4) = m ((c.tc : Thread Cert.LayerZeroSRefIdeal.nD Cert.LayerZeroSRefIdeal.τ).loc Cert.LayerZeroSRefIdeal.main_arg4)
      ∧ r.2.mem ((c.tc : Thread Cert.LayerZeroSRefIdeal.nD Cert.LayerZeroSRefIdeal.τ).loc Cert.LayerZeroSRefIdeal.main_arg5) = m ((c.tc : Thread Cert.LayerZeroSRefIdeal.nD Cert.LayerZeroSRefIdeal.τ).loc Cert.LayerZeroSRefIdeal.main_arg5)
      ∧ r.2.mem ((c.tc : Thread Cert.LayerZeroSRefIdeal.nD Cert.LayerZeroSRefIdeal.τ).loc Cert.LayerZeroSRefIdeal.main_arg6) = m ((c.tc : Thread Cert.LayerZeroSRefIdeal.nD Cert.LayerZeroSRefIdeal.τ).loc Cert.LayerZeroSRefIdeal.main_arg6)
      ∧ r.2.mem ((c.tc : Thread Cert.LayerZeroSRefIdeal.nD Cert.LayerZeroSRefIdeal.τ).loc Cert.LayerZeroSRefIdeal.main_arg7) = m ((c.tc : Thread Cert.LayerZeroSRefIdeal.nD Cert.LayerZeroSRefIdeal.τ).loc Cert.LayerZeroSRefIdeal.main_arg7)
      ∧ r.2.mem ((c.tc : Thread Cert.LayerZeroSRefIdeal.nD Cert.LayerZeroSRefIdeal.τ).loc Cert.LayerZeroSRefIdeal.main_arg8) = m ((c.tc : Thread Cert.LayerZeroSRefIdeal.nD Cert.LayerZeroSRefIdeal.τ).loc Cert.LayerZeroSRefIdeal.main_arg8)
      ∧ r.2.mem ((c.tc : Thread Cert.LayerZeroSRefIdeal.nD Cert.LayerZeroSRefIdeal.τ).loc Cert.LayerZeroSRefIdeal.main_arg9) = m ((c.tc : Thread Cert.LayerZeroSRefIdeal.nD Cert.LayerZeroSRefIdeal.τ).loc Cert.LayerZeroSRefIdeal.main_arg9)
      ∧ r.2.mem ((c.tc : Thread Cert.LayerZeroSRefIdeal.nD Cert.LayerZeroSRefIdeal.τ).loc Cert.LayerZeroSRefIdeal.main_arg10) = m ((c.tc : Thread Cert.LayerZeroSRefIdeal.nD Cert.LayerZeroSRefIdeal.τ).loc Cert.LayerZeroSRefIdeal.main_arg10)
      ∧ r.2.mem ((c.tc : Thread Cert.LayerZeroSRefIdeal.nD Cert.LayerZeroSRefIdeal.τ).loc Cert.LayerZeroSRefIdeal.main_arg11) = m ((c.tc : Thread Cert.LayerZeroSRefIdeal.nD Cert.LayerZeroSRefIdeal.τ).loc Cert.LayerZeroSRefIdeal.main_arg11)
      ∧ r.2.mem ((c.tc : Thread Cert.LayerZeroSRefIdeal.nD Cert.LayerZeroSRefIdeal.τ).loc Cert.LayerZeroSRefIdeal.main_arg12) = m ((c.tc : Thread Cert.LayerZeroSRefIdeal.nD Cert.LayerZeroSRefIdeal.τ).loc Cert.LayerZeroSRefIdeal.main_arg12)
      ∧ r.2.mem ((c.tc : Thread Cert.LayerZeroSRefIdeal.nD Cert.LayerZeroSRefIdeal.τ).loc Cert.LayerZeroSRefIdeal.main_arg13) = m ((c.tc : Thread Cert.LayerZeroSRefIdeal.nD Cert.LayerZeroSRefIdeal.τ).loc Cert.LayerZeroSRefIdeal.main_arg13)
      ∧ r.2.mem ((c.tc : Thread Cert.LayerZeroSRefIdeal.nD Cert.LayerZeroSRefIdeal.τ).loc Cert.LayerZeroSRefIdeal.main_arg14) = m ((c.tc : Thread Cert.LayerZeroSRefIdeal.nD Cert.LayerZeroSRefIdeal.τ).loc Cert.LayerZeroSRefIdeal.main_arg14)
      ∧ r.2.mem ((c.tc : Thread Cert.LayerZeroSRefIdeal.nD Cert.LayerZeroSRefIdeal.τ).loc Cert.LayerZeroSRefIdeal.main_arg15) = m ((c.tc : Thread Cert.LayerZeroSRefIdeal.nD Cert.LayerZeroSRefIdeal.τ).loc Cert.LayerZeroSRefIdeal.main_arg15))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_experts_named [hExpertsRefIdeal : Cert.ExpertsRefIdeal.Facts] [hPre_experts_named : Cert.Pre_experts_named.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_named m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsOne [hExpertsOne : Cert.ExpertsOne.Facts] [hPre_experts_named : Cert.Pre_experts_named.Facts] : Prop :=
  ∀ (m : (ℓ : Loc Cert.ExpertsOne.nD Cert.ExpertsOne.τ Cert.ExpertsOne.sig) → Buf (Elt Bits) ℓ) (g : Dev Cert.ExpertsOne.nD → PrngReg), Pre_ExpertsOne m →
    θ_run (Cert.ExpertsOne.defs (F := Bits)) (onTc (τ := Cert.ExpertsOne.τ) (Cert.ExpertsOne.main (F := Bits))) ⟨m, fun _ => 0, g⟩ (fun r => (∀ c : Dev Cert.ExpertsOne.nD,
      r.2.mem ((c.tc : Thread Cert.ExpertsOne.nD Cert.ExpertsOne.τ).loc Cert.ExpertsOne.main_arg0) = m ((c.tc : Thread Cert.ExpertsOne.nD Cert.ExpertsOne.τ).loc Cert.ExpertsOne.main_arg0)
      ∧ r.2.mem ((c.tc : Thread Cert.ExpertsOne.nD Cert.ExpertsOne.τ).loc Cert.ExpertsOne.main_arg1) = m ((c.tc : Thread Cert.ExpertsOne.nD Cert.ExpertsOne.τ).loc Cert.ExpertsOne.main_arg1)
      ∧ r.2.mem ((c.tc : Thread Cert.ExpertsOne.nD Cert.ExpertsOne.τ).loc Cert.ExpertsOne.main_arg2) = m ((c.tc : Thread Cert.ExpertsOne.nD Cert.ExpertsOne.τ).loc Cert.ExpertsOne.main_arg2)
      ∧ r.2.mem ((c.tc : Thread Cert.ExpertsOne.nD Cert.ExpertsOne.τ).loc Cert.ExpertsOne.main_arg3) = m ((c.tc : Thread Cert.ExpertsOne.nD Cert.ExpertsOne.τ).loc Cert.ExpertsOne.main_arg3)
      ∧ r.2.mem ((c.tc : Thread Cert.ExpertsOne.nD Cert.ExpertsOne.τ).loc Cert.ExpertsOne.main_arg4) = m ((c.tc : Thread Cert.ExpertsOne.nD Cert.ExpertsOne.τ).loc Cert.ExpertsOne.main_arg4)
      ∧ r.2.mem ((c.tc : Thread Cert.ExpertsOne.nD Cert.ExpertsOne.τ).loc Cert.ExpertsOne.main_arg5) = m ((c.tc : Thread Cert.ExpertsOne.nD Cert.ExpertsOne.τ).loc Cert.ExpertsOne.main_arg5))
      ∧ r.2.sem = fun _ => 0)

def quiescent_ExpertsOneIdeal [hExpertsOneIdeal : Cert.ExpertsOneIdeal.Facts] [hPre_experts_named : Cert.Pre_experts_named.Facts] : Prop :=
  ∀ (m : (ℓ : Loc Cert.ExpertsOneIdeal.nD Cert.ExpertsOneIdeal.τ Cert.ExpertsOneIdeal.sig) → Buf (Elt Ideal) ℓ) (g : Dev Cert.ExpertsOneIdeal.nD → PrngReg), Pre_ExpertsOneIdeal m →
    θ_run (Cert.ExpertsOneIdeal.defs (F := Ideal)) (onTc (τ := Cert.ExpertsOneIdeal.τ) (Cert.ExpertsOneIdeal.main (F := Ideal))) ⟨m, fun _ => 0, g⟩ (fun r => (∀ c : Dev Cert.ExpertsOneIdeal.nD,
      r.2.mem ((c.tc : Thread Cert.ExpertsOneIdeal.nD Cert.ExpertsOneIdeal.τ).loc Cert.ExpertsOneIdeal.main_arg0) = m ((c.tc : Thread Cert.ExpertsOneIdeal.nD Cert.ExpertsOneIdeal.τ).loc Cert.ExpertsOneIdeal.main_arg0)
      ∧ r.2.mem ((c.tc : Thread Cert.ExpertsOneIdeal.nD Cert.ExpertsOneIdeal.τ).loc Cert.ExpertsOneIdeal.main_arg1) = m ((c.tc : Thread Cert.ExpertsOneIdeal.nD Cert.ExpertsOneIdeal.τ).loc Cert.ExpertsOneIdeal.main_arg1)
      ∧ r.2.mem ((c.tc : Thread Cert.ExpertsOneIdeal.nD Cert.ExpertsOneIdeal.τ).loc Cert.ExpertsOneIdeal.main_arg2) = m ((c.tc : Thread Cert.ExpertsOneIdeal.nD Cert.ExpertsOneIdeal.τ).loc Cert.ExpertsOneIdeal.main_arg2)
      ∧ r.2.mem ((c.tc : Thread Cert.ExpertsOneIdeal.nD Cert.ExpertsOneIdeal.τ).loc Cert.ExpertsOneIdeal.main_arg3) = m ((c.tc : Thread Cert.ExpertsOneIdeal.nD Cert.ExpertsOneIdeal.τ).loc Cert.ExpertsOneIdeal.main_arg3)
      ∧ r.2.mem ((c.tc : Thread Cert.ExpertsOneIdeal.nD Cert.ExpertsOneIdeal.τ).loc Cert.ExpertsOneIdeal.main_arg4) = m ((c.tc : Thread Cert.ExpertsOneIdeal.nD Cert.ExpertsOneIdeal.τ).loc Cert.ExpertsOneIdeal.main_arg4)
      ∧ r.2.mem ((c.tc : Thread Cert.ExpertsOneIdeal.nD Cert.ExpertsOneIdeal.τ).loc Cert.ExpertsOneIdeal.main_arg5) = m ((c.tc : Thread Cert.ExpertsOneIdeal.nD Cert.ExpertsOneIdeal.τ).loc Cert.ExpertsOneIdeal.main_arg5))
      ∧ r.2.sem = fun _ => 0)

def quiescent_ExpertsOneRefIdeal [hExpertsOneRefIdeal : Cert.ExpertsOneRefIdeal.Facts] : Prop :=
  ∀ (m : (ℓ : Loc Cert.ExpertsOneRefIdeal.nD Cert.ExpertsOneRefIdeal.τ Cert.ExpertsOneRefIdeal.sig) → Buf (Elt Ideal) ℓ) (g : Dev Cert.ExpertsOneRefIdeal.nD → PrngReg), Pre_ExpertsOneRefIdeal m →
    θ_run (Cert.ExpertsOneRefIdeal.defs (F := Ideal)) (onTc (τ := Cert.ExpertsOneRefIdeal.τ) (Cert.ExpertsOneRefIdeal.main (F := Ideal))) ⟨m, fun _ => 0, g⟩ (fun r => (∀ c : Dev Cert.ExpertsOneRefIdeal.nD,
      r.2.mem ((c.tc : Thread Cert.ExpertsOneRefIdeal.nD Cert.ExpertsOneRefIdeal.τ).loc Cert.ExpertsOneRefIdeal.main_arg0) = m ((c.tc : Thread Cert.ExpertsOneRefIdeal.nD Cert.ExpertsOneRefIdeal.τ).loc Cert.ExpertsOneRefIdeal.main_arg0)
      ∧ r.2.mem ((c.tc : Thread Cert.ExpertsOneRefIdeal.nD Cert.ExpertsOneRefIdeal.τ).loc Cert.ExpertsOneRefIdeal.main_arg1) = m ((c.tc : Thread Cert.ExpertsOneRefIdeal.nD Cert.ExpertsOneRefIdeal.τ).loc Cert.ExpertsOneRefIdeal.main_arg1)
      ∧ r.2.mem ((c.tc : Thread Cert.ExpertsOneRefIdeal.nD Cert.ExpertsOneRefIdeal.τ).loc Cert.ExpertsOneRefIdeal.main_arg2) = m ((c.tc : Thread Cert.ExpertsOneRefIdeal.nD Cert.ExpertsOneRefIdeal.τ).loc Cert.ExpertsOneRefIdeal.main_arg2)
      ∧ r.2.mem ((c.tc : Thread Cert.ExpertsOneRefIdeal.nD Cert.ExpertsOneRefIdeal.τ).loc Cert.ExpertsOneRefIdeal.main_arg3) = m ((c.tc : Thread Cert.ExpertsOneRefIdeal.nD Cert.ExpertsOneRefIdeal.τ).loc Cert.ExpertsOneRefIdeal.main_arg3)
      ∧ r.2.mem ((c.tc : Thread Cert.ExpertsOneRefIdeal.nD Cert.ExpertsOneRefIdeal.τ).loc Cert.ExpertsOneRefIdeal.main_arg4) = m ((c.tc : Thread Cert.ExpertsOneRefIdeal.nD Cert.ExpertsOneRefIdeal.τ).loc Cert.ExpertsOneRefIdeal.main_arg4)
      ∧ r.2.mem ((c.tc : Thread Cert.ExpertsOneRefIdeal.nD Cert.ExpertsOneRefIdeal.τ).loc Cert.ExpertsOneRefIdeal.main_arg5) = m ((c.tc : Thread Cert.ExpertsOneRefIdeal.nD Cert.ExpertsOneRefIdeal.τ).loc Cert.ExpertsOneRefIdeal.main_arg5))
      ∧ r.2.sem = fun _ => 0)

def quiescent_ExpertsOneRefIdeal_pre_experts_named [hExpertsOneRefIdeal : Cert.ExpertsOneRefIdeal.Facts] [hPre_experts_named : Cert.Pre_experts_named.Facts] : Prop :=
  ∀ (m : (ℓ : Loc Cert.ExpertsOneRefIdeal.nD Cert.ExpertsOneRefIdeal.τ Cert.ExpertsOneRefIdeal.sig) → Buf (Elt Ideal) ℓ) (g : Dev Cert.ExpertsOneRefIdeal.nD → PrngReg), Pre_ExpertsOneRefIdeal_experts_named m →
    θ_run (Cert.ExpertsOneRefIdeal.defs (F := Ideal)) (onTc (τ := Cert.ExpertsOneRefIdeal.τ) (Cert.ExpertsOneRefIdeal.main (F := Ideal))) ⟨m, fun _ => 0, g⟩ (fun r => (∀ c : Dev Cert.ExpertsOneRefIdeal.nD,
      r.2.mem ((c.tc : Thread Cert.ExpertsOneRefIdeal.nD Cert.ExpertsOneRefIdeal.τ).loc Cert.ExpertsOneRefIdeal.main_arg0) = m ((c.tc : Thread Cert.ExpertsOneRefIdeal.nD Cert.ExpertsOneRefIdeal.τ).loc Cert.ExpertsOneRefIdeal.main_arg0)
      ∧ r.2.mem ((c.tc : Thread Cert.ExpertsOneRefIdeal.nD Cert.ExpertsOneRefIdeal.τ).loc Cert.ExpertsOneRefIdeal.main_arg1) = m ((c.tc : Thread Cert.ExpertsOneRefIdeal.nD Cert.ExpertsOneRefIdeal.τ).loc Cert.ExpertsOneRefIdeal.main_arg1)
      ∧ r.2.mem ((c.tc : Thread Cert.ExpertsOneRefIdeal.nD Cert.ExpertsOneRefIdeal.τ).loc Cert.ExpertsOneRefIdeal.main_arg2) = m ((c.tc : Thread Cert.ExpertsOneRefIdeal.nD Cert.ExpertsOneRefIdeal.τ).loc Cert.ExpertsOneRefIdeal.main_arg2)
      ∧ r.2.mem ((c.tc : Thread Cert.ExpertsOneRefIdeal.nD Cert.ExpertsOneRefIdeal.τ).loc Cert.ExpertsOneRefIdeal.main_arg3) = m ((c.tc : Thread Cert.ExpertsOneRefIdeal.nD Cert.ExpertsOneRefIdeal.τ).loc Cert.ExpertsOneRefIdeal.main_arg3)
      ∧ r.2.mem ((c.tc : Thread Cert.ExpertsOneRefIdeal.nD Cert.ExpertsOneRefIdeal.τ).loc Cert.ExpertsOneRefIdeal.main_arg4) = m ((c.tc : Thread Cert.ExpertsOneRefIdeal.nD Cert.ExpertsOneRefIdeal.τ).loc Cert.ExpertsOneRefIdeal.main_arg4)
      ∧ r.2.mem ((c.tc : Thread Cert.ExpertsOneRefIdeal.nD Cert.ExpertsOneRefIdeal.τ).loc Cert.ExpertsOneRefIdeal.main_arg5) = m ((c.tc : Thread Cert.ExpertsOneRefIdeal.nD Cert.ExpertsOneRefIdeal.τ).loc Cert.ExpertsOneRefIdeal.main_arg5))
      ∧ r.2.sem = fun _ => 0)

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v7)) (v1 : (c : Dev Cert.MemkvIdeal.nD) → Buf (Elt Ideal) ((c.tc : Thread Cert.MemkvIdeal.nD Cert.MemkvIdeal.τ).loc Cert.MemkvIdeal.main_v9)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v7) = v0 c
          ∧ r.2.mem ((c.tc : Thread Cert.MemkvIdeal.nD Cert.MemkvIdeal.τ).loc Cert.MemkvIdeal.main_v9) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v48) = v0 c
          ∧ r.2.mem ((c.tc : Thread Cert.MemkvRefIdeal.nD Cert.MemkvRefIdeal.τ).loc Cert.MemkvRefIdeal.main_v51) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_LayerOne_LayerOneIdeal : Prop :=
  True

def algebraic_LayerOneIdeal_LayerOneRefIdeal_pre_finite_qm [hLayerOneIdeal : Cert.LayerOneIdeal.Facts] [hLayerOneRefIdeal : Cert.LayerOneRefIdeal.Facts] [hPre_finite_qm : Cert.Pre_finite_qm.Facts] : Prop :=
  ∀ (m : (ℓ : Loc Cert.LayerOneIdeal.nD Cert.LayerOneIdeal.τ Cert.LayerOneIdeal.sig) → Buf (Elt Ideal) ℓ) (g : Dev Cert.LayerOneIdeal.nD → PrngReg)
    (m' : (ℓ : Loc Cert.LayerOneRefIdeal.nD Cert.LayerOneRefIdeal.τ Cert.LayerOneRefIdeal.sig) → Buf (Elt Ideal) ℓ) (g' : Dev Cert.LayerOneRefIdeal.nD → PrngReg), Pre_LayerOneIdeal_finite_qm m →
    (∀ c : Dev Cert.LayerOneIdeal.nD,
      m' ((c.tc : Thread Cert.LayerOneRefIdeal.nD Cert.LayerOneRefIdeal.τ).loc Cert.LayerOneRefIdeal.main_arg0) = m ((c.tc : Thread Cert.LayerOneIdeal.nD Cert.LayerOneIdeal.τ).loc Cert.LayerOneIdeal.main_arg0)
      ∧ m' ((c.tc : Thread Cert.LayerOneRefIdeal.nD Cert.LayerOneRefIdeal.τ).loc Cert.LayerOneRefIdeal.main_arg1) = m ((c.tc : Thread Cert.LayerOneIdeal.nD Cert.LayerOneIdeal.τ).loc Cert.LayerOneIdeal.main_arg1)
      ∧ m' ((c.tc : Thread Cert.LayerOneRefIdeal.nD Cert.LayerOneRefIdeal.τ).loc Cert.LayerOneRefIdeal.main_arg2) = m ((c.tc : Thread Cert.LayerOneIdeal.nD Cert.LayerOneIdeal.τ).loc Cert.LayerOneIdeal.main_arg2)
      ∧ m' ((c.tc : Thread Cert.LayerOneRefIdeal.nD Cert.LayerOneRefIdeal.τ).loc Cert.LayerOneRefIdeal.main_arg3) = m ((c.tc : Thread Cert.LayerOneIdeal.nD Cert.LayerOneIdeal.τ).loc Cert.LayerOneIdeal.main_arg3)
      ∧ m' ((c.tc : Thread Cert.LayerOneRefIdeal.nD Cert.LayerOneRefIdeal.τ).loc Cert.LayerOneRefIdeal.main_arg4) = m ((c.tc : Thread Cert.LayerOneIdeal.nD Cert.LayerOneIdeal.τ).loc Cert.LayerOneIdeal.main_arg4)
      ∧ m' ((c.tc : Thread Cert.LayerOneRefIdeal.nD Cert.LayerOneRefIdeal.τ).loc Cert.LayerOneRefIdeal.main_arg5) = m ((c.tc : Thread Cert.LayerOneIdeal.nD Cert.LayerOneIdeal.τ).loc Cert.LayerOneIdeal.main_arg5)
      ∧ m' ((c.tc : Thread Cert.LayerOneRefIdeal.nD Cert.LayerOneRefIdeal.τ).loc Cert.LayerOneRefIdeal.main_arg6) = m ((c.tc : Thread Cert.LayerOneIdeal.nD Cert.LayerOneIdeal.τ).loc Cert.LayerOneIdeal.main_arg6)
      ∧ m' ((c.tc : Thread Cert.LayerOneRefIdeal.nD Cert.LayerOneRefIdeal.τ).loc Cert.LayerOneRefIdeal.main_arg7) = m ((c.tc : Thread Cert.LayerOneIdeal.nD Cert.LayerOneIdeal.τ).loc Cert.LayerOneIdeal.main_arg7)
      ∧ m' ((c.tc : Thread Cert.LayerOneRefIdeal.nD Cert.LayerOneRefIdeal.τ).loc Cert.LayerOneRefIdeal.main_arg8) = m ((c.tc : Thread Cert.LayerOneIdeal.nD Cert.LayerOneIdeal.τ).loc Cert.LayerOneIdeal.main_arg8)
      ∧ m' ((c.tc : Thread Cert.LayerOneRefIdeal.nD Cert.LayerOneRefIdeal.τ).loc Cert.LayerOneRefIdeal.main_arg9) = m ((c.tc : Thread Cert.LayerOneIdeal.nD Cert.LayerOneIdeal.τ).loc Cert.LayerOneIdeal.main_arg9)) →
    ∃ (v0 : (c : Dev Cert.LayerOneIdeal.nD) → Buf (Elt Ideal) ((c.tc : Thread Cert.LayerOneIdeal.nD Cert.LayerOneIdeal.τ).loc Cert.LayerOneIdeal.main_v18_0)) (v1 : (c : Dev Cert.LayerOneIdeal.nD) → Buf (Elt Ideal) ((c.tc : Thread Cert.LayerOneIdeal.nD Cert.LayerOneIdeal.τ).loc Cert.LayerOneIdeal.main_v18_1)),
      θ_run (Cert.LayerOneIdeal.defs (F := Ideal)) (onTc (τ := Cert.LayerOneIdeal.τ) (Cert.LayerOneIdeal.main (F := Ideal))) ⟨m, fun _ => 0, g⟩ (fun r => ∀ c : Dev Cert.LayerOneIdeal.nD,
          r.2.mem ((c.tc : Thread Cert.LayerOneIdeal.nD Cert.LayerOneIdeal.τ).loc Cert.LayerOneIdeal.main_v18_0) = v0 c
          ∧ r.2.mem ((c.tc : Thread Cert.LayerOneIdeal.nD Cert.LayerOneIdeal.τ).loc Cert.LayerOneIdeal.main_v18_1) = v1 c
          ∧ r.2.mem ((c.tc : Thread Cert.LayerOneIdeal.nD Cert.LayerOneIdeal.τ).loc Cert.LayerOneIdeal.main_arg0) = m ((c.tc : Thread Cert.LayerOneIdeal.nD Cert.LayerOneIdeal.τ).loc Cert.LayerOneIdeal.main_arg0)
          ∧ r.2.mem ((c.tc : Thread Cert.LayerOneIdeal.nD Cert.LayerOneIdeal.τ).loc Cert.LayerOneIdeal.main_arg1) = m ((c.tc : Thread Cert.LayerOneIdeal.nD Cert.LayerOneIdeal.τ).loc Cert.LayerOneIdeal.main_arg1)
          ∧ r.2.mem ((c.tc : Thread Cert.LayerOneIdeal.nD Cert.LayerOneIdeal.τ).loc Cert.LayerOneIdeal.main_arg2) = m ((c.tc : Thread Cert.LayerOneIdeal.nD Cert.LayerOneIdeal.τ).loc Cert.LayerOneIdeal.main_arg2)
          ∧ r.2.mem ((c.tc : Thread Cert.LayerOneIdeal.nD Cert.LayerOneIdeal.τ).loc Cert.LayerOneIdeal.main_arg3) = m ((c.tc : Thread Cert.LayerOneIdeal.nD Cert.LayerOneIdeal.τ).loc Cert.LayerOneIdeal.main_arg3)
          ∧ r.2.mem ((c.tc : Thread Cert.LayerOneIdeal.nD Cert.LayerOneIdeal.τ).loc Cert.LayerOneIdeal.main_arg4) = m ((c.tc : Thread Cert.LayerOneIdeal.nD Cert.LayerOneIdeal.τ).loc Cert.LayerOneIdeal.main_arg4)
          ∧ r.2.mem ((c.tc : Thread Cert.LayerOneIdeal.nD Cert.LayerOneIdeal.τ).loc Cert.LayerOneIdeal.main_arg5) = m ((c.tc : Thread Cert.LayerOneIdeal.nD Cert.LayerOneIdeal.τ).loc Cert.LayerOneIdeal.main_arg5)
          ∧ r.2.mem ((c.tc : Thread Cert.LayerOneIdeal.nD Cert.LayerOneIdeal.τ).loc Cert.LayerOneIdeal.main_arg6) = m ((c.tc : Thread Cert.LayerOneIdeal.nD Cert.LayerOneIdeal.τ).loc Cert.LayerOneIdeal.main_arg6)
          ∧ r.2.mem ((c.tc : Thread Cert.LayerOneIdeal.nD Cert.LayerOneIdeal.τ).loc Cert.LayerOneIdeal.main_arg7) = m ((c.tc : Thread Cert.LayerOneIdeal.nD Cert.LayerOneIdeal.τ).loc Cert.LayerOneIdeal.main_arg7)
          ∧ r.2.mem ((c.tc : Thread Cert.LayerOneIdeal.nD Cert.LayerOneIdeal.τ).loc Cert.LayerOneIdeal.main_arg8) = m ((c.tc : Thread Cert.LayerOneIdeal.nD Cert.LayerOneIdeal.τ).loc Cert.LayerOneIdeal.main_arg8)
          ∧ r.2.mem ((c.tc : Thread Cert.LayerOneIdeal.nD Cert.LayerOneIdeal.τ).loc Cert.LayerOneIdeal.main_arg9) = m ((c.tc : Thread Cert.LayerOneIdeal.nD Cert.LayerOneIdeal.τ).loc Cert.LayerOneIdeal.main_arg9))
      ∧ θ_run (Cert.LayerOneRefIdeal.defs (F := Ideal)) (onTc (τ := Cert.LayerOneRefIdeal.τ) (Cert.LayerOneRefIdeal.main (F := Ideal))) ⟨m', fun _ => 0, g'⟩ (fun r => ∀ c : Dev Cert.LayerOneRefIdeal.nD,
          r.2.mem ((c.tc : Thread Cert.LayerOneRefIdeal.nD Cert.LayerOneRefIdeal.τ).loc Cert.LayerOneRefIdeal.main_v29) = v0 c
          ∧ r.2.mem ((c.tc : Thread Cert.LayerOneRefIdeal.nD Cert.LayerOneRefIdeal.τ).loc Cert.LayerOneRefIdeal.main_v44) = v1 c
          ∧ r.2.mem ((c.tc : Thread Cert.LayerOneRefIdeal.nD Cert.LayerOneRefIdeal.τ).loc Cert.LayerOneRefIdeal.main_arg0) = m' ((c.tc : Thread Cert.LayerOneRefIdeal.nD Cert.LayerOneRefIdeal.τ).loc Cert.LayerOneRefIdeal.main_arg0)
          ∧ r.2.mem ((c.tc : Thread Cert.LayerOneRefIdeal.nD Cert.LayerOneRefIdeal.τ).loc Cert.LayerOneRefIdeal.main_arg1) = m' ((c.tc : Thread Cert.LayerOneRefIdeal.nD Cert.LayerOneRefIdeal.τ).loc Cert.LayerOneRefIdeal.main_arg1)
          ∧ r.2.mem ((c.tc : Thread Cert.LayerOneRefIdeal.nD Cert.LayerOneRefIdeal.τ).loc Cert.LayerOneRefIdeal.main_arg2) = m' ((c.tc : Thread Cert.LayerOneRefIdeal.nD Cert.LayerOneRefIdeal.τ).loc Cert.LayerOneRefIdeal.main_arg2)
          ∧ r.2.mem ((c.tc : Thread Cert.LayerOneRefIdeal.nD Cert.LayerOneRefIdeal.τ).loc Cert.LayerOneRefIdeal.main_arg3) = m' ((c.tc : Thread Cert.LayerOneRefIdeal.nD Cert.LayerOneRefIdeal.τ).loc Cert.LayerOneRefIdeal.main_arg3)
          ∧ r.2.mem ((c.tc : Thread Cert.LayerOneRefIdeal.nD Cert.LayerOneRefIdeal.τ).loc Cert.LayerOneRefIdeal.main_arg4) = m' ((c.tc : Thread Cert.LayerOneRefIdeal.nD Cert.LayerOneRefIdeal.τ).loc Cert.LayerOneRefIdeal.main_arg4)
          ∧ r.2.mem ((c.tc : Thread Cert.LayerOneRefIdeal.nD Cert.LayerOneRefIdeal.τ).loc Cert.LayerOneRefIdeal.main_arg5) = m' ((c.tc : Thread Cert.LayerOneRefIdeal.nD Cert.LayerOneRefIdeal.τ).loc Cert.LayerOneRefIdeal.main_arg5)
          ∧ r.2.mem ((c.tc : Thread Cert.LayerOneRefIdeal.nD Cert.LayerOneRefIdeal.τ).loc Cert.LayerOneRefIdeal.main_arg6) = m' ((c.tc : Thread Cert.LayerOneRefIdeal.nD Cert.LayerOneRefIdeal.τ).loc Cert.LayerOneRefIdeal.main_arg6)
          ∧ r.2.mem ((c.tc : Thread Cert.LayerOneRefIdeal.nD Cert.LayerOneRefIdeal.τ).loc Cert.LayerOneRefIdeal.main_arg7) = m' ((c.tc : Thread Cert.LayerOneRefIdeal.nD Cert.LayerOneRefIdeal.τ).loc Cert.LayerOneRefIdeal.main_arg7)
          ∧ r.2.mem ((c.tc : Thread Cert.LayerOneRefIdeal.nD Cert.LayerOneRefIdeal.τ).loc Cert.LayerOneRefIdeal.main_arg8) = m' ((c.tc : Thread Cert.LayerOneRefIdeal.nD Cert.LayerOneRefIdeal.τ).loc Cert.LayerOneRefIdeal.main_arg8)
          ∧ r.2.mem ((c.tc : Thread Cert.LayerOneRefIdeal.nD Cert.LayerOneRefIdeal.τ).loc Cert.LayerOneRefIdeal.main_arg9) = m' ((c.tc : Thread Cert.LayerOneRefIdeal.nD Cert.LayerOneRefIdeal.τ).loc Cert.LayerOneRefIdeal.main_arg9))

def preserves_LayerZero_LayerZeroIdeal : Prop :=
  True

def algebraic_LayerZeroIdeal_LayerZeroRefIdeal_pre_finite_in [hLayerZeroIdeal : Cert.LayerZeroIdeal.Facts] [hLayerZeroRefIdeal : Cert.LayerZeroRefIdeal.Facts] [hPre_finite_in : Cert.Pre_finite_in.Facts] : Prop :=
  ∀ (m : (ℓ : Loc Cert.LayerZeroIdeal.nD Cert.LayerZeroIdeal.τ Cert.LayerZeroIdeal.sig) → Buf (Elt Ideal) ℓ) (g : Dev Cert.LayerZeroIdeal.nD → PrngReg)
    (m' : (ℓ : Loc Cert.LayerZeroRefIdeal.nD Cert.LayerZeroRefIdeal.τ Cert.LayerZeroRefIdeal.sig) → Buf (Elt Ideal) ℓ) (g' : Dev Cert.LayerZeroRefIdeal.nD → PrngReg), Pre_LayerZeroIdeal_finite_in m →
    (∀ c : Dev Cert.LayerZeroIdeal.nD,
      m' ((c.tc : Thread Cert.LayerZeroRefIdeal.nD Cert.LayerZeroRefIdeal.τ).loc Cert.LayerZeroRefIdeal.main_arg0) = m ((c.tc : Thread Cert.LayerZeroIdeal.nD Cert.LayerZeroIdeal.τ).loc Cert.LayerZeroIdeal.main_arg0)
      ∧ m' ((c.tc : Thread Cert.LayerZeroRefIdeal.nD Cert.LayerZeroRefIdeal.τ).loc Cert.LayerZeroRefIdeal.main_arg1) = m ((c.tc : Thread Cert.LayerZeroIdeal.nD Cert.LayerZeroIdeal.τ).loc Cert.LayerZeroIdeal.main_arg1)
      ∧ m' ((c.tc : Thread Cert.LayerZeroRefIdeal.nD Cert.LayerZeroRefIdeal.τ).loc Cert.LayerZeroRefIdeal.main_arg2) = m ((c.tc : Thread Cert.LayerZeroIdeal.nD Cert.LayerZeroIdeal.τ).loc Cert.LayerZeroIdeal.main_arg2)
      ∧ m' ((c.tc : Thread Cert.LayerZeroRefIdeal.nD Cert.LayerZeroRefIdeal.τ).loc Cert.LayerZeroRefIdeal.main_arg3) = m ((c.tc : Thread Cert.LayerZeroIdeal.nD Cert.LayerZeroIdeal.τ).loc Cert.LayerZeroIdeal.main_arg3)
      ∧ m' ((c.tc : Thread Cert.LayerZeroRefIdeal.nD Cert.LayerZeroRefIdeal.τ).loc Cert.LayerZeroRefIdeal.main_arg4) = m ((c.tc : Thread Cert.LayerZeroIdeal.nD Cert.LayerZeroIdeal.τ).loc Cert.LayerZeroIdeal.main_arg4)
      ∧ m' ((c.tc : Thread Cert.LayerZeroRefIdeal.nD Cert.LayerZeroRefIdeal.τ).loc Cert.LayerZeroRefIdeal.main_arg5) = m ((c.tc : Thread Cert.LayerZeroIdeal.nD Cert.LayerZeroIdeal.τ).loc Cert.LayerZeroIdeal.main_arg5)
      ∧ m' ((c.tc : Thread Cert.LayerZeroRefIdeal.nD Cert.LayerZeroRefIdeal.τ).loc Cert.LayerZeroRefIdeal.main_arg6) = m ((c.tc : Thread Cert.LayerZeroIdeal.nD Cert.LayerZeroIdeal.τ).loc Cert.LayerZeroIdeal.main_arg6)
      ∧ m' ((c.tc : Thread Cert.LayerZeroRefIdeal.nD Cert.LayerZeroRefIdeal.τ).loc Cert.LayerZeroRefIdeal.main_arg7) = m ((c.tc : Thread Cert.LayerZeroIdeal.nD Cert.LayerZeroIdeal.τ).loc Cert.LayerZeroIdeal.main_arg7)
      ∧ m' ((c.tc : Thread Cert.LayerZeroRefIdeal.nD Cert.LayerZeroRefIdeal.τ).loc Cert.LayerZeroRefIdeal.main_arg8) = m ((c.tc : Thread Cert.LayerZeroIdeal.nD Cert.LayerZeroIdeal.τ).loc Cert.LayerZeroIdeal.main_arg8)
      ∧ m' ((c.tc : Thread Cert.LayerZeroRefIdeal.nD Cert.LayerZeroRefIdeal.τ).loc Cert.LayerZeroRefIdeal.main_arg9) = m ((c.tc : Thread Cert.LayerZeroIdeal.nD Cert.LayerZeroIdeal.τ).loc Cert.LayerZeroIdeal.main_arg9)
      ∧ m' ((c.tc : Thread Cert.LayerZeroRefIdeal.nD Cert.LayerZeroRefIdeal.τ).loc Cert.LayerZeroRefIdeal.main_arg10) = m ((c.tc : Thread Cert.LayerZeroIdeal.nD Cert.LayerZeroIdeal.τ).loc Cert.LayerZeroIdeal.main_arg10)
      ∧ m' ((c.tc : Thread Cert.LayerZeroRefIdeal.nD Cert.LayerZeroRefIdeal.τ).loc Cert.LayerZeroRefIdeal.main_arg11) = m ((c.tc : Thread Cert.LayerZeroIdeal.nD Cert.LayerZeroIdeal.τ).loc Cert.LayerZeroIdeal.main_arg11)
      ∧ m' ((c.tc : Thread Cert.LayerZeroRefIdeal.nD Cert.LayerZeroRefIdeal.τ).loc Cert.LayerZeroRefIdeal.main_arg12) = m ((c.tc : Thread Cert.LayerZeroIdeal.nD Cert.LayerZeroIdeal.τ).loc Cert.LayerZeroIdeal.main_arg12)
      ∧ m' ((c.tc : Thread Cert.LayerZeroRefIdeal.nD Cert.LayerZeroRefIdeal.τ).loc Cert.LayerZeroRefIdeal.main_arg13) = m ((c.tc : Thread Cert.LayerZeroIdeal.nD Cert.LayerZeroIdeal.τ).loc Cert.LayerZeroIdeal.main_arg13)) →
    ∃ (v0 : (c : Dev Cert.LayerZeroIdeal.nD) → Buf (Elt Ideal) ((c.tc : Thread Cert.LayerZeroIdeal.nD Cert.LayerZeroIdeal.τ).loc Cert.LayerZeroIdeal.main_v32_0)) (v1 : (c : Dev Cert.LayerZeroIdeal.nD) → Buf (Elt Ideal) ((c.tc : Thread Cert.LayerZeroIdeal.nD Cert.LayerZeroIdeal.τ).loc Cert.LayerZeroIdeal.main_v32_1)) (v2 : (c : Dev Cert.LayerZeroIdeal.nD) → Buf (Elt Ideal) ((c.tc : Thread Cert.LayerZeroIdeal.nD Cert.LayerZeroIdeal.τ).loc Cert.LayerZeroIdeal.main_v32_4)),
      θ_run (Cert.LayerZeroIdeal.defs (F := Ideal)) (onTc (τ := Cert.LayerZeroIdeal.τ) (Cert.LayerZeroIdeal.main (F := Ideal))) ⟨m, fun _ => 0, g⟩ (fun r => ∀ c : Dev Cert.LayerZeroIdeal.nD,
          r.2.mem ((c.tc : Thread Cert.LayerZeroIdeal.nD Cert.LayerZeroIdeal.τ).loc Cert.LayerZeroIdeal.main_v32_0) = v0 c
          ∧ r.2.mem ((c.tc : Thread Cert.LayerZeroIdeal.nD Cert.LayerZeroIdeal.τ).loc Cert.LayerZeroIdeal.main_v32_1) = v1 c
          ∧ r.2.mem ((c.tc : Thread Cert.LayerZeroIdeal.nD Cert.LayerZeroIdeal.τ).loc Cert.LayerZeroIdeal.main_v32_4) = v2 c
          ∧ r.2.mem ((c.tc : Thread Cert.LayerZeroIdeal.nD Cert.LayerZeroIdeal.τ).loc Cert.LayerZeroIdeal.main_arg0) = m ((c.tc : Thread Cert.LayerZeroIdeal.nD Cert.LayerZeroIdeal.τ).loc Cert.LayerZeroIdeal.main_arg0)
          ∧ r.2.mem ((c.tc : Thread Cert.LayerZeroIdeal.nD Cert.LayerZeroIdeal.τ).loc Cert.LayerZeroIdeal.main_arg1) = m ((c.tc : Thread Cert.LayerZeroIdeal.nD Cert.LayerZeroIdeal.τ).loc Cert.LayerZeroIdeal.main_arg1)
          ∧ r.2.mem ((c.tc : Thread Cert.LayerZeroIdeal.nD Cert.LayerZeroIdeal.τ).loc Cert.LayerZeroIdeal.main_arg2) = m ((c.tc : Thread Cert.LayerZeroIdeal.nD Cert.LayerZeroIdeal.τ).loc Cert.LayerZeroIdeal.main_arg2)
          ∧ r.2.mem ((c.tc : Thread Cert.LayerZeroIdeal.nD Cert.LayerZeroIdeal.τ).loc Cert.LayerZeroIdeal.main_arg3) = m ((c.tc : Thread Cert.LayerZeroIdeal.nD Cert.LayerZeroIdeal.τ).loc Cert.LayerZeroIdeal.main_arg3)
          ∧ r.2.mem ((c.tc : Thread Cert.LayerZeroIdeal.nD Cert.LayerZeroIdeal.τ).loc Cert.LayerZeroIdeal.main_arg4) = m ((c.tc : Thread Cert.LayerZeroIdeal.nD Cert.LayerZeroIdeal.τ).loc Cert.LayerZeroIdeal.main_arg4)
          ∧ r.2.mem ((c.tc : Thread Cert.LayerZeroIdeal.nD Cert.LayerZeroIdeal.τ).loc Cert.LayerZeroIdeal.main_arg5) = m ((c.tc : Thread Cert.LayerZeroIdeal.nD Cert.LayerZeroIdeal.τ).loc Cert.LayerZeroIdeal.main_arg5)
          ∧ r.2.mem ((c.tc : Thread Cert.LayerZeroIdeal.nD Cert.LayerZeroIdeal.τ).loc Cert.LayerZeroIdeal.main_arg6) = m ((c.tc : Thread Cert.LayerZeroIdeal.nD Cert.LayerZeroIdeal.τ).loc Cert.LayerZeroIdeal.main_arg6)
          ∧ r.2.mem ((c.tc : Thread Cert.LayerZeroIdeal.nD Cert.LayerZeroIdeal.τ).loc Cert.LayerZeroIdeal.main_arg7) = m ((c.tc : Thread Cert.LayerZeroIdeal.nD Cert.LayerZeroIdeal.τ).loc Cert.LayerZeroIdeal.main_arg7)
          ∧ r.2.mem ((c.tc : Thread Cert.LayerZeroIdeal.nD Cert.LayerZeroIdeal.τ).loc Cert.LayerZeroIdeal.main_arg8) = m ((c.tc : Thread Cert.LayerZeroIdeal.nD Cert.LayerZeroIdeal.τ).loc Cert.LayerZeroIdeal.main_arg8)
          ∧ r.2.mem ((c.tc : Thread Cert.LayerZeroIdeal.nD Cert.LayerZeroIdeal.τ).loc Cert.LayerZeroIdeal.main_arg9) = m ((c.tc : Thread Cert.LayerZeroIdeal.nD Cert.LayerZeroIdeal.τ).loc Cert.LayerZeroIdeal.main_arg9)
          ∧ r.2.mem ((c.tc : Thread Cert.LayerZeroIdeal.nD Cert.LayerZeroIdeal.τ).loc Cert.LayerZeroIdeal.main_arg10) = m ((c.tc : Thread Cert.LayerZeroIdeal.nD Cert.LayerZeroIdeal.τ).loc Cert.LayerZeroIdeal.main_arg10)
          ∧ r.2.mem ((c.tc : Thread Cert.LayerZeroIdeal.nD Cert.LayerZeroIdeal.τ).loc Cert.LayerZeroIdeal.main_arg11) = m ((c.tc : Thread Cert.LayerZeroIdeal.nD Cert.LayerZeroIdeal.τ).loc Cert.LayerZeroIdeal.main_arg11)
          ∧ r.2.mem ((c.tc : Thread Cert.LayerZeroIdeal.nD Cert.LayerZeroIdeal.τ).loc Cert.LayerZeroIdeal.main_arg12) = m ((c.tc : Thread Cert.LayerZeroIdeal.nD Cert.LayerZeroIdeal.τ).loc Cert.LayerZeroIdeal.main_arg12)
          ∧ r.2.mem ((c.tc : Thread Cert.LayerZeroIdeal.nD Cert.LayerZeroIdeal.τ).loc Cert.LayerZeroIdeal.main_arg13) = m ((c.tc : Thread Cert.LayerZeroIdeal.nD Cert.LayerZeroIdeal.τ).loc Cert.LayerZeroIdeal.main_arg13))
      ∧ θ_run (Cert.LayerZeroRefIdeal.defs (F := Ideal)) (onTc (τ := Cert.LayerZeroRefIdeal.τ) (Cert.LayerZeroRefIdeal.main (F := Ideal))) ⟨m', fun _ => 0, g'⟩ (fun r => ∀ c : Dev Cert.LayerZeroRefIdeal.nD,
          r.2.mem ((c.tc : Thread Cert.LayerZeroRefIdeal.nD Cert.LayerZeroRefIdeal.τ).loc Cert.LayerZeroRefIdeal.main_v328) = v0 c
          ∧ r.2.mem ((c.tc : Thread Cert.LayerZeroRefIdeal.nD Cert.LayerZeroRefIdeal.τ).loc Cert.LayerZeroRefIdeal.main_v329) = v1 c
          ∧ r.2.mem ((c.tc : Thread Cert.LayerZeroRefIdeal.nD Cert.LayerZeroRefIdeal.τ).loc Cert.LayerZeroRefIdeal.main_v29) = v2 c
          ∧ r.2.mem ((c.tc : Thread Cert.LayerZeroRefIdeal.nD Cert.LayerZeroRefIdeal.τ).loc Cert.LayerZeroRefIdeal.main_arg0) = m' ((c.tc : Thread Cert.LayerZeroRefIdeal.nD Cert.LayerZeroRefIdeal.τ).loc Cert.LayerZeroRefIdeal.main_arg0)
          ∧ r.2.mem ((c.tc : Thread Cert.LayerZeroRefIdeal.nD Cert.LayerZeroRefIdeal.τ).loc Cert.LayerZeroRefIdeal.main_arg1) = m' ((c.tc : Thread Cert.LayerZeroRefIdeal.nD Cert.LayerZeroRefIdeal.τ).loc Cert.LayerZeroRefIdeal.main_arg1)
          ∧ r.2.mem ((c.tc : Thread Cert.LayerZeroRefIdeal.nD Cert.LayerZeroRefIdeal.τ).loc Cert.LayerZeroRefIdeal.main_arg2) = m' ((c.tc : Thread Cert.LayerZeroRefIdeal.nD Cert.LayerZeroRefIdeal.τ).loc Cert.LayerZeroRefIdeal.main_arg2)
          ∧ r.2.mem ((c.tc : Thread Cert.LayerZeroRefIdeal.nD Cert.LayerZeroRefIdeal.τ).loc Cert.LayerZeroRefIdeal.main_arg3) = m' ((c.tc : Thread Cert.LayerZeroRefIdeal.nD Cert.LayerZeroRefIdeal.τ).loc Cert.LayerZeroRefIdeal.main_arg3)
          ∧ r.2.mem ((c.tc : Thread Cert.LayerZeroRefIdeal.nD Cert.LayerZeroRefIdeal.τ).loc Cert.LayerZeroRefIdeal.main_arg4) = m' ((c.tc : Thread Cert.LayerZeroRefIdeal.nD Cert.LayerZeroRefIdeal.τ).loc Cert.LayerZeroRefIdeal.main_arg4)
          ∧ r.2.mem ((c.tc : Thread Cert.LayerZeroRefIdeal.nD Cert.LayerZeroRefIdeal.τ).loc Cert.LayerZeroRefIdeal.main_arg5) = m' ((c.tc : Thread Cert.LayerZeroRefIdeal.nD Cert.LayerZeroRefIdeal.τ).loc Cert.LayerZeroRefIdeal.main_arg5)
          ∧ r.2.mem ((c.tc : Thread Cert.LayerZeroRefIdeal.nD Cert.LayerZeroRefIdeal.τ).loc Cert.LayerZeroRefIdeal.main_arg6) = m' ((c.tc : Thread Cert.LayerZeroRefIdeal.nD Cert.LayerZeroRefIdeal.τ).loc Cert.LayerZeroRefIdeal.main_arg6)
          ∧ r.2.mem ((c.tc : Thread Cert.LayerZeroRefIdeal.nD Cert.LayerZeroRefIdeal.τ).loc Cert.LayerZeroRefIdeal.main_arg7) = m' ((c.tc : Thread Cert.LayerZeroRefIdeal.nD Cert.LayerZeroRefIdeal.τ).loc Cert.LayerZeroRefIdeal.main_arg7)
          ∧ r.2.mem ((c.tc : Thread Cert.LayerZeroRefIdeal.nD Cert.LayerZeroRefIdeal.τ).loc Cert.LayerZeroRefIdeal.main_arg8) = m' ((c.tc : Thread Cert.LayerZeroRefIdeal.nD Cert.LayerZeroRefIdeal.τ).loc Cert.LayerZeroRefIdeal.main_arg8)
          ∧ r.2.mem ((c.tc : Thread Cert.LayerZeroRefIdeal.nD Cert.LayerZeroRefIdeal.τ).loc Cert.LayerZeroRefIdeal.main_arg9) = m' ((c.tc : Thread Cert.LayerZeroRefIdeal.nD Cert.LayerZeroRefIdeal.τ).loc Cert.LayerZeroRefIdeal.main_arg9)
          ∧ r.2.mem ((c.tc : Thread Cert.LayerZeroRefIdeal.nD Cert.LayerZeroRefIdeal.τ).loc Cert.LayerZeroRefIdeal.main_arg10) = m' ((c.tc : Thread Cert.LayerZeroRefIdeal.nD Cert.LayerZeroRefIdeal.τ).loc Cert.LayerZeroRefIdeal.main_arg10)
          ∧ r.2.mem ((c.tc : Thread Cert.LayerZeroRefIdeal.nD Cert.LayerZeroRefIdeal.τ).loc Cert.LayerZeroRefIdeal.main_arg11) = m' ((c.tc : Thread Cert.LayerZeroRefIdeal.nD Cert.LayerZeroRefIdeal.τ).loc Cert.LayerZeroRefIdeal.main_arg11)
          ∧ r.2.mem ((c.tc : Thread Cert.LayerZeroRefIdeal.nD Cert.LayerZeroRefIdeal.τ).loc Cert.LayerZeroRefIdeal.main_arg12) = m' ((c.tc : Thread Cert.LayerZeroRefIdeal.nD Cert.LayerZeroRefIdeal.τ).loc Cert.LayerZeroRefIdeal.main_arg12)
          ∧ r.2.mem ((c.tc : Thread Cert.LayerZeroRefIdeal.nD Cert.LayerZeroRefIdeal.τ).loc Cert.LayerZeroRefIdeal.main_arg13) = m' ((c.tc : Thread Cert.LayerZeroRefIdeal.nD Cert.LayerZeroRefIdeal.τ).loc Cert.LayerZeroRefIdeal.main_arg13))

def preserves_LayerZeroS_LayerZeroSIdeal : Prop :=
  True

def algebraic_LayerZeroSIdeal_LayerZeroSRefIdeal_pre_finite_state [hLayerZeroSIdeal : Cert.LayerZeroSIdeal.Facts] [hLayerZeroSRefIdeal : Cert.LayerZeroSRefIdeal.Facts] [hPre_finite_state : Cert.Pre_finite_state.Facts] : Prop :=
  ∀ (m : (ℓ : Loc Cert.LayerZeroSIdeal.nD Cert.LayerZeroSIdeal.τ Cert.LayerZeroSIdeal.sig) → Buf (Elt Ideal) ℓ) (g : Dev Cert.LayerZeroSIdeal.nD → PrngReg)
    (m' : (ℓ : Loc Cert.LayerZeroSRefIdeal.nD Cert.LayerZeroSRefIdeal.τ Cert.LayerZeroSRefIdeal.sig) → Buf (Elt Ideal) ℓ) (g' : Dev Cert.LayerZeroSRefIdeal.nD → PrngReg), Pre_LayerZeroSIdeal_finite_state m →
    (∀ c : Dev Cert.LayerZeroSIdeal.nD,
      m' ((c.tc : Thread Cert.LayerZeroSRefIdeal.nD Cert.LayerZeroSRefIdeal.τ).loc Cert.LayerZeroSRefIdeal.main_arg0) = m ((c.tc : Thread Cert.LayerZeroSIdeal.nD Cert.LayerZeroSIdeal.τ).loc Cert.LayerZeroSIdeal.main_arg0)
      ∧ m' ((c.tc : Thread Cert.LayerZeroSRefIdeal.nD Cert.LayerZeroSRefIdeal.τ).loc Cert.LayerZeroSRefIdeal.main_arg1) = m ((c.tc : Thread Cert.LayerZeroSIdeal.nD Cert.LayerZeroSIdeal.τ).loc Cert.LayerZeroSIdeal.main_arg1)
      ∧ m' ((c.tc : Thread Cert.LayerZeroSRefIdeal.nD Cert.LayerZeroSRefIdeal.τ).loc Cert.LayerZeroSRefIdeal.main_arg2) = m ((c.tc : Thread Cert.LayerZeroSIdeal.nD Cert.LayerZeroSIdeal.τ).loc Cert.LayerZeroSIdeal.main_arg2)
      ∧ m' ((c.tc : Thread Cert.LayerZeroSRefIdeal.nD Cert.LayerZeroSRefIdeal.τ).loc Cert.LayerZeroSRefIdeal.main_arg3) = m ((c.tc : Thread Cert.LayerZeroSIdeal.nD Cert.LayerZeroSIdeal.τ).loc Cert.LayerZeroSIdeal.main_arg3)
      ∧ m' ((c.tc : Thread Cert.LayerZeroSRefIdeal.nD Cert.LayerZeroSRefIdeal.τ).loc Cert.LayerZeroSRefIdeal.main_arg4) = m ((c.tc : Thread Cert.LayerZeroSIdeal.nD Cert.LayerZeroSIdeal.τ).loc Cert.LayerZeroSIdeal.main_arg4)
      ∧ m' ((c.tc : Thread Cert.LayerZeroSRefIdeal.nD Cert.LayerZeroSRefIdeal.τ).loc Cert.LayerZeroSRefIdeal.main_arg5) = m ((c.tc : Thread Cert.LayerZeroSIdeal.nD Cert.LayerZeroSIdeal.τ).loc Cert.LayerZeroSIdeal.main_arg5)
      ∧ m' ((c.tc : Thread Cert.LayerZeroSRefIdeal.nD Cert.LayerZeroSRefIdeal.τ).loc Cert.LayerZeroSRefIdeal.main_arg6) = m ((c.tc : Thread Cert.LayerZeroSIdeal.nD Cert.LayerZeroSIdeal.τ).loc Cert.LayerZeroSIdeal.main_arg6)
      ∧ m' ((c.tc : Thread Cert.LayerZeroSRefIdeal.nD Cert.LayerZeroSRefIdeal.τ).loc Cert.LayerZeroSRefIdeal.main_arg7) = m ((c.tc : Thread Cert.LayerZeroSIdeal.nD Cert.LayerZeroSIdeal.τ).loc Cert.LayerZeroSIdeal.main_arg7)
      ∧ m' ((c.tc : Thread Cert.LayerZeroSRefIdeal.nD Cert.LayerZeroSRefIdeal.τ).loc Cert.LayerZeroSRefIdeal.main_arg8) = m ((c.tc : Thread Cert.LayerZeroSIdeal.nD Cert.LayerZeroSIdeal.τ).loc Cert.LayerZeroSIdeal.main_arg8)
      ∧ m' ((c.tc : Thread Cert.LayerZeroSRefIdeal.nD Cert.LayerZeroSRefIdeal.τ).loc Cert.LayerZeroSRefIdeal.main_arg9) = m ((c.tc : Thread Cert.LayerZeroSIdeal.nD Cert.LayerZeroSIdeal.τ).loc Cert.LayerZeroSIdeal.main_arg9)
      ∧ m' ((c.tc : Thread Cert.LayerZeroSRefIdeal.nD Cert.LayerZeroSRefIdeal.τ).loc Cert.LayerZeroSRefIdeal.main_arg10) = m ((c.tc : Thread Cert.LayerZeroSIdeal.nD Cert.LayerZeroSIdeal.τ).loc Cert.LayerZeroSIdeal.main_arg10)
      ∧ m' ((c.tc : Thread Cert.LayerZeroSRefIdeal.nD Cert.LayerZeroSRefIdeal.τ).loc Cert.LayerZeroSRefIdeal.main_arg11) = m ((c.tc : Thread Cert.LayerZeroSIdeal.nD Cert.LayerZeroSIdeal.τ).loc Cert.LayerZeroSIdeal.main_arg11)
      ∧ m' ((c.tc : Thread Cert.LayerZeroSRefIdeal.nD Cert.LayerZeroSRefIdeal.τ).loc Cert.LayerZeroSRefIdeal.main_arg12) = m ((c.tc : Thread Cert.LayerZeroSIdeal.nD Cert.LayerZeroSIdeal.τ).loc Cert.LayerZeroSIdeal.main_arg12)
      ∧ m' ((c.tc : Thread Cert.LayerZeroSRefIdeal.nD Cert.LayerZeroSRefIdeal.τ).loc Cert.LayerZeroSRefIdeal.main_arg13) = m ((c.tc : Thread Cert.LayerZeroSIdeal.nD Cert.LayerZeroSIdeal.τ).loc Cert.LayerZeroSIdeal.main_arg13)
      ∧ m' ((c.tc : Thread Cert.LayerZeroSRefIdeal.nD Cert.LayerZeroSRefIdeal.τ).loc Cert.LayerZeroSRefIdeal.main_arg14) = m ((c.tc : Thread Cert.LayerZeroSIdeal.nD Cert.LayerZeroSIdeal.τ).loc Cert.LayerZeroSIdeal.main_arg14)
      ∧ m' ((c.tc : Thread Cert.LayerZeroSRefIdeal.nD Cert.LayerZeroSRefIdeal.τ).loc Cert.LayerZeroSRefIdeal.main_arg15) = m ((c.tc : Thread Cert.LayerZeroSIdeal.nD Cert.LayerZeroSIdeal.τ).loc Cert.LayerZeroSIdeal.main_arg15)) →
    ∃ (v0 : (c : Dev Cert.LayerZeroSIdeal.nD) → Buf (Elt Ideal) ((c.tc : Thread Cert.LayerZeroSIdeal.nD Cert.LayerZeroSIdeal.τ).loc Cert.LayerZeroSIdeal.main_v36_0)) (v1 : (c : Dev Cert.LayerZeroSIdeal.nD) → Buf (Elt Ideal) ((c.tc : Thread Cert.LayerZeroSIdeal.nD Cert.LayerZeroSIdeal.τ).loc Cert.LayerZeroSIdeal.main_v36_1)) (v2 : (c : Dev Cert.LayerZeroSIdeal.nD) → Buf (Elt Ideal) ((c.tc : Thread Cert.LayerZeroSIdeal.nD Cert.LayerZeroSIdeal.τ).loc Cert.LayerZeroSIdeal.main_v36_4)),
      θ_run (Cert.LayerZeroSIdeal.defs (F := Ideal)) (onTc (τ := Cert.LayerZeroSIdeal.τ) (Cert.LayerZeroSIdeal.main (F := Ideal))) ⟨m, fun _ => 0, g⟩ (fun r => ∀ c : Dev Cert.LayerZeroSIdeal.nD,
          r.2.mem ((c.tc : Thread Cert.LayerZeroSIdeal.nD Cert.LayerZeroSIdeal.τ).loc Cert.LayerZeroSIdeal.main_v36_0) = v0 c
          ∧ r.2.mem ((c.tc : Thread Cert.LayerZeroSIdeal.nD Cert.LayerZeroSIdeal.τ).loc Cert.LayerZeroSIdeal.main_v36_1) = v1 c
          ∧ r.2.mem ((c.tc : Thread Cert.LayerZeroSIdeal.nD Cert.LayerZeroSIdeal.τ).loc Cert.LayerZeroSIdeal.main_v36_4) = v2 c
          ∧ r.2.mem ((c.tc : Thread Cert.LayerZeroSIdeal.nD Cert.LayerZeroSIdeal.τ).loc Cert.LayerZeroSIdeal.main_arg0) = m ((c.tc : Thread Cert.LayerZeroSIdeal.nD Cert.LayerZeroSIdeal.τ).loc Cert.LayerZeroSIdeal.main_arg0)
          ∧ r.2.mem ((c.tc : Thread Cert.LayerZeroSIdeal.nD Cert.LayerZeroSIdeal.τ).loc Cert.LayerZeroSIdeal.main_arg1) = m ((c.tc : Thread Cert.LayerZeroSIdeal.nD Cert.LayerZeroSIdeal.τ).loc Cert.LayerZeroSIdeal.main_arg1)
          ∧ r.2.mem ((c.tc : Thread Cert.LayerZeroSIdeal.nD Cert.LayerZeroSIdeal.τ).loc Cert.LayerZeroSIdeal.main_arg2) = m ((c.tc : Thread Cert.LayerZeroSIdeal.nD Cert.LayerZeroSIdeal.τ).loc Cert.LayerZeroSIdeal.main_arg2)
          ∧ r.2.mem ((c.tc : Thread Cert.LayerZeroSIdeal.nD Cert.LayerZeroSIdeal.τ).loc Cert.LayerZeroSIdeal.main_arg3) = m ((c.tc : Thread Cert.LayerZeroSIdeal.nD Cert.LayerZeroSIdeal.τ).loc Cert.LayerZeroSIdeal.main_arg3)
          ∧ r.2.mem ((c.tc : Thread Cert.LayerZeroSIdeal.nD Cert.LayerZeroSIdeal.τ).loc Cert.LayerZeroSIdeal.main_arg4) = m ((c.tc : Thread Cert.LayerZeroSIdeal.nD Cert.LayerZeroSIdeal.τ).loc Cert.LayerZeroSIdeal.main_arg4)
          ∧ r.2.mem ((c.tc : Thread Cert.LayerZeroSIdeal.nD Cert.LayerZeroSIdeal.τ).loc Cert.LayerZeroSIdeal.main_arg5) = m ((c.tc : Thread Cert.LayerZeroSIdeal.nD Cert.LayerZeroSIdeal.τ).loc Cert.LayerZeroSIdeal.main_arg5)
          ∧ r.2.mem ((c.tc : Thread Cert.LayerZeroSIdeal.nD Cert.LayerZeroSIdeal.τ).loc Cert.LayerZeroSIdeal.main_arg6) = m ((c.tc : Thread Cert.LayerZeroSIdeal.nD Cert.LayerZeroSIdeal.τ).loc Cert.LayerZeroSIdeal.main_arg6)
          ∧ r.2.mem ((c.tc : Thread Cert.LayerZeroSIdeal.nD Cert.LayerZeroSIdeal.τ).loc Cert.LayerZeroSIdeal.main_arg7) = m ((c.tc : Thread Cert.LayerZeroSIdeal.nD Cert.LayerZeroSIdeal.τ).loc Cert.LayerZeroSIdeal.main_arg7)
          ∧ r.2.mem ((c.tc : Thread Cert.LayerZeroSIdeal.nD Cert.LayerZeroSIdeal.τ).loc Cert.LayerZeroSIdeal.main_arg8) = m ((c.tc : Thread Cert.LayerZeroSIdeal.nD Cert.LayerZeroSIdeal.τ).loc Cert.LayerZeroSIdeal.main_arg8)
          ∧ r.2.mem ((c.tc : Thread Cert.LayerZeroSIdeal.nD Cert.LayerZeroSIdeal.τ).loc Cert.LayerZeroSIdeal.main_arg9) = m ((c.tc : Thread Cert.LayerZeroSIdeal.nD Cert.LayerZeroSIdeal.τ).loc Cert.LayerZeroSIdeal.main_arg9)
          ∧ r.2.mem ((c.tc : Thread Cert.LayerZeroSIdeal.nD Cert.LayerZeroSIdeal.τ).loc Cert.LayerZeroSIdeal.main_arg10) = m ((c.tc : Thread Cert.LayerZeroSIdeal.nD Cert.LayerZeroSIdeal.τ).loc Cert.LayerZeroSIdeal.main_arg10)
          ∧ r.2.mem ((c.tc : Thread Cert.LayerZeroSIdeal.nD Cert.LayerZeroSIdeal.τ).loc Cert.LayerZeroSIdeal.main_arg11) = m ((c.tc : Thread Cert.LayerZeroSIdeal.nD Cert.LayerZeroSIdeal.τ).loc Cert.LayerZeroSIdeal.main_arg11)
          ∧ r.2.mem ((c.tc : Thread Cert.LayerZeroSIdeal.nD Cert.LayerZeroSIdeal.τ).loc Cert.LayerZeroSIdeal.main_arg12) = m ((c.tc : Thread Cert.LayerZeroSIdeal.nD Cert.LayerZeroSIdeal.τ).loc Cert.LayerZeroSIdeal.main_arg12)
          ∧ r.2.mem ((c.tc : Thread Cert.LayerZeroSIdeal.nD Cert.LayerZeroSIdeal.τ).loc Cert.LayerZeroSIdeal.main_arg13) = m ((c.tc : Thread Cert.LayerZeroSIdeal.nD Cert.LayerZeroSIdeal.τ).loc Cert.LayerZeroSIdeal.main_arg13)
          ∧ r.2.mem ((c.tc : Thread Cert.LayerZeroSIdeal.nD Cert.LayerZeroSIdeal.τ).loc Cert.LayerZeroSIdeal.main_arg14) = m ((c.tc : Thread Cert.LayerZeroSIdeal.nD Cert.LayerZeroSIdeal.τ).loc Cert.LayerZeroSIdeal.main_arg14)
          ∧ r.2.mem ((c.tc : Thread Cert.LayerZeroSIdeal.nD Cert.LayerZeroSIdeal.τ).loc Cert.LayerZeroSIdeal.main_arg15) = m ((c.tc : Thread Cert.LayerZeroSIdeal.nD Cert.LayerZeroSIdeal.τ).loc Cert.LayerZeroSIdeal.main_arg15))
      ∧ θ_run (Cert.LayerZeroSRefIdeal.defs (F := Ideal)) (onTc (τ := Cert.LayerZeroSRefIdeal.τ) (Cert.LayerZeroSRefIdeal.main (F := Ideal))) ⟨m', fun _ => 0, g'⟩ (fun r => ∀ c : Dev Cert.LayerZeroSRefIdeal.nD,
          r.2.mem ((c.tc : Thread Cert.LayerZeroSRefIdeal.nD Cert.LayerZeroSRefIdeal.τ).loc Cert.LayerZeroSRefIdeal.main_v324) = v0 c
          ∧ r.2.mem ((c.tc : Thread Cert.LayerZeroSRefIdeal.nD Cert.LayerZeroSRefIdeal.τ).loc Cert.LayerZeroSRefIdeal.main_v325) = v1 c
          ∧ r.2.mem ((c.tc : Thread Cert.LayerZeroSRefIdeal.nD Cert.LayerZeroSRefIdeal.τ).loc Cert.LayerZeroSRefIdeal.main_v29) = v2 c
          ∧ r.2.mem ((c.tc : Thread Cert.LayerZeroSRefIdeal.nD Cert.LayerZeroSRefIdeal.τ).loc Cert.LayerZeroSRefIdeal.main_arg0) = m' ((c.tc : Thread Cert.LayerZeroSRefIdeal.nD Cert.LayerZeroSRefIdeal.τ).loc Cert.LayerZeroSRefIdeal.main_arg0)
          ∧ r.2.mem ((c.tc : Thread Cert.LayerZeroSRefIdeal.nD Cert.LayerZeroSRefIdeal.τ).loc Cert.LayerZeroSRefIdeal.main_arg1) = m' ((c.tc : Thread Cert.LayerZeroSRefIdeal.nD Cert.LayerZeroSRefIdeal.τ).loc Cert.LayerZeroSRefIdeal.main_arg1)
          ∧ r.2.mem ((c.tc : Thread Cert.LayerZeroSRefIdeal.nD Cert.LayerZeroSRefIdeal.τ).loc Cert.LayerZeroSRefIdeal.main_arg2) = m' ((c.tc : Thread Cert.LayerZeroSRefIdeal.nD Cert.LayerZeroSRefIdeal.τ).loc Cert.LayerZeroSRefIdeal.main_arg2)
          ∧ r.2.mem ((c.tc : Thread Cert.LayerZeroSRefIdeal.nD Cert.LayerZeroSRefIdeal.τ).loc Cert.LayerZeroSRefIdeal.main_arg3) = m' ((c.tc : Thread Cert.LayerZeroSRefIdeal.nD Cert.LayerZeroSRefIdeal.τ).loc Cert.LayerZeroSRefIdeal.main_arg3)
          ∧ r.2.mem ((c.tc : Thread Cert.LayerZeroSRefIdeal.nD Cert.LayerZeroSRefIdeal.τ).loc Cert.LayerZeroSRefIdeal.main_arg4) = m' ((c.tc : Thread Cert.LayerZeroSRefIdeal.nD Cert.LayerZeroSRefIdeal.τ).loc Cert.LayerZeroSRefIdeal.main_arg4)
          ∧ r.2.mem ((c.tc : Thread Cert.LayerZeroSRefIdeal.nD Cert.LayerZeroSRefIdeal.τ).loc Cert.LayerZeroSRefIdeal.main_arg5) = m' ((c.tc : Thread Cert.LayerZeroSRefIdeal.nD Cert.LayerZeroSRefIdeal.τ).loc Cert.LayerZeroSRefIdeal.main_arg5)
          ∧ r.2.mem ((c.tc : Thread Cert.LayerZeroSRefIdeal.nD Cert.LayerZeroSRefIdeal.τ).loc Cert.LayerZeroSRefIdeal.main_arg6) = m' ((c.tc : Thread Cert.LayerZeroSRefIdeal.nD Cert.LayerZeroSRefIdeal.τ).loc Cert.LayerZeroSRefIdeal.main_arg6)
          ∧ r.2.mem ((c.tc : Thread Cert.LayerZeroSRefIdeal.nD Cert.LayerZeroSRefIdeal.τ).loc Cert.LayerZeroSRefIdeal.main_arg7) = m' ((c.tc : Thread Cert.LayerZeroSRefIdeal.nD Cert.LayerZeroSRefIdeal.τ).loc Cert.LayerZeroSRefIdeal.main_arg7)
          ∧ r.2.mem ((c.tc : Thread Cert.LayerZeroSRefIdeal.nD Cert.LayerZeroSRefIdeal.τ).loc Cert.LayerZeroSRefIdeal.main_arg8) = m' ((c.tc : Thread Cert.LayerZeroSRefIdeal.nD Cert.LayerZeroSRefIdeal.τ).loc Cert.LayerZeroSRefIdeal.main_arg8)
          ∧ r.2.mem ((c.tc : Thread Cert.LayerZeroSRefIdeal.nD Cert.LayerZeroSRefIdeal.τ).loc Cert.LayerZeroSRefIdeal.main_arg9) = m' ((c.tc : Thread Cert.LayerZeroSRefIdeal.nD Cert.LayerZeroSRefIdeal.τ).loc Cert.LayerZeroSRefIdeal.main_arg9)
          ∧ r.2.mem ((c.tc : Thread Cert.LayerZeroSRefIdeal.nD Cert.LayerZeroSRefIdeal.τ).loc Cert.LayerZeroSRefIdeal.main_arg10) = m' ((c.tc : Thread Cert.LayerZeroSRefIdeal.nD Cert.LayerZeroSRefIdeal.τ).loc Cert.LayerZeroSRefIdeal.main_arg10)
          ∧ r.2.mem ((c.tc : Thread Cert.LayerZeroSRefIdeal.nD Cert.LayerZeroSRefIdeal.τ).loc Cert.LayerZeroSRefIdeal.main_arg11) = m' ((c.tc : Thread Cert.LayerZeroSRefIdeal.nD Cert.LayerZeroSRefIdeal.τ).loc Cert.LayerZeroSRefIdeal.main_arg11)
          ∧ r.2.mem ((c.tc : Thread Cert.LayerZeroSRefIdeal.nD Cert.LayerZeroSRefIdeal.τ).loc Cert.LayerZeroSRefIdeal.main_arg12) = m' ((c.tc : Thread Cert.LayerZeroSRefIdeal.nD Cert.LayerZeroSRefIdeal.τ).loc Cert.LayerZeroSRefIdeal.main_arg12)
          ∧ r.2.mem ((c.tc : Thread Cert.LayerZeroSRefIdeal.nD Cert.LayerZeroSRefIdeal.τ).loc Cert.LayerZeroSRefIdeal.main_arg13) = m' ((c.tc : Thread Cert.LayerZeroSRefIdeal.nD Cert.LayerZeroSRefIdeal.τ).loc Cert.LayerZeroSRefIdeal.main_arg13)
          ∧ r.2.mem ((c.tc : Thread Cert.LayerZeroSRefIdeal.nD Cert.LayerZeroSRefIdeal.τ).loc Cert.LayerZeroSRefIdeal.main_arg14) = m' ((c.tc : Thread Cert.LayerZeroSRefIdeal.nD Cert.LayerZeroSRefIdeal.τ).loc Cert.LayerZeroSRefIdeal.main_arg14)
          ∧ r.2.mem ((c.tc : Thread Cert.LayerZeroSRefIdeal.nD Cert.LayerZeroSRefIdeal.τ).loc Cert.LayerZeroSRefIdeal.main_arg15) = m' ((c.tc : Thread Cert.LayerZeroSRefIdeal.nD Cert.LayerZeroSRefIdeal.τ).loc Cert.LayerZeroSRefIdeal.main_arg15))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v39) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_ExpertsOne_ExpertsOneIdeal : Prop :=
  True

def algebraic_ExpertsOneIdeal_ExpertsOneRefIdeal [hExpertsOneIdeal : Cert.ExpertsOneIdeal.Facts] [hExpertsOneRefIdeal : Cert.ExpertsOneRefIdeal.Facts] [hPre_experts_named : Cert.Pre_experts_named.Facts] : Prop :=
  ∀ (m : (ℓ : Loc Cert.ExpertsOneIdeal.nD Cert.ExpertsOneIdeal.τ Cert.ExpertsOneIdeal.sig) → Buf (Elt Ideal) ℓ) (g : Dev Cert.ExpertsOneIdeal.nD → PrngReg)
    (m' : (ℓ : Loc Cert.ExpertsOneRefIdeal.nD Cert.ExpertsOneRefIdeal.τ Cert.ExpertsOneRefIdeal.sig) → Buf (Elt Ideal) ℓ) (g' : Dev Cert.ExpertsOneRefIdeal.nD → PrngReg), Pre_ExpertsOneIdeal m →
    (∀ c : Dev Cert.ExpertsOneIdeal.nD,
      m' ((c.tc : Thread Cert.ExpertsOneRefIdeal.nD Cert.ExpertsOneRefIdeal.τ).loc Cert.ExpertsOneRefIdeal.main_arg0) = m ((c.tc : Thread Cert.ExpertsOneIdeal.nD Cert.ExpertsOneIdeal.τ).loc Cert.ExpertsOneIdeal.main_arg0)
      ∧ m' ((c.tc : Thread Cert.ExpertsOneRefIdeal.nD Cert.ExpertsOneRefIdeal.τ).loc Cert.ExpertsOneRefIdeal.main_arg1) = m ((c.tc : Thread Cert.ExpertsOneIdeal.nD Cert.ExpertsOneIdeal.τ).loc Cert.ExpertsOneIdeal.main_arg1)
      ∧ m' ((c.tc : Thread Cert.ExpertsOneRefIdeal.nD Cert.ExpertsOneRefIdeal.τ).loc Cert.ExpertsOneRefIdeal.main_arg2) = m ((c.tc : Thread Cert.ExpertsOneIdeal.nD Cert.ExpertsOneIdeal.τ).loc Cert.ExpertsOneIdeal.main_arg2)
      ∧ m' ((c.tc : Thread Cert.ExpertsOneRefIdeal.nD Cert.ExpertsOneRefIdeal.τ).loc Cert.ExpertsOneRefIdeal.main_arg3) = m ((c.tc : Thread Cert.ExpertsOneIdeal.nD Cert.ExpertsOneIdeal.τ).loc Cert.ExpertsOneIdeal.main_arg3)
      ∧ m' ((c.tc : Thread Cert.ExpertsOneRefIdeal.nD Cert.ExpertsOneRefIdeal.τ).loc Cert.ExpertsOneRefIdeal.main_arg4) = m ((c.tc : Thread Cert.ExpertsOneIdeal.nD Cert.ExpertsOneIdeal.τ).loc Cert.ExpertsOneIdeal.main_arg4)
      ∧ m' ((c.tc : Thread Cert.ExpertsOneRefIdeal.nD Cert.ExpertsOneRefIdeal.τ).loc Cert.ExpertsOneRefIdeal.main_arg5) = m ((c.tc : Thread Cert.ExpertsOneIdeal.nD Cert.ExpertsOneIdeal.τ).loc Cert.ExpertsOneIdeal.main_arg5)) →
    ∃ (v0 : (c : Dev Cert.ExpertsOneIdeal.nD) → Buf (Elt Ideal) ((c.tc : Thread Cert.ExpertsOneIdeal.nD Cert.ExpertsOneIdeal.τ).loc Cert.ExpertsOneIdeal.main_v0)),
      θ_run (Cert.ExpertsOneIdeal.defs (F := Ideal)) (onTc (τ := Cert.ExpertsOneIdeal.τ) (Cert.ExpertsOneIdeal.main (F := Ideal))) ⟨m, fun _ => 0, g⟩ (fun r => ∀ c : Dev Cert.ExpertsOneIdeal.nD,
          r.2.mem ((c.tc : Thread Cert.ExpertsOneIdeal.nD Cert.ExpertsOneIdeal.τ).loc Cert.ExpertsOneIdeal.main_v0) = v0 c
          ∧ r.2.mem ((c.tc : Thread Cert.ExpertsOneIdeal.nD Cert.ExpertsOneIdeal.τ).loc Cert.ExpertsOneIdeal.main_arg0) = m ((c.tc : Thread Cert.ExpertsOneIdeal.nD Cert.ExpertsOneIdeal.τ).loc Cert.ExpertsOneIdeal.main_arg0)
          ∧ r.2.mem ((c.tc : Thread Cert.ExpertsOneIdeal.nD Cert.ExpertsOneIdeal.τ).loc Cert.ExpertsOneIdeal.main_arg1) = m ((c.tc : Thread Cert.ExpertsOneIdeal.nD Cert.ExpertsOneIdeal.τ).loc Cert.ExpertsOneIdeal.main_arg1)
          ∧ r.2.mem ((c.tc : Thread Cert.ExpertsOneIdeal.nD Cert.ExpertsOneIdeal.τ).loc Cert.ExpertsOneIdeal.main_arg2) = m ((c.tc : Thread Cert.ExpertsOneIdeal.nD Cert.ExpertsOneIdeal.τ).loc Cert.ExpertsOneIdeal.main_arg2)
          ∧ r.2.mem ((c.tc : Thread Cert.ExpertsOneIdeal.nD Cert.ExpertsOneIdeal.τ).loc Cert.ExpertsOneIdeal.main_arg3) = m ((c.tc : Thread Cert.ExpertsOneIdeal.nD Cert.ExpertsOneIdeal.τ).loc Cert.ExpertsOneIdeal.main_arg3)
          ∧ r.2.mem ((c.tc : Thread Cert.ExpertsOneIdeal.nD Cert.ExpertsOneIdeal.τ).loc Cert.ExpertsOneIdeal.main_arg4) = m ((c.tc : Thread Cert.ExpertsOneIdeal.nD Cert.ExpertsOneIdeal.τ).loc Cert.ExpertsOneIdeal.main_arg4)
          ∧ r.2.mem ((c.tc : Thread Cert.ExpertsOneIdeal.nD Cert.ExpertsOneIdeal.τ).loc Cert.ExpertsOneIdeal.main_arg5) = m ((c.tc : Thread Cert.ExpertsOneIdeal.nD Cert.ExpertsOneIdeal.τ).loc Cert.ExpertsOneIdeal.main_arg5))
      ∧ θ_run (Cert.ExpertsOneRefIdeal.defs (F := Ideal)) (onTc (τ := Cert.ExpertsOneRefIdeal.τ) (Cert.ExpertsOneRefIdeal.main (F := Ideal))) ⟨m', fun _ => 0, g'⟩ (fun r => ∀ c : Dev Cert.ExpertsOneRefIdeal.nD,
          r.2.mem ((c.tc : Thread Cert.ExpertsOneRefIdeal.nD Cert.ExpertsOneRefIdeal.τ).loc Cert.ExpertsOneRefIdeal.main_v39) = v0 c
          ∧ r.2.mem ((c.tc : Thread Cert.ExpertsOneRefIdeal.nD Cert.ExpertsOneRefIdeal.τ).loc Cert.ExpertsOneRefIdeal.main_arg0) = m' ((c.tc : Thread Cert.ExpertsOneRefIdeal.nD Cert.ExpertsOneRefIdeal.τ).loc Cert.ExpertsOneRefIdeal.main_arg0)
          ∧ r.2.mem ((c.tc : Thread Cert.ExpertsOneRefIdeal.nD Cert.ExpertsOneRefIdeal.τ).loc Cert.ExpertsOneRefIdeal.main_arg1) = m' ((c.tc : Thread Cert.ExpertsOneRefIdeal.nD Cert.ExpertsOneRefIdeal.τ).loc Cert.ExpertsOneRefIdeal.main_arg1)
          ∧ r.2.mem ((c.tc : Thread Cert.ExpertsOneRefIdeal.nD Cert.ExpertsOneRefIdeal.τ).loc Cert.ExpertsOneRefIdeal.main_arg2) = m' ((c.tc : Thread Cert.ExpertsOneRefIdeal.nD Cert.ExpertsOneRefIdeal.τ).loc Cert.ExpertsOneRefIdeal.main_arg2)
          ∧ r.2.mem ((c.tc : Thread Cert.ExpertsOneRefIdeal.nD Cert.ExpertsOneRefIdeal.τ).loc Cert.ExpertsOneRefIdeal.main_arg3) = m' ((c.tc : Thread Cert.ExpertsOneRefIdeal.nD Cert.ExpertsOneRefIdeal.τ).loc Cert.ExpertsOneRefIdeal.main_arg3)
          ∧ r.2.mem ((c.tc : Thread Cert.ExpertsOneRefIdeal.nD Cert.ExpertsOneRefIdeal.τ).loc Cert.ExpertsOneRefIdeal.main_arg4) = m' ((c.tc : Thread Cert.ExpertsOneRefIdeal.nD Cert.ExpertsOneRefIdeal.τ).loc Cert.ExpertsOneRefIdeal.main_arg4)
          ∧ r.2.mem ((c.tc : Thread Cert.ExpertsOneRefIdeal.nD Cert.ExpertsOneRefIdeal.τ).loc Cert.ExpertsOneRefIdeal.main_arg5) = m' ((c.tc : Thread Cert.ExpertsOneRefIdeal.nD Cert.ExpertsOneRefIdeal.τ).loc Cert.ExpertsOneRefIdeal.main_arg5))

def Claim : Prop :=
  ∃ (hMemkv : Cert.Memkv.Facts) (hMemkvIdeal : Cert.MemkvIdeal.Facts) (hMemkvRefIdeal : Cert.MemkvRefIdeal.Facts) (hLayerOne : Cert.LayerOne.Facts) (hLayerOneIdeal : Cert.LayerOneIdeal.Facts) (hLayerOneRefIdeal : Cert.LayerOneRefIdeal.Facts) (hLayerZero : Cert.LayerZero.Facts) (hLayerZeroIdeal : Cert.LayerZeroIdeal.Facts) (hLayerZeroRefIdeal : Cert.LayerZeroRefIdeal.Facts) (hLayerZeroS : Cert.LayerZeroS.Facts) (hLayerZeroSIdeal : Cert.LayerZeroSIdeal.Facts) (hLayerZeroSRefIdeal : Cert.LayerZeroSRefIdeal.Facts) (hExperts : Cert.Experts.Facts) (hExpertsIdeal : Cert.ExpertsIdeal.Facts) (hExpertsRefIdeal : Cert.ExpertsRefIdeal.Facts) (hExpertsOne : Cert.ExpertsOne.Facts) (hExpertsOneIdeal : Cert.ExpertsOneIdeal.Facts) (hExpertsOneRefIdeal : Cert.ExpertsOneRefIdeal.Facts) (hPre_finite_qm : Cert.Pre_finite_qm.Facts) (hPre_finite_in : Cert.Pre_finite_in.Facts) (hPre_finite_state : Cert.Pre_finite_state.Facts) (hPre_experts_named : Cert.Pre_experts_named.Facts),
    quiescent_Memkv (hMemkv := hMemkv)
    ∧ quiescent_MemkvIdeal (hMemkvIdeal := hMemkvIdeal)
    ∧ quiescent_MemkvRefIdeal (hMemkvRefIdeal := hMemkvRefIdeal)
    ∧ quiescent_LayerOne (hLayerOne := hLayerOne)
    ∧ quiescent_LayerOneIdeal (hLayerOneIdeal := hLayerOneIdeal)
    ∧ quiescent_LayerOneIdeal_pre_finite_qm (hLayerOneIdeal := hLayerOneIdeal) (hPre_finite_qm := hPre_finite_qm)
    ∧ quiescent_LayerOneRefIdeal (hLayerOneRefIdeal := hLayerOneRefIdeal)
    ∧ quiescent_LayerOneRefIdeal_pre_finite_qm (hLayerOneRefIdeal := hLayerOneRefIdeal) (hPre_finite_qm := hPre_finite_qm)
    ∧ quiescent_LayerZero (hLayerZero := hLayerZero)
    ∧ quiescent_LayerZeroIdeal (hLayerZeroIdeal := hLayerZeroIdeal)
    ∧ quiescent_LayerZeroIdeal_pre_finite_in (hLayerZeroIdeal := hLayerZeroIdeal) (hPre_finite_in := hPre_finite_in)
    ∧ quiescent_LayerZeroRefIdeal (hLayerZeroRefIdeal := hLayerZeroRefIdeal)
    ∧ quiescent_LayerZeroRefIdeal_pre_finite_in (hLayerZeroRefIdeal := hLayerZeroRefIdeal) (hPre_finite_in := hPre_finite_in)
    ∧ quiescent_LayerZeroS (hLayerZeroS := hLayerZeroS)
    ∧ quiescent_LayerZeroSIdeal (hLayerZeroSIdeal := hLayerZeroSIdeal)
    ∧ quiescent_LayerZeroSIdeal_pre_finite_state (hLayerZeroSIdeal := hLayerZeroSIdeal) (hPre_finite_state := hPre_finite_state)
    ∧ quiescent_LayerZeroSRefIdeal (hLayerZeroSRefIdeal := hLayerZeroSRefIdeal)
    ∧ quiescent_LayerZeroSRefIdeal_pre_finite_state (hLayerZeroSRefIdeal := hLayerZeroSRefIdeal) (hPre_finite_state := hPre_finite_state)
    ∧ quiescent_Experts (hExperts := hExperts) (hPre_experts_named := hPre_experts_named)
    ∧ quiescent_ExpertsIdeal (hExpertsIdeal := hExpertsIdeal) (hPre_experts_named := hPre_experts_named)
    ∧ quiescent_ExpertsRefIdeal (hExpertsRefIdeal := hExpertsRefIdeal)
    ∧ quiescent_ExpertsRefIdeal_pre_experts_named (hExpertsRefIdeal := hExpertsRefIdeal) (hPre_experts_named := hPre_experts_named)
    ∧ quiescent_ExpertsOne (hExpertsOne := hExpertsOne) (hPre_experts_named := hPre_experts_named)
    ∧ quiescent_ExpertsOneIdeal (hExpertsOneIdeal := hExpertsOneIdeal) (hPre_experts_named := hPre_experts_named)
    ∧ quiescent_ExpertsOneRefIdeal (hExpertsOneRefIdeal := hExpertsOneRefIdeal)
    ∧ quiescent_ExpertsOneRefIdeal_pre_experts_named (hExpertsOneRefIdeal := hExpertsOneRefIdeal) (hPre_experts_named := hPre_experts_named)
    ∧ preserves_Memkv_MemkvIdeal
    ∧ algebraic_MemkvIdeal_MemkvRefIdeal (hMemkvIdeal := hMemkvIdeal) (hMemkvRefIdeal := hMemkvRefIdeal)
    ∧ preserves_LayerOne_LayerOneIdeal
    ∧ algebraic_LayerOneIdeal_LayerOneRefIdeal_pre_finite_qm (hLayerOneIdeal := hLayerOneIdeal) (hLayerOneRefIdeal := hLayerOneRefIdeal) (hPre_finite_qm := hPre_finite_qm)
    ∧ preserves_LayerZero_LayerZeroIdeal
    ∧ algebraic_LayerZeroIdeal_LayerZeroRefIdeal_pre_finite_in (hLayerZeroIdeal := hLayerZeroIdeal) (hLayerZeroRefIdeal := hLayerZeroRefIdeal) (hPre_finite_in := hPre_finite_in)
    ∧ preserves_LayerZeroS_LayerZeroSIdeal
    ∧ algebraic_LayerZeroSIdeal_LayerZeroSRefIdeal_pre_finite_state (hLayerZeroSIdeal := hLayerZeroSIdeal) (hLayerZeroSRefIdeal := hLayerZeroSRefIdeal) (hPre_finite_state := hPre_finite_state)
    ∧ preserves_Experts_ExpertsIdeal
    ∧ algebraic_ExpertsIdeal_ExpertsRefIdeal (hExpertsIdeal := hExpertsIdeal) (hExpertsRefIdeal := hExpertsRefIdeal) (hPre_experts_named := hPre_experts_named)
    ∧ preserves_ExpertsOne_ExpertsOneIdeal
    ∧ algebraic_ExpertsOneIdeal_ExpertsOneRefIdeal (hExpertsOneIdeal := hExpertsOneIdeal) (hExpertsOneRefIdeal := hExpertsOneRefIdeal) (hPre_experts_named := hPre_experts_named)
-- ==== Pre_experts_named.lean ====
abbrev S74240x1024 : Shape := ⟨2, ![74240, 1024]⟩
abbrev S580 : Shape := ⟨1, ![580]⟩
abbrev S1 : Shape := ⟨1, ![1]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S580 : S_.BroadcastsInDim S580 (![] : Fin 0 → Fin S580.rank)
  shapeCasts_S1_S_ : S1.ShapeCasts S_

variable [Facts]

def fn {F : FTy → Type} [FloatOps F] (main_arg0 : FVec F S74240x1024 .f32) (main_arg1 : IVec S580 32) (main_arg2 : IVec S1 32) (main_arg3 : FVec F S2x64x1024x256 .f32) (main_arg4 : FVec F S2x64x1024x256 .f32) (main_arg5 : FVec F S2x64x256x1024 .f32) : IVec S580 1 :=
  let main_c : IVec S_ 32 := constantI S_ 32 0#32
  let main_v0 : IVec S580 32 := broadcastInDim S580 ![] bcast_S_S580 main_c
  let main_v1 : IVec S580 1 := cmpi .sge main_arg1 main_v0
  let main_c_0 : IVec S_ 32 := constantI S_ 32 64#32
  let main_v2 : IVec S580 32 := broadcastInDim S580 ![] bcast_S_S580 main_c_0
  let main_v3 : IVec S580 1 := cmpi .slt main_arg1 main_v2
  let main_v4 : IVec S580 1 := andi main_v1 main_v3
  let main_v5 : IVec S_ 32 := shapeCast S_ main_arg2 shapeCasts_S1_S_
  let main_c_1 : IVec S_ 32 := constantI S_ 32 1#32
  let main_v6 : IVec S_ 1 := cmpi .sge main_v5 main_c_1
  let main_v7 : IVec S580 1 := broadcastInDim S580 ![] bcast_S_S580 main_v6
  let main_v8 : IVec S580 1 := andi main_v4 main_v7
  main_v8
-- ==== Pre_finite_in.lean ====
abbrev S8x4096x1024 : Shape := ⟨3, ![8, 4096, 1024]⟩
abbrev S2x8x512x256 : Shape := ⟨4, ![2, 8, 512, 256]⟩
abbrev S2x1024 : Shape := ⟨2, ![2, 1024]⟩
abbrev S1x1024x1792 : Shape := ⟨3, ![1, 1024, 1792]⟩
abbrev S1x31x768 : Shape := ⟨3, ![1, 31, 768]⟩
abbrev S1x768 : Shape := ⟨2, ![1, 768]⟩
abbrev S1x1024x1024 : Shape := ⟨3, ![1, 1024, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S1x8x256x256 : Shape := ⟨4, ![1, 8, 256, 256]⟩
abbrev S8x256x256 : Shape := ⟨3, ![8, 256, 256]⟩
abbrev S_ : Shape := ⟨0, ![]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩

class Facts : Prop where
  slices_S2x8x512x256_S1x8x256x256_0_0_0_0 : S2x8x512x256.Slices ![0, 0, 0, 0] S1x8x256x256
  shapeCasts_S1x8x256x256_S8x256x256 : S1x8x256x256.ShapeCasts S8x256x256
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S1x1024x1792_S1x1024x256_0_0_1536 : S1x1024x1792.Slices ![0, 0, 1536] S1x1024x256
  shapeCasts_S1x1024x256_S1024x256 : S1x1024x256.ShapeCasts S1024x256
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v12 : IVec S_ 1) (main_v17 : IVec S1024x256 1) (main_c_3 : IVec S_ 1) : IVec S_ 1 :=
  let main_v18 : IVec S_ 1 := (fun x v => Host.reduce IntOp.andi x v reducesTo_S1024x256_S_d0_1 h_S_) main_v17 main_c_3
  let main_v19 : IVec S_ 1 := andi main_v12 main_v18
  main_v19

def fn {F : FTy → Type} [FloatOps F] (main_arg0 : FVec F S8x4096x1024 .f32) (main_arg1 : FVec F S2x8x512x256 .f32) (main_arg2 : FVec F S2x1024 .f32) (main_arg3 : FVec F S1x1024x1792 .f32) (main_arg4 : FVec F S1x31x768 .f32) (main_arg5 : FVec F S1x768 .f32) (main_arg6 : FVec F S1x768 .f32) (main_arg7 : FVec F S1x768 .f32) (main_arg8 : FVec F S1x1024x1024 .f32) (main_arg9 : FVec F S2x1024 .f32) (main_arg10 : FVec F S2x1024x4 .f32) (main_arg11 : FVec F S2x4 .f32) (main_arg12 : FVec F S2x1024x64 .f32) (main_arg13 : FVec F S2x64 .f32) : IVec S_ 1 :=
  let main_v0 : FVec F S1x8x256x256 .f32 := (extractStridedSlice S1x8x256x256 ![0, 0, 0, 0] · slices_S2x8x512x256_S1x8x256x256_0_0_0_0) main_arg1
  let main_v1 : FVec F S8x256x256 .f32 := shapeCast S8x256x256 main_v0 shapeCasts_S1x8x256x256_S8x256x256
  let main_v2 : FVec F S8x256x256 .f32 := Host.absf main_v1
  let main_cst : FVec F S_ .f32 := constant S_ .f32 0x7F800000#32
  let main_v3 : FVec F S8x256x256 .f32 := broadcastInDim S8x256x256 ![] bcast_S_S8x256x256 main_cst
  let main_v4 : IVec S8x256x256 1 := cmpf .olt main_v2 main_v3
  let main_c : IVec S_ 1 := constantI S_ 1 1#1
  let main_v5 : IVec S_ 1 := (fun x v => Host.reduce IntOp.andi x v reducesTo_S8x256x256_S_d0_1_2 h_S_) main_v4 main_c
  let main_v6 : FVec F S1x1024 .f32 := (extractStridedSlice S1x1024 ![0, 0] · slices_S2x1024_S1x1024_0_0) main_arg2
  let main_v7 : FVec F S1024 .f32 := shapeCast S1024 main_v6 shapeCasts_S1x1024_S1024
  let main_v8 : FVec F S1024 .f32 := Host.absf main_v7
  let main_cst_0 : FVec F S_ .f32 := constant S_ .f32 0x7F800000#32
  let main_v9 : FVec F S1024 .f32 := broadcastInDim S1024 ![] bcast_S_S1024 main_cst_0
  let main_v10 : IVec S1024 1 := cmpf .olt main_v8 main_v9
  let main_c_1 : IVec S_ 1 := constantI S_ 1 1#1
  let main_v11 : IVec S_ 1 := (fun x v => Host.reduce IntOp.andi x v reducesTo_S1024_S_d0 h_S_) main_v10 main_c_1
  let main_v12 : IVec S_ 1 := andi main_v5 main_v11
  let main_v13 : FVec F S1x1024x256 .f32 := (extractStridedSlice S1x1024x256 ![0, 0, 1536] · slices_S1x1024x1792_S1x1024x256_0_0_1536) main_arg3
  let main_v14 : FVec F S1024x256 .f32 := shapeCast S1024x256 main_v13 shapeCasts_S1x1024x256_S1024x256
  let main_v15 : FVec F S1024x256 .f32 := Host.absf main_v14
  let main_cst_2 : FVec F S_ .f32 := constant S_ .f32 0x7F800000#32
  let main_v16 : FVec F S1024x256 .f32 := broadcastInDim S1024x256 ![] bcast_S_S1024x256 main_cst_2
  let main_v17 : IVec S1024x256 1 := cmpf .olt main_v15 main_v16
  let main_c_3 : IVec S_ 1 := constantI S_ 1 1#1
  fn_part1 (F := F) main_v12 main_v17 main_c_3
-- ==== Pre_finite_qm.lean ====
abbrev S32768x1024 : Shape := ⟨2, ![32768, 1024]⟩
abbrev S32768x768 : Shape := ⟨2, ![32768, 768]⟩
abbrev S32768x256 : Shape := ⟨2, ![32768, 256]⟩
abbrev S2x8x512x256 : Shape := ⟨4, ![2, 8, 512, 256]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S_ : Shape := ⟨0, ![]⟩
abbrev S1x8x256x256 : Shape := ⟨4, ![1, 8, 256, 256]⟩
abbrev S8x256x256 : Shape := ⟨3, ![8, 256, 256]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  slices_S2x8x512x256_S1x8x256x256_1_0_0_0 : S2x8x512x256.Slices ![1, 0, 0, 0] S1x8x256x256
  shapeCasts_S1x8x256x256_S8x256x256 : S1x8x256x256.ShapeCasts S8x256x256
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S32768x1024 .f32) (main_arg1 : FVec F S32768x768 .f32) (main_arg2 : FVec F S32768x256 .f32) (main_arg3 : FVec F S2x8x512x256 .f32) (main_arg4 : FVec F S1x1024x1024 .f32) (main_arg5 : FVec F S2x1024 .f32) (main_arg6 : FVec F S2x1024x4 .f32) (main_arg7 : FVec F S2x4 .f32) (main_arg8 : FVec F S2x1024x64 .f32) (main_arg9 : FVec F S2x64 .f32) : IVec S_ 1 :=
  let main_v0 : FVec F S32768x256 .f32 := Host.absf main_arg2
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1x8x256x256 .f32 := (extractStridedSlice S1x8x256x256 ![1, 0, 0, 0] · slices_S2x8x512x256_S1x8x256x256_1_0_0_0) main_arg3
  let main_v5 : FVec F S8x256x256 .f32 := shapeCast S8x256x256 main_v4 shapeCasts_S1x8x256x256_S8x256x256
  let main_v6 : FVec F S8x256x256 .f32 := Host.absf main_v5
  let main_cst_0 : FVec F S_ .f32 := constant S_ .f32 0x7F800000#32
  let main_v7 : FVec F S8x256x256 .f32 := broadcastInDim S8x256x256 ![] bcast_S_S8x256x256 main_cst_0
  let main_v8 : IVec S8x256x256 1 := cmpf .olt main_v6 main_v7
  let main_c_1 : IVec S_ 1 := constantI S_ 1 1#1
  let main_v9 : IVec S_ 1 := (fun x v => Host.reduce IntOp.andi x v reducesTo_S8x256x256_S_d0_1_2 h_S_) main_v8 main_c_1
  let main_v10 : IVec S_ 1 := andi main_v3 main_v9
  main_v10
-- ==== Pre_finite_state.lean ====
abbrev S32x8x1024 : Shape := ⟨3, ![32, 8, 1024]⟩
abbrev S1x32x30x768 : Shape := ⟨4, ![1, 32, 30, 768]⟩
abbrev S2x32x256x4x64 : Shape := ⟨5, ![2, 32, 256, 4, 64]⟩
abbrev S2x1024 : Shape := ⟨2, ![2, 1024]⟩
abbrev S1x1024x1792 : Shape := ⟨3, ![1, 1024, 1792]⟩
abbrev S1x31x768 : Shape := ⟨3, ![1, 31, 768]⟩
abbrev S1x768 : Shape := ⟨2, ![1, 768]⟩
abbrev S1x1024x1024 : Shape := ⟨3, ![1, 1024, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S1x32x256x4x64 : Shape := ⟨5, ![1, 32, 256, 4, 64]⟩
abbrev S32x256x4x64 : Shape := ⟨4, ![32, 256, 4, 64]⟩
abbrev S_ : Shape := ⟨0, ![]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩

class Facts : Prop where
  slices_S2x32x256x4x64_S1x32x256x4x64_0_0_0_0_0 : S2x32x256x4x64.Slices ![0, 0, 0, 0, 0] S1x32x256x4x64
  shapeCasts_S1x32x256x4x64_S32x256x4x64 : S1x32x256x4x64.ShapeCasts S32x256x4x64
  bcast_S_S32x256x4x64 : S_.BroadcastsInDim S32x256x4x64 (![] : Fin 0 → Fin S32x256x4x64.rank)
  reducesTo_S32x256x4x64_S_d0_1_2_3 : S32x256x4x64.ReducesTo [0, 1, 2, 3] S_
  h_S_ : 0 < S_.numel
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S1x1024x1792_S1x1024x256_0_0_1536 : S1x1024x1792.Slices ![0, 0, 1536] S1x1024x256
  shapeCasts_S1x1024x256_S1024x256 : S1x1024x256.ShapeCasts S1024x256
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v12 : IVec S_ 1) (main_v17 : IVec S1024x256 1) (main_c_3 : IVec S_ 1) : IVec S_ 1 :=
  let main_v18 : IVec S_ 1 := (fun x v => Host.reduce IntOp.andi x v reducesTo_S1024x256_S_d0_1 h_S_) main_v17 main_c_3
  let main_v19 : IVec S_ 1 := andi main_v12 main_v18
  main_v19

def fn {F : FTy → Type} [FloatOps F] (main_arg0 : FVec F S32x8x1024 .f32) (main_arg1 : FVec F S1x32x30x768 .f32) (main_arg2 : FVec F S2x32x256x4x64 .f32) (main_arg3 : FVec F S2x32x256x4x64 .f32) (main_arg4 : FVec F S2x1024 .f32) (main_arg5 : FVec F S1x1024x1792 .f32) (main_arg6 : FVec F S1x31x768 .f32) (main_arg7 : FVec F S1x768 .f32) (main_arg8 : FVec F S1x768 .f32) (main_arg9 : FVec F S1x768 .f32) (main_arg10 : FVec F S1x1024x1024 .f32) (main_arg11 : FVec F S2x1024 .f32) (main_arg12 : FVec F S2x1024x4 .f32) (main_arg13 : FVec F S2x4 .f32) (main_arg14 : FVec F S2x1024x64 .f32) (main_arg15 : FVec F S2x64 .f32) : IVec S_ 1 :=
  let main_v0 : FVec F S1x32x256x4x64 .f32 := (extractStridedSlice S1x32x256x4x64 ![0, 0, 0, 0, 0] · slices_S2x32x256x4x64_S1x32x256x4x64_0_0_0_0_0) main_arg2
  let main_v1 : FVec F S32x256x4x64 .f32 := shapeCast S32x256x4x64 main_v0 shapeCasts_S1x32x256x4x64_S32x256x4x64
  let main_v2 : FVec F S32x256x4x64 .f32 := Host.absf main_v1
  let main_cst : FVec F S_ .f32 := constant S_ .f32 0x7F800000#32
  let main_v3 : FVec F S32x256x4x64 .f32 := broadcastInDim S32x256x4x64 ![] bcast_S_S32x256x4x64 main_cst
  let main_v4 : IVec S32x256x4x64 1 := cmpf .olt main_v2 main_v3
  let main_c : IVec S_ 1 := constantI S_ 1 1#1
  let main_v5 : IVec S_ 1 := (fun x v => Host.reduce IntOp.andi x v reducesTo_S32x256x4x64_S_d0_1_2_3 h_S_) main_v4 main_c
  let main_v6 : FVec F S1x1024 .f32 := (extractStridedSlice S1x1024 ![0, 0] · slices_S2x1024_S1x1024_0_0) main_arg4
  let main_v7 : FVec F S1024 .f32 := shapeCast S1024 main_v6 shapeCasts_S1x1024_S1024
  let main_v8 : FVec F S1024 .f32 := Host.absf main_v7
  let main_cst_0 : FVec F S_ .f32 := constant S_ .f32 0x7F800000#32
  let main_v9 : FVec F S1024 .f32 := broadcastInDim S1024 ![] bcast_S_S1024 main_cst_0
  let main_v10 : IVec S1024 1 := cmpf .olt main_v8 main_v9
  let main_c_1 : IVec S_ 1 := constantI S_ 1 1#1
  let main_v11 : IVec S_ 1 := (fun x v => Host.reduce IntOp.andi x v reducesTo_S1024_S_d0 h_S_) main_v10 main_c_1
  let main_v12 : IVec S_ 1 := andi main_v5 main_v11
  let main_v13 : FVec F S1x1024x256 .f32 := (extractStridedSlice S1x1024x256 ![0, 0, 1536] · slices_S1x1024x1792_S1x1024x256_0_0_1536) main_arg5
  let main_v14 : FVec F S1024x256 .f32 := shapeCast S1024x256 main_v13 shapeCasts_S1x1024x256_S1024x256
  let main_v15 : FVec F S1024x256 .f32 := Host.absf main_v14
  let main_cst_2 : FVec F S_ .f32 := constant S_ .f32 0x7F800000#32
  let main_v16 : FVec F S1024x256 .f32 := broadcastInDim S1024x256 ![] bcast_S_S1024x256 main_cst_2
  let main_v17 : IVec S1024x256 1 := cmpf .olt main_v15 main_v16
  let main_c_3 : IVec S_ 1 := constantI S_ 1 1#1
  fn_part1 (F := F) main_v12 main_v17 main_c_3
-- ==== Memkv.lean ====
abbrev S8x256x1024 : Shape := ⟨3, ![8, 256, 1024]⟩
abbrev S2x1024 : Shape := ⟨2, ![2, 1024]⟩
abbrev S2x1024x512 : Shape := ⟨3, ![2, 1024, 512]⟩
abbrev S2x512x1024 : Shape := ⟨3, ![2, 512, 1024]⟩
abbrev S2x1x1024 : Shape := ⟨3, ![2, 1, 1024]⟩
abbrev S2x8x512x256 : Shape := ⟨4, ![2, 8, 512, 256]⟩
abbrev S1x256x1024 : Shape := ⟨3, ![1, 256, 1024]⟩
abbrev S1x1x1024 : Shape := ⟨3, ![1, 1, 1024]⟩
abbrev S1x512x1024 : Shape := ⟨3, ![1, 512, 1024]⟩
abbrev S1x1x512x256 : Shape := ⟨4, ![1, 1, 512, 256]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S512x1024 : Shape := ⟨2, ![512, 1024]⟩
abbrev S512x256 : Shape := ⟨2, ![512, 256]⟩
abbrev S2x8x2x4x64x256 : Shape := ⟨6, ![2, 8, 2, 4, 64, 256]⟩
abbrev S2x2x8x256x4x64 : Shape := ⟨6, ![2, 2, 8, 256, 4, 64]⟩
abbrev S1x2x8x256x4x64 : Shape := ⟨6, ![1, 2, 8, 256, 4, 64]⟩
abbrev S2x8x256x4x64 : Shape := ⟨5, ![2, 8, 256, 4, 64]⟩

abbrev nBuf : Space → Nat
  | .hbm => 13
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x512, .f32⟩
  | .hbm, ⟨3, _⟩ => ⟨S2x512x1024, .f32⟩
  | .hbm, ⟨4, _⟩ => ⟨S2x512x1024, .bf16⟩
  | .hbm, ⟨5, _⟩ => ⟨S2x1x1024, .f32⟩
  | .hbm, ⟨6, _⟩ => ⟨S2x8x512x256, .f32⟩
  | .hbm, ⟨7, _⟩ => ⟨S2x8x2x4x64x256, .f32⟩
  | .hbm, ⟨8, _⟩ => ⟨S2x2x8x256x4x64, .f32⟩
  | .hbm, ⟨9, _⟩ => ⟨S1x2x8x256x4x64, .f32⟩
  | .hbm, ⟨10, _⟩ => ⟨S2x8x256x4x64, .f32⟩
  | .hbm, ⟨11, _⟩ => ⟨S1x2x8x256x4x64, .f32⟩
  | .hbm, ⟨12, _⟩ => ⟨S2x8x256x4x64, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1x512x256, .f32⟩
  | .local _ .vmem, ⟨7, _⟩ => ⟨S1x1x512x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemkvRefIdeal.lean ====
abbrev S8x256x1024 : Shape := ⟨3, ![8, 256, 1024]⟩
abbrev S2x1024 : Shape := ⟨2, ![2, 1024]⟩
abbrev S2x1024x512 : Shape := ⟨3, ![2, 1024, 512]⟩
abbrev S_ : Shape := ⟨0, ![]⟩
abbrev S8x256 : Shape := ⟨2, ![8, 256]⟩
abbrev S8x256x1 : Shape := ⟨3, ![8, 256, 1]⟩
abbrev S1x1024 : Shape := ⟨2, ![1, 1024]⟩
abbrev S1024 : Shape := ⟨1, ![1024]⟩
abbrev S1x1x1024 : Shape := ⟨3, ![1, 1, 1024]⟩
abbrev S1x1024x512 : Shape := ⟨3, ![1, 1024, 512]⟩
abbrev S1024x512 : Shape := ⟨2, ![1024, 512]⟩
abbrev S8x256x512 : Shape := ⟨3, ![8, 256, 512]⟩
abbrev S8x256x2x4x64 : Shape := ⟨5, ![8, 256, 2, 4, 64]⟩
abbrev S8x256x1x4x64 : Shape := ⟨5, ![8, 256, 1, 4, 64]⟩
abbrev S8x256x4x64 : Shape := ⟨4, ![8, 256, 4, 64]⟩
abbrev S1x8x256x4x64 : Shape := ⟨5, ![1, 8, 256, 4, 64]⟩
abbrev S2x8x256x4x64 : Shape := ⟨5, ![2, 8, 256, 4, 64]⟩

abbrev nBuf : Space → Nat
  | .hbm => 61
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x512, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x512, .f32⟩
  | .hbm, ⟨22, _⟩ => ⟨S1024x512, .f32⟩
  | .hbm, ⟨23, _⟩ => ⟨S8x256x512, .f32⟩
  | .hbm, ⟨24, _⟩ => ⟨S8x256x2x4x64, .f32⟩
  | .hbm, ⟨25, _⟩ => ⟨S8x256x1x4x64, .f32⟩
  | .hbm, ⟨26, _⟩ => ⟨S8x256x4x64, .f32⟩
  | .hbm, ⟨27, _⟩ => ⟨S8x256x1x4x64, .f32⟩
  | .hbm, ⟨28, _⟩ => ⟨S8x256x4x64, .f32⟩
  | .hbm, ⟨29, _⟩ => ⟨S8x256x1024, .f32⟩
  | .hbm, ⟨30, _⟩ => ⟨S_, .f32⟩
  | .hbm, ⟨31, _⟩ => ⟨S8x256, .f32⟩
  | .hbm, ⟨32, _⟩ => ⟨S8x256x1, .f32⟩
  | .hbm, ⟨33, _⟩ => ⟨S_, .f32⟩
  | .hbm, ⟨34, _⟩ => ⟨S8x256x1, .f32⟩
  | .hbm, ⟨35, _⟩ => ⟨S8x256x1, .f32⟩
  | .hbm, ⟨36, _⟩ => ⟨S_, .f32⟩
  | .hbm, ⟨37, _⟩ => ⟨S8x256x1, .f32⟩
  | .hbm, ⟨38, _⟩ => ⟨S8x256x1, .f32⟩
  | .hbm, ⟨39, _⟩ => ⟨S8x256x1, .f32⟩
  | .hbm, ⟨40, _⟩ => ⟨S8x256x1024, .f32⟩
  | .hbm, ⟨41, _⟩ => ⟨S8x256x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S8x256x1024, .f32⟩
  | .hbm, ⟨46, _⟩ => ⟨S8x256x1024, .f32⟩
  | .hbm, ⟨47, _⟩ => ⟨S1x1024x512, .f32⟩
  | .hbm, ⟨48, _⟩ => ⟨S1024x512, .f32⟩
  | .hbm, ⟨49, _⟩ => ⟨S8x256x512, .f32⟩
  | .hbm, ⟨50, _⟩ => ⟨S8x256x2x4x64, .f32⟩
  | .hbm, ⟨51, _⟩ => ⟨S8x256x1x4x64, .f32⟩
  | .hbm, ⟨52, _⟩ => ⟨S8x256x4x64, .f32⟩
  | .hbm, ⟨53, _⟩ => ⟨S8x256x1x4x64, .f32⟩
  | .hbm, ⟨54, _⟩ => ⟨S8x256x4x64, .f32⟩
  | .hbm, ⟨55, _⟩ => ⟨S1x8x256x4x64, .f32⟩
  | .hbm, ⟨56, _⟩ => ⟨S1x8x256x4x64, .f32⟩
  | .hbm, ⟨57, _⟩ => ⟨S2x8x256x4x64, .f32⟩
  | .hbm, ⟨58, _⟩ => ⟨S1x8x256x4x64, .f32⟩
  | .hbm, ⟨59, _⟩ => ⟨S1x8x256x4x64, .f32⟩
  | .hbm, ⟨60, _⟩ => ⟨S2x8x256x4x64, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== LayerOne.lean ====
abbrev S32768x1024 : Shape := ⟨2, ![32768, 1024]⟩
abbrev S32768x768 : Shape := ⟨2, ![32768, 768]⟩
abbrev S32768x256 : Shape := ⟨2, ![32768, 256]⟩
abbrev S2x8x512x256 : Shape := ⟨4, ![2, 8, 512, 256]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x64 : Shape := ⟨3, ![1, 1024, 64]⟩
abbrev S1024x64 : Shape := ⟨2, ![1024, 64]⟩
abbrev S1x64 : Shape := ⟨2, ![1, 64]⟩
abbrev S64 : Shape := ⟨1, ![64]⟩
abbrev S_ : Shape := ⟨0, ![]⟩
abbrev S1024x60 : Shape := ⟨2, ![1024, 60]⟩
abbrev S1024x128 : Shape := ⟨2, ![1024, 128]⟩
abbrev S60 : Shape := ⟨1, ![60]⟩
abbrev S128 : Shape := ⟨1, ![128]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S32768x2 : Shape := ⟨2, ![32768, 2]⟩
abbrev S256x1024 : Shape := ⟨2, ![256, 1024]⟩
abbrev S256x768 : Shape := ⟨2, ![256, 768]⟩
abbrev S256x256 : Shape := ⟨2, ![256, 256]⟩
abbrev S1x1x256x256 : Shape := ⟨4, ![1, 1, 256, 256]⟩
abbrev S256x2 : Shape := ⟨2, ![256, 2]⟩
abbrev S256 : Shape := ⟨1, ![256]⟩
abbrev S256x1 : Shape := ⟨2, ![256, 1]⟩
abbrev S256x128 : Shape := ⟨2, ![256, 128]⟩

abbrev nBuf : Space → Nat
  | .hbm => 34
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x768, .f32⟩
  | .hbm, ⟨2, _⟩ => ⟨S32768x256, .f32⟩
  | .hbm, ⟨3, _⟩ => ⟨S2x8x512x256, .f32⟩
  | .hbm, ⟨4, _⟩ => ⟨S1x1024x1024, .f32⟩
  | .hbm, ⟨5, _⟩ => ⟨S2x1024, .f32⟩
  | .hbm, ⟨6, _⟩ => ⟨S2x1024x4, .f32⟩
  | .hbm, ⟨7, _⟩ => ⟨S2x4, .f32⟩
  | .hbm, ⟨8, _⟩ => ⟨S2x1024x64, .f32⟩
  | .hbm, ⟨9, _⟩ => ⟨S2x64, .f32⟩
  | .hbm, ⟨10, _⟩ => ⟨S1x1024x4, .f32⟩
  | .hbm, ⟨11, _⟩ => ⟨S1024x4, .f32⟩
  | .hbm, ⟨12, _⟩ => ⟨S1x4, .f32⟩
  | .hbm, ⟨13, _⟩ => ⟨S4, .f32⟩
  | .hbm, ⟨14, _⟩ => ⟨S1x1024x64, .f32⟩
  | .hbm, ⟨15, _⟩ => ⟨S1024x64, .f32⟩
  | .hbm, ⟨16, _⟩ => ⟨S1x64, .f32⟩
  | .hbm, ⟨17, _⟩ => ⟨S64, .f32⟩
  | .hbm, ⟨18, _⟩ => ⟨S_, .f32⟩
  | .hbm, ⟨19, _⟩ => ⟨S1024x60, .f32⟩
  | .hbm, ⟨20, _⟩ => ⟨S1024x128, .f32⟩
  | .hbm, ⟨21, _⟩ => ⟨S_, .f32⟩
  | .hbm, ⟨22, _⟩ => ⟨S60, .f32⟩
  | .hbm, ⟨23, _⟩ => ⟨S128, .f32⟩
  | .hbm, ⟨24, _⟩ => ⟨S1x128, .f32⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S32768x2, .f32⟩
  | .hbm, ⟨33, _⟩ => ⟨S32768x2, .i32⟩
  | .local _ .vmem, ⟨0, _⟩ => ⟨S256x1024, .f32⟩
  | .local _ .vmem, ⟨1, _⟩ => ⟨S256x1024, .f32⟩
  | .local _ .vmem, ⟨2, _⟩ => ⟨S256x768, .f32⟩
  | .local _ .vmem, ⟨3, _⟩ => ⟨S256x768, .f32⟩
  | .local _ .vmem, ⟨4, _⟩ => ⟨S256x256, .f32⟩
  | .local _ .vmem, ⟨5, _⟩ => ⟨S256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1024x1024, .bf16⟩
  | .local _ .vmem, ⟨11, _⟩ => ⟨S1x1024, .f32⟩
  | .local _ .vmem, ⟨12, _⟩ => ⟨S1024x128, .f32⟩
  | .local _ .vmem, ⟨13, _⟩ => ⟨S1x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x2, .f32⟩
  | .local _ .vmem, ⟨19, _⟩ => ⟨S256x2, .f32⟩
  | .local _ .vmem, ⟨20, _⟩ => ⟨S256x2, .i32⟩
  | .local _ .vmem, ⟨21, _⟩ => ⟨S256x2, .i32⟩
  | .local _ .vmem, ⟨22, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, arg0.toNat, c1_i32_0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x2 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== LayerOneRefIdeal.lean ====
abbrev S32768x1024 : Shape := ⟨2, ![32768, 1024]⟩
abbrev S32768x768 : Shape := ⟨2, ![32768, 768]⟩
abbrev S32768x256 : Shape := ⟨2, ![32768, 256]⟩
abbrev S2x8x512x256 : Shape := ⟨4, ![2, 8, 512, 256]⟩
abbrev S1x1024x1024 : Shape := ⟨3, ![1, 1024, 1024]⟩
abbrev S2x1024 : Shape := ⟨2, ![2, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S1x8x256x256 : Shape := ⟨4, ![1, 8, 256, 256]⟩
abbrev S8x256x256 : Shape := ⟨3, ![8, 256, 256]⟩
abbrev S8x4x64x256 : Shape := ⟨4, ![8, 4, 64, 256]⟩
abbrev S8x256x4x64 : Shape := ⟨4, ![8, 256, 4, 64]⟩
abbrev S8x4096x4x64 : Shape := ⟨4, ![8, 4096, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S1024x1024 : Shape := ⟨2, ![1024, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x768, .f32⟩
  | .hbm, ⟨2, _⟩ => ⟨S32768x256, .f32⟩
  | .hbm, ⟨3, _⟩ => ⟨S2x8x512x256, .f32⟩
  | .hbm, ⟨4, _⟩ => ⟨S1x1024x1024, .f32⟩
  | .hbm, ⟨5, _⟩ => ⟨S2x1024, .f32⟩
  | .hbm, ⟨6, _⟩ => ⟨S2x1024x4, .f32⟩
  | .hbm, ⟨7, _⟩ => ⟨S2x4, .f32⟩
  | .hbm, ⟨8, _⟩ => ⟨S2x1024x64, .f32⟩
  | .hbm, ⟨9, _⟩ => ⟨S2x64, .f32⟩
  | .hbm, ⟨10, _⟩ => ⟨S1x8x256x256, .f32⟩
  | .hbm, ⟨11, _⟩ => ⟨S8x256x256, .f32⟩
  | .hbm, ⟨12, _⟩ => ⟨S8x4x64x256, .f32⟩
  | .hbm, ⟨13, _⟩ => ⟨S8x256x4x64, .f32⟩
  | .hbm, ⟨14, _⟩ => ⟨S1x8x256x256, .f32⟩
  | .hbm, ⟨15, _⟩ => ⟨S8x256x256, .f32⟩
  | .hbm, ⟨16, _⟩ => ⟨S8x4x64x256, .f32⟩
  | .hbm, ⟨17, _⟩ => ⟨S8x256x4x64, .f32⟩
  | .hbm, ⟨18, _⟩ => ⟨S8x4096x4x64, .f32⟩
  | .hbm, ⟨19, _⟩ => ⟨S8x4x4096x256, .f32⟩
  | .hbm, ⟨20, _⟩ => ⟨S_, .f32⟩
  | .hbm, ⟨21, _⟩ => ⟨S8x4x4096x256, .f32⟩
  | .hbm, ⟨22, _⟩ => ⟨S8x4x4096x256, .f32⟩
  | .hbm, ⟨23, _⟩ => ⟨S_, .f32⟩
  | .hbm, ⟨24, _⟩ => ⟨S8x4x4096, .f32⟩
  | .hbm, ⟨25, _⟩ => ⟨S_, .f32⟩
  | .hbm, ⟨26, _⟩ => ⟨S8x4x4096, .f32⟩
  | .hbm, ⟨27, _⟩ => ⟨S8x4x4096, .f32⟩
  | .hbm, ⟨28, _⟩ => ⟨S8x4x4096x1, .f32⟩
  | .hbm, ⟨29, _⟩ => ⟨S8x4x4096x256, .f32⟩
  | .hbm, ⟨30, _⟩ => ⟨S8x4x4096x256, .f32⟩
  | .hbm, ⟨31, _⟩ => ⟨S8x4x4096x256, .f32⟩
  | .hbm, ⟨32, _⟩ => ⟨S_, .f32⟩
  | .hbm, ⟨33, _⟩ => ⟨S8x4x4096, .f32⟩
  | .hbm, ⟨34, _⟩ => ⟨S8x4x4096x1, .f32⟩
  | .hbm, ⟨35, _⟩ => ⟨S8x4x4096x256, .f32⟩
  | .hbm, ⟨36, _⟩ => ⟨S8x4x4096x256, .f32⟩
  | .hbm, ⟨37, _⟩ => ⟨S8x4x64x4096, .f32⟩
  | .hbm, ⟨38, _⟩ => ⟨S8x4096x4x64, .f32⟩
  | .hbm, ⟨39, _⟩ => ⟨S32768x256, .f32⟩
  | .hbm, ⟨40, _⟩ => ⟨S32768x1024, .f32⟩
  | .hbm, ⟨41, _⟩ => ⟨S1024x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S32768x1024, .f32⟩
  | .hbm, ⟨61, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== LayerZero.lean ====
abbrev S8x4096x1024 : Shape := ⟨3, ![8, 4096, 1024]⟩
abbrev S2x8x512x256 : Shape := ⟨4, ![2, 8, 512, 256]⟩
abbrev S2x1024 : Shape := ⟨2, ![2, 1024]⟩
abbrev S1x1024x1792 : Shape := ⟨3, ![1, 1024, 1792]⟩
abbrev S1x31x768 : Shape := ⟨3, ![1, 31, 768]⟩
abbrev S1x768 : Shape := ⟨2, ![1, 768]⟩
abbrev S1x1024x1024 : Shape := ⟨3, ![1, 1024, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x64 : Shape := ⟨3, ![1, 1024, 64]⟩
abbrev S1024x64 : Shape := ⟨2, ![1024, 64]⟩
abbrev S1x64 : Shape := ⟨2, ![1, 64]⟩
abbrev S64 : Shape := ⟨1, ![64]⟩
abbrev S_ : Shape := ⟨0, ![]⟩
abbrev S1024x60 : Shape := ⟨2, ![1024, 60]⟩
abbrev S1024x128 : Shape := ⟨2, ![1024, 128]⟩
abbrev S60 : Shape := ⟨1, ![60]⟩
abbrev S128 : Shape := ⟨1, ![128]⟩
abbrev S1x128 : Shape := ⟨2, ![1, 128]⟩
abbrev S1024x1792 : Shape := ⟨2, ![1024, 1792]⟩
abbrev S1024x1024 : Shape := ⟨2, ![1024, 1024]⟩
abbrev S8x30x768 : Shape := ⟨3, ![8, 30, 768]⟩
abbrev S32768x1024 : Shape := ⟨2, ![32768, 1024]⟩
abbrev S1x1024 : Shape := ⟨2, ![1, 1024]⟩
abbrev S1024 : Shape := ⟨1, ![1024]⟩
abbrev S31x768 : Shape := ⟨2, ![31, 768]⟩
abbrev S768 : Shape := ⟨1, ![768]⟩
abbrev S32768x2 : Shape := ⟨2, ![32768, 2]⟩
abbrev S256x1024 : Shape := ⟨2, ![256, 1024]⟩
abbrev S1x30x768 : Shape := ⟨3, ![1, 30, 768]⟩
abbrev S1x1x256x256 : Shape := ⟨4, ![1, 1, 256, 256]⟩
abbrev S256x2 : Shape := ⟨2, ![256, 2]⟩
abbrev S288x768 : Shape := ⟨2, ![288, 768]⟩
abbrev S7x280x768 : Shape := ⟨3, ![7, 280, 768]⟩
abbrev S256x768 : Shape := ⟨2, ![256, 768]⟩
abbrev S2x768 : Shape := ⟨2, ![2, 768]⟩
abbrev S30x768 : Shape := ⟨2, ![30, 768]⟩
abbrev S32x768 : Shape := ⟨2, ![32, 768]⟩
abbrev S256 : Shape := ⟨1, ![256]⟩
abbrev S256x1 : Shape := ⟨2, ![256, 1]⟩
abbrev S256x1792 : Shape := ⟨2, ![256, 1792]⟩
abbrev S256x256 : Shape := ⟨2, ![256, 256]⟩
abbrev S280x768 : Shape := ⟨2, ![280, 768]⟩
abbrev S1x280x768 : Shape := ⟨3, ![1, 280, 768]⟩
abbrev S32x128 : Shape := ⟨2, ![32, 128]⟩
abbrev S1x32x128 : Shape := ⟨3, ![1, 32, 128]⟩
abbrev S256x128 : Shape := ⟨2, ![256, 128]⟩

abbrev nBuf : Space → Nat
  | .hbm => 54
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S2x8x512x256, .f32⟩
  | .hbm, ⟨2, _⟩ => ⟨S2x1024, .f32⟩
  | .hbm, ⟨3, _⟩ => ⟨S1x1024x1792, .f32⟩
  | .hbm, ⟨4, _⟩ => ⟨S1x31x768, .f32⟩
  | .hbm, ⟨5, _⟩ => ⟨S1x768, .f32⟩
  | .hbm, ⟨6, _⟩ => ⟨S1x768, .f32⟩
  | .hbm, ⟨7, _⟩ => ⟨S1x768, .f32⟩
  | .hbm, ⟨8, _⟩ => ⟨S1x1024x1024, .f32⟩
  | .hbm, ⟨9, _⟩ => ⟨S2x1024, .f32⟩
  | .hbm, ⟨10, _⟩ => ⟨S2x1024x4, .f32⟩
  | .hbm, ⟨11, _⟩ => ⟨S2x4, .f32⟩
  | .hbm, ⟨12, _⟩ => ⟨S2x1024x64, .f32⟩
  | .hbm, ⟨13, _⟩ => ⟨S2x64, .f32⟩
  | .hbm, ⟨14, _⟩ => ⟨S1x1024x4, .f32⟩
  | .hbm, ⟨15, _⟩ => ⟨S1024x4, .f32⟩
  | .hbm, ⟨16, _⟩ => ⟨S1x4, .f32⟩
  | .hbm, ⟨17, _⟩ => ⟨S4, .f32⟩
  | .hbm, ⟨18, _⟩ => ⟨S1x1024x64, .f32⟩
  | .hbm, ⟨19, _⟩ => ⟨S1024x64, .f32⟩
  | .hbm, ⟨20, _⟩ => ⟨S1x64, .f32⟩
  | .hbm, ⟨21, _⟩ => ⟨S64, .f32⟩
  | .hbm, ⟨22, _⟩ => ⟨S_, .f32⟩
  | .hbm, ⟨23, _⟩ => ⟨S1024x60, .f32⟩
  | .hbm, ⟨24, _⟩ => ⟨S1024x128, .f32⟩
  | .hbm, ⟨25, _⟩ => ⟨S_, .f32⟩
  | .hbm, ⟨26, _⟩ => ⟨S60, .f32⟩
  | .hbm, ⟨27, _⟩ => ⟨S128, .f32⟩
  | .hbm, ⟨28, _⟩ => ⟨S1x128, .f32⟩
  | .hbm, ⟨29, _⟩ => ⟨S1024x1792, .f32⟩
  | .hbm, ⟨30, _⟩ => ⟨S1024x1792, .bf16⟩
  | .hbm, ⟨31, _⟩ => ⟨S1024x1024, .f32⟩
  | .hbm, ⟨32, _⟩ => ⟨S1024x1024, .bf16⟩
  | .hbm, ⟨33, _⟩ => ⟨S_, .f32⟩
  | .hbm, ⟨34, _⟩ => ⟨S8x30x768, .f32⟩
  | .hbm, ⟨35, _⟩ => ⟨S32768x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S31x768, .f32⟩
  | .hbm, ⟨40, _⟩ => ⟨S768, .f32⟩
  | .hbm, ⟨41, _⟩ => ⟨S1x768, .f32⟩
  | .hbm, ⟨42, _⟩ => ⟨S768, .f32⟩
  | .hbm, ⟨43, _⟩ => ⟨S1x768, .f32⟩
  | .hbm, ⟨44, _⟩ => ⟨S768, .f32⟩
  | .hbm, ⟨45, _⟩ => ⟨S1x768, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x2, .f32⟩
  | .hbm, ⟨52, _⟩ => ⟨S32768x2, .i32⟩
  | .hbm, ⟨53, _⟩ => ⟨S8x30x768, .f32⟩
  | .local _ .vmem, ⟨0, _⟩ => ⟨S256x1024, .f32⟩
  | .local _ .vmem, ⟨1, _⟩ => ⟨S256x1024, .f32⟩
  | .local _ .vmem, ⟨2, _⟩ => ⟨S1x30x768, .f32⟩
  | .local _ .vmem, ⟨3, _⟩ => ⟨S1x30x768, .f32⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1024, .f32⟩
  | .local _ .vmem, ⟨9, _⟩ => ⟨S1024x1792, .bf16⟩
  | .local _ .vmem, ⟨10, _⟩ => ⟨S31x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1024x1024, .bf16⟩
  | .local _ .vmem, ⟨15, _⟩ => ⟨S1x1024, .f32⟩
  | .local _ .vmem, ⟨16, _⟩ => ⟨S1024x128, .f32⟩
  | .local _ .vmem, ⟨17, _⟩ => ⟨S1x128, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x2, .f32⟩
  | .local _ .vmem, ⟨23, _⟩ => ⟨S256x2, .f32⟩
  | .local _ .vmem, ⟨24, _⟩ => ⟨S256x2, .i32⟩
  | .local _ .vmem, ⟨25, _⟩ => ⟨S256x2, .i32⟩
  | .local _ .vmem, ⟨26, _⟩ => ⟨S1x30x768, .f32⟩
  | .local _ .vmem, ⟨27, _⟩ => ⟨S1x30x768, .f32⟩
  | .local _ .vmem, ⟨28, _⟩ => ⟨S288x768, .f32⟩
  | .local _ .vmem, ⟨29, _⟩ => ⟨S7x280x768, .f32⟩
  | .local _ .vmem, ⟨30, _⟩ => ⟨S256x768, .f32⟩
  | .local _ .vmem, ⟨31, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32_0 : Ref sig .tc := ⟨.hbm, 49, rfl⟩
abbrev main_v32_1 : Ref sig .tc := ⟨.hbm, 50, rfl⟩
abbrev main_v32_2 : Ref sig .tc := ⟨.hbm, 51, rfl⟩
abbrev main_v32_3 : Ref sig .tc := ⟨.hbm, 52, rfl⟩
abbrev main_v32_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_41 : BitVec 32 := 0#32
  let c8_i32 : BitVec 32 := 8#32
  let v65 : BitVec 32 := Scalar.addi c0_i32_41 c8_i32
  let c1_i32 : BitVec 32 := 1#32
  ⟨c0_i32_41, v65, c1_i32⟩
def k0_mult1 (k0_t1 : Fin k0_t1_loop.trips) : BitVec 32 :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  v392
def k0_off1 (k0_t1 : Fin k0_t1_loop.trips) (c0_i32_164 : BitVec 32) : Fin 3 → Nat :=
  let c1_165 : Index := 1#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v399 : BitVec 32 := Scalar.addi v393 c0_i32_164
  let v400 : Index := Scalar.indexCast v399
  let c0_166 : Index := 0#32
  ![1, v400.toNat, 0]
def k0_off2 (k0_t1 : Fin k0_t1_loop.trips) (c0_i32_169 : BitVec 32) : Fin 3 → Nat :=
  let c2_170 : Index := 2#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v408 : BitVec 32 := Scalar.addi v393 c0_i32_169
  let v409 : Index := Scalar.indexCast v408
  let c0_171 : Index := 0#32
  ![2, v409.toNat, 0]
def k0_off3 (k0_t1 : Fin k0_t1_loop.trips) (c0_i32_174 : BitVec 32) : Fin 3 → Nat :=
  let c3_175 : Index := 3#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v417 : BitVec 32 := Scalar.addi v393 c0_i32_174
  let v418 : Index := Scalar.indexCast v417
  let c0_176 : Index := 0#32
  ![3, v418.toNat, 0]
def k0_off4 (k0_t1 : Fin k0_t1_loop.trips) (c0_i32_179 : BitVec 32) : Fin 3 → Nat :=
  let c4_180 : Index := 4#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v426 : BitVec 32 := Scalar.addi v393 c0_i32_179
  let v427 : Index := Scalar.indexCast v426
  let c0_181 : Index := 0#32
  ![4, v427.toNat, 0]
def k0_off5 (k0_t1 : Fin k0_t1_loop.trips) (c0_i32_184 : BitVec 32) : Fin 3 → Nat :=
  let c5_185 : Index := 5#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v435 : BitVec 32 := Scalar.addi v393 c0_i32_184
  let v436 : Index := Scalar.indexCast v435
  let c0_186 : Index := 0#32
  ![5, v436.toNat, 0]
def k0_off6 (k0_t1 : Fin k0_t1_loop.trips) (c0_i32_189 : BitVec 32) : Fin 3 → Nat :=
  let c6_190 : Index := 6#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v444 : BitVec 32 := Scalar.addi v393 c0_i32_189
  let v445 : Index := Scalar.indexCast v444
  let c0_191 : Index := 0#32
  ![6, v445.toNat, 0]
def k0_off7 (k0_t1 : Fin k0_t1_loop.trips) (c8_i32_194 : BitVec 32) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v453 : BitVec 32 := Scalar.addi v393 c8_i32_194
  let v454 : Index := Scalar.indexCast v453
  let c0_195 : Index := 0#32
  ![v454.toNat, 0]
def k0_off8 (k0_t1 : Fin k0_t1_loop.trips) (c8_i32_198 : BitVec 32) : Fin 3 → Nat :=
  let c0_199 : Index := 0#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v461 : BitVec 32 := Scalar.addi v393 c8_i32_198
  let v462 : Index := Scalar.indexCast v461
  let c0_200 : Index := 0#32
  ![0, v462.toNat, 0]
def k0_off9 (k0_t1 : Fin k0_t1_loop.trips) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v674 : Index := Scalar.indexCast v393
  let c0_291 : Index := 0#32
  ![v674.toNat, 0]
def k0_off10 (k0_t1 : Fin k0_t1_loop.trips) (c0_i32_294 : BitVec 32) : Fin 3 → Nat :=
  let c1_295 : Index := 1#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v683 : BitVec 32 := Scalar.addi v393 c0_i32_294
  let v684 : Index := Scalar.indexCast v683
  let c128_296 : Index := 128#32
  ![1, v684.toNat, 128]
def k0_off11 (k0_t1 : Fin k0_t1_loop.trips) (c0_i32_299 : BitVec 32) : Fin 3 → Nat :=
  let c2_300 : Index := 2#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v692 : BitVec 32 := Scalar.addi v393 c0_i32_299
  let v693 : Index := Scalar.indexCast v692
  let c128_301 : Index := 128#32
  ![2, v693.toNat, 128]
def k0_off12 (k0_t1 : Fin k0_t1_loop.trips) (c0_i32_304 : BitVec 32) : Fin 3 → Nat :=
  let c3_305 : Index := 3#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v701 : BitVec 32 := Scalar.addi v393 c0_i32_304
  let v702 : Index := Scalar.indexCast v701
  let c128_306 : Index := 128#32
  ![3, v702.toNat, 128]
def k0_off13 (k0_t1 : Fin k0_t1_loop.trips) (c0_i32_309 : BitVec 32) : Fin 3 → Nat :=
  let c4_310 : Index := 4#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v710 : BitVec 32 := Scalar.addi v393 c0_i32_309
  let v711 : Index := Scalar.indexCast v710
  let c128_311 : Index := 128#32
  ![4, v711.toNat, 128]
def k0_off14 (k0_t1 : Fin k0_t1_loop.trips) (c0_i32_314 : BitVec 32) : Fin 3 → Nat :=
  let c5_315 : Index := 5#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v719 : BitVec 32 := Scalar.addi v393 c0_i32_314
  let v720 : Index := Scalar.indexCast v719
  let c128_316 : Index := 128#32
  ![5, v720.toNat, 128]
def k0_off15 (k0_t1 : Fin k0_t1_loop.trips) (c0_i32_319 : BitVec 32) : Fin 3 → Nat :=
  let c6_320 : Index := 6#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v728 : BitVec 32 := Scalar.addi v393 c0_i32_319
  let v729 : Index := Scalar.indexCast v728
  let c128_321 : Index := 128#32
  ![6, v729.toNat, 128]
def k0_off16 (k0_t1 : Fin k0_t1_loop.trips) (c8_i32_324 : BitVec 32) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v737 : BitVec 32 := Scalar.addi v393 c8_i32_324
  let v738 : Index := Scalar.indexCast v737
  let c128_325 : Index := 128#32
  ![v738.toNat, 128]
def k0_off17 (k0_t1 : Fin k0_t1_loop.trips) (c8_i32_328 : BitVec 32) : Fin 3 → Nat :=
  let c0_329 : Index := 0#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v745 : BitVec 32 := Scalar.addi v393 c8_i32_328
  let v746 : Index := Scalar.indexCast v745
  let c128_330 : Index := 128#32
  ![0, v746.toNat, 128]
def k0_off18 (k0_t1 : Fin k0_t1_loop.trips) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v958 : Index := Scalar.indexCast v393
  let c128_445 : Index := 128#32
  ![v958.toNat, 128]
def k0_off19 (k0_t1 : Fin k0_t1_loop.trips) (c0_i32_448 : BitVec 32) : Fin 3 → Nat :=
  let c1_449 : Index := 1#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v967 : BitVec 32 := Scalar.addi v393 c0_i32_448
  let v968 : Index := Scalar.indexCast v967
  let c256_450 : Index := 256#32
  ![1, v968.toNat, 256]
def k0_off20 (k0_t1 : Fin k0_t1_loop.trips) (c0_i32_453 : BitVec 32) : Fin 3 → Nat :=
  let c2_454 : Index := 2#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v976 : BitVec 32 := Scalar.addi v393 c0_i32_453
  let v977 : Index := Scalar.indexCast v976
  let c256_455 : Index := 256#32
  ![2, v977.toNat, 256]
def k0_off21 (k0_t1 : Fin k0_t1_loop.trips) (c0_i32_458 : BitVec 32) : Fin 3 → Nat :=
  let c3_459 : Index := 3#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v985 : BitVec 32 := Scalar.addi v393 c0_i32_458
  let v986 : Index := Scalar.indexCast v985
  let c256_460 : Index := 256#32
  ![3, v986.toNat, 256]
def k0_off22 (k0_t1 : Fin k0_t1_loop.trips) (c0_i32_463 : BitVec 32) : Fin 3 → Nat :=
  let c4_464 : Index := 4#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v994 : BitVec 32 := Scalar.addi v393 c0_i32_463
  let v995 : Index := Scalar.indexCast v994
  let c256_465 : Index := 256#32
  ![4, v995.toNat, 256]
def k0_off23 (k0_t1 : Fin k0_t1_loop.trips) (c0_i32_468 : BitVec 32) : Fin 3 → Nat :=
  let c5_469 : Index := 5#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1003 : BitVec 32 := Scalar.addi v393 c0_i32_468
  let v1004 : Index := Scalar.indexCast v1003
  let c256_470 : Index := 256#32
  ![5, v1004.toNat, 256]
def k0_off24 (k0_t1 : Fin k0_t1_loop.trips) (c0_i32_473 : BitVec 32) : Fin 3 → Nat :=
  let c6_474 : Index := 6#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1012 : BitVec 32 := Scalar.addi v393 c0_i32_473
  let v1013 : Index := Scalar.indexCast v1012
  let c256_475 : Index := 256#32
  ![6, v1013.toNat, 256]
def k0_off25 (k0_t1 : Fin k0_t1_loop.trips) (c8_i32_478 : BitVec 32) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1021 : BitVec 32 := Scalar.addi v393 c8_i32_478
  let v1022 : Index := Scalar.indexCast v1021
  let c256_479 : Index := 256#32
  ![v1022.toNat, 256]
def k0_off26 (k0_t1 : Fin k0_t1_loop.trips) (c8_i32_482 : BitVec 32) : Fin 3 → Nat :=
  let c0_483 : Index := 0#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1029 : BitVec 32 := Scalar.addi v393 c8_i32_482
  let v1030 : Index := Scalar.indexCast v1029
  let c256_484 : Index := 256#32
  ![0, v1030.toNat, 256]
def k0_off27 (k0_t1 : Fin k0_t1_loop.trips) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1242 : Index := Scalar.indexCast v393
  let c256_599 : Index := 256#32
  ![v1242.toNat, 256]
def k0_off28 (k0_t1 : Fin k0_t1_loop.trips) (c0_i32_602 : BitVec 32) : Fin 3 → Nat :=
  let c1_603 : Index := 1#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1251 : BitVec 32 := Scalar.addi v393 c0_i32_602
  let v1252 : Index := Scalar.indexCast v1251
  let c384_604 : Index := 384#32
  ![1, v1252.toNat, 384]
def k0_off29 (k0_t1 : Fin k0_t1_loop.trips) (c0_i32_607 : BitVec 32) : Fin 3 → Nat :=
  let c2_608 : Index := 2#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1260 : BitVec 32 := Scalar.addi v393 c0_i32_607
  let v1261 : Index := Scalar.indexCast v1260
  let c384_609 : Index := 384#32
  ![2, v1261.toNat, 384]
def k0_off30 (k0_t1 : Fin k0_t1_loop.trips) (c0_i32_612 : BitVec 32) : Fin 3 → Nat :=
  let c3_613 : Index := 3#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1269 : BitVec 32 := Scalar.addi v393 c0_i32_612
  let v1270 : Index := Scalar.indexCast v1269
  let c384_614 : Index := 384#32
  ![3, v1270.toNat, 384]
def k0_off31 (k0_t1 : Fin k0_t1_loop.trips) (c0_i32_617 : BitVec 32) : Fin 3 → Nat :=
  let c4_618 : Index := 4#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1278 : BitVec 32 := Scalar.addi v393 c0_i32_617
  let v1279 : Index := Scalar.indexCast v1278
  let c384_619 : Index := 384#32
  ![4, v1279.toNat, 384]
def k0_off32 (k0_t1 : Fin k0_t1_loop.trips) (c0_i32_622 : BitVec 32) : Fin 3 → Nat :=
  let c5_623 : Index := 5#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1287 : BitVec 32 := Scalar.addi v393 c0_i32_622
  let v1288 : Index := Scalar.indexCast v1287
  let c384_624 : Index := 384#32
  ![5, v1288.toNat, 384]
def k0_off33 (k0_t1 : Fin k0_t1_loop.trips) (c0_i32_627 : BitVec 32) : Fin 3 → Nat :=
  let c6_628 : Index := 6#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1296 : BitVec 32 := Scalar.addi v393 c0_i32_627
  let v1297 : Index := Scalar.indexCast v1296
  let c384_629 : Index := 384#32
  ![6, v1297.toNat, 384]
def k0_off34 (k0_t1 : Fin k0_t1_loop.trips) (c8_i32_632 : BitVec 32) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1305 : BitVec 32 := Scalar.addi v393 c8_i32_632
  let v1306 : Index := Scalar.indexCast v1305
  let c384_633 : Index := 384#32
  ![v1306.toNat, 384]
def k0_off35 (k0_t1 : Fin k0_t1_loop.trips) (c8_i32_636 : BitVec 32) : Fin 3 → Nat :=
  let c0_637 : Index := 0#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1313 : BitVec 32 := Scalar.addi v393 c8_i32_636
  let v1314 : Index := Scalar.indexCast v1313
  let c384_638 : Index := 384#32
  ![0, v1314.toNat, 384]
def k0_off36 (k0_t1 : Fin k0_t1_loop.trips) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1526 : Index := Scalar.indexCast v393
  let c384_753 : Index := 384#32
  ![v1526.toNat, 384]
def k0_off37 (k0_t1 : Fin k0_t1_loop.trips) (c0_i32_756 : BitVec 32) : Fin 3 → Nat :=
  let c1_757 : Index := 1#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1535 : BitVec 32 := Scalar.addi v393 c0_i32_756
  let v1536 : Index := Scalar.indexCast v1535
  let c512_758 : Index := 512#32
  ![1, v1536.toNat, 512]
def k0_off38 (k0_t1 : Fin k0_t1_loop.trips) (c0_i32_761 : BitVec 32) : Fin 3 → Nat :=
  let c2_762 : Index := 2#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1544 : BitVec 32 := Scalar.addi v393 c0_i32_761
  let v1545 : Index := Scalar.indexCast v1544
  let c512_763 : Index := 512#32
  ![2, v1545.toNat, 512]
def k0_off39 (k0_t1 : Fin k0_t1_loop.trips) (c0_i32_766 : BitVec 32) : Fin 3 → Nat :=
  let c3_767 : Index := 3#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1553 : BitVec 32 := Scalar.addi v393 c0_i32_766
  let v1554 : Index := Scalar.indexCast v1553
  let c512_768 : Index := 512#32
  ![3, v1554.toNat, 512]
def k0_off40 (k0_t1 : Fin k0_t1_loop.trips) (c0_i32_771 : BitVec 32) : Fin 3 → Nat :=
  let c4_772 : Index := 4#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1562 : BitVec 32 := Scalar.addi v393 c0_i32_771
  let v1563 : Index := Scalar.indexCast v1562
  let c512_773 : Index := 512#32
  ![4, v1563.toNat, 512]
def k0_off41 (k0_t1 : Fin k0_t1_loop.trips) (c0_i32_776 : BitVec 32) : Fin 3 → Nat :=
  let c5_777 : Index := 5#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1571 : BitVec 32 := Scalar.addi v393 c0_i32_776
  let v1572 : Index := Scalar.indexCast v1571
  let c512_778 : Index := 512#32
  ![5, v1572.toNat, 512]
def k0_off42 (k0_t1 : Fin k0_t1_loop.trips) (c0_i32_781 : BitVec 32) : Fin 3 → Nat :=
  let c6_782 : Index := 6#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1580 : BitVec 32 := Scalar.addi v393 c0_i32_781
  let v1581 : Index := Scalar.indexCast v1580
  let c512_783 : Index := 512#32
  ![6, v1581.toNat, 512]
def k0_off43 (k0_t1 : Fin k0_t1_loop.trips) (c8_i32_786 : BitVec 32) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1589 : BitVec 32 := Scalar.addi v393 c8_i32_786
  let v1590 : Index := Scalar.indexCast v1589
  let c512_787 : Index := 512#32
  ![v1590.toNat, 512]
def k0_off44 (k0_t1 : Fin k0_t1_loop.trips) (c8_i32_790 : BitVec 32) : Fin 3 → Nat :=
  let c0_791 : Index := 0#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1597 : BitVec 32 := Scalar.addi v393 c8_i32_790
  let v1598 : Index := Scalar.indexCast v1597
  let c512_792 : Index := 512#32
  ![0, v1598.toNat, 512]
def k0_off45 (k0_t1 : Fin k0_t1_loop.trips) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1810 : Index := Scalar.indexCast v393
  let c512_907 : Index := 512#32
  ![v1810.toNat, 512]
def k0_off46 (k0_t1 : Fin k0_t1_loop.trips) (c0_i32_910 : BitVec 32) : Fin 3 → Nat :=
  let c1_911 : Index := 1#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1819 : BitVec 32 := Scalar.addi v393 c0_i32_910
  let v1820 : Index := Scalar.indexCast v1819
  let c640_912 : Index := 640#32
  ![1, v1820.toNat, 640]
def k0_off47 (k0_t1 : Fin k0_t1_loop.trips) (c0_i32_915 : BitVec 32) : Fin 3 → Nat :=
  let c2_916 : Index := 2#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1828 : BitVec 32 := Scalar.addi v393 c0_i32_915
  let v1829 : Index := Scalar.indexCast v1828
  let c640_917 : Index := 640#32
  ![2, v1829.toNat, 640]
def k0_off48 (k0_t1 : Fin k0_t1_loop.trips) (c0_i32_920 : BitVec 32) : Fin 3 → Nat :=
  let c3_921 : Index := 3#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1837 : BitVec 32 := Scalar.addi v393 c0_i32_920
  let v1838 : Index := Scalar.indexCast v1837
  let c640_922 : Index := 640#32
  ![3, v1838.toNat, 640]
def k0_off49 (k0_t1 : Fin k0_t1_loop.trips) (c0_i32_925 : BitVec 32) : Fin 3 → Nat :=
  let c4_926 : Index := 4#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1846 : BitVec 32 := Scalar.addi v393 c0_i32_925
  let v1847 : Index := Scalar.indexCast v1846
  let c640_927 : Index := 640#32
  ![4, v1847.toNat, 640]
def k0_off50 (k0_t1 : Fin k0_t1_loop.trips) (c0_i32_930 : BitVec 32) : Fin 3 → Nat :=
  let c5_931 : Index := 5#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1855 : BitVec 32 := Scalar.addi v393 c0_i32_930
  let v1856 : Index := Scalar.indexCast v1855
  let c640_932 : Index := 640#32
  ![5, v1856.toNat, 640]
def k0_off51 (k0_t1 : Fin k0_t1_loop.trips) (c0_i32_935 : BitVec 32) : Fin 3 → Nat :=
  let c6_936 : Index := 6#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1864 : BitVec 32 := Scalar.addi v393 c0_i32_935
  let v1865 : Index := Scalar.indexCast v1864
  let c640_937 : Index := 640#32
  ![6, v1865.toNat, 640]
def k0_off52 (k0_t1 : Fin k0_t1_loop.trips) (c8_i32_940 : BitVec 32) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1873 : BitVec 32 := Scalar.addi v393 c8_i32_940
  let v1874 : Index := Scalar.indexCast v1873
  let c640_941 : Index := 640#32
  ![v1874.toNat, 640]
def k0_off53 (k0_t1 : Fin k0_t1_loop.trips) (c8_i32_944 : BitVec 32) : Fin 3 → Nat :=
  let c0_945 : Index := 0#32
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v1881 : BitVec 32 := Scalar.addi v393 c8_i32_944
  let v1882 : Index := Scalar.indexCast v1881
  let c640_946 : Index := 640#32
  ![0, v1882.toNat, 640]
def k0_off54 (k0_t1 : Fin k0_t1_loop.trips) : Fin 2 → Nat :=
  let c0_i32_41 : BitVec 32 := 0#32
  let c1_i32 : BitVec 32 := 1#32
  let arg25 : BitVec 32 := Scf.iv c0_i32_41 c1_i32 k0_t1
  let c32_i32 : BitVec 32 := 32#32
  let v392 : BitVec 32 := Scalar.muli arg25 c32_i32
  let v393 : BitVec 32 := v392
  let v2094 : Index := Scalar.indexCast v393
  let c640_1061 : Index := 640#32
  ![v2094.toNat, 640]
def k0_cond3 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_12 : BitVec 32 := 0#32
  let v36 : BitVec 1 := Scalar.cmpi .ne v35 c0_i32_12
  v36

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x2 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x2 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x30x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== LayerZeroRefIdeal.lean ====
abbrev S8x4096x1024 : Shape := ⟨3, ![8, 4096, 1024]⟩
abbrev S2x8x512x256 : Shape := ⟨4, ![2, 8, 512, 256]⟩
abbrev S2x1024 : Shape := ⟨2, ![2, 1024]⟩
abbrev S1x1024x1792 : Shape := ⟨3, ![1, 1024, 1792]⟩
abbrev S1x31x768 : Shape := ⟨3, ![1, 31, 768]⟩
abbrev S1x768 : Shape := ⟨2, ![1, 768]⟩
abbrev S1x1024x1024 : Shape := ⟨3, ![1, 1024, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S1024x1792 : Shape := ⟨2, ![1024, 1792]⟩
abbrev S8x4096x1792 : Shape := ⟨3, ![8, 4096, 1792]⟩
abbrev S8x4096x768 : Shape := ⟨3, ![8, 4096, 768]⟩
abbrev S8x4096x256 : Shape := ⟨3, ![8, 4096, 256]⟩
abbrev S8x30x768 : Shape := ⟨3, ![8, 30, 768]⟩
abbrev S8x4126x768 : Shape := ⟨3, ![8, 4126, 768]⟩
abbrev S1x1x768 : Shape := ⟨3, ![1, 1, 768]⟩
abbrev S768 : Shape := ⟨1, ![768]⟩
abbrev S1x8x256x256 : Shape := ⟨4, ![1, 8, 256, 256]⟩
abbrev S8x256x256 : Shape := ⟨3, ![8, 256, 256]⟩
abbrev S8x4x64x256 : Shape := ⟨4, ![8, 4, 64, 256]⟩
abbrev S8x256x4x64 : Shape := ⟨4, ![8, 256, 4, 64]⟩
abbrev S8x4096x4x64 : Shape := ⟨4, ![8, 4096, 4, 64]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S1024x1024 : Shape := ⟨2, ![1024, 1024]⟩
abbrev S32768x1024 : Shape := ⟨2, ![32768, 1024]⟩

abbrev nBuf : Space → Nat
  | .hbm => 365
  | .vmem => 0
  | .smem => 0
  | _ => 0

abbrev hbmTy0_0 (i : Nat) : BufTy := match i % 128 with
  | 0 => ⟨S8x4096x1024, .f32⟩
  | 1 => ⟨S2x8x512x256, .f32⟩
  | 2 => ⟨S2x1024, .f32⟩
  | 3 => ⟨S1x1024x1792, .f32⟩
  | 4 => ⟨S1x31x768, .f32⟩
  | 5 => ⟨S1x768, .f32⟩
  | 6 => ⟨S1x768, .f32⟩
  | 7 => ⟨S1x768, .f32⟩
  | 8 => ⟨S1x1024x1024, .f32⟩
  | 9 => ⟨S2x1024, .f32⟩
  | 10 => ⟨S2x1024x4, .f32⟩
  | 11 => ⟨S2x4, .f32⟩
  | 12 => ⟨S2x1024x64, .f32⟩
  | 13 => ⟨S2x64, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1024, .f32⟩
  | 28 => ⟨S1024, .f32⟩
  | 29 => ⟨S1x1x1024, .f32⟩
  | 30 => ⟨S8x4096x1024, .f32⟩
  | 31 => ⟨S8x4096x1024, .f32⟩
  | 32 => ⟨S1024x1792, .f32⟩
  | 33 => ⟨S8x4096x1792, .f32⟩
  | 34 => ⟨S8x4096x768, .f32⟩
  | 35 => ⟨S8x4096x768, .f32⟩
  | 36 => ⟨S8x4096x256, .f32⟩
  | 37 => ⟨S8x4096x768, .f32⟩
  | 38 => ⟨S8x4096x768, .f32⟩
  | 39 => ⟨S_, .f32⟩
  | 40 => ⟨S8x4096x768, .f32⟩
  | 41 => ⟨S8x4096x768, .f32⟩
  | 42 => ⟨S_, .f32⟩
  | 43 => ⟨S8x4096x768, .f32⟩
  | 44 => ⟨S8x4096x768, .f32⟩
  | 45 => ⟨S8x4096x768, .f32⟩
  | 46 => ⟨S_, .f32⟩
  | 47 => ⟨S8x30x768, .f32⟩
  | 48 => ⟨S8x4126x768, .f32⟩
  | 49 => ⟨S8x30x768, .f32⟩
  | 50 => ⟨S_, .f32⟩
  | 51 => ⟨S8x4096x768, .f32⟩
  | 52 => ⟨S8x4096x768, .f32⟩
  | 53 => ⟨S1x1x768, .f32⟩
  | 54 => ⟨S768, .f32⟩
  | 55 => ⟨S1x1x768, .f32⟩
  | 56 => ⟨S8x4096x768, .f32⟩
  | 57 => ⟨S8x4096x768, .f32⟩
  | 58 => ⟨S8x4096x768, .f32⟩
  | 59 => ⟨S8x4096x768, .f32⟩
  | 60 => ⟨S1x1x768, .f32⟩
  | 61 => ⟨S768, .f32⟩
  | 62 => ⟨S1x1x768, .f32⟩
  | 63 => ⟨S8x4096x768, .f32⟩
  | 64 => ⟨S8x4096x768, .f32⟩
  | 65 => ⟨S8x4096x768, .f32⟩
  | 66 => ⟨S8x4096x768, .f32⟩
  | 67 => ⟨S1x1x768, .f32⟩
  | 68 => ⟨S768, .f32⟩
  | 69 => ⟨S1x1x768, .f32⟩
  | 70 => ⟨S8x4096x768, .f32⟩
  | 71 => ⟨S8x4096x768, .f32⟩
  | 72 => ⟨S8x4096x768, .f32⟩
  | 73 => ⟨S8x4096x768, .f32⟩
  | 74 => ⟨S1x1x768, .f32⟩
  | 75 => ⟨S768, .f32⟩
  | 76 => ⟨S1x1x768, .f32⟩
  | 77 => ⟨S8x4096x768, .f32⟩
  | 78 => ⟨S8x4096x768, .f32⟩
  | 79 => ⟨S8x4096x768, .f32⟩
  | 80 => ⟨S8x4096x768, .f32⟩
  | 81 => ⟨S1x1x768, .f32⟩
  | 82 => ⟨S768, .f32⟩
  | 83 => ⟨S1x1x768, .f32⟩
  | 84 => ⟨S8x4096x768, .f32⟩
  | 85 => ⟨S8x4096x768, .f32⟩
  | 86 => ⟨S8x4096x768, .f32⟩
  | 87 => ⟨S8x4096x768, .f32⟩
  | 88 => ⟨S1x1x768, .f32⟩
  | 89 => ⟨S768, .f32⟩
  | 90 => ⟨S1x1x768, .f32⟩
  | 91 => ⟨S8x4096x768, .f32⟩
  | 92 => ⟨S8x4096x768, .f32⟩
  | 93 => ⟨S8x4096x768, .f32⟩
  | 94 => ⟨S8x4096x768, .f32⟩
  | 95 => ⟨S1x1x768, .f32⟩
  | 96 => ⟨S768, .f32⟩
  | 97 => ⟨S1x1x768, .f32⟩
  | 98 => ⟨S8x4096x768, .f32⟩
  | 99 => ⟨S8x4096x768, .f32⟩
  | 100 => ⟨S8x4096x768, .f32⟩
  | 101 => ⟨S8x4096x768, .f32⟩
  | 102 => ⟨S1x1x768, .f32⟩
  | 103 => ⟨S768, .f32⟩
  | 104 => ⟨S1x1x768, .f32⟩
  | 105 => ⟨S8x4096x768, .f32⟩
  | 106 => ⟨S8x4096x768, .f32⟩
  | 107 => ⟨S8x4096x768, .f32⟩
  | 108 => ⟨S8x4096x768, .f32⟩
  | 109 => ⟨S1x1x768, .f32⟩
  | 110 => ⟨S768, .f32⟩
  | 111 => ⟨S1x1x768, .f32⟩
  | 112 => ⟨S8x4096x768, .f32⟩
  | 113 => ⟨S8x4096x768, .f32⟩
  | 114 => ⟨S8x4096x768, .f32⟩
  | 115 => ⟨S8x4096x768, .f32⟩
  | 116 => ⟨S1x1x768, .f32⟩
  | 117 => ⟨S768, .f32⟩
  | 118 => ⟨S1x1x768, .f32⟩
  | 119 => ⟨S8x4096x768, .f32⟩
  | 120 => ⟨S8x4096x768, .f32⟩
  | 121 => ⟨S8x4096x768, .f32⟩
  | 122 => ⟨S8x4096x768, .f32⟩
  | 123 => ⟨S1x1x768, .f32⟩
  | 124 => ⟨S768, .f32⟩
  | 125 => ⟨S1x1x768, .f32⟩
  | 126 => ⟨S8x4096x768, .f32⟩
  | 127 => ⟨S8x4096x768, .f32⟩
  | _ => ⟨S8x4096x1024, .f32⟩

abbrev hbmTy0_1 (i : Nat) : BufTy := match i % 128 with
  | 0 => ⟨S8x4096x768, .f32⟩
  | 1 => ⟨S8x4096x768, .f32⟩
  | 2 => ⟨S1x1x768, .f32⟩
  | 3 => ⟨S768, .f32⟩
  | 4 => ⟨S1x1x768, .f32⟩
  | 5 => ⟨S8x4096x768, .f32⟩
  | 6 => ⟨S8x4096x768, .f32⟩
  | 7 => ⟨S8x4096x768, .f32⟩
  | 8 => ⟨S8x4096x768, .f32⟩
  | 9 => ⟨S1x1x768, .f32⟩
  | 10 => ⟨S768, .f32⟩
  | 11 => ⟨S1x1x768, .f32⟩
  | 12 => ⟨S8x4096x768, .f32⟩
  | 13 => ⟨S8x4096x768, .f32⟩
  | 14 => ⟨S8x4096x768, .f32⟩
  | 15 => ⟨S8x4096x768, .f32⟩
  | 16 => ⟨S1x1x768, .f32⟩
  | 17 => ⟨S768, .f32⟩
  | 18 => ⟨S1x1x768, .f32⟩
  | 19 => ⟨S8x4096x768, .f32⟩
  | 20 => ⟨S8x4096x768, .f32⟩
  | 21 => ⟨S8x4096x768, .f32⟩
  | 22 => ⟨S8x4096x768, .f32⟩
  | 23 => ⟨S1x1x768, .f32⟩
  | 24 => ⟨S768, .f32⟩
  | 25 => ⟨S1x1x768, .f32⟩
  | 26 => ⟨S8x4096x768, .f32⟩
  | 27 => ⟨S8x4096x768, .f32⟩
  | 28 => ⟨S8x4096x768, .f32⟩
  | 29 => ⟨S8x4096x768, .f32⟩
  | 30 => ⟨S1x1x768, .f32⟩
  | 31 => ⟨S768, .f32⟩
  | 32 => ⟨S1x1x768, .f32⟩
  | 33 => ⟨S8x4096x768, .f32⟩
  | 34 => ⟨S8x4096x768, .f32⟩
  | 35 => ⟨S8x4096x768, .f32⟩
  | 36 => ⟨S8x4096x768, .f32⟩
  | 37 => ⟨S1x1x768, .f32⟩
  | 38 => ⟨S768, .f32⟩
  | 39 => ⟨S1x1x768, .f32⟩
  | 40 => ⟨S8x4096x768, .f32⟩
  | 41 => ⟨S8x4096x768, .f32⟩
  | 42 => ⟨S8x4096x768, .f32⟩
  | 43 => ⟨S8x4096x768, .f32⟩
  | 44 => ⟨S1x1x768, .f32⟩
  | 45 => ⟨S768, .f32⟩
  | 46 => ⟨S1x1x768, .f32⟩
  | 47 => ⟨S8x4096x768, .f32⟩
  | 48 => ⟨S8x4096x768, .f32⟩
  | 49 => ⟨S8x4096x768, .f32⟩
  | 50 => ⟨S8x4096x768, .f32⟩
  | 51 => ⟨S1x1x768, .f32⟩
  | 52 => ⟨S768, .f32⟩
  | 53 => ⟨S1x1x768, .f32⟩
  | 54 => ⟨S8x4096x768, .f32⟩
  | 55 => ⟨S8x4096x768, .f32⟩
  | 56 => ⟨S8x4096x768, .f32⟩
  | 57 => ⟨S8x4096x768, .f32⟩
  | 58 => ⟨S1x1x768, .f32⟩
  | 59 => ⟨S768, .f32⟩
  | 60 => ⟨S1x1x768, .f32⟩
  | 61 => ⟨S8x4096x768, .f32⟩
  | 62 => ⟨S8x4096x768, .f32⟩
  | 63 => ⟨S8x4096x768, .f32⟩
  | 64 => ⟨S8x4096x768, .f32⟩
  | 65 => ⟨S1x1x768, .f32⟩
  | 66 => ⟨S768, .f32⟩
  | 67 => ⟨S1x1x768, .f32⟩
  | 68 => ⟨S8x4096x768, .f32⟩
  | 69 => ⟨S8x4096x768, .f32⟩
  | 70 => ⟨S8x4096x768, .f32⟩
  | 71 => ⟨S8x4096x768, .f32⟩
  | 72 => ⟨S1x1x768, .f32⟩
  | 73 => ⟨S768, .f32⟩
  | 74 => ⟨S1x1x768, .f32⟩
  | 75 => ⟨S8x4096x768, .f32⟩
  | 76 => ⟨S8x4096x768, .f32⟩
  | 77 => ⟨S8x4096x768, .f32⟩
  | 78 => ⟨S8x4096x768, .f32⟩
  | 79 => ⟨S1x1x768, .f32⟩
  | 80 => ⟨S768, .f32⟩
  | 81 => ⟨S1x1x768, .f32⟩
  | 82 => ⟨S8x4096x768, .f32⟩
  | 83 => ⟨S8x4096x768, .f32⟩
  | 84 => ⟨S8x4096x768, .f32⟩
  | 85 => ⟨S8x4096x768, .f32⟩
  | 86 => ⟨S1x1x768, .f32⟩
  | 87 => ⟨S768, .f32⟩
  | 88 => ⟨S1x1x768, .f32⟩
  | 89 => ⟨S8x4096x768, .f32⟩
  | 90 => ⟨S8x4096x768, .f32⟩
  | 91 => ⟨S8x4096x768, .f32⟩
  | 92 => ⟨S8x4096x768, .f32⟩
  | 93 => ⟨S1x1x768, .f32⟩
  | 94 => ⟨S768, .f32⟩
  | 95 => ⟨S1x1x768, .f32⟩
  | 96 => ⟨S8x4096x768, .f32⟩
  | 97 => ⟨S8x4096x768, .f32⟩
  | 98 => ⟨S8x4096x768, .f32⟩
  | 99 => ⟨S8x4096x768, .f32⟩
  | 100 => ⟨S1x1x768, .f32⟩
  | 101 => ⟨S768, .f32⟩
  | 102 => ⟨S1x1x768, .f32⟩
  | 103 => ⟨S8x4096x768, .f32⟩
  | 104 => ⟨S8x4096x768, .f32⟩
  | 105 => ⟨S8x4096x768, .f32⟩
  | 106 => ⟨S8x4096x768, .f32⟩
  | 107 => ⟨S1x1x768, .f32⟩
  | 108 => ⟨S768, .f32⟩
  | 109 => ⟨S1x1x768, .f32⟩
  | 110 => ⟨S8x4096x768, .f32⟩
  | 111 => ⟨S8x4096x768, .f32⟩
  | 112 => ⟨S8x4096x768, .f32⟩
  | 113 => ⟨S8x4096x768, .f32⟩
  | 114 => ⟨S1x1x768, .f32⟩
  | 115 => ⟨S768, .f32⟩
  | 116 => ⟨S1x1x768, .f32⟩
  | 117 => ⟨S8x4096x768, .f32⟩
  | 118 => ⟨S8x4096x768, .f32⟩
  | 119 => ⟨S8x4096x768, .f32⟩
  | 120 => ⟨S8x4096x768, .f32⟩
  | 121 => ⟨S1x1x768, .f32⟩
  | 122 => ⟨S768, .f32⟩
  | 123 => ⟨S1x1x768, .f32⟩
  | 124 => ⟨S8x4096x768, .f32⟩
  | 125 => ⟨S8x4096x768, .f32⟩
  | 126 => ⟨S8x4096x768, .f32⟩
  | 127 => ⟨S8x4096x768, .f32⟩
  | _ => ⟨S8x4096x1024, .f32⟩

abbrev hbmTy0_2 (i : Nat) : BufTy := match i % 128 with
  | 0 => ⟨S1x1x768, .f32⟩
  | 1 => ⟨S768, .f32⟩
  | 2 => ⟨S1x1x768, .f32⟩
  | 3 => ⟨S8x4096x768, .f32⟩
  | 4 => ⟨S8x4096x768, .f32⟩
  | 5 => ⟨S8x4096x768, .f32⟩
  | 6 => ⟨S8x4096x768, .f32⟩
  | 7 => ⟨S1x1x768, .f32⟩
  | 8 => ⟨S768, .f32⟩
  | 9 => ⟨S1x1x768, .f32⟩
  | 10 => ⟨S8x4096x768, .f32⟩
  | 11 => ⟨S8x4096x768, .f32⟩
  | 12 => ⟨S8x4096x768, .f32⟩
  | 13 => ⟨S768, .f32⟩
  | 14 => ⟨S1x1x768, .f32⟩
  | 15 => ⟨S8x4096x768, .f32⟩
  | 16 => ⟨S8x4096x768, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S8x4096x768, .f32⟩
  | 24 => ⟨S8x4096x768, .f32⟩
  | 25 => ⟨S8x4096x768, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x768, .f32⟩
  | 37 => ⟨S8x4096x768, .f32⟩
  | 38 => ⟨S768, .f32⟩
  | 39 => ⟨S1x1x768, .f32⟩
  | 40 => ⟨S8x4096x768, .f32⟩
  | 41 => ⟨S8x4096x768, .f32⟩
  | 42 => ⟨S768, .f32⟩
  | 43 => ⟨S1x1x768, .f32⟩
  | 44 => ⟨S8x4096x768, .f32⟩
  | 45 => ⟨S8x4096x768, .f32⟩
  | 46 => ⟨S8x4096x768, .f32⟩
  | 47 => ⟨S8x4096x768, .f32⟩
  | 48 => ⟨S_, .f32⟩
  | 49 => ⟨S8x4096x768, .f32⟩
  | 50 => ⟨S8x4096x768, .f32⟩
  | 51 => ⟨S_, .f32⟩
  | 52 => ⟨S8x4096x768, .f32⟩
  | 53 => ⟨S8x4096x768, .f32⟩
  | 54 => ⟨S8x4096x768, .f32⟩
  | 55 => ⟨S1x8x256x256, .f32⟩
  | 56 => ⟨S8x256x256, .f32⟩
  | 57 => ⟨S8x4x64x256, .f32⟩
  | 58 => ⟨S8x256x4x64, .f32⟩
  | 59 => ⟨S1x8x256x256, .f32⟩
  | 60 => ⟨S8x256x256, .f32⟩
  | 61 => ⟨S8x4x64x256, .f32⟩
  | 62 => ⟨S8x256x4x64, .f32⟩
  | 63 => ⟨S8x4096x4x64, .f32⟩
  | 64 => ⟨S8x4x4096x256, .f32⟩
  | 65 => ⟨S_, .f32⟩
  | 66 => ⟨S8x4x4096x256, .f32⟩
  | 67 => ⟨S8x4x4096x256, .f32⟩
  | 68 => ⟨S_, .f32⟩
  | 69 => ⟨S8x4x4096, .f32⟩
  | 70 => ⟨S_, .f32⟩
  | 71 => ⟨S8x4x4096, .f32⟩
  | 72 => ⟨S8x4x4096, .f32⟩
  | 73 => ⟨S8x4x4096x1, .f32⟩
  | 74 => ⟨S8x4x4096x256, .f32⟩
  | 75 => ⟨S8x4x4096x256, .f32⟩
  | 76 => ⟨S8x4x4096x256, .f32⟩
  | 77 => ⟨S_, .f32⟩
  | 78 => ⟨S8x4x4096, .f32⟩
  | 79 => ⟨S8x4x4096x1, .f32⟩
  | 80 => ⟨S8x4x4096x256, .f32⟩
  | 81 => ⟨S8x4x4096x256, .f32⟩
  | 82 => ⟨S8x4x64x4096, .f32⟩
  | 83 => ⟨S8x4096x4x64, .f32⟩
  | 84 => ⟨S8x4096x256, .f32⟩
  | 85 => ⟨S8x4096x1024, .f32⟩
  | 86 => ⟨S1024x1024, .f32⟩
  | 87 => ⟨S8x4096x1024, .f32⟩
  | 88 => ⟨S8x4096x1024, .f32⟩
  | 89 => ⟨S8x4096x1024, .f32⟩
  | 90 => ⟨S_, .f32⟩
  | 91 => ⟨S8x4096, .f32⟩
  | 92 => ⟨S8x4096x1, .f32⟩
  | 93 => ⟨S_, .f32⟩
  | 94 => ⟨S8x4096x1, .f32⟩
  | 95 => ⟨S8x4096x1, .f32⟩
  | 96 => ⟨S_, .f32⟩
  | 97 => ⟨S8x4096x1, .f32⟩
  | 98 => ⟨S8x4096x1, .f32⟩
  | 99 => ⟨S8x4096x1, .f32⟩
  | 100 => ⟨S8x4096x1024, .f32⟩
  | 101 => ⟨S8x4096x1024, .f32⟩
  | 102 => ⟨S1x1024, .f32⟩
  | 103 => ⟨S1024, .f32⟩
  | 104 => ⟨S1x1x1024, .f32⟩
  | 105 => ⟨S8x4096x1024, .f32⟩
  | 106 => ⟨S8x4096x1024, .f32⟩
  | 107 => ⟨S32768x1024, .f32⟩
  | 108 => ⟨S32768x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_cst_6 : Ref sig .tc := ⟨.hbm, 273, rfl⟩
abbrev main_v252 : Ref sig .tc := ⟨.hbm, 274, rfl⟩
abbrev main_v253 : Ref sig .tc := ⟨.hbm, 275, rfl⟩
abbrev main_cst_7 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_cst_8 : Ref sig .tc := ⟨.hbm, 282, rfl⟩
abbrev main_v259 : Ref sig .tc := ⟨.hbm, 283, rfl⟩
abbrev main_v260 : Ref sig .tc := ⟨.hbm, 284, rfl⟩
abbrev main_cst_9 : Ref sig .tc := ⟨.hbm, 285, rfl⟩
abbrev main_v261 : Ref sig .tc := ⟨.hbm, 286, rfl⟩
abbrev main_v262 : Ref sig .tc := ⟨.hbm, 287, rfl⟩
abbrev main_cst_10 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_cst_11 : Ref sig .tc := ⟨.hbm, 304, rfl⟩
abbrev main_v278 : Ref sig .tc := ⟨.hbm, 305, rfl⟩
abbrev main_v279 : Ref sig .tc := ⟨.hbm, 306, rfl⟩
abbrev main_cst_12 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_cst_13 : Ref sig .tc := ⟨.hbm, 321, rfl⟩
abbrev main_v293 : Ref sig .tc := ⟨.hbm, 322, rfl⟩
abbrev main_v294 : Ref sig .tc := ⟨.hbm, 323, rfl⟩
abbrev main_cst_14 : Ref sig .tc := ⟨.hbm, 324, rfl⟩
abbrev main_v295 : Ref sig .tc := ⟨.hbm, 325, rfl⟩
abbrev main_cst_15 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_cst_16 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev main_v309 : Ref sig .tc := ⟨.hbm, 341, rfl⟩
abbrev main_v310 : Ref sig .tc := ⟨.hbm, 342, rfl⟩
abbrev main_v311 : Ref sig .tc := ⟨.hbm, 343, rfl⟩
abbrev main_v312 : Ref sig .tc := ⟨.hbm, 344, rfl⟩
abbrev main_v313 : Ref sig .tc := ⟨.hbm, 345, rfl⟩
abbrev main_cst_17 : Ref sig .tc := ⟨.hbm, 346, rfl⟩
abbrev main_v314 : Ref sig .tc := ⟨.hbm, 347, rfl⟩
abbrev main_v315 : Ref sig .tc := ⟨.hbm, 348, rfl⟩
abbrev main_cst_18 : Ref sig .tc := ⟨.hbm, 349, rfl⟩
abbrev main_v316 : Ref sig .tc := ⟨.hbm, 350, rfl⟩
abbrev main_v317 : Ref sig .tc := ⟨.hbm, 351, rfl⟩
abbrev main_cst_19 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩

abbrev nD : Nat := 1
abbrev τ : Topo := Topo.v7x

variable {F : FTy → Type} [FloatOps F]
-- ==== LayerZeroS.lean ====
abbrev S32x8x1024 : Shape := ⟨3, ![32, 8, 1024]⟩
abbrev S1x32x30x768 : Shape := ⟨4, ![1, 32, 30, 768]⟩
abbrev S2x32x256x4x64 : Shape := ⟨5, ![2, 32, 256, 4, 64]⟩
abbrev S2x1024 : Shape := ⟨2, ![2, 1024]⟩
abbrev S1x1024x1792 : Shape := ⟨3, ![1, 1024, 1792]⟩
abbrev S1x31x768 : Shape := ⟨3, ![1, 31, 768]⟩
abbrev S1x768 : Shape := ⟨2, ![1, 768]⟩
abbrev S1x1024x1024 : Shape := ⟨3, ![1, 1024, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x64 : Shape := ⟨3, ![1, 1024, 64]⟩
abbrev S1024x64 : Shape := ⟨2, ![1024, 64]⟩
abbrev S1x64 : Shape := ⟨2, ![1, 64]⟩
abbrev S64 : Shape := ⟨1, ![64]⟩
abbrev S_ : Shape := ⟨0, ![]⟩
abbrev S1024x60 : Shape := ⟨2, ![1024, 60]⟩
abbrev S1024x128 : Shape := ⟨2, ![1024, 128]⟩
abbrev S60 : Shape := ⟨1, ![60]⟩
abbrev S128 : Shape := ⟨1, ![128]⟩
abbrev S1x128 : Shape := ⟨2, ![1, 128]⟩
abbrev S1024x1792 : Shape := ⟨2, ![1024, 1792]⟩
abbrev S1024x1024 : Shape := ⟨2, ![1024, 1024]⟩
abbrev S2x32x4x64x256 : Shape := ⟨5, ![2, 32, 4, 64, 256]⟩
abbrev S2x32x256x256 : Shape := ⟨4, ![2, 32, 256, 256]⟩
abbrev S256x1024 : Shape := ⟨2, ![256, 1024]⟩
abbrev S32x30x768 : Shape := ⟨3, ![32, 30, 768]⟩
abbrev S1x1024 : Shape := ⟨2, ![1, 1024]⟩
abbrev S1024 : Shape := ⟨1, ![1024]⟩
abbrev S31x768 : Shape := ⟨2, ![31, 768]⟩
abbrev S768 : Shape := ⟨1, ![768]⟩
abbrev S256x2 : Shape := ⟨2, ![256, 2]⟩
abbrev S8x1024 : Shape := ⟨2, ![8, 1024]⟩
abbrev S1x30x768 : Shape := ⟨3, ![1, 30, 768]⟩
abbrev S1x1x256x256 : Shape := ⟨4, ![1, 1, 256, 256]⟩
abbrev S8x2 : Shape := ⟨2, ![8, 2]⟩
abbrev S40x768 : Shape := ⟨2, ![40, 768]⟩
abbrev S7x32x768 : Shape := ⟨3, ![7, 32, 768]⟩
abbrev S8x768 : Shape := ⟨2, ![8, 768]⟩
abbrev S2x768 : Shape := ⟨2, ![2, 768]⟩
abbrev S30x768 : Shape := ⟨2, ![30, 768]⟩
abbrev S32x768 : Shape := ⟨2, ![32, 768]⟩
abbrev S8 : Shape := ⟨1, ![8]⟩
abbrev S8x1 : Shape := ⟨2, ![8, 1]⟩
abbrev S8x1792 : Shape := ⟨2, ![8, 1792]⟩
abbrev S8x256 : Shape := ⟨2, ![8, 256]⟩
abbrev S1x32x768 : Shape := ⟨3, ![1, 32, 768]⟩
abbrev S8x128 : Shape := ⟨2, ![8, 128]⟩
abbrev S1x8x128 : Shape := ⟨3, ![1, 8, 128]⟩
abbrev S256x256 : Shape := ⟨2, ![256, 256]⟩

abbrev nBuf : Space → Nat
  | .hbm => 59
  | .vmem => 32
  | .smem => 0
  | _ => 0

abbrev bufTy : (tb : Table) → Fin (tcTables nBuf tb) → BufTy
  | .hbm, ⟨0, _⟩ => ⟨S32x8x1024, .f32⟩
  | .hbm, ⟨1, _⟩ => ⟨S1x32x30x768, .f32⟩
  | .hbm, ⟨2, _⟩ => ⟨S2x32x256x4x64, .f32⟩
  | .hbm, ⟨3, _⟩ => ⟨S2x32x256x4x64, .f32⟩
  | .hbm, ⟨4, _⟩ => ⟨S2x1024, .f32⟩
  | .hbm, ⟨5, _⟩ => ⟨S1x1024x1792, .f32⟩
  | .hbm, ⟨6, _⟩ => ⟨S1x31x768, .f32⟩
  | .hbm, ⟨7, _⟩ => ⟨S1x768, .f32⟩
  | .hbm, ⟨8, _⟩ => ⟨S1x768, .f32⟩
  | .hbm, ⟨9, _⟩ => ⟨S1x768, .f32⟩
  | .hbm, ⟨10, _⟩ => ⟨S1x1024x1024, .f32⟩
  | .hbm, ⟨11, _⟩ => ⟨S2x1024, .f32⟩
  | .hbm, ⟨12, _⟩ => ⟨S2x1024x4, .f32⟩
  | .hbm, ⟨13, _⟩ => ⟨S2x4, .f32⟩
  | .hbm, ⟨14, _⟩ => ⟨S2x1024x64, .f32⟩
  | .hbm, ⟨15, _⟩ => ⟨S2x64, .f32⟩
  | .hbm, ⟨16, _⟩ => ⟨S1x1024x4, .f32⟩
  | .hbm, ⟨17, _⟩ => ⟨S1024x4, .f32⟩
  | .hbm, ⟨18, _⟩ => ⟨S1x4, .f32⟩
  | .hbm, ⟨19, _⟩ => ⟨S4, .f32⟩
  | .hbm, ⟨20, _⟩ => ⟨S1x1024x64, .f32⟩
  | .hbm, ⟨21, _⟩ => ⟨S1024x64, .f32⟩
  | .hbm, ⟨22, _⟩ => ⟨S1x64, .f32⟩
  | .hbm, ⟨23, _⟩ => ⟨S64, .f32⟩
  | .hbm, ⟨24, _⟩ => ⟨S_, .f32⟩
  | .hbm, ⟨25, _⟩ => ⟨S1024x60, .f32⟩
  | .hbm, ⟨26, _⟩ => ⟨S1024x128, .f32⟩
  | .hbm, ⟨27, _⟩ => ⟨S_, .f32⟩
  | .hbm, ⟨28, _⟩ => ⟨S60, .f32⟩
  | .hbm, ⟨29, _⟩ => ⟨S128, .f32⟩
  | .hbm, ⟨30, _⟩ => ⟨S1x128, .f32⟩
  | .hbm, ⟨31, _⟩ => ⟨S1024x1792, .f32⟩
  | .hbm, ⟨32, _⟩ => ⟨S1024x1792, .bf16⟩
  | .hbm, ⟨33, _⟩ => ⟨S1024x1024, .f32⟩
  | .hbm, ⟨34, _⟩ => ⟨S1024x1024, .bf16⟩
  | .hbm, ⟨35, _⟩ => ⟨S2x32x4x64x256, .f32⟩
  | .hbm, ⟨36, _⟩ => ⟨S2x32x256x256, .f32⟩
  | .hbm, ⟨37, _⟩ => ⟨S2x32x4x64x256, .f32⟩
  | .hbm, ⟨38, _⟩ => ⟨S2x32x256x256, .f32⟩
  | .hbm, ⟨39, _⟩ => ⟨S256x1024, .f32⟩
  | .hbm, ⟨40, _⟩ => ⟨S32x30x768, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S31x768, .f32⟩
  | .hbm, ⟨45, _⟩ => ⟨S768, .f32⟩
  | .hbm, ⟨46, _⟩ => ⟨S1x768, .f32⟩
  | .hbm, ⟨47, _⟩ => ⟨S768, .f32⟩
  | .hbm, ⟨48, _⟩ => ⟨S1x768, .f32⟩
  | .hbm, ⟨49, _⟩ => ⟨S768, .f32⟩
  | .hbm, ⟨50, _⟩ => ⟨S1x768, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S256x1024, .f32⟩
  | .hbm, ⟨55, _⟩ => ⟨S256x1024, .f32⟩
  | .hbm, ⟨56, _⟩ => ⟨S256x2, .f32⟩
  | .hbm, ⟨57, _⟩ => ⟨S256x2, .i32⟩
  | .hbm, ⟨58, _⟩ => ⟨S32x30x768, .f32⟩
  | .local _ .vmem, ⟨0, _⟩ => ⟨S8x1024, .f32⟩
  | .local _ .vmem, ⟨1, _⟩ => ⟨S8x1024, .f32⟩
  | .local _ .vmem, ⟨2, _⟩ => ⟨S1x30x768, .f32⟩
  | .local _ .vmem, ⟨3, _⟩ => ⟨S1x30x768, .f32⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1024, .f32⟩
  | .local _ .vmem, ⟨9, _⟩ => ⟨S1024x1792, .bf16⟩
  | .local _ .vmem, ⟨10, _⟩ => ⟨S31x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1024x1024, .bf16⟩
  | .local _ .vmem, ⟨15, _⟩ => ⟨S1x1024, .f32⟩
  | .local _ .vmem, ⟨16, _⟩ => ⟨S1024x128, .f32⟩
  | .local _ .vmem, ⟨17, _⟩ => ⟨S1x128, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S8x2, .f32⟩
  | .local _ .vmem, ⟨23, _⟩ => ⟨S8x2, .f32⟩
  | .local _ .vmem, ⟨24, _⟩ => ⟨S8x2, .i32⟩
  | .local _ .vmem, ⟨25, _⟩ => ⟨S8x2, .i32⟩
  | .local _ .vmem, ⟨26, _⟩ => ⟨S1x30x768, .f32⟩
  | .local _ .vmem, ⟨27, _⟩ => ⟨S1x30x768, .f32⟩
  | .local _ .vmem, ⟨28, _⟩ => ⟨S40x768, .f32⟩
  | .local _ .vmem, ⟨29, _⟩ => ⟨S7x32x768, .f32⟩
  | .local _ .vmem, ⟨30, _⟩ => ⟨S8x768, .f32⟩
  | .local _ .vmem, ⟨31, _⟩ => ⟨S8x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_v36_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![32, 1], ![false, false]⟩

def k0_mult1 : BitVec 32 :=
  let c0_i32_42 : BitVec 32 := 0#32
  let c8_i32 : BitVec 32 := 8#32
  let v65 : BitVec 32 := Scalar.muli c0_i32_42 c8_i32
  v65
def k0_off1 (c0_i32_46 : BitVec 32) : Fin 3 → Nat :=
  let c1_47 : Index := 1#32
  let c0_i32_42 : BitVec 32 := 0#32
  let c8_i32 : BitVec 32 := 8#32
  let v65 : BitVec 32 := Scalar.muli c0_i32_42 c8_i32
  let v66 : BitVec 32 := v65
  let v72 : BitVec 32 := Scalar.addi v66 c0_i32_46
  let v73 : Index := Scalar.indexCast v72
  let c0_48 : Index := 0#32
  ![1, v73.toNat, 0]
def k0_off2 (c0_i32_51 : BitVec 32) : Fin 3 → Nat :=
  let c2_52 : Index := 2#32
  let c0_i32_42 : BitVec 32 := 0#32
  let c8_i32 : BitVec 32 := 8#32
  let v65 : BitVec 32 := Scalar.muli c0_i32_42 c8_i32
  let v66 : BitVec 32 := v65
  let v81 : BitVec 32 := Scalar.addi v66 c0_i32_51
  let v82 : Index := Scalar.indexCast v81
  let c0_53 : Index := 0#32
  ![2, v82.toNat, 0]
def k0_off3 (c0_i32_56 : BitVec 32) : Fin 3 → Nat :=
  let c3_57 : Index := 3#32
  let c0_i32_42 : BitVec 32 := 0#32
  let c8_i32 : BitVec 32 := 8#32
  let v65 : BitVec 32 := Scalar.muli c0_i32_42 c8_i32
  let v66 : BitVec 32 := v65
  let v90 : BitVec 32 := Scalar.addi v66 c0_i32_56
  let v91 : Index := Scalar.indexCast v90
  let c0_58 : Index := 0#32
  ![3, v91.toNat, 0]
def k0_off4 (c0_i32_61 : BitVec 32) : Fin 3 → Nat :=
  let c4_62 : Index := 4#32
  let c0_i32_42 : BitVec 32 := 0#32
  let c8_i32 : BitVec 32 := 8#32
  let v65 : BitVec 32 := Scalar.muli c0_i32_42 c8_i32
  let v66 : BitVec 32 := v65
  let v99 : BitVec 32 := Scalar.addi v66 c0_i32_61
  let v100 : Index := Scalar.indexCast v99
  let c0_63 : Index := 0#32
  ![4, v100.toNat, 0]
def k0_off5 (c0_i32_66 : BitVec 32) : Fin 3 → Nat :=
  let c5_67 : Index := 5#32
  let c0_i32_42 : BitVec 32 := 0#32
  let c8_i32 : BitVec 32 := 8#32
  let v65 : BitVec 32 := Scalar.muli c0_i32_42 c8_i32
  let v66 : BitVec 32 := v65
  let v108 : BitVec 32 := Scalar.addi v66 c0_i32_66
  let v109 : Index := Scalar.indexCast v108
  let c0_68 : Index := 0#32
  ![5, v109.toNat, 0]
def k0_off6 (c0_i32_71 : BitVec 32) : Fin 3 → Nat :=
  let c6_72 : Index := 6#32
  let c0_i32_42 : BitVec 32 := 0#32
  let c8_i32 : BitVec 32 := 8#32
  let v65 : BitVec 32 := Scalar.muli c0_i32_42 c8_i32
  let v66 : BitVec 32 := v65
  let v117 : BitVec 32 := Scalar.addi v66 c0_i32_71
  let v118 : Index := Scalar.indexCast v117
  let c0_73 : Index := 0#32
  ![6, v118.toNat, 0]
def k0_off7 (c8_i32_76 : BitVec 32) : Fin 2 → Nat :=
  let c0_i32_42 : BitVec 32 := 0#32
  let c8_i32 : BitVec 32 := 8#32
  let v65 : BitVec 32 := Scalar.muli c0_i32_42 c8_i32
  let v66 : BitVec 32 := v65
  let v126 : BitVec 32 := Scalar.addi v66 c8_i32_76
  let v127 : Index := Scalar.indexCast v126
  let c0_77 : Index := 0#32
  ![v127.toNat, 0]
def k0_off8 (c8_i32_80 : BitVec 32) : Fin 3 → Nat :=
  let c0_81 : Index := 0#32
  let c0_i32_42 : BitVec 32 := 0#32
  let c8_i32 : BitVec 32 := 8#32
  let v65 : BitVec 32 := Scalar.muli c0_i32_42 c8_i32
  let v66 : BitVec 32 := v65
  let v134 : BitVec 32 := Scalar.addi v66 c8_i32_80
  let v135 : Index := Scalar.indexCast v134
  let c0_82 : Index := 0#32
  ![0, v135.toNat, 0]
def k0_off9 : Fin 2 → Nat :=
  let c0_i32_42 : BitVec 32 := 0#32
  let c8_i32 : BitVec 32 := 8#32
  let v65 : BitVec 32 := Scalar.muli c0_i32_42 c8_i32
  let v66 : BitVec 32 := v65
  let v347 : Index := Scalar.indexCast v66
  let c0_171 : Index := 0#32
  ![v347.toNat, 0]
def k0_off10 (c0_i32_174 : BitVec 32) : Fin 3 → Nat :=
  let c1_175 : Index := 1#32
  let c0_i32_42 : BitVec 32 := 0#32
  let c8_i32 : BitVec 32 := 8#32
  let v65 : BitVec 32 := Scalar.muli c0_i32_42 c8_i32
  let v66 : BitVec 32 := v65
  let v356 : BitVec 32 := Scalar.addi v66 c0_i32_174
  let v357 : Index := Scalar.indexCast v356
  let c128_176 : Index := 128#32
  ![1, v357.toNat, 128]
def k0_off11 (c0_i32_179 : BitVec 32) : Fin 3 → Nat :=
  let c2_180 : Index := 2#32
  let c0_i32_42 : BitVec 32 := 0#32
  let c8_i32 : BitVec 32 := 8#32
  let v65 : BitVec 32 := Scalar.muli c0_i32_42 c8_i32
  let v66 : BitVec 32 := v65
  let v365 : BitVec 32 := Scalar.addi v66 c0_i32_179
  let v366 : Index := Scalar.indexCast v365
  let c128_181 : Index := 128#32
  ![2, v366.toNat, 128]
def k0_off12 (c0_i32_184 : BitVec 32) : Fin 3 → Nat :=
  let c3_185 : Index := 3#32
  let c0_i32_42 : BitVec 32 := 0#32
  let c8_i32 : BitVec 32 := 8#32
  let v65 : BitVec 32 := Scalar.muli c0_i32_42 c8_i32
  let v66 : BitVec 32 := v65
  let v374 : BitVec 32 := Scalar.addi v66 c0_i32_184
  let v375 : Index := Scalar.indexCast v374
  let c128_186 : Index := 128#32
  ![3, v375.toNat, 128]
def k0_off13 (c0_i32_189 : BitVec 32) : Fin 3 → Nat :=
  let c4_190 : Index := 4#32
  let c0_i32_42 : BitVec 32 := 0#32
  let c8_i32 : BitVec 32 := 8#32
  let v65 : BitVec 32 := Scalar.muli c0_i32_42 c8_i32
  let v66 : BitVec 32 := v65
  let v383 : BitVec 32 := Scalar.addi v66 c0_i32_189
  let v384 : Index := Scalar.indexCast v383
  let c128_191 : Index := 128#32
  ![4, v384.toNat, 128]
def k0_off14 (c0_i32_194 : BitVec 32) : Fin 3 → Nat :=
  let c5_195 : Index := 5#32
  let c0_i32_42 : BitVec 32 := 0#32
  let c8_i32 : BitVec 32 := 8#32
  let v65 : BitVec 32 := Scalar.muli c0_i32_42 c8_i32
  let v66 : BitVec 32 := v65
  let v392 : BitVec 32 := Scalar.addi v66 c0_i32_194
  let v393 : Index := Scalar.indexCast v392
  let c128_196 : Index := 128#32
  ![5, v393.toNat, 128]
def k0_off15 (c0_i32_199 : BitVec 32) : Fin 3 → Nat :=
  let c6_200 : Index := 6#32
  let c0_i32_42 : BitVec 32 := 0#32
  let c8_i32 : BitVec 32 := 8#32
  let v65 : BitVec 32 := Scalar.muli c0_i32_42 c8_i32
  let v66 : BitVec 32 := v65
  let v401 : BitVec 32 := Scalar.addi v66 c0_i32_199
  let v402 : Index := Scalar.indexCast v401
  let c128_201 : Index := 128#32
  ![6, v402.toNat, 128]
def k0_off16 (c8_i32_204 : BitVec 32) : Fin 2 → Nat :=
  let c0_i32_42 : BitVec 32 := 0#32
  let c8_i32 : BitVec 32 := 8#32
  let v65 : BitVec 32 := Scalar.muli c0_i32_42 c8_i32
  let v66 : BitVec 32 := v65
  let v410 : BitVec 32 := Scalar.addi v66 c8_i32_204
  let v411 : Index := Scalar.indexCast v410
  let c128_205 : Index := 128#32
  ![v411.toNat, 128]
def k0_off17 (c8_i32_208 : BitVec 32) : Fin 3 → Nat :=
  let c0_209 : Index := 0#32
  let c0_i32_42 : BitVec 32 := 0#32
  let c8_i32 : BitVec 32 := 8#32
  let v65 : BitVec 32 := Scalar.muli c0_i32_42 c8_i32
  let v66 : BitVec 32 := v65
  let v418 : BitVec 32 := Scalar.addi v66 c8_i32_208
  let v419 : Index := Scalar.indexCast v418
  let c128_210 : Index := 128#32
  ![0, v419.toNat, 128]
def k0_off18 : Fin 2 → Nat :=
  let c0_i32_42 : BitVec 32 := 0#32
  let c8_i32 : BitVec 32 := 8#32
  let v65 : BitVec 32 := Scalar.muli c0_i32_42 c8_i32
  let v66 : BitVec 32 := v65
  let v631 : Index := Scalar.indexCast v66
  let c128_325 : Index := 128#32
  ![v631.toNat, 128]
def k0_off19 (c0_i32_328 : BitVec 32) : Fin 3 → Nat :=
  let c1_329 : Index := 1#32
  let c0_i32_42 : BitVec 32 := 0#32
  let c8_i32 : BitVec 32 := 8#32
  let v65 : BitVec 32 := Scalar.muli c0_i32_42 c8_i32
  let v66 : BitVec 32 := v65
  let v640 : BitVec 32 := Scalar.addi v66 c0_i32_328
  let v641 : Index := Scalar.indexCast v640
  let c256_330 : Index := 256#32
  ![1, v641.toNat, 256]
def k0_off20 (c0_i32_333 : BitVec 32) : Fin 3 → Nat :=
  let c2_334 : Index := 2#32
  let c0_i32_42 : BitVec 32 := 0#32
  let c8_i32 : BitVec 32 := 8#32
  let v65 : BitVec 32 := Scalar.muli c0_i32_42 c8_i32
  let v66 : BitVec 32 := v65
  let v649 : BitVec 32 := Scalar.addi v66 c0_i32_333
  let v650 : Index := Scalar.indexCast v649
  let c256_335 : Index := 256#32
  ![2, v650.toNat, 256]
def k0_off21 (c0_i32_338 : BitVec 32) : Fin 3 → Nat :=
  let c3_339 : Index := 3#32
  let c0_i32_42 : BitVec 32 := 0#32
  let c8_i32 : BitVec 32 := 8#32
  let v65 : BitVec 32 := Scalar.muli c0_i32_42 c8_i32
  let v66 : BitVec 32 := v65
  let v658 : BitVec 32 := Scalar.addi v66 c0_i32_338
  let v659 : Index := Scalar.indexCast v658
  let c256_340 : Index := 256#32
  ![3, v659.toNat, 256]
def k0_off22 (c0_i32_343 : BitVec 32) : Fin 3 → Nat :=
  let c4_344 : Index := 4#32
  let c0_i32_42 : BitVec 32 := 0#32
  let c8_i32 : BitVec 32 := 8#32
  let v65 : BitVec 32 := Scalar.muli c0_i32_42 c8_i32
  let v66 : BitVec 32 := v65
  let v667 : BitVec 32 := Scalar.addi v66 c0_i32_343
  let v668 : Index := Scalar.indexCast v667
  let c256_345 : Index := 256#32
  ![4, v668.toNat, 256]
def k0_off23 (c0_i32_348 : BitVec 32) : Fin 3 → Nat :=
  let c5_349 : Index := 5#32
  let c0_i32_42 : BitVec 32 := 0#32
  let c8_i32 : BitVec 32 := 8#32
  let v65 : BitVec 32 := Scalar.muli c0_i32_42 c8_i32
  let v66 : BitVec 32 := v65
  let v676 : BitVec 32 := Scalar.addi v66 c0_i32_348
  let v677 : Index := Scalar.indexCast v676
  let c256_350 : Index := 256#32
  ![5, v677.toNat, 256]
def k0_off24 (c0_i32_353 : BitVec 32) : Fin 3 → Nat :=
  let c6_354 : Index := 6#32
  let c0_i32_42 : BitVec 32 := 0#32
  let c8_i32 : BitVec 32 := 8#32
  let v65 : BitVec 32 := Scalar.muli c0_i32_42 c8_i32
  let v66 : BitVec 32 := v65
  let v685 : BitVec 32 := Scalar.addi v66 c0_i32_353
  let v686 : Index := Scalar.indexCast v685
  let c256_355 : Index := 256#32
  ![6, v686.toNat, 256]
def k0_off25 (c8_i32_358 : BitVec 32) : Fin 2 → Nat :=
  let c0_i32_42 : BitVec 32 := 0#32
  let c8_i32 : BitVec 32 := 8#32
  let v65 : BitVec 32 := Scalar.muli c0_i32_42 c8_i32
  let v66 : BitVec 32 := v65
  let v694 : BitVec 32 := Scalar.addi v66 c8_i32_358
  let v695 : Index := Scalar.indexCast v694
  let c256_359 : Index := 256#32
  ![v695.toNat, 256]
def k0_off26 (c8_i32_362 : BitVec 32) : Fin 3 → Nat :=
  let c0_363 : Index := 0#32
  let c0_i32_42 : BitVec 32 := 0#32
  let c8_i32 : BitVec 32 := 8#32
  let v65 : BitVec 32 := Scalar.muli c0_i32_42 c8_i32
  let v66 : BitVec 32 := v65
  let v702 : BitVec 32 := Scalar.addi v66 c8_i32_362
  let v703 : Index := Scalar.indexCast v702
  let c256_364 : Index := 256#32
  ![0, v703.toNat, 256]
def k0_off27 : Fin 2 → Nat :=
  let c0_i32_42 : BitVec 32 := 0#32
  let c8_i32 : BitVec 32 := 8#32
  let v65 : BitVec 32 := Scalar.muli c0_i32_42 c8_i32
  let v66 : BitVec 32 := v65
  let v915 : Index := Scalar.indexCast v66
  let c256_479 : Index := 256#32
  ![v915.toNat, 256]
def k0_off28 (c0_i32_482 : BitVec 32) : Fin 3 → Nat :=
  let c1_483 : Index := 1#32
  let c0_i32_42 : BitVec 32 := 0#32
  let c8_i32 : BitVec 32 := 8#32
  let v65 : BitVec 32 := Scalar.muli c0_i32_42 c8_i32
  let v66 : BitVec 32 := v65
  let v924 : BitVec 32 := Scalar.addi v66 c0_i32_482
  let v925 : Index := Scalar.indexCast v924
  let c384_484 : Index := 384#32
  ![1, v925.toNat, 384]
def k0_off29 (c0_i32_487 : BitVec 32) : Fin 3 → Nat :=
  let c2_488 : Index := 2#32
  let c0_i32_42 : BitVec 32 := 0#32
  let c8_i32 : BitVec 32 := 8#32
  let v65 : BitVec 32 := Scalar.muli c0_i32_42 c8_i32
  let v66 : BitVec 32 := v65
  let v933 : BitVec 32 := Scalar.addi v66 c0_i32_487
  let v934 : Index := Scalar.indexCast v933
  let c384_489 : Index := 384#32
  ![2, v934.toNat, 384]
def k0_off30 (c0_i32_492 : BitVec 32) : Fin 3 → Nat :=
  let c3_493 : Index := 3#32
  let c0_i32_42 : BitVec 32 := 0#32
  let c8_i32 : BitVec 32 := 8#32
  let v65 : BitVec 32 := Scalar.muli c0_i32_42 c8_i32
  let v66 : BitVec 32 := v65
  let v942 : BitVec 32 := Scalar.addi v66 c0_i32_492
  let v943 : Index := Scalar.indexCast v942
  let c384_494 : Index := 384#32
  ![3, v943.toNat, 384]
def k0_off31 (c0_i32_497 : BitVec 32) : Fin 3 → Nat :=
  let c4_498 : Index := 4#32
  let c0_i32_42 : BitVec 32 := 0#32
  let c8_i32 : BitVec 32 := 8#32
  let v65 : BitVec 32 := Scalar.muli c0_i32_42 c8_i32
  let v66 : BitVec 32 := v65
  let v951 : BitVec 32 := Scalar.addi v66 c0_i32_497
  let v952 : Index := Scalar.indexCast v951
  let c384_499 : Index := 384#32
  ![4, v952.toNat, 384]
def k0_off32 (c0_i32_502 : BitVec 32) : Fin 3 → Nat :=
  let c5_503 : Index := 5#32
  let c0_i32_42 : BitVec 32 := 0#32
  let c8_i32 : BitVec 32 := 8#32
  let v65 : BitVec 32 := Scalar.muli c0_i32_42 c8_i32
  let v66 : BitVec 32 := v65
  let v960 : BitVec 32 := Scalar.addi v66 c0_i32_502
  let v961 : Index := Scalar.indexCast v960
  let c384_504 : Index := 384#32
  ![5, v961.toNat, 384]
def k0_off33 (c0_i32_507 : BitVec 32) : Fin 3 → Nat :=
  let c6_508 : Index := 6#32
  let c0_i32_42 : BitVec 32 := 0#32
  let c8_i32 : BitVec 32 := 8#32
  let v65 : BitVec 32 := Scalar.muli c0_i32_42 c8_i32
  let v66 : BitVec 32 := v65
  let v969 : BitVec 32 := Scalar.addi v66 c0_i32_507
  let v970 : Index := Scalar.indexCast v969
  let c384_509 : Index := 384#32
  ![6, v970.toNat, 384]
def k0_off34 (c8_i32_512 : BitVec 32) : Fin 2 → Nat :=
  let c0_i32_42 : BitVec 32 := 0#32
  let c8_i32 : BitVec 32 := 8#32
  let v65 : BitVec 32 := Scalar.muli c0_i32_42 c8_i32
  let v66 : BitVec 32 := v65
  let v978 : BitVec 32 := Scalar.addi v66 c8_i32_512
  let v979 : Index := Scalar.indexCast v978
  let c384_513 : Index := 384#32
  ![v979.toNat, 384]
def k0_off35 (c8_i32_516 : BitVec 32) : Fin 3 → Nat :=
  let c0_517 : Index := 0#32
  let c0_i32_42 : BitVec 32 := 0#32
  let c8_i32 : BitVec 32 := 8#32
  let v65 : BitVec 32 := Scalar.muli c0_i32_42 c8_i32
  let v66 : BitVec 32 := v65
  let v986 : BitVec 32 := Scalar.addi v66 c8_i32_516
  let v987 : Index := Scalar.indexCast v986
  let c384_518 : Index := 384#32
  ![0, v987.toNat, 384]
def k0_off36 : Fin 2 → Nat :=
  let c0_i32_42 : BitVec 32 := 0#32
  let c8_i32 : BitVec 32 := 8#32
  let v65 : BitVec 32 := Scalar.muli c0_i32_42 c8_i32
  let v66 : BitVec 32 := v65
  let v1199 : Index := Scalar.indexCast v66
  let c384_633 : Index := 384#32
  ![v1199.toNat, 384]
def k0_off37 (c0_i32_636 : BitVec 32) : Fin 3 → Nat :=
  let c1_637 : Index := 1#32
  let c0_i32_42 : BitVec 32 := 0#32
  let c8_i32 : BitVec 32 := 8#32
  let v65 : BitVec 32 := Scalar.muli c0_i32_42 c8_i32
  let v66 : BitVec 32 := v65
  let v1208 : BitVec 32 := Scalar.addi v66 c0_i32_636
  let v1209 : Index := Scalar.indexCast v1208
  let c512_638 : Index := 512#32
  ![1, v1209.toNat, 512]
def k0_off38 (c0_i32_641 : BitVec 32) : Fin 3 → Nat :=
  let c2_642 : Index := 2#32
  let c0_i32_42 : BitVec 32 := 0#32
  let c8_i32 : BitVec 32 := 8#32
  let v65 : BitVec 32 := Scalar.muli c0_i32_42 c8_i32
  let v66 : BitVec 32 := v65
  let v1217 : BitVec 32 := Scalar.addi v66 c0_i32_641
  let v1218 : Index := Scalar.indexCast v1217
  let c512_643 : Index := 512#32
  ![2, v1218.toNat, 512]
def k0_off39 (c0_i32_646 : BitVec 32) : Fin 3 → Nat :=
  let c3_647 : Index := 3#32
  let c0_i32_42 : BitVec 32 := 0#32
  let c8_i32 : BitVec 32 := 8#32
  let v65 : BitVec 32 := Scalar.muli c0_i32_42 c8_i32
  let v66 : BitVec 32 := v65
  let v1226 : BitVec 32 := Scalar.addi v66 c0_i32_646
  let v1227 : Index := Scalar.indexCast v1226
  let c512_648 : Index := 512#32
  ![3, v1227.toNat, 512]
def k0_off40 (c0_i32_651 : BitVec 32) : Fin 3 → Nat :=
  let c4_652 : Index := 4#32
  let c0_i32_42 : BitVec 32 := 0#32
  let c8_i32 : BitVec 32 := 8#32
  let v65 : BitVec 32 := Scalar.muli c0_i32_42 c8_i32
  let v66 : BitVec 32 := v65
  let v1235 : BitVec 32 := Scalar.addi v66 c0_i32_651
  let v1236 : Index := Scalar.indexCast v1235
  let c512_653 : Index := 512#32
  ![4, v1236.toNat, 512]
def k0_off41 (c0_i32_656 : BitVec 32) : Fin 3 → Nat :=
  let c5_657 : Index := 5#32
  let c0_i32_42 : BitVec 32 := 0#32
  let c8_i32 : BitVec 32 := 8#32
  let v65 : BitVec 32 := Scalar.muli c0_i32_42 c8_i32
  let v66 : BitVec 32 := v65
  let v1244 : BitVec 32 := Scalar.addi v66 c0_i32_656
  let v1245 : Index := Scalar.indexCast v1244
  let c512_658 : Index := 512#32
  ![5, v1245.toNat, 512]
def k0_off42 (c0_i32_661 : BitVec 32) : Fin 3 → Nat :=
  let c6_662 : Index := 6#32
  let c0_i32_42 : BitVec 32 := 0#32
  let c8_i32 : BitVec 32 := 8#32
  let v65 : BitVec 32 := Scalar.muli c0_i32_42 c8_i32
  let v66 : BitVec 32 := v65
  let v1253 : BitVec 32 := Scalar.addi v66 c0_i32_661
  let v1254 : Index := Scalar.indexCast v1253
  let c512_663 : Index := 512#32
  ![6, v1254.toNat, 512]
def k0_off43 (c8_i32_666 : BitVec 32) : Fin 2 → Nat :=
  let c0_i32_42 : BitVec 32 := 0#32
  let c8_i32 : BitVec 32 := 8#32
  let v65 : BitVec 32 := Scalar.muli c0_i32_42 c8_i32
  let v66 : BitVec 32 := v65
  let v1262 : BitVec 32 := Scalar.addi v66 c8_i32_666
  let v1263 : Index := Scalar.indexCast v1262
  let c512_667 : Index := 512#32
  ![v1263.toNat, 512]
def k0_off44 (c8_i32_670 : BitVec 32) : Fin 3 → Nat :=
  let c0_671 : Index := 0#32
  let c0_i32_42 : BitVec 32 := 0#32
  let c8_i32 : BitVec 32 := 8#32
  let v65 : BitVec 32 := Scalar.muli c0_i32_42 c8_i32
  let v66 : BitVec 32 := v65
  let v1270 : BitVec 32 := Scalar.addi v66 c8_i32_670
  let v1271 : Index := Scalar.indexCast v1270
  let c512_672 : Index := 512#32
  ![0, v1271.toNat, 512]
def k0_off45 : Fin 2 → Nat :=
  let c0_i32_42 : BitVec 32 := 0#32
  let c8_i32 : BitVec 32 := 8#32
  let v65 : BitVec 32 := Scalar.muli c0_i32_42 c8_i32
  let v66 : BitVec 32 := v65
  let v1483 : Index := Scalar.indexCast v66
  let c512_787 : Index := 512#32
  ![v1483.toNat, 512]
def k0_off46 (c0_i32_790 : BitVec 32) : Fin 3 → Nat :=
  let c1_791 : Index := 1#32
  let c0_i32_42 : BitVec 32 := 0#32
  let c8_i32 : BitVec 32 := 8#32
  let v65 : BitVec 32 := Scalar.muli c0_i32_42 c8_i32
  let v66 : BitVec 32 := v65
  let v1492 : BitVec 32 := Scalar.addi v66 c0_i32_790
  let v1493 : Index := Scalar.indexCast v1492
  let c640_792 : Index := 640#32
  ![1, v1493.toNat, 640]
def k0_off47 (c0_i32_795 : BitVec 32) : Fin 3 → Nat :=
  let c2_796 : Index := 2#32
  let c0_i32_42 : BitVec 32 := 0#32
  let c8_i32 : BitVec 32 := 8#32
  let v65 : BitVec 32 := Scalar.muli c0_i32_42 c8_i32
  let v66 : BitVec 32 := v65
  let v1501 : BitVec 32 := Scalar.addi v66 c0_i32_795
  let v1502 : Index := Scalar.indexCast v1501
  let c640_797 : Index := 640#32
  ![2, v1502.toNat, 640]
def k0_off48 (c0_i32_800 : BitVec 32) : Fin 3 → Nat :=
  let c3_801 : Index := 3#32
  let c0_i32_42 : BitVec 32 := 0#32
  let c8_i32 : BitVec 32 := 8#32
  let v65 : BitVec 32 := Scalar.muli c0_i32_42 c8_i32
  let v66 : BitVec 32 := v65
  let v1510 : BitVec 32 := Scalar.addi v66 c0_i32_800
  let v1511 : Index := Scalar.indexCast v1510
  let c640_802 : Index := 640#32
  ![3, v1511.toNat, 640]
def k0_off49 (c0_i32_805 : BitVec 32) : Fin 3 → Nat :=
  let c4_806 : Index := 4#32
  let c0_i32_42 : BitVec 32 := 0#32
  let c8_i32 : BitVec 32 := 8#32
  let v65 : BitVec 32 := Scalar.muli c0_i32_42 c8_i32
  let v66 : BitVec 32 := v65
  let v1519 : BitVec 32 := Scalar.addi v66 c0_i32_805
  let v1520 : Index := Scalar.indexCast v1519
  let c640_807 : Index := 640#32
  ![4, v1520.toNat, 640]
def k0_off50 (c0_i32_810 : BitVec 32) : Fin 3 → Nat :=
  let c5_811 : Index := 5#32
  let c0_i32_42 : BitVec 32 := 0#32
  let c8_i32 : BitVec 32 := 8#32
  let v65 : BitVec 32 := Scalar.muli c0_i32_42 c8_i32
  let v66 : BitVec 32 := v65
  let v1528 : BitVec 32 := Scalar.addi v66 c0_i32_810
  let v1529 : Index := Scalar.indexCast v1528
  let c640_812 : Index := 640#32
  ![5, v1529.toNat, 640]
def k0_off51 (c0_i32_815 : BitVec 32) : Fin 3 → Nat :=
  let c6_816 : Index := 6#32
  let c0_i32_42 : BitVec 32 := 0#32
  let c8_i32 : BitVec 32 := 8#32
  let v65 : BitVec 32 := Scalar.muli c0_i32_42 c8_i32
  let v66 : BitVec 32 := v65
  let v1537 : BitVec 32 := Scalar.addi v66 c0_i32_815
  let v1538 : Index := Scalar.indexCast v1537
  let c640_817 : Index := 640#32
  ![6, v1538.toNat, 640]
def k0_off52 (c8_i32_820 : BitVec 32) : Fin 2 → Nat :=
  let c0_i32_42 : BitVec 32 := 0#32
  let c8_i32 : BitVec 32 := 8#32
  let v65 : BitVec 32 := Scalar.muli c0_i32_42 c8_i32
  let v66 : BitVec 32 := v65
  let v1546 : BitVec 32 := Scalar.addi v66 c8_i32_820
  let v1547 : Index := Scalar.indexCast v1546
  let c640_821 : Index := 640#32
  ![v1547.toNat, 640]
def k0_off53 (c8_i32_824 : BitVec 32) : Fin 3 → Nat :=
  let c0_825 : Index := 0#32
  let c0_i32_42 : BitVec 32 := 0#32
  let c8_i32 : BitVec 32 := 8#32
  let v65 : BitVec 32 := Scalar.muli c0_i32_42 c8_i32
  let v66 : BitVec 32 := v65
  let v1554 : BitVec 32 := Scalar.addi v66 c8_i32_824
  let v1555 : Index := Scalar.indexCast v1554
  let c640_826 : Index := 640#32
  ![0, v1555.toNat, 640]
def k0_off54 : Fin 2 → Nat :=
  let c0_i32_42 : BitVec 32 := 0#32
  let c8_i32 : BitVec 32 := 8#32
  let v65 : BitVec 32 := Scalar.muli c0_i32_42 c8_i32
  let v66 : BitVec 32 := v65
  let v1767 : Index := Scalar.indexCast v66
  let c640_941 : Index := 640#32
  ![v1767.toNat, 640]
def k0_cond3 (i : grid0.Coords) : BitVec 1 :=
  let arg1 : BitVec 32 := BitVec.ofNat 32 (i 1).val
  let c0_i32_12 : BitVec 32 := 0#32
  let v34 : BitVec 1 := Scalar.cmpi .eq arg1 c0_i32_12
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x2 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x2 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x30x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== LayerZeroSRefIdeal.lean ====
abbrev S32x8x1024 : Shape := ⟨3, ![32, 8, 1024]⟩
abbrev S1x32x30x768 : Shape := ⟨4, ![1, 32, 30, 768]⟩
abbrev S2x32x256x4x64 : Shape := ⟨5, ![2, 32, 256, 4, 64]⟩
abbrev S2x1024 : Shape := ⟨2, ![2, 1024]⟩
abbrev S1x1024x1792 : Shape := ⟨3, ![1, 1024, 1792]⟩
abbrev S1x31x768 : Shape := ⟨3, ![1, 31, 768]⟩
abbrev S1x768 : Shape := ⟨2, ![1, 768]⟩
abbrev S1x1024x1024 : Shape := ⟨3, ![1, 1024, 1024]⟩
abbrev S2x1024x4 : Shape := ⟨3, ![2, 1024, 4]⟩
abbrev S2x4 : Shape := ⟨2, ![2, 4]⟩
abbrev S2x1024x64 : Shape := ⟨3, ![2, 1024, 64]⟩
abbrev S2x64 : Shape := ⟨2, ![2, 64]⟩
abbrev S_ : Shape := ⟨0, ![]⟩
abbrev S32x8 : Shape := ⟨2, ![32, 8]⟩
abbrev S32x8x1 : Shape := ⟨3, ![32, 8, 1]⟩
abbrev S1x1024 : Shape := ⟨2, ![1, 1024]⟩
abbrev S1024 : Shape := ⟨1, ![1024]⟩
abbrev S1x1x1024 : Shape := ⟨3, ![1, 1, 1024]⟩
abbrev S1024x1792 : Shape := ⟨2, ![1024, 1792]⟩
abbrev S32x8x1792 : Shape := ⟨3, ![32, 8, 1792]⟩
abbrev S32x8x768 : Shape := ⟨3, ![32, 8, 768]⟩
abbrev S32x8x256 : Shape := ⟨3, ![32, 8, 256]⟩
abbrev S32x30x768 : Shape := ⟨3, ![32, 30, 768]⟩
abbrev S32x38x768 : Shape := ⟨3, ![32, 38, 768]⟩
abbrev S1x1x768 : Shape := ⟨3, ![1, 1, 768]⟩
abbrev S768 : Shape := ⟨1, ![768]⟩
abbrev S32x8x4x64 : Shape := ⟨4, ![32, 8, 4, 64]⟩
abbrev S1x32x256x4x64 : Shape := ⟨5, ![1, 32, 256, 4, 64]⟩
abbrev S32x256x4x64 : Shape := ⟨4, ![32, 256, 4, 64]⟩
abbrev S32x4x8x256 : Shape := ⟨4, ![32, 4, 8, 256]⟩
abbrev S32x4x8 : Shape := ⟨3, ![32, 4, 8]⟩
abbrev S32x4x8x1 : Shape := ⟨4, ![32, 4, 8, 1]⟩
abbrev S32x4x64x8 : Shape := ⟨4, ![32, 4, 64, 8]⟩
abbrev S1024x1024 : Shape := ⟨2, ![1024, 1024]⟩
abbrev S256x1024 : Shape := ⟨2, ![256, 1024]⟩

abbrev nBuf : Space → Nat
  | .hbm => 362
  | .vmem => 0
  | .smem => 0
  | _ => 0

abbrev hbmTy0_0 (i : Nat) : BufTy := match i % 128 with
  | 0 => ⟨S32x8x1024, .f32⟩
  | 1 => ⟨S1x32x30x768, .f32⟩
  | 2 => ⟨S2x32x256x4x64, .f32⟩
  | 3 => ⟨S2x32x256x4x64, .f32⟩
  | 4 => ⟨S2x1024, .f32⟩
  | 5 => ⟨S1x1024x1792, .f32⟩
  | 6 => ⟨S1x31x768, .f32⟩
  | 7 => ⟨S1x768, .f32⟩
  | 8 => ⟨S1x768, .f32⟩
  | 9 => ⟨S1x768, .f32⟩
  | 10 => ⟨S1x1024x1024, .f32⟩
  | 11 => ⟨S2x1024, .f32⟩
  | 12 => ⟨S2x1024x4, .f32⟩
  | 13 => ⟨S2x4, .f32⟩
  | 14 => ⟨S2x1024x64, .f32⟩
  | 15 => ⟨S2x64, .f32⟩
  | 16 => ⟨S32x8x1024, .f32⟩
  | 17 => ⟨S_, .f32⟩
  | 18 => ⟨S32x8, .f32⟩
  | 19 => ⟨S32x8x1, .f32⟩
  | 20 => ⟨S_, .f32⟩
  | 21 => ⟨S32x8x1, .f32⟩
  | 22 => ⟨S32x8x1, .f32⟩
  | 23 => ⟨S_, .f32⟩
  | 24 => ⟨S32x8x1, .f32⟩
  | 25 => ⟨S32x8x1, .f32⟩
  | 26 => ⟨S32x8x1, .f32⟩
  | 27 => ⟨S32x8x1024, .f32⟩
  | 28 => ⟨S32x8x1024, .f32⟩
  | 29 => ⟨S1x1024, .f32⟩
  | 30 => ⟨S1024, .f32⟩
  | 31 => ⟨S1x1x1024, .f32⟩
  | 32 => ⟨S32x8x1024, .f32⟩
  | 33 => ⟨S32x8x1024, .f32⟩
  | 34 => ⟨S1024x1792, .f32⟩
  | 35 => ⟨S32x8x1792, .f32⟩
  | 36 => ⟨S32x8x768, .f32⟩
  | 37 => ⟨S32x8x768, .f32⟩
  | 38 => ⟨S32x8x256, .f32⟩
  | 39 => ⟨S32x8x768, .f32⟩
  | 40 => ⟨S32x8x768, .f32⟩
  | 41 => ⟨S_, .f32⟩
  | 42 => ⟨S32x8x768, .f32⟩
  | 43 => ⟨S32x8x768, .f32⟩
  | 44 => ⟨S_, .f32⟩
  | 45 => ⟨S32x8x768, .f32⟩
  | 46 => ⟨S32x8x768, .f32⟩
  | 47 => ⟨S32x8x768, .f32⟩
  | 48 => ⟨S32x30x768, .f32⟩
  | 49 => ⟨S32x38x768, .f32⟩
  | 50 => ⟨S32x30x768, .f32⟩
  | 51 => ⟨S_, .f32⟩
  | 52 => ⟨S32x8x768, .f32⟩
  | 53 => ⟨S32x8x768, .f32⟩
  | 54 => ⟨S1x1x768, .f32⟩
  | 55 => ⟨S768, .f32⟩
  | 56 => ⟨S1x1x768, .f32⟩
  | 57 => ⟨S32x8x768, .f32⟩
  | 58 => ⟨S32x8x768, .f32⟩
  | 59 => ⟨S32x8x768, .f32⟩
  | 60 => ⟨S32x8x768, .f32⟩
  | 61 => ⟨S1x1x768, .f32⟩
  | 62 => ⟨S768, .f32⟩
  | 63 => ⟨S1x1x768, .f32⟩
  | 64 => ⟨S32x8x768, .f32⟩
  | 65 => ⟨S32x8x768, .f32⟩
  | 66 => ⟨S32x8x768, .f32⟩
  | 67 => ⟨S32x8x768, .f32⟩
  | 68 => ⟨S1x1x768, .f32⟩
  | 69 => ⟨S768, .f32⟩
  | 70 => ⟨S1x1x768, .f32⟩
  | 71 => ⟨S32x8x768, .f32⟩
  | 72 => ⟨S32x8x768, .f32⟩
  | 73 => ⟨S32x8x768, .f32⟩
  | 74 => ⟨S32x8x768, .f32⟩
  | 75 => ⟨S1x1x768, .f32⟩
  | 76 => ⟨S768, .f32⟩
  | 77 => ⟨S1x1x768, .f32⟩
  | 78 => ⟨S32x8x768, .f32⟩
  | 79 => ⟨S32x8x768, .f32⟩
  | 80 => ⟨S32x8x768, .f32⟩
  | 81 => ⟨S32x8x768, .f32⟩
  | 82 => ⟨S1x1x768, .f32⟩
  | 83 => ⟨S768, .f32⟩
  | 84 => ⟨S1x1x768, .f32⟩
  | 85 => ⟨S32x8x768, .f32⟩
  | 86 => ⟨S32x8x768, .f32⟩
  | 87 => ⟨S32x8x768, .f32⟩
  | 88 => ⟨S32x8x768, .f32⟩
  | 89 => ⟨S1x1x768, .f32⟩
  | 90 => ⟨S768, .f32⟩
  | 91 => ⟨S1x1x768, .f32⟩
  | 92 => ⟨S32x8x768, .f32⟩
  | 93 => ⟨S32x8x768, .f32⟩
  | 94 => ⟨S32x8x768, .f32⟩
  | 95 => ⟨S32x8x768, .f32⟩
  | 96 => ⟨S1x1x768, .f32⟩
  | 97 => ⟨S768, .f32⟩
  | 98 => ⟨S1x1x768, .f32⟩
  | 99 => ⟨S32x8x768, .f32⟩
  | 100 => ⟨S32x8x768, .f32⟩
  | 101 => ⟨S32x8x768, .f32⟩
  | 102 => ⟨S32x8x768, .f32⟩
  | 103 => ⟨S1x1x768, .f32⟩
  | 104 => ⟨S768, .f32⟩
  | 105 => ⟨S1x1x768, .f32⟩
  | 106 => ⟨S32x8x768, .f32⟩
  | 107 => ⟨S32x8x768, .f32⟩
  | 108 => ⟨S32x8x768, .f32⟩
  | 109 => ⟨S32x8x768, .f32⟩
  | 110 => ⟨S1x1x768, .f32⟩
  | 111 => ⟨S768, .f32⟩
  | 112 => ⟨S1x1x768, .f32⟩
  | 113 => ⟨S32x8x768, .f32⟩
  | 114 => ⟨S32x8x768, .f32⟩
  | 115 => ⟨S32x8x768, .f32⟩
  | 116 => ⟨S32x8x768, .f32⟩
  | 117 => ⟨S1x1x768, .f32⟩
  | 118 => ⟨S768, .f32⟩
  | 119 => ⟨S1x1x768, .f32⟩
  | 120 => ⟨S32x8x768, .f32⟩
  | 121 => ⟨S32x8x768, .f32⟩
  | 122 => ⟨S32x8x768, .f32⟩
  | 123 => ⟨S32x8x768, .f32⟩
  | 124 => ⟨S1x1x768, .f32⟩
  | 125 => ⟨S768, .f32⟩
  | 126 => ⟨S1x1x768, .f32⟩
  | 127 => ⟨S32x8x768, .f32⟩
  | _ => ⟨S32x8x1024, .f32⟩

abbrev hbmTy0_1 (i : Nat) : BufTy := match i % 128 with
  | 0 => ⟨S32x8x768, .f32⟩
  | 1 => ⟨S32x8x768, .f32⟩
  | 2 => ⟨S32x8x768, .f32⟩
  | 3 => ⟨S1x1x768, .f32⟩
  | 4 => ⟨S768, .f32⟩
  | 5 => ⟨S1x1x768, .f32⟩
  | 6 => ⟨S32x8x768, .f32⟩
  | 7 => ⟨S32x8x768, .f32⟩
  | 8 => ⟨S32x8x768, .f32⟩
  | 9 => ⟨S32x8x768, .f32⟩
  | 10 => ⟨S1x1x768, .f32⟩
  | 11 => ⟨S768, .f32⟩
  | 12 => ⟨S1x1x768, .f32⟩
  | 13 => ⟨S32x8x768, .f32⟩
  | 14 => ⟨S32x8x768, .f32⟩
  | 15 => ⟨S32x8x768, .f32⟩
  | 16 => ⟨S32x8x768, .f32⟩
  | 17 => ⟨S1x1x768, .f32⟩
  | 18 => ⟨S768, .f32⟩
  | 19 => ⟨S1x1x768, .f32⟩
  | 20 => ⟨S32x8x768, .f32⟩
  | 21 => ⟨S32x8x768, .f32⟩
  | 22 => ⟨S32x8x768, .f32⟩
  | 23 => ⟨S32x8x768, .f32⟩
  | 24 => ⟨S1x1x768, .f32⟩
  | 25 => ⟨S768, .f32⟩
  | 26 => ⟨S1x1x768, .f32⟩
  | 27 => ⟨S32x8x768, .f32⟩
  | 28 => ⟨S32x8x768, .f32⟩
  | 29 => ⟨S32x8x768, .f32⟩
  | 30 => ⟨S32x8x768, .f32⟩
  | 31 => ⟨S1x1x768, .f32⟩
  | 32 => ⟨S768, .f32⟩
  | 33 => ⟨S1x1x768, .f32⟩
  | 34 => ⟨S32x8x768, .f32⟩
  | 35 => ⟨S32x8x768, .f32⟩
  | 36 => ⟨S32x8x768, .f32⟩
  | 37 => ⟨S32x8x768, .f32⟩
  | 38 => ⟨S1x1x768, .f32⟩
  | 39 => ⟨S768, .f32⟩
  | 40 => ⟨S1x1x768, .f32⟩
  | 41 => ⟨S32x8x768, .f32⟩
  | 42 => ⟨S32x8x768, .f32⟩
  | 43 => ⟨S32x8x768, .f32⟩
  | 44 => ⟨S32x8x768, .f32⟩
  | 45 => ⟨S1x1x768, .f32⟩
  | 46 => ⟨S768, .f32⟩
  | 47 => ⟨S1x1x768, .f32⟩
  | 48 => ⟨S32x8x768, .f32⟩
  | 49 => ⟨S32x8x768, .f32⟩
  | 50 => ⟨S32x8x768, .f32⟩
  | 51 => ⟨S32x8x768, .f32⟩
  | 52 => ⟨S1x1x768, .f32⟩
  | 53 => ⟨S768, .f32⟩
  | 54 => ⟨S1x1x768, .f32⟩
  | 55 => ⟨S32x8x768, .f32⟩
  | 56 => ⟨S32x8x768, .f32⟩
  | 57 => ⟨S32x8x768, .f32⟩
  | 58 => ⟨S32x8x768, .f32⟩
  | 59 => ⟨S1x1x768, .f32⟩
  | 60 => ⟨S768, .f32⟩
  | 61 => ⟨S1x1x768, .f32⟩
  | 62 => ⟨S32x8x768, .f32⟩
  | 63 => ⟨S32x8x768, .f32⟩
  | 64 => ⟨S32x8x768, .f32⟩
  | 65 => ⟨S32x8x768, .f32⟩
  | 66 => ⟨S1x1x768, .f32⟩
  | 67 => ⟨S768, .f32⟩
  | 68 => ⟨S1x1x768, .f32⟩
  | 69 => ⟨S32x8x768, .f32⟩
  | 70 => ⟨S32x8x768, .f32⟩
  | 71 => ⟨S32x8x768, .f32⟩
  | 72 => ⟨S32x8x768, .f32⟩
  | 73 => ⟨S1x1x768, .f32⟩
  | 74 => ⟨S768, .f32⟩
  | 75 => ⟨S1x1x768, .f32⟩
  | 76 => ⟨S32x8x768, .f32⟩
  | 77 => ⟨S32x8x768, .f32⟩
  | 78 => ⟨S32x8x768, .f32⟩
  | 79 => ⟨S32x8x768, .f32⟩
  | 80 => ⟨S1x1x768, .f32⟩
  | 81 => ⟨S768, .f32⟩
  | 82 => ⟨S1x1x768, .f32⟩
  | 83 => ⟨S32x8x768, .f32⟩
  | 84 => ⟨S32x8x768, .f32⟩
  | 85 => ⟨S32x8x768, .f32⟩
  | 86 => ⟨S32x8x768, .f32⟩
  | 87 => ⟨S1x1x768, .f32⟩
  | 88 => ⟨S768, .f32⟩
  | 89 => ⟨S1x1x768, .f32⟩
  | 90 => ⟨S32x8x768, .f32⟩
  | 91 => ⟨S32x8x768, .f32⟩
  | 92 => ⟨S32x8x768, .f32⟩
  | 93 => ⟨S32x8x768, .f32⟩
  | 94 => ⟨S1x1x768, .f32⟩
  | 95 => ⟨S768, .f32⟩
  | 96 => ⟨S1x1x768, .f32⟩
  | 97 => ⟨S32x8x768, .f32⟩
  | 98 => ⟨S32x8x768, .f32⟩
  | 99 => ⟨S32x8x768, .f32⟩
  | 100 => ⟨S32x8x768, .f32⟩
  | 101 => ⟨S1x1x768, .f32⟩
  | 102 => ⟨S768, .f32⟩
  | 103 => ⟨S1x1x768, .f32⟩
  | 104 => ⟨S32x8x768, .f32⟩
  | 105 => ⟨S32x8x768, .f32⟩
  | 106 => ⟨S32x8x768, .f32⟩
  | 107 => ⟨S32x8x768, .f32⟩
  | 108 => ⟨S1x1x768, .f32⟩
  | 109 => ⟨S768, .f32⟩
  | 110 => ⟨S1x1x768, .f32⟩
  | 111 => ⟨S32x8x768, .f32⟩
  | 112 => ⟨S32x8x768, .f32⟩
  | 113 => ⟨S32x8x768, .f32⟩
  | 114 => ⟨S32x8x768, .f32⟩
  | 115 => ⟨S1x1x768, .f32⟩
  | 116 => ⟨S768, .f32⟩
  | 117 => ⟨S1x1x768, .f32⟩
  | 118 => ⟨S32x8x768, .f32⟩
  | 119 => ⟨S32x8x768, .f32⟩
  | 120 => ⟨S32x8x768, .f32⟩
  | 121 => ⟨S32x8x768, .f32⟩
  | 122 => ⟨S1x1x768, .f32⟩
  | 123 => ⟨S768, .f32⟩
  | 124 => ⟨S1x1x768, .f32⟩
  | 125 => ⟨S32x8x768, .f32⟩
  | 126 => ⟨S32x8x768, .f32⟩
  | 127 => ⟨S32x8x768, .f32⟩
  | _ => ⟨S32x8x1024, .f32⟩

abbrev hbmTy0_2 (i : Nat) : BufTy := match i % 128 with
  | 0 => ⟨S32x8x768, .f32⟩
  | 1 => ⟨S1x1x768, .f32⟩
  | 2 => ⟨S768, .f32⟩
  | 3 => ⟨S1x1x768, .f32⟩
  | 4 => ⟨S32x8x768, .f32⟩
  | 5 => ⟨S32x8x768, .f32⟩
  | 6 => ⟨S32x8x768, .f32⟩
  | 7 => ⟨S32x8x768, .f32⟩
  | 8 => ⟨S1x1x768, .f32⟩
  | 9 => ⟨S768, .f32⟩
  | 10 => ⟨S1x1x768, .f32⟩
  | 11 => ⟨S32x8x768, .f32⟩
  | 12 => ⟨S32x8x768, .f32⟩
  | 13 => ⟨S32x8x768, .f32⟩
  | 14 => ⟨S768, .f32⟩
  | 15 => ⟨S1x1x768, .f32⟩
  | 16 => ⟨S32x8x768, .f32⟩
  | 17 => ⟨S32x8x768, .f32⟩
  | 18 => ⟨S_, .f32⟩
  | 19 => ⟨S32x8, .f32⟩
  | 20 => ⟨S32x8x1, .f32⟩
  | 21 => ⟨S_, .f32⟩
  | 22 => ⟨S32x8x1, .f32⟩
  | 23 => ⟨S32x8x1, .f32⟩
  | 24 => ⟨S32x8x768, .f32⟩
  | 25 => ⟨S32x8x768, .f32⟩
  | 26 => ⟨S32x8x768, .f32⟩
  | 27 => ⟨S_, .f32⟩
  | 28 => ⟨S32x8, .f32⟩
  | 29 => ⟨S32x8x1, .f32⟩
  | 30 => ⟨S_, .f32⟩
  | 31 => ⟨S32x8x1, .f32⟩
  | 32 => ⟨S32x8x1, .f32⟩
  | 33 => ⟨S_, .f32⟩
  | 34 => ⟨S32x8x1, .f32⟩
  | 35 => ⟨S32x8x1, .f32⟩
  | 36 => ⟨S32x8x1, .f32⟩
  | 37 => ⟨S32x8x768, .f32⟩
  | 38 => ⟨S32x8x768, .f32⟩
  | 39 => ⟨S768, .f32⟩
  | 40 => ⟨S1x1x768, .f32⟩
  | 41 => ⟨S32x8x768, .f32⟩
  | 42 => ⟨S32x8x768, .f32⟩
  | 43 => ⟨S768, .f32⟩
  | 44 => ⟨S1x1x768, .f32⟩
  | 45 => ⟨S32x8x768, .f32⟩
  | 46 => ⟨S32x8x768, .f32⟩
  | 47 => ⟨S32x8x768, .f32⟩
  | 48 => ⟨S32x8x768, .f32⟩
  | 49 => ⟨S_, .f32⟩
  | 50 => ⟨S32x8x768, .f32⟩
  | 51 => ⟨S32x8x768, .f32⟩
  | 52 => ⟨S_, .f32⟩
  | 53 => ⟨S32x8x768, .f32⟩
  | 54 => ⟨S32x8x768, .f32⟩
  | 55 => ⟨S32x8x768, .f32⟩
  | 56 => ⟨S32x8x4x64, .f32⟩
  | 57 => ⟨S1x32x256x4x64, .f32⟩
  | 58 => ⟨S32x256x4x64, .f32⟩
  | 59 => ⟨S32x4x8x256, .f32⟩
  | 60 => ⟨S_, .f32⟩
  | 61 => ⟨S32x4x8x256, .f32⟩
  | 62 => ⟨S32x4x8x256, .f32⟩
  | 63 => ⟨S_, .f32⟩
  | 64 => ⟨S32x4x8, .f32⟩
  | 65 => ⟨S_, .f32⟩
  | 66 => ⟨S32x4x8, .f32⟩
  | 67 => ⟨S32x4x8, .f32⟩
  | 68 => ⟨S32x4x8x1, .f32⟩
  | 69 => ⟨S32x4x8x256, .f32⟩
  | 70 => ⟨S32x4x8x256, .f32⟩
  | 71 => ⟨S32x4x8x256, .f32⟩
  | 72 => ⟨S_, .f32⟩
  | 73 => ⟨S32x4x8, .f32⟩
  | 74 => ⟨S32x4x8x1, .f32⟩
  | 75 => ⟨S32x4x8x256, .f32⟩
  | 76 => ⟨S32x4x8x256, .f32⟩
  | 77 => ⟨S1x32x256x4x64, .f32⟩
  | 78 => ⟨S32x256x4x64, .f32⟩
  | 79 => ⟨S32x4x64x8, .f32⟩
  | 80 => ⟨S32x8x4x64, .f32⟩
  | 81 => ⟨S32x8x256, .f32⟩
  | 82 => ⟨S32x8x1024, .f32⟩
  | 83 => ⟨S1024x1024, .f32⟩
  | 84 => ⟨S32x8x1024, .f32⟩
  | 85 => ⟨S32x8x1024, .f32⟩
  | 86 => ⟨S32x8x1024, .f32⟩
  | 87 => ⟨S_, .f32⟩
  | 88 => ⟨S32x8, .f32⟩
  | 89 => ⟨S32x8x1, .f32⟩
  | 90 => ⟨S_, .f32⟩
  | 91 => ⟨S32x8x1, .f32⟩
  | 92 => ⟨S32x8x1, .f32⟩
  | 93 => ⟨S_, .f32⟩
  | 94 => ⟨S32x8x1, .f32⟩
  | 95 => ⟨S32x8x1, .f32⟩
  | 96 => ⟨S32x8x1, .f32⟩
  | 97 => ⟨S32x8x1024, .f32⟩
  | 98 => ⟨S32x8x1024, .f32⟩
  | 99 => ⟨S1x1024, .f32⟩
  | 100 => ⟨S1024, .f32⟩
  | 101 => ⟨S1x1x1024, .f32⟩
  | 102 => ⟨S32x8x1024, .f32⟩
  | 103 => ⟨S32x8x1024, .f32⟩
  | 104 => ⟨S256x1024, .f32⟩
  | 105 => ⟨S256x1024, .f32⟩
  | _ => ⟨S32x8x1024, .f32⟩

abbrev hbmTy (i : Nat) : BufTy := match i / 128 with
  | 0 => hbmTy0_0 i
  | 1 => hbmTy0_1 i
  | 2 => hbmTy0_2 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_cst_5 : Ref sig .tc := ⟨.hbm, 274, rfl⟩
abbrev main_v252 : Ref sig .tc := ⟨.hbm, 275, rfl⟩
abbrev main_v253 : Ref sig .tc := ⟨.hbm, 276, rfl⟩
abbrev main_cst_6 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_cst_7 : Ref sig .tc := ⟨.hbm, 283, rfl⟩
abbrev main_v259 : Ref sig .tc := ⟨.hbm, 284, rfl⟩
abbrev main_v260 : Ref sig .tc := ⟨.hbm, 285, rfl⟩
abbrev main_cst_8 : Ref sig .tc := ⟨.hbm, 286, rfl⟩
abbrev main_v261 : Ref sig .tc := ⟨.hbm, 287, rfl⟩
abbrev main_v262 : Ref sig .tc := ⟨.hbm, 288, rfl⟩
abbrev main_cst_9 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_cst_10 : Ref sig .tc := ⟨.hbm, 305, rfl⟩
abbrev main_v278 : Ref sig .tc := ⟨.hbm, 306, rfl⟩
abbrev main_v279 : Ref sig .tc := ⟨.hbm, 307, rfl⟩
abbrev main_cst_11 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_cst_12 : Ref sig .tc := ⟨.hbm, 316, rfl⟩
abbrev main_v287 : Ref sig .tc := ⟨.hbm, 317, rfl⟩
abbrev main_v288 : Ref sig .tc := ⟨.hbm, 318, rfl⟩
abbrev main_cst_13 : Ref sig .tc := ⟨.hbm, 319, rfl⟩
abbrev main_v289 : Ref sig .tc := ⟨.hbm, 320, rfl⟩
abbrev main_cst_14 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_cst_15 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_cst_16 : Ref sig .tc := ⟨.hbm, 343, rfl⟩
abbrev main_v310 : Ref sig .tc := ⟨.hbm, 344, rfl⟩
abbrev main_v311 : Ref sig .tc := ⟨.hbm, 345, rfl⟩
abbrev main_cst_17 : Ref sig .tc := ⟨.hbm, 346, rfl⟩
abbrev main_v312 : Ref sig .tc := ⟨.hbm, 347, rfl⟩
abbrev main_v313 : Ref sig .tc := ⟨.hbm, 348, rfl⟩
abbrev main_cst_18 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩

abbrev nD : Nat := 1
abbrev τ : Topo := Topo.v7x

variable {F : FTy → Type} [FloatOps F]
-- ==== Experts.lean ====
abbrev S74240x1024 : Shape := ⟨2, ![74240, 1024]⟩
abbrev S580 : Shape := ⟨1, ![580]⟩
abbrev S1 : Shape := ⟨1, ![1]⟩
abbrev S2x64x1024x256 : Shape := ⟨4, ![2, 64, 1024, 256]⟩
abbrev S2x64x256x1024 : Shape := ⟨4, ![2, 64, 256, 1024]⟩
abbrev S128x1024 : Shape := ⟨2, ![128, 1024]⟩
abbrev S1x1x1024x256 : Shape := ⟨4, ![1, 1, 1024, 256]⟩
abbrev S1x1x256x1024 : Shape := ⟨4, ![1, 1, 256, 1024]⟩
abbrev S1024x512 : Shape := ⟨2, ![1024, 512]⟩
abbrev S256x1024 : Shape := ⟨2, ![256, 1024]⟩
abbrev S1024x256 : Shape := ⟨2, ![1024, 256]⟩
abbrev S128x512 : Shape := ⟨2, ![128, 512]⟩
abbrev S128x256 : Shape := ⟨2, ![128, 256]⟩

abbrev nBuf : Space → Nat
  | .hbm => 5
  | .vmem => 12
  | .smem => 2
  | _ => 0

abbrev bufTy : (tb : Table) → Fin (tcTables nBuf tb) → BufTy
  | .hbm, ⟨0, _⟩ => ⟨S74240x1024, .f32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S74240x1024, .f32⟩
  | .local _ .vmem, ⟨0, _⟩ => ⟨S128x1024, .f32⟩
  | .local _ .vmem, ⟨1, _⟩ => ⟨S128x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S128x1024, .f32⟩
  | .local _ .vmem, ⟨9, _⟩ => ⟨S128x1024, .f32⟩
  | .local _ .vmem, ⟨10, _⟩ => ⟨S1024x512, .bf16⟩
  | .local _ .vmem, ⟨11, _⟩ => ⟨S256x1024, .bf16⟩
  | .local _ .smem, ⟨0, _⟩ => ⟨S580, .i32⟩
  | .local _ .smem, ⟨1, _⟩ => ⟨S1, .i32⟩
  | _, _ => ⟨S74240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![580], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S580.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S580) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S580.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S580) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S580.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S580) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S74240x1024 : Shape := ⟨2, ![74240, 1024]⟩
abbrev S580 : Shape := ⟨1, ![580]⟩
abbrev S1 : Shape := ⟨1, ![1]⟩
abbrev S2x64x1024x256 : Shape := ⟨4, ![2, 64, 1024, 256]⟩
abbrev S2x64x256x1024 : Shape := ⟨4, ![2, 64, 256, 1024]⟩
abbrev S580x128x1024 : Shape := ⟨3, ![580, 128, 1024]⟩
abbrev S1x64x1024x256 : Shape := ⟨4, ![1, 64, 1024, 256]⟩
abbrev S64x1024x256 : Shape := ⟨3, ![64, 1024, 256]⟩
abbrev S_ : Shape := ⟨0, ![]⟩
abbrev S580x1 : Shape := ⟨2, ![580, 1]⟩
abbrev S580x1024x256 : Shape := ⟨3, ![580, 1024, 256]⟩
abbrev S580x128x256 : Shape := ⟨3, ![580, 128, 256]⟩
abbrev S1x64x256x1024 : Shape := ⟨4, ![1, 64, 256, 1024]⟩
abbrev S64x256x1024 : Shape := ⟨3, ![64, 256, 1024]⟩
abbrev S580x256x1024 : Shape := ⟨3, ![580, 256, 1024]⟩
abbrev S580x1x1 : Shape := ⟨3, ![580, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S74240x1024, .f32⟩
  | .hbm, ⟨1, _⟩ => ⟨S580, .i32⟩
  | .hbm, ⟨2, _⟩ => ⟨S1, .i32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S580x128x1024, .f32⟩
  | .hbm, ⟨7, _⟩ => ⟨S1x64x1024x256, .f32⟩
  | .hbm, ⟨8, _⟩ => ⟨S64x1024x256, .f32⟩
  | .hbm, ⟨9, _⟩ => ⟨S_, .i32⟩
  | .hbm, ⟨10, _⟩ => ⟨S580, .i32⟩
  | .hbm, ⟨11, _⟩ => ⟨S580, .i1⟩
  | .hbm, ⟨12, _⟩ => ⟨S_, .i32⟩
  | .hbm, ⟨13, _⟩ => ⟨S580, .i32⟩
  | .hbm, ⟨14, _⟩ => ⟨S580, .i32⟩
  | .hbm, ⟨15, _⟩ => ⟨S580, .i32⟩
  | .hbm, ⟨16, _⟩ => ⟨S580x1, .i32⟩
  | .hbm, ⟨17, _⟩ => ⟨S580x1024x256, .f32⟩
  | .hbm, ⟨18, _⟩ => ⟨S580x128x256, .f32⟩
  | .hbm, ⟨19, _⟩ => ⟨S580x128x256, .f32⟩
  | .hbm, ⟨20, _⟩ => ⟨S580x128x256, .f32⟩
  | .hbm, ⟨21, _⟩ => ⟨S_, .f32⟩
  | .hbm, ⟨22, _⟩ => ⟨S580x128x256, .f32⟩
  | .hbm, ⟨23, _⟩ => ⟨S580x128x256, .f32⟩
  | .hbm, ⟨24, _⟩ => ⟨S_, .f32⟩
  | .hbm, ⟨25, _⟩ => ⟨S580x128x256, .f32⟩
  | .hbm, ⟨26, _⟩ => ⟨S580x128x256, .f32⟩
  | .hbm, ⟨27, _⟩ => ⟨S580x128x256, .f32⟩
  | .hbm, ⟨28, _⟩ => ⟨S1x64x1024x256, .f32⟩
  | .hbm, ⟨29, _⟩ => ⟨S64x1024x256, .f32⟩
  | .hbm, ⟨30, _⟩ => ⟨S_, .i32⟩
  | .hbm, ⟨31, _⟩ => ⟨S580, .i32⟩
  | .hbm, ⟨32, _⟩ => ⟨S580, .i1⟩
  | .hbm, ⟨33, _⟩ => ⟨S_, .i32⟩
  | .hbm, ⟨34, _⟩ => ⟨S580, .i32⟩
  | .hbm, ⟨35, _⟩ => ⟨S580, .i32⟩
  | .hbm, ⟨36, _⟩ => ⟨S580, .i32⟩
  | .hbm, ⟨37, _⟩ => ⟨S580x1, .i32⟩
  | .hbm, ⟨38, _⟩ => ⟨S580x1024x256, .f32⟩
  | .hbm, ⟨39, _⟩ => ⟨S580x128x256, .f32⟩
  | .hbm, ⟨40, _⟩ => ⟨S580x128x256, .f32⟩
  | .hbm, ⟨41, _⟩ => ⟨S1x64x256x1024, .f32⟩
  | .hbm, ⟨42, _⟩ => ⟨S64x256x1024, .f32⟩
  | .hbm, ⟨43, _⟩ => ⟨S_, .i32⟩
  | .hbm, ⟨44, _⟩ => ⟨S580, .i32⟩
  | .hbm, ⟨45, _⟩ => ⟨S580, .i1⟩
  | .hbm, ⟨46, _⟩ => ⟨S_, .i32⟩
  | .hbm, ⟨47, _⟩ => ⟨S580, .i32⟩
  | .hbm, ⟨48, _⟩ => ⟨S580, .i32⟩
  | .hbm, ⟨49, _⟩ => ⟨S580, .i32⟩
  | .hbm, ⟨50, _⟩ => ⟨S580x1, .i32⟩
  | .hbm, ⟨51, _⟩ => ⟨S580x256x1024, .f32⟩
  | .hbm, ⟨52, _⟩ => ⟨S580x128x1024, .f32⟩
  | .hbm, ⟨53, _⟩ => ⟨S580, .i32⟩
  | .hbm, ⟨54, _⟩ => ⟨S_, .i32⟩
  | .hbm, ⟨55, _⟩ => ⟨S580, .i32⟩
  | .hbm, ⟨56, _⟩ => ⟨S580, .i1⟩
  | .hbm, ⟨57, _⟩ => ⟨S580x1x1, .i1⟩
  | .hbm, ⟨58, _⟩ => ⟨S_, .f32⟩
  | .hbm, ⟨59, _⟩ => ⟨S_, .f32⟩
  | .hbm, ⟨60, _⟩ => ⟨S580x128x1024, .i1⟩
  | .hbm, ⟨61, _⟩ => ⟨S580x128x1024, .f32⟩
  | .hbm, ⟨62, _⟩ => ⟨S580x128x1024, .f32⟩
  | .hbm, ⟨63, _⟩ => ⟨S74240x1024, .f32⟩
  | _, _ => ⟨S74240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== ExpertsOne.lean ====
abbrev S74240x1024 : Shape := ⟨2, ![74240, 1024]⟩
abbrev S580 : Shape := ⟨1, ![580]⟩
abbrev S1 : Shape := ⟨1, ![1]⟩
abbrev S2x64x1024x256 : Shape := ⟨4, ![2, 64, 1024, 256]⟩
abbrev S2x64x256x1024 : Shape := ⟨4, ![2, 64, 256, 1024]⟩
abbrev S128x1024 : Shape := ⟨2, ![128, 1024]⟩
abbrev S1x1x1024x256 : Shape := ⟨4, ![1, 1, 1024, 256]⟩
abbrev S1x1x256x1024 : Shape := ⟨4, ![1, 1, 256, 1024]⟩
abbrev S1024x512 : Shape := ⟨2, ![1024, 512]⟩
abbrev S256x1024 : Shape := ⟨2, ![256, 1024]⟩
abbrev S1024x256 : Shape := ⟨2, ![1024, 256]⟩
abbrev S128x512 : Shape := ⟨2, ![128, 512]⟩
abbrev S128x256 : Shape := ⟨2, ![128, 256]⟩

abbrev nBuf : Space → Nat
  | .hbm => 5
  | .vmem => 12
  | .smem => 2
  | _ => 0

abbrev bufTy : (tb : Table) → Fin (tcTables nBuf tb) → BufTy
  | .hbm, ⟨0, _⟩ => ⟨S74240x1024, .f32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S74240x1024, .f32⟩
  | .local _ .vmem, ⟨0, _⟩ => ⟨S128x1024, .f32⟩
  | .local _ .vmem, ⟨1, _⟩ => ⟨S128x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S128x1024, .f32⟩
  | .local _ .vmem, ⟨9, _⟩ => ⟨S128x1024, .f32⟩
  | .local _ .vmem, ⟨10, _⟩ => ⟨S1024x512, .bf16⟩
  | .local _ .vmem, ⟨11, _⟩ => ⟨S256x1024, .bf16⟩
  | .local _ .smem, ⟨0, _⟩ => ⟨S580, .i32⟩
  | .local _ .smem, ⟨1, _⟩ => ⟨S1, .i32⟩
  | _, _ => ⟨S74240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![580], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_2 : BitVec 32 := 0#32
  let v11 : BitVec 32 := Scalar.maxsi v10 c0_i32_2
  let v12 : Index := Scalar.indexCast v11
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S580.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S580) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S580.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S580) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S580.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S580) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsOneRefIdeal.lean ====
abbrev S74240x1024 : Shape := ⟨2, ![74240, 1024]⟩
abbrev S580 : Shape := ⟨1, ![580]⟩
abbrev S1 : Shape := ⟨1, ![1]⟩
abbrev S2x64x1024x256 : Shape := ⟨4, ![2, 64, 1024, 256]⟩
abbrev S2x64x256x1024 : Shape := ⟨4, ![2, 64, 256, 1024]⟩
abbrev S580x128x1024 : Shape := ⟨3, ![580, 128, 1024]⟩
abbrev S1x64x1024x256 : Shape := ⟨4, ![1, 64, 1024, 256]⟩
abbrev S64x1024x256 : Shape := ⟨3, ![64, 1024, 256]⟩
abbrev S_ : Shape := ⟨0, ![]⟩
abbrev S580x1 : Shape := ⟨2, ![580, 1]⟩
abbrev S580x1024x256 : Shape := ⟨3, ![580, 1024, 256]⟩
abbrev S580x128x256 : Shape := ⟨3, ![580, 128, 256]⟩
abbrev S1x64x256x1024 : Shape := ⟨4, ![1, 64, 256, 1024]⟩
abbrev S64x256x1024 : Shape := ⟨3, ![64, 256, 1024]⟩
abbrev S580x256x1024 : Shape := ⟨3, ![580, 256, 1024]⟩
abbrev S580x1x1 : Shape := ⟨3, ![580, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S74240x1024, .f32⟩
  | .hbm, ⟨1, _⟩ => ⟨S580, .i32⟩
  | .hbm, ⟨2, _⟩ => ⟨S1, .i32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S580x128x1024, .f32⟩
  | .hbm, ⟨7, _⟩ => ⟨S1x64x1024x256, .f32⟩
  | .hbm, ⟨8, _⟩ => ⟨S64x1024x256, .f32⟩
  | .hbm, ⟨9, _⟩ => ⟨S_, .i32⟩
  | .hbm, ⟨10, _⟩ => ⟨S580, .i32⟩
  | .hbm, ⟨11, _⟩ => ⟨S580, .i1⟩
  | .hbm, ⟨12, _⟩ => ⟨S_, .i32⟩
  | .hbm, ⟨13, _⟩ => ⟨S580, .i32⟩
  | .hbm, ⟨14, _⟩ => ⟨S580, .i32⟩
  | .hbm, ⟨15, _⟩ => ⟨S580, .i32⟩
  | .hbm, ⟨16, _⟩ => ⟨S580x1, .i32⟩
  | .hbm, ⟨17, _⟩ => ⟨S580x1024x256, .f32⟩
  | .hbm, ⟨18, _⟩ => ⟨S580x128x256, .f32⟩
  | .hbm, ⟨19, _⟩ => ⟨S580x128x256, .f32⟩
  | .hbm, ⟨20, _⟩ => ⟨S580x128x256, .f32⟩
  | .hbm, ⟨21, _⟩ => ⟨S_, .f32⟩
  | .hbm, ⟨22, _⟩ => ⟨S580x128x256, .f32⟩
  | .hbm, ⟨23, _⟩ => ⟨S580x128x256, .f32⟩
  | .hbm, ⟨24, _⟩ => ⟨S_, .f32⟩
  | .hbm, ⟨25, _⟩ => ⟨S580x128x256, .f32⟩
  | .hbm, ⟨26, _⟩ => ⟨S580x128x256, .f32⟩
  | .hbm, ⟨27, _⟩ => ⟨S580x128x256, .f32⟩
  | .hbm, ⟨28, _⟩ => ⟨S1x64x1024x256, .f32⟩
  | .hbm, ⟨29, _⟩ => ⟨S64x1024x256, .f32⟩
  | .hbm, ⟨30, _⟩ => ⟨S_, .i32⟩
  | .hbm, ⟨31, _⟩ => ⟨S580, .i32⟩
  | .hbm, ⟨32, _⟩ => ⟨S580, .i1⟩
  | .hbm, ⟨33, _⟩ => ⟨S_, .i32⟩
  | .hbm, ⟨34, _⟩ => ⟨S580, .i32⟩
  | .hbm, ⟨35, _⟩ => ⟨S580, .i32⟩
  | .hbm, ⟨36, _⟩ => ⟨S580, .i32⟩
  | .hbm, ⟨37, _⟩ => ⟨S580x1, .i32⟩
  | .hbm, ⟨38, _⟩ => ⟨S580x1024x256, .f32⟩
  | .hbm, ⟨39, _⟩ => ⟨S580x128x256, .f32⟩
  | .hbm, ⟨40, _⟩ => ⟨S580x128x256, .f32⟩
  | .hbm, ⟨41, _⟩ => ⟨S1x64x256x1024, .f32⟩
  | .hbm, ⟨42, _⟩ => ⟨S64x256x1024, .f32⟩
  | .hbm, ⟨43, _⟩ => ⟨S_, .i32⟩
  | .hbm, ⟨44, _⟩ => ⟨S580, .i32⟩
  | .hbm, ⟨45, _⟩ => ⟨S580, .i1⟩
  | .hbm, ⟨46, _⟩ => ⟨S_, .i32⟩
  | .hbm, ⟨47, _⟩ => ⟨S580, .i32⟩
  | .hbm, ⟨48, _⟩ => ⟨S580, .i32⟩
  | .hbm, ⟨49, _⟩ => ⟨S580, .i32⟩
  | .hbm, ⟨50, _⟩ => ⟨S580x1, .i32⟩
  | .hbm, ⟨51, _⟩ => ⟨S580x256x1024, .f32⟩
  | .hbm, ⟨52, _⟩ => ⟨S580x128x1024, .f32⟩
  | .hbm, ⟨53, _⟩ => ⟨S580, .i32⟩
  | .hbm, ⟨54, _⟩ => ⟨S_, .i32⟩
  | .hbm, ⟨55, _⟩ => ⟨S580, .i32⟩
  | .hbm, ⟨56, _⟩ => ⟨S580, .i1⟩
  | .hbm, ⟨57, _⟩ => ⟨S580x1x1, .i1⟩
  | .hbm, ⟨58, _⟩ => ⟨S_, .f32⟩
  | .hbm, ⟨59, _⟩ => ⟨S_, .f32⟩
  | .hbm, ⟨60, _⟩ => ⟨S580x128x1024, .i1⟩
  | .hbm, ⟨61, _⟩ => ⟨S580x128x1024, .f32⟩
  | .hbm, ⟨62, _⟩ => ⟨S580x128x1024, .f32⟩
  | .hbm, ⟨63, _⟩ => ⟨S74240x1024, .f32⟩
  | _, _ => ⟨S74240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Proof.MemkvVal.lean ====
module

public import proofs.«01_k».proof.Proof.Gen.MemkvIdeal.Frame
public import proofs.«01_k».proof.Proof.Gen.MemkvRefIdeal.Run
public import Idealize.ShloMosaic.Lib.Pipeline.ValueKit

/-! # The memory keys and values: what the kernel's array holds, and that the reference computes the same -/

@[expose] public section

set_option maxRecDepth 16384

noncomputable section

open Idealize.ShloMosaic Idealize.ShloMosaic.TcCoe Idealize.SL.Sem
open Idealize.ShloMosaic.Pipeline (Dat)

namespace Cert.MemkvIdeal.Val
open Cert.MemkvIdeal Cert.MemkvIdeal.Gen

/-- The call's array in closed form: entry `(l, b, o, s)` is the dot product of row `o` of layer `l`'s weight (columns
    turned into rows) with the normalised memory row `(b, s)`. -/
def MK (X : FVec Ideal S8x256x1024 .f32) (G : FVec Ideal S2x1024 .f32) (W : FVec Ideal S2x1024x512 .f32) :
    FVec Ideal S2x8x512x256 .f32 := fun i =>
  ∑ k : Fin 1024, W (ix3 (i 0) k (i 2)) *
    (X (ix3 (i 1) (i 3) k)
      * Ideal.rsqrt (Ideal.div (∑ k' : Fin 1024, X (ix3 (i 1) (i 3) k') * X (ix3 (i 1) (i 3) k'))
          (Ideal.ofBits .f32 0x44800000#32) + Ideal.ofBits .f32 0x358637BD#32)
      * G (ix2 (i 0) k))

variable (m : (ℓ : Loc nD τ sig) → Buf (Elt Ideal) ℓ)

theorem idx : ∀ t : Fin cfg0.N, win0_0.index t = ![t.val % 8, 0, 0] ∧ win0_1.index t = ![t.val / 8, 0, 0]
    ∧ win0_2.index t = ![t.val / 8, 0, 0] ∧ win0_3.index t = ![t.val / 8, t.val % 8, 0, 0] :=
  (by decide +kernel : ∀ t : Fin grid0.N, _)

/-- The weight operand as the call finds it: the argument's last two axes exchanged. -/
theorem V_v1 (c : Dev nD) (i : S2x512x1024.Idx) :
    (V m c main_v1 : FVec Ideal S2x512x1024 .bf16) i
      = (m ((c : Thread nD τ).loc main_arg2) : FVec Ideal S2x1024x512 .f32) (ix3 (i 0) (i 2) (i 1)) := by
  simp only [V, V0, hostOps0, List.flatten_cons, List.flatten_nil, List.append_nil]
  after_results_simp
  pointwise

/-- The scale operand as the call finds it: the argument with an axis of length one inserted. -/
theorem V_v2 (c : Dev nD) (i : S2x1x1024.Idx) :
    (V m c main_v2 : FVec Ideal S2x1x1024 .f32) i
      = (m ((c : Thread nD τ).loc main_arg1) : FVec Ideal S2x1024 .f32) (ix2 (i 0) (i 2)) := by
  simp only [V, V0, hostOps0, List.flatten_cons, List.flatten_nil, List.append_nil]
  after_results_simp
  pointwise
  blk_ext

theorem point (c : Dev nD) (t : Fin cfg0.N) (y) :
    k0_pay1 (iblk m c 0 t) (iblk m c 1 t) (iblk m c 2 t) y
    = MK (m ((c : Thread nD τ).loc main_arg0)) (m ((c : Thread nD τ).loc main_arg1)) (m ((c : Thread nD τ).loc main_arg2))
        (((cfg0.win 3).blk t).view.emb y) := by
  pointwise [k0_pay1, MK]
  blk_point [iblk, V, idx t]
  · exact (V_v1 m c _).trans (by blk_ext [idx t])
  · exact (V_v2 m c _).trans (by blk_ext [idx t])

theorem final (c : Dev nD) : (dats m 0 c).arrAt 3 (cfgs 0).N
    = MK (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- Half `kv` of the call's array, arranged as `(layer, batch, position, head, lane)`. -/
def half (kv : Fin 2) (A : FVec Ideal S2x8x512x256 .f32) : FVec Ideal S2x8x256x4x64 .f32 := fun i =>
  A (ix4 (i 0) (i 1) (⟨kv.val * 256 + (i 3).val * 64 + (i 4).val, by
    have h3 : (i 3).val < 4 := (i 3).isLt
    have h4 : (i 4).val < 64 := (i 4).isLt
    have := kv.isLt; show _ < 512; omega⟩ : Fin 512) (i 2))

theorem W_v7 (c : Dev nD) :
    Pipeline.afterTail₀ cfgs (dats m) 0 (V0 m) [hostOps1] c main_v7 =
      half 0 (MK (m ((c : Thread nD τ).loc main_arg0)) (m ((c : Thread nD τ).loc main_arg1)) (m ((c : Thread nD τ).loc main_arg2))) := by
  unfold Pipeline.afterTail₀
  simp only [hostOps1, List.flatten_cons, List.flatten_nil, List.append_nil]
  after_results_simp
  have hA := (Pipeline.withArrays_arr (cfgs 0).spec launch0.win.arr_inj c (V0 m c) (fun w => (dats m 0 c).arrAt w (cfgs 0).N) 3).trans (final m c)
  have e : Pipeline.withArrays (cfgs 0).spec c (V0 m c) (fun w => (dats m 0 c).arrAt w (cfgs 0).N) (Proc.tc.devRef main_v3) = _ := hA
  rw [e]
  generalize MK _ _ _ = A
  funext i
  idx_vars i
  pointwise [half]
  blk_ext

theorem W_v9 (c : Dev nD) :
    Pipeline.afterTail₀ cfgs (dats m) 0 (V0 m) [hostOps1] c main_v9 =
      half 1 (MK (m ((c : Thread nD τ).loc main_arg0)) (m ((c : Thread nD τ).loc main_arg1)) (m ((c : Thread nD τ).loc main_arg2))) := by
  unfold Pipeline.afterTail₀
  simp only [hostOps1, List.flatten_cons, List.flatten_nil, List.append_nil]
  after_results_simp
  have hA := (Pipeline.withArrays_arr (cfgs 0).spec launch0.win.arr_inj c (V0 m c) (fun w => (dats m 0 c).arrAt w (cfgs 0).N) 3).trans (final m c)
  have e : Pipeline.withArrays (cfgs 0).spec c (V0 m c) (fun w => (dats m 0 c).arrAt w (cfgs 0).N) (Proc.tc.devRef main_v3) = _ := hA
  rw [e]
  generalize MK _ _ _ = A
  funext i
  idx_vars i
  pointwise [half]
  blk_ext

/-- The run of the kernel's program: its two results are the halves of the call's array. -/
theorem run (ρ : Dev nD → PrngReg) :
    θ_run defs (onTc (τ := τ) (main (F := Ideal))) ⟨m, fun _ => 0, ρ⟩ fun r => ∀ c : Dev nD,
      r.2.mem ((c.tc : Thread nD τ).loc main_v7) = half 0 (MK (m ((c : Thread nD τ).loc main_arg0)) (m ((c : Thread nD τ).loc main_arg1)) (m ((c : Thread nD τ).loc main_arg2)))
      ∧ r.2.mem ((c.tc : Thread nD τ).loc main_v9) = half 1 (MK (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v7 (Pipeline.mem_restRefs_of main_v7 (by decide) (by decide))).trans (W_v7 m c),
      ((h c).2 main_v9 (Pipeline.mem_restRefs_of main_v9 (by decide) (by decide))).trans (W_v9 m c),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.MemkvIdeal.Val

namespace Cert.MemkvRefIdeal.Val
open Cert.MemkvRefIdeal Cert.MemkvRefIdeal.Gen

/-- The reference's result 0 is the matching half of the kernel's array. -/
theorem eq_v48 (X : FVec Ideal S8x256x1024 .f32) (G : FVec Ideal S2x1024 .f32) (W : FVec Ideal S2x1024x512 .f32) :
    (concatenate S2x8x256x4x64 0 [⟨S1x8x256x4x64, (broadcastInDim S1x8x256x4x64 ![1, 2, 3, 4] bcast_S8x256x4x64_S1x8x256x4x64_1_2_3_4 (shapeCast _ (extractStridedSlice S8x256x1x4x64 ![0, 0, 0, 0, 0] (shapeCast _ (Host.dotGeneral dot_S8x256x1024_S1024x512_S8x256x512_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![0, 0] G slices_S2x1024_S1x1024_0_0) shapeCasts_S1x1024_S1024)))) (shapeCast _ (extractStridedSlice S1x1024x512 ![0, 0, 0] W slices_S2x1024x512_S1x1024x512_0_0_0) shapeCasts_S1x1024x512_S1024x512)) shapeCasts_S8x256x512_S8x256x2x4x64) slices_S8x256x2x4x64_S8x256x1x4x64_0_0_0_0_0) shapeCasts_S8x256x1x4x64_S8x256x4x64))⟩, ⟨S1x8x256x4x64, (broadcastInDim S1x8x256x4x64 ![1, 2, 3, 4] bcast_S8x256x4x64_S1x8x256x4x64_1_2_3_4 (shapeCast _ (extractStridedSlice S8x256x1x4x64 ![0, 0, 0, 0, 0] (shapeCast _ (Host.dotGeneral dot_S8x256x1024_S1024x512_S8x256x512_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![1, 0] G slices_S2x1024_S1x1024_1_0) shapeCasts_S1x1024_S1024)))) (shapeCast _ (extractStridedSlice S1x1024x512 ![1, 0, 0] W slices_S2x1024x512_S1x1024x512_1_0_0) shapeCasts_S1x1024x512_S1024x512)) shapeCasts_S8x256x512_S8x256x2x4x64) slices_S8x256x2x4x64_S8x256x1x4x64_0_0_0_0_0) shapeCasts_S8x256x1x4x64_S8x256x4x64))⟩] concatenates_S1x8x256x4x64_S1x8x256x4x64_S2x8x256x4x64_d0 : FVec Ideal S2x8x256x4x64 .f32) = Cert.MemkvIdeal.Val.half 0 (Cert.MemkvIdeal.Val.MK X G W) := by
  funext i
  idx_vars i
  pointwise [Cert.MemkvIdeal.Val.half, Cert.MemkvIdeal.Val.MK]
  fin_cases i0
  · exact Finset.sum_congr rfl fun x _ => mul_comm _ _
  · exact Finset.sum_congr rfl fun x _ => mul_comm _ _

/-- The reference's result 1 is the matching half of the kernel's array. -/
theorem eq_v51 (X : FVec Ideal S8x256x1024 .f32) (G : FVec Ideal S2x1024 .f32) (W : FVec Ideal S2x1024x512 .f32) :
    (concatenate S2x8x256x4x64 0 [⟨S1x8x256x4x64, (broadcastInDim S1x8x256x4x64 ![1, 2, 3, 4] bcast_S8x256x4x64_S1x8x256x4x64_1_2_3_4 (shapeCast _ (extractStridedSlice S8x256x1x4x64 ![0, 0, 1, 0, 0] (shapeCast _ (Host.dotGeneral dot_S8x256x1024_S1024x512_S8x256x512_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![0, 0] G slices_S2x1024_S1x1024_0_0) shapeCasts_S1x1024_S1024)))) (shapeCast _ (extractStridedSlice S1x1024x512 ![0, 0, 0] W slices_S2x1024x512_S1x1024x512_0_0_0) shapeCasts_S1x1024x512_S1024x512)) shapeCasts_S8x256x512_S8x256x2x4x64) slices_S8x256x2x4x64_S8x256x1x4x64_0_0_1_0_0) shapeCasts_S8x256x1x4x64_S8x256x4x64))⟩, ⟨S1x8x256x4x64, (broadcastInDim S1x8x256x4x64 ![1, 2, 3, 4] bcast_S8x256x4x64_S1x8x256x4x64_1_2_3_4 (shapeCast _ (extractStridedSlice S8x256x1x4x64 ![0, 0, 1, 0, 0] (shapeCast _ (Host.dotGeneral dot_S8x256x1024_S1024x512_S8x256x512_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![1, 0] G slices_S2x1024_S1x1024_1_0) shapeCasts_S1x1024_S1024)))) (shapeCast _ (extractStridedSlice S1x1024x512 ![1, 0, 0] W slices_S2x1024x512_S1x1024x512_1_0_0) shapeCasts_S1x1024x512_S1024x512)) shapeCasts_S8x256x512_S8x256x2x4x64) slices_S8x256x2x4x64_S8x256x1x4x64_0_0_1_0_0) shapeCasts_S8x256x1x4x64_S8x256x4x64))⟩] concatenates_S1x8x256x4x64_S1x8x256x4x64_S2x8x256x4x64_d0 : FVec Ideal S2x8x256x4x64 .f32) = Cert.MemkvIdeal.Val.half 1 (Cert.MemkvIdeal.Val.MK X G W) := by
  funext i
  idx_vars i
  pointwise [Cert.MemkvIdeal.Val.half, Cert.MemkvIdeal.Val.MK]
  fin_cases i0
  · exact Finset.sum_congr rfl fun x _ => mul_comm _ _
  · exact Finset.sum_congr rfl fun x _ => mul_comm _ _

end Cert.MemkvRefIdeal.Val

end
-- ==== Proof.Attn.lean ====
module

public import Idealize.ShloMosaic.Lib.Pipeline.ValueKit

/-! # Attention over a memory of 256 positions, four heads of 64 lanes: one query row -/

@[expose] public section

set_option maxRecDepth 16384

noncomputable section

open Idealize.ShloMosaic Idealize.ShloMosaic.TcCoe Idealize.SL.Sem

namespace Cert.Attn

/-- The score of head `h` at position `k`: the products of the query's lanes of that head with the key's, summed over
    all 256 lanes (a lane of another head adds zero), times 1/8. -/
def score (q : Fin 256 → EReal) (K : Fin 256 → Fin 256 → EReal) (h : ℕ) (k : Fin 256) : EReal :=
  (∑ d : Fin 256, if d.val / 64 = h then q d * K d k else 0) * Ideal.ofBits .f32 0x3E000000#32

/-- The greatest of 256 scores. -/
def top (s : Fin 256 → EReal) : EReal := Finset.fold max (Ideal.ofBits .f32 0xFF800000#32) s Finset.univ

/-- Head `h` of the attention at lane `j`, the division after the sum. -/
def head (q : Fin 256 → EReal) (K V : Fin 256 → Fin 256 → EReal) (h : ℕ) (j : Fin 256) : EReal :=
  Ideal.div (∑ k : Fin 256, Ideal.exp (score q K h k - top (score q K h)) * V j k)
    (∑ k : Fin 256, Ideal.exp (score q K h k - top (score q K h)))

/-- The attention's row: lane `j` belongs to head `j / 64`. -/
def attn (q : Fin 256 → EReal) (K V : Fin 256 → Fin 256 → EReal) (j : Fin 256) : EReal := head q K V (j.val / 64) j

/-- The row the output projection reads: 768 lanes of the context, then the attention's 256. -/
def mixRow (x : Fin 768 → EReal) (q : Fin 256 → EReal) (K V : Fin 256 → Fin 256 → EReal) (k : Fin 1024) : EReal :=
  if h : k.val < 768 then x ⟨k.val, h⟩ else attn q K V ⟨k.val - 768, by omega⟩

/-- The normalised row at lane `j`, before its scale. -/
def normed (x : Fin 1024 → EReal) (j : Fin 1024) : EReal :=
  x j * Ideal.rsqrt (Ideal.div (∑ k : Fin 1024, x k * x k) (Ideal.ofBits .f32 0x44800000#32) + Ideal.ofBits .f32 0x358637BD#32)

/-- The head of a lane, as the integer operations compute it. -/
theorem lane_head (l : Fin 256) :
    Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32) = BitVec.ofNat 32 (l.val / 64) := by
  revert l; decide +kernel

theorem head_eq (l : Fin 256) (h : Fin 4) :
    IntOp.cmpi CmpIPredicate.eq (BitVec.ofNat 32 (l.val / 64)) (BitVec.ofNat 32 h.val) = if l.val / 64 = h.val then 1#1 else 0#1 := by
  revert l h; decide +kernel

theorem select_ite {α : Type} (p : Prop) [Decidable p] (a b : α) :
    Scalar.select (if p then 1#1 else 0#1) a b = if p then a else b := by
  by_cases hp : p <;> simp [hp, Scalar.select]

theorem neg_inf : Ideal.ofBits .f32 0xFF800000#32 = (⊥ : EReal) := by
  simp [Ideal.ofBits, Ideal.ieee]

theorem eighth_real : ∃ r : ℝ, Ideal.ofBits .f32 0x3E000000#32 = (r : EReal) := by
  simp only [Ideal.ofBits, Ideal.ieee]
  simp
  exact ⟨_, (EReal.coe_mul _ _).symm⟩

/-- A nonnegative real factor goes inside a sum of extended reals. -/
theorem sum_mul_real {ι : Type} (t : Finset ι) (f : ι → EReal) (a : EReal) (h0 : 0 ≤ a) (ht : a ≠ ⊤) :
    (∑ k ∈ t, f k) * a = ∑ k ∈ t, f k * a := by
  classical
  induction t using Finset.induction with
  | empty => simp
  | insert x t hx ih =>
    rw [Finset.sum_insert hx, Finset.sum_insert hx, EReal.right_distrib_of_nonneg_of_ne_top h0 ht, ih]

theorem real_sum {ι : Type} (t : Finset ι) (f : ι → ℝ) : (∑ k ∈ t, (f k : EReal)) = ((∑ k ∈ t, f k : ℝ) : EReal) := by
  classical
  induction t using Finset.induction with
  | empty => simp
  | insert x t hx ih => rw [Finset.sum_insert hx, Finset.sum_insert hx, ih, EReal.coe_add]

/-- With real scores the greatest is one of them, so real. -/
theorem top_real (s : Fin 256 → EReal) (hs : ∀ k, ∃ r : ℝ, s k = r) : ∃ r : ℝ, top s = r := by
  have h1 : top s < ⊤ := by
    unfold top
    rw [Finset.fold_max_lt, neg_inf]
    exact ⟨bot_lt_top, fun k _ => by obtain ⟨r, hr⟩ := hs k; rw [hr]; exact EReal.coe_lt_top r⟩
  have h2 : ⊥ < top s := by
    unfold top
    rw [Finset.lt_fold_max]
    exact .inr ⟨0, Finset.mem_univ _, by obtain ⟨r, hr⟩ := hs 0; rw [hr]; exact EReal.bot_lt_coe r⟩
  exact ⟨(top s).toReal, (EReal.coe_toReal h1.ne h2.ne').symm⟩

/-- The division after the weighted sum is the weighted sum of the divided weights, the scores being real. -/
theorem div_sum (s v : Fin 256 → EReal) (hs : ∀ k, ∃ r : ℝ, s k = r) :
    Ideal.div (∑ k : Fin 256, Ideal.exp (s k - top s) * v k) (∑ k : Fin 256, Ideal.exp (s k - top s))
      = ∑ k : Fin 256, v k * Ideal.div (Ideal.exp (s k - top s)) (∑ k : Fin 256, Ideal.exp (s k - top s)) := by
  obtain ⟨M, hM⟩ := top_real s hs
  choose r hr using hs
  have he : ∀ k, Ideal.exp (s k - top s) = ((Real.exp (r k - M) : ℝ) : EReal) := fun k => by
    rw [hr k, hM, ← EReal.coe_sub, Ideal.exp_coe]
  simp only [he]
  rw [real_sum]
  have hpos : 0 < ∑ k : Fin 256, Real.exp (r k - M) :=
    Finset.sum_pos (fun k _ => Real.exp_pos _) ⟨0, Finset.mem_univ _⟩
  set L := ∑ k : Fin 256, Real.exp (r k - M)
  have hne : ((L : ℝ) : EReal) ≠ 0 := by exact_mod_cast hpos.ne'
  simp only [Ideal.div, if_neg hne]
  rw [← EReal.coe_inv, sum_mul_real _ _ _ (by exact_mod_cast (inv_pos.2 hpos).le) (EReal.coe_ne_top _)]
  exact Finset.sum_congr rfl fun k _ => by rw [mul_comm _ (v k), mul_assoc]

/-- Lanes of the other heads add nothing: head `h`'s sum over its own 64 lanes. -/
theorem sum_head (f : Fin 256 → EReal) (h : Fin 4) :
    (∑ d : Fin 256, if d.val / 64 = h.val then f d else 0)
      = ∑ d : Fin 64, f ⟨h.val * 64 + d.val, by omega⟩ := by
  rw [← Fin.sum_mul_add_fin 4 64 (fun d : Fin 256 => if d.val / 64 = h.val then f d else 0)]
  rw [Finset.sum_eq_single h]
  · exact Finset.sum_congr rfl fun d _ => if_pos (by show (h.val * 64 + d.val) / 64 = h.val; omega)
  · intro b _ hb
    exact Finset.sum_eq_zero fun d _ => if_neg (by
      show ¬ (b.val * 64 + d.val) / 64 = h.val
      have : b.val ≠ h.val := fun e => hb (Fin.ext e)
      omega)
  · intro hh; exact absurd (Finset.mem_univ _) hh

theorem score_real (q : Fin 256 → EReal) (K : Fin 256 → Fin 256 → EReal) (h : ℕ)
    (hq : ∀ d, ∃ r : ℝ, q d = r) (hK : ∀ d k, ∃ r : ℝ, K d k = r) (k : Fin 256) : ∃ r : ℝ, score q K h k = r := by
  choose a ha using hq
  choose b hb using hK
  obtain ⟨e, he⟩ := eighth_real
  refine ⟨(∑ d : Fin 256, if d.val / 64 = h then a d * b d k else 0) * e, ?_⟩
  unfold score
  rw [he, EReal.coe_mul, ← real_sum]
  congr 1
  refine Finset.sum_congr rfl fun d _ => ?_
  split
  · rw [ha, hb, EReal.coe_mul]
  · simp

end Cert.Attn

end
-- ==== Proof.LayerOneVal.lean ====
module

public import proofs.«01_k».proof.Proof.Gen.LayerOneIdeal.Value
public import proofs.«01_k».proof.Proof.Attn
public import Idealize.ShloMosaic.Lib.Pipeline.CanonAppend

/-! # The last layer's call: what its first two arrays hold -/

@[expose] public section

set_option maxRecDepth 16384

noncomputable section

open Idealize.ShloMosaic Idealize.ShloMosaic.TcCoe Idealize.SL.Sem
open Idealize.ShloMosaic.Pipeline (Dat)

namespace Cert.LayerOneIdeal.Val
open Cert.LayerOneIdeal Cert.LayerOneIdeal.Gen Cert.Attn

abbrev lanes : IVec S256x256 32 := iota .tc S256x256 32 [1] iota_S256x256_d1_w32

theorem head0 (q : FVec Ideal S256x256 .f32) (K V : FVec Ideal S256x256 .bf16) (r l : Fin 256) :
    k0_pay8 q K V k0_pay5 k0_pay6 k0_pay7 1#32 (ix2 r l) =
      if l.val / 64 = 0 then head (fun d => q (ix2 r d)) (fun d k => K (ix2 d k)) (fun j k => V (ix2 j k)) 0 l else 0 := by
  pointwise [k0_pay5, k0_pay6, k0_pay7, k0_pay8]
  simp only [lane_head]
  simp only [show (0#32 : BitVec 32) = BitVec.ofNat 32 (0 : Fin 4).val from rfl, head_eq, select_ite]
  rfl

theorem head1 (q z : FVec Ideal S256x256 .f32) (K V : FVec Ideal S256x256 .bf16) (r l : Fin 256) :
    k0_pay12 q K V z (k0_pay9 lanes) (k0_pay10 lanes) (k0_pay11 lanes) (ix2 r l) =
      if l.val / 64 = 1 then head (fun d => q (ix2 r d)) (fun d k => K (ix2 d k)) (fun j k => V (ix2 j k)) 1 l else z (ix2 r l) := by
  pointwise [k0_pay9, k0_pay10, k0_pay11, k0_pay12]
  simp only [lane_head]
  simp only [show (1#32 : BitVec 32) = BitVec.ofNat 32 (1 : Fin 4).val from rfl, head_eq, select_ite]
  rfl

theorem head2 (q z : FVec Ideal S256x256 .f32) (K V : FVec Ideal S256x256 .bf16) (r l : Fin 256) :
    k0_pay14 q K V z (k0_pay13 lanes) 2#32 (ix2 r l) =
      if l.val / 64 = 2 then head (fun d => q (ix2 r d)) (fun d k => K (ix2 d k)) (fun j k => V (ix2 j k)) 2 l else z (ix2 r l) := by
  pointwise [k0_pay13, k0_pay14]
  simp only [lane_head]
  simp only [show (2#32 : BitVec 32) = BitVec.ofNat 32 (2 : Fin 4).val from rfl, head_eq, select_ite]
  rfl

theorem head3 (q z : FVec Ideal S256x256 .f32) (K V : FVec Ideal S256x256 .bf16) (r l : Fin 256) :
    k0_pay16 q K V z (k0_pay15 lanes) (ix2 r l) =
      if l.val / 64 = 3 then head (fun d => q (ix2 r d)) (fun d k => K (ix2 d k)) (fun j k => V (ix2 j k)) 3 l else z (ix2 r l) := by
  pointwise [k0_pay15, k0_pay16]
  simp only [lane_head]
  simp only [show (3#32 : BitVec 32) = BitVec.ofNat 32 (3 : Fin 4).val from rfl, head_eq, select_ite]
  rfl

theorem heads (q : FVec Ideal S256x256 .f32) (K V : FVec Ideal S256x256 .bf16) (r l : Fin 256) :
    k0_pay16 q K V (k0_pay14 q K V (k0_pay12 q K V (k0_pay8 q K V k0_pay5 k0_pay6 k0_pay7 1#32) (k0_pay9 lanes) (k0_pay10 lanes) (k0_pay11 lanes))
      (k0_pay13 lanes) 2#32) (k0_pay15 lanes) (ix2 r l)
      = attn (fun d => q (ix2 r d)) (fun d k => K (ix2 d k)) (fun j k => V (ix2 j k)) l := by
  rw [head3, head2, head1, head0]
  unfold attn
  have hl : l.val / 64 < 4 := by have := l.isLt; omega
  generalize l.val / 64 = n at hl ⊢
  interval_cases n <;> simp

/-- The four heads' 256 lanes of one tile. -/
abbrev om (q : FVec Ideal S256x256 .f32) (K V : FVec Ideal S256x256 .bf16) : FVec Ideal S256x256 .bf16 :=
  k0_pay16 q K V (k0_pay14 q K V (k0_pay12 q K V (k0_pay8 q K V k0_pay5 k0_pay6 k0_pay7 1#32) (k0_pay9 lanes) (k0_pay10 lanes) (k0_pay11 lanes))
      (k0_pay13 lanes) 2#32) (k0_pay15 lanes)

/-- The scratch the output projection reads, as a tile of rows. -/
def mixTile (x : FVec Ideal S256x768 .f32) (q : FVec Ideal S256x256 .f32) (K V : FVec Ideal S256x256 .bf16) : FVec Ideal S256x1024 .bf16 := fun i =>
  mixRow (fun d => x (ix2 (i 0) d)) (fun d => q (ix2 (i 0) d)) (fun d k => K (ix2 d k)) (fun j k => V (ix2 j k)) (i 1)

theorem mix_read (x : FVec Ideal S256x768 .f32) (q : FVec Ideal S256x256 .f32) (K V : FVec Ideal S256x256 .bf16) :
    (View.whole cc0_scratch0).readCov (Val := Elt Ideal)
        [⟨Rect.unit ![0, 768] ![256, 256] inb_S256x1024_S256x256_0_768, om q K V⟩,
          ⟨Rect.unit ![0, 0] ![256, 768] inb_S256x1024_S256x768_0_0, k0_pay2 (F := Ideal) x⟩]
        (Rect.unit ![0, 0] ![256, 1024] inb_S256x1024_S256x1024_0_0).toLoadRect = mixTile x q K V := by
  rw [View.readCov_eq_canon']
  funext j
  have hj : (Rect.unit (s := S256x1024) ![0, 0] ![256, 1024] inb_S256x1024_S256x1024_0_0).toLoadRect.idx j = j := by
    funext a; fin_cases a <;> apply Fin.ext <;> simp [Rect.toLoadRect]
  rw [hj]
  obtain ⟨j0, j1, rfl⟩ : ∃ (j0 : Fin 256) (j1 : Fin 1024), j = ix2 j0 j1 := ⟨j 0, j 1, by funext a; fin_cases a <;> rfl⟩
  refine (congrFun (congrArg View.canon (List.append_nil _).symm) _).trans
    (View.canon_append_of_pieces (Val := Elt Ideal) (S := S256x1024) (e := .bf16) (mixTile x q K V) [] _ ?_ (ix2 j0 j1) ?_)
  · intro p hp
    simp only [List.mem_cons, List.not_mem_nil, or_false] at hp
    rcases hp with rfl | rfl
    · intro y
      obtain ⟨y0, y1, rfl⟩ : ∃ (y0 y1 : Fin 256), y = ix2 y0 y1 := ⟨y 0, y 1, by funext a; fin_cases a <;> rfl⟩
      have e : (Rect.unit (s := S256x1024) ![0, 768] ![256, 256] inb_S256x1024_S256x256_0_768).emb (ix2 y0 y1)
          = ix2 y0 (⟨768 + y1.val, by omega⟩ : Fin 1024) := by
        funext a; fin_cases a <;> apply Fin.ext <;> simp
      refine (heads q K V y0 y1).trans ?_
      rw [e]
      have h7 : ¬ (768 + y1.val < 768) := by omega
      refine Eq.trans ?_ (show mixRow (fun d => x (ix2 y0 d)) (fun d => q (ix2 y0 d)) (fun d k => K (ix2 d k)) (fun j k => V (ix2 j k))
        (⟨768 + y1.val, by omega⟩ : Fin 1024) = _ from rfl)
      simp only [mixRow, h7, dite_false, Nat.add_sub_cancel_left, Fin.eta]
    · intro y
      obtain ⟨y0, y1, rfl⟩ : ∃ (y0 : Fin 256) (y1 : Fin 768), y = ix2 y0 y1 := ⟨y 0, y 1, by funext a; fin_cases a <;> rfl⟩
      have e : (Rect.unit (s := S256x1024) ![0, 0] ![256, 768] inb_S256x1024_S256x768_0_0).emb (ix2 y0 y1)
          = ix2 y0 (⟨y1.val, by omega⟩ : Fin 1024) := by
        funext a; fin_cases a <;> apply Fin.ext <;> simp
      rw [e]
      simp only [mixTile, mixRow, y1.isLt, dite_true, Fin.eta]
      pointwise [k0_pay2]
  · by_cases h : j1.val < 768
    · refine ⟨_, List.mem_cons_of_mem _ (List.mem_cons_self), ?_⟩
      rw [Rect.mem_set_unit]
      intro a
      fin_cases a
      · exact ⟨Nat.zero_le _, by simpa using j0.isLt⟩
      · exact ⟨Nat.zero_le _, by simpa using h⟩
    · refine ⟨_, List.mem_cons_self, ?_⟩
      rw [Rect.mem_set_unit]
      intro a
      fin_cases a
      · exact ⟨Nat.zero_le _, by simpa using j0.isLt⟩
      · exact ⟨by simpa using h, by simpa using j1.isLt⟩

/-- The context of row `r` of batch `r / 4096` and its attention over that batch's memory (layer 1). -/
def MIX (C : FVec Ideal S32768x768 .f32) (Q : FVec Ideal S32768x256 .f32) (KV : FVec Ideal S2x8x512x256 .f32) (r : Fin 32768) : Fin 1024 → EReal :=
  mixRow (fun d => C (ix2 r d)) (fun d => Q (ix2 r d))
    (fun d k => KV (ix4 (1 : Fin 2) (⟨r.val / 4096, by omega⟩ : Fin 8) (⟨d.val, by omega⟩ : Fin 512) k))
    (fun j k => KV (ix4 (1 : Fin 2) (⟨r.val / 4096, by omega⟩ : Fin 8) (⟨256 + j.val, by omega⟩ : Fin 512) k))

/-- The first result in closed form. -/
def X1 (X : FVec Ideal S32768x1024 .f32) (C : FVec Ideal S32768x768 .f32) (Q : FVec Ideal S32768x256 .f32) (KV : FVec Ideal S2x8x512x256 .f32)
    (W : FVec Ideal S1x1024x1024 .f32) : FVec Ideal S32768x1024 .f32 := fun i =>
  X i + ∑ k : Fin 1024, MIX C Q KV (i 0) k * W (ix3 (0 : Fin 1) k (i 1))

/-- The second result in closed form, from the first. -/
def HF (A : FVec Ideal S32768x1024 .f32) (G : FVec Ideal S2x1024 .f32) : FVec Ideal S32768x1024 .f32 := fun i =>
  normed (fun k => A (ix2 (i 0) k)) (i 1) * G (ix2 (1 : Fin 2) (i 1))

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![1, t.val / 16, 0, 0] ∧ win0_4.index t = ![1, t.val / 16, 1, 0]
    ∧ win0_5.index t = ![0, 0] ∧ win0_6.index t = ![0, 0]
    ∧ win0_9.index t = ![t.val, 0] ∧ win0_10.index t = ![t.val, 0] :=
  (by decide +kernel : ∀ t : Fin grid0.N, _)

theorem V_v14 (c : Dev nD) (i : S1024x1024.Idx) :
    (V m c main_v14 : FVec Ideal S1024x1024 .bf16) i
      = (m ((c : Thread nD τ).loc main_arg4) : FVec Ideal S1x1024x1024 .f32) (ix3 (0 : Fin 1) (i 0) (i 1)) := by
  simp only [V, hostOps0, List.flatten_cons, List.flatten_nil, List.append_nil]
  after_results_simp
  pointwise
  blk_ext

theorem V_v17 (c : Dev nD) (i : S1x1024.Idx) :
    (V m c main_v17 : FVec Ideal S1x1024 .f32) i
      = (m ((c : Thread nD τ).loc main_arg5) : FVec Ideal S2x1024 .f32) (ix2 (1 : Fin 2) (i 1)) := by
  simp only [V, hostOps0, List.flatten_cons, List.flatten_nil, List.append_nil]
  after_results_simp
  pointwise
  blk_ext

abbrev X1m (c : Dev nD) : FVec Ideal S32768x1024 .f32 :=
  X1 (m ((c : Thread nD τ).loc main_arg0)) (m ((c : Thread nD τ).loc main_arg1)) (m ((c : Thread nD τ).loc main_arg2))
    (m ((c : Thread nD τ).loc main_arg3)) (m ((c : Thread nD τ).loc main_arg4))

theorem tile (c : Dev nD) (t : Fin cfg0.N) (r : Fin 256) (k : Fin 1024) :
    mixTile (iblk m c 1 t) (iblk m c 2 t) (k0_pay3 (iblk m c 3 t)) (k0_pay4 (iblk m c 4 t)) (ix2 r k)
      = MIX (m ((c : Thread nD τ).loc main_arg1)) (m ((c : Thread nD τ).loc main_arg2)) (m ((c : Thread nD τ).loc main_arg3))
          (⟨t.val * 256 + r.val, by have := t.isLt; have : cfg0.N = 128 := rfl; omega⟩ : Fin 32768) k := by
  show mixRow _ _ _ _ k = mixRow _ _ _ _ k
  congr 1
  · funext d
    blk_point [iblk, V, idx t]
  · funext d
    blk_point [iblk, V, idx t]
  · funext d k
    pointwise [k0_pay3]
    blk_point [iblk, V, idx t]
  · funext d k
    pointwise [k0_pay4]
    blk_point [iblk, V, idx t]

theorem point9 (c : Dev nD) (t : Fin cfg0.N) (y) :
    k0_pay17 (iblk m c 0 t) (mixTile (iblk m c 1 t) (iblk m c 2 t) (k0_pay3 (iblk m c 3 t)) (k0_pay4 (iblk m c 4 t))) (iblk m c 5 t) y
    = X1m m c (((cfg0.win 9).blk t).view.emb y) := by
  obtain ⟨y0, y1, rfl⟩ : ∃ (y0 : Fin 256) (y1 : Fin 1024), y = ix2 y0 y1 := ⟨y 0, y 1, by funext a; fin_cases a <;> rfl⟩
  pointwise [k0_pay17, X1m, X1]
  simp only [tile]
  blk_point [iblk, V, idx t]

theorem final9 (c : Dev nD) : (dats m 0 c).arrAt 9 cfg0.N = X1m m c := by
  refine (dats m 0 c).arrAt_eq_of_covers 9 _ (by decide +kernel) fun t _ y => ?_
  blk_simp
  rw [after0_9]; unfold outsAt0; dsimp only; frame_out
  rw [mix_read]
  exact point9 m c t y

theorem point10 (c : Dev nD) (t : Fin cfg0.N) (y) :
    k0_pay20 (k0_pay17 (iblk m c 0 t) (mixTile (iblk m c 1 t) (iblk m c 2 t) (k0_pay3 (iblk m c 3 t)) (k0_pay4 (iblk m c 4 t))) (iblk m c 5 t))
      (k0_pay18 (iblk m c 6 t))
      (k0_pay19 (iblk m c 0 t) (mixTile (iblk m c 1 t) (iblk m c 2 t) (k0_pay3 (iblk m c 3 t)) (k0_pay4 (iblk m c 4 t))) (iblk m c 5 t))
      (FloatOps.ofBits FTy.f32 897988541#32) y
    = HF (X1m m c) (m ((c : Thread nD τ).loc main_arg5)) (((cfg0.win 10).blk t).view.emb y) := by
  have h9 : ∀ y, k0_pay17 (iblk m c 0 t) (mixTile (iblk m c 1 t) (iblk m c 2 t) (k0_pay3 (iblk m c 3 t)) (k0_pay4 (iblk m c 4 t))) (iblk m c 5 t) y
    = X1m m c (((cfg0.win 9).blk t).view.emb y) := point9 m c t
  obtain ⟨y0, y1, rfl⟩ : ∃ (y0 : Fin 256) (y1 : Fin 1024), y = ix2 y0 y1 := ⟨y 0, y 1, by funext a; fin_cases a <;> rfl⟩
  unfold k0_pay19
  generalize X1m m c = A at h9 ⊢
  generalize k0_pay17 (iblk m c 0 t) (mixTile (iblk m c 1 t) (iblk m c 2 t) (k0_pay3 (iblk m c 3 t)) (k0_pay4 (iblk m c 4 t))) (iblk m c 5 t) = B at h9 ⊢
  pointwise [k0_pay20, k0_pay18, HF, normed]
  simp only [h9]
  blk_point [iblk, V, idx t]

theorem final10 (c : Dev nD) : (dats m 0 c).arrAt 10 cfg0.N = HF (X1m m c) (m ((c : Thread nD τ).loc main_arg5)) := by
  refine (dats m 0 c).arrAt_eq_of_covers 10 _ (by decide +kernel) fun t _ y => ?_
  blk_simp
  rw [after0_10]; unfold outsAt0; dsimp only; frame_out
  rw [mix_read]
  exact point10 m c t y

/-- The run of the kernel's program: its two results in closed form, its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v18_0) = X1m m c
      ∧ r.2.mem ((c.tc : Thread nD τ).loc main_v18_1) = HF (X1m m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (final9 m c), (h c).2.1.trans (final10 m c), (h c).2.2.2.2⟩) (Value.run_blocks m ρ)

end Cert.LayerOneIdeal.Val

end
-- ==== Proof.LayerOneRefVal.lean ====
module

public import proofs.«01_k».proof.Proof.Gen.LayerOneRefIdeal.Run
public import proofs.«01_k».proof.Proof.Attn
public import Idealize.ShloMosaic.Lib.Pipeline.ValueKit

/-! # The last layer's call: what the reference's two results hold -/

@[expose] public section

set_option maxRecDepth 16384

noncomputable section

open Idealize.ShloMosaic Idealize.ShloMosaic.TcCoe Idealize.SL.Sem
open Idealize.ShloMosaic.Pipeline (Dat)

namespace Cert.LayerOneRefIdeal.Val
open Cert.LayerOneRefIdeal Cert.LayerOneRefIdeal.Gen Cert.LayerOneRefIdeal.Value Cert.Attn

/-- The memory's keys (values) of layer 1 by batch, position, head and lane. -/
def keys (A3 : FVec Ideal S2x8x512x256 .f32) : FVec Ideal S8x256x4x64 .f32 :=
  transpose S8x256x4x64 [0, 3, 1, 2] (shapeCast _ (shapeCast _ (extractStridedSlice S1x8x256x256 ![1, 0, 0, 0] A3 slices_S2x8x512x256_S1x8x256x256_1_0_0_0) shapeCasts_S1x8x256x256_S8x256x256) shapeCasts_S8x256x256_S8x4x64x256) transposes_S8x4x64x256_S8x256x4x64_0_3_1_2

/-- The memory's values of layer 1, the same way. -/
def vals (A3 : FVec Ideal S2x8x512x256 .f32) : FVec Ideal S8x256x4x64 .f32 :=
  transpose S8x256x4x64 [0, 3, 1, 2] (shapeCast _ (shapeCast _ (extractStridedSlice S1x8x256x256 ![1, 0, 256, 0] A3 slices_S2x8x512x256_S1x8x256x256_1_0_256_0) shapeCasts_S1x8x256x256_S8x256x256) shapeCasts_S8x256x256_S8x4x64x256) transposes_S8x4x64x256_S8x256x4x64_0_3_1_2

/-- The scores. -/
def scores (A2 : FVec Ideal S32768x256 .f32) (K : FVec Ideal S8x256x4x64 .f32) : FVec Ideal S8x4x4096x256 .f32 :=
  mulf (Host.dotGeneral dot_S8x4096x4x64_S8x256x4x64_S8x4x4096x256_3_3_1_1_02_02 none (shapeCast _ A2 shapeCasts_S32768x256_S8x4096x4x64) K) (broadcastInDim S8x4x4096x256 ![] bcast_S_S8x4x4096x256 (constant S_ .f32 0x3E000000#32))

theorem keys_apply (A3 : FVec Ideal S2x8x512x256 .f32) (b : Fin 8) (k : Fin 256) (h : Fin 4) (d : Fin 64) :
    keys A3 (ix4 b k h d) = A3 (ix4 (1 : Fin 2) b (⟨h.val * 64 + d.val, by omega⟩ : Fin 512) k) := by
  pointwise [keys]
  blk_ext

theorem vals_apply (A3 : FVec Ideal S2x8x512x256 .f32) (b : Fin 8) (k : Fin 256) (h : Fin 4) (d : Fin 64) :
    vals A3 (ix4 b k h d) = A3 (ix4 (1 : Fin 2) b (⟨256 + (h.val * 64 + d.val), by omega⟩ : Fin 512) k) := by
  pointwise [vals]
  blk_ext

theorem scores_apply (A2 : FVec Ideal S32768x256 .f32) (K : FVec Ideal S8x256x4x64 .f32) (b : Fin 8) (h : Fin 4) (t : Fin 4096) (k : Fin 256) :
    scores A2 K (ix4 b h t k) = (∑ d : Fin 64, A2 (ix2 (⟨b.val * 4096 + t.val, by omega⟩ : Fin 32768) (⟨h.val * 64 + d.val, by omega⟩ : Fin 256)) * K (ix4 b k h d)) * Ideal.ofBits .f32 0x3E000000#32 := by
  pointwise [scores]

/-- The greatest score of a row. -/
def rowMax (S : FVec Ideal S8x4x4096x256 .f32) : FVec Ideal S8x4x4096 .f32 :=
  Host.reduce FloatOps.maximumf S (constant S_ .f32 0xFF800000#32) reducesTo_S8x4x4096x256_S8x4x4096_d3 h_S_

theorem rowMax_apply (S : FVec Ideal S8x4x4096x256 .f32) (b : Fin 8) (h : Fin 4) (t : Fin 4096) :
    rowMax S (ix3 b h t) = top (fun k => S (ix4 b h t k)) := by
  unfold rowMax
  have hr : S8x4x4096x256.Reduces [3] S8x4x4096 := ⟨rfl, by decide, reducesTo_S8x4x4096x256_S8x4x4096_d3.2⟩
  rw [Host.reduce_eq_fold_single FloatOps.maximumf S _ _ hr]
  have hf : (S ∘ hr.lift (ix3 b h t)) = fun k : Fin 256 => S (ix4 b h t k) := by
    funext k
    refine congrArg S ?_
    funext c; apply Fin.ext
    fin_cases c <;> rfl
  exact congrArg (fun f => Finset.fold max (Ideal.ofBits .f32 0xFF800000#32) f (Finset.univ : Finset (Fin 256))) hf

/-- One value of each row, over the row. -/
def spread (M : FVec Ideal S8x4x4096 .f32) : FVec Ideal S8x4x4096x256 .f32 :=
  broadcastInDim S8x4x4096x256 ![0, 1, 2, 3] bcast_S8x4x4096x1_S8x4x4096x256_0_1_2_3 (broadcastInDim S8x4x4096x1 ![0, 1, 2] bcast_S8x4x4096_S8x4x4096x1_0_1_2 M)

theorem spread_apply (M : FVec Ideal S8x4x4096 .f32) (b : Fin 8) (h : Fin 4) (t : Fin 4096) (k : Fin 256) :
    spread M (ix4 b h t k) = M (ix3 b h t) := by
  pointwise [spread]

/-- The greatest score of a row, not below −∞. -/
def rowTop (S : FVec Ideal S8x4x4096x256 .f32) : FVec Ideal S8x4x4096 .f32 :=
  maximumf (broadcastInDim S8x4x4096 ![] bcast_S_S8x4x4096 (constant S_ .f32 0xFF800000#32)) (rowMax S)

theorem maximumf_at (A B : FVec Ideal S8x4x4096 .f32) (i : S8x4x4096.Idx) : maximumf A B i = max (A i) (B i) := rfl

theorem fill_at (z : FVec Ideal S_ .f32) (i : S8x4x4096.Idx) :
    broadcastInDim S8x4x4096 ![] bcast_S_S8x4x4096 z i = z ix0 := by
  pointwise

theorem rowTop_apply (S : FVec Ideal S8x4x4096x256 .f32) (b : Fin 8) (h : Fin 4) (t : Fin 4096) :
    rowTop S (ix3 b h t) = top (fun k => S (ix4 b h t k)) := by
  unfold rowTop
  rw [maximumf_at, rowMax_apply, fill_at, constant_apply]
  refine Eq.trans (congrArg (fun z => max z _) neg_inf) (max_eq_right bot_le)

/-- The softmax's numerators. -/
def nums (S : FVec Ideal S8x4x4096x256 .f32) : FVec Ideal S8x4x4096x256 .f32 :=
  Host.exp (subf S (spread (rowTop S)))

theorem nums_apply (S : FVec Ideal S8x4x4096x256 .f32) (b : Fin 8) (h : Fin 4) (t : Fin 4096) (k : Fin 256) :
    nums S (ix4 b h t k) = Ideal.exp (S (ix4 b h t k) - top (fun k => S (ix4 b h t k))) := by
  have e : nums S (ix4 b h t k) = Ideal.exp (S (ix4 b h t k) - spread (rowTop S) (ix4 b h t k)) := rfl
  rw [e, spread_apply, rowTop_apply]

/-- The attention of the rows. -/
def mixed (V : FVec Ideal S8x256x4x64 .f32) (E : FVec Ideal S8x4x4096x256 .f32) : FVec Ideal S32768x256 .f32 :=
  shapeCast _ (transpose S8x4096x4x64 [0, 3, 1, 2] (Host.dotGeneral dot_S8x256x4x64_S8x4x4096x256_S8x4x64x4096_1_3_3_2_02_01 none V (Host.divf E (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd E (constant S_ .f32 0x00000000#32) reducesTo_S8x4x4096x256_S8x4x4096_d3 h_S_))))) transposes_S8x4x64x4096_S8x4096x4x64_0_3_1_2) shapeCasts_S8x4096x4x64_S32768x256

/-- The rows after the output projection. -/
def projected (A0 : FVec Ideal S32768x1024 .f32) (A1 : FVec Ideal S32768x768 .f32) (O : FVec Ideal S32768x256 .f32) (A4 : FVec Ideal S1x1024x1024 .f32) : FVec Ideal S32768x1024 .f32 :=
  addf A0 (Host.dotGeneral dot_S32768x1024_S1024x1024_S32768x1024_1_0_0_1_n_n none (concatenate S32768x1024 1 [⟨S32768x768, A1⟩, ⟨S32768x256, O⟩] concatenates_S32768x768_S32768x256_S32768x1024_d1) (shapeCast _ A4 shapeCasts_S1x1024x1024_S1024x1024))

theorem mixed_apply (V : FVec Ideal S8x256x4x64 .f32) (E : FVec Ideal S8x4x4096x256 .f32) (r : Fin 32768) (l : Fin 256) :
    mixed V E (ix2 r l) = ∑ k : Fin 256,
      V (ix4 (⟨r.val / 4096, by omega⟩ : Fin 8) k (⟨l.val / 64, by omega⟩ : Fin 4) (⟨l.val % 64, by omega⟩ : Fin 64)) *
        Ideal.div (E (ix4 (⟨r.val / 4096, by omega⟩ : Fin 8) (⟨l.val / 64, by omega⟩ : Fin 4) (⟨r.val % 4096, by omega⟩ : Fin 4096) k))
          (∑ k' : Fin 256, E (ix4 (⟨r.val / 4096, by omega⟩ : Fin 8) (⟨l.val / 64, by omega⟩ : Fin 4) (⟨r.val % 4096, by omega⟩ : Fin 4096) k')) := by
  pointwise [mixed]

/-- The projection's sum over 1024 lanes, from the parts over the context's 768 and the attention's 256. -/
theorem projected_apply (A0 : FVec Ideal S32768x1024 .f32) (A1 : FVec Ideal S32768x768 .f32) (O : FVec Ideal S32768x256 .f32) (A4 : FVec Ideal S1x1024x1024 .f32) (r : Fin 32768) (l : Fin 1024) :
    projected A0 A1 O A4 (ix2 r l) = A0 (ix2 r l) +
      ∑ k : Fin 1024, (if h : k.val < 768 then A1 (ix2 r ⟨k.val, h⟩) else O (ix2 r ⟨k.val - 768, by omega⟩)) * A4 (ix3 0 k l) := by
  pointwise [projected]

theorem scores_eq (A2 : FVec Ideal S32768x256 .f32) (A3 : FVec Ideal S2x8x512x256 .f32) (r : Fin 32768) (h : Fin 4) (k : Fin 256) :
    scores A2 (keys A3) (ix4 (⟨r.val / 4096, by omega⟩ : Fin 8) h (⟨r.val % 4096, by omega⟩ : Fin 4096) k) =
      score (fun d => A2 (ix2 r d)) (fun d k => A3 (ix4 (1 : Fin 2) (⟨r.val / 4096, by omega⟩ : Fin 8) (⟨d.val, by omega⟩ : Fin 512) k)) h.val k := by
  rw [scores_apply]
  unfold score
  rw [sum_head]
  simp only [keys_apply]
  congr 1
  refine Finset.sum_congr rfl fun d _ => ?_
  congr 3
  apply Fin.ext
  show r.val / 4096 * 4096 + r.val % 4096 = r.val
  omega

/-- The reference's attention is the kernel's, its queries and keys being real. -/
theorem mixed_eq (A2 : FVec Ideal S32768x256 .f32) (A3 : FVec Ideal S2x8x512x256 .f32)
    (hq : ∀ i, ∃ x : ℝ, A2 i = x)
    (hK : ∀ (b : Fin 8) (d k : Fin 256), ∃ x : ℝ, A3 (ix4 (1 : Fin 2) b (⟨d.val, by omega⟩ : Fin 512) k) = x)
    (r : Fin 32768) (l : Fin 256) :
    mixed (vals A3) (nums (scores A2 (keys A3))) (ix2 r l) =
      attn (fun d => A2 (ix2 r d)) (fun d k => A3 (ix4 (1 : Fin 2) (⟨r.val / 4096, by omega⟩ : Fin 8) (⟨d.val, by omega⟩ : Fin 512) k))
        (fun j k => A3 (ix4 (1 : Fin 2) (⟨r.val / 4096, by omega⟩ : Fin 8) (⟨256 + j.val, by omega⟩ : Fin 512) k)) l := by
  rw [mixed_apply]
  simp only [nums_apply, scores_eq, vals_apply]
  unfold attn head
  rw [div_sum _ _ fun k => score_real _ _ _ (fun d => hq _) (fun d k => hK _ d k) k]
  refine Finset.sum_congr rfl fun k _ => ?_
  congr 2
  congr 1
  apply Fin.ext
  show 256 + (l.val / 64 * 64 + l.val % 64) = 256 + l.val
  omega

/-- The normalised rows, scaled. -/
def scaled (X : FVec Ideal S32768x1024 .f32) (A5 : FVec Ideal S2x1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![1, 0] A5 slices_S2x1024_S1x1024_1_0) shapeCasts_S1x1024_S1024)))

theorem scaled_apply (X : FVec Ideal S32768x1024 .f32) (A5 : FVec Ideal S2x1024 .f32) (r : Fin 32768) (l : Fin 1024) :
    scaled X A5 (ix2 r l) = normed (fun k => X (ix2 r k)) l * A5 (ix2 1 l) := by
  pointwise [scaled]
  rfl

theorem out0_eq (m : (ℓ : Loc nD τ sig) → Buf (Elt Ideal) ℓ) (c : Dev nD) : res_main_v29 m c =
    projected (m ((c.tc : Thread nD τ).loc main_arg0)) (m ((c.tc : Thread nD τ).loc main_arg1))
      (mixed (vals (m ((c.tc : Thread nD τ).loc main_arg3))) (nums (scores (m ((c.tc : Thread nD τ).loc main_arg2)) (keys (m ((c.tc : Thread nD τ).loc main_arg3))))))
      (m ((c.tc : Thread nD τ).loc main_arg4)) := rfl

theorem out1_eq (m : (ℓ : Loc nD τ sig) → Buf (Elt Ideal) ℓ) (c : Dev nD) : res_main_v44 m c =
    scaled (res_main_v29 m c) (m ((c.tc : Thread nD τ).loc main_arg5)) := rfl

end Cert.LayerOneRefIdeal.Val

end
-- ==== Proof.LayerOneEq.lean ====
module

public import proofs.«01_k».proof.Defs
public import proofs.«01_k».proof.Proof.LayerOneVal
public import proofs.«01_k».proof.Proof.LayerOneRefVal
public import Idealize.ShloMosaic.Lib.ReduceAll

/-! # The last layer's call: the precondition read, and the two closed forms met -/

@[expose] public section

set_option maxRecDepth 16384

noncomputable section

open Idealize.ShloMosaic Idealize.ShloMosaic.TcCoe Idealize.SL.Sem

namespace Cert.LayerOneEq

/-- The side conditions of the precondition's operations. -/
instance facts : Cert.Pre_finite_qm.Facts where
  bcast_S_S32768x256 := by decide
  reducesTo_S32768x256_S_d0_1 := by decide
  h_S_ := by decide
  slices_S2x8x512x256_S1x8x256x256_1_0_0_0 := by decide
  shapeCasts_S1x8x256x256_S8x256x256 := by decide
  bcast_S_S8x256x256 := by decide
  reducesTo_S8x256x256_S_d0_1_2 := by decide

open Cert.Pre_finite_qm Cert.Pre_finite_qm.Facts

/-- A number whose absolute value is below +∞ is real. -/
theorem real_of_lt (x : EReal) (h : max x (-x) < ⊤) : ∃ r : ℝ, x = r := by
  induction x with
  | bot => simp at h
  | top => simp at h
  | coe r => exact ⟨r, rfl⟩

theorem pos_inf : Ideal.ofBits .f32 0x7F800000#32 = (⊤ : EReal) := by
  simp [Ideal.ofBits, Ideal.ieee]

theorem real_of_cmp (x y : EReal) (hy : y = ⊤) (h : FloatOps.cmpf (F := Ideal) (φ := .f32) .olt (FloatOps.absf (F := Ideal) (φ := .f32) x) y = 1#1) : ∃ r : ℝ, x = r := by
  subst hy
  refine real_of_lt x ?_
  have h' : BitVec.ofBool (decide (max x (-x) < (⊤ : EReal))) = 1#1 := h
  by_contra hn
  rw [decide_eq_false hn] at h'
  exact absurd h' (by decide)

theorem real_at {s : Shape} (X : FVec Ideal s .f32) (hb : S_.BroadcastsInDim s (![] : Fin 0 → Fin s.rank)) (i : s.Idx)
    (e : cmpf .olt (Host.absf X) (broadcastInDim s ![] hb (constant S_ .f32 0x7F800000#32)) i = 1#1) : ∃ r : ℝ, X i = r :=
  real_of_cmp (X i) _ pos_inf e

theorem and_one (a b : BitVec 1) (h : IntOp.andi a b = 1#1) : a = 1#1 ∧ b = 1#1 := by
  revert a b; decide

/-- The precondition, read: the queries and layer 1's keys are real. -/
theorem real_of_pre (A0 : FVec Ideal S32768x1024 .f32) (A1 : FVec Ideal S32768x768 .f32) (A2 : FVec Ideal S32768x256 .f32) (A3 : FVec Ideal S2x8x512x256 .f32)
    (A4 : FVec Ideal S1x1024x1024 .f32) (A5 : FVec Ideal S2x1024 .f32) (A6 : FVec Ideal S2x1024x4 .f32) (A7 : FVec Ideal S2x4 .f32)
    (A8 : FVec Ideal S2x1024x64 .f32) (A9 : FVec Ideal S2x64 .f32)
    (h : fn (F := Ideal) A0 A1 A2 A3 A4 A5 A6 A7 A8 A9 = fun _ => 1#1) :
    (∀ i, ∃ x : ℝ, A2 i = x) ∧
      ∀ (b : Fin 8) (d k : Fin 256), ∃ x : ℝ, A3 (ix4 (1 : Fin 2) b (⟨d.val, by omega⟩ : Fin 512) k) = x := by
  have h0 := congrFun h ix0
  unfold fn at h0
  obtain ⟨hq, hk⟩ := and_one _ _ h0
  haveI : Subsingleton S_.Idx := ⟨fun a b => funext fun x => x.elim0⟩
  refine ⟨fun i => real_at _ _ _ (Host.reduce_andi_all _ _ _ _ _ hq i), fun b d k => ?_⟩
  have e := Host.reduce_andi_all _ _ _ _ _ hk (ix3 b d k)
  obtain ⟨x, hx⟩ := real_at _ _ _ e
  refine ⟨x, Eq.trans ?_ hx⟩
  pointwise
  blk_ext

open Cert.LayerOneRefIdeal.Val Cert.LayerOneIdeal.Val

theorem eq0 (A0 : FVec Ideal S32768x1024 .f32) (A1 : FVec Ideal S32768x768 .f32) (A2 : FVec Ideal S32768x256 .f32) (A3 : FVec Ideal S2x8x512x256 .f32)
    (A4 : FVec Ideal S1x1024x1024 .f32)
    (hq : ∀ i, ∃ x : ℝ, A2 i = x)
    (hK : ∀ (b : Fin 8) (d k : Fin 256), ∃ x : ℝ, A3 (ix4 (1 : Fin 2) b (⟨d.val, by omega⟩ : Fin 512) k) = x) :
    projected A0 A1 (mixed (vals A3) (nums (scores A2 (keys A3)))) A4 = X1 A0 A1 A2 A3 A4 := by
  funext i
  obtain ⟨r, l, rfl⟩ : ∃ (r : Fin 32768) (l : Fin 1024), i = ix2 r l := ⟨i 0, i 1, by funext a; fin_cases a <;> rfl⟩
  rw [projected_apply]
  simp only [mixed_eq A2 A3 hq hK]
  rfl

theorem eq1 (X : FVec Ideal S32768x1024 .f32) (A5 : FVec Ideal S2x1024 .f32) : scaled X A5 = HF X A5 := by
  funext i
  obtain ⟨r, l, rfl⟩ : ∃ (r : Fin 32768) (l : Fin 1024), i = ix2 r l := ⟨i 0, i 1, by funext a; fin_cases a <;> rfl⟩
  rw [scaled_apply]
  rfl

end Cert.LayerOneEq

end
-- ==== Proof.LayerZeroConv.lean ====
module

public import proofs.«01_k».proof.Proof.Gen.LayerZeroIdeal.Loops
public import proofs.«01_k».proof.Proof.Attn
public import Idealize.ShloMosaic.Lib.Ring
public import Idealize.ShloMosaic.Lib.Pipeline.CanonAppend

/-! # The first layer's convolution: what the loop over row groups stores -/

@[expose] public section

set_option maxRecDepth 8192

noncomputable section

namespace Cert.LayerZeroIdeal.Conv

open Idealize.ShloMosaic Idealize.ShloMosaic.TcCoe
open Cert.LayerZeroIdeal Cert.LayerZeroIdeal.Gen

/-- The convolution at row `R` of a tile and channel `c`: `Z` holds the gated rows with 32 rows of the past before them, tap `w`
    meets the row `30 - w` before `R`. -/
def conv (Z W : ℕ → ℕ → EReal) (B : ℕ → EReal) (R c : ℕ) : EReal :=
  B c + ∑ w ∈ Finset.range 31, Z (R + w + 2) c * W w c

/-- A load of one row group out of the shifted copies. -/
theorem read_shift {M : Memref sig .tc .vmem S7x280x768 .f32} {X : BufTy.Contents (Elt Ideal) M.view.ty} {Z : ℕ → ℕ → EReal}
    (hX : ∀ (s : Fin 7) (i : Fin 280) (j : Fin 768), M.view.read (Elt Ideal) X (ix3 s i j) = Z (s.val + 1 + i.val) j.val)
    {off : Fin 3 → ℕ} {s a b : ℕ} (h : off = ![s, a, b]) (inb : ∀ x, off x + (![1, 32, 128] : Fin 3 → ℕ) x ≤ S7x280x768.size x)
    (r : Fin 32) (l : Fin 128) :
    M.view.readAt (Elt Ideal) (Rect.unit (s := S7x280x768) off ![1, 32, 128] inb).toLoadRect X (ix3 0 r l) = Z (s + 1 + (a + r.val)) (b + l.val) := by
  subst h
  have h0 : s + 1 ≤ 7 := inb 0
  have h1 : a + 32 ≤ 280 := inb 1
  have h2 : b + 128 ≤ 768 := inb 2
  refine Eq.trans (congrArg (M.view.read (Elt Ideal) X) ?_)
    (hX ⟨s, by omega⟩ ⟨a + r.val, by omega⟩ ⟨b + l.val, by omega⟩)
  funext x
  refine Fin.ext ?_
  fin_cases x
  · show s + 1 * 0 = s
    omega
  · show a + 1 * r.val = a + r.val
    omega
  · show b + 1 * l.val = b + l.val
    omega

/-- A load of one row group out of the rows themselves. -/
theorem read_rows {M : Memref sig .tc .vmem S288x768 .f32} {X : BufTy.Contents (Elt Ideal) M.view.ty} {Z : ℕ → ℕ → EReal}
    (hX : ∀ (i : Fin 288) (j : Fin 768), M.view.read (Elt Ideal) X (ix2 i j) = Z i.val j.val)
    {off : Fin 2 → ℕ} {a b : ℕ} (h : off = ![a, b]) (inb : ∀ x, off x + (![32, 128] : Fin 2 → ℕ) x ≤ S288x768.size x)
    (r : Fin 32) (l : Fin 128) :
    M.view.readAt (Elt Ideal) (Rect.unit (s := S288x768) off ![32, 128] inb).toLoadRect X (ix2 r l) = Z (a + r.val) (b + l.val) := by
  subst h
  have h1 : a + 32 ≤ 288 := inb 0
  have h2 : b + 128 ≤ 768 := inb 1
  refine Eq.trans (congrArg (M.view.read (Elt Ideal) X) ?_) (hX ⟨a + r.val, by omega⟩ ⟨b + l.val, by omega⟩)
  funext x
  refine Fin.ext ?_
  fin_cases x
  · show a + 1 * r.val = a + r.val
    omega
  · show b + 1 * l.val = b + l.val
    omega

/-- A load of one tap's weights. -/
theorem read_tap {M : Memref sig .tc .vmem S31x768 .f32} {X : BufTy.Contents (Elt Ideal) M.view.ty} {W : ℕ → ℕ → EReal}
    (hX : ∀ (i : Fin 31) (j : Fin 768), M.view.read (Elt Ideal) X (ix2 i j) = W i.val j.val)
    {a b : ℕ} (inb : ∀ x, (![a, b] : Fin 2 → ℕ) x + (![1, 128] : Fin 2 → ℕ) x ≤ S31x768.size x) (l : Fin 128) :
    M.view.readAt (Elt Ideal) (Rect.unit (s := S31x768) ![a, b] ![1, 128] inb).toLoadRect X (ix2 0 l) = W a (b + l.val) := by
  have h1 : a + 1 ≤ 31 := inb 0
  have h2 : b + 128 ≤ 768 := inb 1
  refine Eq.trans (congrArg (M.view.read (Elt Ideal) X) ?_) (hX ⟨a, by omega⟩ ⟨b + l.val, by omega⟩)
  funext x
  refine Fin.ext ?_
  fin_cases x
  · show a + 1 * 0 = a
    omega
  · show b + 1 * l.val = b + l.val
    omega

/-- A load of the bias. -/
theorem read_bias {M : Memref sig .tc .vmem S1x768 .f32} {X : BufTy.Contents (Elt Ideal) M.view.ty} {B : ℕ → EReal}
    (hX : ∀ (j : Fin 768), M.view.read (Elt Ideal) X (ix2 0 j) = B j.val)
    {b : ℕ} (inb : ∀ x, (![0, b] : Fin 2 → ℕ) x + (![1, 128] : Fin 2 → ℕ) x ≤ S1x768.size x) (l : Fin 128) :
    M.view.readAt (Elt Ideal) (Rect.unit (s := S1x768) ![0, b] ![1, 128] inb).toLoadRect X (ix2 0 l) = B (b + l.val) := by
  have h2 : b + 128 ≤ 768 := inb 1
  refine Eq.trans (congrArg (M.view.read (Elt Ideal) X) ?_) (hX ⟨b + l.val, by omega⟩)
  funext x
  refine Fin.ext ?_
  fin_cases x
  · rfl
  · show b + 1 * l.val = b + l.val
    omega

theorem off1 : ∀ k : Fin k0_t1_loop.trips, k0_off1 k 0#32 = ![1, 32 * k.val + 0, 0] ∧ k0_off1 k 8#32 = ![1, 32 * k.val + 8, 0] ∧ k0_off1 k 16#32 = ![1, 32 * k.val + 16, 0] ∧ k0_off1 k 24#32 = ![1, 32 * k.val + 24, 0] := by decide +kernel
theorem off2 : ∀ k : Fin k0_t1_loop.trips, k0_off2 k 0#32 = ![2, 32 * k.val + 0, 0] ∧ k0_off2 k 8#32 = ![2, 32 * k.val + 8, 0] ∧ k0_off2 k 16#32 = ![2, 32 * k.val + 16, 0] ∧ k0_off2 k 24#32 = ![2, 32 * k.val + 24, 0] := by decide +kernel
theorem off3 : ∀ k : Fin k0_t1_loop.trips, k0_off3 k 0#32 = ![3, 32 * k.val + 0, 0] ∧ k0_off3 k 8#32 = ![3, 32 * k.val + 8, 0] ∧ k0_off3 k 16#32 = ![3, 32 * k.val + 16, 0] ∧ k0_off3 k 24#32 = ![3, 32 * k.val + 24, 0] := by decide +kernel
theorem off4 : ∀ k : Fin k0_t1_loop.trips, k0_off4 k 0#32 = ![4, 32 * k.val + 0, 0] ∧ k0_off4 k 8#32 = ![4, 32 * k.val + 8, 0] ∧ k0_off4 k 16#32 = ![4, 32 * k.val + 16, 0] ∧ k0_off4 k 24#32 = ![4, 32 * k.val + 24, 0] := by decide +kernel
theorem off5 : ∀ k : Fin k0_t1_loop.trips, k0_off5 k 0#32 = ![5, 32 * k.val + 0, 0] ∧ k0_off5 k 8#32 = ![5, 32 * k.val + 8, 0] ∧ k0_off5 k 16#32 = ![5, 32 * k.val + 16, 0] ∧ k0_off5 k 24#32 = ![5, 32 * k.val + 24, 0] := by decide +kernel
theorem off6 : ∀ k : Fin k0_t1_loop.trips, k0_off6 k 0#32 = ![6, 32 * k.val + 0, 0] ∧ k0_off6 k 8#32 = ![6, 32 * k.val + 8, 0] ∧ k0_off6 k 16#32 = ![6, 32 * k.val + 16, 0] ∧ k0_off6 k 24#32 = ![6, 32 * k.val + 24, 0] := by decide +kernel
theorem off7 : ∀ k : Fin k0_t1_loop.trips, k0_off7 k 8#32 = ![32 * k.val + 8, 0] ∧ k0_off7 k 16#32 = ![32 * k.val + 16, 0] ∧ k0_off7 k 24#32 = ![32 * k.val + 24, 0] ∧ k0_off7 k 32#32 = ![32 * k.val + 32, 0] := by decide +kernel
theorem off8 : ∀ k : Fin k0_t1_loop.trips, k0_off8 k 8#32 = ![0, 32 * k.val + 8, 0] ∧ k0_off8 k 16#32 = ![0, 32 * k.val + 16, 0] ∧ k0_off8 k 24#32 = ![0, 32 * k.val + 24, 0] := by decide +kernel
theorem off9 : ∀ k : Fin k0_t1_loop.trips, k0_off9 k = ![32 * k.val, 0] := by decide +kernel
theorem off10 : ∀ k : Fin k0_t1_loop.trips, k0_off10 k 0#32 = ![1, 32 * k.val + 0, 128] ∧ k0_off10 k 8#32 = ![1, 32 * k.val + 8, 128] ∧ k0_off10 k 16#32 = ![1, 32 * k.val + 16, 128] ∧ k0_off10 k 24#32 = ![1, 32 * k.val + 24, 128] := by decide +kernel
theorem off11 : ∀ k : Fin k0_t1_loop.trips, k0_off11 k 0#32 = ![2, 32 * k.val + 0, 128] ∧ k0_off11 k 8#32 = ![2, 32 * k.val + 8, 128] ∧ k0_off11 k 16#32 = ![2, 32 * k.val + 16, 128] ∧ k0_off11 k 24#32 = ![2, 32 * k.val + 24, 128] := by decide +kernel
theorem off12 : ∀ k : Fin k0_t1_loop.trips, k0_off12 k 0#32 = ![3, 32 * k.val + 0, 128] ∧ k0_off12 k 8#32 = ![3, 32 * k.val + 8, 128] ∧ k0_off12 k 16#32 = ![3, 32 * k.val + 16, 128] ∧ k0_off12 k 24#32 = ![3, 32 * k.val + 24, 128] := by decide +kernel
theorem off13 : ∀ k : Fin k0_t1_loop.trips, k0_off13 k 0#32 = ![4, 32 * k.val + 0, 128] ∧ k0_off13 k 8#32 = ![4, 32 * k.val + 8, 128] ∧ k0_off13 k 16#32 = ![4, 32 * k.val + 16, 128] ∧ k0_off13 k 24#32 = ![4, 32 * k.val + 24, 128] := by decide +kernel
theorem off14 : ∀ k : Fin k0_t1_loop.trips, k0_off14 k 0#32 = ![5, 32 * k.val + 0, 128] ∧ k0_off14 k 8#32 = ![5, 32 * k.val + 8, 128] ∧ k0_off14 k 16#32 = ![5, 32 * k.val + 16, 128] ∧ k0_off14 k 24#32 = ![5, 32 * k.val + 24, 128] := by decide +kernel
theorem off15 : ∀ k : Fin k0_t1_loop.trips, k0_off15 k 0#32 = ![6, 32 * k.val + 0, 128] ∧ k0_off15 k 8#32 = ![6, 32 * k.val + 8, 128] ∧ k0_off15 k 16#32 = ![6, 32 * k.val + 16, 128] ∧ k0_off15 k 24#32 = ![6, 32 * k.val + 24, 128] := by decide +kernel
theorem off16 : ∀ k : Fin k0_t1_loop.trips, k0_off16 k 8#32 = ![32 * k.val + 8, 128] ∧ k0_off16 k 16#32 = ![32 * k.val + 16, 128] ∧ k0_off16 k 24#32 = ![32 * k.val + 24, 128] ∧ k0_off16 k 32#32 = ![32 * k.val + 32, 128] := by decide +kernel
theorem off17 : ∀ k : Fin k0_t1_loop.trips, k0_off17 k 8#32 = ![0, 32 * k.val + 8, 128] ∧ k0_off17 k 16#32 = ![0, 32 * k.val + 16, 128] ∧ k0_off17 k 24#32 = ![0, 32 * k.val + 24, 128] := by decide +kernel
theorem off18 : ∀ k : Fin k0_t1_loop.trips, k0_off18 k = ![32 * k.val, 128] := by decide +kernel
theorem off19 : ∀ k : Fin k0_t1_loop.trips, k0_off19 k 0#32 = ![1, 32 * k.val + 0, 256] ∧ k0_off19 k 8#32 = ![1, 32 * k.val + 8, 256] ∧ k0_off19 k 16#32 = ![1, 32 * k.val + 16, 256] ∧ k0_off19 k 24#32 = ![1, 32 * k.val + 24, 256] := by decide +kernel
theorem off20 : ∀ k : Fin k0_t1_loop.trips, k0_off20 k 0#32 = ![2, 32 * k.val + 0, 256] ∧ k0_off20 k 8#32 = ![2, 32 * k.val + 8, 256] ∧ k0_off20 k 16#32 = ![2, 32 * k.val + 16, 256] ∧ k0_off20 k 24#32 = ![2, 32 * k.val + 24, 256] := by decide +kernel
theorem off21 : ∀ k : Fin k0_t1_loop.trips, k0_off21 k 0#32 = ![3, 32 * k.val + 0, 256] ∧ k0_off21 k 8#32 = ![3, 32 * k.val + 8, 256] ∧ k0_off21 k 16#32 = ![3, 32 * k.val + 16, 256] ∧ k0_off21 k 24#32 = ![3, 32 * k.val + 24, 256] := by decide +kernel
theorem off22 : ∀ k : Fin k0_t1_loop.trips, k0_off22 k 0#32 = ![4, 32 * k.val + 0, 256] ∧ k0_off22 k 8#32 = ![4, 32 * k.val + 8, 256] ∧ k0_off22 k 16#32 = ![4, 32 * k.val + 16, 256] ∧ k0_off22 k 24#32 = ![4, 32 * k.val + 24, 256] := by decide +kernel
theorem off23 : ∀ k : Fin k0_t1_loop.trips, k0_off23 k 0#32 = ![5, 32 * k.val + 0, 256] ∧ k0_off23 k 8#32 = ![5, 32 * k.val + 8, 256] ∧ k0_off23 k 16#32 = ![5, 32 * k.val + 16, 256] ∧ k0_off23 k 24#32 = ![5, 32 * k.val + 24, 256] := by decide +kernel
theorem off24 : ∀ k : Fin k0_t1_loop.trips, k0_off24 k 0#32 = ![6, 32 * k.val + 0, 256] ∧ k0_off24 k 8#32 = ![6, 32 * k.val + 8, 256] ∧ k0_off24 k 16#32 = ![6, 32 * k.val + 16, 256] ∧ k0_off24 k 24#32 = ![6, 32 * k.val + 24, 256] := by decide +kernel
theorem off25 : ∀ k : Fin k0_t1_loop.trips, k0_off25 k 8#32 = ![32 * k.val + 8, 256] ∧ k0_off25 k 16#32 = ![32 * k.val + 16, 256] ∧ k0_off25 k 24#32 = ![32 * k.val + 24, 256] ∧ k0_off25 k 32#32 = ![32 * k.val + 32, 256] := by decide +kernel
theorem off26 : ∀ k : Fin k0_t1_loop.trips, k0_off26 k 8#32 = ![0, 32 * k.val + 8, 256] ∧ k0_off26 k 16#32 = ![0, 32 * k.val + 16, 256] ∧ k0_off26 k 24#32 = ![0, 32 * k.val + 24, 256] := by decide +kernel
theorem off27 : ∀ k : Fin k0_t1_loop.trips, k0_off27 k = ![32 * k.val, 256] := by decide +kernel
theorem off28 : ∀ k : Fin k0_t1_loop.trips, k0_off28 k 0#32 = ![1, 32 * k.val + 0, 384] ∧ k0_off28 k 8#32 = ![1, 32 * k.val + 8, 384] ∧ k0_off28 k 16#32 = ![1, 32 * k.val + 16, 384] ∧ k0_off28 k 24#32 = ![1, 32 * k.val + 24, 384] := by decide +kernel
theorem off29 : ∀ k : Fin k0_t1_loop.trips, k0_off29 k 0#32 = ![2, 32 * k.val + 0, 384] ∧ k0_off29 k 8#32 = ![2, 32 * k.val + 8, 384] ∧ k0_off29 k 16#32 = ![2, 32 * k.val + 16, 384] ∧ k0_off29 k 24#32 = ![2, 32 * k.val + 24, 384] := by decide +kernel
theorem off30 : ∀ k : Fin k0_t1_loop.trips, k0_off30 k 0#32 = ![3, 32 * k.val + 0, 384] ∧ k0_off30 k 8#32 = ![3, 32 * k.val + 8, 384] ∧ k0_off30 k 16#32 = ![3, 32 * k.val + 16, 384] ∧ k0_off30 k 24#32 = ![3, 32 * k.val + 24, 384] := by decide +kernel
theorem off31 : ∀ k : Fin k0_t1_loop.trips, k0_off31 k 0#32 = ![4, 32 * k.val + 0, 384] ∧ k0_off31 k 8#32 = ![4, 32 * k.val + 8, 384] ∧ k0_off31 k 16#32 = ![4, 32 * k.val + 16, 384] ∧ k0_off31 k 24#32 = ![4, 32 * k.val + 24, 384] := by decide +kernel
theorem off32 : ∀ k : Fin k0_t1_loop.trips, k0_off32 k 0#32 = ![5, 32 * k.val + 0, 384] ∧ k0_off32 k 8#32 = ![5, 32 * k.val + 8, 384] ∧ k0_off32 k 16#32 = ![5, 32 * k.val + 16, 384] ∧ k0_off32 k 24#32 = ![5, 32 * k.val + 24, 384] := by decide +kernel
theorem off33 : ∀ k : Fin k0_t1_loop.trips, k0_off33 k 0#32 = ![6, 32 * k.val + 0, 384] ∧ k0_off33 k 8#32 = ![6, 32 * k.val + 8, 384] ∧ k0_off33 k 16#32 = ![6, 32 * k.val + 16, 384] ∧ k0_off33 k 24#32 = ![6, 32 * k.val + 24, 384] := by decide +kernel
theorem off34 : ∀ k : Fin k0_t1_loop.trips, k0_off34 k 8#32 = ![32 * k.val + 8, 384] ∧ k0_off34 k 16#32 = ![32 * k.val + 16, 384] ∧ k0_off34 k 24#32 = ![32 * k.val + 24, 384] ∧ k0_off34 k 32#32 = ![32 * k.val + 32, 384] := by decide +kernel
theorem off35 : ∀ k : Fin k0_t1_loop.trips, k0_off35 k 8#32 = ![0, 32 * k.val + 8, 384] ∧ k0_off35 k 16#32 = ![0, 32 * k.val + 16, 384] ∧ k0_off35 k 24#32 = ![0, 32 * k.val + 24, 384] := by decide +kernel
theorem off36 : ∀ k : Fin k0_t1_loop.trips, k0_off36 k = ![32 * k.val, 384] := by decide +kernel
theorem off37 : ∀ k : Fin k0_t1_loop.trips, k0_off37 k 0#32 = ![1, 32 * k.val + 0, 512] ∧ k0_off37 k 8#32 = ![1, 32 * k.val + 8, 512] ∧ k0_off37 k 16#32 = ![1, 32 * k.val + 16, 512] ∧ k0_off37 k 24#32 = ![1, 32 * k.val + 24, 512] := by decide +kernel
theorem off38 : ∀ k : Fin k0_t1_loop.trips, k0_off38 k 0#32 = ![2, 32 * k.val + 0, 512] ∧ k0_off38 k 8#32 = ![2, 32 * k.val + 8, 512] ∧ k0_off38 k 16#32 = ![2, 32 * k.val + 16, 512] ∧ k0_off38 k 24#32 = ![2, 32 * k.val + 24, 512] := by decide +kernel
theorem off39 : ∀ k : Fin k0_t1_loop.trips, k0_off39 k 0#32 = ![3, 32 * k.val + 0, 512] ∧ k0_off39 k 8#32 = ![3, 32 * k.val + 8, 512] ∧ k0_off39 k 16#32 = ![3, 32 * k.val + 16, 512] ∧ k0_off39 k 24#32 = ![3, 32 * k.val + 24, 512] := by decide +kernel
theorem off40 : ∀ k : Fin k0_t1_loop.trips, k0_off40 k 0#32 = ![4, 32 * k.val + 0, 512] ∧ k0_off40 k 8#32 = ![4, 32 * k.val + 8, 512] ∧ k0_off40 k 16#32 = ![4, 32 * k.val + 16, 512] ∧ k0_off40 k 24#32 = ![4, 32 * k.val + 24, 512] := by decide +kernel
theorem off41 : ∀ k : Fin k0_t1_loop.trips, k0_off41 k 0#32 = ![5, 32 * k.val + 0, 512] ∧ k0_off41 k 8#32 = ![5, 32 * k.val + 8, 512] ∧ k0_off41 k 16#32 = ![5, 32 * k.val + 16, 512] ∧ k0_off41 k 24#32 = ![5, 32 * k.val + 24, 512] := by decide +kernel
theorem off42 : ∀ k : Fin k0_t1_loop.trips, k0_off42 k 0#32 = ![6, 32 * k.val + 0, 512] ∧ k0_off42 k 8#32 = ![6, 32 * k.val + 8, 512] ∧ k0_off42 k 16#32 = ![6, 32 * k.val + 16, 512] ∧ k0_off42 k 24#32 = ![6, 32 * k.val + 24, 512] := by decide +kernel
theorem off43 : ∀ k : Fin k0_t1_loop.trips, k0_off43 k 8#32 = ![32 * k.val + 8, 512] ∧ k0_off43 k 16#32 = ![32 * k.val + 16, 512] ∧ k0_off43 k 24#32 = ![32 * k.val + 24, 512] ∧ k0_off43 k 32#32 = ![32 * k.val + 32, 512] := by decide +kernel
theorem off44 : ∀ k : Fin k0_t1_loop.trips, k0_off44 k 8#32 = ![0, 32 * k.val + 8, 512] ∧ k0_off44 k 16#32 = ![0, 32 * k.val + 16, 512] ∧ k0_off44 k 24#32 = ![0, 32 * k.val + 24, 512] := by decide +kernel
theorem off45 : ∀ k : Fin k0_t1_loop.trips, k0_off45 k = ![32 * k.val, 512] := by decide +kernel
theorem off46 : ∀ k : Fin k0_t1_loop.trips, k0_off46 k 0#32 = ![1, 32 * k.val + 0, 640] ∧ k0_off46 k 8#32 = ![1, 32 * k.val + 8, 640] ∧ k0_off46 k 16#32 = ![1, 32 * k.val + 16, 640] ∧ k0_off46 k 24#32 = ![1, 32 * k.val + 24, 640] := by decide +kernel
theorem off47 : ∀ k : Fin k0_t1_loop.trips, k0_off47 k 0#32 = ![2, 32 * k.val + 0, 640] ∧ k0_off47 k 8#32 = ![2, 32 * k.val + 8, 640] ∧ k0_off47 k 16#32 = ![2, 32 * k.val + 16, 640] ∧ k0_off47 k 24#32 = ![2, 32 * k.val + 24, 640] := by decide +kernel
theorem off48 : ∀ k : Fin k0_t1_loop.trips, k0_off48 k 0#32 = ![3, 32 * k.val + 0, 640] ∧ k0_off48 k 8#32 = ![3, 32 * k.val + 8, 640] ∧ k0_off48 k 16#32 = ![3, 32 * k.val + 16, 640] ∧ k0_off48 k 24#32 = ![3, 32 * k.val + 24, 640] := by decide +kernel
theorem off49 : ∀ k : Fin k0_t1_loop.trips, k0_off49 k 0#32 = ![4, 32 * k.val + 0, 640] ∧ k0_off49 k 8#32 = ![4, 32 * k.val + 8, 640] ∧ k0_off49 k 16#32 = ![4, 32 * k.val + 16, 640] ∧ k0_off49 k 24#32 = ![4, 32 * k.val + 24, 640] := by decide +kernel
theorem off50 : ∀ k : Fin k0_t1_loop.trips, k0_off50 k 0#32 = ![5, 32 * k.val + 0, 640] ∧ k0_off50 k 8#32 = ![5, 32 * k.val + 8, 640] ∧ k0_off50 k 16#32 = ![5, 32 * k.val + 16, 640] ∧ k0_off50 k 24#32 = ![5, 32 * k.val + 24, 640] := by decide +kernel
theorem off51 : ∀ k : Fin k0_t1_loop.trips, k0_off51 k 0#32 = ![6, 32 * k.val + 0, 640] ∧ k0_off51 k 8#32 = ![6, 32 * k.val + 8, 640] ∧ k0_off51 k 16#32 = ![6, 32 * k.val + 16, 640] ∧ k0_off51 k 24#32 = ![6, 32 * k.val + 24, 640] := by decide +kernel
theorem off52 : ∀ k : Fin k0_t1_loop.trips, k0_off52 k 8#32 = ![32 * k.val + 8, 640] ∧ k0_off52 k 16#32 = ![32 * k.val + 16, 640] ∧ k0_off52 k 24#32 = ![32 * k.val + 24, 640] ∧ k0_off52 k 32#32 = ![32 * k.val + 32, 640] := by decide +kernel
theorem off53 : ∀ k : Fin k0_t1_loop.trips, k0_off53 k 8#32 = ![0, 32 * k.val + 8, 640] ∧ k0_off53 k 16#32 = ![0, 32 * k.val + 16, 640] ∧ k0_off53 k 24#32 = ![0, 32 * k.val + 24, 640] := by decide +kernel
theorem off54 : ∀ k : Fin k0_t1_loop.trips, k0_off54 k = ![32 * k.val, 640] := by decide +kernel

/-- Every store of one trip writes the convolution at the rows it covers. -/
theorem trip_pieces (𝒱 : Variants) (c : Dev nD) (bd : Option 𝒱.V) (i : grid0.Coords) (arg2 : Memref sig .tc .vmem S256x1024 .f32) (harg2 : arg2.IsWhole) (arg3 : Memref sig .tc .vmem S1x30x768 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1024 .f32) (harg6 : arg6.IsWhole) (arg7 : Memref sig .tc .vmem S1024x1792 .bf16) (harg7 : arg7.IsWhole) (arg8 : Memref sig .tc .vmem S31x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x128 .f32) (harg14 : arg14.IsWhole) (arg15 : Memref sig .tc .vmem S1x128 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x2 .f32) (harg18 : arg18.IsWhole) (arg19 : Memref sig .tc .vmem S256x2 .i32) (harg19 : arg19.IsWhole) (arg20 : Memref sig .tc .vmem S1x30x768 .f32) (harg20 : arg20.IsWhole) (arg21 : Memref sig .tc .vmem S288x768 .f32) (harg21 : arg21.IsWhole) (arg22 : Memref sig .tc .vmem S7x280x768 .f32) (harg22 : arg22.IsWhole) (arg23 : Memref sig .tc .vmem S256x768 .f32) (harg23 : arg23.IsWhole) (arg24 : Memref sig .tc .vmem S256x1024 .bf16) (harg24 : arg24.IsWhole) (v60 : FVec Ideal S1x280x768 .f32) (X_arg8 : BufTy.Contents (Elt Ideal) arg8.view.ty) (X_arg9 : BufTy.Contents (Elt Ideal) arg9.view.ty) (X_arg21 : BufTy.Contents (Elt Ideal) arg21.view.ty) (X_arg22 : BufTy.Contents (Elt Ideal) arg22.view.ty) (k : Fin k0_t1_loop.trips)
    {Z W : ℕ → ℕ → EReal} {B : ℕ → EReal}
    (h8 : ∀ (i : Fin 31) (j : Fin 768), arg8.view.read (Elt Ideal) X_arg8 (ix2 i j) = W i.val j.val)
    (h9 : ∀ (j : Fin 768), arg9.view.read (Elt Ideal) X_arg9 (ix2 0 j) = B j.val)
    (h21 : ∀ (i : Fin 288) (j : Fin 768), arg21.view.read (Elt Ideal) X_arg21 (ix2 i j) = Z i.val j.val)
    (h22 : ∀ (s : Fin 7) (i : Fin 280) (j : Fin 768), arg22.view.read (Elt Ideal) X_arg22 (ix3 s i j) = Z (s.val + 1 + i.val) j.val)
    :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v60 X_arg8 X_arg9 X_arg21 X_arg22 k, ∀ x, p.2 x = conv Z W B ((p.1.emb x) 0).val ((p.1.emb x) 1).val := by
  unfold tripL_k0_t1 trip_k0_t1
  dsimp only
  intro p hp
  simp only [List.mem_cons, List.not_mem_nil, or_false] at hp
  rcases hp with rfl | rfl | rfl | rfl | rfl | rfl
  · intro x
    obtain ⟨r, l, rfl⟩ : ∃ (r : Fin 32) (l : Fin 128), x = ix2 r l := ⟨x 0, x 1, by funext a; fin_cases a <;> rfl⟩
    refine Eq.trans ?_ (congrArg₂ (conv Z W B)
      (show 32 * k.val + r.val = k0_off54 k 0 + 1 * r.val by rw [off54 k]; show _ = 32 * k.val + _; omega)
      (show 640 + l.val = k0_off54 k 1 + 1 * l.val by rw [off54 k]; show _ = 640 + _; omega))
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
    simp only [read_tap h8, read_bias h9, read_shift h22 (off46 k).1,
      read_shift h22 (off46 k).2.1,
      read_shift h22 (off46 k).2.2.1,
      read_shift h22 (off46 k).2.2.2,
      read_shift h22 (off47 k).1,
      read_shift h22 (off47 k).2.1,
      read_shift h22 (off47 k).2.2.1,
      read_shift h22 (off47 k).2.2.2,
      read_shift h22 (off48 k).1,
      read_shift h22 (off48 k).2.1,
      read_shift h22 (off48 k).2.2.1,
      read_shift h22 (off48 k).2.2.2,
      read_shift h22 (off49 k).1,
      read_shift h22 (off49 k).2.1,
      read_shift h22 (off49 k).2.2.1,
      read_shift h22 (off49 k).2.2.2,
      read_shift h22 (off50 k).1,
      read_shift h22 (off50 k).2.1,
      read_shift h22 (off50 k).2.2.1,
      read_shift h22 (off50 k).2.2.2,
      read_shift h22 (off51 k).1,
      read_shift h22 (off51 k).2.1,
      read_shift h22 (off51 k).2.2.1,
      read_shift h22 (off51 k).2.2.2,
      read_rows h21 (off52 k).1,
      read_rows h21 (off52 k).2.1,
      read_rows h21 (off52 k).2.2.1,
      read_rows h21 (off52 k).2.2.2,
      read_shift h22 (off53 k).1,
      read_shift h22 (off53 k).2.1,
      read_shift h22 (off53 k).2.2]
    simp only [conv, Finset.sum_range_succ, Finset.sum_range_zero, zero_add, ← add_assoc]
    iterate 31 refine congrArg₂ (· + ·) ?_ (congrArg₂ (· * ·) (congrArg₂ Z (by omega) (by omega)) (congrArg₂ W (by omega) (by omega)))
    exact congrArg B (by omega)
  · intro x
    obtain ⟨r, l, rfl⟩ : ∃ (r : Fin 32) (l : Fin 128), x = ix2 r l := ⟨x 0, x 1, by funext a; fin_cases a <;> rfl⟩
    refine Eq.trans ?_ (congrArg₂ (conv Z W B)
      (show 32 * k.val + r.val = k0_off45 k 0 + 1 * r.val by rw [off45 k]; show _ = 32 * k.val + _; omega)
      (show 512 + l.val = k0_off45 k 1 + 1 * l.val by rw [off45 k]; show _ = 512 + _; omega))
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
    simp only [read_tap h8, read_bias h9, read_shift h22 (off37 k).1,
      read_shift h22 (off37 k).2.1,
      read_shift h22 (off37 k).2.2.1,
      read_shift h22 (off37 k).2.2.2,
      read_shift h22 (off38 k).1,
      read_shift h22 (off38 k).2.1,
      read_shift h22 (off38 k).2.2.1,
      read_shift h22 (off38 k).2.2.2,
      read_shift h22 (off39 k).1,
      read_shift h22 (off39 k).2.1,
      read_shift h22 (off39 k).2.2.1,
      read_shift h22 (off39 k).2.2.2,
      read_shift h22 (off40 k).1,
      read_shift h22 (off40 k).2.1,
      read_shift h22 (off40 k).2.2.1,
      read_shift h22 (off40 k).2.2.2,
      read_shift h22 (off41 k).1,
      read_shift h22 (off41 k).2.1,
      read_shift h22 (off41 k).2.2.1,
      read_shift h22 (off41 k).2.2.2,
      read_shift h22 (off42 k).1,
      read_shift h22 (off42 k).2.1,
      read_shift h22 (off42 k).2.2.1,
      read_shift h22 (off42 k).2.2.2,
      read_rows h21 (off43 k).1,
      read_rows h21 (off43 k).2.1,
      read_rows h21 (off43 k).2.2.1,
      read_rows h21 (off43 k).2.2.2,
      read_shift h22 (off44 k).1,
      read_shift h22 (off44 k).2.1,
      read_shift h22 (off44 k).2.2]
    simp only [conv, Finset.sum_range_succ, Finset.sum_range_zero, zero_add, ← add_assoc]
    iterate 31 refine congrArg₂ (· + ·) ?_ (congrArg₂ (· * ·) (congrArg₂ Z (by omega) (by omega)) (congrArg₂ W (by omega) (by omega)))
    exact congrArg B (by omega)
  · intro x
    obtain ⟨r, l, rfl⟩ : ∃ (r : Fin 32) (l : Fin 128), x = ix2 r l := ⟨x 0, x 1, by funext a; fin_cases a <;> rfl⟩
    refine Eq.trans ?_ (congrArg₂ (conv Z W B)
      (show 32 * k.val + r.val = k0_off36 k 0 + 1 * r.val by rw [off36 k]; show _ = 32 * k.val + _; omega)
      (show 384 + l.val = k0_off36 k 1 + 1 * l.val by rw [off36 k]; show _ = 384 + _; omega))
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
    simp only [read_tap h8, read_bias h9, read_shift h22 (off28 k).1,
      read_shift h22 (off28 k).2.1,
      read_shift h22 (off28 k).2.2.1,
      read_shift h22 (off28 k).2.2.2,
      read_shift h22 (off29 k).1,
      read_shift h22 (off29 k).2.1,
      read_shift h22 (off29 k).2.2.1,
      read_shift h22 (off29 k).2.2.2,
      read_shift h22 (off30 k).1,
      read_shift h22 (off30 k).2.1,
      read_shift h22 (off30 k).2.2.1,
      read_shift h22 (off30 k).2.2.2,
      read_shift h22 (off31 k).1,
      read_shift h22 (off31 k).2.1,
      read_shift h22 (off31 k).2.2.1,
      read_shift h22 (off31 k).2.2.2,
      read_shift h22 (off32 k).1,
      read_shift h22 (off32 k).2.1,
      read_shift h22 (off32 k).2.2.1,
      read_shift h22 (off32 k).2.2.2,
      read_shift h22 (off33 k).1,
      read_shift h22 (off33 k).2.1,
      read_shift h22 (off33 k).2.2.1,
      read_shift h22 (off33 k).2.2.2,
      read_rows h21 (off34 k).1,
      read_rows h21 (off34 k).2.1,
      read_rows h21 (off34 k).2.2.1,
      read_rows h21 (off34 k).2.2.2,
      read_shift h22 (off35 k).1,
      read_shift h22 (off35 k).2.1,
      read_shift h22 (off35 k).2.2]
    simp only [conv, Finset.sum_range_succ, Finset.sum_range_zero, zero_add, ← add_assoc]
    iterate 31 refine congrArg₂ (· + ·) ?_ (congrArg₂ (· * ·) (congrArg₂ Z (by omega) (by omega)) (congrArg₂ W (by omega) (by omega)))
    exact congrArg B (by omega)
  · intro x
    obtain ⟨r, l, rfl⟩ : ∃ (r : Fin 32) (l : Fin 128), x = ix2 r l := ⟨x 0, x 1, by funext a; fin_cases a <;> rfl⟩
    refine Eq.trans ?_ (congrArg₂ (conv Z W B)
      (show 32 * k.val + r.val = k0_off27 k 0 + 1 * r.val by rw [off27 k]; show _ = 32 * k.val + _; omega)
      (show 256 + l.val = k0_off27 k 1 + 1 * l.val by rw [off27 k]; show _ = 256 + _; omega))
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
    simp only [read_tap h8, read_bias h9, read_shift h22 (off19 k).1,
      read_shift h22 (off19 k).2.1,
      read_shift h22 (off19 k).2.2.1,
      read_shift h22 (off19 k).2.2.2,
      read_shift h22 (off20 k).1,
      read_shift h22 (off20 k).2.1,
      read_shift h22 (off20 k).2.2.1,
      read_shift h22 (off20 k).2.2.2,
      read_shift h22 (off21 k).1,
      read_shift h22 (off21 k).2.1,
      read_shift h22 (off21 k).2.2.1,
      read_shift h22 (off21 k).2.2.2,
      read_shift h22 (off22 k).1,
      read_shift h22 (off22 k).2.1,
      read_shift h22 (off22 k).2.2.1,
      read_shift h22 (off22 k).2.2.2,
      read_shift h22 (off23 k).1,
      read_shift h22 (off23 k).2.1,
      read_shift h22 (off23 k).2.2.1,
      read_shift h22 (off23 k).2.2.2,
      read_shift h22 (off24 k).1,
      read_shift h22 (off24 k).2.1,
      read_shift h22 (off24 k).2.2.1,
      read_shift h22 (off24 k).2.2.2,
      read_rows h21 (off25 k).1,
      read_rows h21 (off25 k).2.1,
      read_rows h21 (off25 k).2.2.1,
      read_rows h21 (off25 k).2.2.2,
      read_shift h22 (off26 k).1,
      read_shift h22 (off26 k).2.1,
      read_shift h22 (off26 k).2.2]
    simp only [conv, Finset.sum_range_succ, Finset.sum_range_zero, zero_add, ← add_assoc]
    iterate 31 refine congrArg₂ (· + ·) ?_ (congrArg₂ (· * ·) (congrArg₂ Z (by omega) (by omega)) (congrArg₂ W (by omega) (by omega)))
    exact congrArg B (by omega)
  · intro x
    obtain ⟨r, l, rfl⟩ : ∃ (r : Fin 32) (l : Fin 128), x = ix2 r l := ⟨x 0, x 1, by funext a; fin_cases a <;> rfl⟩
    refine Eq.trans ?_ (congrArg₂ (conv Z W B)
      (show 32 * k.val + r.val = k0_off18 k 0 + 1 * r.val by rw [off18 k]; show _ = 32 * k.val + _; omega)
      (show 128 + l.val = k0_off18 k 1 + 1 * l.val by rw [off18 k]; show _ = 128 + _; omega))
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
    simp only [read_tap h8, read_bias h9, read_shift h22 (off10 k).1,
      read_shift h22 (off10 k).2.1,
      read_shift h22 (off10 k).2.2.1,
      read_shift h22 (off10 k).2.2.2,
      read_shift h22 (off11 k).1,
      read_shift h22 (off11 k).2.1,
      read_shift h22 (off11 k).2.2.1,
      read_shift h22 (off11 k).2.2.2,
      read_shift h22 (off12 k).1,
      read_shift h22 (off12 k).2.1,
      read_shift h22 (off12 k).2.2.1,
      read_shift h22 (off12 k).2.2.2,
      read_shift h22 (off13 k).1,
      read_shift h22 (off13 k).2.1,
      read_shift h22 (off13 k).2.2.1,
      read_shift h22 (off13 k).2.2.2,
      read_shift h22 (off14 k).1,
      read_shift h22 (off14 k).2.1,
      read_shift h22 (off14 k).2.2.1,
      read_shift h22 (off14 k).2.2.2,
      read_shift h22 (off15 k).1,
      read_shift h22 (off15 k).2.1,
      read_shift h22 (off15 k).2.2.1,
      read_shift h22 (off15 k).2.2.2,
      read_rows h21 (off16 k).1,
      read_rows h21 (off16 k).2.1,
      read_rows h21 (off16 k).2.2.1,
      read_rows h21 (off16 k).2.2.2,
      read_shift h22 (off17 k).1,
      read_shift h22 (off17 k).2.1,
      read_shift h22 (off17 k).2.2]
    simp only [conv, Finset.sum_range_succ, Finset.sum_range_zero, zero_add, ← add_assoc]
    iterate 31 refine congrArg₂ (· + ·) ?_ (congrArg₂ (· * ·) (congrArg₂ Z (by omega) (by omega)) (congrArg₂ W (by omega) (by omega)))
    exact congrArg B (by omega)
  · intro x
    obtain ⟨r, l, rfl⟩ : ∃ (r : Fin 32) (l : Fin 128), x = ix2 r l := ⟨x 0, x 1, by funext a; fin_cases a <;> rfl⟩
    refine Eq.trans ?_ (congrArg₂ (conv Z W B)
      (show 32 * k.val + r.val = k0_off9 k 0 + 1 * r.val by rw [off9 k]; show _ = 32 * k.val + _; omega)
      (show 0 + l.val = k0_off9 k 1 + 1 * l.val by rw [off9 k]; show _ = 0 + _; omega))
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93]
    simp only [read_tap h8, read_bias h9, read_shift h22 (off1 k).1,
      read_shift h22 (off1 k).2.1,
      read_shift h22 (off1 k).2.2.1,
      read_shift h22 (off1 k).2.2.2,
      read_shift h22 (off2 k).1,
      read_shift h22 (off2 k).2.1,
      read_shift h22 (off2 k).2.2.1,
      read_shift h22 (off2 k).2.2.2,
      read_shift h22 (off3 k).1,
      read_shift h22 (off3 k).2.1,
      read_shift h22 (off3 k).2.2.1,
      read_shift h22 (off3 k).2.2.2,
      read_shift h22 (off4 k).1,
      read_shift h22 (off4 k).2.1,
      read_shift h22 (off4 k).2.2.1,
      read_shift h22 (off4 k).2.2.2,
      read_shift h22 (off5 k).1,
      read_shift h22 (off5 k).2.1,
      read_shift h22 (off5 k).2.2.1,
      read_shift h22 (off5 k).2.2.2,
      read_shift h22 (off6 k).1,
      read_shift h22 (off6 k).2.1,
      read_shift h22 (off6 k).2.2.1,
      read_shift h22 (off6 k).2.2.2,
      read_rows h21 (off7 k).1,
      read_rows h21 (off7 k).2.1,
      read_rows h21 (off7 k).2.2.1,
      read_rows h21 (off7 k).2.2.2,
      read_shift h22 (off8 k).1,
      read_shift h22 (off8 k).2.1,
      read_shift h22 (off8 k).2.2]
    simp only [conv, Finset.sum_range_succ, Finset.sum_range_zero, zero_add, ← add_assoc]
    iterate 31 refine congrArg₂ (· + ·) ?_ (congrArg₂ (· * ·) (congrArg₂ Z (by omega) (by omega)) (congrArg₂ W (by omega) (by omega)))
    exact congrArg B (by omega)

/-- Every store of the first `n` trips writes the convolution at the rows it covers. -/
theorem pb_pieces (𝒱 : Variants) (c : Dev nD) (bd : Option 𝒱.V) (i : grid0.Coords) (arg2 : Memref sig .tc .vmem S256x1024 .f32) (harg2 : arg2.IsWhole) (arg3 : Memref sig .tc .vmem S1x30x768 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1024 .f32) (harg6 : arg6.IsWhole) (arg7 : Memref sig .tc .vmem S1024x1792 .bf16) (harg7 : arg7.IsWhole) (arg8 : Memref sig .tc .vmem S31x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x128 .f32) (harg14 : arg14.IsWhole) (arg15 : Memref sig .tc .vmem S1x128 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x2 .f32) (harg18 : arg18.IsWhole) (arg19 : Memref sig .tc .vmem S256x2 .i32) (harg19 : arg19.IsWhole) (arg20 : Memref sig .tc .vmem S1x30x768 .f32) (harg20 : arg20.IsWhole) (arg21 : Memref sig .tc .vmem S288x768 .f32) (harg21 : arg21.IsWhole) (arg22 : Memref sig .tc .vmem S7x280x768 .f32) (harg22 : arg22.IsWhole) (arg23 : Memref sig .tc .vmem S256x768 .f32) (harg23 : arg23.IsWhole) (arg24 : Memref sig .tc .vmem S256x1024 .bf16) (harg24 : arg24.IsWhole) (v60 : FVec Ideal S1x280x768 .f32) (X_arg8 : BufTy.Contents (Elt Ideal) arg8.view.ty) (X_arg9 : BufTy.Contents (Elt Ideal) arg9.view.ty) (X_arg21 : BufTy.Contents (Elt Ideal) arg21.view.ty) (X_arg22 : BufTy.Contents (Elt Ideal) arg22.view.ty)
    {Z W : ℕ → ℕ → EReal} {B : ℕ → EReal}
    (h8 : ∀ (i : Fin 31) (j : Fin 768), arg8.view.read (Elt Ideal) X_arg8 (ix2 i j) = W i.val j.val)
    (h9 : ∀ (j : Fin 768), arg9.view.read (Elt Ideal) X_arg9 (ix2 0 j) = B j.val)
    (h21 : ∀ (i : Fin 288) (j : Fin 768), arg21.view.read (Elt Ideal) X_arg21 (ix2 i j) = Z i.val j.val)
    (h22 : ∀ (s : Fin 7) (i : Fin 280) (j : Fin 768), arg22.view.read (Elt Ideal) X_arg22 (ix3 s i j) = Z (s.val + 1 + i.val) j.val)
    :
    ∀ n, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v60 X_arg8 X_arg9 X_arg21 X_arg22 n, ∀ x,
      p.2 x = conv Z W B ((p.1.emb x) 0).val ((p.1.emb x) 1).val := by
  intro n
  induction n with
  | zero => intro _ p hp; simp [pb_k0_t1] at hp
  | succ n ih =>
    intro hn p hp
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v60 X_arg8 X_arg9 X_arg21 X_arg22 ⟨n, hn⟩
    rw [show n + 1 = (⟨n, hn⟩ : Fin k0_t1_loop.trips).val + 1 from rfl, e, List.mem_append] at hp
    rcases hp with hp | hp
    · exact trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v60 X_arg8 X_arg9 X_arg21 X_arg22 ⟨n, hn⟩ h8 h9 h21 h22 p hp
    · exact ih (Nat.le_of_succ_le hn) p hp

/-- What the loop leaves in the buffer it fills: the convolution. -/
theorem conv_read (𝒱 : Variants) (c : Dev nD) (bd : Option 𝒱.V) (i : grid0.Coords) (arg2 : Memref sig .tc .vmem S256x1024 .f32) (harg2 : arg2.IsWhole) (arg3 : Memref sig .tc .vmem S1x30x768 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1024 .f32) (harg6 : arg6.IsWhole) (arg7 : Memref sig .tc .vmem S1024x1792 .bf16) (harg7 : arg7.IsWhole) (arg8 : Memref sig .tc .vmem S31x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x128 .f32) (harg14 : arg14.IsWhole) (arg15 : Memref sig .tc .vmem S1x128 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x2 .f32) (harg18 : arg18.IsWhole) (arg19 : Memref sig .tc .vmem S256x2 .i32) (harg19 : arg19.IsWhole) (arg20 : Memref sig .tc .vmem S1x30x768 .f32) (harg20 : arg20.IsWhole) (arg21 : Memref sig .tc .vmem S288x768 .f32) (harg21 : arg21.IsWhole) (arg22 : Memref sig .tc .vmem S7x280x768 .f32) (harg22 : arg22.IsWhole) (arg23 : Memref sig .tc .vmem S256x768 .f32) (harg23 : arg23.IsWhole) (arg24 : Memref sig .tc .vmem S256x1024 .bf16) (harg24 : arg24.IsWhole) (v60 : FVec Ideal S1x280x768 .f32) (X_arg8 : BufTy.Contents (Elt Ideal) arg8.view.ty) (X_arg9 : BufTy.Contents (Elt Ideal) arg9.view.ty) (X_arg21 : BufTy.Contents (Elt Ideal) arg21.view.ty) (X_arg22 : BufTy.Contents (Elt Ideal) arg22.view.ty)
    {Z W : ℕ → ℕ → EReal} {B : ℕ → EReal}
    (h8 : ∀ (i : Fin 31) (j : Fin 768), arg8.view.read (Elt Ideal) X_arg8 (ix2 i j) = W i.val j.val)
    (h9 : ∀ (j : Fin 768), arg9.view.read (Elt Ideal) X_arg9 (ix2 0 j) = B j.val)
    (h21 : ∀ (i : Fin 288) (j : Fin 768), arg21.view.read (Elt Ideal) X_arg21 (ix2 i j) = Z i.val j.val)
    (h22 : ∀ (s : Fin 7) (i : Fin 280) (j : Fin 768), arg22.view.read (Elt Ideal) X_arg22 (ix3 s i j) = Z (s.val + 1 + i.val) j.val)
    :
    arg23.view.readCov (Val := Elt Ideal) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v60 X_arg8 X_arg9 X_arg21 X_arg22 (Scf.trips k0_t1_loop.lb k0_t1_loop.ub k0_t1_loop.st))
      (Rect.unit (s := S256x768) ![0, 0] ![256, 768] inb_S256x768_S256x768_0_0).toLoadRect
      = fun j : S256x768.Idx => conv Z W B (j 0).val (j 1).val := by
  rw [View.readCov_eq_canon']
  funext j
  have hj : (Rect.unit (s := S256x768) ![0, 0] ![256, 768] inb_S256x768_S256x768_0_0).toLoadRect.idx j = j := by
    funext a; fin_cases a <;> apply Fin.ext <;> simp [Rect.toLoadRect]
  rw [hj]
  exact View.canon_apply_of_pieces (Val := Elt Ideal) (S := S256x768) (e := .f32) (fun j => conv Z W B (j 0).val (j 1).val) _
    (pb_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v60 X_arg8 X_arg9 X_arg21 X_arg22 h8 h9 h21 h22 _ le_rfl) j
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v60 X_arg8 X_arg9 X_arg21 X_arg22 (Scf.trips k0_t1_loop.lb k0_t1_loop.ub k0_t1_loop.st)) S32x128.size (by sl_kernel_rfl) j)

/-- One of the seven shifted copies. -/
def copy (L : List (View.Piece (Elt Ideal) S288x768 .f32)) (n : ℕ) (inb : ∀ a, (![n, 0] : Fin 2 → ℕ) a + (![280, 768] : Fin 2 → ℕ) a ≤ S288x768.size a) :
    FVec Ideal S1x280x768 .f32 :=
  shapeCast S1x280x768 ((View.whole cc0_scratch0).readCov (Val := Elt Ideal) L (Rect.unit (s := S288x768) ![n, 0] ![280, 768] inb).toLoadRect)
    shapeCasts_S280x768_S1x280x768

theorem row_cast (f : FVec Ideal S280x768 .f32) (i : Fin 280) (j : Fin 768) (z : Fin 1) :
    shapeCast S1x280x768 f shapeCasts_S280x768_S1x280x768 (ix3 z i j) = f (ix2 i j) := by
  pointwise

theorem copy_apply (L : List (View.Piece (Elt Ideal) S288x768 .f32)) (n : ℕ) (hn : n ≤ 8) (inb) (i : Fin 280) (j : Fin 768) (z : Fin 1) :
    copy L n inb (ix3 z i j) = View.canon (Val := Elt Ideal) L (ix2 (⟨n + i.val, by omega⟩ : Fin 288) j) := by
  unfold copy
  rw [View.readCov_eq_canon']
  refine (row_cast _ i j z).trans ?_
  refine congrArg (View.canon (Val := Elt Ideal) L) ?_
  funext a
  refine Fin.ext ?_
  fin_cases a
  · show n + 1 * i.val = n + i.val
    omega
  · show 0 + 1 * j.val = j.val
    omega

/-- The shifted copies, read back. -/
theorem shift_read (L : List (View.Piece (Elt Ideal) S288x768 .f32)) (i1 i2 i3 i4 i5 i6 i7) (j0 j1 j2 j3 j4 j5 j6)
    {Z : ℕ → ℕ → EReal} (hZ : ∀ (i : Fin 288) (j : Fin 768), View.canon (Val := Elt Ideal) L (ix2 i j) = Z i.val j.val)
    (s : Fin 7) (i : Fin 280) (j : Fin 768) :
    (View.whole cc0_scratch1).read (Elt Ideal) ((View.whole cc0_scratch1).writes (Elt Ideal) (View.whole cc0_scratch1).junk
      [⟨Rect.unit (s := S7x280x768) ![6, 0, 0] ![1, 280, 768] j6, copy L 7 i7⟩,
       ⟨Rect.unit (s := S7x280x768) ![5, 0, 0] ![1, 280, 768] j5, copy L 6 i6⟩,
       ⟨Rect.unit (s := S7x280x768) ![4, 0, 0] ![1, 280, 768] j4, copy L 5 i5⟩,
       ⟨Rect.unit (s := S7x280x768) ![3, 0, 0] ![1, 280, 768] j3, copy L 4 i4⟩,
       ⟨Rect.unit (s := S7x280x768) ![2, 0, 0] ![1, 280, 768] j2, copy L 3 i3⟩,
       ⟨Rect.unit (s := S7x280x768) ![1, 0, 0] ![1, 280, 768] j1, copy L 2 i2⟩,
       ⟨Rect.unit (s := S7x280x768) ![0, 0, 0] ![1, 280, 768] j0, copy L 1 i1⟩]) (ix3 s i j)
      = Z (s.val + 1 + i.val) j.val := by
  rw [View.read_writes_junk_eq_canon]
  refine View.canon_apply_of_pieces (Val := Elt Ideal) (S := S7x280x768) (e := .f32)
    (fun y => Z ((y 0).val + 1 + (y 1).val) (y 2).val) _ ?_ (ix3 s i j) ?_
  · intro p hp
    simp only [List.mem_cons, List.not_mem_nil, or_false] at hp
    rcases hp with rfl | rfl | rfl | rfl | rfl | rfl | rfl
    · intro y
      obtain ⟨y0, y1, y2, rfl⟩ : ∃ (y0 : Fin 1) (y1 : Fin 280) (y2 : Fin 768), y = ix3 y0 y1 y2 :=
        ⟨y 0, y 1, y 2, by funext a; fin_cases a <;> rfl⟩
      refine (copy_apply L 7 (by omega) _ y1 y2 y0).trans ((hZ _ _).trans ?_)
      have e0 : y0.val = 0 := by omega
      refine congrArg₂ Z ?_ ?_
      · show 7 + y1.val = (6 + 1 * y0.val) + 1 + (0 + 1 * y1.val)
        omega
      · show y2.val = 0 + 1 * y2.val
        omega
    · intro y
      obtain ⟨y0, y1, y2, rfl⟩ : ∃ (y0 : Fin 1) (y1 : Fin 280) (y2 : Fin 768), y = ix3 y0 y1 y2 :=
        ⟨y 0, y 1, y 2, by funext a; fin_cases a <;> rfl⟩
      refine (copy_apply L 6 (by omega) _ y1 y2 y0).trans ((hZ _ _).trans ?_)
      have e0 : y0.val = 0 := by omega
      refine congrArg₂ Z ?_ ?_
      · show 6 + y1.val = (5 + 1 * y0.val) + 1 + (0 + 1 * y1.val)
        omega
      · show y2.val = 0 + 1 * y2.val
        omega
    · intro y
      obtain ⟨y0, y1, y2, rfl⟩ : ∃ (y0 : Fin 1) (y1 : Fin 280) (y2 : Fin 768), y = ix3 y0 y1 y2 :=
        ⟨y 0, y 1, y 2, by funext a; fin_cases a <;> rfl⟩
      refine (copy_apply L 5 (by omega) _ y1 y2 y0).trans ((hZ _ _).trans ?_)
      have e0 : y0.val = 0 := by omega
      refine congrArg₂ Z ?_ ?_
      · show 5 + y1.val = (4 + 1 * y0.val) + 1 + (0 + 1 * y1.val)
        omega
      · show y2.val = 0 + 1 * y2.val
        omega
    · intro y
      obtain ⟨y0, y1, y2, rfl⟩ : ∃ (y0 : Fin 1) (y1 : Fin 280) (y2 : Fin 768), y = ix3 y0 y1 y2 :=
        ⟨y 0, y 1, y 2, by funext a; fin_cases a <;> rfl⟩
      refine (copy_apply L 4 (by omega) _ y1 y2 y0).trans ((hZ _ _).trans ?_)
      have e0 : y0.val = 0 := by omega
      refine congrArg₂ Z ?_ ?_
      · show 4 + y1.val = (3 + 1 * y0.val) + 1 + (0 + 1 * y1.val)
        omega
      · show y2.val = 0 + 1 * y2.val
        omega
    · intro y
      obtain ⟨y0, y1, y2, rfl⟩ : ∃ (y0 : Fin 1) (y1 : Fin 280) (y2 : Fin 768), y = ix3 y0 y1 y2 :=
        ⟨y 0, y 1, y 2, by funext a; fin_cases a <;> rfl⟩
      refine (copy_apply L 3 (by omega) _ y1 y2 y0).trans ((hZ _ _).trans ?_)
      have e0 : y0.val = 0 := by omega
      refine congrArg₂ Z ?_ ?_
      · show 3 + y1.val = (2 + 1 * y0.val) + 1 + (0 + 1 * y1.val)
        omega
      · show y2.val = 0 + 1 * y2.val
        omega
    · intro y
      obtain ⟨y0, y1, y2, rfl⟩ : ∃ (y0 : Fin 1) (y1 : Fin 280) (y2 : Fin 768), y = ix3 y0 y1 y2 :=
        ⟨y 0, y 1, y 2, by funext a; fin_cases a <;> rfl⟩
      refine (copy_apply L 2 (by omega) _ y1 y2 y0).trans ((hZ _ _).trans ?_)
      have e0 : y0.val = 0 := by omega
      refine congrArg₂ Z ?_ ?_
      · show 2 + y1.val = (1 + 1 * y0.val) + 1 + (0 + 1 * y1.val)
        omega
      · show y2.val = 0 + 1 * y2.val
        omega
    · intro y
      obtain ⟨y0, y1, y2, rfl⟩ : ∃ (y0 : Fin 1) (y1 : Fin 280) (y2 : Fin 768), y = ix3 y0 y1 y2 :=
        ⟨y 0, y 1, y 2, by funext a; fin_cases a <;> rfl⟩
      refine (copy_apply L 1 (by omega) _ y1 y2 y0).trans ((hZ _ _).trans ?_)
      have e0 : y0.val = 0 := by omega
      refine congrArg₂ Z ?_ ?_
      · show 1 + y1.val = (0 + 1 * y0.val) + 1 + (0 + 1 * y1.val)
        omega
      · show y2.val = 0 + 1 * y2.val
        omega
  · have hc : ∀ (n : ℕ) (inb), n = s.val → ix3 s i j ∈ (Rect.unit (s := S7x280x768) ![n, 0, 0] ![1, 280, 768] inb).set := fun n inb hn => by
      rw [Rect.mem_set_unit]
      intro a
      fin_cases a
      · exact ⟨by show n ≤ s.val; omega, by show s.val < n + 1; omega⟩
      · exact ⟨by show 0 ≤ i.val; omega, by show i.val < 0 + 280; omega⟩
      · exact ⟨by show 0 ≤ j.val; omega, by show j.val < 0 + 768; omega⟩
    rcases (by omega : s.val = 6 ∨ s.val = 5 ∨ s.val = 4 ∨ s.val = 3 ∨ s.val = 2 ∨ s.val = 1 ∨ s.val = 0) with h | h | h | h | h | h | h
    · exact ⟨_, List.mem_cons_self, hc 6 j6 h.symm⟩
    · exact ⟨_, List.mem_cons_of_mem _ (List.mem_cons_self), hc 5 j5 h.symm⟩
    · exact ⟨_, List.mem_cons_of_mem _ (List.mem_cons_of_mem _ (List.mem_cons_self)), hc 4 j4 h.symm⟩
    · exact ⟨_, List.mem_cons_of_mem _ (List.mem_cons_of_mem _ (List.mem_cons_of_mem _ (List.mem_cons_self))), hc 3 j3 h.symm⟩
    · exact ⟨_, List.mem_cons_of_mem _ (List.mem_cons_of_mem _ (List.mem_cons_of_mem _ (List.mem_cons_of_mem _ (List.mem_cons_self)))), hc 2 j2 h.symm⟩
    · exact ⟨_, List.mem_cons_of_mem _ (List.mem_cons_of_mem _ (List.mem_cons_of_mem _ (List.mem_cons_of_mem _ (List.mem_cons_of_mem _ (List.mem_cons_self))))), hc 1 j1 h.symm⟩
    · exact ⟨_, List.mem_cons_of_mem _ (List.mem_cons_of_mem _ (List.mem_cons_of_mem _ (List.mem_cons_of_mem _ (List.mem_cons_of_mem _ (List.mem_cons_of_mem _ (List.mem_cons_self)))))), hc 0 j0 h.symm⟩

/-- A buffer of 288 rows: three stores from the top down. -/
theorem rows3 (z : FVec Ideal S256x768 .f32) (p : FVec Ideal S30x768 .f32) (q : FVec Ideal S2x768 .f32) (b1 b2 b3) (i : Fin 288) (j : Fin 768) :
    View.canon (Val := Elt Ideal) (e := .f32)
      [⟨Rect.unit (s := S288x768) ![32, 0] ![256, 768] b1, z⟩, ⟨Rect.unit (s := S288x768) ![2, 0] ![30, 768] b2, p⟩,
        ⟨Rect.unit (s := S288x768) ![0, 0] ![2, 768] b3, q⟩] (ix2 i j)
      = if h : 32 ≤ i.val then z (ix2 (⟨i.val - 32, by omega⟩ : Fin 256) j)
        else if h' : 2 ≤ i.val then p (ix2 (⟨i.val - 2, by omega⟩ : Fin 30) j) else q (ix2 (⟨i.val, by omega⟩ : Fin 2) j) := by
  by_cases h : 32 ≤ i.val
  · rw [dif_pos h, show ix2 i j = (Rect.unit (s := S288x768) ![32, 0] ![256, 768] b1).emb (ix2 (⟨i.val - 32, by omega⟩ : Fin 256) j) from by
      funext a
      refine Fin.ext ?_
      fin_cases a
      · show i.val = 32 + 1 * (i.val - 32)
        omega
      · show j.val = 0 + 1 * j.val
        omega]
    exact View.canon_cons_emb _ _ _ _
  · have n1 : ix2 i j ∉ (Rect.unit (s := S288x768) ![32, 0] ![256, 768] b1).set := by
      rw [Rect.mem_set_unit]
      intro hh
      exact h (hh 0).1
    rw [dif_neg h, View.canon_cons_of_not_mem (Val := Elt Ideal) (e := .f32) ⟨Rect.unit (s := S288x768) ![32, 0] ![256, 768] b1, z⟩ _ n1]
    by_cases h' : 2 ≤ i.val
    · rw [dif_pos h', show ix2 i j = (Rect.unit (s := S288x768) ![2, 0] ![30, 768] b2).emb (ix2 (⟨i.val - 2, by omega⟩ : Fin 30) j) from by
        funext a
        refine Fin.ext ?_
        fin_cases a
        · show i.val = 2 + 1 * (i.val - 2)
          omega
        · show j.val = 0 + 1 * j.val
          omega]
      exact View.canon_cons_emb _ _ _ _
    · have n2 : ix2 i j ∉ (Rect.unit (s := S288x768) ![2, 0] ![30, 768] b2).set := by
        rw [Rect.mem_set_unit]
        intro hh
        exact h' (hh 0).1
      rw [dif_neg h', View.canon_cons_of_not_mem (Val := Elt Ideal) (e := .f32) ⟨Rect.unit (s := S288x768) ![2, 0] ![30, 768] b2, p⟩ _ n2, show ix2 i j = (Rect.unit (s := S288x768) ![0, 0] ![2, 768] b3).emb (ix2 (⟨i.val, by omega⟩ : Fin 2) j) from by
        funext a
        refine Fin.ext ?_
        fin_cases a
        · show i.val = 0 + 1 * i.val
          omega
        · show j.val = 0 + 1 * j.val
          omega]
      exact View.canon_cons_emb _ _ _ _

/-- A buffer of 288 rows: two stores. -/
theorem rows2 (z : FVec Ideal S256x768 .f32) (p : FVec Ideal S32x768 .f32) (b1 b2) (i : Fin 288) (j : Fin 768) :
    View.canon (Val := Elt Ideal) (e := .f32)
      [⟨Rect.unit (s := S288x768) ![32, 0] ![256, 768] b1, z⟩, ⟨Rect.unit (s := S288x768) ![0, 0] ![32, 768] b2, p⟩] (ix2 i j)
      = if h : 32 ≤ i.val then z (ix2 (⟨i.val - 32, by omega⟩ : Fin 256) j) else p (ix2 (⟨i.val, by omega⟩ : Fin 32) j) := by
  by_cases h : 32 ≤ i.val
  · rw [dif_pos h, show ix2 i j = (Rect.unit (s := S288x768) ![32, 0] ![256, 768] b1).emb (ix2 (⟨i.val - 32, by omega⟩ : Fin 256) j) from by
      funext a
      refine Fin.ext ?_
      fin_cases a
      · show i.val = 32 + 1 * (i.val - 32)
        omega
      · show j.val = 0 + 1 * j.val
        omega]
    exact View.canon_cons_emb _ _ _ _
  · have n1 : ix2 i j ∉ (Rect.unit (s := S288x768) ![32, 0] ![256, 768] b1).set := by
      rw [Rect.mem_set_unit]
      intro hh
      exact h (hh 0).1
    rw [dif_neg h, View.canon_cons_of_not_mem (Val := Elt Ideal) (e := .f32) ⟨Rect.unit (s := S288x768) ![32, 0] ![256, 768] b1, z⟩ _ n1, show ix2 i j = (Rect.unit (s := S288x768) ![0, 0] ![32, 768] b2).emb (ix2 (⟨i.val, by omega⟩ : Fin 32) j) from by
      funext a
      refine Fin.ext ?_
      fin_cases a
      · show i.val = 0 + 1 * i.val
        omega
      · show j.val = 0 + 1 * j.val
        omega]
    exact View.canon_cons_emb _ _ _ _

end Cert.LayerZeroIdeal.Conv

end
-- ==== Proof.Layer.lean ====
module

public import proofs.«01_k».proof.Proof.Attn

/-! # The first layer's rows: gated convolution, its past, the memory's share, the residual -/

@[expose] public section

noncomputable section

open Idealize.ShloMosaic

namespace Cert.Layer

open Cert.Attn

/-- The input projection's row: the normalised row, scaled, times the weights. -/
def up (x g : Fin 1024 → EReal) (W : Fin 1024 → Fin 1792 → EReal) (c : Fin 1792) : EReal :=
  ∑ d : Fin 1024, normed x d * g d * W d c

/-- The gated row the convolution runs over. -/
def gated (x g : Fin 1024 → EReal) (W : Fin 1024 → Fin 1792 → EReal) (c : Fin 768) : EReal :=
  up x g W ⟨c.val, by omega⟩ * Ideal.logistic (up x g W ⟨768 + c.val, by omega⟩)

/-- The queries' row. -/
def query (x g : Fin 1024 → EReal) (W : Fin 1024 → Fin 1792 → EReal) (c : Fin 256) : EReal :=
  up x g W ⟨1536 + c.val, by omega⟩

/-- The causal convolution at row `R` of 8 sequences of 4096 rows laid end to end: tap `w` meets the row `30 - w` before,
    a row before the sequence's first being zero. -/
def causal (Z W : ℕ → ℕ → EReal) (B : ℕ → EReal) (R c : ℕ) : EReal :=
  B c + ∑ w ∈ Finset.range 31, (if 30 ≤ R % 4096 + w then Z (R + w - 30) c else 0) * W w c

/-- Layer normalisation of a row of 768 lanes, then `y * sigmoid y`. -/
def center (x : Fin 768 → EReal) (j : Fin 768) : EReal :=
  x j - Ideal.div (∑ k, x k) (Ideal.ofBits .f32 0x44400000#32)

def lnorm (x g b : Fin 768 → EReal) (j : Fin 768) : EReal :=
  center x j * Ideal.rsqrt (Ideal.div (∑ k, center x k * center x k) (Ideal.ofBits .f32 0x44400000#32)
    + Ideal.ofBits .f32 0x358637BD#32) * g j + b j

def silu (x g b : Fin 768 → EReal) (j : Fin 768) : EReal := lnorm x g b j * Ideal.logistic (lnorm x g b j)

/-- An array's entries, zero outside it. -/
def ext1 {n : ℕ} (f : Fin n → EReal) (j : ℕ) : EReal := if h : j < n then f ⟨j, h⟩ else 0
def ext2 {n k : ℕ} (f : Fin n → Fin k → EReal) (i j : ℕ) : EReal := if h : i < n ∧ j < k then f ⟨i, h.1⟩ ⟨j, h.2⟩ else 0

theorem ext1_val {n : ℕ} (f : Fin n → EReal) (j : Fin n) : ext1 f j.val = f j := by simp [ext1]
theorem ext2_val {n k : ℕ} (f : Fin n → Fin k → EReal) (i : Fin n) (j : Fin k) : ext2 f i.val j.val = f i j := by simp [ext2]

/-- The 8 sequences' rows, laid end to end. -/
def row (x : Fin 8 → Fin 4096 → Fin 1024 → EReal) (R : Fin 32768) : Fin 1024 → EReal :=
  x ⟨R.val / 4096, by omega⟩ ⟨R.val % 4096, by omega⟩

section
variable (x : Fin 8 → Fin 4096 → Fin 1024 → EReal) (mem : Fin 8 → Fin 512 → Fin 256 → EReal) (g : Fin 1024 → EReal)
  (W : Fin 1024 → Fin 1792 → EReal) (w : Fin 31 → Fin 768 → EReal) (b cg cb : Fin 768 → EReal) (wo : Fin 1024 → Fin 1024 → EReal)
  (gf : Fin 1024 → EReal)

/-- The gated rows of all sequences. -/
def gates : ℕ → ℕ → EReal := ext2 (fun R : Fin 32768 => gated (row x R) g W)

/-- The convolution's row. -/
def convRow (R : Fin 32768) (c : Fin 768) : EReal := causal (gates x g W) (ext2 w) (ext1 b) R.val c.val

/-- The row the output projection reads. -/
def mixed (R : Fin 32768) : Fin 1024 → EReal :=
  mixRow (silu (convRow x g W w b R) cg cb) (query (row x R) g W)
    (fun d k => mem ⟨R.val / 4096, by omega⟩ ⟨d.val, by omega⟩ k) (fun d k => mem ⟨R.val / 4096, by omega⟩ ⟨256 + d.val, by omega⟩ k)

/-- The residual row. -/
def stream (R : Fin 32768) (j : Fin 1024) : EReal := row x R j + ∑ k : Fin 1024, mixed x mem g W w b cg cb R k * wo k j

/-- The residual row, normalised and scaled. -/
def nrm (R : Fin 32768) (j : Fin 1024) : EReal := normed (stream x mem g W w b cg cb wo R) j * gf j

/-- The last 30 gated rows of a sequence. -/
def past (s : Fin 8) (i : Fin 30) (c : Fin 768) : EReal := gates x g W (s.val * 4096 + 4066 + i.val) c.val
end

end Cert.Layer

end
-- ==== Proof.LayerZeroVal.lean ====
module

public import proofs.«01_k».proof.Proof.Gen.LayerZeroIdeal.Value
public import proofs.«01_k».proof.Proof.LayerZeroConv
public import proofs.«01_k».proof.Proof.Layer

/-! # The first layer's call: what its first two arrays and the convolution's state hold -/

@[expose] public section

set_option maxRecDepth 16384

noncomputable section

open Idealize.ShloMosaic Idealize.ShloMosaic.TcCoe Idealize.SL.Sem
open Idealize.ShloMosaic.Pipeline (Dat)

namespace Cert.LayerZeroIdeal.Val
open Cert.LayerZeroIdeal Cert.LayerZeroIdeal.Gen Cert.Attn Cert.Layer Cert.LayerZeroIdeal.Conv

abbrev lanes : IVec S256x256 32 := iota .tc S256x256 32 [1] iota_S256x256_d1_w32

theorem head0 (q : FVec Ideal S256x256 .f32) (K : FVec Ideal S1x1x256x256 .f32) (V : FVec Ideal S256x256 .bf16) (r l : Fin 256) :
    k0_pay101 (F := Ideal) V k0_pay98 k0_pay99 (k0_pay100 q K) (FloatOps.ofBits FTy.f32 1040187392#32) (ix2 r l) =
      if l.val / 64 = 0 then head (fun d => q (ix2 r d)) (fun d k => k0_pay96 (F := Ideal) K (ix2 d k)) (fun j k => V (ix2 j k)) 0 l else 0 := by
  pointwise [k0_pay98, k0_pay99, k0_pay100, k0_pay101]
  simp only [lane_head]
  simp only [show (0#32 : BitVec 32) = BitVec.ofNat 32 (0 : Fin 4).val from rfl, head_eq, select_ite]
  rfl

theorem head1 (q z : FVec Ideal S256x256 .f32) (K V : FVec Ideal S256x256 .bf16) (r l : Fin 256) :
    k0_pay104 (F := Ideal) V z (k0_pay102 lanes) (k0_pay103 q K lanes) (ix2 r l) =
      if l.val / 64 = 1 then head (fun d => q (ix2 r d)) (fun d k => K (ix2 d k)) (fun j k => V (ix2 j k)) 1 l else z (ix2 r l) := by
  pointwise [k0_pay102, k0_pay103, k0_pay104]
  simp only [lane_head]
  simp only [show (1#32 : BitVec 32) = BitVec.ofNat 32 (1 : Fin 4).val from rfl, head_eq, select_ite]
  rfl

theorem head2 (q z : FVec Ideal S256x256 .f32) (K V : FVec Ideal S256x256 .bf16) (r l : Fin 256) :
    k0_pay108 (F := Ideal) V z (k0_pay105 lanes) (k0_pay106 q K lanes) (k0_pay107 q K lanes) (ix2 r l) =
      if l.val / 64 = 2 then head (fun d => q (ix2 r d)) (fun d k => K (ix2 d k)) (fun j k => V (ix2 j k)) 2 l else z (ix2 r l) := by
  pointwise [k0_pay105, k0_pay106, k0_pay107, k0_pay108]
  simp only [lane_head]
  simp only [show (2#32 : BitVec 32) = BitVec.ofNat 32 (2 : Fin 4).val from rfl, head_eq, select_ite]
  rfl

theorem head3 (q z : FVec Ideal S256x256 .f32) (K V : FVec Ideal S256x256 .bf16) (r l : Fin 256) :
    k0_pay112 (F := Ideal) V z (k0_pay109 lanes) (k0_pay110 q K lanes) (k0_pay111 q K lanes) (ix2 r l) =
      if l.val / 64 = 3 then head (fun d => q (ix2 r d)) (fun d k => K (ix2 d k)) (fun j k => V (ix2 j k)) 3 l else z (ix2 r l) := by
  pointwise [k0_pay109, k0_pay110, k0_pay111, k0_pay112]
  simp only [lane_head]
  simp only [show (3#32 : BitVec 32) = BitVec.ofNat 32 (3 : Fin 4).val from rfl, head_eq, select_ite]
  rfl

/-- The four heads' 256 lanes of one tile. -/
abbrev om (q : FVec Ideal S256x256 .f32) (K : FVec Ideal S1x1x256x256 .f32) (V : FVec Ideal S256x256 .bf16) : FVec Ideal S256x256 .bf16 :=
  k0_pay112 (F := Ideal) V (k0_pay108 V (k0_pay104 V (k0_pay101 V k0_pay98 k0_pay99 (k0_pay100 q K) (FloatOps.ofBits FTy.f32 1040187392#32))
    (k0_pay102 lanes) (k0_pay103 q (k0_pay96 K) lanes)) (k0_pay105 lanes) (k0_pay106 q (k0_pay96 K) lanes) (k0_pay107 q (k0_pay96 K) lanes))
    (k0_pay109 lanes) (k0_pay110 q (k0_pay96 K) lanes) (k0_pay111 q (k0_pay96 K) lanes)

theorem heads (q : FVec Ideal S256x256 .f32) (K : FVec Ideal S1x1x256x256 .f32) (V : FVec Ideal S256x256 .bf16) (r l : Fin 256) :
    om q K V (ix2 r l)
      = attn (fun d => q (ix2 r d)) (fun d k => k0_pay96 (F := Ideal) K (ix2 d k)) (fun j k => V (ix2 j k)) l := by
  unfold om
  rw [head3, head2, head1, head0]
  unfold attn
  have hl : l.val / 64 < 4 := by have := l.isLt; omega
  generalize l.val / 64 = n at hl ⊢
  interval_cases n <;> simp

/-- The scratch the output projection reads, as a tile of rows. -/
def mixTile (x : FVec Ideal S256x768 .f32) (g b : FVec Ideal S1x768 .f32) (q : FVec Ideal S256x256 .f32) (K : FVec Ideal S1x1x256x256 .f32)
    (V : FVec Ideal S256x256 .bf16) : FVec Ideal S256x1024 .bf16 := fun i =>
  mixRow (silu (fun d => x (ix2 (i 0) d)) (fun d => g (ix2 0 d)) (fun d => b (ix2 0 d))) (fun d => q (ix2 (i 0) d))
    (fun d k => k0_pay96 (F := Ideal) K (ix2 d k)) (fun j k => V (ix2 j k)) (i 1)

theorem silu_apply (x : FVec Ideal S256x768 .f32) (g b : FVec Ideal S1x768 .f32) (r : Fin 256) (j : Fin 768) :
    k0_pay95 (F := Ideal) (k0_pay94 x g b) (ix2 r j)
      = silu (fun d => x (ix2 r d)) (fun d => g (ix2 0 d)) (fun d => b (ix2 0 d)) j := by
  pointwise [k0_pay94, k0_pay95, silu, lnorm, center]

theorem mix_read (x : FVec Ideal S256x768 .f32) (g b : FVec Ideal S1x768 .f32) (q : FVec Ideal S256x256 .f32) (K : FVec Ideal S1x1x256x256 .f32)
    (V : FVec Ideal S256x256 .bf16) :
    (View.whole cc0_scratch3).readCov (Val := Elt Ideal)
        [⟨Rect.unit ![0, 768] ![256, 256] inb_S256x1024_S256x256_0_768, om q K V⟩,
          ⟨Rect.unit ![0, 0] ![256, 768] inb_S256x1024_S256x768_0_0, k0_pay95 (F := Ideal) (k0_pay94 x g b)⟩]
        (Rect.unit ![0, 0] ![256, 1024] inb_S256x1024_S256x1024_0_0).toLoadRect = mixTile x g b q K V := by
  rw [View.readCov_eq_canon']
  funext j
  have hj : (Rect.unit (s := S256x1024) ![0, 0] ![256, 1024] inb_S256x1024_S256x1024_0_0).toLoadRect.idx j = j := by
    funext a; fin_cases a <;> apply Fin.ext <;> simp [Rect.toLoadRect]
  rw [hj]
  obtain ⟨j0, j1, rfl⟩ : ∃ (j0 : Fin 256) (j1 : Fin 1024), j = ix2 j0 j1 := ⟨j 0, j 1, by funext a; fin_cases a <;> rfl⟩
  refine View.canon_apply_of_pieces (Val := Elt Ideal) (S := S256x1024) (e := .bf16) (mixTile x g b q K V) _ ?_ (ix2 j0 j1) ?_
  · intro p hp
    simp only [List.mem_cons, List.not_mem_nil, or_false] at hp
    rcases hp with rfl | rfl
    · intro y
      obtain ⟨y0, y1, rfl⟩ : ∃ (y0 y1 : Fin 256), y = ix2 y0 y1 := ⟨y 0, y 1, by funext a; fin_cases a <;> rfl⟩
      have e : (Rect.unit (s := S256x1024) ![0, 768] ![256, 256] inb_S256x1024_S256x256_0_768).emb (ix2 y0 y1)
          = ix2 y0 (⟨768 + y1.val, by omega⟩ : Fin 1024) := by
        funext a; fin_cases a <;> apply Fin.ext <;> simp
      refine (heads q K V y0 y1).trans ?_
      rw [e]
      have h7 : ¬ (768 + y1.val < 768) := by omega
      refine Eq.trans ?_ (show mixRow (silu (fun d => x (ix2 y0 d)) (fun d => g (ix2 0 d)) (fun d => b (ix2 0 d))) (fun d => q (ix2 y0 d))
        (fun d k => k0_pay96 (F := Ideal) K (ix2 d k)) (fun j k => V (ix2 j k)) (⟨768 + y1.val, by omega⟩ : Fin 1024) = _ from rfl)
      simp only [mixRow, h7, dite_false, Nat.add_sub_cancel_left, Fin.eta]
    · intro y
      obtain ⟨y0, y1, rfl⟩ : ∃ (y0 : Fin 256) (y1 : Fin 768), y = ix2 y0 y1 := ⟨y 0, y 1, by funext a; fin_cases a <;> rfl⟩
      have e : (Rect.unit (s := S256x1024) ![0, 0] ![256, 768] inb_S256x1024_S256x768_0_0).emb (ix2 y0 y1)
          = ix2 y0 (⟨y1.val, by omega⟩ : Fin 1024) := by
        funext a; fin_cases a <;> apply Fin.ext <;> simp
      refine (silu_apply x g b y0 y1).trans ?_
      rw [e]
      refine Eq.trans ?_ (show mixRow (silu (fun d => x (ix2 y0 d)) (fun d => g (ix2 0 d)) (fun d => b (ix2 0 d))) (fun d => q (ix2 y0 d))
        (fun d k => k0_pay96 (F := Ideal) K (ix2 d k)) (fun j k => V (ix2 j k)) (⟨y1.val, by omega⟩ : Fin 1024) = _ from rfl)
      simp only [mixRow, y1.isLt, dite_true, Fin.eta]
  · by_cases h : j1.val < 768
    · refine ⟨_, List.mem_cons_of_mem _ (List.mem_cons_self), ?_⟩
      rw [Rect.mem_set_unit]
      intro a
      fin_cases a
      · exact ⟨Nat.zero_le _, by simpa using j0.isLt⟩
      · exact ⟨Nat.zero_le _, by simpa using h⟩
    · refine ⟨_, List.mem_cons_self, ?_⟩
      rw [Rect.mem_set_unit]
      intro a
      fin_cases a
      · exact ⟨Nat.zero_le _, by simpa using j0.isLt⟩
      · exact ⟨by simpa using h, by simpa using j1.isLt⟩

theorem up_apply (x : FVec Ideal S256x1024 .f32) (g : FVec Ideal S1x1024 .f32) (w : FVec Ideal S1024x1792 .bf16) (r : Fin 256) (j : Fin 1792) :
    k0_pay82 (F := Ideal) x g w (ix2 r j) = up (fun d => x (ix2 r d)) (fun d => g (ix2 0 d)) (fun d c => w (ix2 d c)) j := by
  pointwise [k0_pay82, k0_pay81, up, normed]

theorem gated_apply (x : FVec Ideal S256x1024 .f32) (g : FVec Ideal S1x1024 .f32) (w : FVec Ideal S1024x1792 .bf16) (r : Fin 256) (j : Fin 768) :
    k0_pay83 (F := Ideal) x g w (ix2 r j) = gated (fun d => x (ix2 r d)) (fun d => g (ix2 0 d)) (fun d c => w (ix2 d c)) j := by
  pointwise [k0_pay83]
  rw [up_apply, up_apply]
  rfl

theorem query_apply (x : FVec Ideal S256x1024 .f32) (g : FVec Ideal S1x1024 .f32) (w : FVec Ideal S1024x1792 .bf16) (r : Fin 256) (j : Fin 256) :
    k0_pay84 (F := Ideal) x g w (ix2 r j) = query (fun d => x (ix2 r d)) (fun d => g (ix2 0 d)) (fun d c => w (ix2 d c)) j := by
  pointwise [k0_pay84]
  rw [up_apply]
  rfl

theorem x1_apply (x : FVec Ideal S256x1024 .f32) (M : FVec Ideal S256x1024 .bf16) (w : FVec Ideal S1024x1024 .bf16) (r : Fin 256) (j : Fin 1024) :
    k0_pay113 (F := Ideal) (k0_pay81 x) M w (ix2 r j) = x (ix2 r j) + ∑ k : Fin 1024, M (ix2 r k) * w (ix2 k j) := by
  pointwise [k0_pay113, k0_pay81]

theorem hf_apply (x : FVec Ideal S256x1024 .f32) (M : FVec Ideal S256x1024 .bf16) (w : FVec Ideal S1024x1024 .bf16) (g : FVec Ideal S1x1024 .f32)
    (r : Fin 256) (j : Fin 1024) :
    k0_pay114 (F := Ideal) (k0_pay81 x) M w g (ix2 r j)
      = normed (fun k => k0_pay113 (F := Ideal) (k0_pay81 x) M w (ix2 r k)) j * g (ix2 0 j) := by
  pointwise [k0_pay114, k0_pay81, normed]

variable (m : (ℓ : Loc nD τ sig) → Buf (Elt Ideal) ℓ)

theorem idx : ∀ t : Fin cfg0.N, win0_0.index t = ![t.val, 0] ∧ win0_1.index t = ![t.val / 16, 0, 0]
    ∧ win0_2.index t = ![0, t.val / 16, 0, 0] ∧ win0_3.index t = ![0, t.val / 16, 1, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_14.index t = ![t.val, 0] ∧ win0_15.index t = ![t.val, 0] ∧ win0_18.index t = ![t.val / 16, 0, 0] :=
  (by decide +kernel : ∀ t : Fin grid0.N, _)

/-- The call's arguments. -/
abbrev A0 (c : Dev nD) : FVec Ideal S8x4096x1024 .f32 := m ((c : Thread nD τ).loc main_arg0)
abbrev A1 (c : Dev nD) : FVec Ideal S2x8x512x256 .f32 := m ((c : Thread nD τ).loc main_arg1)
abbrev A2 (c : Dev nD) : FVec Ideal S2x1024 .f32 := m ((c : Thread nD τ).loc main_arg2)
abbrev A3 (c : Dev nD) : FVec Ideal S1x1024x1792 .f32 := m ((c : Thread nD τ).loc main_arg3)
abbrev A4 (c : Dev nD) : FVec Ideal S1x31x768 .f32 := m ((c : Thread nD τ).loc main_arg4)
abbrev A5 (c : Dev nD) : FVec Ideal S1x768 .f32 := m ((c : Thread nD τ).loc main_arg5)
abbrev A6 (c : Dev nD) : FVec Ideal S1x768 .f32 := m ((c : Thread nD τ).loc main_arg6)
abbrev A7 (c : Dev nD) : FVec Ideal S1x768 .f32 := m ((c : Thread nD τ).loc main_arg7)
abbrev A8 (c : Dev nD) : FVec Ideal S1x1024x1024 .f32 := m ((c : Thread nD τ).loc main_arg8)
abbrev A9 (c : Dev nD) : FVec Ideal S2x1024 .f32 := m ((c : Thread nD τ).loc main_arg9)

theorem b0 (c : Dev nD) (t : Fin cfg0.N) (r : Fin 256) (d : Fin 1024) : (iblk m c 0 t : FVec Ideal S256x1024 .f32) (ix2 r d)
    = A0 m c (ix3 (⟨t.val / 16, by have := t.isLt; have : cfg0.N = 128 := rfl; omega⟩ : Fin 8)
        (⟨t.val % 16 * 256 + r.val, by omega⟩ : Fin 4096) d) := by
  blk_point [iblk, V, idx t]

theorem b1 (c : Dev nD) (t : Fin cfg0.N) (i) : (iblk m c 1 t : FVec Ideal S1x30x768 .f32) i = (0 : EReal) := by
  blk_point [iblk, V, idx t]

theorem b2 (c : Dev nD) (t : Fin cfg0.N) (d k : Fin 256) : k0_pay96 (F := Ideal) (iblk m c 2 t) (ix2 d k)
    = A1 m c (ix4 (0 : Fin 2) (⟨t.val / 16, by have := t.isLt; have : cfg0.N = 128 := rfl; omega⟩ : Fin 8) (⟨d.val, by omega⟩ : Fin 512) k) := by
  pointwise [k0_pay96]
  blk_point [iblk, V, idx t]

theorem b3 (c : Dev nD) (t : Fin cfg0.N) (d k : Fin 256) : k0_pay97 (F := Ideal) (iblk m c 3 t) (ix2 d k)
    = A1 m c (ix4 (0 : Fin 2) (⟨t.val / 16, by have := t.isLt; have : cfg0.N = 128 := rfl; omega⟩ : Fin 8) (⟨256 + d.val, by omega⟩ : Fin 512) k) := by
  pointwise [k0_pay97]
  blk_point [iblk, V, idx t]

theorem b4 (c : Dev nD) (t : Fin cfg0.N) (d : Fin 1024) : (iblk m c 4 t : FVec Ideal S1x1024 .f32) (ix2 0 d) = A2 m c (ix2 (0 : Fin 2) d) := by
  blk_point [iblk, V, idx t]

theorem b5 (c : Dev nD) (t : Fin cfg0.N) (d : Fin 1024) (k : Fin 1792) : (iblk m c 5 t : FVec Ideal S1024x1792 .bf16) (ix2 d k) = A3 m c (ix3 (0 : Fin 1) d k) := by
  blk_point [iblk, V, idx t]

theorem b6 (c : Dev nD) (t : Fin cfg0.N) (d : Fin 31) (k : Fin 768) : (iblk m c 6 t : FVec Ideal S31x768 .f32) (ix2 d k) = A4 m c (ix3 (0 : Fin 1) d k) := by
  blk_point [iblk, V, idx t]

theorem b7 (c : Dev nD) (t : Fin cfg0.N) (k : Fin 768) : (iblk m c 7 t : FVec Ideal S1x768 .f32) (ix2 0 k) = A5 m c (ix2 (0 : Fin 1) k) := by
  blk_point [iblk, V, idx t]

theorem b8 (c : Dev nD) (t : Fin cfg0.N) (k : Fin 768) : (iblk m c 8 t : FVec Ideal S1x768 .f32) (ix2 0 k) = A6 m c (ix2 (0 : Fin 1) k) := by
  blk_point [iblk, V, idx t]

theorem b9 (c : Dev nD) (t : Fin cfg0.N) (k : Fin 768) : (iblk m c 9 t : FVec Ideal S1x768 .f32) (ix2 0 k) = A7 m c (ix2 (0 : Fin 1) k) := by
  blk_point [iblk, V, idx t]

theorem b10 (c : Dev nD) (t : Fin cfg0.N) (d k : Fin 1024) : (iblk m c 10 t : FVec Ideal S1024x1024 .bf16) (ix2 d k) = A8 m c (ix3 (0 : Fin 1) d k) := by
  blk_point [iblk, V, idx t]

theorem b11 (c : Dev nD) (t : Fin cfg0.N) (d : Fin 1024) : (iblk m c 11 t : FVec Ideal S1x1024 .f32) (ix2 0 d) = A9 m c (ix2 (0 : Fin 2) d) := by
  blk_point [iblk, V, idx t]

end Cert.LayerZeroIdeal.Val

end
-- ==== Proof.LayerZeroOut.lean ====
module

public import proofs.«01_k».proof.Proof.LayerZeroVal

/-! # The first layer's call: tile by tile, then the whole arrays -/

@[expose] public section

set_option maxRecDepth 16384

noncomputable section

open Idealize.ShloMosaic Idealize.ShloMosaic.TcCoe Idealize.SL.Sem
open Idealize.ShloMosaic.Pipeline (Dat)

namespace Cert.LayerZeroIdeal.Val
open Cert.LayerZeroIdeal Cert.LayerZeroIdeal.Gen Cert.Attn Cert.Layer Cert.LayerZeroIdeal.Conv

variable (m : (ℓ : Loc nD τ sig) → Buf (Elt Ideal) ℓ)

/-- The arguments as functions of their coordinates. -/
abbrev fx (c : Dev nD) : Fin 8 → Fin 4096 → Fin 1024 → EReal := fun i j k => A0 m c (ix3 i j k)
abbrev fm (c : Dev nD) : Fin 8 → Fin 512 → Fin 256 → EReal := fun i j k => A1 m c (ix4 (0 : Fin 2) i j k)
abbrev fg (c : Dev nD) : Fin 1024 → EReal := fun d => A2 m c (ix2 (0 : Fin 2) d)
abbrev fW (c : Dev nD) : Fin 1024 → Fin 1792 → EReal := fun d k => A3 m c (ix3 (0 : Fin 1) d k)
abbrev fw (c : Dev nD) : Fin 31 → Fin 768 → EReal := fun d k => A4 m c (ix3 (0 : Fin 1) d k)
abbrev fb (c : Dev nD) : Fin 768 → EReal := fun k => A5 m c (ix2 (0 : Fin 1) k)
abbrev fcg (c : Dev nD) : Fin 768 → EReal := fun k => A6 m c (ix2 (0 : Fin 1) k)
abbrev fcb (c : Dev nD) : Fin 768 → EReal := fun k => A7 m c (ix2 (0 : Fin 1) k)
abbrev fwo (c : Dev nD) : Fin 1024 → Fin 1024 → EReal := fun d k => A8 m c (ix3 (0 : Fin 1) d k)
abbrev fgf (c : Dev nD) : Fin 1024 → EReal := fun d => A9 m c (ix2 (0 : Fin 2) d)

/-- The row of the whole that row `r` of tile `t` is. -/
abbrev at_ (t : Fin cfg0.N) (r : Fin 256) : Fin 32768 :=
  ⟨t.val * 256 + r.val, by have := t.isLt; have : cfg0.N = 128 := rfl; omega⟩

theorem b0_row (c : Dev nD) (t : Fin cfg0.N) (r : Fin 256) (d : Fin 1024) :
    (iblk m c 0 t : FVec Ideal S256x1024 .f32) (ix2 r d) = row (fx m c) (at_ t r) d := by
  rw [b0]
  unfold row
  refine congrArg (A0 m c) ?_
  have ht := t.isLt
  have hr := r.isLt
  have hN : cfg0.N = 128 := rfl
  funext a
  refine Fin.ext ?_
  fin_cases a
  · show t.val / 16 = (t.val * 256 + r.val) / 4096
    omega
  · show t.val % 16 * 256 + r.val = (t.val * 256 + r.val) % 4096
    omega
  · rfl

theorem gated_tile (c : Dev nD) (t : Fin cfg0.N) (r : Fin 256) (j : Fin 768) :
    k0_pay83 (F := Ideal) (iblk m c 0 t) (iblk m c 4 t) (iblk m c 5 t) (ix2 r j)
      = gates (fx m c) (fg m c) (fW m c) (t.val * 256 + r.val) j.val := by
  rw [gated_apply]
  simp only [b0_row, b4, b5]
  exact (ext2_val (fun R : Fin 32768 => gated (row (fx m c) R) (fg m c) (fW m c)) (at_ t r) j).symm

theorem query_tile (c : Dev nD) (t : Fin cfg0.N) (r : Fin 256) (j : Fin 256) :
    k0_pay84 (F := Ideal) (iblk m c 0 t) (iblk m c 4 t) (iblk m c 5 t) (ix2 r j)
      = query (row (fx m c) (at_ t r)) (fg m c) (fW m c) j := by
  rw [query_apply]
  simp only [b0_row, b4, b5]

/-- The rows the convolution of tile `t` runs over: 32 rows of the past, then the tile's own. -/
def rowsOf (c : Dev nD) (t : ℕ) (i j : ℕ) : EReal :=
  if 32 ≤ i ∨ t % 16 ≠ 0 then gates (fx m c) (fg m c) (fW m c) (t * 256 + i - 32) j else 0

abbrev piecesA (c : Dev nD) (t : Fin cfg0.N) : List (View.Piece (Elt Ideal) S288x768 .f32) :=
  [⟨Rect.unit (s := S288x768) ![32, 0] ![256, 768] inb_S288x768_S256x768_32_0, k0_pay83 (F := Ideal) (iblk m c 0 t) (iblk m c 4 t) (iblk m c 5 t)⟩,
    ⟨Rect.unit (s := S288x768) ![2, 0] ![30, 768] inb_S288x768_S30x768_2_0, k0_pay79 (F := Ideal) (iblk m c 1 t)⟩,
    ⟨Rect.unit (s := S288x768) ![0, 0] ![2, 768] inb_S288x768_S2x768_0_0, k0_pay78 (F := Ideal)⟩]

theorem rowsA (c : Dev nD) (t : Fin cfg0.N) (h0 : t.val % 16 = 0) (i : Fin 288) (j : Fin 768) :
    View.canon (Val := Elt Ideal) (piecesA m c t) (ix2 i j) = rowsOf m c t.val i.val j.val := by
  refine (rows3 _ _ _ _ _ _ i j).trans ?_
  unfold rowsOf
  by_cases h : 32 ≤ i.val
  · rw [dif_pos h, if_pos (Or.inl h), gated_tile]
    congr 1
    show t.val * 256 + (i.val - 32) = _
    omega
  · rw [dif_neg h, if_neg (by omega)]
    split
    · pointwise [k0_pay79]
      exact b1 m c t _
    · pointwise [k0_pay78]

abbrev piecesB (c : Dev nD) (t : Fin cfg0.N) (p : FVec Ideal S288x768 .f32) : List (View.Piece (Elt Ideal) S288x768 .f32) :=
  [⟨Rect.unit (s := S288x768) ![32, 0] ![256, 768] inb_S288x768_S256x768_32_0, k0_pay83 (F := Ideal) (iblk m c 0 t) (iblk m c 4 t) (iblk m c 5 t)⟩,
    ⟨Rect.unit (s := S288x768) ![0, 0] ![32, 768] inb_S288x768_S32x768_0_0,
      k0_pay80 (F := Ideal) (View.ld p (Rect.unit (s := S288x768) ![256, 0] ![32, 768] inb_S288x768_S32x768_256_0))⟩]

theorem rowsB (c : Dev nD) (t : Fin cfg0.N) (h0 : ¬ t.val % 16 = 0) (p : FVec Ideal S288x768 .f32)
    (hp : ∀ (i : Fin 288) (j : Fin 768), 32 ≤ i.val → p (ix2 i j) = rowsOf m c (t.val - 1) i.val j.val) (i : Fin 288) (j : Fin 768) :
    View.canon (Val := Elt Ideal) (piecesB m c t p) (ix2 i j) = rowsOf m c t.val i.val j.val := by
  refine (rows2 _ _ _ _ i j).trans ?_
  by_cases h : 32 ≤ i.val
  · unfold rowsOf
    rw [dif_pos h, if_pos (Or.inl h), gated_tile]
    congr 1
    show t.val * 256 + (i.val - 32) = _
    omega
  · rw [dif_neg h]
    have e : k0_pay80 (F := Ideal) (View.ld p (Rect.unit (s := S288x768) ![256, 0] ![32, 768] inb_S288x768_S32x768_256_0))
        (ix2 (⟨i.val, by omega⟩ : Fin 32) j) = p (ix2 (⟨256 + i.val, by omega⟩ : Fin 288) j) := by
      pointwise [k0_pay80]
    rw [e, hp _ _ (show 32 ≤ 256 + i.val by omega)]
    unfold rowsOf
    rw [if_pos (Or.inl (show 32 ≤ 256 + i.val by omega)), if_pos (Or.inr h0)]
    congr 1
    show (t.val - 1) * 256 + (256 + i.val) - 32 = _
    omega

theorem held (h : (Memref.whole cc0_scratch0 : Memref sig .tc .vmem S288x768 .f32).IsWhole) (p : FVec Ideal S288x768 .f32) :
    View.read (Elt Ideal) (View.whole cc0_scratch0) (h.unread p) = p :=
  Memref.IsWhole.read_unread (Val := Elt Ideal) h p

/-- What the scratch that carries the gated rows holds after tile `t`. -/
theorem scr (c : Dev nD) (n : ℕ) (hn : n < cfg0.N) (i : Fin 288) (j : Fin 768) :
    ((outsAt0 m c n hn).2.2.2.2.2 : FVec Ideal S288x768 .f32) (ix2 i j) = rowsOf m c n i.val j.val := by
  induction n using Nat.strong_induction_on generalizing i j with
  | _ n ih =>
    by_cases h0 : n % 16 = 0
    · rw [show outsAt0 m c n hn = _ from outsAt0_A m c ⟨n, hn⟩ h0 (by show ¬ 1 ≤ n % 16; omega) (by show ¬ n % 16 = 15; omega)]
      dsimp only
      frame_out
      exact rowsA m c ⟨n, hn⟩ h0 i j
    · have hp : ∀ (i : Fin 288) (j : Fin 768), 32 ≤ i.val →
          ((outsAt0 m c (n - 1) (by omega)).2.2.2.2.2 : FVec Ideal S288x768 .f32) (ix2 i j) = rowsOf m c (n - 1) i.val j.val :=
        fun i j _ => ih (n - 1) (by omega) (by omega) i j
      by_cases h2 : n % 16 = 15
      · rw [show outsAt0 m c n hn = _ from outsAt0_C m c ⟨n, hn⟩ h0 (by show 1 ≤ n % 16; omega) h2]
        dsimp only
        frame_out
        exact rowsB m c ⟨n, hn⟩ h0 _ (fun i j h => (congrFun (held _ _) _).trans (hp i j h)) i j
      · rw [show outsAt0 m c n hn = _ from outsAt0_B m c ⟨n, hn⟩ h0 (by show 1 ≤ n % 16; omega) h2]
        dsimp only
        frame_out
        exact rowsB m c ⟨n, hn⟩ h0 _ (fun i j h => (congrFun (held _ _) _).trans (hp i j h)) i j

/-- The convolution over a tile's rows is the causal one. -/
theorem conv_rows (c : Dev nD) (t : Fin cfg0.N) (r : Fin 256) (j : Fin 768) :
    conv (rowsOf m c t.val) (ext2 (fw m c)) (ext1 (fb m c)) r.val j.val
      = convRow (fx m c) (fg m c) (fW m c) (fw m c) (fb m c) (at_ t r) j := by
  unfold conv convRow causal
  refine congrArg _ (Finset.sum_congr rfl fun w _ => ?_)
  refine congrArg (· * _) ?_
  unfold rowsOf
  have hr := r.isLt
  refine if_congr ?_ ?_ rfl
  · show _ ↔ 30 ≤ (t.val * 256 + r.val) % 4096 + w
    omega
  · refine congrArg (fun n => gates _ _ _ n _) ?_
    show t.val * 256 + (r.val + w + 2) - 32 = t.val * 256 + r.val + w - 30
    omega

/-- The convolved tile. -/
def convTile (c : Dev nD) (t : Fin cfg0.N) : FVec Ideal S256x768 .f32 := fun j =>
  conv (rowsOf m c t.val) (ext2 (fw m c)) (ext1 (fb m c)) (j 0).val (j 1).val

/-- The tile the output projection reads. -/
abbrev mixT (c : Dev nD) (t : Fin cfg0.N) : FVec Ideal S256x1024 .bf16 :=
  mixTile (convTile m c t) (iblk m c 8 t) (iblk m c 9 t) (k0_pay84 (F := Ideal) (iblk m c 0 t) (iblk m c 4 t) (iblk m c 5 t))
    (iblk m c 2 t) (k0_pay97 (F := Ideal) (iblk m c 3 t))

theorem out14 (c : Dev nD) (t : Fin cfg0.N) : (outsAt0 m c t.val t.isLt).1
    = k0_pay113 (F := Ideal) (k0_pay81 (iblk m c 0 t)) (mixT m c t) (iblk m c 10 t) := by
  rcases (show (t.val % 16 = 0 ∧ ¬ 1 ≤ t.val % 16 ∧ ¬ t.val % 16 = 15) ∨ (¬ t.val % 16 = 0 ∧ 1 ≤ t.val % 16 ∧ ¬ t.val % 16 = 15)
      ∨ (¬ t.val % 16 = 0 ∧ 1 ≤ t.val % 16 ∧ t.val % 16 = 15) from by omega) with ⟨h0, h1, h2⟩ | ⟨h0, h1, h2⟩ | ⟨h0, h1, h2⟩
  · rw [outsAt0_A m c t h0 h1 h2]
    dsimp only
    frame_out
    generalize hCB : (View.whole cc0_scratch2).readCov (Val := Elt Ideal) _ _ = CB
    have hX : CB = convTile m c t := by
      refine hCB.symm.trans (conv_read (arg8 := ms0_6 t) (arg9 := ms0_7 t) (arg21 := Memref.whole cc0_scratch0) (arg22 := Memref.whole cc0_scratch1) (arg23 := Memref.whole cc0_scratch2) (Z := rowsOf m c t.val) (W := ext2 (fw m c)) (B := ext1 (fb m c)) (h8 := fun i j => ?_) (h9 := fun j => ?_)
        (h21 := fun i j => ?_) (h22 := fun s i j => ?_) ..)
      · refine (congrFun (Memref.IsWhole.read_unread _ _) _).trans ?_
        rw [b6]
        exact (ext2_val (fw m c) i j).symm
      · refine (congrFun (Memref.IsWhole.read_unread _ _) _).trans ?_
        rw [b7]
        exact (ext1_val (fb m c) j).symm
      · refine (congrFun (View.read_writes_junk_eq_canon _ _) _).trans ?_
        exact rowsA m c t h0 i j
      · exact shift_read _ _ _ _ _ _ _ _ _ _ _ _ _ _ _ (rowsA m c t h0) s i j
    subst hX
    rw [mix_read]
  · rw [outsAt0_B m c t h0 h1 h2]
    dsimp only
    frame_out
    generalize hCB : (View.whole cc0_scratch2).readCov (Val := Elt Ideal) _ _ = CB
    have hX : CB = convTile m c t := by
      refine hCB.symm.trans (conv_read (arg8 := ms0_6 t) (arg9 := ms0_7 t) (arg21 := Memref.whole cc0_scratch0) (arg22 := Memref.whole cc0_scratch1) (arg23 := Memref.whole cc0_scratch2) (Z := rowsOf m c t.val) (W := ext2 (fw m c)) (B := ext1 (fb m c)) (h8 := fun i j => ?_) (h9 := fun j => ?_)
        (h21 := fun i j => ?_) (h22 := fun s i j => ?_) ..)
      · refine (congrFun (Memref.IsWhole.read_unread _ _) _).trans ?_
        rw [b6]
        exact (ext2_val (fw m c) i j).symm
      · refine (congrFun (Memref.IsWhole.read_unread _ _) _).trans ?_
        rw [b7]
        exact (ext1_val (fb m c) j).symm
      · refine (congrFun (View.read_writes_junk_eq_canon _ _) _).trans ?_
        exact rowsB m c t h0 _ (fun i j _ => (congrFun (held _ _) _).trans (scr m c (t.val - 1) _ i j)) i j
      · exact shift_read _ _ _ _ _ _ _ _ _ _ _ _ _ _ _ (rowsB m c t h0 _ (fun i j _ => (congrFun (held _ _) _).trans (scr m c (t.val - 1) _ i j))) s i j
    subst hX
    rw [mix_read]
  · rw [outsAt0_C m c t h0 h1 h2]
    dsimp only
    frame_out
    generalize hCB : (View.whole cc0_scratch2).readCov (Val := Elt Ideal) _ _ = CB
    have hX : CB = convTile m c t := by
      refine hCB.symm.trans (conv_read (arg8 := ms0_6 t) (arg9 := ms0_7 t) (arg21 := Memref.whole cc0_scratch0) (arg22 := Memref.whole cc0_scratch1) (arg23 := Memref.whole cc0_scratch2) (Z := rowsOf m c t.val) (W := ext2 (fw m c)) (B := ext1 (fb m c)) (h8 := fun i j => ?_) (h9 := fun j => ?_)
        (h21 := fun i j => ?_) (h22 := fun s i j => ?_) ..)
      · refine (congrFun (Memref.IsWhole.read_unread _ _) _).trans ?_
        rw [b6]
        exact (ext2_val (fw m c) i j).symm
      · refine (congrFun (Memref.IsWhole.read_unread _ _) _).trans ?_
        rw [b7]
        exact (ext1_val (fb m c) j).symm
      · refine (congrFun (View.read_writes_junk_eq_canon _ _) _).trans ?_
        exact rowsB m c t h0 _ (fun i j _ => (congrFun (held _ _) _).trans (scr m c (t.val - 1) _ i j)) i j
      · exact shift_read _ _ _ _ _ _ _ _ _ _ _ _ _ _ _ (rowsB m c t h0 _ (fun i j _ => (congrFun (held _ _) _).trans (scr m c (t.val - 1) _ i j))) s i j
    subst hX
    rw [mix_read]

theorem out15 (c : Dev nD) (t : Fin cfg0.N) : (outsAt0 m c t.val t.isLt).2.1
    = k0_pay114 (F := Ideal) (k0_pay81 (iblk m c 0 t)) (mixT m c t) (iblk m c 10 t) (iblk m c 11 t) := by
  rcases (show (t.val % 16 = 0 ∧ ¬ 1 ≤ t.val % 16 ∧ ¬ t.val % 16 = 15) ∨ (¬ t.val % 16 = 0 ∧ 1 ≤ t.val % 16 ∧ ¬ t.val % 16 = 15)
      ∨ (¬ t.val % 16 = 0 ∧ 1 ≤ t.val % 16 ∧ t.val % 16 = 15) from by omega) with ⟨h0, h1, h2⟩ | ⟨h0, h1, h2⟩ | ⟨h0, h1, h2⟩
  · rw [outsAt0_A m c t h0 h1 h2]
    dsimp only
    frame_out
    generalize hCB : (View.whole cc0_scratch2).readCov (Val := Elt Ideal) _ _ = CB
    have hX : CB = convTile m c t := by
      refine hCB.symm.trans (conv_read (arg8 := ms0_6 t) (arg9 := ms0_7 t) (arg21 := Memref.whole cc0_scratch0) (arg22 := Memref.whole cc0_scratch1) (arg23 := Memref.whole cc0_scratch2) (Z := rowsOf m c t.val) (W := ext2 (fw m c)) (B := ext1 (fb m c)) (h8 := fun i j => ?_) (h9 := fun j => ?_)
        (h21 := fun i j => ?_) (h22 := fun s i j => ?_) ..)
      · refine (congrFun (Memref.IsWhole.read_unread _ _) _).trans ?_
        rw [b6]
        exact (ext2_val (fw m c) i j).symm
      · refine (congrFun (Memref.IsWhole.read_unread _ _) _).trans ?_
        rw [b7]
        exact (ext1_val (fb m c) j).symm
      · refine (congrFun (View.read_writes_junk_eq_canon _ _) _).trans ?_
        exact rowsA m c t h0 i j
      · exact shift_read _ _ _ _ _ _ _ _ _ _ _ _ _ _ _ (rowsA m c t h0) s i j
    subst hX
    rw [mix_read]
  · rw [outsAt0_B m c t h0 h1 h2]
    dsimp only
    frame_out
    generalize hCB : (View.whole cc0_scratch2).readCov (Val := Elt Ideal) _ _ = CB
    have hX : CB = convTile m c t := by
      refine hCB.symm.trans (conv_read (arg8 := ms0_6 t) (arg9 := ms0_7 t) (arg21 := Memref.whole cc0_scratch0) (arg22 := Memref.whole cc0_scratch1) (arg23 := Memref.whole cc0_scratch2) (Z := rowsOf m c t.val) (W := ext2 (fw m c)) (B := ext1 (fb m c)) (h8 := fun i j => ?_) (h9 := fun j => ?_)
        (h21 := fun i j => ?_) (h22 := fun s i j => ?_) ..)
      · refine (congrFun (Memref.IsWhole.read_unread _ _) _).trans ?_
        rw [b6]
        exact (ext2_val (fw m c) i j).symm
      · refine (congrFun (Memref.IsWhole.read_unread _ _) _).trans ?_
        rw [b7]
        exact (ext1_val (fb m c) j).symm
      · refine (congrFun (View.read_writes_junk_eq_canon _ _) _).trans ?_
        exact rowsB m c t h0 _ (fun i j _ => (congrFun (held _ _) _).trans (scr m c (t.val - 1) _ i j)) i j
      · exact shift_read _ _ _ _ _ _ _ _ _ _ _ _ _ _ _ (rowsB m c t h0 _ (fun i j _ => (congrFun (held _ _) _).trans (scr m c (t.val - 1) _ i j))) s i j
    subst hX
    rw [mix_read]
  · rw [outsAt0_C m c t h0 h1 h2]
    dsimp only
    frame_out
    generalize hCB : (View.whole cc0_scratch2).readCov (Val := Elt Ideal) _ _ = CB
    have hX : CB = convTile m c t := by
      refine hCB.symm.trans (conv_read (arg8 := ms0_6 t) (arg9 := ms0_7 t) (arg21 := Memref.whole cc0_scratch0) (arg22 := Memref.whole cc0_scratch1) (arg23 := Memref.whole cc0_scratch2) (Z := rowsOf m c t.val) (W := ext2 (fw m c)) (B := ext1 (fb m c)) (h8 := fun i j => ?_) (h9 := fun j => ?_)
        (h21 := fun i j => ?_) (h22 := fun s i j => ?_) ..)
      · refine (congrFun (Memref.IsWhole.read_unread _ _) _).trans ?_
        rw [b6]
        exact (ext2_val (fw m c) i j).symm
      · refine (congrFun (Memref.IsWhole.read_unread _ _) _).trans ?_
        rw [b7]
        exact (ext1_val (fb m c) j).symm
      · refine (congrFun (View.read_writes_junk_eq_canon _ _) _).trans ?_
        exact rowsB m c t h0 _ (fun i j _ => (congrFun (held _ _) _).trans (scr m c (t.val - 1) _ i j)) i j
      · exact shift_read _ _ _ _ _ _ _ _ _ _ _ _ _ _ _ (rowsB m c t h0 _ (fun i j _ => (congrFun (held _ _) _).trans (scr m c (t.val - 1) _ i j))) s i j
    subst hX
    rw [mix_read]

theorem row_same (t : Fin cfg0.N) (r : Fin 256) : (at_ t r).val / 4096 = t.val / 16 := by
  have hr := r.isLt
  show (t.val * 256 + r.val) / 4096 = t.val / 16
  omega

theorem mixT_apply (c : Dev nD) (t : Fin cfg0.N) (r : Fin 256) (k : Fin 1024) :
    mixT m c t (ix2 r k) = mixed (fx m c) (fm m c) (fg m c) (fW m c) (fw m c) (fb m c) (fcg m c) (fcb m c) (at_ t r) k := by
  show mixRow _ _ _ _ k = mixRow _ _ _ _ k
  congr 1
  · refine congr (congr (congrArg silu ?_) ?_) ?_
    · funext j
      exact conv_rows m c t r j
    · funext d
      exact b8 m c t d
    · funext d
      exact b9 m c t d
  · funext d
    exact query_tile m c t r d
  · funext d k
    exact (b2 m c t d k).trans (congrArg (fun b => A1 m c (ix4 (0 : Fin 2) b (⟨d.val, by omega⟩ : Fin 512) k)) (Fin.ext (row_same t r).symm))
  · funext d k
    exact (b3 m c t d k).trans (congrArg (fun b => A1 m c (ix4 (0 : Fin 2) b (⟨256 + d.val, by omega⟩ : Fin 512) k)) (Fin.ext (row_same t r).symm))

theorem point14 (c : Dev nD) (t : Fin cfg0.N) (r : Fin 256) (j : Fin 1024) :
    k0_pay113 (F := Ideal) (k0_pay81 (iblk m c 0 t)) (mixT m c t) (iblk m c 10 t) (ix2 r j)
      = stream (fx m c) (fm m c) (fg m c) (fW m c) (fw m c) (fb m c) (fcg m c) (fcb m c) (fwo m c) (at_ t r) j := by
  rw [x1_apply, b0_row]
  simp only [mixT_apply, b10]
  rfl

theorem point15 (c : Dev nD) (t : Fin cfg0.N) (r : Fin 256) (j : Fin 1024) :
    k0_pay114 (F := Ideal) (k0_pay81 (iblk m c 0 t)) (mixT m c t) (iblk m c 10 t) (iblk m c 11 t) (ix2 r j)
      = nrm (fx m c) (fm m c) (fg m c) (fW m c) (fw m c) (fb m c) (fcg m c) (fcb m c) (fwo m c) (fgf m c) (at_ t r) j := by
  rw [hf_apply, b11]
  simp only [point14]
  rfl

/-- The three arrays the call leaves. -/
abbrev X1m (c : Dev nD) : FVec Ideal S32768x1024 .f32 := fun i =>
  stream (fx m c) (fm m c) (fg m c) (fW m c) (fw m c) (fb m c) (fcg m c) (fcb m c) (fwo m c) (i 0) (i 1)
abbrev HFm (c : Dev nD) : FVec Ideal S32768x1024 .f32 := fun i =>
  nrm (fx m c) (fm m c) (fg m c) (fW m c) (fw m c) (fb m c) (fcg m c) (fcb m c) (fwo m c) (fgf m c) (i 0) (i 1)
abbrev NCm (c : Dev nD) : FVec Ideal S8x30x768 .f32 := fun i => past (fx m c) (fg m c) (fW m c) (i 0) (i 1) (i 2)

theorem final14 (c : Dev nD) : (dats m 0 c).arrAt 14 cfg0.N = X1m m c := by
  refine (dats m 0 c).arrAt_eq_of_covers 14 _ (by decide +kernel) fun t _ y => ?_
  blk_simp
  rw [after0_14, out14]
  obtain ⟨y0, y1, rfl⟩ : ∃ (y0 : Fin 256) (y1 : Fin 1024), y = ix2 y0 y1 := ⟨y 0, y 1, by funext a; fin_cases a <;> rfl⟩
  refine (point14 m c t y0 y1).trans (congrArg (X1m m c) (?_ : ix2 (at_ t y0) y1 = _))
  blk_ext [idx t]

theorem final15 (c : Dev nD) : (dats m 0 c).arrAt 15 cfg0.N = HFm m c := by
  refine (dats m 0 c).arrAt_eq_of_covers 15 _ (by decide +kernel) fun t _ y => ?_
  blk_simp
  rw [after0_15, out15]
  obtain ⟨y0, y1, rfl⟩ : ∃ (y0 : Fin 256) (y1 : Fin 1024), y = ix2 y0 y1 := ⟨y 0, y 1, by funext a; fin_cases a <;> rfl⟩
  refine (point15 m c t y0 y1).trans (congrArg (HFm m c) (?_ : ix2 (at_ t y0) y1 = _))
  blk_ext [idx t]

theorem plane_cast (f : FVec Ideal S30x768 .f32) (i : Fin 30) (j : Fin 768) (z : Fin 1) (h) :
    shapeCast S1x30x768 f h (ix3 z i j) = f (ix2 i j) := by
  pointwise

theorem out18 (c : Dev nD) (t : Fin cfg0.N) (h2 : t.val % 16 = 15) (z : Fin 1) (i : Fin 30) (j : Fin 768) :
    ((outsAt0 m c t.val t.isLt).2.2.2.2.1 : FVec Ideal S1x30x768 .f32) (ix3 z i j)
      = past (fx m c) (fg m c) (fW m c) (⟨t.val / 16, by have := t.isLt; have : cfg0.N = 128 := rfl; omega⟩ : Fin 8) i j := by
  have h0 : ¬ t.val % 16 = 0 := by omega
  have h1 : 1 ≤ t.val % 16 := by omega
  rw [outsAt0_C m c t h0 h1 h2]
  dsimp only
  frame_out
  rw [View.readCov_eq_canon']
  refine (plane_cast _ i j z _).trans ?_
  have e : (Rect.unit (s := S288x768) ![258, 0] ![30, 768] inb_S288x768_S30x768_258_0).toLoadRect.idx (ix2 i j)
      = ix2 (⟨258 + i.val, by omega⟩ : Fin 288) j := by
    funext a
    refine Fin.ext ?_
    fin_cases a
    · show 258 + 1 * i.val = 258 + i.val
      omega
    · show 0 + 1 * j.val = j.val
      omega
  refine (congrArg (View.canon (Val := Elt Ideal) (piecesB m c t _)) e).trans ?_
  refine (rowsB m c t h0 _ (fun i j _ => (congrFun (held _ _) _).trans (scr m c (t.val - 1) _ i j)) _ j).trans ?_
  unfold rowsOf past
  rw [if_pos (Or.inr h0)]
  refine congrArg (fun n => gates _ _ _ n _) ?_
  show t.val * 256 + (258 + i.val) - 32 = t.val / 16 * 4096 + 4066 + i.val
  omega

end Cert.LayerZeroIdeal.Val

end
-- ==== Proof.LayerZeroRun.lean ====
module

public import proofs.«01_k».proof.Proof.LayerZeroOut

/-! # The first layer's call: the run -/

@[expose] public section

set_option maxRecDepth 16384

noncomputable section

open Idealize.ShloMosaic Idealize.ShloMosaic.TcCoe Idealize.SL.Sem
open Idealize.ShloMosaic.Pipeline (Dat)

namespace Cert.LayerZeroIdeal.Val
open Cert.LayerZeroIdeal Cert.LayerZeroIdeal.Gen Cert.Attn Cert.Layer Cert.LayerZeroIdeal.Conv

variable (m : (ℓ : Loc nD τ sig) → Buf (Elt Ideal) ℓ)

theorem cov18 : (cfg0.win 18).Covers := by decide +kernel

theorem emb18 (t : Fin cfg0.N) (y0 : Fin 1) (y1 : Fin 30) (y2 : Fin 768) :
    ix3 (⟨t.val / 16, by have := t.isLt; have : cfg0.N = 128 := rfl; omega⟩ : Fin 8) y1 y2
      = ((cfg0.win 18).blk t).view.emb (ix3 y0 y1 y2) := by
  blk_ext [idx t]

theorem past_at (c : Dev nD) (y0 : Fin 8) (y1 : Fin 30) (y2 : Fin 768) (i : S8x30x768.Idx) (h : ix3 y0 y1 y2 = i) :
    past (fx m c) (fg m c) (fW m c) y0 y1 y2 = NCm m c i := by
  subst h
  rfl

theorem split18 (y : S1x30x768.Idx) : y = ix3 (y 0 : Fin 1) (y 1 : Fin 30) (y 2 : Fin 768) := by
  funext a
  fin_cases a <;> rfl

theorem point18 (c : Dev nD) (t : Fin cfg0.N) (hf : (cfg0.win 18).flush t = true) (y : S1x30x768.Idx) :
    ((outsAt0 m c t.val t.isLt).2.2.2.2.1 : FVec Ideal S1x30x768 .f32) y = NCm m c (((cfg0.win 18).blk t).view.emb y) := by
  have h2 := (flush0_18 t).1 hf
  have e : ∃ (y0 : Fin 1) (y1 : Fin 30) (y2 : Fin 768), y = ix3 y0 y1 y2 := ⟨y 0, y 1, y 2, split18 y⟩
  obtain ⟨y0, y1, y2, rfl⟩ := e
  rw [out18 m c t h2 y0 y1 y2]
  exact past_at m c _ y1 y2 _ (emb18 t y0 y1 y2)

theorem final18 (c : Dev nD) : (dats m 0 c).arrAt 18 cfg0.N = NCm m c := by
  refine (dats m 0 c).arrAt_eq_of_covers 18 _ cov18 fun t hf y => ?_
  blk_simp
  rw [after0_18]
  exact point18 m c t hf y

/-- The run of the kernel's program: three of its results in closed form, its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v32_0) = X1m m c
      ∧ r.2.mem ((c.tc : Thread nD τ).loc main_v32_1) = HFm m c
      ∧ r.2.mem ((c.tc : Thread nD τ).loc main_v32_4) = NCm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (final14 m c), (h c).2.1.trans (final15 m c), (h c).2.2.2.2.1.trans (final18 m c),
    (h c).2.2.2.2.2⟩) (Value.run_blocks m ρ)

end Cert.LayerZeroIdeal.Val

end
-- ==== Proof.LayerZeroRefVal.lean ====
module

public import proofs.«01_k».proof.Proof.Gen.LayerZeroRefIdeal.Run
public import proofs.«01_k».proof.Proof.Layer
public import Idealize.ShloMosaic.Lib.Pipeline.ValueKit

/-! # The first layer's call: what the reference's three results hold -/

@[expose] public section

set_option maxRecDepth 16384

noncomputable section

open Idealize.ShloMosaic Idealize.ShloMosaic.TcCoe Idealize.SL.Sem
open Idealize.ShloMosaic.Pipeline (Dat)

namespace Cert.LayerZeroRefIdeal.Val
open Cert.LayerZeroRefIdeal Cert.LayerZeroRefIdeal.Gen Cert.LayerZeroRefIdeal.Value Cert.Attn Cert.Layer

/-- The input projection of the normalised, scaled rows. -/
def proj (A0 : FVec Ideal S8x4096x1024 .f32) (A2 : FVec Ideal S2x1024 .f32) (A3 : FVec Ideal S1x1024x1792 .f32) : FVec Ideal S8x4096x1792 .f32 :=
  Host.dotGeneral dot_S8x4096x1024_S1024x1792_S8x4096x1792_2_0_01_1_n_n none (mulf (mulf A0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf A0 A0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] A2 slices_S2x1024_S1x1024_0_0) shapeCasts_S1x1024_S1024)))) (shapeCast _ A3 shapeCasts_S1x1024x1792_S1024x1792)

/-- Thirty zero rows, then the gated rows. -/
def ext (U : FVec Ideal S8x4096x1792 .f32) : FVec Ideal S8x4126x768 .f32 :=
  concatenate S8x4126x768 1 [⟨S8x30x768, (broadcastInDim S8x30x768 ![] bcast_S_S8x30x768 (constant S_ .f32 0x00000000#32))⟩, ⟨S8x4096x768, (mulf (extractStridedSlice S8x4096x768 ![0, 0, 0] U slices_S8x4096x1792_S8x4096x768_0_0_0) (Host.divf (broadcastInDim S8x4096x768 ![] bcast_S_S8x4096x768 (constant S_ .f32 0x3F800000#32)) (addf (broadcastInDim S8x4096x768 ![] bcast_S_S8x4096x768 (constant S_ .f32 0x3F800000#32)) (Host.exp (Host.negf (extractStridedSlice S8x4096x768 ![0, 0, 768] U slices_S8x4096x1792_S8x4096x768_0_0_768))))))⟩] concatenates_S8x30x768_S8x4096x768_S8x4126x768_d1

/-- One tap: the rows from row `o` on, times the tap's weights. -/
def tap (R28 : FVec Ideal S8x4126x768 .f32) (A4 : FVec Ideal S1x31x768 .f32) (o : Fin 3 → ℕ) (h : S8x4126x768.Slices o S8x4096x768)
    (h' : S1x31x768.Slices o S1x1x768) : FVec Ideal S8x4096x768 .f32 :=
  mulf (extractStridedSlice S8x4096x768 o R28 h) (broadcastInDim S8x4096x768 ![0, 1, 2] bcast_S1x1x768_S8x4096x768_0_1_2
    (broadcastInDim S1x1x768 ![2] bcast_S768_S1x1x768_2 (shapeCast _ (extractStridedSlice S1x1x768 o A4 h') shapeCasts_S1x1x768_S768)))

/-- Taps 0 to 10. -/
def taps0 (R28 : FVec Ideal S8x4126x768 .f32) (A4 : FVec Ideal S1x31x768 .f32) : FVec Ideal S8x4096x768 .f32 :=
  addf (addf (addf (addf (addf (addf (addf (addf (addf (addf (addf (broadcastInDim S8x4096x768 ![] bcast_S_S8x4096x768 (constant S_ .f32 0x00000000#32)) (tap R28 A4 ![0, 0, 0] slices_S8x4126x768_S8x4096x768_0_0_0 slices_S1x31x768_S1x1x768_0_0_0)) (tap R28 A4 ![0, 1, 0] slices_S8x4126x768_S8x4096x768_0_1_0 slices_S1x31x768_S1x1x768_0_1_0)) (tap R28 A4 ![0, 2, 0] slices_S8x4126x768_S8x4096x768_0_2_0 slices_S1x31x768_S1x1x768_0_2_0)) (tap R28 A4 ![0, 3, 0] slices_S8x4126x768_S8x4096x768_0_3_0 slices_S1x31x768_S1x1x768_0_3_0)) (tap R28 A4 ![0, 4, 0] slices_S8x4126x768_S8x4096x768_0_4_0 slices_S1x31x768_S1x1x768_0_4_0)) (tap R28 A4 ![0, 5, 0] slices_S8x4126x768_S8x4096x768_0_5_0 slices_S1x31x768_S1x1x768_0_5_0)) (tap R28 A4 ![0, 6, 0] slices_S8x4126x768_S8x4096x768_0_6_0 slices_S1x31x768_S1x1x768_0_6_0)) (tap R28 A4 ![0, 7, 0] slices_S8x4126x768_S8x4096x768_0_7_0 slices_S1x31x768_S1x1x768_0_7_0)) (tap R28 A4 ![0, 8, 0] slices_S8x4126x768_S8x4096x768_0_8_0 slices_S1x31x768_S1x1x768_0_8_0)) (tap R28 A4 ![0, 9, 0] slices_S8x4126x768_S8x4096x768_0_9_0 slices_S1x31x768_S1x1x768_0_9_0)) (tap R28 A4 ![0, 10, 0] slices_S8x4126x768_S8x4096x768_0_10_0 slices_S1x31x768_S1x1x768_0_10_0)

/-- Taps 11 to 21. -/
def taps1 (R107 : FVec Ideal S8x4096x768 .f32) (R28 : FVec Ideal S8x4126x768 .f32) (A4 : FVec Ideal S1x31x768 .f32) : FVec Ideal S8x4096x768 .f32 :=
  addf (addf (addf (addf (addf (addf (addf (addf (addf (addf (addf R107 (tap R28 A4 ![0, 11, 0] slices_S8x4126x768_S8x4096x768_0_11_0 slices_S1x31x768_S1x1x768_0_11_0)) (tap R28 A4 ![0, 12, 0] slices_S8x4126x768_S8x4096x768_0_12_0 slices_S1x31x768_S1x1x768_0_12_0)) (tap R28 A4 ![0, 13, 0] slices_S8x4126x768_S8x4096x768_0_13_0 slices_S1x31x768_S1x1x768_0_13_0)) (tap R28 A4 ![0, 14, 0] slices_S8x4126x768_S8x4096x768_0_14_0 slices_S1x31x768_S1x1x768_0_14_0)) (tap R28 A4 ![0, 15, 0] slices_S8x4126x768_S8x4096x768_0_15_0 slices_S1x31x768_S1x1x768_0_15_0)) (tap R28 A4 ![0, 16, 0] slices_S8x4126x768_S8x4096x768_0_16_0 slices_S1x31x768_S1x1x768_0_16_0)) (tap R28 A4 ![0, 17, 0] slices_S8x4126x768_S8x4096x768_0_17_0 slices_S1x31x768_S1x1x768_0_17_0)) (tap R28 A4 ![0, 18, 0] slices_S8x4126x768_S8x4096x768_0_18_0 slices_S1x31x768_S1x1x768_0_18_0)) (tap R28 A4 ![0, 19, 0] slices_S8x4126x768_S8x4096x768_0_19_0 slices_S1x31x768_S1x1x768_0_19_0)) (tap R28 A4 ![0, 20, 0] slices_S8x4126x768_S8x4096x768_0_20_0 slices_S1x31x768_S1x1x768_0_20_0)) (tap R28 A4 ![0, 21, 0] slices_S8x4126x768_S8x4096x768_0_21_0 slices_S1x31x768_S1x1x768_0_21_0)

/-- Taps 22 to 30, and the bias. -/
def taps2 (R184 : FVec Ideal S8x4096x768 .f32) (R28 : FVec Ideal S8x4126x768 .f32) (A4 : FVec Ideal S1x31x768 .f32) (A5 : FVec Ideal S1x768 .f32) : FVec Ideal S8x4096x768 .f32 :=
  addf (addf (addf (addf (addf (addf (addf (addf (addf (addf R184 (tap R28 A4 ![0, 22, 0] slices_S8x4126x768_S8x4096x768_0_22_0 slices_S1x31x768_S1x1x768_0_22_0)) (tap R28 A4 ![0, 23, 0] slices_S8x4126x768_S8x4096x768_0_23_0 slices_S1x31x768_S1x1x768_0_23_0)) (tap R28 A4 ![0, 24, 0] slices_S8x4126x768_S8x4096x768_0_24_0 slices_S1x31x768_S1x1x768_0_24_0)) (tap R28 A4 ![0, 25, 0] slices_S8x4126x768_S8x4096x768_0_25_0 slices_S1x31x768_S1x1x768_0_25_0)) (tap R28 A4 ![0, 26, 0] slices_S8x4126x768_S8x4096x768_0_26_0 slices_S1x31x768_S1x1x768_0_26_0)) (tap R28 A4 ![0, 27, 0] slices_S8x4126x768_S8x4096x768_0_27_0 slices_S1x31x768_S1x1x768_0_27_0)) (tap R28 A4 ![0, 28, 0] slices_S8x4126x768_S8x4096x768_0_28_0 slices_S1x31x768_S1x1x768_0_28_0)) (tap R28 A4 ![0, 29, 0] slices_S8x4126x768_S8x4096x768_0_29_0 slices_S1x31x768_S1x1x768_0_29_0)) (tap R28 A4 ![0, 30, 0] slices_S8x4126x768_S8x4096x768_0_30_0 slices_S1x31x768_S1x1x768_0_30_0)) (broadcastInDim S8x4096x768 ![0, 1, 2] bcast_S1x1x768_S8x4096x768_0_1_2 (broadcastInDim S1x1x768 ![2] bcast_S768_S1x1x768_2 (shapeCast _ A5 shapeCasts_S1x768_S768)))

/-- Rows less their mean. -/
def cent (R251 : FVec Ideal S8x4096x768 .f32) : FVec Ideal S8x4096x768 .f32 :=
  subf R251 (broadcastInDim S8x4096x768 ![0, 1, 2] bcast_S8x4096x1_S8x4096x768_0_1_2 (Host.divf (broadcastInDim S8x4096x1 ![0, 1] bcast_S8x4096_S8x4096x1_0_1 (Host.reduceAdd R251 (constant S_ .f32 0x00000000#32) reducesTo_S8x4096x768_S8x4096_d2 h_S_)) (broadcastInDim S8x4096x1 ![] bcast_S_S8x4096x1 (constant S_ .f32 0x44400000#32))))

/-- Layer normalisation of centred rows. -/
def lay (R257 : FVec Ideal S8x4096x768 .f32) (A6 A7 : FVec Ideal S1x768 .f32) : FVec Ideal S8x4096x768 .f32 :=
  addf (mulf (mulf R257 (broadcastInDim S8x4096x768 ![0, 1, 2] bcast_S8x4096x1_S8x4096x768_0_1_2 (Host.rsqrt (addf (Host.divf (broadcastInDim S8x4096x1 ![0, 1] bcast_S8x4096_S8x4096x1_0_1 (Host.reduceAdd (mulf R257 R257) (constant S_ .f32 0x00000000#32) reducesTo_S8x4096x768_S8x4096_d2 h_S_)) (broadcastInDim S8x4096x1 ![] bcast_S_S8x4096x1 (constant S_ .f32 0x44400000#32))) (broadcastInDim S8x4096x1 ![] bcast_S_S8x4096x1 (constant S_ .f32 0x358637BD#32)))))) (broadcastInDim S8x4096x768 ![0, 1, 2] bcast_S1x1x768_S8x4096x768_0_1_2 (broadcastInDim S1x1x768 ![2] bcast_S768_S1x1x768_2 (shapeCast _ A6 shapeCasts_S1x768_S768)))) (broadcastInDim S8x4096x768 ![0, 1, 2] bcast_S1x1x768_S8x4096x768_0_1_2 (broadcastInDim S1x1x768 ![2] bcast_S768_S1x1x768_2 (shapeCast _ A7 shapeCasts_S1x768_S768)))

/-- `y * sigmoid y`. -/
def act (R275 : FVec Ideal S8x4096x768 .f32) : FVec Ideal S8x4096x768 .f32 :=
  mulf R275 (Host.divf (broadcastInDim S8x4096x768 ![] bcast_S_S8x4096x768 (constant S_ .f32 0x3F800000#32)) (addf (broadcastInDim S8x4096x768 ![] bcast_S_S8x4096x768 (constant S_ .f32 0x3F800000#32)) (Host.exp (Host.negf R275))))

/-- The memory's keys of layer 0 by batch, position, head and lane. -/
def keys (A1 : FVec Ideal S2x8x512x256 .f32) : FVec Ideal S8x256x4x64 .f32 :=
  transpose S8x256x4x64 [0, 3, 1, 2] (shapeCast _ (shapeCast _ (extractStridedSlice S1x8x256x256 ![0, 0, 0, 0] A1 slices_S2x8x512x256_S1x8x256x256_0_0_0_0) shapeCasts_S1x8x256x256_S8x256x256) shapeCasts_S8x256x256_S8x4x64x256) transposes_S8x4x64x256_S8x256x4x64_0_3_1_2

/-- The memory's values of layer 0, the same way. -/
def vals (A1 : FVec Ideal S2x8x512x256 .f32) : FVec Ideal S8x256x4x64 .f32 :=
  transpose S8x256x4x64 [0, 3, 1, 2] (shapeCast _ (shapeCast _ (extractStridedSlice S1x8x256x256 ![0, 0, 256, 0] A1 slices_S2x8x512x256_S1x8x256x256_0_0_256_0) shapeCasts_S1x8x256x256_S8x256x256) shapeCasts_S8x256x256_S8x4x64x256) transposes_S8x4x64x256_S8x256x4x64_0_3_1_2

/-- The scores. -/
def scores (R16 : FVec Ideal S8x4096x1792 .f32) (K : FVec Ideal S8x256x4x64 .f32) : FVec Ideal S8x4x4096x256 .f32 :=
  mulf (Host.dotGeneral dot_S8x4096x4x64_S8x256x4x64_S8x4x4096x256_3_3_1_1_02_02 none (shapeCast _ (extractStridedSlice S8x4096x256 ![0, 0, 1536] R16 slices_S8x4096x1792_S8x4096x256_0_0_1536) shapeCasts_S8x4096x256_S8x4096x4x64) K) (broadcastInDim S8x4x4096x256 ![] bcast_S_S8x4x4096x256 (constant S_ .f32 0x3E000000#32))

/-- The attention of the rows. -/
def attended (V : FVec Ideal S8x256x4x64 .f32) (R301 : FVec Ideal S8x4x4096x256 .f32) : FVec Ideal S8x4096x256 .f32 :=
  shapeCast S8x4096x256 (transpose S8x4096x4x64 [0, 3, 1, 2] (Host.dotGeneral dot_S8x256x4x64_S8x4x4096x256_S8x4x64x4096_1_3_3_2_02_01 none V (Host.divf R301 (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd R301 (constant S_ .f32 0x00000000#32) reducesTo_S8x4x4096x256_S8x4x4096_d3 h_S_))))) transposes_S8x4x64x4096_S8x4096x4x64_0_3_1_2) shapeCasts_S8x4096x4x64_S8x4096x256

/-- The rows after the output projection. -/
def projected (A0 : FVec Ideal S8x4096x1024 .f32) (C : FVec Ideal S8x4096x768 .f32) (O : FVec Ideal S8x4096x256 .f32) (A8 : FVec Ideal S1x1024x1024 .f32) : FVec Ideal S8x4096x1024 .f32 :=
  addf A0 (Host.dotGeneral dot_S8x4096x1024_S1024x1024_S8x4096x1024_2_0_01_1_n_n none (concatenate S8x4096x1024 2 [⟨S8x4096x768, C⟩, ⟨S8x4096x256, O⟩] concatenates_S8x4096x768_S8x4096x256_S8x4096x1024_d2) (shapeCast _ A8 shapeCasts_S1x1024x1024_S1024x1024))

/-- The normalised rows, scaled. -/
def scaled (X : FVec Ideal S8x4096x1024 .f32) (A9 : FVec Ideal S2x1024 .f32) : FVec Ideal S32768x1024 .f32 :=
  shapeCast _ (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] A9 slices_S2x1024_S1x1024_0_0) shapeCasts_S1x1024_S1024)))) shapeCasts_S8x4096x1024_S32768x1024

/-- The greatest score of a row. -/
def rowMax (S : FVec Ideal S8x4x4096x256 .f32) : FVec Ideal S8x4x4096 .f32 :=
  Host.reduce FloatOps.maximumf S (constant S_ .f32 0xFF800000#32) reducesTo_S8x4x4096x256_S8x4x4096_d3 h_S_

theorem rowMax_apply (S : FVec Ideal S8x4x4096x256 .f32) (b : Fin 8) (h : Fin 4) (t : Fin 4096) :
    rowMax S (ix3 b h t) = top (fun k => S (ix4 b h t k)) := by
  unfold rowMax
  have hr : S8x4x4096x256.Reduces [3] S8x4x4096 := ⟨rfl, by decide, reducesTo_S8x4x4096x256_S8x4x4096_d3.2⟩
  rw [Host.reduce_eq_fold_single FloatOps.maximumf S _ _ hr]
  have hf : (S ∘ hr.lift (ix3 b h t)) = fun k : Fin 256 => S (ix4 b h t k) := by
    funext k
    refine congrArg S ?_
    funext c; apply Fin.ext
    fin_cases c <;> rfl
  exact congrArg (fun f => Finset.fold max (Ideal.ofBits .f32 0xFF800000#32) f (Finset.univ : Finset (Fin 256))) hf

/-- One value of each row, over the row. -/
def spread (M : FVec Ideal S8x4x4096 .f32) : FVec Ideal S8x4x4096x256 .f32 :=
  broadcastInDim S8x4x4096x256 ![0, 1, 2, 3] bcast_S8x4x4096x1_S8x4x4096x256_0_1_2_3 (broadcastInDim S8x4x4096x1 ![0, 1, 2] bcast_S8x4x4096_S8x4x4096x1_0_1_2 M)

theorem spread_apply (M : FVec Ideal S8x4x4096 .f32) (b : Fin 8) (h : Fin 4) (t : Fin 4096) (k : Fin 256) :
    spread M (ix4 b h t k) = M (ix3 b h t) := by
  pointwise [spread]

/-- The greatest score of a row, not below −∞. -/
def rowTop (S : FVec Ideal S8x4x4096x256 .f32) : FVec Ideal S8x4x4096 .f32 :=
  maximumf (broadcastInDim S8x4x4096 ![] bcast_S_S8x4x4096 (constant S_ .f32 0xFF800000#32)) (rowMax S)

theorem maximumf_at (A B : FVec Ideal S8x4x4096 .f32) (i : S8x4x4096.Idx) : maximumf A B i = max (A i) (B i) := rfl

theorem fill_at (z : FVec Ideal S_ .f32) (i : S8x4x4096.Idx) :
    broadcastInDim S8x4x4096 ![] bcast_S_S8x4x4096 z i = z ix0 := by
  pointwise

theorem rowTop_apply (S : FVec Ideal S8x4x4096x256 .f32) (b : Fin 8) (h : Fin 4) (t : Fin 4096) :
    rowTop S (ix3 b h t) = top (fun k => S (ix4 b h t k)) := by
  unfold rowTop
  rw [maximumf_at, rowMax_apply, fill_at, constant_apply]
  refine Eq.trans (congrArg (fun z => max z _) neg_inf) (max_eq_right bot_le)

/-- The softmax's numerators. -/
def nums (S : FVec Ideal S8x4x4096x256 .f32) : FVec Ideal S8x4x4096x256 .f32 :=
  Host.exp (subf S (spread (rowTop S)))

theorem nums_apply (S : FVec Ideal S8x4x4096x256 .f32) (b : Fin 8) (h : Fin 4) (t : Fin 4096) (k : Fin 256) :
    nums S (ix4 b h t k) = Ideal.exp (S (ix4 b h t k) - top (fun k => S (ix4 b h t k))) := by
  have e : nums S (ix4 b h t k) = Ideal.exp (S (ix4 b h t k) - spread (rowTop S) (ix4 b h t k)) := rfl
  rw [e, spread_apply, rowTop_apply]

variable (V0 : Valuation τ sig (Elt Ideal))

abbrev arg0 : FVec Ideal S8x4096x1024 .f32 := V0 (Proc.devRef .tc main_arg0)
abbrev arg1 : FVec Ideal S2x8x512x256 .f32 := V0 (Proc.devRef .tc main_arg1)
abbrev arg2 : FVec Ideal S2x1024 .f32 := V0 (Proc.devRef .tc main_arg2)
abbrev arg3 : FVec Ideal S1x1024x1792 .f32 := V0 (Proc.devRef .tc main_arg3)
abbrev arg4 : FVec Ideal S1x31x768 .f32 := V0 (Proc.devRef .tc main_arg4)
abbrev arg5 : FVec Ideal S1x768 .f32 := V0 (Proc.devRef .tc main_arg5)
abbrev arg6 : FVec Ideal S1x768 .f32 := V0 (Proc.devRef .tc main_arg6)
abbrev arg7 : FVec Ideal S1x768 .f32 := V0 (Proc.devRef .tc main_arg7)
abbrev arg8 : FVec Ideal S1x1024x1024 .f32 := V0 (Proc.devRef .tc main_arg8)
abbrev arg9 : FVec Ideal S2x1024 .f32 := V0 (Proc.devRef .tc main_arg9)

theorem r16 : res_main_v16 V0 = proj (arg0 V0) (arg2 V0) (arg3 V0) := rfl
theorem r28 : res_main_v28 V0 = ext (res_main_v16 V0) := rfl
theorem r107 : res_main_v107 V0 = taps0 (res_main_v28 V0) (arg4 V0) := rfl
theorem r184 : res_main_v184 V0 = taps1 (res_main_v107 V0) (res_main_v28 V0) (arg4 V0) := rfl
theorem r251 : res_main_v251 V0 = taps2 (res_main_v184 V0) (res_main_v28 V0) (arg4 V0) (arg5 V0) := rfl
theorem r257 : res_main_v257 V0 = cent (res_main_v251 V0) := rfl
theorem r275 : res_main_v275 V0 = lay (res_main_v257 V0) (arg6 V0) (arg7 V0) := rfl
theorem r294 : res_main_v294 V0 = scores (res_main_v16 V0) (keys (arg1 V0)) := rfl
theorem r301 : res_main_v301 V0 = nums (res_main_v294 V0) := rfl
theorem r312 : res_main_v312 V0 = projected (arg0 V0) (act (res_main_v275 V0)) (attended (vals (arg1 V0)) (res_main_v301 V0)) (arg8 V0) := rfl

theorem proj_apply (A0 : FVec Ideal S8x4096x1024 .f32) (A2 : FVec Ideal S2x1024 .f32) (A3 : FVec Ideal S1x1024x1792 .f32) (b : Fin 8) (t : Fin 4096)
    (k : Fin 1792) : proj A0 A2 A3 (ix3 b t k) = up (fun d => A0 (ix3 b t d)) (fun d => A2 (ix2 (0 : Fin 2) d)) (fun d c => A3 (ix3 (0 : Fin 1) d c)) k := by
  pointwise [proj, up, normed]

theorem ext_apply (U : FVec Ideal S8x4096x1792 .f32) (b : Fin 8) (t : Fin 4126) (k : Fin 768) : ext U (ix3 b t k) =
    if h : t.val < 30 then 0 else U (ix3 b (⟨t.val - 30, by omega⟩ : Fin 4096) (⟨k.val, by omega⟩ : Fin 1792))
      * Ideal.logistic (U (ix3 b (⟨t.val - 30, by omega⟩ : Fin 4096) (⟨768 + k.val, by omega⟩ : Fin 1792))) := by
  pointwise [ext, Ideal.logistic]

theorem tap_apply (R28 : FVec Ideal S8x4126x768 .f32) (A4 : FVec Ideal S1x31x768 .f32) (n : ℕ) (hn : n < 31) (h h') (b : Fin 8) (t : Fin 4096) (k : Fin 768) :
    tap R28 A4 ![0, n, 0] h h' (ix3 b t k) = R28 (ix3 b (⟨n + t.val, by omega⟩ : Fin 4126) k) * A4 (ix3 (0 : Fin 1) (⟨n, hn⟩ : Fin 31) k) := by
  pointwise [tap]

theorem cent_apply (Y : FVec Ideal S8x4096x768 .f32) (b : Fin 8) (t : Fin 4096) (k : Fin 768) :
    cent Y (ix3 b t k) = center (fun j => Y (ix3 b t j)) k := by
  pointwise [cent, center]

theorem lay_apply (Y : FVec Ideal S8x4096x768 .f32) (A6 A7 : FVec Ideal S1x768 .f32) (b : Fin 8) (t : Fin 4096) (k : Fin 768) :
    lay (cent Y) A6 A7 (ix3 b t k) = lnorm (fun j => Y (ix3 b t j)) (fun j => A6 (ix2 (0 : Fin 1) j)) (fun j => A7 (ix2 (0 : Fin 1) j)) k := by
  have h : ∀ k, cent Y (ix3 b t k) = center (fun j => Y (ix3 b t j)) k := cent_apply Y b t
  generalize cent Y = C at h ⊢
  pointwise [lay, lnorm]
  simp only [h]

theorem act_apply (Y : FVec Ideal S8x4096x768 .f32) (i) : act Y i = Y i * Ideal.logistic (Y i) := by
  pointwise [act, Ideal.logistic]

theorem keys_apply (A3 : FVec Ideal S2x8x512x256 .f32) (b : Fin 8) (k : Fin 256) (h : Fin 4) (d : Fin 64) :
    keys A3 (ix4 b k h d) = A3 (ix4 (0 : Fin 2) b (⟨h.val * 64 + d.val, by omega⟩ : Fin 512) k) := by
  pointwise [keys]
  blk_ext

theorem vals_apply (A3 : FVec Ideal S2x8x512x256 .f32) (b : Fin 8) (k : Fin 256) (h : Fin 4) (d : Fin 64) :
    vals A3 (ix4 b k h d) = A3 (ix4 (0 : Fin 2) b (⟨256 + (h.val * 64 + d.val), by omega⟩ : Fin 512) k) := by
  pointwise [vals]
  blk_ext

theorem scores_apply (U : FVec Ideal S8x4096x1792 .f32) (K : FVec Ideal S8x256x4x64 .f32) (b : Fin 8) (h : Fin 4) (t : Fin 4096) (k : Fin 256) :
    scores U K (ix4 b h t k) = (∑ d : Fin 64, U (ix3 b t (⟨1536 + (h.val * 64 + d.val), by omega⟩ : Fin 1792)) * K (ix4 b k h d)) * Ideal.ofBits .f32 0x3E000000#32 := by
  pointwise [scores]

theorem attended_apply (V : FVec Ideal S8x256x4x64 .f32) (E : FVec Ideal S8x4x4096x256 .f32) (b : Fin 8) (t : Fin 4096) (l : Fin 256) :
    attended V E (ix3 b t l) = ∑ k : Fin 256,
      V (ix4 b k (⟨l.val / 64, by omega⟩ : Fin 4) (⟨l.val % 64, by omega⟩ : Fin 64)) *
        Ideal.div (E (ix4 b (⟨l.val / 64, by omega⟩ : Fin 4) t k)) (∑ k' : Fin 256, E (ix4 b (⟨l.val / 64, by omega⟩ : Fin 4) t k')) := by
  pointwise [attended]

theorem projected_apply (A0 : FVec Ideal S8x4096x1024 .f32) (C : FVec Ideal S8x4096x768 .f32) (O : FVec Ideal S8x4096x256 .f32)
    (A8 : FVec Ideal S1x1024x1024 .f32) (b : Fin 8) (t : Fin 4096) (l : Fin 1024) :
    projected A0 C O A8 (ix3 b t l) = A0 (ix3 b t l) +
      ∑ k : Fin 1024, (if h : k.val < 768 then C (ix3 b t ⟨k.val, h⟩) else O (ix3 b t ⟨k.val - 768, by omega⟩)) * A8 (ix3 0 k l) := by
  pointwise [projected]

theorem scaled_apply (X : FVec Ideal S8x4096x1024 .f32) (A9 : FVec Ideal S2x1024 .f32) (R : Fin 32768) (l : Fin 1024) :
    scaled X A9 (ix2 R l) = normed (fun k => X (ix3 (⟨R.val / 4096, by omega⟩ : Fin 8) (⟨R.val % 4096, by omega⟩ : Fin 4096) k)) l * A9 (ix2 (0 : Fin 2) l) := by
  pointwise [scaled]
  rfl

/-- Eleven taps, then eleven, then nine and the bias: one sum over the taps. -/
theorem taps_sum (Z : FVec Ideal S8x4126x768 .f32) (A4 : FVec Ideal S1x31x768 .f32) (A5 : FVec Ideal S1x768 .f32) (b : Fin 8) (t : Fin 4096) (k : Fin 768)
    (T : ℕ → EReal) (hT : ∀ (n : ℕ) (_ : n < 31) (h h'), tap Z A4 ![0, n, 0] h h' (ix3 b t k) = T n) :
    taps2 (taps1 (taps0 Z A4) Z A4) Z A4 A5 (ix3 b t k) = A5 (ix2 (0 : Fin 1) k) + ∑ n ∈ Finset.range 31, T n := by
  have e0 : taps0 Z A4 (ix3 b t k) = ∑ n ∈ Finset.range 11, T n := by
    pointwise [taps0]
    rw [hT 0 (by decide), hT 1 (by decide), hT 2 (by decide), hT 3 (by decide), hT 4 (by decide), hT 5 (by decide), hT 6 (by decide), hT 7 (by decide), hT 8 (by decide), hT 9 (by decide), hT 10 (by decide)]
    simp only [Finset.sum_range_succ, Finset.sum_range_zero, zero_add]
  have e1 : taps1 (taps0 Z A4) Z A4 (ix3 b t k) = ∑ n ∈ Finset.range 22, T n := by
    generalize taps0 Z A4 = Y at e0 ⊢
    pointwise [taps1]
    rw [e0, hT 11 (by decide), hT 12 (by decide), hT 13 (by decide), hT 14 (by decide), hT 15 (by decide), hT 16 (by decide), hT 17 (by decide), hT 18 (by decide), hT 19 (by decide), hT 20 (by decide), hT 21 (by decide)]
    simp only [Finset.sum_range_succ, Finset.sum_range_zero, zero_add]
  generalize taps1 (taps0 Z A4) Z A4 = Y at e1 ⊢
  pointwise [taps2]
  rw [e1, hT 22 (by decide), hT 23 (by decide), hT 24 (by decide), hT 25 (by decide), hT 26 (by decide), hT 27 (by decide), hT 28 (by decide), hT 29 (by decide), hT 30 (by decide), add_comm]
  congr 1
  simp only [Finset.sum_range_succ, Finset.sum_range_zero, zero_add]

/-- The gated rows, 30 zero rows before each sequence. -/
theorem rows_at (A0 : FVec Ideal S8x4096x1024 .f32) (A2 : FVec Ideal S2x1024 .f32) (A3 : FVec Ideal S1x1024x1792 .f32) (b : Fin 8) (t : Fin 4126) (k : Fin 768) :
    ext (proj A0 A2 A3) (ix3 b t k) = if 30 ≤ t.val then
      gates (fun i j d => A0 (ix3 i j d)) (fun d => A2 (ix2 (0 : Fin 2) d)) (fun d c => A3 (ix3 (0 : Fin 1) d c)) (b.val * 4096 + t.val - 30) k.val else 0 := by
  rw [ext_apply]
  by_cases h : t.val < 30
  · rw [dif_pos h, if_neg (by omega)]
  · rw [dif_neg h, if_pos (by omega)]
    have ht := t.isLt
    have hb := b.isLt
    refine Eq.trans ?_ (ext2_val (fun R : Fin 32768 => gated (row (fun i j d => A0 (ix3 i j d)) R) (fun d => A2 (ix2 (0 : Fin 2) d))
      (fun d c => A3 (ix3 (0 : Fin 1) d c))) (⟨b.val * 4096 + t.val - 30, by omega⟩ : Fin 32768) k).symm
    rw [proj_apply, proj_apply]
    have e : (fun d => A0 (ix3 b (⟨t.val - 30, by omega⟩ : Fin 4096) d)) = row (fun i j d => A0 (ix3 i j d)) (⟨b.val * 4096 + t.val - 30, by omega⟩ : Fin 32768) := by
      funext d
      unfold row
      congr 2
      · apply Fin.ext
        show b.val = (b.val * 4096 + t.val - 30) / 4096
        omega
      · apply Fin.ext
        show t.val - 30 = (b.val * 4096 + t.val - 30) % 4096
        omega
    rw [e]
    rfl

variable (A0 : FVec Ideal S8x4096x1024 .f32) (A1 : FVec Ideal S2x8x512x256 .f32) (A2 : FVec Ideal S2x1024 .f32) (A3 : FVec Ideal S1x1024x1792 .f32)
  (A4 : FVec Ideal S1x31x768 .f32) (A5 A6 A7 : FVec Ideal S1x768 .f32) (A8 : FVec Ideal S1x1024x1024 .f32) (A9 : FVec Ideal S2x1024 .f32)

abbrev fx : Fin 8 → Fin 4096 → Fin 1024 → EReal := fun i j k => A0 (ix3 i j k)
abbrev fm : Fin 8 → Fin 512 → Fin 256 → EReal := fun i j k => A1 (ix4 (0 : Fin 2) i j k)
abbrev fg : Fin 1024 → EReal := fun d => A2 (ix2 (0 : Fin 2) d)
abbrev fW : Fin 1024 → Fin 1792 → EReal := fun d k => A3 (ix3 (0 : Fin 1) d k)
abbrev fw : Fin 31 → Fin 768 → EReal := fun d k => A4 (ix3 (0 : Fin 1) d k)
abbrev fb : Fin 768 → EReal := fun k => A5 (ix2 (0 : Fin 1) k)
abbrev fwo : Fin 1024 → Fin 1024 → EReal := fun d k => A8 (ix3 (0 : Fin 1) d k)

/-- The sequence and the position of a row. -/
abbrev sq (R : Fin 32768) : Fin 8 := ⟨R.val / 4096, by omega⟩
abbrev ps (R : Fin 32768) : Fin 4096 := ⟨R.val % 4096, by omega⟩

/-- The convolved rows. -/
abbrev convolved : FVec Ideal S8x4096x768 .f32 :=
  taps2 (taps1 (taps0 (ext (proj A0 A2 A3)) A4) (ext (proj A0 A2 A3)) A4) (ext (proj A0 A2 A3)) A4 A5

theorem conv_apply (R : Fin 32768) (k : Fin 768) :
    convolved A0 A2 A3 A4 A5 (ix3 (sq R) (ps R) k) = convRow (fx A0) (fg A2) (fW A3) (fw A4) (fb A5) R k := by
  unfold convolved
  rw [taps_sum _ _ _ _ _ _ (fun n => (if 30 ≤ R.val % 4096 + n then gates (fx A0) (fg A2) (fW A3) (R.val + n - 30) k.val else 0) * ext2 (fw A4) n k.val) ?_]
  · unfold convRow causal
    rw [ext1_val]
  · intro n hn h h'
    rw [tap_apply _ _ n hn, rows_at]
    refine congr (congrArg _ (if_congr ?_ ?_ rfl)) (ext2_val (fw A4) (⟨n, hn⟩ : Fin 31) k).symm
    · show 30 ≤ n + R.val % 4096 ↔ _
      omega
    · refine congrArg (fun n => gates _ _ _ n _) ?_
      show R.val / 4096 * 4096 + (n + R.val % 4096) - 30 = R.val + n - 30
      omega

/-- The past the next call starts from. -/
theorem past_apply (b : Fin 8) (i : Fin 30) (k : Fin 768) (h) :
    extractStridedSlice S8x30x768 ![0, 4096, 0] (ext (proj A0 A2 A3)) h (ix3 b i k) = past (fx A0) (fg A2) (fW A3) b i k := by
  have e : ∀ (t : Fin 4126), ext (proj A0 A2 A3) (ix3 b t k) = if 30 ≤ t.val then
      gates (fx A0) (fg A2) (fW A3) (b.val * 4096 + t.val - 30) k.val else 0 := fun t => rows_at A0 A2 A3 b t k
  generalize ext (proj A0 A2 A3) = Z at e ⊢
  pointwise
  rw [e, if_pos (by show 30 ≤ 4096 + i.val; omega)]
  refine congrArg (fun n => gates _ _ _ n _) ?_
  show b.val * 4096 + (4096 + i.val) - 30 = b.val * 4096 + 4066 + i.val
  omega

theorem scores_eq (U : FVec Ideal S8x4096x1792 .f32) (b : Fin 8) (t : Fin 4096) (h : Fin 4) (k : Fin 256) :
    scores U (keys A1) (ix4 b h t k) = score (fun d => U (ix3 b t (⟨1536 + d.val, by omega⟩ : Fin 1792)))
      (fun d k => fm A1 b (⟨d.val, by omega⟩ : Fin 512) k) h.val k := by
  rw [scores_apply]
  unfold score
  rw [sum_head]
  simp only [keys_apply]

/-- The reference's attention is the kernel's, its queries and keys being real. -/
theorem attended_eq (U : FVec Ideal S8x4096x1792 .f32) (b : Fin 8) (t : Fin 4096)
    (hq : ∀ d : Fin 256, ∃ x : ℝ, U (ix3 b t (⟨1536 + d.val, by omega⟩ : Fin 1792)) = x)
    (hK : ∀ (d k : Fin 256), ∃ x : ℝ, fm A1 b (⟨d.val, by omega⟩ : Fin 512) k = x) (l : Fin 256) :
    attended (vals A1) (nums (scores U (keys A1))) (ix3 b t l) =
      attn (fun d => U (ix3 b t (⟨1536 + d.val, by omega⟩ : Fin 1792))) (fun d k => fm A1 b (⟨d.val, by omega⟩ : Fin 512) k)
        (fun j k => fm A1 b (⟨256 + j.val, by omega⟩ : Fin 512) k) l := by
  rw [attended_apply]
  simp only [nums_apply, scores_eq, vals_apply]
  unfold attn head
  rw [div_sum _ _ fun k => score_real _ _ _ hq hK k]
  refine Finset.sum_congr rfl fun k _ => ?_
  congr 2
  congr 1
  apply Fin.ext
  show 256 + (l.val / 64 * 64 + l.val % 64) = 256 + l.val
  omega

/-- The whole first result, as the reference composes it. -/
abbrev whole0 : FVec Ideal S8x4096x1024 .f32 :=
  projected A0 (act (lay (cent (convolved A0 A2 A3 A4 A5)) A6 A7)) (attended (vals A1) (nums (scores (proj A0 A2 A3) (keys A1)))) A8

theorem whole0_apply (R : Fin 32768) (l : Fin 1024)
    (hq : ∀ d : Fin 256, ∃ x : ℝ, query (row (fx A0) R) (fg A2) (fW A3) d = x)
    (hK : ∀ (d k : Fin 256), ∃ x : ℝ, fm A1 (sq R) (⟨d.val, by omega⟩ : Fin 512) k = x) :
    whole0 A0 A1 A2 A3 A4 A5 A6 A7 A8 (ix3 (sq R) (ps R) l)
      = stream (fx A0) (fm A1) (fg A2) (fW A3) (fw A4) (fb A5) (fb A6) (fb A7) (fwo A8) R l := by
  have hU : ∀ d : Fin 256, proj A0 A2 A3 (ix3 (sq R) (ps R) (⟨1536 + d.val, by omega⟩ : Fin 1792)) = query (row (fx A0) R) (fg A2) (fW A3) d :=
    fun d => proj_apply A0 A2 A3 (sq R) (ps R) _
  unfold whole0
  rw [projected_apply]
  unfold stream mixed mixRow
  refine congr (congrArg _ rfl) (Finset.sum_congr rfl fun k _ => ?_)
  refine congrArg (· * _) ?_
  split
  · rename_i h
    rw [act_apply, lay_apply]
    simp only [conv_apply]
    rfl
  · rename_i h
    rw [attended_eq A1 _ _ _ (fun d => by rw [hU]; exact hq d) hK]
    simp only [hU]

theorem out0_eq : res_main_v312 V0 = whole0 (arg0 V0) (arg1 V0) (arg2 V0) (arg3 V0) (arg4 V0) (arg5 V0) (arg6 V0) (arg7 V0) (arg8 V0) := by
  rw [r312, r301, r294, r275, r257, r251, r184, r107, r28, r16]

theorem out2_eq : res_main_v28 V0 = ext (proj (arg0 V0) (arg2 V0) (arg3 V0)) := by
  rw [r28, r16]

end Cert.LayerZeroRefIdeal.Val

end
-- ==== Proof.LayerZeroEq.lean ====
module

public import proofs.«01_k».proof.Defs
public import proofs.«01_k».proof.Proof.LayerZeroRun
public import proofs.«01_k».proof.Proof.LayerZeroRefVal
public import proofs.«01_k».proof.Proof.LayerOneEq

/-! # The first layer's call: the precondition read, and the two closed forms met -/

@[expose] public section

set_option maxRecDepth 16384

noncomputable section

open Idealize.ShloMosaic Idealize.ShloMosaic.TcCoe Idealize.SL.Sem

namespace Cert.LayerZeroEq

/-- The side conditions of the precondition's operations. -/
instance facts : Cert.Pre_finite_in.Facts where
  slices_S2x8x512x256_S1x8x256x256_0_0_0_0 := by decide
  shapeCasts_S1x8x256x256_S8x256x256 := by decide
  bcast_S_S8x256x256 := by decide
  reducesTo_S8x256x256_S_d0_1_2 := by decide
  h_S_ := by decide
  slices_S2x1024_S1x1024_0_0 := by decide
  shapeCasts_S1x1024_S1024 := by decide
  bcast_S_S1024 := by decide
  reducesTo_S1024_S_d0 := by decide
  slices_S1x1024x1792_S1x1024x256_0_0_1536 := by decide
  shapeCasts_S1x1024x256_S1024x256 := by decide
  bcast_S_S1024x256 := by decide
  reducesTo_S1024x256_S_d0_1 := by decide

open Cert.Pre_finite_in Cert.Pre_finite_in.Facts Cert.LayerOneEq Cert.Attn Cert.Layer

/-- The precondition, read: layer 0's memory keys, the scale of its rows and its queries' weights are real. -/
theorem real_of_pre (A0 : FVec Ideal S8x4096x1024 .f32) (A1 : FVec Ideal S2x8x512x256 .f32) (A2 : FVec Ideal S2x1024 .f32) (A3 : FVec Ideal S1x1024x1792 .f32)
    (A4 : FVec Ideal S1x31x768 .f32) (A5 A6 A7 : FVec Ideal S1x768 .f32) (A8 : FVec Ideal S1x1024x1024 .f32) (A9 : FVec Ideal S2x1024 .f32)
    (A10 : FVec Ideal S2x1024x4 .f32) (A11 : FVec Ideal S2x4 .f32) (A12 : FVec Ideal S2x1024x64 .f32) (A13 : FVec Ideal S2x64 .f32)
    (h : fn (F := Ideal) A0 A1 A2 A3 A4 A5 A6 A7 A8 A9 A10 A11 A12 A13 = fun _ => 1#1) :
    (∀ (b : Fin 8) (d k : Fin 256), ∃ x : ℝ, A1 (ix4 (0 : Fin 2) b (⟨d.val, by omega⟩ : Fin 512) k) = x) ∧
      (∀ d : Fin 1024, ∃ x : ℝ, A2 (ix2 (0 : Fin 2) d) = x) ∧
      ∀ (d : Fin 1024) (k : Fin 256), ∃ x : ℝ, A3 (ix3 (0 : Fin 1) d (⟨1536 + k.val, by omega⟩ : Fin 1792)) = x := by
  have h0 := congrFun h ix0
  unfold fn fn_part1 at h0
  obtain ⟨h1, hw⟩ := and_one _ _ h0
  obtain ⟨hk, hg⟩ := and_one _ _ h1
  haveI : Subsingleton S_.Idx := ⟨fun a b => funext fun x => x.elim0⟩
  refine ⟨fun b d k => ?_, fun d => ?_, fun d k => ?_⟩
  · obtain ⟨x, hx⟩ := real_at _ _ _ (Host.reduce_andi_all _ _ _ _ _ hk (ix3 b d k))
    refine ⟨x, Eq.trans ?_ hx⟩
    pointwise
    blk_ext
  · obtain ⟨x, hx⟩ := real_at _ _ _ (Host.reduce_andi_all _ _ _ _ _ hg (ix1 d))
    refine ⟨x, Eq.trans ?_ hx⟩
    pointwise
  · obtain ⟨x, hx⟩ := real_at _ _ _ (Host.reduce_andi_all _ _ _ _ _ hw (ix2 d k))
    refine ⟨x, Eq.trans ?_ hx⟩
    pointwise

theorem width : ∃ w : ℝ, 0 < w ∧ Ideal.ofBits .f32 0x44800000#32 = (w : EReal) := by
  simp only [Ideal.ofBits, Ideal.ieee]
  simp
  exact ⟨_, by positivity, (EReal.coe_mul _ _).symm⟩

theorem eps_pos : ∃ e : ℝ, 0 < e ∧ Ideal.ofBits .f32 0x358637BD#32 = (e : EReal) := by
  simp only [Ideal.ofBits, Ideal.ieee]
  simp
  exact ⟨_, by positivity, (EReal.coe_mul _ _).symm⟩

theorem real_or (x : EReal) : (∃ r : ℝ, x = r) ∨ x = ⊤ ∨ x = ⊥ := by
  induction x with
  | bot => exact Or.inr (Or.inr rfl)
  | top => exact Or.inr (Or.inl rfl)
  | coe r => exact Or.inl ⟨r, rfl⟩

theorem square_nonneg (x : EReal) : 0 ≤ x * x := by
  rcases real_or x with ⟨r, rfl⟩ | rfl | rfl
  · exact_mod_cast mul_self_nonneg r
  · simp
  · simp

/-- A normalised row is real, whatever the row: an infinite entry makes every entry zero. -/
theorem normed_real (x : Fin 1024 → EReal) (d : Fin 1024) : ∃ r : ℝ, normed x d = r := by
  obtain ⟨e, he, hE⟩ := eps_pos
  obtain ⟨w, hw, hW⟩ := width
  unfold normed
  rw [hE, hW]
  by_cases h : ∀ k, ∃ r : ℝ, x k = r
  · choose a ha using h
    have hs : (∑ k, x k * x k) = ((∑ k, a k * a k : ℝ) : EReal) := by
      rw [← real_sum]
      exact Finset.sum_congr rfl fun k _ => by rw [ha, EReal.coe_mul]
    have h0 : 0 ≤ ∑ k, a k * a k := Finset.sum_nonneg fun k _ => mul_self_nonneg _
    have hd : Ideal.div (∑ k, x k * x k) (w : EReal) = (((∑ k, a k * a k) * w⁻¹ : ℝ) : EReal) := by
      unfold Ideal.div
      rw [if_neg (by exact_mod_cast hw.ne'), hs, ← EReal.coe_inv, ← EReal.coe_mul]
    have hp : 0 < (∑ k, a k * a k) * w⁻¹ + e := by positivity
    rw [hd, ← EReal.coe_add, Ideal.rsqrt_coe, if_neg (not_lt.2 hp.le), if_neg hp.ne', ha, ← EReal.coe_mul]
    exact ⟨_, rfl⟩
  · obtain ⟨j, hj⟩ := not_forall.1 h
    have ht : x j * x j = ⊤ := by
      rcases real_or (x j) with hr | hr | hr
      · exact absurd hr hj
      · rw [hr]; simp
      · rw [hr]; simp
    have hs : (∑ k, x k * x k) = ⊤ := by
      refine top_le_iff.1 ?_
      rw [← ht]
      exact Finset.single_le_sum (f := fun k => x k * x k) (fun k _ => square_nonneg (x k)) (Finset.mem_univ j)
    have hd : Ideal.div (⊤ : EReal) (w : EReal) = ⊤ := by
      unfold Ideal.div
      rw [if_neg (by exact_mod_cast hw.ne'), ← EReal.coe_inv]
      exact EReal.top_mul_coe_of_pos (inv_pos.2 hw)
    rw [hs, hd, EReal.top_add_coe, Ideal.rsqrt_top, mul_zero]
    exact ⟨0, rfl⟩

theorem query_real (x g : Fin 1024 → EReal) (W : Fin 1024 → Fin 1792 → EReal) (c : Fin 256) (hg : ∀ d, ∃ r : ℝ, g d = r)
    (hW : ∀ (d : Fin 1024) (k : Fin 256), ∃ r : ℝ, W d (⟨1536 + k.val, by omega⟩ : Fin 1792) = r) : ∃ r : ℝ, query x g W c = r := by
  choose n hn using normed_real x
  choose a ha using hg
  choose b hb using hW
  refine ⟨∑ d, n d * a d * b d c, ?_⟩
  rw [← real_sum]
  unfold query up
  refine Finset.sum_congr rfl fun d _ => ?_
  rw [hn, ha, hb, EReal.coe_mul, EReal.coe_mul]

open Cert.LayerZeroRefIdeal.Val

section
variable (A0 : FVec Ideal S8x4096x1024 .f32) (A1 : FVec Ideal S2x8x512x256 .f32) (A2 : FVec Ideal S2x1024 .f32) (A3 : FVec Ideal S1x1024x1792 .f32)
  (A4 : FVec Ideal S1x31x768 .f32) (A5 A6 A7 : FVec Ideal S1x768 .f32) (A8 : FVec Ideal S1x1024x1024 .f32) (A9 : FVec Ideal S2x1024 .f32)
  (hK : ∀ (b : Fin 8) (d k : Fin 256), ∃ x : ℝ, A1 (ix4 (0 : Fin 2) b (⟨d.val, by omega⟩ : Fin 512) k) = x)
  (hg : ∀ d : Fin 1024, ∃ x : ℝ, A2 (ix2 (0 : Fin 2) d) = x)
  (hW : ∀ (d : Fin 1024) (k : Fin 256), ∃ x : ℝ, A3 (ix3 (0 : Fin 1) d (⟨1536 + k.val, by omega⟩ : Fin 1792)) = x)
include hK hg hW

theorem whole_eq (R : Fin 32768) (l : Fin 1024) : whole0 A0 A1 A2 A3 A4 A5 A6 A7 A8 (ix3 (sq R) (ps R) l)
    = stream (fx A0) (fm A1) (fg A2) (fW A3) (fw A4) (fb A5) (fb A6) (fb A7) (fwo A8) R l :=
  whole0_apply A0 A1 A2 A3 A4 A5 A6 A7 A8 R l (fun d => query_real _ _ _ d hg hW) (fun d k => hK (sq R) d k)

theorem eq0 (h) : shapeCast Cert.LayerZeroRefIdeal.S32768x1024 (whole0 A0 A1 A2 A3 A4 A5 A6 A7 A8) h
    = fun i => stream (fx A0) (fm A1) (fg A2) (fW A3) (fw A4) (fb A5) (fb A6) (fb A7) (fwo A8) (i 0) (i 1) := by
  have e := whole_eq A0 A1 A2 A3 A4 A5 A6 A7 A8 hK hg hW
  generalize whole0 A0 A1 A2 A3 A4 A5 A6 A7 A8 = X at e ⊢
  funext i
  obtain ⟨R, l, rfl⟩ : ∃ (R : Fin 32768) (l : Fin 1024), i = ix2 R l := ⟨i 0, i 1, by funext a; fin_cases a <;> rfl⟩
  refine Eq.trans ?_ (e R l)
  pointwise

theorem eq1 : scaled (whole0 A0 A1 A2 A3 A4 A5 A6 A7 A8) A9
    = fun i => nrm (fx A0) (fm A1) (fg A2) (fW A3) (fw A4) (fb A5) (fb A6) (fb A7) (fwo A8) (fg A9) (i 0) (i 1) := by
  have e := whole_eq A0 A1 A2 A3 A4 A5 A6 A7 A8 hK hg hW
  generalize whole0 A0 A1 A2 A3 A4 A5 A6 A7 A8 = X at e ⊢
  funext i
  obtain ⟨R, l, rfl⟩ : ∃ (R : Fin 32768) (l : Fin 1024), i = ix2 R l := ⟨i 0, i 1, by funext a; fin_cases a <;> rfl⟩
  rw [scaled_apply]
  simp only [e]
  rfl
end

theorem eq2 (A0 : FVec Ideal S8x4096x1024 .f32) (A2 : FVec Ideal S2x1024 .f32) (A3 : FVec Ideal S1x1024x1792 .f32) (h) :
    extractStridedSlice Cert.LayerZeroRefIdeal.S8x30x768 ![0, 4096, 0] (ext (proj A0 A2 A3)) h
      = fun i => past (fx A0) (fg A2) (fW A3) (i 0) (i 1) (i 2) := by
  funext i
  obtain ⟨b, r, k, rfl⟩ : ∃ (b : Fin 8) (r : Fin 30) (k : Fin 768), i = ix3 b r k := ⟨i 0, i 1, i 2, by funext a; fin_cases a <;> rfl⟩
  exact past_apply A0 A2 A3 b r k h

end Cert.LayerZeroEq

end
-- ==== Proof.LayerState.lean ====
module

public import proofs.«01_k».proof.Proof.Layer

/-! # The first layer's rows when a sequence goes on from a state: 32 sequences of 8 rows -/

@[expose] public section

noncomputable section

open Idealize.ShloMosaic

namespace Cert.LayerState

open Cert.Attn Cert.Layer

variable (x : Fin 32 → Fin 8 → Fin 1024 → EReal) (st : Fin 32 → Fin 30 → Fin 768 → EReal) (ck cv : Fin 32 → Fin 256 → Fin 256 → EReal)
  (g : Fin 1024 → EReal) (W : Fin 1024 → Fin 1792 → EReal) (w : Fin 31 → Fin 768 → EReal) (b cg cb : Fin 768 → EReal)
  (wo : Fin 1024 → Fin 1024 → EReal) (gf : Fin 1024 → EReal)

/-- The rows the convolution of sequence `s` runs over: the state's 30, then the sequence's own gated rows. -/
def hist (s : Fin 32) (i c : ℕ) : EReal :=
  if 30 ≤ i then ext2 (fun r : Fin 8 => gated (x s r) g W) (i - 30) c else ext2 (st s) i c

/-- The convolution's row: tap `w` meets the row `30 - w` before. -/
def convRow (s : Fin 32) (r : Fin 8) (c : Fin 768) : EReal :=
  ext1 b c.val + ∑ n ∈ Finset.range 31, hist x st g W s (r.val + n) c.val * ext2 w n c.val

/-- The row the output projection reads. -/
def mixed (s : Fin 32) (r : Fin 8) : Fin 1024 → EReal :=
  mixRow (silu (convRow x st g W w b s r) cg cb) (query (x s r) g W) (ck s) (cv s)

/-- The residual row. -/
def stream (s : Fin 32) (r : Fin 8) (j : Fin 1024) : EReal :=
  x s r j + ∑ k : Fin 1024, mixed x st ck cv g W w b cg cb s r k * wo k j

/-- The residual row, normalised and scaled. -/
def nrm (s : Fin 32) (r : Fin 8) (j : Fin 1024) : EReal := normed (stream x st ck cv g W w b cg cb wo s r) j * gf j

/-- The state after the sequence: its last 30 rows. -/
def past (s : Fin 32) (i : Fin 30) (c : Fin 768) : EReal := hist x st g W s (8 + i.val) c.val

end Cert.LayerState

end
-- ==== Proof.LayerZeroSVal.lean ====
module

public import proofs.«01_k».proof.Proof.Gen.LayerZeroSIdeal.Value
public import proofs.«01_k».proof.Proof.LayerState
public import Idealize.ShloMosaic.Lib.Pipeline.CanonAppend

/-! # The first layer's call on sequences going on from a state: what a tile computes -/

@[expose] public section

set_option maxRecDepth 16384

noncomputable section

open Idealize.ShloMosaic Idealize.ShloMosaic.TcCoe Idealize.SL.Sem
open Idealize.ShloMosaic.Pipeline (Dat)

namespace Cert.LayerZeroSIdeal.Val
open Cert.LayerZeroSIdeal Cert.LayerZeroSIdeal.Gen Cert.Attn Cert.Layer Cert.LayerState

abbrev lanes : IVec S8x256 32 := iota .tc S8x256 32 [1] iota_S8x256_d1_w32

theorem head0 (q : FVec Ideal S8x256 .f32) (K : FVec Ideal S1x1x256x256 .f32) (V : FVec Ideal S256x256 .bf16) (r : Fin 8) (l : Fin 256) :
    k0_pay105 (F := Ideal) V k0_pay101 k0_pay102 (k0_pay103 q K) k0_pay104 (ix2 r l) =
      if l.val / 64 = 0 then head (fun d => q (ix2 r d)) (fun d k => k0_pay99 (F := Ideal) K (ix2 d k)) (fun j k => V (ix2 j k)) 0 l else 0 := by
  pointwise [k0_pay101, k0_pay102, k0_pay103, k0_pay104, k0_pay105]
  simp only [lane_head]
  simp only [show (0#32 : BitVec 32) = BitVec.ofNat 32 (0 : Fin 4).val from rfl, head_eq, select_ite]
  rfl

theorem head1 (q z : FVec Ideal S8x256 .f32) (K V : FVec Ideal S256x256 .bf16) (r : Fin 8) (l : Fin 256) :
    k0_pay108 (F := Ideal) V z (k0_pay106 lanes) (k0_pay107 q K lanes) (ix2 r l) =
      if l.val / 64 = 1 then head (fun d => q (ix2 r d)) (fun d k => K (ix2 d k)) (fun j k => V (ix2 j k)) 1 l else z (ix2 r l) := by
  pointwise [k0_pay106, k0_pay107, k0_pay108]
  simp only [lane_head]
  simp only [show (1#32 : BitVec 32) = BitVec.ofNat 32 (1 : Fin 4).val from rfl, head_eq, select_ite]
  rfl

theorem head2 (q z : FVec Ideal S8x256 .f32) (K V : FVec Ideal S256x256 .bf16) (r : Fin 8) (l : Fin 256) :
    k0_pay112 (F := Ideal) V z (k0_pay109 lanes) (k0_pay110 q K lanes) (k0_pay111 q K lanes) (ix2 r l) =
      if l.val / 64 = 2 then head (fun d => q (ix2 r d)) (fun d k => K (ix2 d k)) (fun j k => V (ix2 j k)) 2 l else z (ix2 r l) := by
  pointwise [k0_pay109, k0_pay110, k0_pay111, k0_pay112]
  simp only [lane_head]
  simp only [show (2#32 : BitVec 32) = BitVec.ofNat 32 (2 : Fin 4).val from rfl, head_eq, select_ite]
  rfl

theorem head3 (q z : FVec Ideal S8x256 .f32) (K V : FVec Ideal S256x256 .bf16) (r : Fin 8) (l : Fin 256) :
    k0_pay115 (F := Ideal) V z (k0_pay113 lanes) (k0_pay114 q K lanes) (ix2 r l) =
      if l.val / 64 = 3 then head (fun d => q (ix2 r d)) (fun d k => K (ix2 d k)) (fun j k => V (ix2 j k)) 3 l else z (ix2 r l) := by
  pointwise [k0_pay113, k0_pay114, k0_pay115]
  simp only [lane_head]
  simp only [show (3#32 : BitVec 32) = BitVec.ofNat 32 (3 : Fin 4).val from rfl, head_eq, select_ite]
  rfl

/-- The four heads' 256 lanes of one tile. -/
abbrev om (q : FVec Ideal S8x256 .f32) (K : FVec Ideal S1x1x256x256 .f32) (V : FVec Ideal S256x256 .bf16) : FVec Ideal S8x256 .bf16 :=
  k0_pay115 (F := Ideal) V (k0_pay112 V (k0_pay108 V (k0_pay105 V k0_pay101 k0_pay102 (k0_pay103 q K) k0_pay104)
    (k0_pay106 lanes) (k0_pay107 q (k0_pay99 K) lanes)) (k0_pay109 lanes) (k0_pay110 q (k0_pay99 K) lanes) (k0_pay111 q (k0_pay99 K) lanes))
    (k0_pay113 lanes) (k0_pay114 q (k0_pay99 K) lanes)

theorem heads (q : FVec Ideal S8x256 .f32) (K : FVec Ideal S1x1x256x256 .f32) (V : FVec Ideal S256x256 .bf16) (r : Fin 8) (l : Fin 256) :
    om q K V (ix2 r l)
      = attn (fun d => q (ix2 r d)) (fun d k => k0_pay99 (F := Ideal) K (ix2 d k)) (fun j k => V (ix2 j k)) l := by
  unfold om
  rw [head3, head2, head1, head0]
  unfold attn
  have hl : l.val / 64 < 4 := by have := l.isLt; omega
  generalize l.val / 64 = n at hl ⊢
  interval_cases n <;> simp

/-- The scratch the output projection reads, as a tile of rows. -/
def mixTile (x : FVec Ideal S8x768 .f32) (g b : FVec Ideal S1x768 .f32) (q : FVec Ideal S8x256 .f32) (K : FVec Ideal S1x1x256x256 .f32)
    (V : FVec Ideal S256x256 .bf16) : FVec Ideal S8x1024 .bf16 := fun i =>
  mixRow (silu (fun d => x (ix2 (i 0) d)) (fun d => g (ix2 0 d)) (fun d => b (ix2 0 d))) (fun d => q (ix2 (i 0) d))
    (fun d k => k0_pay99 (F := Ideal) K (ix2 d k)) (fun j k => V (ix2 j k)) (i 1)

theorem silu_apply (x : FVec Ideal S8x768 .f32) (g b : FVec Ideal S1x768 .f32) (r : Fin 8) (j : Fin 768) :
    k0_pay98 (F := Ideal) x g b (ix2 r j)
      = silu (fun d => x (ix2 r d)) (fun d => g (ix2 0 d)) (fun d => b (ix2 0 d)) j := by
  pointwise [k0_pay98, silu, lnorm, center]

theorem mix_read (x : FVec Ideal S8x768 .f32) (g b : FVec Ideal S1x768 .f32) (q : FVec Ideal S8x256 .f32) (K : FVec Ideal S1x1x256x256 .f32)
    (V : FVec Ideal S256x256 .bf16) :
    (View.whole cc0_scratch3).readCov (Val := Elt Ideal)
        [⟨Rect.unit ![0, 768] ![8, 256] inb_S8x1024_S8x256_0_768, om q K V⟩,
          ⟨Rect.unit ![0, 0] ![8, 768] inb_S8x1024_S8x768_0_0, k0_pay98 (F := Ideal) x g b⟩]
        (Rect.unit ![0, 0] ![8, 1024] inb_S8x1024_S8x1024_0_0).toLoadRect = mixTile x g b q K V := by
  rw [View.readCov_eq_canon']
  funext j
  have hj : (Rect.unit (s := S8x1024) ![0, 0] ![8, 1024] inb_S8x1024_S8x1024_0_0).toLoadRect.idx j = j := by
    funext a; fin_cases a <;> apply Fin.ext <;> simp [Rect.toLoadRect]
  rw [hj]
  obtain ⟨j0, j1, rfl⟩ : ∃ (j0 : Fin 8) (j1 : Fin 1024), j = ix2 j0 j1 := ⟨j 0, j 1, by funext a; fin_cases a <;> rfl⟩
  refine View.canon_apply_of_pieces (Val := Elt Ideal) (S := S8x1024) (e := .bf16) (mixTile x g b q K V) _ ?_ (ix2 j0 j1) ?_
  · intro p hp
    simp only [List.mem_cons, List.not_mem_nil, or_false] at hp
    rcases hp with rfl | rfl
    · intro y
      obtain ⟨y0, y1, rfl⟩ : ∃ (y0 : Fin 8) (y1 : Fin 256), y = ix2 y0 y1 := ⟨y 0, y 1, by funext a; fin_cases a <;> rfl⟩
      have e : (Rect.unit (s := S8x1024) ![0, 768] ![8, 256] inb_S8x1024_S8x256_0_768).emb (ix2 y0 y1)
          = ix2 y0 (⟨768 + y1.val, by omega⟩ : Fin 1024) := by
        funext a; fin_cases a <;> apply Fin.ext <;> simp
      refine (heads q K V y0 y1).trans ?_
      rw [e]
      have h7 : ¬ (768 + y1.val < 768) := by omega
      refine Eq.trans ?_ (show mixRow (silu (fun d => x (ix2 y0 d)) (fun d => g (ix2 0 d)) (fun d => b (ix2 0 d))) (fun d => q (ix2 y0 d))
        (fun d k => k0_pay99 (F := Ideal) K (ix2 d k)) (fun j k => V (ix2 j k)) (⟨768 + y1.val, by omega⟩ : Fin 1024) = _ from rfl)
      simp only [mixRow, h7, dite_false, Nat.add_sub_cancel_left, Fin.eta]
    · intro y
      obtain ⟨y0, y1, rfl⟩ : ∃ (y0 : Fin 8) (y1 : Fin 768), y = ix2 y0 y1 := ⟨y 0, y 1, by funext a; fin_cases a <;> rfl⟩
      have e : (Rect.unit (s := S8x1024) ![0, 0] ![8, 768] inb_S8x1024_S8x768_0_0).emb (ix2 y0 y1)
          = ix2 y0 (⟨y1.val, by omega⟩ : Fin 1024) := by
        funext a; fin_cases a <;> apply Fin.ext <;> simp
      refine (silu_apply x g b y0 y1).trans ?_
      rw [e]
      refine Eq.trans ?_ (show mixRow (silu (fun d => x (ix2 y0 d)) (fun d => g (ix2 0 d)) (fun d => b (ix2 0 d))) (fun d => q (ix2 y0 d))
        (fun d k => k0_pay99 (F := Ideal) K (ix2 d k)) (fun j k => V (ix2 j k)) (⟨y1.val, by omega⟩ : Fin 1024) = _ from rfl)
      simp only [mixRow, y1.isLt, dite_true, Fin.eta]
  · by_cases h : j1.val < 768
    · refine ⟨_, List.mem_cons_of_mem _ (List.mem_cons_self), ?_⟩
      rw [Rect.mem_set_unit]
      intro a
      fin_cases a
      · exact ⟨Nat.zero_le _, by simpa using j0.isLt⟩
      · exact ⟨Nat.zero_le _, by simpa using h⟩
    · refine ⟨_, List.mem_cons_self, ?_⟩
      rw [Rect.mem_set_unit]
      intro a
      fin_cases a
      · exact ⟨Nat.zero_le _, by simpa using j0.isLt⟩
      · exact ⟨by simpa using h, by simpa using j1.isLt⟩

theorem up_apply (x : FVec Ideal S8x1024 .f32) (g : FVec Ideal S1x1024 .f32) (w : FVec Ideal S1024x1792 .bf16) (r : Fin 8) (j : Fin 1792) :
    k0_pay9 (F := Ideal) x g w (ix2 r j) = up (fun d => x (ix2 r d)) (fun d => g (ix2 0 d)) (fun d c => w (ix2 d c)) j := by
  pointwise [k0_pay9, k0_pay8, up, normed]

theorem gated_apply (x : FVec Ideal S8x1024 .f32) (g : FVec Ideal S1x1024 .f32) (w : FVec Ideal S1024x1792 .bf16) (r : Fin 8) (j : Fin 768) :
    k0_pay10 (F := Ideal) x g w (ix2 r j) = gated (fun d => x (ix2 r d)) (fun d => g (ix2 0 d)) (fun d c => w (ix2 d c)) j := by
  pointwise [k0_pay10]
  rw [up_apply, up_apply]
  rfl

theorem query_apply (x : FVec Ideal S8x1024 .f32) (g : FVec Ideal S1x1024 .f32) (w : FVec Ideal S1024x1792 .bf16) (r : Fin 8) (j : Fin 256) :
    k0_pay11 (F := Ideal) x g w (ix2 r j) = query (fun d => x (ix2 r d)) (fun d => g (ix2 0 d)) (fun d c => w (ix2 d c)) j := by
  pointwise [k0_pay11]
  rw [up_apply]
  rfl

theorem x1_apply (x : FVec Ideal S8x1024 .f32) (M : FVec Ideal S8x1024 .bf16) (w : FVec Ideal S1024x1024 .bf16) (r : Fin 8) (j : Fin 1024) :
    k0_pay116 (F := Ideal) (k0_pay8 x) M w (ix2 r j) = x (ix2 r j) + ∑ k : Fin 1024, M (ix2 r k) * w (ix2 k j) := by
  pointwise [k0_pay116, k0_pay8]

theorem hf_apply (x : FVec Ideal S8x1024 .f32) (M : FVec Ideal S8x1024 .bf16) (w : FVec Ideal S1024x1024 .bf16) (g : FVec Ideal S1x1024 .f32)
    (r : Fin 8) (j : Fin 1024) :
    k0_pay117 (F := Ideal) (k0_pay8 x) M w g (ix2 r j)
      = normed (fun k => k0_pay116 (F := Ideal) (k0_pay8 x) M w (ix2 r k)) j * g (ix2 0 j) := by
  pointwise [k0_pay117, k0_pay8, normed]

variable (m : (ℓ : Loc nD τ sig) → Buf (Elt Ideal) ℓ)

theorem idx : ∀ t : Fin cfg0.N, win0_0.index t = ![t.val, 0] ∧ win0_1.index t = ![t.val, 0, 0]
    ∧ win0_2.index t = ![0, t.val, 0, 0] ∧ win0_3.index t = ![0, t.val, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_14.index t = ![t.val, 0] ∧ win0_15.index t = ![t.val, 0] ∧ win0_18.index t = ![t.val, 0, 0] :=
  (by decide +kernel : ∀ t : Fin grid0.N, _)

/-- The call's arguments. -/
abbrev A0 (c : Dev nD) : FVec Ideal S32x8x1024 .f32 := m ((c : Thread nD τ).loc main_arg0)
abbrev A1 (c : Dev nD) : FVec Ideal S1x32x30x768 .f32 := m ((c : Thread nD τ).loc main_arg1)
abbrev A2 (c : Dev nD) : FVec Ideal S2x32x256x4x64 .f32 := m ((c : Thread nD τ).loc main_arg2)
abbrev A3 (c : Dev nD) : FVec Ideal S2x32x256x4x64 .f32 := m ((c : Thread nD τ).loc main_arg3)
abbrev A4 (c : Dev nD) : FVec Ideal S2x1024 .f32 := m ((c : Thread nD τ).loc main_arg4)
abbrev A5 (c : Dev nD) : FVec Ideal S1x1024x1792 .f32 := m ((c : Thread nD τ).loc main_arg5)
abbrev A6 (c : Dev nD) : FVec Ideal S1x31x768 .f32 := m ((c : Thread nD τ).loc main_arg6)
abbrev A7 (c : Dev nD) : FVec Ideal S1x768 .f32 := m ((c : Thread nD τ).loc main_arg7)
abbrev A8 (c : Dev nD) : FVec Ideal S1x768 .f32 := m ((c : Thread nD τ).loc main_arg8)
abbrev A9 (c : Dev nD) : FVec Ideal S1x768 .f32 := m ((c : Thread nD τ).loc main_arg9)
abbrev A10 (c : Dev nD) : FVec Ideal S1x1024x1024 .f32 := m ((c : Thread nD τ).loc main_arg10)
abbrev A11 (c : Dev nD) : FVec Ideal S2x1024 .f32 := m ((c : Thread nD τ).loc main_arg11)

/-- The sequence of a tile. -/
abbrev sq (t : Fin cfg0.N) : Fin 32 := ⟨t.val, t.isLt⟩

theorem b0 (c : Dev nD) (t : Fin cfg0.N) (r : Fin 8) (d : Fin 1024) : (iblk m c 0 t : FVec Ideal S8x1024 .f32) (ix2 r d)
    = A0 m c (ix3 (sq t) r d) := by
  blk_point [iblk, V, idx t]

set_option maxHeartbeats 2000000 in
theorem b1 (c : Dev nD) (t : Fin cfg0.N) (z : Fin 1) (i : Fin 30) (j : Fin 768) : (iblk m c 1 t : FVec Ideal S1x30x768 .f32) (ix3 z i j)
    = A1 m c (ix4 (0 : Fin 1) (sq t) i j) := by
  blk_point [iblk, V, idx t]

set_option maxHeartbeats 2000000 in
theorem b2 (c : Dev nD) (t : Fin cfg0.N) (d k : Fin 256) : k0_pay99 (F := Ideal) (iblk m c 2 t) (ix2 d k)
    = A2 m c (ix5 (0 : Fin 2) (sq t) k (⟨d.val / 64, by omega⟩ : Fin 4) (⟨d.val % 64, by omega⟩ : Fin 64)) := by
  pointwise [k0_pay99]
  blk_point [iblk, V, idx t]

set_option maxHeartbeats 2000000 in
theorem b3 (c : Dev nD) (t : Fin cfg0.N) (d k : Fin 256) : k0_pay100 (F := Ideal) (iblk m c 3 t) (ix2 d k)
    = A3 m c (ix5 (0 : Fin 2) (sq t) k (⟨d.val / 64, by omega⟩ : Fin 4) (⟨d.val % 64, by omega⟩ : Fin 64)) := by
  pointwise [k0_pay100]
  blk_point [iblk, V, idx t]

theorem b4 (c : Dev nD) (t : Fin cfg0.N) (d : Fin 1024) : (iblk m c 4 t : FVec Ideal S1x1024 .f32) (ix2 0 d) = A4 m c (ix2 (0 : Fin 2) d) := by
  blk_point [iblk, V, idx t]

theorem b5 (c : Dev nD) (t : Fin cfg0.N) (d : Fin 1024) (k : Fin 1792) : (iblk m c 5 t : FVec Ideal S1024x1792 .bf16) (ix2 d k) = A5 m c (ix3 (0 : Fin 1) d k) := by
  blk_point [iblk, V, idx t]

theorem b6 (c : Dev nD) (t : Fin cfg0.N) (d : Fin 31) (k : Fin 768) : (iblk m c 6 t : FVec Ideal S31x768 .f32) (ix2 d k) = A6 m c (ix3 (0 : Fin 1) d k) := by
  blk_point [iblk, V, idx t]

theorem b7 (c : Dev nD) (t : Fin cfg0.N) (k : Fin 768) : (iblk m c 7 t : FVec Ideal S1x768 .f32) (ix2 0 k) = A7 m c (ix2 (0 : Fin 1) k) := by
  blk_point [iblk, V, idx t]

theorem b8 (c : Dev nD) (t : Fin cfg0.N) (k : Fin 768) : (iblk m c 8 t : FVec Ideal S1x768 .f32) (ix2 0 k) = A8 m c (ix2 (0 : Fin 1) k) := by
  blk_point [iblk, V, idx t]

theorem b9 (c : Dev nD) (t : Fin cfg0.N) (k : Fin 768) : (iblk m c 9 t : FVec Ideal S1x768 .f32) (ix2 0 k) = A9 m c (ix2 (0 : Fin 1) k) := by
  blk_point [iblk, V, idx t]

theorem b10 (c : Dev nD) (t : Fin cfg0.N) (d k : Fin 1024) : (iblk m c 10 t : FVec Ideal S1024x1024 .bf16) (ix2 d k) = A10 m c (ix3 (0 : Fin 1) d k) := by
  blk_point [iblk, V, idx t]

theorem b11 (c : Dev nD) (t : Fin cfg0.N) (d : Fin 1024) : (iblk m c 11 t : FVec Ideal S1x1024 .f32) (ix2 0 d) = A11 m c (ix2 (0 : Fin 2) d) := by
  blk_point [iblk, V, idx t]

end Cert.LayerZeroSIdeal.Val

end
-- ==== Proof.LayerZeroSConv.lean ====
module

public import proofs.«01_k».proof.Proof.LayerZeroSVal

/-! # The first layer's call going on from a state: the convolution's rows, their shifted copies, and the loads of both -/

@[expose] public section

set_option maxRecDepth 16384

noncomputable section

namespace Cert.LayerZeroSIdeal.Conv

open Idealize.ShloMosaic Idealize.ShloMosaic.TcCoe
open Cert.LayerZeroSIdeal Cert.LayerZeroSIdeal.Gen

/-- The convolution at row `R` of a tile and channel `c`: `Z` holds the gated rows with 32 rows of the past before them, tap `w`
    meets the row `30 - w` before `R`. -/
def conv (Z W : ℕ → ℕ → EReal) (B : ℕ → EReal) (R c : ℕ) : EReal :=
  B c + ∑ w ∈ Finset.range 31, Z (R + w + 2) c * W w c

/-- A load of a run of rows out of the shifted copies. -/
theorem read_shift {L : List (View.Piece (Elt Ideal) S7x32x768 .f32)} {Z : ℕ → ℕ → EReal}
    (hX : ∀ (s : Fin 7) (i : Fin 32) (j : Fin 768), View.canon (Val := Elt Ideal) L (ix3 s i j) = Z (s.val + 1 + i.val) j.val)
    {s a b : ℕ} (inb : ∀ x, (![s, a, b] : Fin 3 → ℕ) x + (![1, 8, 128] : Fin 3 → ℕ) x ≤ S7x32x768.size x)
    (z : Fin 1) (r : Fin 8) (l : Fin 128) :
    (View.whole cc0_scratch1).readCov (Val := Elt Ideal) L (Rect.unit (s := S7x32x768) ![s, a, b] ![1, 8, 128] inb).toLoadRect (ix3 z r l)
      = Z (s + 1 + (a + r.val)) (b + l.val) := by
  have h0 : s + 1 ≤ 7 := inb 0
  have h1 : a + 8 ≤ 32 := inb 1
  have h2 : b + 128 ≤ 768 := inb 2
  rw [View.readCov_eq_canon']
  refine Eq.trans (congrArg (View.canon (Val := Elt Ideal) L) ?_)
    (hX ⟨s, by omega⟩ ⟨a + r.val, by omega⟩ ⟨b + l.val, by omega⟩)
  funext x
  refine Fin.ext ?_
  fin_cases x
  · show s + 1 * z.val = s
    omega
  · show a + 1 * r.val = a + r.val
    omega
  · show b + 1 * l.val = b + l.val
    omega

/-- A load of a run of rows out of the rows themselves. -/
theorem read_rows {L : List (View.Piece (Elt Ideal) S40x768 .f32)} {Z : ℕ → ℕ → EReal}
    (hX : ∀ (i : Fin 40) (j : Fin 768), View.canon (Val := Elt Ideal) L (ix2 i j) = Z i.val j.val)
    {a b : ℕ} (inb : ∀ x, (![a, b] : Fin 2 → ℕ) x + (![8, 128] : Fin 2 → ℕ) x ≤ S40x768.size x)
    (r : Fin 8) (l : Fin 128) :
    (View.whole cc0_scratch0).readCov (Val := Elt Ideal) L (Rect.unit (s := S40x768) ![a, b] ![8, 128] inb).toLoadRect (ix2 r l)
      = Z (a + r.val) (b + l.val) := by
  have h1 : a + 8 ≤ 40 := inb 0
  have h2 : b + 128 ≤ 768 := inb 1
  rw [View.readCov_eq_canon']
  refine Eq.trans (congrArg (View.canon (Val := Elt Ideal) L) ?_) (hX ⟨a + r.val, by omega⟩ ⟨b + l.val, by omega⟩)
  funext x
  refine Fin.ext ?_
  fin_cases x
  · show a + 1 * r.val = a + r.val
    omega
  · show b + 1 * l.val = b + l.val
    omega

/-- A load of one tap's weights. -/
theorem read_tap {X : FVec Ideal S31x768 .f32} {W : ℕ → ℕ → EReal} (hX : ∀ (i : Fin 31) (j : Fin 768), X (ix2 i j) = W i.val j.val)
    {a b : ℕ} (inb : ∀ x, (![a, b] : Fin 2 → ℕ) x + (![1, 128] : Fin 2 → ℕ) x ≤ S31x768.size x) (z : Fin 1) (l : Fin 128) :
    View.ld (Val := Elt Ideal) (e' := .f32) X (Rect.unit (s := S31x768) ![a, b] ![1, 128] inb) (ix2 z l) = W a (b + l.val) := by
  have h1 : a + 1 ≤ 31 := inb 0
  have h2 : b + 128 ≤ 768 := inb 1
  refine Eq.trans (congrArg X ?_) (hX ⟨a, by omega⟩ ⟨b + l.val, by omega⟩)
  funext x
  refine Fin.ext ?_
  fin_cases x
  · show a + 1 * z.val = a
    omega
  · show b + 1 * l.val = b + l.val
    omega

/-- A load of the bias. -/
theorem read_bias {X : FVec Ideal S1x768 .f32} {B : ℕ → EReal} (hX : ∀ (j : Fin 768), X (ix2 0 j) = B j.val)
    {b : ℕ} (inb : ∀ x, (![0, b] : Fin 2 → ℕ) x + (![1, 128] : Fin 2 → ℕ) x ≤ S1x768.size x) (z : Fin 1) (l : Fin 128) :
    View.ld (Val := Elt Ideal) (e' := .f32) X (Rect.unit (s := S1x768) ![0, b] ![1, 128] inb) (ix2 z l) = B (b + l.val) := by
  have h2 : b + 128 ≤ 768 := inb 1
  refine Eq.trans (congrArg X ?_) (hX ⟨b + l.val, by omega⟩)
  funext x
  refine Fin.ext ?_
  fin_cases x
  · show 0 + 1 * z.val = 0
    omega
  · show b + 1 * l.val = b + l.val
    omega

/-- One of the seven shifted copies. -/
def copy (L : List (View.Piece (Elt Ideal) S40x768 .f32)) (n : ℕ) (inb : ∀ a, (![n, 0] : Fin 2 → ℕ) a + (![32, 768] : Fin 2 → ℕ) a ≤ S40x768.size a) :
    FVec Ideal S1x32x768 .f32 :=
  shapeCast S1x32x768 ((View.whole cc0_scratch0).readCov (Val := Elt Ideal) L (Rect.unit (s := S40x768) ![n, 0] ![32, 768] inb).toLoadRect)
    shapeCasts_S32x768_S1x32x768

theorem row_cast (f : FVec Ideal S32x768 .f32) (i : Fin 32) (j : Fin 768) (z : Fin 1) :
    shapeCast S1x32x768 f shapeCasts_S32x768_S1x32x768 (ix3 z i j) = f (ix2 i j) := by
  pointwise

theorem copy_apply (L : List (View.Piece (Elt Ideal) S40x768 .f32)) (n : ℕ) (hn : n ≤ 8) (inb) (i : Fin 32) (j : Fin 768) (z : Fin 1) :
    copy L n inb (ix3 z i j) = View.canon (Val := Elt Ideal) L (ix2 (⟨n + i.val, by omega⟩ : Fin 40) j) := by
  unfold copy
  rw [View.readCov_eq_canon']
  refine (row_cast _ i j z).trans ?_
  refine congrArg (View.canon (Val := Elt Ideal) L) ?_
  funext a
  refine Fin.ext ?_
  fin_cases a
  · show n + 1 * i.val = n + i.val
    omega
  · show 0 + 1 * j.val = j.val
    omega

/-- The shifted copies, read back. -/
theorem shift_read (L : List (View.Piece (Elt Ideal) S40x768 .f32)) (i1 i2 i3 i4 i5 i6 i7) (j0 j1 j2 j3 j4 j5 j6)
    {Z : ℕ → ℕ → EReal} (hZ : ∀ (i : Fin 40) (j : Fin 768), View.canon (Val := Elt Ideal) L (ix2 i j) = Z i.val j.val)
    (s : Fin 7) (i : Fin 32) (j : Fin 768) :
    View.canon (Val := Elt Ideal) (e := .f32)
      [⟨Rect.unit (s := S7x32x768) ![6, 0, 0] ![1, 32, 768] j6, copy L 7 i7⟩,
       ⟨Rect.unit (s := S7x32x768) ![5, 0, 0] ![1, 32, 768] j5, copy L 6 i6⟩,
       ⟨Rect.unit (s := S7x32x768) ![4, 0, 0] ![1, 32, 768] j4, copy L 5 i5⟩,
       ⟨Rect.unit (s := S7x32x768) ![3, 0, 0] ![1, 32, 768] j3, copy L 4 i4⟩,
       ⟨Rect.unit (s := S7x32x768) ![2, 0, 0] ![1, 32, 768] j2, copy L 3 i3⟩,
       ⟨Rect.unit (s := S7x32x768) ![1, 0, 0] ![1, 32, 768] j1, copy L 2 i2⟩,
       ⟨Rect.unit (s := S7x32x768) ![0, 0, 0] ![1, 32, 768] j0, copy L 1 i1⟩] (ix3 s i j)
      = Z (s.val + 1 + i.val) j.val := by
  refine View.canon_apply_of_pieces (Val := Elt Ideal) (S := S7x32x768) (e := .f32)
    (fun y => Z ((y 0).val + 1 + (y 1).val) (y 2).val) _ ?_ (ix3 s i j) ?_
  · intro p hp
    simp only [List.mem_cons, List.not_mem_nil, or_false] at hp
    rcases hp with rfl | rfl | rfl | rfl | rfl | rfl | rfl
    · intro y
      obtain ⟨y0, y1, y2, rfl⟩ : ∃ (y0 : Fin 1) (y1 : Fin 32) (y2 : Fin 768), y = ix3 y0 y1 y2 :=
        ⟨y 0, y 1, y 2, by funext a; fin_cases a <;> rfl⟩
      refine (copy_apply L 7 (by omega) _ y1 y2 y0).trans ((hZ _ _).trans ?_)
      have e0 : y0.val = 0 := by omega
      refine congrArg₂ Z ?_ ?_
      · show 7 + y1.val = (6 + 1 * y0.val) + 1 + (0 + 1 * y1.val)
        omega
      · show y2.val = 0 + 1 * y2.val
        omega
    · intro y
      obtain ⟨y0, y1, y2, rfl⟩ : ∃ (y0 : Fin 1) (y1 : Fin 32) (y2 : Fin 768), y = ix3 y0 y1 y2 :=
        ⟨y 0, y 1, y 2, by funext a; fin_cases a <;> rfl⟩
      refine (copy_apply L 6 (by omega) _ y1 y2 y0).trans ((hZ _ _).trans ?_)
      have e0 : y0.val = 0 := by omega
      refine congrArg₂ Z ?_ ?_
      · show 6 + y1.val = (5 + 1 * y0.val) + 1 + (0 + 1 * y1.val)
        omega
      · show y2.val = 0 + 1 * y2.val
        omega
    · intro y
      obtain ⟨y0, y1, y2, rfl⟩ : ∃ (y0 : Fin 1) (y1 : Fin 32) (y2 : Fin 768), y = ix3 y0 y1 y2 :=
        ⟨y 0, y 1, y 2, by funext a; fin_cases a <;> rfl⟩
      refine (copy_apply L 5 (by omega) _ y1 y2 y0).trans ((hZ _ _).trans ?_)
      have e0 : y0.val = 0 := by omega
      refine congrArg₂ Z ?_ ?_
      · show 5 + y1.val = (4 + 1 * y0.val) + 1 + (0 + 1 * y1.val)
        omega
      · show y2.val = 0 + 1 * y2.val
        omega
    · intro y
      obtain ⟨y0, y1, y2, rfl⟩ : ∃ (y0 : Fin 1) (y1 : Fin 32) (y2 : Fin 768), y = ix3 y0 y1 y2 :=
        ⟨y 0, y 1, y 2, by funext a; fin_cases a <;> rfl⟩
      refine (copy_apply L 4 (by omega) _ y1 y2 y0).trans ((hZ _ _).trans ?_)
      have e0 : y0.val = 0 := by omega
      refine congrArg₂ Z ?_ ?_
      · show 4 + y1.val = (3 + 1 * y0.val) + 1 + (0 + 1 * y1.val)
        omega
      · show y2.val = 0 + 1 * y2.val
        omega
    · intro y
      obtain ⟨y0, y1, y2, rfl⟩ : ∃ (y0 : Fin 1) (y1 : Fin 32) (y2 : Fin 768), y = ix3 y0 y1 y2 :=
        ⟨y 0, y 1, y 2, by funext a; fin_cases a <;> rfl⟩
      refine (copy_apply L 3 (by omega) _ y1 y2 y0).trans ((hZ _ _).trans ?_)
      have e0 : y0.val = 0 := by omega
      refine congrArg₂ Z ?_ ?_
      · show 3 + y1.val = (2 + 1 * y0.val) + 1 + (0 + 1 * y1.val)
        omega
      · show y2.val = 0 + 1 * y2.val
        omega
    · intro y
      obtain ⟨y0, y1, y2, rfl⟩ : ∃ (y0 : Fin 1) (y1 : Fin 32) (y2 : Fin 768), y = ix3 y0 y1 y2 :=
        ⟨y 0, y 1, y 2, by funext a; fin_cases a <;> rfl⟩
      refine (copy_apply L 2 (by omega) _ y1 y2 y0).trans ((hZ _ _).trans ?_)
      have e0 : y0.val = 0 := by omega
      refine congrArg₂ Z ?_ ?_
      · show 2 + y1.val = (1 + 1 * y0.val) + 1 + (0 + 1 * y1.val)
        omega
      · show y2.val = 0 + 1 * y2.val
        omega
    · intro y
      obtain ⟨y0, y1, y2, rfl⟩ : ∃ (y0 : Fin 1) (y1 : Fin 32) (y2 : Fin 768), y = ix3 y0 y1 y2 :=
        ⟨y 0, y 1, y 2, by funext a; fin_cases a <;> rfl⟩
      refine (copy_apply L 1 (by omega) _ y1 y2 y0).trans ((hZ _ _).trans ?_)
      have e0 : y0.val = 0 := by omega
      refine congrArg₂ Z ?_ ?_
      · show 1 + y1.val = (0 + 1 * y0.val) + 1 + (0 + 1 * y1.val)
        omega
      · show y2.val = 0 + 1 * y2.val
        omega
  · have hc : ∀ (n : ℕ) (inb), n = s.val → ix3 s i j ∈ (Rect.unit (s := S7x32x768) ![n, 0, 0] ![1, 32, 768] inb).set := fun n inb hn => by
      rw [Rect.mem_set_unit]
      intro a
      fin_cases a
      · exact ⟨by show n ≤ s.val; omega, by show s.val < n + 1; omega⟩
      · exact ⟨by show 0 ≤ i.val; omega, by show i.val < 0 + 32; omega⟩
      · exact ⟨by show 0 ≤ j.val; omega, by show j.val < 0 + 768; omega⟩
    rcases (by omega : s.val = 6 ∨ s.val = 5 ∨ s.val = 4 ∨ s.val = 3 ∨ s.val = 2 ∨ s.val = 1 ∨ s.val = 0) with h | h | h | h | h | h | h
    · exact ⟨_, List.mem_cons_self, hc 6 j6 h.symm⟩
    · exact ⟨_, List.mem_cons_of_mem _ (List.mem_cons_self), hc 5 j5 h.symm⟩
    · exact ⟨_, List.mem_cons_of_mem _ (List.mem_cons_of_mem _ (List.mem_cons_self)), hc 4 j4 h.symm⟩
    · exact ⟨_, List.mem_cons_of_mem _ (List.mem_cons_of_mem _ (List.mem_cons_of_mem _ (List.mem_cons_self))), hc 3 j3 h.symm⟩
    · exact ⟨_, List.mem_cons_of_mem _ (List.mem_cons_of_mem _ (List.mem_cons_of_mem _ (List.mem_cons_of_mem _ (List.mem_cons_self)))), hc 2 j2 h.symm⟩
    · exact ⟨_, List.mem_cons_of_mem _ (List.mem_cons_of_mem _ (List.mem_cons_of_mem _ (List.mem_cons_of_mem _ (List.mem_cons_of_mem _ (List.mem_cons_self))))), hc 1 j1 h.symm⟩
    · exact ⟨_, List.mem_cons_of_mem _ (List.mem_cons_of_mem _ (List.mem_cons_of_mem _ (List.mem_cons_of_mem _ (List.mem_cons_of_mem _ (List.mem_cons_of_mem _ (List.mem_cons_self)))))), hc 0 j0 h.symm⟩

/-- A buffer of 40 rows: three stores from the top down. -/
theorem rows3 (z : FVec Ideal S8x768 .f32) (p : FVec Ideal S30x768 .f32) (q : FVec Ideal S2x768 .f32) (b1 b2 b3) (i : Fin 40) (j : Fin 768) :
    View.canon (Val := Elt Ideal) (e := .f32)
      [⟨Rect.unit (s := S40x768) ![32, 0] ![8, 768] b1, z⟩, ⟨Rect.unit (s := S40x768) ![2, 0] ![30, 768] b2, p⟩,
        ⟨Rect.unit (s := S40x768) ![0, 0] ![2, 768] b3, q⟩] (ix2 i j)
      = if h : 32 ≤ i.val then z (ix2 (⟨i.val - 32, by omega⟩ : Fin 8) j)
        else if h' : 2 ≤ i.val then p (ix2 (⟨i.val - 2, by omega⟩ : Fin 30) j) else q (ix2 (⟨i.val, by omega⟩ : Fin 2) j) := by
  by_cases h : 32 ≤ i.val
  · rw [dif_pos h, show ix2 i j = (Rect.unit (s := S40x768) ![32, 0] ![8, 768] b1).emb (ix2 (⟨i.val - 32, by omega⟩ : Fin 8) j) from by
      funext a
      refine Fin.ext ?_
      fin_cases a
      · show i.val = 32 + 1 * (i.val - 32)
        omega
      · show j.val = 0 + 1 * j.val
        omega]
    exact View.canon_cons_emb _ _ _ _
  · have n1 : ix2 i j ∉ (Rect.unit (s := S40x768) ![32, 0] ![8, 768] b1).set := by
      rw [Rect.mem_set_unit]
      intro hh
      exact h (hh 0).1
    rw [dif_neg h, View.canon_cons_of_not_mem (Val := Elt Ideal) (e := .f32) ⟨Rect.unit (s := S40x768) ![32, 0] ![8, 768] b1, z⟩ _ n1]
    by_cases h' : 2 ≤ i.val
    · rw [dif_pos h', show ix2 i j = (Rect.unit (s := S40x768) ![2, 0] ![30, 768] b2).emb (ix2 (⟨i.val - 2, by omega⟩ : Fin 30) j) from by
        funext a
        refine Fin.ext ?_
        fin_cases a
        · show i.val = 2 + 1 * (i.val - 2)
          omega
        · show j.val = 0 + 1 * j.val
          omega]
      exact View.canon_cons_emb _ _ _ _
    · have n2 : ix2 i j ∉ (Rect.unit (s := S40x768) ![2, 0] ![30, 768] b2).set := by
        rw [Rect.mem_set_unit]
        intro hh
        exact h' (hh 0).1
      rw [dif_neg h', View.canon_cons_of_not_mem (Val := Elt Ideal) (e := .f32) ⟨Rect.unit (s := S40x768) ![2, 0] ![30, 768] b2, p⟩ _ n2, show ix2 i j = (Rect.unit (s := S40x768) ![0, 0] ![2, 768] b3).emb (ix2 (⟨i.val, by omega⟩ : Fin 2) j) from by
        funext a
        refine Fin.ext ?_
        fin_cases a
        · show i.val = 0 + 1 * i.val
          omega
        · show j.val = 0 + 1 * j.val
          omega]
      exact View.canon_cons_emb _ _ _ _

end Cert.LayerZeroSIdeal.Conv

end
-- ==== Proof.LayerZeroSOut.lean ====
module

public import proofs.«01_k».proof.Proof.LayerZeroSConv

/-! # The first layer's call going on from a state: sequence by sequence, then the whole arrays -/

@[expose] public section

set_option maxRecDepth 16384

noncomputable section

open Idealize.ShloMosaic Idealize.ShloMosaic.TcCoe Idealize.SL.Sem
open Idealize.ShloMosaic.Pipeline (Dat)

namespace Cert.LayerZeroSIdeal.Val
open Cert.LayerZeroSIdeal Cert.LayerZeroSIdeal.Gen Cert.Attn Cert.LayerState Cert.LayerZeroSIdeal.Conv
open Cert.Layer hiding convRow mixed stream nrm past

variable (m : (ℓ : Loc nD τ sig) → Buf (Elt Ideal) ℓ)

/-- The arguments as functions of their coordinates. -/
abbrev fx (c : Dev nD) : Fin 32 → Fin 8 → Fin 1024 → EReal := fun i j k => A0 m c (ix3 i j k)
abbrev fst (c : Dev nD) : Fin 32 → Fin 30 → Fin 768 → EReal := fun i j k => A1 m c (ix4 (0 : Fin 1) i j k)
abbrev fck (c : Dev nD) : Fin 32 → Fin 256 → Fin 256 → EReal := fun b d k =>
  A2 m c (ix5 (0 : Fin 2) b k (⟨d.val / 64, by omega⟩ : Fin 4) (⟨d.val % 64, by omega⟩ : Fin 64))
abbrev fcv (c : Dev nD) : Fin 32 → Fin 256 → Fin 256 → EReal := fun b d k =>
  A3 m c (ix5 (0 : Fin 2) b k (⟨d.val / 64, by omega⟩ : Fin 4) (⟨d.val % 64, by omega⟩ : Fin 64))
abbrev fg (c : Dev nD) : Fin 1024 → EReal := fun d => A4 m c (ix2 (0 : Fin 2) d)
abbrev fW (c : Dev nD) : Fin 1024 → Fin 1792 → EReal := fun d k => A5 m c (ix3 (0 : Fin 1) d k)
abbrev fw (c : Dev nD) : Fin 31 → Fin 768 → EReal := fun d k => A6 m c (ix3 (0 : Fin 1) d k)
abbrev fb (c : Dev nD) : Fin 768 → EReal := fun k => A7 m c (ix2 (0 : Fin 1) k)
abbrev fcg (c : Dev nD) : Fin 768 → EReal := fun k => A8 m c (ix2 (0 : Fin 1) k)
abbrev fcb (c : Dev nD) : Fin 768 → EReal := fun k => A9 m c (ix2 (0 : Fin 1) k)
abbrev fwo (c : Dev nD) : Fin 1024 → Fin 1024 → EReal := fun d k => A10 m c (ix3 (0 : Fin 1) d k)
abbrev fgf (c : Dev nD) : Fin 1024 → EReal := fun d => A11 m c (ix2 (0 : Fin 2) d)

theorem gated_tile (c : Dev nD) (t : Fin cfg0.N) (r : Fin 8) (j : Fin 768) :
    k0_pay10 (F := Ideal) (iblk m c 0 t) (iblk m c 4 t) (iblk m c 5 t) (ix2 r j)
      = ext2 (fun r : Fin 8 => gated (fx m c (sq t) r) (fg m c) (fW m c)) r.val j.val := by
  rw [gated_apply]
  simp only [b0, b4, b5]
  exact (ext2_val (fun r : Fin 8 => gated (fx m c (sq t) r) (fg m c) (fW m c)) r j).symm

theorem query_tile (c : Dev nD) (t : Fin cfg0.N) (r : Fin 8) (j : Fin 256) :
    k0_pay11 (F := Ideal) (iblk m c 0 t) (iblk m c 4 t) (iblk m c 5 t) (ix2 r j) = query (fx m c (sq t) r) (fg m c) (fW m c) j := by
  rw [query_apply]
  simp only [b0, b4, b5]

/-- The rows the convolution of a sequence runs over: two zero rows, the state, then the sequence's own. -/
def rowsOf (c : Dev nD) (t : Fin cfg0.N) (i j : ℕ) : EReal :=
  if 2 ≤ i then hist (fx m c) (fst m c) (fg m c) (fW m c) (sq t) (i - 2) j else 0

theorem plane_drop (f : FVec Ideal S1x30x768 .f32) (i : Fin 30) (j : Fin 768) : k0_pay6 (F := Ideal) f (ix2 i j) = f (ix3 0 i j) := by
  pointwise [k0_pay6]

theorem zero_rows (i : Fin 2) (j : Fin 768) : k0_pay5 (F := Ideal) (ix2 i j) = (0 : EReal) := by
  pointwise [k0_pay5]

theorem rows_of (c : Dev nD) (t : Fin cfg0.N) (i : Fin 40) (j : Fin 768) :
    View.canon (Val := Elt Ideal) (e := .f32)
      [⟨Rect.unit (s := S40x768) ![32, 0] ![8, 768] inb_S40x768_S8x768_32_0, k0_pay10 (F := Ideal) (iblk m c 0 t) (iblk m c 4 t) (iblk m c 5 t)⟩,
        ⟨Rect.unit (s := S40x768) ![2, 0] ![30, 768] inb_S40x768_S30x768_2_0, k0_pay6 (F := Ideal) (iblk m c 1 t)⟩,
        ⟨Rect.unit (s := S40x768) ![0, 0] ![2, 768] inb_S40x768_S2x768_0_0, k0_pay5 (F := Ideal)⟩] (ix2 i j)
      = rowsOf m c t i.val j.val := by
  refine (rows3 _ _ _ _ _ _ i j).trans ?_
  unfold rowsOf hist
  by_cases h : 32 ≤ i.val
  · rw [dif_pos h, if_pos (by omega), if_pos (by omega), gated_tile]
    congr 1
  · rw [dif_neg h]
    split
    · rename_i h'
      rw [if_neg (by omega), plane_drop, b1]
      exact (ext2_val (fun (j : Fin 30) (d : Fin 768) => A1 m c (ix4 (0 : Fin 1) (sq t) j d)) (⟨i.val - 2, by omega⟩ : Fin 30) j).symm
    · rename_i h'
      rw [zero_rows]

/-- The convolution over a sequence's rows is the causal one. -/
theorem conv_rows (c : Dev nD) (t : Fin cfg0.N) (r : Fin 8) (j : Fin 768) :
    conv (rowsOf m c t) (ext2 (fw m c)) (ext1 (fb m c)) r.val j.val
      = convRow (fx m c) (fst m c) (fg m c) (fW m c) (fw m c) (fb m c) (sq t) r j := by
  unfold conv convRow
  refine congrArg _ (Finset.sum_congr rfl fun w _ => ?_)
  refine congrArg (· * _) ?_
  unfold rowsOf
  rw [if_pos (by omega)]
  exact congrArg (fun n => hist _ _ _ _ _ n _) (by omega)

/-- The convolved tile. -/
def convTile (c : Dev nD) (t : Fin cfg0.N) : FVec Ideal S8x768 .f32 := fun j =>
  conv (rowsOf m c t) (ext2 (fw m c)) (ext1 (fb m c)) (j 0).val (j 1).val

/-- The tile the output projection reads. -/
abbrev mixT (c : Dev nD) (t : Fin cfg0.N) : FVec Ideal S8x1024 .bf16 :=
  mixTile (convTile m c t) (iblk m c 8 t) (iblk m c 9 t) (k0_pay11 (F := Ideal) (iblk m c 0 t) (iblk m c 4 t) (iblk m c 5 t))
    (iblk m c 2 t) (k0_pay100 (F := Ideal) (iblk m c 3 t))

set_option maxHeartbeats 8000000 in
theorem out14 (c : Dev nD) (t : Fin cfg0.N) : (outsAt0 m c t).1
    = k0_pay116 (F := Ideal) (k0_pay8 (iblk m c 0 t)) (mixT m c t) (iblk m c 10 t) := by
  simp only [outsAt0]
  frame_out
  generalize hCB : (View.whole cc0_scratch2).readCov (Val := Elt Ideal) _ _ = CB
  generalize hL1 : List.cons (α := View.Piece (Elt Ideal) S7x32x768 .f32) _ _ = L1 at hCB
  generalize hL0 : List.cons (α := View.Piece (Elt Ideal) S40x768 .f32) _ _ = L0 at hCB hL1
  generalize hM : List.cons (α := View.Piece (Elt Ideal) S8x1024 .bf16) _ _ = M
  have hX : CB = convTile m c t := by
    have h0 : ∀ (i : Fin 40) (j : Fin 768), View.canon (Val := Elt Ideal) L0 (ix2 i j) = rowsOf m c t i.val j.val := by
      rw [← hL0]
      exact rows_of m c t
    have h1 : ∀ (s : Fin 7) (i : Fin 32) (j : Fin 768), View.canon (Val := Elt Ideal) L1 (ix3 s i j) = rowsOf m c t (s.val + 1 + i.val) j.val := by
      rw [← hL1]
      exact shift_read L0 _ _ _ _ _ _ _ _ _ _ _ _ _ _ h0
    clear hL0 hL1 hM
    have hW : ∀ (i : Fin 31) (j : Fin 768), (iblk m c 6 t : FVec Ideal S31x768 .f32) (ix2 i j) = ext2 (fw m c) i.val j.val := fun i j => by
      rw [b6]
      exact (ext2_val (fw m c) i j).symm
    have hB : ∀ (j : Fin 768), (iblk m c 7 t : FVec Ideal S1x768 .f32) (ix2 0 j) = ext1 (fb m c) j.val := fun j => by
      rw [b7]
      exact (ext1_val (fb m c) j).symm
    unfold convTile
    generalize (iblk m c 6 t : FVec Ideal S31x768 .f32) = T at hCB hW
    generalize (iblk m c 7 t : FVec Ideal S1x768 .f32) = U at hCB hB
    generalize rowsOf m c t = Z at h0 h1 ⊢
    generalize ext2 (fw m c) = W at hW ⊢
    generalize ext1 (fb m c) = B at hB ⊢
    have hT : ∀ (a b : ℕ) (inb : ∀ x, (![a, b] : Fin 2 → ℕ) x + (![1, 128] : Fin 2 → ℕ) x ≤ S31x768.size x) (z : Fin 1) (l : Fin 128),
        View.ld (Val := Elt Ideal) (e' := .f32) T (Rect.unit (s := S31x768) ![a, b] ![1, 128] inb) (ix2 z l) = W a (b + l.val) :=
      fun a b inb z l => read_tap hW inb z l
    have hU : ∀ (b : ℕ) (inb : ∀ x, (![0, b] : Fin 2 → ℕ) x + (![1, 128] : Fin 2 → ℕ) x ≤ S1x768.size x) (z : Fin 1) (l : Fin 128),
        View.ld (Val := Elt Ideal) (e' := .f32) U (Rect.unit (s := S1x768) ![0, b] ![1, 128] inb) (ix2 z l) = B (b + l.val) :=
      fun b inb z l => read_bias hB inb z l
    have hR : ∀ (s a b : ℕ) (inb : ∀ x, (![s, a, b] : Fin 3 → ℕ) x + (![1, 8, 128] : Fin 3 → ℕ) x ≤ S7x32x768.size x) (z : Fin 1) (r : Fin 8) (l : Fin 128),
        (View.whole cc0_scratch1).readCov (Val := Elt Ideal) L1 (Rect.unit (s := S7x32x768) ![s, a, b] ![1, 8, 128] inb).toLoadRect (ix3 z r l)
          = Z (s + 1 + (a + r.val)) (b + l.val) := fun s a b inb z r l => read_shift h1 inb z r l
    have hQ : ∀ (a b : ℕ) (inb : ∀ x, (![a, b] : Fin 2 → ℕ) x + (![8, 128] : Fin 2 → ℕ) x ≤ S40x768.size x) (r : Fin 8) (l : Fin 128),
        (View.whole cc0_scratch0).readCov (Val := Elt Ideal) L0 (Rect.unit (s := S40x768) ![a, b] ![8, 128] inb).toLoadRect (ix2 r l)
          = Z (a + r.val) (b + l.val) := fun a b inb r l => read_rows h0 inb r l
    generalize View.ld (Val := Elt Ideal) (e' := .f32) T = LT at hCB hT
    generalize View.ld (Val := Elt Ideal) (e' := .f32) U = LU at hCB hU
    generalize (View.whole cc0_scratch1).readCov (Val := Elt Ideal) L1 = R1 at hCB hR
    generalize (View.whole cc0_scratch0).readCov (Val := Elt Ideal) L0 = R0 at hCB hQ
    rw [← hCB, View.readCov_eq_canon']
    funext j
    have hj : (Rect.unit (s := S8x768) ![0, 0] ![8, 768] inb_S8x768_S8x768_0_0).toLoadRect.idx j = j := by
      funext a; fin_cases a <;> apply Fin.ext <;> simp [Rect.toLoadRect]
    rw [hj]
    refine View.canon_apply_of_pieces (Val := Elt Ideal) (S := S8x768) (e := .f32) (fun j => conv Z W B (j 0).val (j 1).val) _ ?_ j ?_
    rotate_left
    · exact View.cover_of_tiledL _ ![8, 128] (by sl_kernel_rfl) j
    intro p hp
    simp only [List.mem_cons, List.not_mem_nil, or_false] at hp
    rcases hp with rfl | rfl | rfl | rfl | rfl | rfl
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 640 + l.val = 640 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 512 + l.val = 512 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 384 + l.val = 384 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 256 + l.val = 256 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 128 + l.val = 128 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 0 + l.val = 0 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
  subst hX
  rw [← hM]
  exact congrArg (fun M => k0_pay116 (F := Ideal) (k0_pay8 (iblk m c 0 t)) M (iblk m c 10 t)) (mix_read _ _ _ _ _ _)

set_option maxHeartbeats 8000000 in
theorem out15 (c : Dev nD) (t : Fin cfg0.N) : (outsAt0 m c t).2.1
    = k0_pay117 (F := Ideal) (k0_pay8 (iblk m c 0 t)) (mixT m c t) (iblk m c 10 t) (iblk m c 11 t) := by
  simp only [outsAt0]
  frame_out
  generalize hCB : (View.whole cc0_scratch2).readCov (Val := Elt Ideal) _ _ = CB
  generalize hL1 : List.cons (α := View.Piece (Elt Ideal) S7x32x768 .f32) _ _ = L1 at hCB
  generalize hL0 : List.cons (α := View.Piece (Elt Ideal) S40x768 .f32) _ _ = L0 at hCB hL1
  generalize hM : List.cons (α := View.Piece (Elt Ideal) S8x1024 .bf16) _ _ = M
  have hX : CB = convTile m c t := by
    have h0 : ∀ (i : Fin 40) (j : Fin 768), View.canon (Val := Elt Ideal) L0 (ix2 i j) = rowsOf m c t i.val j.val := by
      rw [← hL0]
      exact rows_of m c t
    have h1 : ∀ (s : Fin 7) (i : Fin 32) (j : Fin 768), View.canon (Val := Elt Ideal) L1 (ix3 s i j) = rowsOf m c t (s.val + 1 + i.val) j.val := by
      rw [← hL1]
      exact shift_read L0 _ _ _ _ _ _ _ _ _ _ _ _ _ _ h0
    clear hL0 hL1 hM
    have hW : ∀ (i : Fin 31) (j : Fin 768), (iblk m c 6 t : FVec Ideal S31x768 .f32) (ix2 i j) = ext2 (fw m c) i.val j.val := fun i j => by
      rw [b6]
      exact (ext2_val (fw m c) i j).symm
    have hB : ∀ (j : Fin 768), (iblk m c 7 t : FVec Ideal S1x768 .f32) (ix2 0 j) = ext1 (fb m c) j.val := fun j => by
      rw [b7]
      exact (ext1_val (fb m c) j).symm
    unfold convTile
    generalize (iblk m c 6 t : FVec Ideal S31x768 .f32) = T at hCB hW
    generalize (iblk m c 7 t : FVec Ideal S1x768 .f32) = U at hCB hB
    generalize rowsOf m c t = Z at h0 h1 ⊢
    generalize ext2 (fw m c) = W at hW ⊢
    generalize ext1 (fb m c) = B at hB ⊢
    have hT : ∀ (a b : ℕ) (inb : ∀ x, (![a, b] : Fin 2 → ℕ) x + (![1, 128] : Fin 2 → ℕ) x ≤ S31x768.size x) (z : Fin 1) (l : Fin 128),
        View.ld (Val := Elt Ideal) (e' := .f32) T (Rect.unit (s := S31x768) ![a, b] ![1, 128] inb) (ix2 z l) = W a (b + l.val) :=
      fun a b inb z l => read_tap hW inb z l
    have hU : ∀ (b : ℕ) (inb : ∀ x, (![0, b] : Fin 2 → ℕ) x + (![1, 128] : Fin 2 → ℕ) x ≤ S1x768.size x) (z : Fin 1) (l : Fin 128),
        View.ld (Val := Elt Ideal) (e' := .f32) U (Rect.unit (s := S1x768) ![0, b] ![1, 128] inb) (ix2 z l) = B (b + l.val) :=
      fun b inb z l => read_bias hB inb z l
    have hR : ∀ (s a b : ℕ) (inb : ∀ x, (![s, a, b] : Fin 3 → ℕ) x + (![1, 8, 128] : Fin 3 → ℕ) x ≤ S7x32x768.size x) (z : Fin 1) (r : Fin 8) (l : Fin 128),
        (View.whole cc0_scratch1).readCov (Val := Elt Ideal) L1 (Rect.unit (s := S7x32x768) ![s, a, b] ![1, 8, 128] inb).toLoadRect (ix3 z r l)
          = Z (s + 1 + (a + r.val)) (b + l.val) := fun s a b inb z r l => read_shift h1 inb z r l
    have hQ : ∀ (a b : ℕ) (inb : ∀ x, (![a, b] : Fin 2 → ℕ) x + (![8, 128] : Fin 2 → ℕ) x ≤ S40x768.size x) (r : Fin 8) (l : Fin 128),
        (View.whole cc0_scratch0).readCov (Val := Elt Ideal) L0 (Rect.unit (s := S40x768) ![a, b] ![8, 128] inb).toLoadRect (ix2 r l)
          = Z (a + r.val) (b + l.val) := fun a b inb r l => read_rows h0 inb r l
    generalize View.ld (Val := Elt Ideal) (e' := .f32) T = LT at hCB hT
    generalize View.ld (Val := Elt Ideal) (e' := .f32) U = LU at hCB hU
    generalize (View.whole cc0_scratch1).readCov (Val := Elt Ideal) L1 = R1 at hCB hR
    generalize (View.whole cc0_scratch0).readCov (Val := Elt Ideal) L0 = R0 at hCB hQ
    rw [← hCB, View.readCov_eq_canon']
    funext j
    have hj : (Rect.unit (s := S8x768) ![0, 0] ![8, 768] inb_S8x768_S8x768_0_0).toLoadRect.idx j = j := by
      funext a; fin_cases a <;> apply Fin.ext <;> simp [Rect.toLoadRect]
    rw [hj]
    refine View.canon_apply_of_pieces (Val := Elt Ideal) (S := S8x768) (e := .f32) (fun j => conv Z W B (j 0).val (j 1).val) _ ?_ j ?_
    rotate_left
    · exact View.cover_of_tiledL _ ![8, 128] (by sl_kernel_rfl) j
    intro p hp
    simp only [List.mem_cons, List.not_mem_nil, or_false] at hp
    rcases hp with rfl | rfl | rfl | rfl | rfl | rfl
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 640 + l.val = 640 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 512 + l.val = 512 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 384 + l.val = 384 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 256 + l.val = 256 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 128 + l.val = 128 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
    · intro x
      obtain ⟨r, l, rfl⟩ : ∃ (r : Fin 8) (l : Fin 128), x = ix2 r l := ⟨x 0, x 1, by funext a; fin_cases a <;> rfl⟩
      refine Eq.trans ?_ (congrArg₂ (conv Z W B) (show r.val = 0 + 1 * r.val by omega) (show 0 + l.val = 0 + 1 * l.val by omega))
      pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97]
      simp only [hT, hU]
      simp only [conv, Finset.sum_range_succ, Finset.sum_range_zero, zero_add, ← add_assoc]
      iterate 31
        refine congrArg₂ (· + ·) ?_ (congrArg₂ (· * ·) ?_ (congrArg₂ W (by omega) (by omega)))
        rotate_left
        · first
          | exact (hR _ _ _ _ _ _ _).trans (congrArg₂ Z (by omega) (by omega))
          | exact (hQ _ _ _ _ _).trans (congrArg₂ Z (by omega) (by omega))
      exact congrArg B (by omega)
  subst hX
  rw [← hM]
  exact congrArg (fun M => k0_pay117 (F := Ideal) (k0_pay8 (iblk m c 0 t)) M (iblk m c 10 t) (iblk m c 11 t)) (mix_read _ _ _ _ _ _)

theorem mixT_apply (c : Dev nD) (t : Fin cfg0.N) (r : Fin 8) (k : Fin 1024) :
    mixT m c t (ix2 r k) = mixed (fx m c) (fst m c) (fck m c) (fcv m c) (fg m c) (fW m c) (fw m c) (fb m c) (fcg m c) (fcb m c) (sq t) r k := by
  show mixRow _ _ _ _ k = mixRow _ _ _ _ k
  congr 1
  · refine congr (congr (congrArg silu ?_) ?_) ?_
    · funext j
      exact conv_rows m c t r j
    · funext d
      exact b8 m c t d
    · funext d
      exact b9 m c t d
  · funext d
    exact query_tile m c t r d
  · funext d k
    exact b2 m c t d k
  · funext d k
    exact b3 m c t d k

theorem point14 (c : Dev nD) (t : Fin cfg0.N) (r : Fin 8) (j : Fin 1024) :
    k0_pay116 (F := Ideal) (k0_pay8 (iblk m c 0 t)) (mixT m c t) (iblk m c 10 t) (ix2 r j)
      = stream (fx m c) (fst m c) (fck m c) (fcv m c) (fg m c) (fW m c) (fw m c) (fb m c) (fcg m c) (fcb m c) (fwo m c) (sq t) r j := by
  rw [x1_apply, b0]
  simp only [mixT_apply, b10]
  rfl

theorem point15 (c : Dev nD) (t : Fin cfg0.N) (r : Fin 8) (j : Fin 1024) :
    k0_pay117 (F := Ideal) (k0_pay8 (iblk m c 0 t)) (mixT m c t) (iblk m c 10 t) (iblk m c 11 t) (ix2 r j)
      = nrm (fx m c) (fst m c) (fck m c) (fcv m c) (fg m c) (fW m c) (fw m c) (fb m c) (fcg m c) (fcb m c) (fwo m c) (fgf m c) (sq t) r j := by
  rw [hf_apply, b11]
  simp only [point14]
  rfl

/-- The three arrays the call leaves. -/
abbrev X1m (c : Dev nD) : FVec Ideal S256x1024 .f32 := fun i =>
  stream (fx m c) (fst m c) (fck m c) (fcv m c) (fg m c) (fW m c) (fw m c) (fb m c) (fcg m c) (fcb m c) (fwo m c)
    (⟨(i 0).val / 8, by have := (i 0).isLt; change (i 0).val < 256 at this; omega⟩ : Fin 32) (⟨(i 0).val % 8, by omega⟩ : Fin 8) (i 1)
abbrev HFm (c : Dev nD) : FVec Ideal S256x1024 .f32 := fun i =>
  nrm (fx m c) (fst m c) (fck m c) (fcv m c) (fg m c) (fW m c) (fw m c) (fb m c) (fcg m c) (fcb m c) (fwo m c) (fgf m c)
    (⟨(i 0).val / 8, by have := (i 0).isLt; change (i 0).val < 256 at this; omega⟩ : Fin 32) (⟨(i 0).val % 8, by omega⟩ : Fin 8) (i 1)
abbrev NCm (c : Dev nD) : FVec Ideal S32x30x768 .f32 := fun i => past (fx m c) (fst m c) (fg m c) (fW m c) (i 0) (i 1) (i 2)

/-- The row of the whole that row `r` of tile `t` is. -/
abbrev at_ (t : Fin cfg0.N) (r : Fin 8) : Fin 256 :=
  ⟨t.val * 8 + r.val, by have := t.isLt; have : cfg0.N = 32 := rfl; omega⟩

theorem at_div (t : Fin cfg0.N) (r : Fin 8) (h) : (⟨(at_ t r).val / 8, h⟩ : Fin 32) = sq t :=
  Fin.ext (show (t.val * 8 + r.val) / 8 = t.val by omega)

theorem at_mod (t : Fin cfg0.N) (r : Fin 8) (h) : (⟨(at_ t r).val % 8, h⟩ : Fin 8) = r :=
  Fin.ext (show (t.val * 8 + r.val) % 8 = r.val by omega)

theorem X1m_at (c : Dev nD) (t : Fin cfg0.N) (r : Fin 8) (j : Fin 1024) : X1m m c (ix2 (at_ t r) j)
    = stream (fx m c) (fst m c) (fck m c) (fcv m c) (fg m c) (fW m c) (fw m c) (fb m c) (fcg m c) (fcb m c) (fwo m c) (sq t) r j :=
  congrArg₂ (fun s r => stream (fx m c) (fst m c) (fck m c) (fcv m c) (fg m c) (fW m c) (fw m c) (fb m c) (fcg m c) (fcb m c) (fwo m c) s r j)
    (at_div t r _) (at_mod t r _)

theorem HFm_at (c : Dev nD) (t : Fin cfg0.N) (r : Fin 8) (j : Fin 1024) : HFm m c (ix2 (at_ t r) j)
    = nrm (fx m c) (fst m c) (fck m c) (fcv m c) (fg m c) (fW m c) (fw m c) (fb m c) (fcg m c) (fcb m c) (fwo m c) (fgf m c) (sq t) r j :=
  congrArg₂ (fun s r => nrm (fx m c) (fst m c) (fck m c) (fcv m c) (fg m c) (fW m c) (fw m c) (fb m c) (fcg m c) (fcb m c) (fwo m c) (fgf m c) s r j)
    (at_div t r _) (at_mod t r _)

theorem final14 (c : Dev nD) : (dats m 0 c).arrAt 14 cfg0.N = X1m m c := by
  refine (dats m 0 c).arrAt_eq_of_covers 14 _ (by decide +kernel) fun t _ y => ?_
  blk_simp
  rw [after0_14, out14]
  obtain ⟨y0, y1, rfl⟩ : ∃ (y0 : Fin 8) (y1 : Fin 1024), y = ix2 y0 y1 := ⟨y 0, y 1, by funext a; fin_cases a <;> rfl⟩
  refine (point14 m c t y0 y1).trans ((X1m_at m c t y0 y1).symm.trans (congrArg (X1m m c) (?_ : ix2 (at_ t y0) y1 = _)))
  blk_ext [idx t]

theorem final15 (c : Dev nD) : (dats m 0 c).arrAt 15 cfg0.N = HFm m c := by
  refine (dats m 0 c).arrAt_eq_of_covers 15 _ (by decide +kernel) fun t _ y => ?_
  blk_simp
  rw [after0_15, out15]
  obtain ⟨y0, y1, rfl⟩ : ∃ (y0 : Fin 8) (y1 : Fin 1024), y = ix2 y0 y1 := ⟨y 0, y 1, by funext a; fin_cases a <;> rfl⟩
  refine (point15 m c t y0 y1).trans ((HFm_at m c t y0 y1).symm.trans (congrArg (HFm m c) (?_ : ix2 (at_ t y0) y1 = _)))
  blk_ext [idx t]

theorem plane_cast (f : FVec Ideal S30x768 .f32) (i : Fin 30) (j : Fin 768) (z : Fin 1) (h) :
    shapeCast S1x30x768 f h (ix3 z i j) = f (ix2 i j) := by
  pointwise

set_option maxHeartbeats 4000000 in
theorem out18 (c : Dev nD) (t : Fin cfg0.N) (z : Fin 1) (i : Fin 30) (j : Fin 768) :
    ((outsAt0 m c t).2.2.2.2 : FVec Ideal S1x30x768 .f32) (ix3 z i j)
      = past (fx m c) (fst m c) (fg m c) (fW m c) (sq t) i j := by
  simp only [outsAt0]
  frame_out
  rw [View.readCov_eq_canon']
  refine (plane_cast _ i j z _).trans ?_
  have e : (Rect.unit (s := S40x768) ![10, 0] ![30, 768] inb_S40x768_S30x768_10_0).toLoadRect.idx (ix2 i j)
      = ix2 (⟨10 + i.val, by omega⟩ : Fin 40) j := by
    funext a
    refine Fin.ext ?_
    fin_cases a
    · show 10 + 1 * i.val = 10 + i.val
      omega
    · show 0 + 1 * j.val = j.val
      omega
  refine (congrArg (View.canon (Val := Elt Ideal) _) e).trans ?_
  refine (rows_of m c t _ j).trans ?_
  unfold rowsOf past
  rw [if_pos (show 2 ≤ 10 + i.val by omega)]
  exact congrArg (fun n => hist _ _ _ _ _ n _) (show 10 + i.val - 2 = 8 + i.val by omega)

end Cert.LayerZeroSIdeal.Val

end
-- ==== Proof.LayerZeroSRun.lean ====
module

public import proofs.«01_k».proof.Proof.LayerZeroSOut

/-! # The first layer's call going on from a state: the run -/

@[expose] public section

set_option maxRecDepth 16384

noncomputable section

open Idealize.ShloMosaic Idealize.ShloMosaic.TcCoe Idealize.SL.Sem
open Idealize.ShloMosaic.Pipeline (Dat)

namespace Cert.LayerZeroSIdeal.Val
open Cert.LayerZeroSIdeal Cert.LayerZeroSIdeal.Gen Cert.Attn Cert.LayerState Cert.LayerZeroSIdeal.Conv

variable (m : (ℓ : Loc nD τ sig) → Buf (Elt Ideal) ℓ)

theorem cov18 : (cfg0.win 18).Covers := by decide +kernel

theorem emb18 (t : Fin cfg0.N) (y0 : Fin 1) (y1 : Fin 30) (y2 : Fin 768) :
    ix3 (sq t) y1 y2
      = ((cfg0.win 18).blk t).view.emb (ix3 y0 y1 y2) := by
  blk_ext [idx t]

theorem past_at (c : Dev nD) (y0 : Fin 32) (y1 : Fin 30) (y2 : Fin 768) (i : S32x30x768.Idx) (h : ix3 y0 y1 y2 = i) :
    past (fx m c) (fst m c) (fg m c) (fW m c) y0 y1 y2 = NCm m c i := by
  subst h
  rfl

theorem split18 (y : S1x30x768.Idx) : y = ix3 (y 0 : Fin 1) (y 1 : Fin 30) (y 2 : Fin 768) := by
  funext a
  fin_cases a <;> rfl

theorem point18 (c : Dev nD) (t : Fin cfg0.N) (y : S1x30x768.Idx) :
    ((outsAt0 m c t).2.2.2.2 : FVec Ideal S1x30x768 .f32) y = NCm m c (((cfg0.win 18).blk t).view.emb y) := by
  have e : ∃ (y0 : Fin 1) (y1 : Fin 30) (y2 : Fin 768), y = ix3 y0 y1 y2 := ⟨y 0, y 1, y 2, split18 y⟩
  obtain ⟨y0, y1, y2, rfl⟩ := e
  rw [out18 m c t y0 y1 y2]
  exact past_at m c _ y1 y2 _ (emb18 t y0 y1 y2)

theorem final18 (c : Dev nD) : (dats m 0 c).arrAt 18 cfg0.N = NCm m c := by
  refine (dats m 0 c).arrAt_eq_of_covers 18 _ cov18 fun t hf y => ?_
  blk_simp
  rw [after0_18]
  exact point18 m c t y

/-- The run of the kernel's program: three of its results in closed form, its arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v36_0) = X1m m c
      ∧ r.2.mem ((c.tc : Thread nD τ).loc main_v36_1) = HFm m c
      ∧ r.2.mem ((c.tc : Thread nD τ).loc main_v36_4) = NCm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (final14 m c), (h c).2.1.trans (final15 m c), (h c).2.2.2.2.1.trans (final18 m c),
    (h c).2.2.2.2.2⟩) (Value.run_blocks m ρ)

end Cert.LayerZeroSIdeal.Val

end
-- ==== Proof.LayerZeroSRefVal.lean ====
module

public import proofs.«01_k».proof.Proof.Gen.LayerZeroSRefIdeal.Run
public import proofs.«01_k».proof.Proof.LayerState
public import Idealize.ShloMosaic.Lib.Pipeline.ValueKit

/-! # The first layer's call on sequences going on from a state: what the reference's three results hold -/

@[expose] public section

set_option maxRecDepth 16384

noncomputable section

open Idealize.ShloMosaic Idealize.ShloMosaic.TcCoe Idealize.SL.Sem
open Idealize.ShloMosaic.Pipeline (Dat)

namespace Cert.LayerZeroSRefIdeal.Val
open Cert.LayerZeroSRefIdeal Cert.LayerZeroSRefIdeal.Gen Cert.LayerZeroSRefIdeal.Value Cert.Attn Cert.LayerState
open Cert.Layer hiding convRow mixed stream nrm past

/-- The input projection of the normalised, scaled rows. -/
def proj (A0 : FVec Ideal S32x8x1024 .f32) (A4 : FVec Ideal S2x1024 .f32) (A5 : FVec Ideal S1x1024x1792 .f32) : FVec Ideal S32x8x1792 .f32 :=
  Host.dotGeneral dot_S32x8x1024_S1024x1792_S32x8x1792_2_0_01_1_n_n none (mulf (mulf A0 (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf A0 A0) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] A4 slices_S2x1024_S1x1024_0_0) shapeCasts_S1x1024_S1024)))) (shapeCast _ A5 shapeCasts_S1x1024x1792_S1024x1792)

/-- The state's thirty rows, then the gated rows. -/
def ext (A1 : FVec Ideal S1x32x30x768 .f32) (U : FVec Ideal S32x8x1792 .f32) : FVec Ideal S32x38x768 .f32 :=
  concatenate S32x38x768 1 [⟨S32x30x768, (shapeCast _ A1 shapeCasts_S1x32x30x768_S32x30x768)⟩, ⟨S32x8x768, (mulf (extractStridedSlice S32x8x768 ![0, 0, 0] U slices_S32x8x1792_S32x8x768_0_0_0) (Host.divf (broadcastInDim S32x8x768 ![] bcast_S_S32x8x768 (constant S_ .f32 0x3F800000#32)) (addf (broadcastInDim S32x8x768 ![] bcast_S_S32x8x768 (constant S_ .f32 0x3F800000#32)) (Host.exp (Host.negf (extractStridedSlice S32x8x768 ![0, 0, 768] U slices_S32x8x1792_S32x8x768_0_0_768))))))⟩] concatenates_S32x30x768_S32x8x768_S32x38x768_d1

/-- One tap: the rows from row `o` on, times the tap's weights. -/
def tap (R28 : FVec Ideal S32x38x768 .f32) (A6 : FVec Ideal S1x31x768 .f32) (o : Fin 3 → ℕ) (h : S32x38x768.Slices o S32x8x768)
    (h' : S1x31x768.Slices o S1x1x768) : FVec Ideal S32x8x768 .f32 :=
  mulf (extractStridedSlice S32x8x768 o R28 h) (broadcastInDim S32x8x768 ![0, 1, 2] bcast_S1x1x768_S32x8x768_0_1_2
    (broadcastInDim S1x1x768 ![2] bcast_S768_S1x1x768_2 (shapeCast _ (extractStridedSlice S1x1x768 o A6 h') shapeCasts_S1x1x768_S768)))

/-- Taps 0 to 10. -/
def taps0 (R28 : FVec Ideal S32x38x768 .f32) (A6 : FVec Ideal S1x31x768 .f32) : FVec Ideal S32x8x768 .f32 :=
  addf (addf (addf (addf (addf (addf (addf (addf (addf (addf (addf (broadcastInDim S32x8x768 ![] bcast_S_S32x8x768 (constant S_ .f32 0x00000000#32)) (tap R28 A6 ![0, 0, 0] slices_S32x38x768_S32x8x768_0_0_0 slices_S1x31x768_S1x1x768_0_0_0)) (tap R28 A6 ![0, 1, 0] slices_S32x38x768_S32x8x768_0_1_0 slices_S1x31x768_S1x1x768_0_1_0)) (tap R28 A6 ![0, 2, 0] slices_S32x38x768_S32x8x768_0_2_0 slices_S1x31x768_S1x1x768_0_2_0)) (tap R28 A6 ![0, 3, 0] slices_S32x38x768_S32x8x768_0_3_0 slices_S1x31x768_S1x1x768_0_3_0)) (tap R28 A6 ![0, 4, 0] slices_S32x38x768_S32x8x768_0_4_0 slices_S1x31x768_S1x1x768_0_4_0)) (tap R28 A6 ![0, 5, 0] slices_S32x38x768_S32x8x768_0_5_0 slices_S1x31x768_S1x1x768_0_5_0)) (tap R28 A6 ![0, 6, 0] slices_S32x38x768_S32x8x768_0_6_0 slices_S1x31x768_S1x1x768_0_6_0)) (tap R28 A6 ![0, 7, 0] slices_S32x38x768_S32x8x768_0_7_0 slices_S1x31x768_S1x1x768_0_7_0)) (tap R28 A6 ![0, 8, 0] slices_S32x38x768_S32x8x768_0_8_0 slices_S1x31x768_S1x1x768_0_8_0)) (tap R28 A6 ![0, 9, 0] slices_S32x38x768_S32x8x768_0_9_0 slices_S1x31x768_S1x1x768_0_9_0)) (tap R28 A6 ![0, 10, 0] slices_S32x38x768_S32x8x768_0_10_0 slices_S1x31x768_S1x1x768_0_10_0)

/-- Taps 11 to 21. -/
def taps1 (R107 : FVec Ideal S32x8x768 .f32) (R28 : FVec Ideal S32x38x768 .f32) (A6 : FVec Ideal S1x31x768 .f32) : FVec Ideal S32x8x768 .f32 :=
  addf (addf (addf (addf (addf (addf (addf (addf (addf (addf (addf R107 (tap R28 A6 ![0, 11, 0] slices_S32x38x768_S32x8x768_0_11_0 slices_S1x31x768_S1x1x768_0_11_0)) (tap R28 A6 ![0, 12, 0] slices_S32x38x768_S32x8x768_0_12_0 slices_S1x31x768_S1x1x768_0_12_0)) (tap R28 A6 ![0, 13, 0] slices_S32x38x768_S32x8x768_0_13_0 slices_S1x31x768_S1x1x768_0_13_0)) (tap R28 A6 ![0, 14, 0] slices_S32x38x768_S32x8x768_0_14_0 slices_S1x31x768_S1x1x768_0_14_0)) (tap R28 A6 ![0, 15, 0] slices_S32x38x768_S32x8x768_0_15_0 slices_S1x31x768_S1x1x768_0_15_0)) (tap R28 A6 ![0, 16, 0] slices_S32x38x768_S32x8x768_0_16_0 slices_S1x31x768_S1x1x768_0_16_0)) (tap R28 A6 ![0, 17, 0] slices_S32x38x768_S32x8x768_0_17_0 slices_S1x31x768_S1x1x768_0_17_0)) (tap R28 A6 ![0, 18, 0] slices_S32x38x768_S32x8x768_0_18_0 slices_S1x31x768_S1x1x768_0_18_0)) (tap R28 A6 ![0, 19, 0] slices_S32x38x768_S32x8x768_0_19_0 slices_S1x31x768_S1x1x768_0_19_0)) (tap R28 A6 ![0, 20, 0] slices_S32x38x768_S32x8x768_0_20_0 slices_S1x31x768_S1x1x768_0_20_0)) (tap R28 A6 ![0, 21, 0] slices_S32x38x768_S32x8x768_0_21_0 slices_S1x31x768_S1x1x768_0_21_0)

/-- Taps 22 to 30, and the bias. -/
def taps2 (R184 : FVec Ideal S32x8x768 .f32) (R28 : FVec Ideal S32x38x768 .f32) (A6 : FVec Ideal S1x31x768 .f32) (A7 : FVec Ideal S1x768 .f32) : FVec Ideal S32x8x768 .f32 :=
  addf (addf (addf (addf (addf (addf (addf (addf (addf (addf R184 (tap R28 A6 ![0, 22, 0] slices_S32x38x768_S32x8x768_0_22_0 slices_S1x31x768_S1x1x768_0_22_0)) (tap R28 A6 ![0, 23, 0] slices_S32x38x768_S32x8x768_0_23_0 slices_S1x31x768_S1x1x768_0_23_0)) (tap R28 A6 ![0, 24, 0] slices_S32x38x768_S32x8x768_0_24_0 slices_S1x31x768_S1x1x768_0_24_0)) (tap R28 A6 ![0, 25, 0] slices_S32x38x768_S32x8x768_0_25_0 slices_S1x31x768_S1x1x768_0_25_0)) (tap R28 A6 ![0, 26, 0] slices_S32x38x768_S32x8x768_0_26_0 slices_S1x31x768_S1x1x768_0_26_0)) (tap R28 A6 ![0, 27, 0] slices_S32x38x768_S32x8x768_0_27_0 slices_S1x31x768_S1x1x768_0_27_0)) (tap R28 A6 ![0, 28, 0] slices_S32x38x768_S32x8x768_0_28_0 slices_S1x31x768_S1x1x768_0_28_0)) (tap R28 A6 ![0, 29, 0] slices_S32x38x768_S32x8x768_0_29_0 slices_S1x31x768_S1x1x768_0_29_0)) (tap R28 A6 ![0, 30, 0] slices_S32x38x768_S32x8x768_0_30_0 slices_S1x31x768_S1x1x768_0_30_0)) (broadcastInDim S32x8x768 ![0, 1, 2] bcast_S1x1x768_S32x8x768_0_1_2 (broadcastInDim S1x1x768 ![2] bcast_S768_S1x1x768_2 (shapeCast _ A7 shapeCasts_S1x768_S768)))

/-- Rows less their mean. -/
def cent (R251 : FVec Ideal S32x8x768 .f32) : FVec Ideal S32x8x768 .f32 :=
  subf R251 (broadcastInDim S32x8x768 ![0, 1, 2] bcast_S32x8x1_S32x8x768_0_1_2 (Host.divf (broadcastInDim S32x8x1 ![0, 1] bcast_S32x8_S32x8x1_0_1 (Host.reduceAdd R251 (constant S_ .f32 0x00000000#32) reducesTo_S32x8x768_S32x8_d2 h_S_)) (broadcastInDim S32x8x1 ![] bcast_S_S32x8x1 (constant S_ .f32 0x44400000#32))))

/-- Layer normalisation of centred rows. -/
def lay (R257 : FVec Ideal S32x8x768 .f32) (A8 A9 : FVec Ideal S1x768 .f32) : FVec Ideal S32x8x768 .f32 :=
  addf (mulf (mulf R257 (broadcastInDim S32x8x768 ![0, 1, 2] bcast_S32x8x1_S32x8x768_0_1_2 (Host.rsqrt (addf (Host.divf (broadcastInDim S32x8x1 ![0, 1] bcast_S32x8_S32x8x1_0_1 (Host.reduceAdd (mulf R257 R257) (constant S_ .f32 0x00000000#32) reducesTo_S32x8x768_S32x8_d2 h_S_)) (broadcastInDim S32x8x1 ![] bcast_S_S32x8x1 (constant S_ .f32 0x44400000#32))) (broadcastInDim S32x8x1 ![] bcast_S_S32x8x1 (constant S_ .f32 0x358637BD#32)))))) (broadcastInDim S32x8x768 ![0, 1, 2] bcast_S1x1x768_S32x8x768_0_1_2 (broadcastInDim S1x1x768 ![2] bcast_S768_S1x1x768_2 (shapeCast _ A8 shapeCasts_S1x768_S768)))) (broadcastInDim S32x8x768 ![0, 1, 2] bcast_S1x1x768_S32x8x768_0_1_2 (broadcastInDim S1x1x768 ![2] bcast_S768_S1x1x768_2 (shapeCast _ A9 shapeCasts_S1x768_S768)))

/-- `y * sigmoid y`. -/
def act (R275 : FVec Ideal S32x8x768 .f32) : FVec Ideal S32x8x768 .f32 :=
  mulf R275 (Host.divf (broadcastInDim S32x8x768 ![] bcast_S_S32x8x768 (constant S_ .f32 0x3F800000#32)) (addf (broadcastInDim S32x8x768 ![] bcast_S_S32x8x768 (constant S_ .f32 0x3F800000#32)) (Host.exp (Host.negf R275))))

/-- Layer 0's part of a cache of keys or of values, by sequence, position, head and lane. -/
def cache (A2 : FVec Ideal S2x32x256x4x64 .f32) : FVec Ideal S32x256x4x64 .f32 :=
  shapeCast _ (extractStridedSlice S1x32x256x4x64 ![0, 0, 0, 0, 0] A2 slices_S2x32x256x4x64_S1x32x256x4x64_0_0_0_0_0) shapeCasts_S1x32x256x4x64_S32x256x4x64

/-- The scores. -/
def scores (R16 : FVec Ideal S32x8x1792 .f32) (K : FVec Ideal S32x256x4x64 .f32) : FVec Ideal S32x4x8x256 .f32 :=
  mulf (Host.dotGeneral dot_S32x8x4x64_S32x256x4x64_S32x4x8x256_3_3_1_1_02_02 none (shapeCast _ (extractStridedSlice S32x8x256 ![0, 0, 1536] R16 slices_S32x8x1792_S32x8x256_0_0_1536) shapeCasts_S32x8x256_S32x8x4x64) K) (broadcastInDim S32x4x8x256 ![] bcast_S_S32x4x8x256 (constant S_ .f32 0x3E000000#32))

/-- The attention of the rows. -/
def attended (V : FVec Ideal S32x256x4x64 .f32) (R295 : FVec Ideal S32x4x8x256 .f32) : FVec Ideal S32x8x256 .f32 :=
  shapeCast S32x8x256 (transpose S32x8x4x64 [0, 3, 1, 2] (Host.dotGeneral dot_S32x256x4x64_S32x4x8x256_S32x4x64x8_1_3_3_2_02_01 none V (Host.divf R295 (broadcastInDim S32x4x8x256 ![0, 1, 2, 3] bcast_S32x4x8x1_S32x4x8x256_0_1_2_3 (broadcastInDim S32x4x8x1 ![0, 1, 2] bcast_S32x4x8_S32x4x8x1_0_1_2 (Host.reduceAdd R295 (constant S_ .f32 0x00000000#32) reducesTo_S32x4x8x256_S32x4x8_d3 h_S_))))) transposes_S32x4x64x8_S32x8x4x64_0_3_1_2) shapeCasts_S32x8x4x64_S32x8x256

/-- The rows after the output projection. -/
def projected (A0 : FVec Ideal S32x8x1024 .f32) (C : FVec Ideal S32x8x768 .f32) (O : FVec Ideal S32x8x256 .f32) (A10 : FVec Ideal S1x1024x1024 .f32) : FVec Ideal S32x8x1024 .f32 :=
  addf A0 (Host.dotGeneral dot_S32x8x1024_S1024x1024_S32x8x1024_2_0_01_1_n_n none (concatenate S32x8x1024 2 [⟨S32x8x768, C⟩, ⟨S32x8x256, O⟩] concatenates_S32x8x768_S32x8x256_S32x8x1024_d2) (shapeCast _ A10 shapeCasts_S1x1024x1024_S1024x1024))

/-- The normalised rows, scaled. -/
def scaled (X : FVec Ideal S32x8x1024 .f32) (A11 : FVec Ideal S2x1024 .f32) : FVec Ideal S256x1024 .f32 :=
  shapeCast _ (mulf (mulf X (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf X X) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 (shapeCast _ (extractStridedSlice S1x1024 ![0, 0] A11 slices_S2x1024_S1x1024_0_0) shapeCasts_S1x1024_S1024)))) shapeCasts_S32x8x1024_S256x1024

/-- The greatest score of a row. -/
def rowMax (S : FVec Ideal S32x4x8x256 .f32) : FVec Ideal S32x4x8 .f32 :=
  Host.reduce FloatOps.maximumf S (constant S_ .f32 0xFF800000#32) reducesTo_S32x4x8x256_S32x4x8_d3 h_S_

theorem rowMax_apply (S : FVec Ideal S32x4x8x256 .f32) (b : Fin 32) (h : Fin 4) (t : Fin 8) :
    rowMax S (ix3 b h t) = top (fun k => S (ix4 b h t k)) := by
  unfold rowMax
  have hr : S32x4x8x256.Reduces [3] S32x4x8 := ⟨rfl, by decide, reducesTo_S32x4x8x256_S32x4x8_d3.2⟩
  rw [Host.reduce_eq_fold_single FloatOps.maximumf S _ _ hr]
  have hf : (S ∘ hr.lift (ix3 b h t)) = fun k : Fin 256 => S (ix4 b h t k) := by
    funext k
    refine congrArg S ?_
    funext c; apply Fin.ext
    fin_cases c <;> rfl
  exact congrArg (fun f => Finset.fold max (Ideal.ofBits .f32 0xFF800000#32) f (Finset.univ : Finset (Fin 256))) hf

/-- One value of each row, over the row. -/
def spread (M : FVec Ideal S32x4x8 .f32) : FVec Ideal S32x4x8x256 .f32 :=
  broadcastInDim S32x4x8x256 ![0, 1, 2, 3] bcast_S32x4x8x1_S32x4x8x256_0_1_2_3 (broadcastInDim S32x4x8x1 ![0, 1, 2] bcast_S32x4x8_S32x4x8x1_0_1_2 M)

theorem spread_apply (M : FVec Ideal S32x4x8 .f32) (b : Fin 32) (h : Fin 4) (t : Fin 8) (k : Fin 256) :
    spread M (ix4 b h t k) = M (ix3 b h t) := by
  pointwise [spread]

/-- The greatest score of a row, not below −∞. -/
def rowTop (S : FVec Ideal S32x4x8x256 .f32) : FVec Ideal S32x4x8 .f32 :=
  maximumf (broadcastInDim S32x4x8 ![] bcast_S_S32x4x8 (constant S_ .f32 0xFF800000#32)) (rowMax S)

theorem maximumf_at (A B : FVec Ideal S32x4x8 .f32) (i : S32x4x8.Idx) : maximumf A B i = max (A i) (B i) := rfl

theorem fill_at (z : FVec Ideal S_ .f32) (i : S32x4x8.Idx) :
    broadcastInDim S32x4x8 ![] bcast_S_S32x4x8 z i = z ix0 := by
  pointwise

theorem rowTop_apply (S : FVec Ideal S32x4x8x256 .f32) (b : Fin 32) (h : Fin 4) (t : Fin 8) :
    rowTop S (ix3 b h t) = top (fun k => S (ix4 b h t k)) := by
  unfold rowTop
  rw [maximumf_at, rowMax_apply, fill_at, constant_apply]
  refine Eq.trans (congrArg (fun z => max z _) neg_inf) (max_eq_right bot_le)

/-- The softmax's numerators. -/
def nums (S : FVec Ideal S32x4x8x256 .f32) : FVec Ideal S32x4x8x256 .f32 :=
  Host.exp (subf S (spread (rowTop S)))

theorem nums_apply (S : FVec Ideal S32x4x8x256 .f32) (b : Fin 32) (h : Fin 4) (t : Fin 8) (k : Fin 256) :
    nums S (ix4 b h t k) = Ideal.exp (S (ix4 b h t k) - top (fun k => S (ix4 b h t k))) := by
  have e : nums S (ix4 b h t k) = Ideal.exp (S (ix4 b h t k) - spread (rowTop S) (ix4 b h t k)) := rfl
  rw [e, spread_apply, rowTop_apply]

variable (V0 : Valuation τ sig (Elt Ideal))

abbrev arg0 : FVec Ideal S32x8x1024 .f32 := V0 (Proc.devRef .tc main_arg0)
abbrev arg1 : FVec Ideal S1x32x30x768 .f32 := V0 (Proc.devRef .tc main_arg1)
abbrev arg2 : FVec Ideal S2x32x256x4x64 .f32 := V0 (Proc.devRef .tc main_arg2)
abbrev arg3 : FVec Ideal S2x32x256x4x64 .f32 := V0 (Proc.devRef .tc main_arg3)
abbrev arg4 : FVec Ideal S2x1024 .f32 := V0 (Proc.devRef .tc main_arg4)
abbrev arg5 : FVec Ideal S1x1024x1792 .f32 := V0 (Proc.devRef .tc main_arg5)
abbrev arg6 : FVec Ideal S1x31x768 .f32 := V0 (Proc.devRef .tc main_arg6)
abbrev arg7 : FVec Ideal S1x768 .f32 := V0 (Proc.devRef .tc main_arg7)
abbrev arg8 : FVec Ideal S1x768 .f32 := V0 (Proc.devRef .tc main_arg8)
abbrev arg9 : FVec Ideal S1x768 .f32 := V0 (Proc.devRef .tc main_arg9)
abbrev arg10 : FVec Ideal S1x1024x1024 .f32 := V0 (Proc.devRef .tc main_arg10)
abbrev arg11 : FVec Ideal S2x1024 .f32 := V0 (Proc.devRef .tc main_arg11)

theorem r16 : res_main_v16 V0 = proj (arg0 V0) (arg4 V0) (arg5 V0) := rfl
theorem r28 : res_main_v28 V0 = ext (arg1 V0) (res_main_v16 V0) := rfl
theorem r107 : res_main_v107 V0 = taps0 (res_main_v28 V0) (arg6 V0) := rfl
theorem r184 : res_main_v184 V0 = taps1 (res_main_v107 V0) (res_main_v28 V0) (arg6 V0) := rfl
theorem r251 : res_main_v251 V0 = taps2 (res_main_v184 V0) (res_main_v28 V0) (arg6 V0) (arg7 V0) := rfl
theorem r257 : res_main_v257 V0 = cent (res_main_v251 V0) := rfl
theorem r275 : res_main_v275 V0 = lay (res_main_v257 V0) (arg8 V0) (arg9 V0) := rfl
theorem r288 : res_main_v288 V0 = scores (res_main_v16 V0) (cache (arg2 V0)) := rfl
theorem r295 : res_main_v295 V0 = nums (res_main_v288 V0) := rfl
theorem r308 : res_main_v308 V0 = projected (arg0 V0) (act (res_main_v275 V0)) (attended (cache (arg3 V0)) (res_main_v295 V0)) (arg10 V0) := rfl

theorem proj_apply (A0 : FVec Ideal S32x8x1024 .f32) (A4 : FVec Ideal S2x1024 .f32) (A5 : FVec Ideal S1x1024x1792 .f32) (b : Fin 32) (t : Fin 8)
    (k : Fin 1792) : proj A0 A4 A5 (ix3 b t k) = up (fun d => A0 (ix3 b t d)) (fun d => A4 (ix2 (0 : Fin 2) d)) (fun d c => A5 (ix3 (0 : Fin 1) d c)) k := by
  pointwise [proj, up, normed]

theorem ext_apply (A1 : FVec Ideal S1x32x30x768 .f32) (U : FVec Ideal S32x8x1792 .f32) (b : Fin 32) (t : Fin 38) (k : Fin 768) : ext A1 U (ix3 b t k) =
    if h : t.val < 30 then A1 (ix4 (0 : Fin 1) b (⟨t.val, h⟩ : Fin 30) k) else U (ix3 b (⟨t.val - 30, by omega⟩ : Fin 8) (⟨k.val, by omega⟩ : Fin 1792))
      * Ideal.logistic (U (ix3 b (⟨t.val - 30, by omega⟩ : Fin 8) (⟨768 + k.val, by omega⟩ : Fin 1792))) := by
  pointwise [ext, Ideal.logistic]

theorem tap_apply (R28 : FVec Ideal S32x38x768 .f32) (A6 : FVec Ideal S1x31x768 .f32) (n : ℕ) (hn : n < 31) (h h') (b : Fin 32) (t : Fin 8) (k : Fin 768) :
    tap R28 A6 ![0, n, 0] h h' (ix3 b t k) = R28 (ix3 b (⟨n + t.val, by omega⟩ : Fin 38) k) * A6 (ix3 (0 : Fin 1) (⟨n, hn⟩ : Fin 31) k) := by
  pointwise [tap]

theorem cent_apply (Y : FVec Ideal S32x8x768 .f32) (b : Fin 32) (t : Fin 8) (k : Fin 768) :
    cent Y (ix3 b t k) = center (fun j => Y (ix3 b t j)) k := by
  pointwise [cent, center]

theorem lay_apply (Y : FVec Ideal S32x8x768 .f32) (A8 A9 : FVec Ideal S1x768 .f32) (b : Fin 32) (t : Fin 8) (k : Fin 768) :
    lay (cent Y) A8 A9 (ix3 b t k) = lnorm (fun j => Y (ix3 b t j)) (fun j => A8 (ix2 (0 : Fin 1) j)) (fun j => A9 (ix2 (0 : Fin 1) j)) k := by
  have h : ∀ k, cent Y (ix3 b t k) = center (fun j => Y (ix3 b t j)) k := cent_apply Y b t
  generalize cent Y = C at h ⊢
  pointwise [lay, lnorm]
  simp only [h]

theorem act_apply (Y : FVec Ideal S32x8x768 .f32) (i) : act Y i = Y i * Ideal.logistic (Y i) := by
  pointwise [act, Ideal.logistic]

theorem cache_apply (C0 : FVec Ideal S2x32x256x4x64 .f32) (b : Fin 32) (k : Fin 256) (h : Fin 4) (d : Fin 64) :
    cache C0 (ix4 b k h d) = C0 (ix5 (0 : Fin 2) b k h d) := by
  pointwise [cache]

theorem scores_apply (U : FVec Ideal S32x8x1792 .f32) (K : FVec Ideal S32x256x4x64 .f32) (b : Fin 32) (h : Fin 4) (t : Fin 8) (k : Fin 256) :
    scores U K (ix4 b h t k) = (∑ d : Fin 64, U (ix3 b t (⟨1536 + (h.val * 64 + d.val), by omega⟩ : Fin 1792)) * K (ix4 b k h d)) * Ideal.ofBits .f32 0x3E000000#32 := by
  pointwise [scores]

theorem attended_apply (V : FVec Ideal S32x256x4x64 .f32) (E : FVec Ideal S32x4x8x256 .f32) (b : Fin 32) (t : Fin 8) (l : Fin 256) :
    attended V E (ix3 b t l) = ∑ k : Fin 256,
      V (ix4 b k (⟨l.val / 64, by omega⟩ : Fin 4) (⟨l.val % 64, by omega⟩ : Fin 64)) *
        Ideal.div (E (ix4 b (⟨l.val / 64, by omega⟩ : Fin 4) t k)) (∑ k' : Fin 256, E (ix4 b (⟨l.val / 64, by omega⟩ : Fin 4) t k')) := by
  pointwise [attended]

theorem projected_apply (A0 : FVec Ideal S32x8x1024 .f32) (C : FVec Ideal S32x8x768 .f32) (O : FVec Ideal S32x8x256 .f32)
    (A10 : FVec Ideal S1x1024x1024 .f32) (b : Fin 32) (t : Fin 8) (l : Fin 1024) :
    projected A0 C O A10 (ix3 b t l) = A0 (ix3 b t l) +
      ∑ k : Fin 1024, (if h : k.val < 768 then C (ix3 b t ⟨k.val, h⟩) else O (ix3 b t ⟨k.val - 768, by omega⟩)) * A10 (ix3 0 k l) := by
  pointwise [projected]

theorem scaled_apply (X : FVec Ideal S32x8x1024 .f32) (A11 : FVec Ideal S2x1024 .f32) (R : Fin 256) (l : Fin 1024) :
    scaled X A11 (ix2 R l) = normed (fun k => X (ix3 (⟨R.val / 8, by omega⟩ : Fin 32) (⟨R.val % 8, by omega⟩ : Fin 8) k)) l * A11 (ix2 (0 : Fin 2) l) := by
  pointwise [scaled]
  rfl

/-- Eleven taps, then eleven, then nine and the bias: one sum over the taps. -/
theorem taps_sum (Z : FVec Ideal S32x38x768 .f32) (A6 : FVec Ideal S1x31x768 .f32) (A7 : FVec Ideal S1x768 .f32) (b : Fin 32) (t : Fin 8) (k : Fin 768)
    (T : ℕ → EReal) (hT : ∀ (n : ℕ) (_ : n < 31) (h h'), tap Z A6 ![0, n, 0] h h' (ix3 b t k) = T n) :
    taps2 (taps1 (taps0 Z A6) Z A6) Z A6 A7 (ix3 b t k) = A7 (ix2 (0 : Fin 1) k) + ∑ n ∈ Finset.range 31, T n := by
  have e0 : taps0 Z A6 (ix3 b t k) = ∑ n ∈ Finset.range 11, T n := by
    pointwise [taps0]
    rw [hT 0 (by decide), hT 1 (by decide), hT 2 (by decide), hT 3 (by decide), hT 4 (by decide), hT 5 (by decide), hT 6 (by decide), hT 7 (by decide), hT 8 (by decide), hT 9 (by decide), hT 10 (by decide)]
    simp only [Finset.sum_range_succ, Finset.sum_range_zero, zero_add]
  have e1 : taps1 (taps0 Z A6) Z A6 (ix3 b t k) = ∑ n ∈ Finset.range 22, T n := by
    generalize taps0 Z A6 = Y at e0 ⊢
    pointwise [taps1]
    rw [e0, hT 11 (by decide), hT 12 (by decide), hT 13 (by decide), hT 14 (by decide), hT 15 (by decide), hT 16 (by decide), hT 17 (by decide), hT 18 (by decide), hT 19 (by decide), hT 20 (by decide), hT 21 (by decide)]
    simp only [Finset.sum_range_succ, Finset.sum_range_zero, zero_add]
  generalize taps1 (taps0 Z A6) Z A6 = Y at e1 ⊢
  pointwise [taps2]
  rw [e1, hT 22 (by decide), hT 23 (by decide), hT 24 (by decide), hT 25 (by decide), hT 26 (by decide), hT 27 (by decide), hT 28 (by decide), hT 29 (by decide), hT 30 (by decide), add_comm]
  congr 1
  simp only [Finset.sum_range_succ, Finset.sum_range_zero, zero_add]

/-- The state's rows, then the gated rows, each sequence's. -/
theorem rows_at (A0 : FVec Ideal S32x8x1024 .f32) (A1 : FVec Ideal S1x32x30x768 .f32) (A4 : FVec Ideal S2x1024 .f32) (A5 : FVec Ideal S1x1024x1792 .f32)
    (b : Fin 32) (t : Fin 38) (k : Fin 768) :
    ext A1 (proj A0 A4 A5) (ix3 b t k) = hist (fun i j d => A0 (ix3 i j d)) (fun i j d => A1 (ix4 (0 : Fin 1) i j d)) (fun d => A4 (ix2 (0 : Fin 2) d))
      (fun d c => A5 (ix3 (0 : Fin 1) d c)) b t.val k.val := by
  rw [ext_apply]
  unfold hist
  by_cases h : t.val < 30
  · rw [dif_pos h, if_neg (by omega)]
    exact (ext2_val (fun (j : Fin 30) (d : Fin 768) => A1 (ix4 (0 : Fin 1) b j d)) (⟨t.val, h⟩ : Fin 30) k).symm
  · rw [dif_neg h, if_pos (by omega)]
    have ht := t.isLt
    refine Eq.trans ?_ (ext2_val (fun r : Fin 8 => gated (fun d => A0 (ix3 b r d)) (fun d => A4 (ix2 (0 : Fin 2) d))
      (fun d c => A5 (ix3 (0 : Fin 1) d c))) (⟨t.val - 30, by omega⟩ : Fin 8) k).symm
    rw [proj_apply, proj_apply]
    rfl

variable (A0 : FVec Ideal S32x8x1024 .f32) (A1 : FVec Ideal S1x32x30x768 .f32) (A2 A3 : FVec Ideal S2x32x256x4x64 .f32) (A4 : FVec Ideal S2x1024 .f32)
  (A5 : FVec Ideal S1x1024x1792 .f32) (A6 : FVec Ideal S1x31x768 .f32) (A7 A8 A9 : FVec Ideal S1x768 .f32) (A10 : FVec Ideal S1x1024x1024 .f32)
  (A11 : FVec Ideal S2x1024 .f32)

abbrev fx : Fin 32 → Fin 8 → Fin 1024 → EReal := fun i j k => A0 (ix3 i j k)
abbrev fst : Fin 32 → Fin 30 → Fin 768 → EReal := fun i j k => A1 (ix4 (0 : Fin 1) i j k)
/-- A cache by sequence, lane and position. -/
abbrev fc : Fin 32 → Fin 256 → Fin 256 → EReal := fun b d k =>
  A2 (ix5 (0 : Fin 2) b k (⟨d.val / 64, by omega⟩ : Fin 4) (⟨d.val % 64, by omega⟩ : Fin 64))
abbrev fg : Fin 1024 → EReal := fun d => A4 (ix2 (0 : Fin 2) d)
abbrev fW : Fin 1024 → Fin 1792 → EReal := fun d k => A5 (ix3 (0 : Fin 1) d k)
abbrev fw : Fin 31 → Fin 768 → EReal := fun d k => A6 (ix3 (0 : Fin 1) d k)
abbrev fb : Fin 768 → EReal := fun k => A7 (ix2 (0 : Fin 1) k)
abbrev fwo : Fin 1024 → Fin 1024 → EReal := fun d k => A10 (ix3 (0 : Fin 1) d k)

/-- The convolved rows. -/
abbrev convolved : FVec Ideal S32x8x768 .f32 :=
  taps2 (taps1 (taps0 (ext A1 (proj A0 A4 A5)) A6) (ext A1 (proj A0 A4 A5)) A6) (ext A1 (proj A0 A4 A5)) A6 A7

theorem conv_apply (b : Fin 32) (t : Fin 8) (k : Fin 768) :
    convolved A0 A1 A4 A5 A6 A7 (ix3 b t k) = convRow (fx A0) (fst A1) (fg A4) (fW A5) (fw A6) (fb A7) b t k := by
  unfold convolved
  rw [taps_sum _ _ _ _ _ _ (fun n => hist (fx A0) (fst A1) (fg A4) (fW A5) b (t.val + n) k.val * ext2 (fw A6) n k.val) ?_]
  · unfold convRow
    rw [ext1_val]
  · intro n hn h h'
    rw [tap_apply _ _ n hn, rows_at]
    refine congr (congrArg _ ?_) (ext2_val (fw A6) (⟨n, hn⟩ : Fin 31) k).symm
    exact congrArg (fun n => hist _ _ _ _ b n _) (Nat.add_comm n t.val)

/-- The state the next call starts from. -/
theorem past_apply (b : Fin 32) (i : Fin 30) (k : Fin 768) (h) :
    extractStridedSlice S32x30x768 ![0, 8, 0] (ext A1 (proj A0 A4 A5)) h (ix3 b i k) = past (fx A0) (fst A1) (fg A4) (fW A5) b i k := by
  have e : ∀ (t : Fin 38), ext A1 (proj A0 A4 A5) (ix3 b t k) = hist (fx A0) (fst A1) (fg A4) (fW A5) b t.val k.val := fun t => rows_at A0 A1 A4 A5 b t k
  generalize ext A1 (proj A0 A4 A5) = Z at e ⊢
  pointwise
  rw [e]
  rfl

theorem scores_eq (U : FVec Ideal S32x8x1792 .f32) (b : Fin 32) (t : Fin 8) (h : Fin 4) (k : Fin 256) :
    scores U (cache A2) (ix4 b h t k) = score (fun d => U (ix3 b t (⟨1536 + d.val, by omega⟩ : Fin 1792))) (fc A2 b) h.val k := by
  rw [scores_apply]
  unfold score
  rw [sum_head]
  simp only [cache_apply]
  refine congrArg (· * _) (Finset.sum_congr rfl fun d _ => ?_)
  refine congrArg (U _ * ·) (congrArg A2 (congrArg₂ (ix5 (0 : Fin 2) b k) (Fin.ext ?_) (Fin.ext ?_)))
  · show h.val = (h.val * 64 + d.val) / 64
    omega
  · show d.val = (h.val * 64 + d.val) % 64
    omega

/-- The reference's attention is the kernel's, its queries and keys being real. -/
theorem attended_eq (U : FVec Ideal S32x8x1792 .f32) (b : Fin 32) (t : Fin 8)
    (hq : ∀ d : Fin 256, ∃ x : ℝ, U (ix3 b t (⟨1536 + d.val, by omega⟩ : Fin 1792)) = x)
    (hK : ∀ (d k : Fin 256), ∃ x : ℝ, fc A2 b d k = x) (l : Fin 256) :
    attended (cache A3) (nums (scores U (cache A2))) (ix3 b t l) =
      attn (fun d => U (ix3 b t (⟨1536 + d.val, by omega⟩ : Fin 1792))) (fc A2 b) (fc A3 b) l := by
  rw [attended_apply]
  simp only [nums_apply, scores_eq, cache_apply]
  unfold attn head
  rw [div_sum _ _ fun k => score_real _ _ _ hq hK k]

/-- The whole first result, as the reference composes it. -/
abbrev whole0 : FVec Ideal S32x8x1024 .f32 :=
  projected A0 (act (lay (cent (convolved A0 A1 A4 A5 A6 A7)) A8 A9)) (attended (cache A3) (nums (scores (proj A0 A4 A5) (cache A2)))) A10

theorem whole0_apply (b : Fin 32) (t : Fin 8) (l : Fin 1024)
    (hq : ∀ d : Fin 256, ∃ x : ℝ, query (fx A0 b t) (fg A4) (fW A5) d = x)
    (hK : ∀ (d k : Fin 256), ∃ x : ℝ, fc A2 b d k = x) :
    whole0 A0 A1 A2 A3 A4 A5 A6 A7 A8 A9 A10 (ix3 b t l)
      = stream (fx A0) (fst A1) (fc A2) (fc A3) (fg A4) (fW A5) (fw A6) (fb A7) (fb A8) (fb A9) (fwo A10) b t l := by
  have hU : ∀ d : Fin 256, proj A0 A4 A5 (ix3 b t (⟨1536 + d.val, by omega⟩ : Fin 1792)) = query (fx A0 b t) (fg A4) (fW A5) d :=
    fun d => proj_apply A0 A4 A5 b t _
  unfold whole0
  rw [projected_apply]
  unfold stream mixed mixRow
  refine congr (congrArg _ rfl) (Finset.sum_congr rfl fun k _ => ?_)
  refine congrArg (· * _) ?_
  split
  · rename_i h
    rw [act_apply, lay_apply]
    simp only [conv_apply]
    rfl
  · rename_i h
    rw [attended_eq A2 A3 _ _ _ (fun d => by rw [hU]; exact hq d) hK]
    simp only [hU]

theorem out0_eq : res_main_v308 V0 = whole0 (arg0 V0) (arg1 V0) (arg2 V0) (arg3 V0) (arg4 V0) (arg5 V0) (arg6 V0) (arg7 V0) (arg8 V0) (arg9 V0) (arg10 V0) := by
  rw [r308, r295, r288, r275, r257, r251, r184, r107, r28, r16]

theorem out2_eq : res_main_v28 V0 = ext (arg1 V0) (proj (arg0 V0) (arg4 V0) (arg5 V0)) := by
  rw [r28, r16]

end Cert.LayerZeroSRefIdeal.Val

end
-- ==== Proof.LayerZeroSEq.lean ====
module

public import proofs.«01_k».proof.Defs
public import proofs.«01_k».proof.Proof.LayerZeroSRun
public import proofs.«01_k».proof.Proof.LayerZeroSRefVal
public import proofs.«01_k».proof.Proof.LayerZeroEq

/-! # The first layer's call going on from a state: the precondition read, and the two closed forms met -/

@[expose] public section

set_option maxRecDepth 16384

noncomputable section

open Idealize.ShloMosaic Idealize.ShloMosaic.TcCoe Idealize.SL.Sem

namespace Cert.LayerZeroSEq

/-- The side conditions of the precondition's operations. -/
instance facts : Cert.Pre_finite_state.Facts where
  slices_S2x32x256x4x64_S1x32x256x4x64_0_0_0_0_0 := by decide
  shapeCasts_S1x32x256x4x64_S32x256x4x64 := by decide
  bcast_S_S32x256x4x64 := by decide
  reducesTo_S32x256x4x64_S_d0_1_2_3 := by decide
  h_S_ := by decide
  slices_S2x1024_S1x1024_0_0 := by decide
  shapeCasts_S1x1024_S1024 := by decide
  bcast_S_S1024 := by decide
  reducesTo_S1024_S_d0 := by decide
  slices_S1x1024x1792_S1x1024x256_0_0_1536 := by decide
  shapeCasts_S1x1024x256_S1024x256 := by decide
  bcast_S_S1024x256 := by decide
  reducesTo_S1024x256_S_d0_1 := by decide

open Cert.Pre_finite_state Cert.Pre_finite_state.Facts Cert.LayerOneEq Cert.Attn Cert.LayerState

/-- The precondition, read: layer 0's cached keys, the scale of its rows and its queries' weights are real. -/
theorem real_of_pre (A0 : FVec Ideal S32x8x1024 .f32) (A1 : FVec Ideal S1x32x30x768 .f32) (A2 A3 : FVec Ideal S2x32x256x4x64 .f32) (A4 : FVec Ideal S2x1024 .f32)
    (A5 : FVec Ideal S1x1024x1792 .f32) (A6 : FVec Ideal S1x31x768 .f32) (A7 A8 A9 : FVec Ideal S1x768 .f32) (A10 : FVec Ideal S1x1024x1024 .f32)
    (A11 : FVec Ideal S2x1024 .f32) (A12 : FVec Ideal S2x1024x4 .f32) (A13 : FVec Ideal S2x4 .f32) (A14 : FVec Ideal S2x1024x64 .f32) (A15 : FVec Ideal S2x64 .f32)
    (h : fn (F := Ideal) A0 A1 A2 A3 A4 A5 A6 A7 A8 A9 A10 A11 A12 A13 A14 A15 = fun _ => 1#1) :
    (∀ (b : Fin 32) (k : Fin 256) (n : Fin 4) (d : Fin 64), ∃ x : ℝ, A2 (ix5 (0 : Fin 2) b k n d) = x) ∧
      (∀ d : Fin 1024, ∃ x : ℝ, A4 (ix2 (0 : Fin 2) d) = x) ∧
      ∀ (d : Fin 1024) (k : Fin 256), ∃ x : ℝ, A5 (ix3 (0 : Fin 1) d (⟨1536 + k.val, by omega⟩ : Fin 1792)) = x := by
  have h0 := congrFun h ix0
  unfold fn fn_part1 at h0
  obtain ⟨h1, hw⟩ := and_one _ _ h0
  obtain ⟨hk, hg⟩ := and_one _ _ h1
  haveI : Subsingleton S_.Idx := ⟨fun a b => funext fun x => x.elim0⟩
  refine ⟨fun b k n d => ?_, fun d => ?_, fun d k => ?_⟩
  · obtain ⟨x, hx⟩ := real_at _ _ _ (Host.reduce_andi_all _ _ _ _ _ hk (ix4 b k n d))
    refine ⟨x, Eq.trans ?_ hx⟩
    pointwise
  · obtain ⟨x, hx⟩ := real_at _ _ _ (Host.reduce_andi_all _ _ _ _ _ hg (ix1 d))
    refine ⟨x, Eq.trans ?_ hx⟩
    pointwise
  · obtain ⟨x, hx⟩ := real_at _ _ _ (Host.reduce_andi_all _ _ _ _ _ hw (ix2 d k))
    refine ⟨x, Eq.trans ?_ hx⟩
    pointwise

open Cert.LayerZeroSRefIdeal.Val

section
variable (A0 : FVec Ideal S32x8x1024 .f32) (A1 : FVec Ideal S1x32x30x768 .f32) (A2 A3 : FVec Ideal S2x32x256x4x64 .f32) (A4 : FVec Ideal S2x1024 .f32)
  (A5 : FVec Ideal S1x1024x1792 .f32) (A6 : FVec Ideal S1x31x768 .f32) (A7 A8 A9 : FVec Ideal S1x768 .f32) (A10 : FVec Ideal S1x1024x1024 .f32)
  (A11 : FVec Ideal S2x1024 .f32)
  (hK : ∀ (b : Fin 32) (k : Fin 256) (n : Fin 4) (d : Fin 64), ∃ x : ℝ, A2 (ix5 (0 : Fin 2) b k n d) = x)
  (hg : ∀ d : Fin 1024, ∃ x : ℝ, A4 (ix2 (0 : Fin 2) d) = x)
  (hW : ∀ (d : Fin 1024) (k : Fin 256), ∃ x : ℝ, A5 (ix3 (0 : Fin 1) d (⟨1536 + k.val, by omega⟩ : Fin 1792)) = x)
include hK hg hW

theorem whole_eq (b : Fin 32) (t : Fin 8) (l : Fin 1024) : whole0 A0 A1 A2 A3 A4 A5 A6 A7 A8 A9 A10 (ix3 b t l)
    = stream (fx A0) (fst A1) (fc A2) (fc A3) (fg A4) (fW A5) (fw A6) (fb A7) (fb A8) (fb A9) (fwo A10) b t l :=
  whole0_apply A0 A1 A2 A3 A4 A5 A6 A7 A8 A9 A10 b t l (fun d => Cert.LayerZeroEq.query_real _ _ _ d hg hW) (fun d k => hK b k _ _)

theorem eq0 (h) : shapeCast Cert.LayerZeroSRefIdeal.S256x1024 (whole0 A0 A1 A2 A3 A4 A5 A6 A7 A8 A9 A10) h
    = fun i => stream (fx A0) (fst A1) (fc A2) (fc A3) (fg A4) (fW A5) (fw A6) (fb A7) (fb A8) (fb A9) (fwo A10)
      (⟨(i 0).val / 8, by have := (i 0).isLt; change (i 0).val < 256 at this; omega⟩ : Fin 32) (⟨(i 0).val % 8, by omega⟩ : Fin 8) (i 1) := by
  have e := whole_eq A0 A1 A2 A3 A4 A5 A6 A7 A8 A9 A10 hK hg hW
  generalize whole0 A0 A1 A2 A3 A4 A5 A6 A7 A8 A9 A10 = X at e ⊢
  funext i
  obtain ⟨R, l, rfl⟩ : ∃ (R : Fin 256) (l : Fin 1024), i = ix2 R l := ⟨i 0, i 1, by funext a; fin_cases a <;> rfl⟩
  refine Eq.trans ?_ (e (⟨R.val / 8, by omega⟩ : Fin 32) (⟨R.val % 8, by omega⟩ : Fin 8) l)
  pointwise

theorem eq1 : scaled (whole0 A0 A1 A2 A3 A4 A5 A6 A7 A8 A9 A10) A11
    = fun i => nrm (fx A0) (fst A1) (fc A2) (fc A3) (fg A4) (fW A5) (fw A6) (fb A7) (fb A8) (fb A9) (fwo A10) (fg A11)
      (⟨(i 0).val / 8, by have := (i 0).isLt; change (i 0).val < 256 at this; omega⟩ : Fin 32) (⟨(i 0).val % 8, by omega⟩ : Fin 8) (i 1) := by
  have e := whole_eq A0 A1 A2 A3 A4 A5 A6 A7 A8 A9 A10 hK hg hW
  generalize whole0 A0 A1 A2 A3 A4 A5 A6 A7 A8 A9 A10 = X at e ⊢
  funext i
  obtain ⟨R, l, rfl⟩ : ∃ (R : Fin 256) (l : Fin 1024), i = ix2 R l := ⟨i 0, i 1, by funext a; fin_cases a <;> rfl⟩
  rw [scaled_apply]
  simp only [e]
  rfl
end

theorem eq2 (A0 : FVec Ideal S32x8x1024 .f32) (A1 : FVec Ideal S1x32x30x768 .f32) (A4 : FVec Ideal S2x1024 .f32) (A5 : FVec Ideal S1x1024x1792 .f32) (h) :
    extractStridedSlice Cert.LayerZeroSRefIdeal.S32x30x768 ![0, 8, 0] (ext A1 (proj A0 A4 A5)) h
      = fun i => past (fx A0) (fst A1) (fg A4) (fW A5) (i 0) (i 1) (i 2) := by
  funext i
  obtain ⟨b, r, k, rfl⟩ : ∃ (b : Fin 32) (r : Fin 30) (k : Fin 768), i = ix3 b r k := ⟨i 0, i 1, i 2, by funext a; fin_cases a <;> rfl⟩
  exact past_apply A0 A1 A4 A5 b r k h

end Cert.LayerZeroSEq

end
-- ==== Proof.ExpertsBitsStep.lean ====
module

public import proofs.«01_k».proof.Defs
public import proofs.«01_k».proof.Proof.Gen.Experts
public import proofs.«01_k».proof.Proof.Gen.Experts.Launch
public import proofs.«01_k».proof.Proof.Gen.Experts.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Pointwise.Index
public import Idealize.ShloMosaic.Lib.Tactic

/-! # One step of the experts' call, by the branch it takes

A step whose block is used and whose expert is new first copies the expert's three matrices to scratch (`stepNew`); a used
block with the expert of the block before it takes the matrices as they lie in scratch (`stepSame`); an unused block is
filled with zeros (`stepZero`). Each says what the step leaves. -/

@[expose] public section
set_option maxRecDepth 16384

noncomputable section

namespace Cert.Experts.Step

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The table of experts, the number of used blocks, and the two scratch buffers. -/
noncomputable abbrev expT : Memref sig .tc .smem S580 .i32 := Memref.whole main_arg1
noncomputable abbrev cntT : Memref sig .tc .smem S1 .i32 := Memref.whole main_arg2
noncomputable abbrev w13S : Memref sig .tc .vmem S1024x512 .bf16 := Memref.whole cc0_scratch0
noncomputable abbrev w2S : Memref sig .tc .vmem S256x1024 .bf16 := Memref.whole cc0_scratch1

/-- The number of used blocks, the expert of this block and of the one before it, as the step reads them. -/
noncomputable abbrev cnt (T1 : S1.Idx → Elt Bits .i32) : BitVec 32 :=
  View.readAt (Elt Bits) cntT.view (Rect.unit (s := S1) ![0] S1.size inb_S1_S1_0).toLoadRect T1 (Shape.Idx.first (numel1_S1.symm ▸ Nat.one_pos))
noncomputable abbrev expHere (i : grid0.Coords) (T0 : S580.Idx → Elt Bits .i32) : BitVec 32 :=
  View.readAt (Elt Bits) expT.view (Rect.unit (s := S580) (k0_off2 i) S1.size (k0_off2_inb i)).toLoadRect T0 (Shape.Idx.first (numel1_S1.symm ▸ Nat.one_pos))
noncomputable abbrev expBefore (i : grid0.Coords) (T0 : S580.Idx → Elt Bits .i32) : BitVec 32 :=
  View.readAt (Elt Bits) expT.view (Rect.unit (s := S580) (k0_off3 i) S1.size (k0_off3_inb i)).toLoadRect T0 (Shape.Idx.first (numel1_S1.symm ▸ Nat.one_pos))
/-- Whether the matrices are to be copied. -/
noncomputable abbrev isNew (i : grid0.Coords) (T0 : S580.Idx → Elt Bits .i32) : BitVec 1 :=
  Scalar.cmpi .ne (Scalar.extui (Scalar.ori (Scalar.cmpi .eq (BitVec.ofNat 32 (i 0).val) 0#32) (Scalar.cmpi .ne (expHere i T0) (expBefore i T0)))) 0#32

set_option backward.proofsInPublic true in
set_option maxHeartbeats 8000000 in
/-- A used block whose expert is new. -/
noncomputable def stepNew (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32)
    (used : k0_cond1 i (cnt T1) = 1#1) (new : isNew i T0 = 1#1) (rest : ¬k0_cond3 i (cnt T1) = 1#1) :
    Σ' (out : List (View.Piece (Elt Bits) S128x1024 .f32)) (s0 : Buf (Elt Bits) ((c : Thread nD τ).loc cc0_scratch0)), { s1 : Buf (Elt Bits) ((c : Thread nD τ).loc cc0_scratch1) //
      ∀ (a0 : Buf (Elt Bits) ((c : Thread nD τ).loc cc0_scratch0)) (a1 : Buf (Elt Bits) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Bits) f out)
              ∗ (w13S.view.loc (c : Thread nD τ) ↦{fullShare} s0)
              ∗ (w2S.view.loc (c : Thread nD τ) ↦{fullShare} s1)) -∗ K ⟨⟩))
          ⊢ wp frame (wpE (defs₀ (F := Bits)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, _, _, fun a0 a1 K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = Scalar.cmpi = _; exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- A used block whose expert is the one before it. -/
noncomputable def stepSame (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32) (a0 : Buf (Elt Bits) ((c : Thread nD τ).loc cc0_scratch0)) (a1 : Buf (Elt Bits) ((c : Thread nD τ).loc cc0_scratch1))
    (used : k0_cond1 i (cnt T1) = 1#1) (new : ¬isNew i T0 = 1#1) (rest : ¬k0_cond3 i (cnt T1) = 1#1) :
    { out : List (View.Piece (Elt Bits) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Bits) f out)
              ∗ (w13S.view.loc (c : Thread nD τ) ↦{fullShare} a0)
              ∗ (w2S.view.loc (c : Thread nD τ) ↦{fullShare} a1)) -∗ K ⟨⟩))
          ⊢ wp frame (wpE (defs₀ (F := Bits)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = ¬(Scalar.cmpi = _); exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- An unused block. -/
noncomputable def stepZero (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32) (a0 : Buf (Elt Bits) ((c : Thread nD τ).loc cc0_scratch0)) (a1 : Buf (Elt Bits) ((c : Thread nD τ).loc cc0_scratch1))
    (used : ¬k0_cond1 i (cnt T1) = 1#1) (rest : k0_cond3 i (cnt T1) = 1#1) :
    { out : List (View.Piece (Elt Bits) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Bits) f out)
              ∗ (w13S.view.loc (c : Thread nD τ) ↦{fullShare} a0)
              ∗ (w2S.view.loc (c : Thread nD τ) ↦{fullShare} a1)) -∗ K ⟨⟩))
          ⊢ wp frame (wpE (defs₀ (F := Bits)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = ¬(k0_cond1 _ _ = _); exact used) | (guard_target = k0_cond3 _ _ = _; exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

/-! ## What the steps leave -/

/-- The first scratch buffer once an expert's two input matrices are copied: `w1` on its left half, `w3` on its right. -/
noncomputable def w13Of (c : Dev nD) (x1 x2 : S1x1x1024x256.Idx → Elt Bits .f32) : Buf (Elt Bits) ((c : Thread nD τ).loc cc0_scratch0) :=
  (View.whole cc0_scratch0).writes (Elt Bits) (View.whole cc0_scratch0).junk
    [⟨Rect.unit ![0, 256] S1024x256.size inb_S1024x512_S1024x256_0_256, k0_pay2 x2⟩, ⟨Rect.unit ![0, 0] S1024x256.size inb_S1024x512_S1024x256_0_0, k0_pay1 x1⟩]

/-- The second scratch buffer once the expert's output matrix is copied. -/
noncomputable def w2Of (c : Dev nD) (x3 : S1x1x256x1024.Idx → Elt Bits .f32) : Buf (Elt Bits) ((c : Thread nD τ).loc cc0_scratch1) :=
  (View.whole cc0_scratch1).writes (Elt Bits) (View.whole cc0_scratch1).junk [⟨Rect.unit ![0, 0] S256x1024.size inb_S256x1024_S256x1024_0_0, k0_pay3 x3⟩]

/-- The block of results computed from rows and scratch contents. -/
noncomputable def outOf (c : Dev nD) (x0 : S128x1024.Idx → Elt Bits .f32) (a0 : Buf (Elt Bits) ((c : Thread nD τ).loc cc0_scratch0))
    (a1 : Buf (Elt Bits) ((c : Thread nD τ).loc cc0_scratch1)) : S128x1024.Idx → Elt Bits .f32 :=
  k0_pay4 x0 (View.readAt (Elt Bits) w13S.view (Rect.unit (s := S1024x512) ![0, 0] S1024x512.size inb_S1024x512_S1024x512_0_0).toLoadRect a0)
    (View.readAt (Elt Bits) w2S.view (Rect.unit (s := S256x1024) ![0, 0] S256x1024.size inb_S256x1024_S256x1024_0_0).toLoadRect a1)

section
variable (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32)
    (a0 : Buf (Elt Bits) ((c : Thread nD τ).loc cc0_scratch0)) (a1 : Buf (Elt Bits) ((c : Thread nD τ).loc cc0_scratch1))

theorem stepNew_w13 (h1 h2 h3) : (stepNew c i arg3 harg3 arg4 harg4 arg5 harg5 arg6 harg6 arg7 harg7 T0 T1 x0 x1 x2 x3 h1 h2 h3).2.1 = w13Of c x1 x2 := by
  unfold stepNew; dsimp only; unfold stepNew.sl.HS_2 w13Of
  rw [View.readAt_rep_full, View.readAt_rep_full]

theorem stepNew_w2 (h1 h2 h3) : (stepNew c i arg3 harg3 arg4 harg4 arg5 harg5 arg6 harg6 arg7 harg7 T0 T1 x0 x1 x2 x3 h1 h2 h3).2.2.1 = w2Of c x3 := by
  unfold stepNew; dsimp only; unfold stepNew.sl.HT_1 w2Of
  rw [View.readAt_rep_full]

theorem stepNew_out (h1 h2 h3) (f) : arg7.view.read (Elt Bits) (arg7.view.writes (Elt Bits) f (stepNew c i arg3 harg3 arg4 harg4 arg5 harg5 arg6 harg6 arg7 harg7 T0 T1 x0 x1 x2 x3 h1 h2 h3).1)
    = outOf c x0 (w13Of c x1 x2) (w2Of c x3) := by
  unfold stepNew; dsimp only; unfold stepNew.sl.HY_1
  rw [View.read_writes_full, View.readAt_rep_full]
  unfold outOf stepNew.sl.v20 stepNew.sl.v28 stepNew.sl.HS_2 stepNew.sl.HT_1 View.readCov w13Of w2Of
  rw [View.readAt_rep_full, View.readAt_rep_full, View.readAt_rep_full]
  try rfl

theorem stepSame_out (h1 h2 h3) (f) : arg7.view.read (Elt Bits) (arg7.view.writes (Elt Bits) f (stepSame c i arg3 harg3 arg4 harg4 arg5 harg5 arg6 harg6 arg7 harg7 T0 T1 x0 x1 x2 x3 a0 a1 h1 h2 h3).1)
    = outOf c x0 a0 a1 := by
  unfold stepSame; dsimp only; unfold stepSame.sl.HY_1
  rw [View.read_writes_full, View.readAt_rep_full]
  try rfl

theorem stepZero_out (h1 h2) (f) : arg7.view.read (Elt Bits) (arg7.view.writes (Elt Bits) f (stepZero c i arg3 harg3 arg4 harg4 arg5 harg5 arg6 harg6 arg7 harg7 T0 T1 x0 x1 x2 x3 a0 a1 h1 h2).1)
    = k0_pay5 (F := Bits) := by
  unfold stepZero; dsimp only; unfold stepZero.sl.HY_1
  rw [View.read_writes_full]
end

/-! ## When a step takes which branch -/

theorem coord_val (t : Fin grid0.N) : (grid0.coords t 0).val = t.val := by revert t; decide +kernel

theorem used_iff (i : grid0.Coords) (v : BitVec 32) : k0_cond1 i v = 1#1 ↔ ((BitVec.ofNat 32 (i 0).val).slt v) = true := by
  unfold k0_cond1
  simp only [Scalar.cmpi, Scalar.extui, IntOp.cmpi]
  cases (BitVec.ofNat 32 (i 0).val).slt v <;> decide

theorem rest_iff (i : grid0.Coords) (v : BitVec 32) : k0_cond3 i v = 1#1 ↔ ¬((BitVec.ofNat 32 (i 0).val).slt v) = true := by
  unfold k0_cond3
  simp only [Scalar.cmpi, Scalar.extui, IntOp.cmpi]
  rw [BitVec.sle_eq_not_slt]
  cases (BitVec.ofNat 32 (i 0).val).slt v <;> decide

theorem slt_iff (n : ℕ) (h : n < 580) (v : BitVec 32) : ((BitVec.ofNat 32 n).slt v) = true ↔ (n : ℤ) < v.toInt := by
  rw [BitVec.slt_iff_toInt_lt, show (BitVec.ofNat 32 n).toInt = (n : ℤ) from by rw [BitVec.toInt_ofNat', Int.bmod_def]; split <;> omega]

/-- A block is used if it comes before the count. -/
theorem used_iff_lt (t : Fin grid0.N) (v : BitVec 32) : k0_cond1 (grid0.coords t) v = 1#1 ↔ (t.val : ℤ) < v.toInt := by
  rw [used_iff, coord_val, slt_iff _ (lt_of_lt_of_eq t.isLt N_0)]

theorem rest_of_used (i : grid0.Coords) (v : BitVec 32) (h : k0_cond1 i v = 1#1) : ¬k0_cond3 i v = 1#1 := by
  rw [rest_iff, not_not, ← used_iff]; exact h

theorem rest_of_not_used (i : grid0.Coords) (v : BitVec 32) (h : ¬k0_cond1 i v = 1#1) : k0_cond3 i v = 1#1 := by
  rw [rest_iff, ← used_iff]; exact h

/-- A step that copies nothing is not the first, and its expert is the one before. -/
theorem old_of_not_new (i : grid0.Coords) (T0 : S580.Idx → Elt Bits .i32) (h : ¬isNew i T0 = 1#1) : (i 0).val ≠ 0 ∧ expHere i T0 = expBefore i T0 := by
  unfold isNew at h
  generalize expHere i T0 = a at *
  generalize expBefore i T0 = b at *
  simp only [Scalar.cmpi, Scalar.extui, Scalar.ori, IntOp.cmpi] at h
  refine ⟨fun e => h ?_, by_contra fun e => h ?_⟩
  · rw [e]; cases (a != b) <;> decide
  · rw [show (a != b) = true from by simpa using e]
    cases (BitVec.ofNat 32 (i 0).val == 0#32) <;> decide

theorem off3_val (t : Fin grid0.N) : k0_off3 (grid0.coords t) 0 = t.val - 1 := by revert t; decide +kernel

/-- The expert a step reads is its entry of the table; -/
theorem expHere_eq (t : Fin grid0.N) (T0 : S580.Idx → Elt Bits .i32) :
    expHere (grid0.coords t) T0 = T0 (ix1 (⟨t.val, lt_of_lt_of_eq t.isLt N_0⟩ : Fin 580)) := by
  refine congrArg T0 (funext fun a => ?_)
  match a with
  | ⟨0, _⟩ =>
    refine Fin.ext ?_
    have h := congrFun (k0_off2_eq (grid0.coords t)) 0
    rw [Matrix.cons_val_zero, coord_val] at h
    exact h

/-- the one before it is the entry before. -/
theorem expBefore_eq (t : Fin grid0.N) (T0 : S580.Idx → Elt Bits .i32) :
    expBefore (grid0.coords t) T0 = T0 (ix1 (⟨t.val - 1, lt_of_le_of_lt (Nat.sub_le _ _) (lt_of_lt_of_eq t.isLt N_0)⟩ : Fin 580)) := by
  refine congrArg T0 (funext fun a => ?_)
  match a with
  | ⟨0, _⟩ => exact Fin.ext (off3_val t)

end Cert.Experts.Step
-- ==== Proof.ExpertsBitsFrame.lean ====
module

public import proofs.«01_k».proof.Proof.ExpertsBitsStep
public import Idealize.ShloMosaic.Lib.Pipeline.Quiescent
public import Idealize.ShloMosaic.Lib.Claim
public import Idealize.ShloMosaic.Lib.Affine
public import Idealize.ShloMosaic.PureOps.Ideal
public import Idealize.ShloMosaic.Adequacy
public import Idealize.ShloMosaic.Init

/-! # The experts' call: it runs, and what it leaves

For any table of experts below 64 and any positive count of used blocks. After step `t` the scratch buffers hold the
matrices of block `t`'s expert as long as the blocks are used: a step that copies nothing has the expert of the step before
it, so what it finds is its own expert's matrices. -/

@[expose] public section

set_option maxRecDepth 16384
set_option Elab.async false

noncomputable section

namespace Cert.Experts.Step

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The staging cells' algebra. -/
abbrev EC : Emb (UR sig nD τ) 𝕄 := emb₁

variable (m : (ℓ : Loc nD τ sig) → Buf (Elt Bits) ℓ) (ρ : Dev nD → PrngReg)

/-- The table of experts and the count, as the call finds them. -/
abbrev tabE : S580.Idx → Elt Bits .i32 := m (((0 : Dev nD) : Thread nD τ).loc main_arg1)
abbrev tabN : S1.Idx → Elt Bits .i32 := m (((0 : Dev nD) : Thread nD τ).loc main_arg2)

set_option backward.proofsInPublic true in
/-- Both tables. -/
def tabs : pre0.Contents (Elt Bits) := fun | ⟨0, _⟩ => tabE m | ⟨1, _⟩ => tabN m | ⟨_ + 2, h⟩ => absurd h (by simp)

/-- Every expert is one of the 64, and at least one block is used. -/
def Good : Prop := (∀ x, (tabE m x : BitVec 32).toNat < 64) ∧ ∀ x, 1 ≤ (tabN m x : BitVec 32).toInt

variable {m}

theorem row_index (n : ℕ) (hn : n < 580) (v : BitVec 32) (hv : 1 ≤ v.toInt) :
    (Scalar.minsi (BitVec.ofNat 32 n) (Scalar.subi v 1#32)).toNat ≤ n ∧ ((n : ℤ) < v.toInt → (Scalar.minsi (BitVec.ofNat 32 n) (Scalar.subi v 1#32)).toNat = n) := by
  have e : (v - 1#32).toInt = v.toInt - 1 := by
    have h1 := BitVec.toInt_lt (x := v)
    rw [BitVec.toInt_sub, show (1#32 : BitVec 32).toInt = 1 from rfl, Int.bmod_def]
    split <;> omega
  have ei : (BitVec.ofNat 32 n).toInt = (n : ℤ) := by rw [BitVec.toInt_ofNat', Int.bmod_def]; split <;> omega
  have en : (BitVec.ofNat 32 n).toNat = n := by rw [BitVec.toNat_ofNat]; omega
  have h2 := BitVec.toInt_eq_toNat_cond (v - 1#32)
  have h3 := (v - 1#32).isLt
  show (if ((BitVec.ofNat 32 n).slt (v - 1#32)) = true then BitVec.ofNat 32 n else v - 1#32).toNat ≤ n
    ∧ ((n : ℤ) < v.toInt → (if ((BitVec.ofNat 32 n).slt (v - 1#32)) = true then BitVec.ofNat 32 n else v - 1#32).toNat = n)
  by_cases hs : ((BitVec.ofNat 32 n).slt (v - 1#32)) = true
  · rw [if_pos hs]; omega
  · rw [if_neg hs]
    rw [BitVec.slt_iff_toInt_lt] at hs
    split at h2 <;> omega

theorem rows_block (hg : Good m) (i : grid0.Coords) (a) :
    (cc0_transform_0 inb_S1_S1_0 numel1_S1 (tabs m) i a + 1) * S128x1024.size a ≤ S74240x1024.size a := by
  have hi : (i 0).val < 580 := (i 0).isLt
  have hv := (row_index _ hi ((tabs m).at 1 (Rect.unit (s := S1) ![0] S1.size inb_S1_S1_0) numel1_S1 : BitVec 32) (hg.2 _)).1
  match a with
  | ⟨0, _⟩ =>
    show ((Scalar.minsi (BitVec.ofNat 32 (i 0).val) (Scalar.subi ((tabs m).at 1 (Rect.unit (s := S1) ![0] S1.size inb_S1_S1_0) numel1_S1 : BitVec 32) 1#32)).toNat + 1) * 128 ≤ 74240
    omega
  | ⟨1, _⟩ => exact Nat.le_refl _

theorem w1_block (hg : Good m) (i : grid0.Coords) (a) :
    (cc0_transform_1 k0_off1_inb numel1_S1 (tabs m) i a + 1) * S1x1x1024x256.size a ≤ S2x64x1024x256.size a := by
  have hv : ((tabs m).at 0 (Rect.unit (s := S580) (k0_off1 i) S1.size (k0_off1_inb i)) numel1_S1 : BitVec 32).toNat < 64 := hg.1 _
  match a with
  | ⟨0, _⟩ => show (0 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

theorem w2_block (hg : Good m) (i : grid0.Coords) (a) :
    (cc0_transform_3 k0_off1_inb numel1_S1 (tabs m) i a + 1) * S1x1x256x1024.size a ≤ S2x64x256x1024.size a := by
  have hv : ((tabs m).at 0 (Rect.unit (s := S580) (k0_off1 i) S1.size (k0_off1_inb i)) numel1_S1 : BitVec 32).toNat < 64 := hg.1 _
  match a with
  | ⟨0, _⟩ => show (0 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

/-- Every window's block lies in its array. -/
theorem blocks_ok (hg : Good m) : ok0 (F := Bits) (tabs m) :=
  ⟨fun i => ⟨rows_block hg i, .inl rfl⟩, fun i => ⟨w1_block hg i, .inl rfl⟩, fun i => ⟨w1_block hg i, .inl rfl⟩, fun i => ⟨w2_block hg i, .inl rfl⟩⟩

/-- The tables the pipeline runs at, and the pipeline at them. -/
def admT (hg : Good m) : (pcfg0 (F := Bits)).Adm := ⟨tabs m, blocks_ok hg⟩
abbrev cfgT (hg : Good m) : Pipeline.Cfg sig Λ₀ := cfg0 (F := Bits) (admT hg)
abbrev pinned (hg : Good m) : Fin 1 → Pipeline.Cfg sig Λ₀ := Pipeline.pin (pcfgs (F := Bits)) fun _ => admT hg

variable (hg : Good m)

/-- A step's coordinates and the staging buffers it is handed. -/
abbrev pt (t : Fin (cfgT hg).N) : (cfgT hg).grid.Coords := (cfgT hg).grid.coords t
abbrev g0 (t : Fin (cfgT hg).N) : Memref sig .tc .vmem S128x1024 .f32 := spec0_0.stage ((cfgT hg).slots t (0 : Fin 5))
abbrev g1 (t : Fin (cfgT hg).N) : Memref sig .tc .vmem S1x1x1024x256 .f32 := spec0_1.stage ((cfgT hg).slots t (1 : Fin 5))
abbrev g2 (t : Fin (cfgT hg).N) : Memref sig .tc .vmem S1x1x1024x256 .f32 := spec0_2.stage ((cfgT hg).slots t (2 : Fin 5))
abbrev g3 (t : Fin (cfgT hg).N) : Memref sig .tc .vmem S1x1x256x1024 .f32 := spec0_3.stage ((cfgT hg).slots t (3 : Fin 5))
abbrev g4 (t : Fin (cfgT hg).N) : Memref sig .tc .vmem S128x1024 .f32 := spec0_4.stage ((cfgT hg).slots t (4 : Fin 5))
abbrev wg0 (t : Fin (cfgT hg).N) : (g0 hg t).IsWhole := hstage0_0 (((cfgT hg).slots t (0 : Fin 5)).cast nbuf0_0)
abbrev wg1 (t : Fin (cfgT hg).N) : (g1 hg t).IsWhole := hstage0_1 (((cfgT hg).slots t (1 : Fin 5)).cast nbuf0_1)
abbrev wg2 (t : Fin (cfgT hg).N) : (g2 hg t).IsWhole := hstage0_2 (((cfgT hg).slots t (2 : Fin 5)).cast nbuf0_2)
abbrev wg3 (t : Fin (cfgT hg).N) : (g3 hg t).IsWhole := hstage0_3 (((cfgT hg).slots t (3 : Fin 5)).cast nbuf0_3)
abbrev wg4 (t : Fin (cfgT hg).N) : (g4 hg t).IsWhole := hstage0_4 (((cfgT hg).slots t (4 : Fin 5)).cast nbuf0_4)

/-- Window `w`'s block at step `t`. -/
def blkOf (c : Dev nD) (w : Fin (cfgT hg).W) (t : Fin (cfgT hg).N) : (((cfgT hg).win w).xblock (pt hg t)).Idx → Elt Bits ((cfgT hg).win w).elt :=
  (((cfgT hg).win w).blk t).view.read (Elt Bits) (m (((cfgT hg).win w).arr.view.loc (c : Thread nD τ)))

/-- Whether block `t` is used. -/
abbrev Used (m : (ℓ : Loc nD τ sig) → Buf (Elt Bits) ℓ) (t : Fin grid0.N) : Prop := k0_cond1 (grid0.coords t) (cnt (tabN m)) = 1#1

/-- What the scratch buffers hold after a used step, and what the step leaves in the result's block. -/
def s13 (c : Dev nD) (t : Fin (cfgT hg).N) : Buf (Elt Bits) ((c : Thread nD τ).loc cc0_scratch0) := w13Of c (blkOf hg c (1 : Fin 5) t) (blkOf hg c (2 : Fin 5) t)
def s2 (c : Dev nD) (t : Fin (cfgT hg).N) : Buf (Elt Bits) ((c : Thread nD τ).loc cc0_scratch1) := w2Of c (blkOf hg c (3 : Fin 5) t)
open Classical in
def resOf (c : Dev nD) (t : Fin (cfgT hg).N) : S128x1024.Idx → Elt Bits .f32 :=
  if Used m t then outOf c (blkOf hg c (0 : Fin 5) t) (s13 hg c t) (s2 hg c t) else k0_pay5 (F := Bits)

/-- Before step `t`: the scratch buffers hold the matrices of the block before it, if that one is used; the tables are as found. -/
def Inv (c : Dev nD) (t : Fin ((cfgT hg).N + 1)) : sProp 𝕄 :=
  iprop(∃ a0 a1, ⌜∀ u : Fin (cfgT hg).N, u.val + 1 = t.val → Used m u → a0 = s13 hg c u ∧ a1 = s2 hg c u⌝
    ∗ (w13S.view.loc (c : Thread nD τ) ↦{fullShare} a0) ∗ (w2S.view.loc (c : Thread nD τ) ↦{fullShare} a1)
    ∗ (expT.view.loc (c : Thread nD τ) ↦{fullShare.right} tabE m) ∗ (cntT.view.loc (c : Thread nD τ) ↦{fullShare.right} tabN m))

/-- The pipeline's proof data. -/
def dat (_ : Fin 1) (c : Dev nD) : Dat τ (Elt Bits) Unit ℕ (UR sig nD τ) ℕ (cfgT hg) c where
  A w := m (((cfgT hg).win w).arr.view.loc (c : Thread nD τ))
  after w t := match w with
    | ⟨0, _⟩ => blkOf hg c (0 : Fin 5) t
    | ⟨1, _⟩ => blkOf hg c (1 : Fin 5) t
    | ⟨2, _⟩ => blkOf hg c (2 : Fin 5) t
    | ⟨3, _⟩ => blkOf hg c (3 : Fin 5) t
    | ⟨4, _⟩ => resOf hg c t
  Φ t := Inv hg c t
  q _ := fullShare
  owed _ := 0

theorem after_0 (c : Dev nD) (t : Fin (cfgT hg).N) : (dat hg 0 c).after (0 : Fin 5) t = blkOf hg c (0 : Fin 5) t := rfl
theorem after_1 (c : Dev nD) (t : Fin (cfgT hg).N) : (dat hg 0 c).after (1 : Fin 5) t = blkOf hg c (1 : Fin 5) t := rfl
theorem after_2 (c : Dev nD) (t : Fin (cfgT hg).N) : (dat hg 0 c).after (2 : Fin 5) t = blkOf hg c (2 : Fin 5) t := rfl
theorem after_3 (c : Dev nD) (t : Fin (cfgT hg).N) : (dat hg 0 c).after (3 : Fin 5) t = blkOf hg c (3 : Fin 5) t := rfl
theorem after_4 (c : Dev nD) (t : Fin (cfgT hg).N) : (dat hg 0 c).after (4 : Fin 5) t = resOf hg c t := rfl

theorem before_0 (c : Dev nD) (t : Fin (cfgT hg).N) (d) : (dat hg 0 c).before (0 : Fin 5) t d = blkOf hg c (0 : Fin 5) t :=
  ((dat hg 0 c).before_in_eq_fetched (0 : Fin 5) rfl (fun _ => rfl) (fun _ _ _ => rfl) (fun t => by rw [after_0]; unfold Dat.blockOf blkOf; rfl) t d).trans
    (by unfold Dat.fetched Dat.blockOf blkOf; rfl)
theorem before_1 (c : Dev nD) (t : Fin (cfgT hg).N) (d) : (dat hg 0 c).before (1 : Fin 5) t d = blkOf hg c (1 : Fin 5) t :=
  ((dat hg 0 c).before_in_eq_fetched (1 : Fin 5) rfl (fun _ => rfl) (fun _ _ _ => rfl) (fun t => by rw [after_1]; unfold Dat.blockOf blkOf; rfl) t d).trans
    (by unfold Dat.fetched Dat.blockOf blkOf; rfl)
theorem before_2 (c : Dev nD) (t : Fin (cfgT hg).N) (d) : (dat hg 0 c).before (2 : Fin 5) t d = blkOf hg c (2 : Fin 5) t :=
  ((dat hg 0 c).before_in_eq_fetched (2 : Fin 5) rfl (fun _ => rfl) (fun _ _ _ => rfl) (fun t => by rw [after_2]; unfold Dat.blockOf blkOf; rfl) t d).trans
    (by unfold Dat.fetched Dat.blockOf blkOf; rfl)
theorem before_3 (c : Dev nD) (t : Fin (cfgT hg).N) (d) : (dat hg 0 c).before (3 : Fin 5) t d = blkOf hg c (3 : Fin 5) t :=
  ((dat hg 0 c).before_in_eq_fetched (3 : Fin 5) rfl (fun _ => rfl) (fun _ _ _ => rfl) (fun t => by rw [after_3]; unfold Dat.blockOf blkOf; rfl) t d).trans
    (by unfold Dat.fetched Dat.blockOf blkOf; rfl)

/-- Two steps whose experts agree are handed the same matrices. -/
theorem same_index (t u : Fin (cfgT hg).N) (h : expHere (grid0.coords t) (tabE m) = expHere (grid0.coords u) (tabE m)) :
    ((cfgT hg).win (1 : Fin 5)).index t = ((cfgT hg).win (1 : Fin 5)).index u ∧ ((cfgT hg).win (2 : Fin 5)).index t = ((cfgT hg).win (2 : Fin 5)).index u
      ∧ ((cfgT hg).win (3 : Fin 5)).index t = ((cfgT hg).win (3 : Fin 5)).index u := by
  have e : ∀ t : Fin (cfgT hg).N, (![0, (expHere (grid0.coords t) (tabE m)).toNat, 0, 0] : Fin 4 → ℕ) = ((cfgT hg).win (1 : Fin 5)).index t := fun _ => rfl
  have h' : (![0, (expHere (grid0.coords t) (tabE m)).toNat, 0, 0] : Fin 4 → ℕ) = ![0, (expHere (grid0.coords u) (tabE m)).toNat, 0, 0] := by rw [h]
  exact ⟨h', h', h'⟩

theorem s13_same (c : Dev nD) (t u : Fin (cfgT hg).N) (h : expHere (grid0.coords t) (tabE m) = expHere (grid0.coords u) (tabE m)) : s13 hg c t = s13 hg c u := by
  have h1 : blkOf hg c (1 : Fin 5) t = blkOf hg c (1 : Fin 5) u := by
    rw [← before_1 hg c t (fun _ => Classical.arbitrary _), ← before_1 hg c u (fun _ => Classical.arbitrary _),
      (dat hg 0 c).before_in_eq_fetched (1 : Fin 5) rfl (fun _ => rfl) (fun _ _ _ => rfl) (fun t => by rw [after_1]; unfold Dat.blockOf blkOf; rfl),
      (dat hg 0 c).before_in_eq_fetched (1 : Fin 5) rfl (fun _ => rfl) (fun _ _ _ => rfl) (fun t => by rw [after_1]; unfold Dat.blockOf blkOf; rfl)]
    exact (dat hg 0 c).fetched_congr (1 : Fin 5) (same_index hg t u h).1 rfl _
  have h2 : blkOf hg c (2 : Fin 5) t = blkOf hg c (2 : Fin 5) u := by
    rw [← before_2 hg c t (fun _ => Classical.arbitrary _), ← before_2 hg c u (fun _ => Classical.arbitrary _),
      (dat hg 0 c).before_in_eq_fetched (2 : Fin 5) rfl (fun _ => rfl) (fun _ _ _ => rfl) (fun t => by rw [after_2]; unfold Dat.blockOf blkOf; rfl),
      (dat hg 0 c).before_in_eq_fetched (2 : Fin 5) rfl (fun _ => rfl) (fun _ _ _ => rfl) (fun t => by rw [after_2]; unfold Dat.blockOf blkOf; rfl)]
    exact (dat hg 0 c).fetched_congr (2 : Fin 5) (same_index hg t u h).2.1 rfl _
  unfold s13; rw [h1, h2]

theorem s2_same (c : Dev nD) (t u : Fin (cfgT hg).N) (h : expHere (grid0.coords t) (tabE m) = expHere (grid0.coords u) (tabE m)) : s2 hg c t = s2 hg c u := by
  have h3 : blkOf hg c (3 : Fin 5) t = blkOf hg c (3 : Fin 5) u := by
    rw [← before_3 hg c t (fun _ => Classical.arbitrary _), ← before_3 hg c u (fun _ => Classical.arbitrary _),
      (dat hg 0 c).before_in_eq_fetched (3 : Fin 5) rfl (fun _ => rfl) (fun _ _ _ => rfl) (fun t => by rw [after_3]; unfold Dat.blockOf blkOf; rfl),
      (dat hg 0 c).before_in_eq_fetched (3 : Fin 5) rfl (fun _ => rfl) (fun _ _ _ => rfl) (fun t => by rw [after_3]; unfold Dat.blockOf blkOf; rfl)]
    exact (dat hg 0 c).fetched_congr (3 : Fin 5) (same_index hg t u h).2.2 rfl _
  unfold s2; rw [h3]

/-- A used step that copies nothing finds its own expert's matrices. -/
theorem found (c : Dev nD) (t : Fin (cfgT hg).N) (hu : Used m t) (hn : ¬isNew (grid0.coords t) (tabE m) = 1#1)
    {a0 : Buf (Elt Bits) ((c : Thread nD τ).loc cc0_scratch0)} {a1 : Buf (Elt Bits) ((c : Thread nD τ).loc cc0_scratch1)}
    (ha : ∀ u : Fin (cfgT hg).N, u.val + 1 = t.castSucc.val → Used m u → a0 = s13 hg c u ∧ a1 = s2 hg c u) : a0 = s13 hg c t ∧ a1 = s2 hg c t := by
  obtain ⟨h0, he⟩ := old_of_not_new _ _ hn
  rw [coord_val] at h0
  have hlt : t.val - 1 < (cfgT hg).N := lt_of_le_of_lt (Nat.sub_le _ _) t.isLt
  have hu' : Used m ⟨t.val - 1, hlt⟩ := by
    have := (used_iff_lt t _).1 hu
    refine (used_iff_lt (⟨t.val - 1, hlt⟩ : Fin grid0.N) _).2 ?_
    show ((t.val - 1 : ℕ) : ℤ) < _
    omega
  have hs : expHere (grid0.coords (⟨t.val - 1, hlt⟩ : Fin grid0.N)) (tabE m) = expHere (grid0.coords t) (tabE m) := by
    rw [he, expHere_eq, expBefore_eq]
  obtain ⟨e0, e1⟩ := ha ⟨t.val - 1, hlt⟩ (by show t.val - 1 + 1 = t.val; omega) hu'
  exact ⟨e0.trans (s13_same hg c _ _ hs), e1.trans (s2_same hg c _ _ hs)⟩

/-- No step leaves the result's block untouched. -/
theorem never_idle (t : Fin (cfgT hg).N) : (cfgT hg).idle (4 : Fin 5) ((cfgT hg).grid.coords t) = false := by
  have e : (cfgT hg).idle (4 : Fin 5) ((cfgT hg).grid.coords t)
      = (!(k0_cond1 (grid0.coords t) ((tabs m).atD 1 ![0]) == 1#1) && !(k0_cond3 (grid0.coords t) ((tabs m).atD 1 ![0]) == 1#1)) := rfl
  rw [e]
  by_cases h : k0_cond1 (grid0.coords t) ((tabs m).atD 1 ![0]) = 1#1
  · rw [h]; rfl
  · rw [rest_of_not_used _ _ h]; simp

/-- The step as the pipeline calls it. -/
abbrev bodyOf (t : Fin (cfgT hg).N) : Prog (TpuEff nD τ sig (Elt Bits) Λ₀ .tc) PUnit :=
  cc0_moe_experts (pt hg t) expT (Memref.isWhole_whole _) cntT (Memref.isWhole_whole _) (g0 hg t) (wg0 hg t) (g1 hg t) (wg1 hg t) (g2 hg t) (wg2 hg t) (g3 hg t) (wg3 hg t) (g4 hg t) (wg4 hg t) w13S (Memref.isWhole_whole _) w2S (Memref.isWhole_whole _)

set_option maxHeartbeats 4000000 in
/-- Every step keeps the invariant and leaves its block of the result. -/
theorem body_ok (c : Dev nD) (t : Fin (cfgT hg).N) :
    iprop((dat hg 0 c).Φ t.castSucc ∗ (dat hg 0 c).owesAt () t.castSucc
        ∗ (∃ d, owns (c : Thread nD τ) (g0 hg t) fullShare ((dat hg 0 c).before (0 : Fin 5) t d))
        ∗ (∃ d, owns (c : Thread nD τ) (g1 hg t) fullShare ((dat hg 0 c).before (1 : Fin 5) t d))
        ∗ (∃ d, owns (c : Thread nD τ) (g2 hg t) fullShare ((dat hg 0 c).before (2 : Fin 5) t d))
        ∗ (∃ d, owns (c : Thread nD τ) (g3 hg t) fullShare ((dat hg 0 c).before (3 : Fin 5) t d))
        ∗ (∃ d, owns (c : Thread nD τ) (g4 hg t) fullShare ((dat hg 0 c).before (4 : Fin 5) t d)))
      ⊢ wp frame (wpE (defs₀ (F := Bits)) Variants.none c none) Set.univ (bodyOf hg t) fun _ =>
          iprop((dat hg 0 c).Φ t.succ ∗ (dat hg 0 c).owesAt () t.succ
            ∗ bigSep Finset.univ fun w : Fin (cfgT hg).W =>
                match (cfgT hg).idle w ((cfgT hg).grid.coords t) with
                | true =>
                  match ((cfgT hg).win w).flush t with
                  | false => iprop(∃ d, owns (c : Thread nD τ) (((cfgT hg).win w).stage ((cfgT hg).slots t w)) fullShare ((dat hg 0 c).before w t d))
                  | true => owns (c : Thread nD τ) (((cfgT hg).win w).stage ((cfgT hg).slots t w)) fullShare ((dat hg 0 c).after w t)
                | false => owns (c : Thread nD τ) (((cfgT hg).win w).stage ((cfgT hg).slots t w)) fullShare ((dat hg 0 c).after w t)) := by
  obtain rfl : c = 0 := Subsingleton.elim _ _
  rw [bigSep_W0]
  rewrite [never_idle hg t]
  simp only [before_0, before_1, before_2, before_3, after_0, after_1, after_2, after_3, after_4]
  rewrite [show (dat hg 0 0).Φ t.succ = Inv hg 0 t.succ from rfl, show (dat hg 0 0).Φ t.castSucc = Inv hg 0 t.castSucc from rfl,
    show (dat hg 0 0).owesAt () t.succ = (dat hg 0 0).owesAt () t.castSucc from rfl]
  unfold Inv
  iintro ⟨⟨%a0, %a1, %ha, HS, HT, HE, HN⟩, Ho, ⟨%d0, H0⟩, ⟨%d1, H1⟩, ⟨%d2, H2⟩, ⟨%d3, H3⟩, ⟨%d4, H4⟩⟩
  by_cases hu : Used m t
  · by_cases hn : isNew (grid0.coords t) (tabE m) = 1#1
    · iapply ((stepNew 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) hu hn (rest_of_used _ _ hu)).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact ⟨stepNew_w13 .., stepNew_w2 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu]; exact stepNew_out ..
    · iapply ((stepSame 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu hn (rest_of_used _ _ hu)).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact found hg 0 u hu hn ha
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu, ← (found hg 0 t hu hn ha).1, ← (found hg 0 t hu hn ha).2]; exact stepSame_out ..
  · iapply ((stepZero 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu (rest_of_not_used _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HE]; · iexact HE
    isplitl [HN]; · iexact HN
    isplitl [H4]; · iexists _; iexact H4
    isplitl [HS]; · iexact HS
    isplitl [HT]; · iexact HT
    iintro ⟨H0, H1, H2, H3, HE, HN, ⟨%e4, H4⟩, HS, HT⟩
    isplitl [HS HT HE HN]
    · iexists _; iexists _; isplitr; swap
      · isplitl [HS]; · iexact HS
        isplitl [HT]; · iexact HT
        isplitl [HE]; · iexact HE
        iexact HN
      · ipureintro; intro u huv hu'
        obtain rfl : u = t := Fin.ext (by simpa using huv)
        exact absurd hu' hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; unfold resOf; rw [if_neg hu]; exact stepZero_out ..

theorem body_all (c : Dev nD) : BodyObligation (dat hg 0 c) (defs₀ (F := Bits)) Variants.none () Set.univ := fun t => by
  rw [bigSep_W0]
  exact body_ok hg c t

/-! ## The run -/

/-- The staging cells' first element. -/
def cells0 : UR sig nD τ :=
  initOf (Pipeline.cells (pinned hg) ((launch0 (F := Bits)).cellOf_inj fun _ => admT hg))
    (Pipeline.launchToks (pinned hg) ((launch0 (F := Bits)).cellOf_inj fun _ => admT hg))

theorem share_full (c : Dev nD) (w : Fin (cfgT hg).W) : (dat hg 0 c).share w = fullShare := by unfold Dat.share; split <;> rfl

theorem tabs_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = {(0 : Fin 2), (1 : Fin 2)} from by decide, bigSep_insert (by decide), bigSep_singleton]
  rfl

theorem inv_first (c : Dev nD) :
    iprop(BI.emp ∗ Pipeline.prefHeld pre0 c (fun _ => fullShare.right) (admT hg).1 ∗ Pipeline.scopedRest spec0 c) ⊢ (dat hg 0 c).Φ 0 := by
  rw [tabs_held, scopedRest0_eq, show (dat hg 0 c).Φ 0 = Inv hg c 0 from rfl]
  unfold Inv
  iintro ⟨-, ⟨HE, HN⟩, ⟨%a0, HS⟩, ⟨%a1, HT⟩⟩
  iexists a0; iexists a1
  isplitr
  · ipureintro; intro u hu; exact absurd hu (Nat.succ_ne_zero _)
  isplitl [HS]; · iexact HS
  isplitl [HT]; · iexact HT
  isplitl [HE]; · iexact HE
  iexact HN

theorem inv_last (c : Dev nD) : (dat hg 0 c).Φ (Fin.last (cfgT hg).N) ⊢ iprop(BI.emp ∗ Pipeline.scopedRest spec0 c) := by
  rw [scopedRest0_eq, show (dat hg 0 c).Φ (Fin.last (cfgT hg).N) = Inv hg c (Fin.last _) from rfl]
  unfold Inv
  iintro ⟨%a0, %a1, -, HS, HT, -, -⟩
  isplitr; · iempintro
  isplitl [HS]
  · iexists a0; iexact HS
  iexists a1; iexact HT

/-- What the run ends with: each array as the steps leave it, the tables as found. -/
def Ends : PUnit × MemSt nD τ sig (Elt Bits) → Prop := fun r =>
  ∀ c : Dev nD, (∀ w : Fin (cfgT hg).W, r.2.mem (((cfgT hg).win w).arr.view.loc (c : Thread nD τ)) = (dat hg 0 c).arrAt w (cfgT hg).N)
    ∧ ∀ j, r.2.mem ((c : Thread nD τ).loc (pre0.ref j)) = (admT hg).1 j

theorem tabs_of (c : Dev nD) (j : Fin 2) : m ((c : Thread nD τ).loc (pre0.ref j)) = (admT hg).1 j := by
  obtain rfl : c = 0 := Subsingleton.elim _ _
  fin_cases j <;> rfl

set_option backward.isDefEq.respectTransparency.types false in
set_option maxHeartbeats 4000000 in
theorem run_ends : θ_run (defs (F := Bits)) (onTc (τ := τ) (main (F := Bits))) (s₀ m ρ) (fun r => Ends hg r ∧ r.2.sem = fun _ => 0) :=
  Pipeline.θ_run_region_noSem_pf_quiescent pcfgs (fun _ => admT hg) (dat hg) () ((launch0 (F := Bits)).cellOf_inj fun _ => admT hg) (0 : Fin 1)
    (launch0 (F := Bits)).win.to₀ (launch0 (F := Bits)).pre EC defs₀ Variants.none m ρ main
    (hbody := fun c => (body_all hg c).loose) (hne := (launch0 (F := Bits)).block_pos)
    (harr := (launch0 (F := Bits)).arr_whole) (hstage := (launch0 (F := Bits)).stage_whole) (howed := fun _ _ => rfl)
    (u₀ := cells0 hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned hg) (dat hg) 0 (launch0 (F := Bits)).win.arr_inj c (launch0 (F := Bits)).arr_whole
      (share_full hg c) _ _ fun _ => rfl)
    (hpf := tabs_of hg)
    (X := fun _ => iprop(emp)) (Y := fun _ => iprop(emp)) (Z := fun _ => iprop(emp))
    (hX := fun c => by rw [unscopedRestP0_eq]; iintro -; isplitr <;> iempintro)
    (hin := inv_first hg)
    (hout := inv_last hg)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hg in
/-- The arguments end as they were and every counter at zero. -/
theorem args_kept : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 (0 : Fin 5)).trans ((dat hg 0 c).arrAt_in (0 : Fin 5) rfl _),
    ((h.1 c).2 0).trans (tabs_of hg c 0).symm, ((h.1 c).2 1).trans (tabs_of hg c 1).symm,
    ((h.1 c).1 (1 : Fin 5)).trans ((dat hg 0 c).arrAt_in (1 : Fin 5) rfl _),
    ((h.1 c).1 (2 : Fin 5)).trans ((dat hg 0 c).arrAt_in (2 : Fin 5) rfl _),
    ((h.1 c).1 (3 : Fin 5)).trans ((dat hg 0 c).arrAt_in (3 : Fin 5) rfl _)⟩, h.2⟩) (run_ends ρ hg)

end Cert.Experts.Step
-- ==== Proof.ExpertsStep.lean ====
module

public import proofs.«01_k».proof.Defs
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Pointwise.Index
public import Idealize.ShloMosaic.Lib.Tactic

/-! # One step of the experts' call, by the branch it takes

A step whose block is used and whose expert is new first copies the expert's three matrices to scratch (`stepNew`); a used
block with the expert of the block before it takes the matrices as they lie in scratch (`stepSame`); an unused block is
filled with zeros (`stepZero`). Each says what the step leaves. -/

@[expose] public section
set_option maxRecDepth 16384

noncomputable section

namespace Cert.ExpertsIdeal.Step

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The table of experts, the number of used blocks, and the two scratch buffers. -/
noncomputable abbrev expT : Memref sig .tc .smem S580 .i32 := Memref.whole main_arg1
noncomputable abbrev cntT : Memref sig .tc .smem S1 .i32 := Memref.whole main_arg2
noncomputable abbrev w13S : Memref sig .tc .vmem S1024x512 .bf16 := Memref.whole cc0_scratch0
noncomputable abbrev w2S : Memref sig .tc .vmem S256x1024 .bf16 := Memref.whole cc0_scratch1

/-- The number of used blocks, the expert of this block and of the one before it, as the step reads them. -/
noncomputable abbrev cnt (T1 : S1.Idx → Elt Ideal .i32) : BitVec 32 :=
  View.readAt (Elt Ideal) cntT.view (Rect.unit (s := S1) ![0] S1.size inb_S1_S1_0).toLoadRect T1 (Shape.Idx.first (numel1_S1.symm ▸ Nat.one_pos))
noncomputable abbrev expHere (i : grid0.Coords) (T0 : S580.Idx → Elt Ideal .i32) : BitVec 32 :=
  View.readAt (Elt Ideal) expT.view (Rect.unit (s := S580) (k0_off2 i) S1.size (k0_off2_inb i)).toLoadRect T0 (Shape.Idx.first (numel1_S1.symm ▸ Nat.one_pos))
noncomputable abbrev expBefore (i : grid0.Coords) (T0 : S580.Idx → Elt Ideal .i32) : BitVec 32 :=
  View.readAt (Elt Ideal) expT.view (Rect.unit (s := S580) (k0_off3 i) S1.size (k0_off3_inb i)).toLoadRect T0 (Shape.Idx.first (numel1_S1.symm ▸ Nat.one_pos))
/-- Whether the matrices are to be copied. -/
noncomputable abbrev isNew (i : grid0.Coords) (T0 : S580.Idx → Elt Ideal .i32) : BitVec 1 :=
  Scalar.cmpi .ne (Scalar.extui (Scalar.ori (Scalar.cmpi .eq (BitVec.ofNat 32 (i 0).val) 0#32) (Scalar.cmpi .ne (expHere i T0) (expBefore i T0)))) 0#32

set_option backward.proofsInPublic true in
set_option maxHeartbeats 8000000 in
/-- A used block whose expert is new. -/
noncomputable def stepNew (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32)
    (used : k0_cond1 i (cnt T1) = 1#1) (new : isNew i T0 = 1#1) (rest : ¬k0_cond3 i (cnt T1) = 1#1) :
    Σ' (out : List (View.Piece (Elt Ideal) S128x1024 .f32)) (s0 : Buf (Elt Ideal) ((c : Thread nD τ).loc cc0_scratch0)), { s1 : Buf (Elt Ideal) ((c : Thread nD τ).loc cc0_scratch1) //
      ∀ (a0 : Buf (Elt Ideal) ((c : Thread nD τ).loc cc0_scratch0)) (a1 : Buf (Elt Ideal) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Ideal) f out)
              ∗ (w13S.view.loc (c : Thread nD τ) ↦{fullShare} s0)
              ∗ (w2S.view.loc (c : Thread nD τ) ↦{fullShare} s1)) -∗ K ⟨⟩))
          ⊢ wp frame (wpE (defs₀ (F := Ideal)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, _, _, fun a0 a1 K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = Scalar.cmpi = _; exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- A used block whose expert is the one before it. -/
noncomputable def stepSame (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32) (a0 : Buf (Elt Ideal) ((c : Thread nD τ).loc cc0_scratch0)) (a1 : Buf (Elt Ideal) ((c : Thread nD τ).loc cc0_scratch1))
    (used : k0_cond1 i (cnt T1) = 1#1) (new : ¬isNew i T0 = 1#1) (rest : ¬k0_cond3 i (cnt T1) = 1#1) :
    { out : List (View.Piece (Elt Ideal) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Ideal) f out)
              ∗ (w13S.view.loc (c : Thread nD τ) ↦{fullShare} a0)
              ∗ (w2S.view.loc (c : Thread nD τ) ↦{fullShare} a1)) -∗ K ⟨⟩))
          ⊢ wp frame (wpE (defs₀ (F := Ideal)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = ¬(Scalar.cmpi = _); exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- An unused block. -/
noncomputable def stepZero (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32) (a0 : Buf (Elt Ideal) ((c : Thread nD τ).loc cc0_scratch0)) (a1 : Buf (Elt Ideal) ((c : Thread nD τ).loc cc0_scratch1))
    (used : ¬k0_cond1 i (cnt T1) = 1#1) (rest : k0_cond3 i (cnt T1) = 1#1) :
    { out : List (View.Piece (Elt Ideal) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Ideal) f out)
              ∗ (w13S.view.loc (c : Thread nD τ) ↦{fullShare} a0)
              ∗ (w2S.view.loc (c : Thread nD τ) ↦{fullShare} a1)) -∗ K ⟨⟩))
          ⊢ wp frame (wpE (defs₀ (F := Ideal)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = ¬(k0_cond1 _ _ = _); exact used) | (guard_target = k0_cond3 _ _ = _; exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

/-! ## What the steps leave -/

/-- The first scratch buffer once an expert's two input matrices are copied: `w1` on its left half, `w3` on its right. -/
noncomputable def w13Of (c : Dev nD) (x1 x2 : S1x1x1024x256.Idx → Elt Ideal .f32) : Buf (Elt Ideal) ((c : Thread nD τ).loc cc0_scratch0) :=
  (View.whole cc0_scratch0).writes (Elt Ideal) (View.whole cc0_scratch0).junk
    [⟨Rect.unit ![0, 256] S1024x256.size inb_S1024x512_S1024x256_0_256, k0_pay2 x2⟩, ⟨Rect.unit ![0, 0] S1024x256.size inb_S1024x512_S1024x256_0_0, k0_pay1 x1⟩]

/-- The second scratch buffer once the expert's output matrix is copied. -/
noncomputable def w2Of (c : Dev nD) (x3 : S1x1x256x1024.Idx → Elt Ideal .f32) : Buf (Elt Ideal) ((c : Thread nD τ).loc cc0_scratch1) :=
  (View.whole cc0_scratch1).writes (Elt Ideal) (View.whole cc0_scratch1).junk [⟨Rect.unit ![0, 0] S256x1024.size inb_S256x1024_S256x1024_0_0, k0_pay3 x3⟩]

/-- The block of results computed from rows and scratch contents. -/
noncomputable def outOf (c : Dev nD) (x0 : S128x1024.Idx → Elt Ideal .f32) (a0 : Buf (Elt Ideal) ((c : Thread nD τ).loc cc0_scratch0))
    (a1 : Buf (Elt Ideal) ((c : Thread nD τ).loc cc0_scratch1)) : S128x1024.Idx → Elt Ideal .f32 :=
  k0_pay4 x0 (View.readAt (Elt Ideal) w13S.view (Rect.unit (s := S1024x512) ![0, 0] S1024x512.size inb_S1024x512_S1024x512_0_0).toLoadRect a0)
    (View.readAt (Elt Ideal) w2S.view (Rect.unit (s := S256x1024) ![0, 0] S256x1024.size inb_S256x1024_S256x1024_0_0).toLoadRect a1)

section
variable (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32)
    (a0 : Buf (Elt Ideal) ((c : Thread nD τ).loc cc0_scratch0)) (a1 : Buf (Elt Ideal) ((c : Thread nD τ).loc cc0_scratch1))

theorem stepNew_w13 (h1 h2 h3) : (stepNew c i arg3 harg3 arg4 harg4 arg5 harg5 arg6 harg6 arg7 harg7 T0 T1 x0 x1 x2 x3 h1 h2 h3).2.1 = w13Of c x1 x2 := by
  unfold stepNew; dsimp only; unfold stepNew.sl.HS_2 w13Of
  rw [View.readAt_rep_full, View.readAt_rep_full]

theorem stepNew_w2 (h1 h2 h3) : (stepNew c i arg3 harg3 arg4 harg4 arg5 harg5 arg6 harg6 arg7 harg7 T0 T1 x0 x1 x2 x3 h1 h2 h3).2.2.1 = w2Of c x3 := by
  unfold stepNew; dsimp only; unfold stepNew.sl.HT_1 w2Of
  rw [View.readAt_rep_full]

theorem stepNew_out (h1 h2 h3) (f) : arg7.view.read (Elt Ideal) (arg7.view.writes (Elt Ideal) f (stepNew c i arg3 harg3 arg4 harg4 arg5 harg5 arg6 harg6 arg7 harg7 T0 T1 x0 x1 x2 x3 h1 h2 h3).1)
    = outOf c x0 (w13Of c x1 x2) (w2Of c x3) := by
  unfold stepNew; dsimp only; unfold stepNew.sl.HY_1
  rw [View.read_writes_full, View.readAt_rep_full]
  unfold outOf stepNew.sl.v20 stepNew.sl.v28 stepNew.sl.HS_2 stepNew.sl.HT_1 View.readCov w13Of w2Of
  rw [View.readAt_rep_full, View.readAt_rep_full, View.readAt_rep_full]
  try rfl

theorem stepSame_out (h1 h2 h3) (f) : arg7.view.read (Elt Ideal) (arg7.view.writes (Elt Ideal) f (stepSame c i arg3 harg3 arg4 harg4 arg5 harg5 arg6 harg6 arg7 harg7 T0 T1 x0 x1 x2 x3 a0 a1 h1 h2 h3).1)
    = outOf c x0 a0 a1 := by
  unfold stepSame; dsimp only; unfold stepSame.sl.HY_1
  rw [View.read_writes_full, View.readAt_rep_full]
  try rfl

theorem stepZero_out (h1 h2) (f) : arg7.view.read (Elt Ideal) (arg7.view.writes (Elt Ideal) f (stepZero c i arg3 harg3 arg4 harg4 arg5 harg5 arg6 harg6 arg7 harg7 T0 T1 x0 x1 x2 x3 a0 a1 h1 h2).1)
    = k0_pay5 (F := Ideal) := by
  unfold stepZero; dsimp only; unfold stepZero.sl.HY_1
  rw [View.read_writes_full]
end

/-! ## When a step takes which branch -/

theorem coord_val (t : Fin grid0.N) : (grid0.coords t 0).val = t.val := by revert t; decide +kernel

theorem used_iff (i : grid0.Coords) (v : BitVec 32) : k0_cond1 i v = 1#1 ↔ ((BitVec.ofNat 32 (i 0).val).slt v) = true := by
  unfold k0_cond1
  simp only [Scalar.cmpi, Scalar.extui, IntOp.cmpi]
  cases (BitVec.ofNat 32 (i 0).val).slt v <;> decide

theorem rest_iff (i : grid0.Coords) (v : BitVec 32) : k0_cond3 i v = 1#1 ↔ ¬((BitVec.ofNat 32 (i 0).val).slt v) = true := by
  unfold k0_cond3
  simp only [Scalar.cmpi, Scalar.extui, IntOp.cmpi]
  rw [BitVec.sle_eq_not_slt]
  cases (BitVec.ofNat 32 (i 0).val).slt v <;> decide

theorem slt_iff (n : ℕ) (h : n < 580) (v : BitVec 32) : ((BitVec.ofNat 32 n).slt v) = true ↔ (n : ℤ) < v.toInt := by
  rw [BitVec.slt_iff_toInt_lt, show (BitVec.ofNat 32 n).toInt = (n : ℤ) from by rw [BitVec.toInt_ofNat', Int.bmod_def]; split <;> omega]

/-- A block is used if it comes before the count. -/
theorem used_iff_lt (t : Fin grid0.N) (v : BitVec 32) : k0_cond1 (grid0.coords t) v = 1#1 ↔ (t.val : ℤ) < v.toInt := by
  rw [used_iff, coord_val, slt_iff _ (lt_of_lt_of_eq t.isLt N_0)]

theorem rest_of_used (i : grid0.Coords) (v : BitVec 32) (h : k0_cond1 i v = 1#1) : ¬k0_cond3 i v = 1#1 := by
  rw [rest_iff, not_not, ← used_iff]; exact h

theorem rest_of_not_used (i : grid0.Coords) (v : BitVec 32) (h : ¬k0_cond1 i v = 1#1) : k0_cond3 i v = 1#1 := by
  rw [rest_iff, ← used_iff]; exact h

/-- A step that copies nothing is not the first, and its expert is the one before. -/
theorem old_of_not_new (i : grid0.Coords) (T0 : S580.Idx → Elt Ideal .i32) (h : ¬isNew i T0 = 1#1) : (i 0).val ≠ 0 ∧ expHere i T0 = expBefore i T0 := by
  unfold isNew at h
  generalize expHere i T0 = a at *
  generalize expBefore i T0 = b at *
  simp only [Scalar.cmpi, Scalar.extui, Scalar.ori, IntOp.cmpi] at h
  refine ⟨fun e => h ?_, by_contra fun e => h ?_⟩
  · rw [e]; cases (a != b) <;> decide
  · rw [show (a != b) = true from by simpa using e]
    cases (BitVec.ofNat 32 (i 0).val == 0#32) <;> decide

theorem off3_val (t : Fin grid0.N) : k0_off3 (grid0.coords t) 0 = t.val - 1 := by revert t; decide +kernel

/-- The expert a step reads is its entry of the table; -/
theorem expHere_eq (t : Fin grid0.N) (T0 : S580.Idx → Elt Ideal .i32) :
    expHere (grid0.coords t) T0 = T0 (ix1 (⟨t.val, lt_of_lt_of_eq t.isLt N_0⟩ : Fin 580)) := by
  refine congrArg T0 (funext fun a => ?_)
  match a with
  | ⟨0, _⟩ =>
    refine Fin.ext ?_
    have h := congrFun (k0_off2_eq (grid0.coords t)) 0
    rw [Matrix.cons_val_zero, coord_val] at h
    exact h

/-- the one before it is the entry before. -/
theorem expBefore_eq (t : Fin grid0.N) (T0 : S580.Idx → Elt Ideal .i32) :
    expBefore (grid0.coords t) T0 = T0 (ix1 (⟨t.val - 1, lt_of_le_of_lt (Nat.sub_le _ _) (lt_of_lt_of_eq t.isLt N_0)⟩ : Fin 580)) := by
  refine congrArg T0 (funext fun a => ?_)
  match a with
  | ⟨0, _⟩ => exact Fin.ext (off3_val t)

end Cert.ExpertsIdeal.Step
-- ==== Proof.ExpertsFrame.lean ====
module

public import proofs.«01_k».proof.Proof.ExpertsStep
public import Idealize.ShloMosaic.Lib.Pipeline.Quiescent
public import Idealize.ShloMosaic.Lib.Claim
public import Idealize.ShloMosaic.Lib.Affine
public import Idealize.ShloMosaic.PureOps.Ideal
public import Idealize.ShloMosaic.Adequacy
public import Idealize.ShloMosaic.Init

/-! # The experts' call: it runs, and what it leaves

For any table of experts below 64 and any positive count of used blocks. After step `t` the scratch buffers hold the
matrices of block `t`'s expert as long as the blocks are used: a step that copies nothing has the expert of the step before
it, so what it finds is its own expert's matrices. -/

@[expose] public section

set_option maxRecDepth 16384
set_option Elab.async false

noncomputable section

namespace Cert.ExpertsIdeal.Step

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The staging cells' algebra. -/
abbrev EC : Emb (UR sig nD τ) 𝕄 := emb₁

variable (m : (ℓ : Loc nD τ sig) → Buf (Elt Ideal) ℓ) (ρ : Dev nD → PrngReg)

/-- The table of experts and the count, as the call finds them. -/
abbrev tabE : S580.Idx → Elt Ideal .i32 := m (((0 : Dev nD) : Thread nD τ).loc main_arg1)
abbrev tabN : S1.Idx → Elt Ideal .i32 := m (((0 : Dev nD) : Thread nD τ).loc main_arg2)

set_option backward.proofsInPublic true in
/-- Both tables. -/
def tabs : pre0.Contents (Elt Ideal) := fun | ⟨0, _⟩ => tabE m | ⟨1, _⟩ => tabN m | ⟨_ + 2, h⟩ => absurd h (by simp)

/-- Every expert is one of the 64, and at least one block is used. -/
def Good : Prop := (∀ x, (tabE m x : BitVec 32).toNat < 64) ∧ ∀ x, 1 ≤ (tabN m x : BitVec 32).toInt

variable {m}

theorem row_index (n : ℕ) (hn : n < 580) (v : BitVec 32) (hv : 1 ≤ v.toInt) :
    (Scalar.minsi (BitVec.ofNat 32 n) (Scalar.subi v 1#32)).toNat ≤ n ∧ ((n : ℤ) < v.toInt → (Scalar.minsi (BitVec.ofNat 32 n) (Scalar.subi v 1#32)).toNat = n) := by
  have e : (v - 1#32).toInt = v.toInt - 1 := by
    have h1 := BitVec.toInt_lt (x := v)
    rw [BitVec.toInt_sub, show (1#32 : BitVec 32).toInt = 1 from rfl, Int.bmod_def]
    split <;> omega
  have ei : (BitVec.ofNat 32 n).toInt = (n : ℤ) := by rw [BitVec.toInt_ofNat', Int.bmod_def]; split <;> omega
  have en : (BitVec.ofNat 32 n).toNat = n := by rw [BitVec.toNat_ofNat]; omega
  have h2 := BitVec.toInt_eq_toNat_cond (v - 1#32)
  have h3 := (v - 1#32).isLt
  show (if ((BitVec.ofNat 32 n).slt (v - 1#32)) = true then BitVec.ofNat 32 n else v - 1#32).toNat ≤ n
    ∧ ((n : ℤ) < v.toInt → (if ((BitVec.ofNat 32 n).slt (v - 1#32)) = true then BitVec.ofNat 32 n else v - 1#32).toNat = n)
  by_cases hs : ((BitVec.ofNat 32 n).slt (v - 1#32)) = true
  · rw [if_pos hs]; omega
  · rw [if_neg hs]
    rw [BitVec.slt_iff_toInt_lt] at hs
    split at h2 <;> omega

theorem rows_block (hg : Good m) (i : grid0.Coords) (a) :
    (cc0_transform_0 inb_S1_S1_0 numel1_S1 (tabs m) i a + 1) * S128x1024.size a ≤ S74240x1024.size a := by
  have hi : (i 0).val < 580 := (i 0).isLt
  have hv := (row_index _ hi ((tabs m).at 1 (Rect.unit (s := S1) ![0] S1.size inb_S1_S1_0) numel1_S1 : BitVec 32) (hg.2 _)).1
  match a with
  | ⟨0, _⟩ =>
    show ((Scalar.minsi (BitVec.ofNat 32 (i 0).val) (Scalar.subi ((tabs m).at 1 (Rect.unit (s := S1) ![0] S1.size inb_S1_S1_0) numel1_S1 : BitVec 32) 1#32)).toNat + 1) * 128 ≤ 74240
    omega
  | ⟨1, _⟩ => exact Nat.le_refl _

theorem w1_block (hg : Good m) (i : grid0.Coords) (a) :
    (cc0_transform_1 k0_off1_inb numel1_S1 (tabs m) i a + 1) * S1x1x1024x256.size a ≤ S2x64x1024x256.size a := by
  have hv : ((tabs m).at 0 (Rect.unit (s := S580) (k0_off1 i) S1.size (k0_off1_inb i)) numel1_S1 : BitVec 32).toNat < 64 := hg.1 _
  match a with
  | ⟨0, _⟩ => show (0 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

theorem w2_block (hg : Good m) (i : grid0.Coords) (a) :
    (cc0_transform_3 k0_off1_inb numel1_S1 (tabs m) i a + 1) * S1x1x256x1024.size a ≤ S2x64x256x1024.size a := by
  have hv : ((tabs m).at 0 (Rect.unit (s := S580) (k0_off1 i) S1.size (k0_off1_inb i)) numel1_S1 : BitVec 32).toNat < 64 := hg.1 _
  match a with
  | ⟨0, _⟩ => show (0 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

/-- Every window's block lies in its array. -/
theorem blocks_ok (hg : Good m) : ok0 (F := Ideal) (tabs m) :=
  ⟨fun i => ⟨rows_block hg i, .inl rfl⟩, fun i => ⟨w1_block hg i, .inl rfl⟩, fun i => ⟨w1_block hg i, .inl rfl⟩, fun i => ⟨w2_block hg i, .inl rfl⟩⟩

/-- The tables the pipeline runs at, and the pipeline at them. -/
def admT (hg : Good m) : (pcfg0 (F := Ideal)).Adm := ⟨tabs m, blocks_ok hg⟩
abbrev cfgT (hg : Good m) : Pipeline.Cfg sig Λ₀ := cfg0 (F := Ideal) (admT hg)
abbrev pinned (hg : Good m) : Fin 1 → Pipeline.Cfg sig Λ₀ := Pipeline.pin (pcfgs (F := Ideal)) fun _ => admT hg

variable (hg : Good m)

/-- A step's coordinates and the staging buffers it is handed. -/
abbrev pt (t : Fin (cfgT hg).N) : (cfgT hg).grid.Coords := (cfgT hg).grid.coords t
abbrev g0 (t : Fin (cfgT hg).N) : Memref sig .tc .vmem S128x1024 .f32 := spec0_0.stage ((cfgT hg).slots t (0 : Fin 5))
abbrev g1 (t : Fin (cfgT hg).N) : Memref sig .tc .vmem S1x1x1024x256 .f32 := spec0_1.stage ((cfgT hg).slots t (1 : Fin 5))
abbrev g2 (t : Fin (cfgT hg).N) : Memref sig .tc .vmem S1x1x1024x256 .f32 := spec0_2.stage ((cfgT hg).slots t (2 : Fin 5))
abbrev g3 (t : Fin (cfgT hg).N) : Memref sig .tc .vmem S1x1x256x1024 .f32 := spec0_3.stage ((cfgT hg).slots t (3 : Fin 5))
abbrev g4 (t : Fin (cfgT hg).N) : Memref sig .tc .vmem S128x1024 .f32 := spec0_4.stage ((cfgT hg).slots t (4 : Fin 5))
abbrev wg0 (t : Fin (cfgT hg).N) : (g0 hg t).IsWhole := hstage0_0 (((cfgT hg).slots t (0 : Fin 5)).cast nbuf0_0)
abbrev wg1 (t : Fin (cfgT hg).N) : (g1 hg t).IsWhole := hstage0_1 (((cfgT hg).slots t (1 : Fin 5)).cast nbuf0_1)
abbrev wg2 (t : Fin (cfgT hg).N) : (g2 hg t).IsWhole := hstage0_2 (((cfgT hg).slots t (2 : Fin 5)).cast nbuf0_2)
abbrev wg3 (t : Fin (cfgT hg).N) : (g3 hg t).IsWhole := hstage0_3 (((cfgT hg).slots t (3 : Fin 5)).cast nbuf0_3)
abbrev wg4 (t : Fin (cfgT hg).N) : (g4 hg t).IsWhole := hstage0_4 (((cfgT hg).slots t (4 : Fin 5)).cast nbuf0_4)

/-- Window `w`'s block at step `t`. -/
def blkOf (c : Dev nD) (w : Fin (cfgT hg).W) (t : Fin (cfgT hg).N) : (((cfgT hg).win w).xblock (pt hg t)).Idx → Elt Ideal ((cfgT hg).win w).elt :=
  (((cfgT hg).win w).blk t).view.read (Elt Ideal) (m (((cfgT hg).win w).arr.view.loc (c : Thread nD τ)))

/-- Whether block `t` is used. -/
abbrev Used (m : (ℓ : Loc nD τ sig) → Buf (Elt Ideal) ℓ) (t : Fin grid0.N) : Prop := k0_cond1 (grid0.coords t) (cnt (tabN m)) = 1#1

/-- What the scratch buffers hold after a used step, and what the step leaves in the result's block. -/
def s13 (c : Dev nD) (t : Fin (cfgT hg).N) : Buf (Elt Ideal) ((c : Thread nD τ).loc cc0_scratch0) := w13Of c (blkOf hg c (1 : Fin 5) t) (blkOf hg c (2 : Fin 5) t)
def s2 (c : Dev nD) (t : Fin (cfgT hg).N) : Buf (Elt Ideal) ((c : Thread nD τ).loc cc0_scratch1) := w2Of c (blkOf hg c (3 : Fin 5) t)
open Classical in
def resOf (c : Dev nD) (t : Fin (cfgT hg).N) : S128x1024.Idx → Elt Ideal .f32 :=
  if Used m t then outOf c (blkOf hg c (0 : Fin 5) t) (s13 hg c t) (s2 hg c t) else k0_pay5 (F := Ideal)

/-- Before step `t`: the scratch buffers hold the matrices of the block before it, if that one is used; the tables are as found. -/
def Inv (c : Dev nD) (t : Fin ((cfgT hg).N + 1)) : sProp 𝕄 :=
  iprop(∃ a0 a1, ⌜∀ u : Fin (cfgT hg).N, u.val + 1 = t.val → Used m u → a0 = s13 hg c u ∧ a1 = s2 hg c u⌝
    ∗ (w13S.view.loc (c : Thread nD τ) ↦{fullShare} a0) ∗ (w2S.view.loc (c : Thread nD τ) ↦{fullShare} a1)
    ∗ (expT.view.loc (c : Thread nD τ) ↦{fullShare.right} tabE m) ∗ (cntT.view.loc (c : Thread nD τ) ↦{fullShare.right} tabN m))

/-- The pipeline's proof data. -/
def dat (_ : Fin 1) (c : Dev nD) : Dat τ (Elt Ideal) Unit ℕ (UR sig nD τ) ℕ (cfgT hg) c where
  A w := m (((cfgT hg).win w).arr.view.loc (c : Thread nD τ))
  after w t := match w with
    | ⟨0, _⟩ => blkOf hg c (0 : Fin 5) t
    | ⟨1, _⟩ => blkOf hg c (1 : Fin 5) t
    | ⟨2, _⟩ => blkOf hg c (2 : Fin 5) t
    | ⟨3, _⟩ => blkOf hg c (3 : Fin 5) t
    | ⟨4, _⟩ => resOf hg c t
  Φ t := Inv hg c t
  q _ := fullShare
  owed _ := 0

theorem after_0 (c : Dev nD) (t : Fin (cfgT hg).N) : (dat hg 0 c).after (0 : Fin 5) t = blkOf hg c (0 : Fin 5) t := rfl
theorem after_1 (c : Dev nD) (t : Fin (cfgT hg).N) : (dat hg 0 c).after (1 : Fin 5) t = blkOf hg c (1 : Fin 5) t := rfl
theorem after_2 (c : Dev nD) (t : Fin (cfgT hg).N) : (dat hg 0 c).after (2 : Fin 5) t = blkOf hg c (2 : Fin 5) t := rfl
theorem after_3 (c : Dev nD) (t : Fin (cfgT hg).N) : (dat hg 0 c).after (3 : Fin 5) t = blkOf hg c (3 : Fin 5) t := rfl
theorem after_4 (c : Dev nD) (t : Fin (cfgT hg).N) : (dat hg 0 c).after (4 : Fin 5) t = resOf hg c t := rfl

theorem before_0 (c : Dev nD) (t : Fin (cfgT hg).N) (d) : (dat hg 0 c).before (0 : Fin 5) t d = blkOf hg c (0 : Fin 5) t :=
  ((dat hg 0 c).before_in_eq_fetched (0 : Fin 5) rfl (fun _ => rfl) (fun _ _ _ => rfl) (fun t => by rw [after_0]; unfold Dat.blockOf blkOf; rfl) t d).trans
    (by unfold Dat.fetched Dat.blockOf blkOf; rfl)
theorem before_1 (c : Dev nD) (t : Fin (cfgT hg).N) (d) : (dat hg 0 c).before (1 : Fin 5) t d = blkOf hg c (1 : Fin 5) t :=
  ((dat hg 0 c).before_in_eq_fetched (1 : Fin 5) rfl (fun _ => rfl) (fun _ _ _ => rfl) (fun t => by rw [after_1]; unfold Dat.blockOf blkOf; rfl) t d).trans
    (by unfold Dat.fetched Dat.blockOf blkOf; rfl)
theorem before_2 (c : Dev nD) (t : Fin (cfgT hg).N) (d) : (dat hg 0 c).before (2 : Fin 5) t d = blkOf hg c (2 : Fin 5) t :=
  ((dat hg 0 c).before_in_eq_fetched (2 : Fin 5) rfl (fun _ => rfl) (fun _ _ _ => rfl) (fun t => by rw [after_2]; unfold Dat.blockOf blkOf; rfl) t d).trans
    (by unfold Dat.fetched Dat.blockOf blkOf; rfl)
theorem before_3 (c : Dev nD) (t : Fin (cfgT hg).N) (d) : (dat hg 0 c).before (3 : Fin 5) t d = blkOf hg c (3 : Fin 5) t :=
  ((dat hg 0 c).before_in_eq_fetched (3 : Fin 5) rfl (fun _ => rfl) (fun _ _ _ => rfl) (fun t => by rw [after_3]; unfold Dat.blockOf blkOf; rfl) t d).trans
    (by unfold Dat.fetched Dat.blockOf blkOf; rfl)

/-- Two steps whose experts agree are handed the same matrices. -/
theorem same_index (t u : Fin (cfgT hg).N) (h : expHere (grid0.coords t) (tabE m) = expHere (grid0.coords u) (tabE m)) :
    ((cfgT hg).win (1 : Fin 5)).index t = ((cfgT hg).win (1 : Fin 5)).index u ∧ ((cfgT hg).win (2 : Fin 5)).index t = ((cfgT hg).win (2 : Fin 5)).index u
      ∧ ((cfgT hg).win (3 : Fin 5)).index t = ((cfgT hg).win (3 : Fin 5)).index u := by
  have e : ∀ t : Fin (cfgT hg).N, (![0, (expHere (grid0.coords t) (tabE m)).toNat, 0, 0] : Fin 4 → ℕ) = ((cfgT hg).win (1 : Fin 5)).index t := fun _ => rfl
  have h' : (![0, (expHere (grid0.coords t) (tabE m)).toNat, 0, 0] : Fin 4 → ℕ) = ![0, (expHere (grid0.coords u) (tabE m)).toNat, 0, 0] := by rw [h]
  exact ⟨h', h', h'⟩

theorem s13_same (c : Dev nD) (t u : Fin (cfgT hg).N) (h : expHere (grid0.coords t) (tabE m) = expHere (grid0.coords u) (tabE m)) : s13 hg c t = s13 hg c u := by
  have h1 : blkOf hg c (1 : Fin 5) t = blkOf hg c (1 : Fin 5) u := by
    rw [← before_1 hg c t (fun _ => Classical.arbitrary _), ← before_1 hg c u (fun _ => Classical.arbitrary _),
      (dat hg 0 c).before_in_eq_fetched (1 : Fin 5) rfl (fun _ => rfl) (fun _ _ _ => rfl) (fun t => by rw [after_1]; unfold Dat.blockOf blkOf; rfl),
      (dat hg 0 c).before_in_eq_fetched (1 : Fin 5) rfl (fun _ => rfl) (fun _ _ _ => rfl) (fun t => by rw [after_1]; unfold Dat.blockOf blkOf; rfl)]
    exact (dat hg 0 c).fetched_congr (1 : Fin 5) (same_index hg t u h).1 rfl _
  have h2 : blkOf hg c (2 : Fin 5) t = blkOf hg c (2 : Fin 5) u := by
    rw [← before_2 hg c t (fun _ => Classical.arbitrary _), ← before_2 hg c u (fun _ => Classical.arbitrary _),
      (dat hg 0 c).before_in_eq_fetched (2 : Fin 5) rfl (fun _ => rfl) (fun _ _ _ => rfl) (fun t => by rw [after_2]; unfold Dat.blockOf blkOf; rfl),
      (dat hg 0 c).before_in_eq_fetched (2 : Fin 5) rfl (fun _ => rfl) (fun _ _ _ => rfl) (fun t => by rw [after_2]; unfold Dat.blockOf blkOf; rfl)]
    exact (dat hg 0 c).fetched_congr (2 : Fin 5) (same_index hg t u h).2.1 rfl _
  unfold s13; rw [h1, h2]

theorem s2_same (c : Dev nD) (t u : Fin (cfgT hg).N) (h : expHere (grid0.coords t) (tabE m) = expHere (grid0.coords u) (tabE m)) : s2 hg c t = s2 hg c u := by
  have h3 : blkOf hg c (3 : Fin 5) t = blkOf hg c (3 : Fin 5) u := by
    rw [← before_3 hg c t (fun _ => Classical.arbitrary _), ← before_3 hg c u (fun _ => Classical.arbitrary _),
      (dat hg 0 c).before_in_eq_fetched (3 : Fin 5) rfl (fun _ => rfl) (fun _ _ _ => rfl) (fun t => by rw [after_3]; unfold Dat.blockOf blkOf; rfl),
      (dat hg 0 c).before_in_eq_fetched (3 : Fin 5) rfl (fun _ => rfl) (fun _ _ _ => rfl) (fun t => by rw [after_3]; unfold Dat.blockOf blkOf; rfl)]
    exact (dat hg 0 c).fetched_congr (3 : Fin 5) (same_index hg t u h).2.2 rfl _
  unfold s2; rw [h3]

/-- A used step that copies nothing finds its own expert's matrices. -/
theorem found (c : Dev nD) (t : Fin (cfgT hg).N) (hu : Used m t) (hn : ¬isNew (grid0.coords t) (tabE m) = 1#1)
    {a0 : Buf (Elt Ideal) ((c : Thread nD τ).loc cc0_scratch0)} {a1 : Buf (Elt Ideal) ((c : Thread nD τ).loc cc0_scratch1)}
    (ha : ∀ u : Fin (cfgT hg).N, u.val + 1 = t.castSucc.val → Used m u → a0 = s13 hg c u ∧ a1 = s2 hg c u) : a0 = s13 hg c t ∧ a1 = s2 hg c t := by
  obtain ⟨h0, he⟩ := old_of_not_new _ _ hn
  rw [coord_val] at h0
  have hlt : t.val - 1 < (cfgT hg).N := lt_of_le_of_lt (Nat.sub_le _ _) t.isLt
  have hu' : Used m ⟨t.val - 1, hlt⟩ := by
    have := (used_iff_lt t _).1 hu
    refine (used_iff_lt (⟨t.val - 1, hlt⟩ : Fin grid0.N) _).2 ?_
    show ((t.val - 1 : ℕ) : ℤ) < _
    omega
  have hs : expHere (grid0.coords (⟨t.val - 1, hlt⟩ : Fin grid0.N)) (tabE m) = expHere (grid0.coords t) (tabE m) := by
    rw [he, expHere_eq, expBefore_eq]
  obtain ⟨e0, e1⟩ := ha ⟨t.val - 1, hlt⟩ (by show t.val - 1 + 1 = t.val; omega) hu'
  exact ⟨e0.trans (s13_same hg c _ _ hs), e1.trans (s2_same hg c _ _ hs)⟩

/-- No step leaves the result's block untouched. -/
theorem never_idle (t : Fin (cfgT hg).N) : (cfgT hg).idle (4 : Fin 5) ((cfgT hg).grid.coords t) = false := by
  have e : (cfgT hg).idle (4 : Fin 5) ((cfgT hg).grid.coords t)
      = (!(k0_cond1 (grid0.coords t) ((tabs m).atD 1 ![0]) == 1#1) && !(k0_cond3 (grid0.coords t) ((tabs m).atD 1 ![0]) == 1#1)) := rfl
  rw [e]
  by_cases h : k0_cond1 (grid0.coords t) ((tabs m).atD 1 ![0]) = 1#1
  · rw [h]; rfl
  · rw [rest_of_not_used _ _ h]; simp

/-- The step as the pipeline calls it. -/
abbrev bodyOf (t : Fin (cfgT hg).N) : Prog (TpuEff nD τ sig (Elt Ideal) Λ₀ .tc) PUnit :=
  cc0_moe_experts (pt hg t) expT (Memref.isWhole_whole _) cntT (Memref.isWhole_whole _) (g0 hg t) (wg0 hg t) (g1 hg t) (wg1 hg t) (g2 hg t) (wg2 hg t) (g3 hg t) (wg3 hg t) (g4 hg t) (wg4 hg t) w13S (Memref.isWhole_whole _) w2S (Memref.isWhole_whole _)

set_option maxHeartbeats 4000000 in
/-- Every step keeps the invariant and leaves its block of the result. -/
theorem body_ok (c : Dev nD) (t : Fin (cfgT hg).N) :
    iprop((dat hg 0 c).Φ t.castSucc ∗ (dat hg 0 c).owesAt () t.castSucc
        ∗ (∃ d, owns (c : Thread nD τ) (g0 hg t) fullShare ((dat hg 0 c).before (0 : Fin 5) t d))
        ∗ (∃ d, owns (c : Thread nD τ) (g1 hg t) fullShare ((dat hg 0 c).before (1 : Fin 5) t d))
        ∗ (∃ d, owns (c : Thread nD τ) (g2 hg t) fullShare ((dat hg 0 c).before (2 : Fin 5) t d))
        ∗ (∃ d, owns (c : Thread nD τ) (g3 hg t) fullShare ((dat hg 0 c).before (3 : Fin 5) t d))
        ∗ (∃ d, owns (c : Thread nD τ) (g4 hg t) fullShare ((dat hg 0 c).before (4 : Fin 5) t d)))
      ⊢ wp frame (wpE (defs₀ (F := Ideal)) Variants.none c none) Set.univ (bodyOf hg t) fun _ =>
          iprop((dat hg 0 c).Φ t.succ ∗ (dat hg 0 c).owesAt () t.succ
            ∗ bigSep Finset.univ fun w : Fin (cfgT hg).W =>
                match (cfgT hg).idle w ((cfgT hg).grid.coords t) with
                | true =>
                  match ((cfgT hg).win w).flush t with
                  | false => iprop(∃ d, owns (c : Thread nD τ) (((cfgT hg).win w).stage ((cfgT hg).slots t w)) fullShare ((dat hg 0 c).before w t d))
                  | true => owns (c : Thread nD τ) (((cfgT hg).win w).stage ((cfgT hg).slots t w)) fullShare ((dat hg 0 c).after w t)
                | false => owns (c : Thread nD τ) (((cfgT hg).win w).stage ((cfgT hg).slots t w)) fullShare ((dat hg 0 c).after w t)) := by
  obtain rfl : c = 0 := Subsingleton.elim _ _
  rw [bigSep_W0]
  rewrite [never_idle hg t]
  simp only [before_0, before_1, before_2, before_3, after_0, after_1, after_2, after_3, after_4]
  rewrite [show (dat hg 0 0).Φ t.succ = Inv hg 0 t.succ from rfl, show (dat hg 0 0).Φ t.castSucc = Inv hg 0 t.castSucc from rfl,
    show (dat hg 0 0).owesAt () t.succ = (dat hg 0 0).owesAt () t.castSucc from rfl]
  unfold Inv
  iintro ⟨⟨%a0, %a1, %ha, HS, HT, HE, HN⟩, Ho, ⟨%d0, H0⟩, ⟨%d1, H1⟩, ⟨%d2, H2⟩, ⟨%d3, H3⟩, ⟨%d4, H4⟩⟩
  by_cases hu : Used m t
  · by_cases hn : isNew (grid0.coords t) (tabE m) = 1#1
    · iapply ((stepNew 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) hu hn (rest_of_used _ _ hu)).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact ⟨stepNew_w13 .., stepNew_w2 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu]; exact stepNew_out ..
    · iapply ((stepSame 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu hn (rest_of_used _ _ hu)).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact found hg 0 u hu hn ha
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu, ← (found hg 0 t hu hn ha).1, ← (found hg 0 t hu hn ha).2]; exact stepSame_out ..
  · iapply ((stepZero 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu (rest_of_not_used _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HE]; · iexact HE
    isplitl [HN]; · iexact HN
    isplitl [H4]; · iexists _; iexact H4
    isplitl [HS]; · iexact HS
    isplitl [HT]; · iexact HT
    iintro ⟨H0, H1, H2, H3, HE, HN, ⟨%e4, H4⟩, HS, HT⟩
    isplitl [HS HT HE HN]
    · iexists _; iexists _; isplitr; swap
      · isplitl [HS]; · iexact HS
        isplitl [HT]; · iexact HT
        isplitl [HE]; · iexact HE
        iexact HN
      · ipureintro; intro u huv hu'
        obtain rfl : u = t := Fin.ext (by simpa using huv)
        exact absurd hu' hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; unfold resOf; rw [if_neg hu]; exact stepZero_out ..

theorem body_all (c : Dev nD) : BodyObligation (dat hg 0 c) (defs₀ (F := Ideal)) Variants.none () Set.univ := fun t => by
  rw [bigSep_W0]
  exact body_ok hg c t

/-! ## The run -/

/-- The staging cells' first element. -/
def cells0 : UR sig nD τ :=
  initOf (Pipeline.cells (pinned hg) ((launch0 (F := Ideal)).cellOf_inj fun _ => admT hg))
    (Pipeline.launchToks (pinned hg) ((launch0 (F := Ideal)).cellOf_inj fun _ => admT hg))

theorem share_full (c : Dev nD) (w : Fin (cfgT hg).W) : (dat hg 0 c).share w = fullShare := by unfold Dat.share; split <;> rfl

theorem tabs_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = {(0 : Fin 2), (1 : Fin 2)} from by decide, bigSep_insert (by decide), bigSep_singleton]
  rfl

theorem inv_first (c : Dev nD) :
    iprop(BI.emp ∗ Pipeline.prefHeld pre0 c (fun _ => fullShare.right) (admT hg).1 ∗ Pipeline.scopedRest spec0 c) ⊢ (dat hg 0 c).Φ 0 := by
  rw [tabs_held, scopedRest0_eq, show (dat hg 0 c).Φ 0 = Inv hg c 0 from rfl]
  unfold Inv
  iintro ⟨-, ⟨HE, HN⟩, ⟨%a0, HS⟩, ⟨%a1, HT⟩⟩
  iexists a0; iexists a1
  isplitr
  · ipureintro; intro u hu; exact absurd hu (Nat.succ_ne_zero _)
  isplitl [HS]; · iexact HS
  isplitl [HT]; · iexact HT
  isplitl [HE]; · iexact HE
  iexact HN

theorem inv_last (c : Dev nD) : (dat hg 0 c).Φ (Fin.last (cfgT hg).N) ⊢ iprop(BI.emp ∗ Pipeline.scopedRest spec0 c) := by
  rw [scopedRest0_eq, show (dat hg 0 c).Φ (Fin.last (cfgT hg).N) = Inv hg c (Fin.last _) from rfl]
  unfold Inv
  iintro ⟨%a0, %a1, -, HS, HT, -, -⟩
  isplitr; · iempintro
  isplitl [HS]
  · iexists a0; iexact HS
  iexists a1; iexact HT

/-- What the run ends with: each array as the steps leave it, the tables as found. -/
def Ends : PUnit × MemSt nD τ sig (Elt Ideal) → Prop := fun r =>
  ∀ c : Dev nD, (∀ w : Fin (cfgT hg).W, r.2.mem (((cfgT hg).win w).arr.view.loc (c : Thread nD τ)) = (dat hg 0 c).arrAt w (cfgT hg).N)
    ∧ ∀ j, r.2.mem ((c : Thread nD τ).loc (pre0.ref j)) = (admT hg).1 j

theorem tabs_of (c : Dev nD) (j : Fin 2) : m ((c : Thread nD τ).loc (pre0.ref j)) = (admT hg).1 j := by
  obtain rfl : c = 0 := Subsingleton.elim _ _
  fin_cases j <;> rfl

set_option backward.isDefEq.respectTransparency.types false in
set_option maxHeartbeats 4000000 in
theorem run_ends : θ_run (defs (F := Ideal)) (onTc (τ := τ) (main (F := Ideal))) (s₀ m ρ) (fun r => Ends hg r ∧ r.2.sem = fun _ => 0) :=
  Pipeline.θ_run_region_noSem_pf_quiescent pcfgs (fun _ => admT hg) (dat hg) () ((launch0 (F := Ideal)).cellOf_inj fun _ => admT hg) (0 : Fin 1)
    (launch0 (F := Ideal)).win.to₀ (launch0 (F := Ideal)).pre EC defs₀ Variants.none m ρ main
    (hbody := fun c => (body_all hg c).loose) (hne := (launch0 (F := Ideal)).block_pos)
    (harr := (launch0 (F := Ideal)).arr_whole) (hstage := (launch0 (F := Ideal)).stage_whole) (howed := fun _ _ => rfl)
    (u₀ := cells0 hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned hg) (dat hg) 0 (launch0 (F := Ideal)).win.arr_inj c (launch0 (F := Ideal)).arr_whole
      (share_full hg c) _ _ fun _ => rfl)
    (hpf := tabs_of hg)
    (X := fun _ => iprop(emp)) (Y := fun _ => iprop(emp)) (Z := fun _ => iprop(emp))
    (hX := fun c => by rw [unscopedRestP0_eq]; iintro -; isplitr <;> iempintro)
    (hin := inv_first hg)
    (hout := inv_last hg)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hg in
/-- The arguments end as they were and every counter at zero. -/
theorem args_kept : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 (0 : Fin 5)).trans ((dat hg 0 c).arrAt_in (0 : Fin 5) rfl _),
    ((h.1 c).2 0).trans (tabs_of hg c 0).symm, ((h.1 c).2 1).trans (tabs_of hg c 1).symm,
    ((h.1 c).1 (1 : Fin 5)).trans ((dat hg 0 c).arrAt_in (1 : Fin 5) rfl _),
    ((h.1 c).1 (2 : Fin 5)).trans ((dat hg 0 c).arrAt_in (2 : Fin 5) rfl _),
    ((h.1 c).1 (3 : Fin 5)).trans ((dat hg 0 c).arrAt_in (3 : Fin 5) rfl _)⟩, h.2⟩) (run_ends ρ hg)

end Cert.ExpertsIdeal.Step
-- ==== Proof.ExpertsVal.lean ====
module

public import proofs.«01_k».proof.Proof.ExpertsFrame
public import Idealize.ShloMosaic.Lib.Pipeline.ValueKit
public import Idealize.ShloMosaic.Lib.Pipeline.Covers

/-! # The experts' call: what the kernel's array holds -/

@[expose] public section

set_option maxRecDepth 16384

noncomputable section

open Idealize.ShloMosaic Idealize.ShloMosaic.TcCoe Idealize.SL.Sem
open Idealize.ShloMosaic.Pipeline (Dat)

namespace Cert.ExpertsIdeal.Val
open Cert.ExpertsIdeal Cert.ExpertsIdeal.Gen Cert.ExpertsIdeal.Step

/-- A row's product with an expert's input matrix, at hidden lane `e`. -/
def lane (x : Fin 1024 → EReal) (W : Fin 1024 → Fin 256 → EReal) (e : Fin 256) : EReal := ∑ d : Fin 1024, x d * W d e

/-- An expert applied to a row, at lane `l`. -/
def expert (x : Fin 1024 → EReal) (W1 W3 : Fin 1024 → Fin 256 → EReal) (W2 : Fin 256 → Fin 1024 → EReal) (l : Fin 1024) : EReal :=
  ∑ e : Fin 256, lane x W1 e * Ideal.logistic (lane x W1 e) * lane x W3 e * W2 e l

/-! ## What the scratch buffers read as -/

/-- Two matrices side by side. -/
def beside (x1 x2 : S1x1x1024x256.Idx → EReal) : S1024x512.Idx → EReal := fun y =>
  if h : (y 1).val < 256 then x1 (ix4 (0 : Fin 1) (0 : Fin 1) (y 0) (⟨(y 1).val, h⟩ : Fin 256))
  else x2 (ix4 (0 : Fin 1) (0 : Fin 1) (y 0) (⟨(y 1).val - 256, by have h2 : (y 1).val < 512 := (y 1).isLt; omega⟩ : Fin 256))

theorem pay1_apply (x : S1x1x1024x256.Idx → EReal) (d : Fin 1024) (e : Fin 256) :
    k0_pay1 (F := Ideal) x (ix2 d e) = x (ix4 (0 : Fin 1) (0 : Fin 1) d e) := by
  pointwise [k0_pay1]

theorem pay2_apply (x : S1x1x1024x256.Idx → EReal) (d : Fin 1024) (e : Fin 256) :
    k0_pay2 (F := Ideal) x (ix2 d e) = x (ix4 (0 : Fin 1) (0 : Fin 1) d e) := by
  pointwise [k0_pay2]

theorem pay3_apply (x : S1x1x256x1024.Idx → EReal) (e : Fin 256) (l : Fin 1024) :
    k0_pay3 (F := Ideal) x (ix2 e l) = x (ix4 (0 : Fin 1) (0 : Fin 1) e l) := by
  pointwise [k0_pay3]

theorem read13 (c : Dev nD) (x1 x2 : S1x1x1024x256.Idx → EReal) :
    View.readAt (Elt Ideal) w13S.view (Rect.unit (s := S1024x512) ![0, 0] S1024x512.size inb_S1024x512_S1024x512_0_0).toLoadRect (w13Of c x1 x2)
      = beside x1 x2 := by
  have hz : (![0, 0] : Fin S1024x512.rank → ℕ) = fun _ => 0 := by funext a; fin_cases a <;> rfl
  refine (View.readAt_full w13S.view (w13Of c x1 x2) inb_S1024x512_S1024x512_0_0).trans ?_
  funext y
  refine View.read_writes_apply_of_pieces (Val := Elt Ideal) (View.whole cc0_scratch0) (View.whole cc0_scratch0).junk (beside x1 x2) _ ?_ y ?_
  · intro p hp x
    rcases List.mem_cons.1 hp with rfl | hp
    · obtain ⟨d, e, rfl⟩ : ∃ (d : Fin 1024) (e : Fin 256), x = ix2 d e := ⟨x 0, x 1, by funext a; fin_cases a <;> rfl⟩
      refine (pay2_apply x2 d e).trans ?_
      unfold beside
      rw [dif_neg (by show ¬ 256 + 1 * e.val < 256; omega)]
      refine congrArg x2 ?_
      funext a
      match a with
      | ⟨0, _⟩ => rfl
      | ⟨1, _⟩ => rfl
      | ⟨2, _⟩ => exact Fin.ext (by show d.val = 0 + 1 * d.val; omega)
      | ⟨3, _⟩ => exact Fin.ext (by show e.val = 256 + 1 * e.val - 256; omega)
    · rcases List.mem_singleton.1 hp with rfl
      obtain ⟨d, e, rfl⟩ : ∃ (d : Fin 1024) (e : Fin 256), x = ix2 d e := ⟨x 0, x 1, by funext a; fin_cases a <;> rfl⟩
      refine (pay1_apply x1 d e).trans ?_
      unfold beside
      rw [dif_pos (by show 0 + 1 * e.val < 256; omega)]
      refine congrArg x1 ?_
      funext a
      match a with
      | ⟨0, _⟩ => rfl
      | ⟨1, _⟩ => rfl
      | ⟨2, _⟩ => exact Fin.ext (by show d.val = 0 + 1 * d.val; omega)
      | ⟨3, _⟩ => exact Fin.ext (by show e.val = 0 + 1 * e.val; omega)
  · exact View.cover_of_tiledL (s := S1024x512) _ ![1024, 256] (by sl_kernel_rfl) y

theorem read2 (c : Dev nD) (x3 : S1x1x256x1024.Idx → EReal) :
    View.readAt (Elt Ideal) w2S.view (Rect.unit (s := S256x1024) ![0, 0] S256x1024.size inb_S256x1024_S256x1024_0_0).toLoadRect (w2Of c x3)
      = k0_pay3 (F := Ideal) x3 := by
  unfold w2Of
  exact View.readAt_writes_full _ _ inb_S256x1024_S256x1024_0_0 _ _ _

theorem pay4_apply (x0 : S128x1024.Idx → EReal) (a : S1024x512.Idx → EReal) (b : S256x1024.Idx → EReal) (r : Fin 128) (l : Fin 1024) :
    k0_pay4 (F := Ideal) x0 a b (ix2 r l)
      = ∑ e : Fin 256, (∑ d : Fin 1024, x0 (ix2 r d) * a (ix2 d (⟨e.val, by omega⟩ : Fin 512)))
          * Ideal.logistic (∑ d : Fin 1024, x0 (ix2 r d) * a (ix2 d (⟨e.val, by omega⟩ : Fin 512)))
          * (∑ d : Fin 1024, x0 (ix2 r d) * a (ix2 d (⟨256 + e.val, by omega⟩ : Fin 512))) * b (ix2 e l) := by
  pointwise [k0_pay4]

theorem beside_left (x1 x2 : S1x1x1024x256.Idx → EReal) (d : Fin 1024) (e : Fin 256) :
    beside x1 x2 (ix2 d (⟨e.val, by omega⟩ : Fin 512)) = x1 (ix4 (0 : Fin 1) (0 : Fin 1) d e) := by
  unfold beside
  rw [dif_pos (by show e.val < 256; omega)]
  rfl

theorem beside_right (x1 x2 : S1x1x1024x256.Idx → EReal) (d : Fin 1024) (e : Fin 256) :
    beside x1 x2 (ix2 d (⟨256 + e.val, by omega⟩ : Fin 512)) = x2 (ix4 (0 : Fin 1) (0 : Fin 1) d e) := by
  unfold beside
  rw [dif_neg (by show ¬ 256 + e.val < 256; omega)]
  refine congrArg x2 ?_
  funext a
  match a with
  | ⟨0, _⟩ => rfl
  | ⟨1, _⟩ => rfl
  | ⟨2, _⟩ => rfl
  | ⟨3, _⟩ => exact Fin.ext (by show 256 + e.val - 256 = e.val; omega)

/-- A used step's block: its expert applied to its rows. -/
theorem outOf_apply (c : Dev nD) (x0 : S128x1024.Idx → EReal) (x1 x2 : S1x1x1024x256.Idx → EReal) (x3 : S1x1x256x1024.Idx → EReal) (r : Fin 128) (l : Fin 1024) :
    outOf c x0 (w13Of c x1 x2) (w2Of c x3) (ix2 r l)
      = expert (fun d => x0 (ix2 r d)) (fun d e => x1 (ix4 (0 : Fin 1) (0 : Fin 1) d e)) (fun d e => x2 (ix4 (0 : Fin 1) (0 : Fin 1) d e))
          (fun e l => x3 (ix4 (0 : Fin 1) (0 : Fin 1) e l)) l := by
  unfold outOf
  rw [read13, read2]
  refine (pay4_apply _ _ _ r l).trans ?_
  unfold expert lane
  simp only [beside_left, beside_right]
  exact Finset.sum_congr rfl fun e _ => by rw [pay3_apply]

theorem pay5_apply (y : S128x1024.Idx) : (k0_pay5 (F := Ideal) y : EReal) = 0 := Ideal.ofBits_zero_f32

/-! ## The blocks -/

variable {m : (ℓ : Loc nD τ sig) → Buf (Elt Ideal) ℓ} (hg : Good m)

/-- Block `t`'s number and its expert. -/
abbrev num (t : Fin grid0.N) : Fin 580 := ⟨t.val, lt_of_lt_of_eq t.isLt N_0⟩
abbrev who (b : Fin 580) : Fin 64 := ⟨(tabE m (ix1 b) : BitVec 32).toNat, hg.1 _⟩

theorem index_4 (t : Fin (cfgT hg).N) : ((cfgT hg).win (4 : Fin 5)).index t = (![t.val, 0] : Fin 2 → ℕ) := by
  have e : ((cfgT hg).win (4 : Fin 5)).index t = (![(BitVec.ofNat 32 (grid0.coords t 0).val).toNat, 0] : Fin 2 → ℕ) := rfl
  have ht : t.val < 580 := lt_of_lt_of_eq t.isLt N_0
  rw [e, coord_val, BitVec.toNat_ofNat, Nat.mod_eq_of_lt (by omega)]

theorem index_0 (t : Fin (cfgT hg).N) (h : Used m t) : ((cfgT hg).win (0 : Fin 5)).index t = (![t.val, 0] : Fin 2 → ℕ) := by
  have e : ((cfgT hg).win (0 : Fin 5)).index t
      = (![(Scalar.minsi (BitVec.ofNat 32 (grid0.coords t 0).val) (Scalar.subi (cnt (tabN m)) 1#32)).toNat, 0] : Fin 2 → ℕ) := rfl
  have ht : t.val < 580 := lt_of_lt_of_eq t.isLt N_0
  rw [e, coord_val, (row_index t.val ht (cnt (tabN m)) (hg.2 _)).2 ((used_iff_lt t _).1 h)]

theorem index_w (t : Fin (cfgT hg).N) : ((cfgT hg).win (1 : Fin 5)).index t = (![0, (who hg (num t)).val, 0, 0] : Fin 4 → ℕ)
    ∧ ((cfgT hg).win (2 : Fin 5)).index t = (![0, (who hg (num t)).val, 0, 0] : Fin 4 → ℕ)
    ∧ ((cfgT hg).win (3 : Fin 5)).index t = (![0, (who hg (num t)).val, 0, 0] : Fin 4 → ℕ) := by
  have h : (![0, (expHere (grid0.coords t) (tabE m) : BitVec 32).toNat, 0, 0] : Fin 4 → ℕ) = ![0, (who hg (num t)).val, 0, 0] := by rw [expHere_eq]
  exact ⟨h, h, h⟩

theorem rows_of (c : Dev nD) (t : Fin (cfgT hg).N) (h : Used m t) (r : Fin 128) (d : Fin 1024) :
    blkOf hg c (0 : Fin 5) t (ix2 r d) = m ((c : Thread nD τ).loc main_arg0) (ix2 (⟨(num t).val * 128 + r.val, by have := (num t).isLt; omega⟩ : Fin 74240) d) := by
  show m ((c : Thread nD τ).loc main_arg0) ((((cfgT hg).win (0 : Fin 5)).rect t).emb (ix2 r d)) = _
  refine congrArg (m ((c : Thread nD τ).loc main_arg0)) (funext fun a => Fin.ext ?_)
  rw [Pipeline.Window.rect_emb_val ((cfgT hg).win (0 : Fin 5)) t _ _ rfl, index_0 hg t h]
  match a with
  | ⟨0, _⟩ => rfl
  | ⟨1, _⟩ => show 0 * 1024 + d.val = d.val; omega

theorem w1_of (c : Dev nD) (t : Fin (cfgT hg).N) (d : Fin 1024) (e : Fin 256) :
    blkOf hg c (1 : Fin 5) t (ix4 (0 : Fin 1) (0 : Fin 1) d e) = m ((c : Thread nD τ).loc main_arg3) (ix4 (0 : Fin 2) (who hg (num t)) d e) := by
  show m ((c : Thread nD τ).loc main_arg3) ((((cfgT hg).win (1 : Fin 5)).rect t).emb (ix4 (0 : Fin 1) (0 : Fin 1) d e)) = _
  refine congrArg (m ((c : Thread nD τ).loc main_arg3)) (funext fun a => Fin.ext ?_)
  rw [Pipeline.Window.rect_emb_val ((cfgT hg).win (1 : Fin 5)) t _ _ rfl, (index_w hg t).1]
  match a with
  | ⟨0, _⟩ => rfl
  | ⟨1, _⟩ => show (who hg (num t)).val * 1 + 0 = (who hg (num t)).val; omega
  | ⟨2, _⟩ => show 0 * 1024 + d.val = d.val; omega
  | ⟨3, _⟩ => show 0 * 256 + e.val = e.val; omega

theorem w3_of (c : Dev nD) (t : Fin (cfgT hg).N) (d : Fin 1024) (e : Fin 256) :
    blkOf hg c (2 : Fin 5) t (ix4 (0 : Fin 1) (0 : Fin 1) d e) = m ((c : Thread nD τ).loc main_arg4) (ix4 (0 : Fin 2) (who hg (num t)) d e) := by
  show m ((c : Thread nD τ).loc main_arg4) ((((cfgT hg).win (2 : Fin 5)).rect t).emb (ix4 (0 : Fin 1) (0 : Fin 1) d e)) = _
  refine congrArg (m ((c : Thread nD τ).loc main_arg4)) (funext fun a => Fin.ext ?_)
  rw [Pipeline.Window.rect_emb_val ((cfgT hg).win (2 : Fin 5)) t _ _ rfl, (index_w hg t).2.1]
  match a with
  | ⟨0, _⟩ => rfl
  | ⟨1, _⟩ => show (who hg (num t)).val * 1 + 0 = (who hg (num t)).val; omega
  | ⟨2, _⟩ => show 0 * 1024 + d.val = d.val; omega
  | ⟨3, _⟩ => show 0 * 256 + e.val = e.val; omega

theorem w2_of (c : Dev nD) (t : Fin (cfgT hg).N) (e : Fin 256) (l : Fin 1024) :
    blkOf hg c (3 : Fin 5) t (ix4 (0 : Fin 1) (0 : Fin 1) e l) = m ((c : Thread nD τ).loc main_arg5) (ix4 (0 : Fin 2) (who hg (num t)) e l) := by
  show m ((c : Thread nD τ).loc main_arg5) ((((cfgT hg).win (3 : Fin 5)).rect t).emb (ix4 (0 : Fin 1) (0 : Fin 1) e l)) = _
  refine congrArg (m ((c : Thread nD τ).loc main_arg5)) (funext fun a => Fin.ext ?_)
  rw [Pipeline.Window.rect_emb_val ((cfgT hg).win (3 : Fin 5)) t _ _ rfl, (index_w hg t).2.2]
  match a with
  | ⟨0, _⟩ => rfl
  | ⟨1, _⟩ => show (who hg (num t)).val * 1 + 0 = (who hg (num t)).val; omega
  | ⟨2, _⟩ => show 0 * 256 + e.val = e.val; omega
  | ⟨3, _⟩ => show 0 * 1024 + l.val = l.val; omega

/-- The rows of block `b` through its expert, or zero if the block is not used. -/
def rowOf (X : FVec Ideal S74240x1024 .f32) (W1 W3 : FVec Ideal S2x64x1024x256 .f32) (W2 : FVec Ideal S2x64x256x1024 .f32) (N : BitVec 32)
    (E : Fin 580 → Fin 64) (b : Fin 580) (r : Fin 128) (l : Fin 1024) : EReal :=
  open Classical in if (b.val : ℤ) < N.toInt then
    expert (fun d => X (ix2 (⟨b.val * 128 + r.val, by omega⟩ : Fin 74240) d)) (fun d e => W1 (ix4 (0 : Fin 2) (E b) d e))
      (fun d e => W3 (ix4 (0 : Fin 2) (E b) d e)) (fun e l => W2 (ix4 (0 : Fin 2) (E b) e l)) l
  else 0

/-- The call's array. -/
def whole (X : FVec Ideal S74240x1024 .f32) (W1 W3 : FVec Ideal S2x64x1024x256 .f32) (W2 : FVec Ideal S2x64x256x1024 .f32) (N : BitVec 32)
    (E : Fin 580 → Fin 64) : FVec Ideal S74240x1024 .f32 := fun i =>
  rowOf X W1 W3 W2 N E (⟨(i 0).val / 128, by have h : (i 0).val < 74240 := (i 0).isLt; omega⟩ : Fin 580) (⟨(i 0).val % 128, by omega⟩ : Fin 128) (i 1)

theorem resOf_apply (c : Dev nD) (t : Fin (cfgT hg).N) (r : Fin 128) (l : Fin 1024) :
    resOf hg c t (ix2 r l) = rowOf (m ((c : Thread nD τ).loc main_arg0)) (m ((c : Thread nD τ).loc main_arg3)) (m ((c : Thread nD τ).loc main_arg4))
      (m ((c : Thread nD τ).loc main_arg5)) (cnt (tabN m)) (who hg) (num t) r l := by
  unfold resOf rowOf
  have hu := used_iff_lt t (cnt (tabN m))
  by_cases h : Used m t
  · rw [if_pos h, if_pos (hu.1 h)]
    unfold s13 s2
    refine (outOf_apply c _ _ _ _ r l).trans ?_
    simp only [w1_of, w3_of, w2_of, rows_of hg c t h]
  · rw [if_neg h, if_neg (fun h' => h (hu.2 h'))]
    exact pay5_apply _

theorem covers : ((cfgT hg).win (4 : Fin 5)).Covers := by
  refine Pipeline.Window.covers_of_index_surj _ rfl (fun a => ?_) fun β => ?_
  · match a with
    | ⟨0, _⟩ => show 0 < 128; omega
    | ⟨1, _⟩ => show 0 < 1024; omega
  · have h0 : (β (0 : Fin 2)).val < 580 := lt_of_lt_of_eq (β (0 : Fin 2)).isLt (show (74240 + 128 - 1) / 128 = 580 by norm_num)
    have h1 : (β (1 : Fin 2)).val < 1 := lt_of_lt_of_eq (β (1 : Fin 2)).isLt (show (1024 + 1024 - 1) / 1024 = 1 by norm_num)
    refine ⟨⟨(β (0 : Fin 2)).val, lt_of_lt_of_eq h0 N_0.symm⟩, fun a => ?_⟩
    rw [index_4]
    match a with
    | ⟨0, _⟩ => rfl
    | ⟨1, _⟩ => show 0 = (β (1 : Fin 2)).val; omega

theorem final (c : Dev nD) : (dat hg 0 c).arrAt (4 : Fin 5) (cfgT hg).N
    = whole (m ((c : Thread nD τ).loc main_arg0)) (m ((c : Thread nD τ).loc main_arg3)) (m ((c : Thread nD τ).loc main_arg4))
      (m ((c : Thread nD τ).loc main_arg5)) (cnt (tabN m)) (who hg) := by
  refine (dat hg 0 c).arrAt_eq_of_covers (4 : Fin 5) _ (covers hg) (fun t hf y => ?_) (Memref.isWhole_whole _)
  obtain ⟨r, l, rfl⟩ : ∃ (r : Fin 128) (l : Fin 1024), y = ix2 r l := ⟨y 0, y 1, by funext a; fin_cases a <;> rfl⟩
  refine (resOf_apply hg c t r l).trans ?_
  have e0 : ((((cfgT hg).win (4 : Fin 5)).rect t).emb (ix2 r l) (0 : Fin 2)).val = t.val * 128 + r.val := by
    rw [Pipeline.Window.rect_emb_val ((cfgT hg).win (4 : Fin 5)) t _ _ rfl, index_4]; rfl
  have e1 : ((((cfgT hg).win (4 : Fin 5)).rect t).emb (ix2 r l) (1 : Fin 2)).val = l.val := by
    rw [Pipeline.Window.rect_emb_val ((cfgT hg).win (4 : Fin 5)) t _ _ rfl, index_4]; show 0 * 1024 + l.val = l.val; omega
  show _ = rowOf _ _ _ _ _ _ (⟨((((cfgT hg).win (4 : Fin 5)).rect t).emb (ix2 r l) (0 : Fin 2)).val / 128, _⟩ : Fin 580)
    (⟨((((cfgT hg).win (4 : Fin 5)).rect t).emb (ix2 r l) (0 : Fin 2)).val % 128, _⟩ : Fin 128) ((((cfgT hg).win (4 : Fin 5)).rect t).emb (ix2 r l) (1 : Fin 2))
  refine congr (congr (congrArg _ (Fin.ext ?_)) (Fin.ext ?_)) (Fin.ext ?_)
  · show t.val = _ / 128; rw [e0]; omega
  · show r.val = _ % 128; rw [e0]; omega
  · exact e1.symm

include hg in
/-- The run: the result is the call's array, the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v0) = whole (m ((c : Thread nD τ).loc main_arg0)) (m ((c : Thread nD τ).loc main_arg3)) (m ((c : Thread nD τ).loc main_arg4))
      (m ((c : Thread nD τ).loc main_arg5)) (cnt (tabN m)) (who hg)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨((h.1 c).1 (4 : Fin 5)).trans (final hg c),
    ((h.1 c).1 (0 : Fin 5)).trans ((dat hg 0 c).arrAt_in (0 : Fin 5) rfl _),
    ((h.1 c).2 0).trans (tabs_of hg c 0).symm, ((h.1 c).2 1).trans (tabs_of hg c 1).symm,
    ((h.1 c).1 (1 : Fin 5)).trans ((dat hg 0 c).arrAt_in (1 : Fin 5) rfl _),
    ((h.1 c).1 (2 : Fin 5)).trans ((dat hg 0 c).arrAt_in (2 : Fin 5) rfl _),
    ((h.1 c).1 (3 : Fin 5)).trans ((dat hg 0 c).arrAt_in (3 : Fin 5) rfl _)⟩) (run_ends ρ hg)

end Cert.ExpertsIdeal.Val
-- ==== Proof.ExpertsRefVal.lean ====
module

public import proofs.«01_k».proof.Proof.Gen.ExpertsRefIdeal.Run
public import Idealize.ShloMosaic.Lib.Pipeline.ValueKit

/-! # The experts' call: what the reference's result holds

Row `128 b + r` of the result is the expert of block `b` applied to that row, for the used blocks, and zero for the rest. -/

@[expose] public section

set_option maxRecDepth 16384

noncomputable section

open Idealize.ShloMosaic Idealize.ShloMosaic.TcCoe Idealize.SL.Sem

namespace Cert.ExpertsRefIdeal.Val
open Cert.ExpertsRefIdeal Cert.ExpertsRefIdeal.Gen Cert.ExpertsRefIdeal.Value

/-! ## Slabs picked by a table -/

/-- Picking, for each of `n` blocks, one of `K` slabs of `P` rows of `Q`. -/
abbrev slabDims (K n P Q : ℕ) (wf : GatherDims.WF (⟨3, ![K, P, Q]⟩ : Shape) ⟨2, ![n, 1]⟩ ⟨3, ![n, P, Q]⟩ [1, 2] [0] [] [0] [] 1 ![1, P, Q]) :
    GatherDims (⟨3, ![K, P, Q]⟩ : Shape) ⟨2, ![n, 1]⟩ ⟨3, ![n, P, Q]⟩ where
  offsetDims := [1, 2]
  collapsedSliceDims := [0]
  operandBatchingDims := []
  startIndicesBatchingDims := []
  startIndexMap := [0]
  indexVectorDim := 1
  sliceSizes := ![1, P, Q]
  wf := wf

/-- Entry `(b, i, j)` of the picked slabs is entry `(i, j)` of slab `e`, if the table names `e` for block `b`. -/
theorem slab_apply {K n P Q : ℕ} (wf) (X : (⟨3, ![K, P, Q]⟩ : Shape).Idx → EReal) (I : IVec ⟨2, ![n, 1]⟩ 32) (b : Fin n) (i : Fin P) (j : Fin Q)
    (e : Fin K) (he : (I (ix2 b (0 : Fin 1))).toInt.toNat = e.val) :
    Host.gather (slabDims K n P Q wf) X I (ix3 b i j) = X (ix3 e i j) := by
  unfold Host.gather
  refine congrArg X (funext fun a => Fin.ext ?_)
  show (slabDims K n P Q wf).start (ix3 b i j) I a + (slabDims K n P Q wf).batchCoord (ix3 b i j) a + (slabDims K n P Q wf).offCoord (ix3 b i j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (slabDims K n P Q wf).startIndexMap from List.mem_singleton.mpr rfl)]
    have hs : (slabDims K n P Q wf).siIdx (ix3 b i j) ⟨List.idxOf (⟨0, by decide⟩ : Fin 3) (slabDims K n P Q wf).startIndexMap,
        List.idxOf_lt_length_iff.2 (List.mem_singleton.mpr rfl)⟩ = ix2 b (0 : Fin 1) := by
      funext x
      refine Fin.ext ?_
      match x with
      | ⟨0, _⟩ => rfl
      | ⟨1, _⟩ => rfl
    rw [hs]
    show min (I (ix2 b (0 : Fin 1))).toInt.toNat (K - 1) = e.val
    have := e.isLt
    omega
  | ⟨1, _⟩ =>
    unfold GatherDims.start
    rw [dif_neg (show (⟨1, by decide⟩ : Fin 3) ∉ (slabDims K n P Q wf).startIndexMap from by show (⟨1, by decide⟩ : Fin 3) ∉ ([0] : List (Fin 3)); decide), Nat.zero_add]
    rfl
  | ⟨2, _⟩ =>
    unfold GatherDims.start
    rw [dif_neg (show (⟨2, by decide⟩ : Fin 3) ∉ (slabDims K n P Q wf).startIndexMap from by show (⟨2, by decide⟩ : Fin 3) ∉ ([0] : List (Fin 3)); decide), Nat.zero_add]
    rfl

/-! ## The reference's steps -/

/-- The table as it indexes: a negative entry counts from the end. -/
def index (T : IVec S580 32) : IVec S580x1 32 :=
  broadcastInDim S580x1 ![0] bcast_S580_S580x1_0 (select (cmpi .slt T (broadcastInDim S580 ![] bcast_S_S580 (constantI S_ 32 0#32))) (addi T (broadcastInDim S580 ![] bcast_S_S580 (constantI S_ 32 64#32))) T)

/-- Each block's matrix into the hidden rows, and out of them. -/
def slabs (T : IVec S580 32) (W : FVec Ideal S2x64x1024x256 .f32) : FVec Ideal S580x1024x256 .f32 :=
  Host.gather gather_S64x1024x256_S580x1_S580x1024x256_12_0_n_n_0_1_11024256 (shapeCast _ (extractStridedSlice S1x64x1024x256 ![0, 0, 0, 0] W slices_S2x64x1024x256_S1x64x1024x256_0_0_0_0) shapeCasts_S1x64x1024x256_S64x1024x256) (index T)
def slabsOut (T : IVec S580 32) (W : FVec Ideal S2x64x256x1024 .f32) : FVec Ideal S580x256x1024 .f32 :=
  Host.gather gather_S64x256x1024_S580x1_S580x256x1024_12_0_n_n_0_1_12561024 (shapeCast _ (extractStridedSlice S1x64x256x1024 ![0, 0, 0, 0] W slices_S2x64x256x1024_S1x64x256x1024_0_0_0_0) shapeCasts_S1x64x256x1024_S64x256x1024) (index T)

/-- The blocks' rows by their experts' matrices. -/
def hid (X : FVec Ideal S74240x1024 .f32) (G : FVec Ideal S580x1024x256 .f32) : FVec Ideal S580x128x256 .f32 :=
  Host.dotGeneral dot_S580x128x1024_S580x1024x256_S580x128x256_2_1_1_2_0_0 none (shapeCast _ X shapeCasts_S74240x1024_S580x128x1024) G

def act (Y : FVec Ideal S580x128x256 .f32) : FVec Ideal S580x128x256 .f32 :=
  mulf Y (Host.divf (broadcastInDim S580x128x256 ![] bcast_S_S580x128x256 (constant S_ .f32 0x3F800000#32)) (addf (broadcastInDim S580x128x256 ![] bcast_S_S580x128x256 (constant S_ .f32 0x3F800000#32)) (Host.exp (Host.negf Y))))

def dot2 (H : FVec Ideal S580x128x256 .f32) (G : FVec Ideal S580x256x1024 .f32) : FVec Ideal S580x128x1024 .f32 :=
  Host.dotGeneral dot_S580x128x256_S580x256x1024_S580x128x1024_2_1_1_2_0_0 none H G

def masked (N : IVec S1 32) (Y : FVec Ideal S580x128x1024 .f32) : FVec Ideal S74240x1024 .f32 :=
  shapeCast _ (select (broadcastInDim S580x128x1024 ![0, 1, 2] bcast_S580x1x1_S580x128x1024_0_1_2 (broadcastInDim S580x1x1 ![0] bcast_S580_S580x1x1_0 (cmpi .slt (iotaInDim S580 32 0) (broadcastInDim S580 ![] bcast_S_S580 (shapeCast _ N shapeCasts_S1_S_))))) Y (broadcastInDim S580x128x1024 ![] bcast_S_S580x128x1024 (id (constant S_ .f32 0x00000000#32)))) shapeCasts_S580x128x1024_S74240x1024

/-- The reference's result. -/
def out (X : FVec Ideal S74240x1024 .f32) (T : IVec S580 32) (N : IVec S1 32) (W1 W3 : FVec Ideal S2x64x1024x256 .f32) (W2 : FVec Ideal S2x64x256x1024 .f32) :
    FVec Ideal S74240x1024 .f32 :=
  masked N (dot2 (mulf (act (hid X (slabs T W1))) (hid X (slabs T W3))) (slabsOut T W2))

theorem index_apply (T : IVec S580 32) (b : Fin 580) (h : (T (ix1 b)).toNat < 64) : index T (ix2 b (0 : Fin 1)) = T (ix1 b) := by
  have e : IntOp.cmpi .slt (T (ix1 b)) 0#32 = 0#1 := by
    have : ¬ (T (ix1 b)).toInt < 0 := by
      have := BitVec.toInt_eq_toNat_cond (T (ix1 b))
      split at this <;> omega
    simp only [IntOp.cmpi]
    rw [show (T (ix1 b)).slt 0#32 = false from by rw [Bool.eq_false_iff]; intro hh; rw [BitVec.slt_iff_toInt_lt] at hh; exact this hh]
    rfl
  pointwise [index]
  rw [e]
  rfl

theorem index_toNat (T : IVec S580 32) (b : Fin 580) (h : (T (ix1 b)).toNat < 64) : (index T (ix2 b (0 : Fin 1))).toInt.toNat = (T (ix1 b)).toNat := by
  rw [index_apply T b h]
  have := BitVec.toInt_eq_toNat_cond (T (ix1 b))
  split at this <;> omega

theorem slabs_apply (T : IVec S580 32) (W : FVec Ideal S2x64x1024x256 .f32) (b : Fin 580) (h : (T (ix1 b)).toNat < 64) (d : Fin 1024) (e : Fin 256) :
    slabs T W (ix3 b d e) = W (ix4 (0 : Fin 2) (⟨_, h⟩ : Fin 64) d e) := by
  refine (slab_apply gather_S64x1024x256_S580x1_S580x1024x256_12_0_n_n_0_1_11024256_wf _ (index T) b d e ⟨_, h⟩ (index_toNat T b h)).trans ?_
  pointwise
  blk_ext

theorem slabsOut_apply (T : IVec S580 32) (W : FVec Ideal S2x64x256x1024 .f32) (b : Fin 580) (h : (T (ix1 b)).toNat < 64) (d : Fin 256) (e : Fin 1024) :
    slabsOut T W (ix3 b d e) = W (ix4 (0 : Fin 2) (⟨_, h⟩ : Fin 64) d e) := by
  refine (slab_apply gather_S64x256x1024_S580x1_S580x256x1024_12_0_n_n_0_1_12561024_wf _ (index T) b d e ⟨_, h⟩ (index_toNat T b h)).trans ?_
  pointwise
  blk_ext

theorem hid_apply (X : FVec Ideal S74240x1024 .f32) (G : FVec Ideal S580x1024x256 .f32) (b : Fin 580) (r : Fin 128) (e : Fin 256) :
    hid X G (ix3 b r e) = ∑ d : Fin 1024, X (ix2 (⟨b.val * 128 + r.val, by omega⟩ : Fin 74240) d) * G (ix3 b d e) := by
  pointwise [hid]

theorem act_apply (Y : FVec Ideal S580x128x256 .f32) (i) : act Y i = Y i * Ideal.logistic (Y i) := by
  pointwise [act, Ideal.logistic]

theorem dot2_apply (H : FVec Ideal S580x128x256 .f32) (G : FVec Ideal S580x256x1024 .f32) (b : Fin 580) (r : Fin 128) (l : Fin 1024) :
    dot2 H G (ix3 b r l) = ∑ e : Fin 256, H (ix3 b r e) * G (ix3 b e l) := by
  pointwise [dot2]

theorem masked_apply (N : IVec S1 32) (Y : FVec Ideal S580x128x1024 .f32) (b : Fin 580) (r : Fin 128) (l : Fin 1024) :
    masked N Y (ix2 (⟨b.val * 128 + r.val, by omega⟩ : Fin 74240) l)
      = if IntOp.cmpi .slt (BitVec.ofNat 32 b.val) (N (ix1 (0 : Fin 1))) = 1#1 then Y (ix3 b r l) else 0 := by
  pointwise [masked]
  rw [show (id (constant (F := Ideal) S_ .f32 0#32) ix0 : EReal) = 0 from Ideal.ofBits_zero_f32]
  rfl

end Cert.ExpertsRefIdeal.Val
-- ==== Proof.ExpertsEq.lean ====
module

public import proofs.«01_k».proof.Defs
public import proofs.«01_k».proof.Proof.ExpertsBitsFrame
public import proofs.«01_k».proof.Proof.ExpertsVal
public import proofs.«01_k».proof.Proof.ExpertsRefVal
public import proofs.«01_k».proof.Proof.Gen.Pre_experts_named

/-! # The experts' call: the precondition read, and the two closed forms met -/

@[expose] public section

set_option maxRecDepth 16384

noncomputable section

open Idealize.ShloMosaic Idealize.ShloMosaic.TcCoe Idealize.SL.Sem

namespace Cert.ExpertsEq

section
open Cert.Pre_experts_named

theorem both (a b : BitVec 1) (h : IntOp.andi a b = 1#1) : a = 1#1 ∧ b = 1#1 := by revert a b; decide

theorem cmp_one (p : Bool) (h : BitVec.ofBool p = 1#1) : p = true := by revert p; decide

/-- The precondition, read: every expert is one of the 64, and at least one block is used. -/
theorem named_of_pre {F : FTy → Type} [FloatOps F] (A0 : FVec F S74240x1024 .f32) (T : IVec S580 32) (N : IVec S1 32)
    (A3 A4 : FVec F S2x64x1024x256 .f32) (A5 : FVec F S2x64x256x1024 .f32) (h : fn (F := F) A0 T N A3 A4 A5 = fun _ => 1#1) :
    (∀ x, (T x).toNat < 64) ∧ ∀ x, 1 ≤ (N x).toInt := by
  have key : ∀ b : Fin 580, (T (ix1 b)).toNat < 64 ∧ 1 ≤ (N (ix1 (0 : Fin 1))).toInt := fun b => by
    have h0 := congrFun h (ix1 b)
    unfold fn at h0
    obtain ⟨h1, h4⟩ := both _ _ h0
    obtain ⟨h2, h3⟩ := both _ _ h1
    have e2 : (0#32).sle (T (ix1 b)) = true := cmp_one _ h2
    have e3 : (T (ix1 b)).slt 64#32 = true := cmp_one _ h3
    have h4' : IntOp.cmpi .sge (N (ix1 (0 : Fin 1))) 1#32 = 1#1 := by
      refine Eq.trans ?_ h4
      pointwise
    have e4 : (1#32).sle (N (ix1 (0 : Fin 1))) = true := cmp_one _ h4'
    rw [BitVec.sle_iff_toInt_le] at e2 e4
    rw [BitVec.slt_iff_toInt_lt] at e3
    have c0 : (0#32 : BitVec 32).toInt = 0 := rfl
    have c1 : (1#32 : BitVec 32).toInt = 1 := rfl
    have c64 : (64#32 : BitVec 32).toInt = 64 := rfl
    have ht := BitVec.toInt_eq_toNat_cond (T (ix1 b))
    have hl := (T (ix1 b)).isLt
    refine ⟨?_, by omega⟩
    split at ht <;> omega
  refine ⟨fun x => ?_, fun x => ?_⟩
  · obtain ⟨b, rfl⟩ : ∃ b : Fin 580, x = ix1 b := ⟨x 0, by funext a; fin_cases a; rfl⟩
    exact (key b).1
  · have e : x = ix1 (0 : Fin 1) := by funext a; fin_cases a; exact Subsingleton.elim (α := Fin 1) _ _
    rw [e]
    exact (key 0).2

end

theorem good_bits (m) (h : Cert.Pre_Experts m) : Cert.Experts.Step.Good m := named_of_pre _ _ _ _ _ _ (h 0)
theorem good_ideal (m) (h : Cert.Pre_ExpertsIdeal m) : Cert.ExpertsIdeal.Step.Good m := named_of_pre _ _ _ _ _ _ (h 0)

open Cert.ExpertsRefIdeal Cert.ExpertsRefIdeal.Val

theorem used_ref (b : Fin 580) (v : BitVec 32) : IntOp.cmpi .slt (BitVec.ofNat 32 b.val) v = 1#1 ↔ (b.val : ℤ) < v.toInt := by
  have hb := b.isLt
  have ei : (BitVec.ofNat 32 b.val).toInt = (b.val : ℤ) := by rw [BitVec.toInt_ofNat', Int.bmod_def]; split <;> omega
  rw [← ei, ← BitVec.slt_iff_toInt_lt]
  simp only [IntOp.cmpi]
  cases (BitVec.ofNat 32 b.val).slt v <;> decide

section
variable (X : FVec Ideal S74240x1024 .f32) (T : IVec S580 32) (N : IVec S1 32) (W1 W3 : FVec Ideal S2x64x1024x256 .f32) (W2 : FVec Ideal S2x64x256x1024 .f32)
  (hT : ∀ x, (T x).toNat < 64)

theorem out_row (b : Fin 580) (r : Fin 128) (l : Fin 1024) : out X T N W1 W3 W2 (ix2 (⟨b.val * 128 + r.val, by omega⟩ : Fin 74240) l)
    = Cert.ExpertsIdeal.Val.rowOf X W1 W3 W2 (N (ix1 (0 : Fin 1))) (fun b => ⟨(T (ix1 b)).toNat, hT _⟩) b r l := by
  unfold out Cert.ExpertsIdeal.Val.rowOf
  refine (masked_apply N _ b r l).trans ?_
  by_cases h : (b.val : ℤ) < (N (ix1 (0 : Fin 1))).toInt
  · rw [if_pos ((used_ref b _).2 h), if_pos h, dot2_apply]
    unfold Cert.ExpertsIdeal.Val.expert Cert.ExpertsIdeal.Val.lane
    refine Finset.sum_congr rfl fun e _ => ?_
    rw [slabsOut_apply T W2 b (hT _) e l]
    refine congrArg (· * _) ?_
    show act (hid X (slabs T W1)) (ix3 b r e) * hid X (slabs T W3) (ix3 b r e) = _
    rw [act_apply, hid_apply, hid_apply]
    simp only [slabs_apply T W1 b (hT _), slabs_apply T W3 b (hT _)]
  · rw [if_neg (fun h' => h ((used_ref b _).1 h')), if_neg h]

/-- The reference's result is the call's array. -/
theorem out_eq : out X T N W1 W3 W2 = Cert.ExpertsIdeal.Val.whole X W1 W3 W2 (N (ix1 (0 : Fin 1))) fun b => ⟨(T (ix1 b)).toNat, hT _⟩ := by
  funext i
  obtain ⟨R, l, rfl⟩ : ∃ (R : Fin 74240) (l : Fin 1024), i = ix2 R l := ⟨i 0, i 1, by funext a; fin_cases a <;> rfl⟩
  have hR : R = (⟨(⟨R.val / 128, by omega⟩ : Fin 580).val * 128 + (⟨R.val % 128, by omega⟩ : Fin 128).val, by show R.val / 128 * 128 + R.val % 128 < 74240; omega⟩ : Fin 74240) :=
    Fin.ext (by show R.val = R.val / 128 * 128 + R.val % 128; omega)
  exact (congrArg (fun R => out X T N W1 W3 W2 (ix2 R l)) hR).trans (out_row X T N W1 W3 W2 hT _ _ l)

end

open Cert.ExpertsIdeal.Step in
/-- The two programs leave the same result. -/
theorem meets (m) (hpre : Cert.Pre_ExpertsIdeal m) (c : Dev Cert.ExpertsIdeal.nD) :
    out (m ((c : Thread Cert.ExpertsIdeal.nD Cert.ExpertsIdeal.τ).loc Cert.ExpertsIdeal.main_arg0)) (m ((c : Thread Cert.ExpertsIdeal.nD Cert.ExpertsIdeal.τ).loc Cert.ExpertsIdeal.main_arg1))
      (m ((c : Thread Cert.ExpertsIdeal.nD Cert.ExpertsIdeal.τ).loc Cert.ExpertsIdeal.main_arg2)) (m ((c : Thread Cert.ExpertsIdeal.nD Cert.ExpertsIdeal.τ).loc Cert.ExpertsIdeal.main_arg3))
      (m ((c : Thread Cert.ExpertsIdeal.nD Cert.ExpertsIdeal.τ).loc Cert.ExpertsIdeal.main_arg4)) (m ((c : Thread Cert.ExpertsIdeal.nD Cert.ExpertsIdeal.τ).loc Cert.ExpertsIdeal.main_arg5))
    = Cert.ExpertsIdeal.Val.whole (m ((c : Thread Cert.ExpertsIdeal.nD Cert.ExpertsIdeal.τ).loc Cert.ExpertsIdeal.main_arg0)) (m ((c : Thread Cert.ExpertsIdeal.nD Cert.ExpertsIdeal.τ).loc Cert.ExpertsIdeal.main_arg3))
      (m ((c : Thread Cert.ExpertsIdeal.nD Cert.ExpertsIdeal.τ).loc Cert.ExpertsIdeal.main_arg4)) (m ((c : Thread Cert.ExpertsIdeal.nD Cert.ExpertsIdeal.τ).loc Cert.ExpertsIdeal.main_arg5)) (cnt (tabN m))
      (Cert.ExpertsIdeal.Val.who (good_ideal m hpre)) := by
  obtain rfl : c = 0 := Subsingleton.elim _ _
  refine (out_eq _ _ _ _ _ _ (good_ideal m hpre).1).trans ?_
  have e : cnt (tabN m) = tabN m (ix1 (0 : Fin 1)) :=
    congrArg (tabN m) (by funext a; fin_cases a; exact Subsingleton.elim (α := Fin 1) _ _)
  rw [e]

end Cert.ExpertsEq
-- ==== Proof.ExpertsOneBitsStep.lean ====
module

public import proofs.«01_k».proof.Defs
public import proofs.«01_k».proof.Proof.Gen.ExpertsOne
public import proofs.«01_k».proof.Proof.Gen.ExpertsOne.Launch
public import proofs.«01_k».proof.Proof.Gen.ExpertsOne.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Pointwise.Index
public import Idealize.ShloMosaic.Lib.Tactic

/-! # One step of the experts' call of layer 1, by the branch it takes

A step whose block is used and whose expert is new first copies the expert's three matrices to scratch (`stepNew`); a used
block with the expert of the block before it takes the matrices as they lie in scratch (`stepSame`); an unused block is
filled with zeros (`stepZero`). Each says what the step leaves. -/

@[expose] public section
set_option maxRecDepth 16384

noncomputable section

namespace Cert.ExpertsOne.Step

open Cert.ExpertsOne Cert.ExpertsOne.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The table of experts, the number of used blocks, and the two scratch buffers. -/
noncomputable abbrev expT : Memref sig .tc .smem S580 .i32 := Memref.whole main_arg1
noncomputable abbrev cntT : Memref sig .tc .smem S1 .i32 := Memref.whole main_arg2
noncomputable abbrev w13S : Memref sig .tc .vmem S1024x512 .bf16 := Memref.whole cc0_scratch0
noncomputable abbrev w2S : Memref sig .tc .vmem S256x1024 .bf16 := Memref.whole cc0_scratch1

/-- The number of used blocks, the expert of this block and of the one before it, as the step reads them. -/
noncomputable abbrev cnt (T1 : S1.Idx → Elt Bits .i32) : BitVec 32 :=
  View.readAt (Elt Bits) cntT.view (Rect.unit (s := S1) ![0] S1.size inb_S1_S1_0).toLoadRect T1 (Shape.Idx.first (numel1_S1.symm ▸ Nat.one_pos))
noncomputable abbrev expHere (i : grid0.Coords) (T0 : S580.Idx → Elt Bits .i32) : BitVec 32 :=
  View.readAt (Elt Bits) expT.view (Rect.unit (s := S580) (k0_off2 i) S1.size (k0_off2_inb i)).toLoadRect T0 (Shape.Idx.first (numel1_S1.symm ▸ Nat.one_pos))
noncomputable abbrev expBefore (i : grid0.Coords) (T0 : S580.Idx → Elt Bits .i32) : BitVec 32 :=
  View.readAt (Elt Bits) expT.view (Rect.unit (s := S580) (k0_off3 i) S1.size (k0_off3_inb i)).toLoadRect T0 (Shape.Idx.first (numel1_S1.symm ▸ Nat.one_pos))
/-- Whether the matrices are to be copied. -/
noncomputable abbrev isNew (i : grid0.Coords) (T0 : S580.Idx → Elt Bits .i32) : BitVec 1 :=
  Scalar.cmpi .ne (Scalar.extui (Scalar.ori (Scalar.cmpi .eq (BitVec.ofNat 32 (i 0).val) 0#32) (Scalar.cmpi .ne (expHere i T0) (expBefore i T0)))) 0#32

set_option backward.proofsInPublic true in
set_option maxHeartbeats 8000000 in
/-- A used block whose expert is new. -/
noncomputable def stepNew (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32)
    (used : k0_cond1 i (cnt T1) = 1#1) (new : isNew i T0 = 1#1) (rest : ¬k0_cond3 i (cnt T1) = 1#1) :
    Σ' (out : List (View.Piece (Elt Bits) S128x1024 .f32)) (s0 : Buf (Elt Bits) ((c : Thread nD τ).loc cc0_scratch0)), { s1 : Buf (Elt Bits) ((c : Thread nD τ).loc cc0_scratch1) //
      ∀ (a0 : Buf (Elt Bits) ((c : Thread nD τ).loc cc0_scratch0)) (a1 : Buf (Elt Bits) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Bits) f out)
              ∗ (w13S.view.loc (c : Thread nD τ) ↦{fullShare} s0)
              ∗ (w2S.view.loc (c : Thread nD τ) ↦{fullShare} s1)) -∗ K ⟨⟩))
          ⊢ wp frame (wpE (defs₀ (F := Bits)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, _, _, fun a0 a1 K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = Scalar.cmpi = _; exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- A used block whose expert is the one before it. -/
noncomputable def stepSame (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32) (a0 : Buf (Elt Bits) ((c : Thread nD τ).loc cc0_scratch0)) (a1 : Buf (Elt Bits) ((c : Thread nD τ).loc cc0_scratch1))
    (used : k0_cond1 i (cnt T1) = 1#1) (new : ¬isNew i T0 = 1#1) (rest : ¬k0_cond3 i (cnt T1) = 1#1) :
    { out : List (View.Piece (Elt Bits) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Bits) f out)
              ∗ (w13S.view.loc (c : Thread nD τ) ↦{fullShare} a0)
              ∗ (w2S.view.loc (c : Thread nD τ) ↦{fullShare} a1)) -∗ K ⟨⟩))
          ⊢ wp frame (wpE (defs₀ (F := Bits)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = ¬(Scalar.cmpi = _); exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- An unused block. -/
noncomputable def stepZero (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32) (a0 : Buf (Elt Bits) ((c : Thread nD τ).loc cc0_scratch0)) (a1 : Buf (Elt Bits) ((c : Thread nD τ).loc cc0_scratch1))
    (used : ¬k0_cond1 i (cnt T1) = 1#1) (rest : k0_cond3 i (cnt T1) = 1#1) :
    { out : List (View.Piece (Elt Bits) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Bits) f out)
              ∗ (w13S.view.loc (c : Thread nD τ) ↦{fullShare} a0)
              ∗ (w2S.view.loc (c : Thread nD τ) ↦{fullShare} a1)) -∗ K ⟨⟩))
          ⊢ wp frame (wpE (defs₀ (F := Bits)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = ¬(k0_cond1 _ _ = _); exact used) | (guard_target = k0_cond3 _ _ = _; exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

/-! ## What the steps leave -/

/-- The first scratch buffer once an expert's two input matrices are copied: `w1` on its left half, `w3` on its right. -/
noncomputable def w13Of (c : Dev nD) (x1 x2 : S1x1x1024x256.Idx → Elt Bits .f32) : Buf (Elt Bits) ((c : Thread nD τ).loc cc0_scratch0) :=
  (View.whole cc0_scratch0).writes (Elt Bits) (View.whole cc0_scratch0).junk
    [⟨Rect.unit ![0, 256] S1024x256.size inb_S1024x512_S1024x256_0_256, k0_pay2 x2⟩, ⟨Rect.unit ![0, 0] S1024x256.size inb_S1024x512_S1024x256_0_0, k0_pay1 x1⟩]

/-- The second scratch buffer once the expert's output matrix is copied. -/
noncomputable def w2Of (c : Dev nD) (x3 : S1x1x256x1024.Idx → Elt Bits .f32) : Buf (Elt Bits) ((c : Thread nD τ).loc cc0_scratch1) :=
  (View.whole cc0_scratch1).writes (Elt Bits) (View.whole cc0_scratch1).junk [⟨Rect.unit ![0, 0] S256x1024.size inb_S256x1024_S256x1024_0_0, k0_pay3 x3⟩]

/-- The block of results computed from rows and scratch contents. -/
noncomputable def outOf (c : Dev nD) (x0 : S128x1024.Idx → Elt Bits .f32) (a0 : Buf (Elt Bits) ((c : Thread nD τ).loc cc0_scratch0))
    (a1 : Buf (Elt Bits) ((c : Thread nD τ).loc cc0_scratch1)) : S128x1024.Idx → Elt Bits .f32 :=
  k0_pay4 x0 (View.readAt (Elt Bits) w13S.view (Rect.unit (s := S1024x512) ![0, 0] S1024x512.size inb_S1024x512_S1024x512_0_0).toLoadRect a0)
    (View.readAt (Elt Bits) w2S.view (Rect.unit (s := S256x1024) ![0, 0] S256x1024.size inb_S256x1024_S256x1024_0_0).toLoadRect a1)

section
variable (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Bits .i32) (T1 : S1.Idx → Elt Bits .i32)
    (x0 : S128x1024.Idx → Elt Bits .f32) (x1 x2 : S1x1x1024x256.Idx → Elt Bits .f32) (x3 : S1x1x256x1024.Idx → Elt Bits .f32)
    (a0 : Buf (Elt Bits) ((c : Thread nD τ).loc cc0_scratch0)) (a1 : Buf (Elt Bits) ((c : Thread nD τ).loc cc0_scratch1))

theorem stepNew_w13 (h1 h2 h3) : (stepNew c i arg3 harg3 arg4 harg4 arg5 harg5 arg6 harg6 arg7 harg7 T0 T1 x0 x1 x2 x3 h1 h2 h3).2.1 = w13Of c x1 x2 := by
  unfold stepNew; dsimp only; unfold stepNew.sl.HS_2 w13Of
  rw [View.readAt_rep_full, View.readAt_rep_full]

theorem stepNew_w2 (h1 h2 h3) : (stepNew c i arg3 harg3 arg4 harg4 arg5 harg5 arg6 harg6 arg7 harg7 T0 T1 x0 x1 x2 x3 h1 h2 h3).2.2.1 = w2Of c x3 := by
  unfold stepNew; dsimp only; unfold stepNew.sl.HT_1 w2Of
  rw [View.readAt_rep_full]

theorem stepNew_out (h1 h2 h3) (f) : arg7.view.read (Elt Bits) (arg7.view.writes (Elt Bits) f (stepNew c i arg3 harg3 arg4 harg4 arg5 harg5 arg6 harg6 arg7 harg7 T0 T1 x0 x1 x2 x3 h1 h2 h3).1)
    = outOf c x0 (w13Of c x1 x2) (w2Of c x3) := by
  unfold stepNew; dsimp only; unfold stepNew.sl.HY_1
  rw [View.read_writes_full, View.readAt_rep_full]
  unfold outOf stepNew.sl.v20 stepNew.sl.v28 stepNew.sl.HS_2 stepNew.sl.HT_1 View.readCov w13Of w2Of
  rw [View.readAt_rep_full, View.readAt_rep_full, View.readAt_rep_full]
  try rfl

theorem stepSame_out (h1 h2 h3) (f) : arg7.view.read (Elt Bits) (arg7.view.writes (Elt Bits) f (stepSame c i arg3 harg3 arg4 harg4 arg5 harg5 arg6 harg6 arg7 harg7 T0 T1 x0 x1 x2 x3 a0 a1 h1 h2 h3).1)
    = outOf c x0 a0 a1 := by
  unfold stepSame; dsimp only; unfold stepSame.sl.HY_1
  rw [View.read_writes_full, View.readAt_rep_full]
  try rfl

theorem stepZero_out (h1 h2) (f) : arg7.view.read (Elt Bits) (arg7.view.writes (Elt Bits) f (stepZero c i arg3 harg3 arg4 harg4 arg5 harg5 arg6 harg6 arg7 harg7 T0 T1 x0 x1 x2 x3 a0 a1 h1 h2).1)
    = k0_pay5 (F := Bits) := by
  unfold stepZero; dsimp only; unfold stepZero.sl.HY_1
  rw [View.read_writes_full]
end

/-! ## When a step takes which branch -/

theorem coord_val (t : Fin grid0.N) : (grid0.coords t 0).val = t.val := by revert t; decide +kernel

theorem used_iff (i : grid0.Coords) (v : BitVec 32) : k0_cond1 i v = 1#1 ↔ ((BitVec.ofNat 32 (i 0).val).slt v) = true := by
  unfold k0_cond1
  simp only [Scalar.cmpi, Scalar.extui, IntOp.cmpi]
  cases (BitVec.ofNat 32 (i 0).val).slt v <;> decide

theorem rest_iff (i : grid0.Coords) (v : BitVec 32) : k0_cond3 i v = 1#1 ↔ ¬((BitVec.ofNat 32 (i 0).val).slt v) = true := by
  unfold k0_cond3
  simp only [Scalar.cmpi, Scalar.extui, IntOp.cmpi]
  rw [BitVec.sle_eq_not_slt]
  cases (BitVec.ofNat 32 (i 0).val).slt v <;> decide

theorem slt_iff (n : ℕ) (h : n < 580) (v : BitVec 32) : ((BitVec.ofNat 32 n).slt v) = true ↔ (n : ℤ) < v.toInt := by
  rw [BitVec.slt_iff_toInt_lt, show (BitVec.ofNat 32 n).toInt = (n : ℤ) from by rw [BitVec.toInt_ofNat', Int.bmod_def]; split <;> omega]

/-- A block is used if it comes before the count. -/
theorem used_iff_lt (t : Fin grid0.N) (v : BitVec 32) : k0_cond1 (grid0.coords t) v = 1#1 ↔ (t.val : ℤ) < v.toInt := by
  rw [used_iff, coord_val, slt_iff _ (lt_of_lt_of_eq t.isLt N_0)]

theorem rest_of_used (i : grid0.Coords) (v : BitVec 32) (h : k0_cond1 i v = 1#1) : ¬k0_cond3 i v = 1#1 := by
  rw [rest_iff, not_not, ← used_iff]; exact h

theorem rest_of_not_used (i : grid0.Coords) (v : BitVec 32) (h : ¬k0_cond1 i v = 1#1) : k0_cond3 i v = 1#1 := by
  rw [rest_iff, ← used_iff]; exact h

/-- A step that copies nothing is not the first, and its expert is the one before. -/
theorem old_of_not_new (i : grid0.Coords) (T0 : S580.Idx → Elt Bits .i32) (h : ¬isNew i T0 = 1#1) : (i 0).val ≠ 0 ∧ expHere i T0 = expBefore i T0 := by
  unfold isNew at h
  generalize expHere i T0 = a at *
  generalize expBefore i T0 = b at *
  simp only [Scalar.cmpi, Scalar.extui, Scalar.ori, IntOp.cmpi] at h
  refine ⟨fun e => h ?_, by_contra fun e => h ?_⟩
  · rw [e]; cases (a != b) <;> decide
  · rw [show (a != b) = true from by simpa using e]
    cases (BitVec.ofNat 32 (i 0).val == 0#32) <;> decide

theorem off3_val (t : Fin grid0.N) : k0_off3 (grid0.coords t) 0 = t.val - 1 := by revert t; decide +kernel

/-- The expert a step reads is its entry of the table; -/
theorem expHere_eq (t : Fin grid0.N) (T0 : S580.Idx → Elt Bits .i32) :
    expHere (grid0.coords t) T0 = T0 (ix1 (⟨t.val, lt_of_lt_of_eq t.isLt N_0⟩ : Fin 580)) := by
  refine congrArg T0 (funext fun a => ?_)
  match a with
  | ⟨0, _⟩ =>
    refine Fin.ext ?_
    have h := congrFun (k0_off2_eq (grid0.coords t)) 0
    rw [Matrix.cons_val_zero, coord_val] at h
    exact h

/-- the one before it is the entry before. -/
theorem expBefore_eq (t : Fin grid0.N) (T0 : S580.Idx → Elt Bits .i32) :
    expBefore (grid0.coords t) T0 = T0 (ix1 (⟨t.val - 1, lt_of_le_of_lt (Nat.sub_le _ _) (lt_of_lt_of_eq t.isLt N_0)⟩ : Fin 580)) := by
  refine congrArg T0 (funext fun a => ?_)
  match a with
  | ⟨0, _⟩ => exact Fin.ext (off3_val t)

end Cert.ExpertsOne.Step
-- ==== Proof.ExpertsOneBitsFrame.lean ====
module

public import proofs.«01_k».proof.Proof.ExpertsOneBitsStep
public import Idealize.ShloMosaic.Lib.Pipeline.Quiescent
public import Idealize.ShloMosaic.Lib.Claim
public import Idealize.ShloMosaic.Lib.Affine
public import Idealize.ShloMosaic.PureOps.Ideal
public import Idealize.ShloMosaic.Adequacy
public import Idealize.ShloMosaic.Init

/-! # The experts' call of layer 1: it runs, and what it leaves

For any table of experts below 64 and any positive count of used blocks. After step `t` the scratch buffers hold the
matrices of block `t`'s expert as long as the blocks are used: a step that copies nothing has the expert of the step before
it, so what it finds is its own expert's matrices. -/

@[expose] public section

set_option maxRecDepth 16384
set_option Elab.async false

noncomputable section

namespace Cert.ExpertsOne.Step

open Cert.ExpertsOne Cert.ExpertsOne.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The staging cells' algebra. -/
abbrev EC : Emb (UR sig nD τ) 𝕄 := emb₁

variable (m : (ℓ : Loc nD τ sig) → Buf (Elt Bits) ℓ) (ρ : Dev nD → PrngReg)

/-- The table of experts and the count, as the call finds them. -/
abbrev tabE : S580.Idx → Elt Bits .i32 := m (((0 : Dev nD) : Thread nD τ).loc main_arg1)
abbrev tabN : S1.Idx → Elt Bits .i32 := m (((0 : Dev nD) : Thread nD τ).loc main_arg2)

set_option backward.proofsInPublic true in
/-- Both tables. -/
def tabs : pre0.Contents (Elt Bits) := fun | ⟨0, _⟩ => tabE m | ⟨1, _⟩ => tabN m | ⟨_ + 2, h⟩ => absurd h (by simp)

/-- Every expert is one of the 64, and at least one block is used. -/
def Good : Prop := (∀ x, (tabE m x : BitVec 32).toNat < 64) ∧ ∀ x, 1 ≤ (tabN m x : BitVec 32).toInt

variable {m}

theorem row_index (n : ℕ) (hn : n < 580) (v : BitVec 32) (hv : 1 ≤ v.toInt) :
    (Scalar.minsi (BitVec.ofNat 32 n) (Scalar.subi v 1#32)).toNat ≤ n ∧ ((n : ℤ) < v.toInt → (Scalar.minsi (BitVec.ofNat 32 n) (Scalar.subi v 1#32)).toNat = n) := by
  have e : (v - 1#32).toInt = v.toInt - 1 := by
    have h1 := BitVec.toInt_lt (x := v)
    rw [BitVec.toInt_sub, show (1#32 : BitVec 32).toInt = 1 from rfl, Int.bmod_def]
    split <;> omega
  have ei : (BitVec.ofNat 32 n).toInt = (n : ℤ) := by rw [BitVec.toInt_ofNat', Int.bmod_def]; split <;> omega
  have en : (BitVec.ofNat 32 n).toNat = n := by rw [BitVec.toNat_ofNat]; omega
  have h2 := BitVec.toInt_eq_toNat_cond (v - 1#32)
  have h3 := (v - 1#32).isLt
  show (if ((BitVec.ofNat 32 n).slt (v - 1#32)) = true then BitVec.ofNat 32 n else v - 1#32).toNat ≤ n
    ∧ ((n : ℤ) < v.toInt → (if ((BitVec.ofNat 32 n).slt (v - 1#32)) = true then BitVec.ofNat 32 n else v - 1#32).toNat = n)
  by_cases hs : ((BitVec.ofNat 32 n).slt (v - 1#32)) = true
  · rw [if_pos hs]; omega
  · rw [if_neg hs]
    rw [BitVec.slt_iff_toInt_lt] at hs
    split at h2 <;> omega

theorem rows_block (hg : Good m) (i : grid0.Coords) (a) :
    (cc0_transform_0 inb_S1_S1_0 numel1_S1 (tabs m) i a + 1) * S128x1024.size a ≤ S74240x1024.size a := by
  have hi : (i 0).val < 580 := (i 0).isLt
  have hv := (row_index _ hi ((tabs m).at 1 (Rect.unit (s := S1) ![0] S1.size inb_S1_S1_0) numel1_S1 : BitVec 32) (hg.2 _)).1
  match a with
  | ⟨0, _⟩ =>
    show ((Scalar.minsi (BitVec.ofNat 32 (i 0).val) (Scalar.subi ((tabs m).at 1 (Rect.unit (s := S1) ![0] S1.size inb_S1_S1_0) numel1_S1 : BitVec 32) 1#32)).toNat + 1) * 128 ≤ 74240
    omega
  | ⟨1, _⟩ => exact Nat.le_refl _

theorem w1_block (hg : Good m) (i : grid0.Coords) (a) :
    (cc0_transform_1 k0_off1_inb numel1_S1 (tabs m) i a + 1) * S1x1x1024x256.size a ≤ S2x64x1024x256.size a := by
  have hv : ((tabs m).at 0 (Rect.unit (s := S580) (k0_off1 i) S1.size (k0_off1_inb i)) numel1_S1 : BitVec 32).toNat < 64 := hg.1 _
  match a with
  | ⟨0, _⟩ => show (1 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

theorem w2_block (hg : Good m) (i : grid0.Coords) (a) :
    (cc0_transform_3 k0_off1_inb numel1_S1 (tabs m) i a + 1) * S1x1x256x1024.size a ≤ S2x64x256x1024.size a := by
  have hv : ((tabs m).at 0 (Rect.unit (s := S580) (k0_off1 i) S1.size (k0_off1_inb i)) numel1_S1 : BitVec 32).toNat < 64 := hg.1 _
  match a with
  | ⟨0, _⟩ => show (1 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

/-- Every window's block lies in its array. -/
theorem blocks_ok (hg : Good m) : ok0 (F := Bits) (tabs m) :=
  ⟨fun i => ⟨rows_block hg i, .inl rfl⟩, fun i => ⟨w1_block hg i, .inl rfl⟩, fun i => ⟨w1_block hg i, .inl rfl⟩, fun i => ⟨w2_block hg i, .inl rfl⟩⟩

/-- The tables the pipeline runs at, and the pipeline at them. -/
def admT (hg : Good m) : (pcfg0 (F := Bits)).Adm := ⟨tabs m, blocks_ok hg⟩
abbrev cfgT (hg : Good m) : Pipeline.Cfg sig Λ₀ := cfg0 (F := Bits) (admT hg)
abbrev pinned (hg : Good m) : Fin 1 → Pipeline.Cfg sig Λ₀ := Pipeline.pin (pcfgs (F := Bits)) fun _ => admT hg

variable (hg : Good m)

/-- A step's coordinates and the staging buffers it is handed. -/
abbrev pt (t : Fin (cfgT hg).N) : (cfgT hg).grid.Coords := (cfgT hg).grid.coords t
abbrev g0 (t : Fin (cfgT hg).N) : Memref sig .tc .vmem S128x1024 .f32 := spec0_0.stage ((cfgT hg).slots t (0 : Fin 5))
abbrev g1 (t : Fin (cfgT hg).N) : Memref sig .tc .vmem S1x1x1024x256 .f32 := spec0_1.stage ((cfgT hg).slots t (1 : Fin 5))
abbrev g2 (t : Fin (cfgT hg).N) : Memref sig .tc .vmem S1x1x1024x256 .f32 := spec0_2.stage ((cfgT hg).slots t (2 : Fin 5))
abbrev g3 (t : Fin (cfgT hg).N) : Memref sig .tc .vmem S1x1x256x1024 .f32 := spec0_3.stage ((cfgT hg).slots t (3 : Fin 5))
abbrev g4 (t : Fin (cfgT hg).N) : Memref sig .tc .vmem S128x1024 .f32 := spec0_4.stage ((cfgT hg).slots t (4 : Fin 5))
abbrev wg0 (t : Fin (cfgT hg).N) : (g0 hg t).IsWhole := hstage0_0 (((cfgT hg).slots t (0 : Fin 5)).cast nbuf0_0)
abbrev wg1 (t : Fin (cfgT hg).N) : (g1 hg t).IsWhole := hstage0_1 (((cfgT hg).slots t (1 : Fin 5)).cast nbuf0_1)
abbrev wg2 (t : Fin (cfgT hg).N) : (g2 hg t).IsWhole := hstage0_2 (((cfgT hg).slots t (2 : Fin 5)).cast nbuf0_2)
abbrev wg3 (t : Fin (cfgT hg).N) : (g3 hg t).IsWhole := hstage0_3 (((cfgT hg).slots t (3 : Fin 5)).cast nbuf0_3)
abbrev wg4 (t : Fin (cfgT hg).N) : (g4 hg t).IsWhole := hstage0_4 (((cfgT hg).slots t (4 : Fin 5)).cast nbuf0_4)

/-- Window `w`'s block at step `t`. -/
def blkOf (c : Dev nD) (w : Fin (cfgT hg).W) (t : Fin (cfgT hg).N) : (((cfgT hg).win w).xblock (pt hg t)).Idx → Elt Bits ((cfgT hg).win w).elt :=
  (((cfgT hg).win w).blk t).view.read (Elt Bits) (m (((cfgT hg).win w).arr.view.loc (c : Thread nD τ)))

/-- Whether block `t` is used. -/
abbrev Used (m : (ℓ : Loc nD τ sig) → Buf (Elt Bits) ℓ) (t : Fin grid0.N) : Prop := k0_cond1 (grid0.coords t) (cnt (tabN m)) = 1#1

/-- What the scratch buffers hold after a used step, and what the step leaves in the result's block. -/
def s13 (c : Dev nD) (t : Fin (cfgT hg).N) : Buf (Elt Bits) ((c : Thread nD τ).loc cc0_scratch0) := w13Of c (blkOf hg c (1 : Fin 5) t) (blkOf hg c (2 : Fin 5) t)
def s2 (c : Dev nD) (t : Fin (cfgT hg).N) : Buf (Elt Bits) ((c : Thread nD τ).loc cc0_scratch1) := w2Of c (blkOf hg c (3 : Fin 5) t)
open Classical in
def resOf (c : Dev nD) (t : Fin (cfgT hg).N) : S128x1024.Idx → Elt Bits .f32 :=
  if Used m t then outOf c (blkOf hg c (0 : Fin 5) t) (s13 hg c t) (s2 hg c t) else k0_pay5 (F := Bits)

/-- Before step `t`: the scratch buffers hold the matrices of the block before it, if that one is used; the tables are as found. -/
def Inv (c : Dev nD) (t : Fin ((cfgT hg).N + 1)) : sProp 𝕄 :=
  iprop(∃ a0 a1, ⌜∀ u : Fin (cfgT hg).N, u.val + 1 = t.val → Used m u → a0 = s13 hg c u ∧ a1 = s2 hg c u⌝
    ∗ (w13S.view.loc (c : Thread nD τ) ↦{fullShare} a0) ∗ (w2S.view.loc (c : Thread nD τ) ↦{fullShare} a1)
    ∗ (expT.view.loc (c : Thread nD τ) ↦{fullShare.right} tabE m) ∗ (cntT.view.loc (c : Thread nD τ) ↦{fullShare.right} tabN m))

/-- The pipeline's proof data. -/
def dat (_ : Fin 1) (c : Dev nD) : Dat τ (Elt Bits) Unit ℕ (UR sig nD τ) ℕ (cfgT hg) c where
  A w := m (((cfgT hg).win w).arr.view.loc (c : Thread nD τ))
  after w t := match w with
    | ⟨0, _⟩ => blkOf hg c (0 : Fin 5) t
    | ⟨1, _⟩ => blkOf hg c (1 : Fin 5) t
    | ⟨2, _⟩ => blkOf hg c (2 : Fin 5) t
    | ⟨3, _⟩ => blkOf hg c (3 : Fin 5) t
    | ⟨4, _⟩ => resOf hg c t
  Φ t := Inv hg c t
  q _ := fullShare
  owed _ := 0

theorem after_0 (c : Dev nD) (t : Fin (cfgT hg).N) : (dat hg 0 c).after (0 : Fin 5) t = blkOf hg c (0 : Fin 5) t := rfl
theorem after_1 (c : Dev nD) (t : Fin (cfgT hg).N) : (dat hg 0 c).after (1 : Fin 5) t = blkOf hg c (1 : Fin 5) t := rfl
theorem after_2 (c : Dev nD) (t : Fin (cfgT hg).N) : (dat hg 0 c).after (2 : Fin 5) t = blkOf hg c (2 : Fin 5) t := rfl
theorem after_3 (c : Dev nD) (t : Fin (cfgT hg).N) : (dat hg 0 c).after (3 : Fin 5) t = blkOf hg c (3 : Fin 5) t := rfl
theorem after_4 (c : Dev nD) (t : Fin (cfgT hg).N) : (dat hg 0 c).after (4 : Fin 5) t = resOf hg c t := rfl

theorem before_0 (c : Dev nD) (t : Fin (cfgT hg).N) (d) : (dat hg 0 c).before (0 : Fin 5) t d = blkOf hg c (0 : Fin 5) t :=
  ((dat hg 0 c).before_in_eq_fetched (0 : Fin 5) rfl (fun _ => rfl) (fun _ _ _ => rfl) (fun t => by rw [after_0]; unfold Dat.blockOf blkOf; rfl) t d).trans
    (by unfold Dat.fetched Dat.blockOf blkOf; rfl)
theorem before_1 (c : Dev nD) (t : Fin (cfgT hg).N) (d) : (dat hg 0 c).before (1 : Fin 5) t d = blkOf hg c (1 : Fin 5) t :=
  ((dat hg 0 c).before_in_eq_fetched (1 : Fin 5) rfl (fun _ => rfl) (fun _ _ _ => rfl) (fun t => by rw [after_1]; unfold Dat.blockOf blkOf; rfl) t d).trans
    (by unfold Dat.fetched Dat.blockOf blkOf; rfl)
theorem before_2 (c : Dev nD) (t : Fin (cfgT hg).N) (d) : (dat hg 0 c).before (2 : Fin 5) t d = blkOf hg c (2 : Fin 5) t :=
  ((dat hg 0 c).before_in_eq_fetched (2 : Fin 5) rfl (fun _ => rfl) (fun _ _ _ => rfl) (fun t => by rw [after_2]; unfold Dat.blockOf blkOf; rfl) t d).trans
    (by unfold Dat.fetched Dat.blockOf blkOf; rfl)
theorem before_3 (c : Dev nD) (t : Fin (cfgT hg).N) (d) : (dat hg 0 c).before (3 : Fin 5) t d = blkOf hg c (3 : Fin 5) t :=
  ((dat hg 0 c).before_in_eq_fetched (3 : Fin 5) rfl (fun _ => rfl) (fun _ _ _ => rfl) (fun t => by rw [after_3]; unfold Dat.blockOf blkOf; rfl) t d).trans
    (by unfold Dat.fetched Dat.blockOf blkOf; rfl)

/-- Two steps whose experts agree are handed the same matrices. -/
theorem same_index (t u : Fin (cfgT hg).N) (h : expHere (grid0.coords t) (tabE m) = expHere (grid0.coords u) (tabE m)) :
    ((cfgT hg).win (1 : Fin 5)).index t = ((cfgT hg).win (1 : Fin 5)).index u ∧ ((cfgT hg).win (2 : Fin 5)).index t = ((cfgT hg).win (2 : Fin 5)).index u
      ∧ ((cfgT hg).win (3 : Fin 5)).index t = ((cfgT hg).win (3 : Fin 5)).index u := by
  have e : ∀ t : Fin (cfgT hg).N, (![1, (expHere (grid0.coords t) (tabE m)).toNat, 0, 0] : Fin 4 → ℕ) = ((cfgT hg).win (1 : Fin 5)).index t := fun _ => rfl
  have h' : (![1, (expHere (grid0.coords t) (tabE m)).toNat, 0, 0] : Fin 4 → ℕ) = ![1, (expHere (grid0.coords u) (tabE m)).toNat, 0, 0] := by rw [h]
  exact ⟨h', h', h'⟩

theorem s13_same (c : Dev nD) (t u : Fin (cfgT hg).N) (h : expHere (grid0.coords t) (tabE m) = expHere (grid0.coords u) (tabE m)) : s13 hg c t = s13 hg c u := by
  have h1 : blkOf hg c (1 : Fin 5) t = blkOf hg c (1 : Fin 5) u := by
    rw [← before_1 hg c t (fun _ => Classical.arbitrary _), ← before_1 hg c u (fun _ => Classical.arbitrary _),
      (dat hg 0 c).before_in_eq_fetched (1 : Fin 5) rfl (fun _ => rfl) (fun _ _ _ => rfl) (fun t => by rw [after_1]; unfold Dat.blockOf blkOf; rfl),
      (dat hg 0 c).before_in_eq_fetched (1 : Fin 5) rfl (fun _ => rfl) (fun _ _ _ => rfl) (fun t => by rw [after_1]; unfold Dat.blockOf blkOf; rfl)]
    exact (dat hg 0 c).fetched_congr (1 : Fin 5) (same_index hg t u h).1 rfl _
  have h2 : blkOf hg c (2 : Fin 5) t = blkOf hg c (2 : Fin 5) u := by
    rw [← before_2 hg c t (fun _ => Classical.arbitrary _), ← before_2 hg c u (fun _ => Classical.arbitrary _),
      (dat hg 0 c).before_in_eq_fetched (2 : Fin 5) rfl (fun _ => rfl) (fun _ _ _ => rfl) (fun t => by rw [after_2]; unfold Dat.blockOf blkOf; rfl),
      (dat hg 0 c).before_in_eq_fetched (2 : Fin 5) rfl (fun _ => rfl) (fun _ _ _ => rfl) (fun t => by rw [after_2]; unfold Dat.blockOf blkOf; rfl)]
    exact (dat hg 0 c).fetched_congr (2 : Fin 5) (same_index hg t u h).2.1 rfl _
  unfold s13; rw [h1, h2]

theorem s2_same (c : Dev nD) (t u : Fin (cfgT hg).N) (h : expHere (grid0.coords t) (tabE m) = expHere (grid0.coords u) (tabE m)) : s2 hg c t = s2 hg c u := by
  have h3 : blkOf hg c (3 : Fin 5) t = blkOf hg c (3 : Fin 5) u := by
    rw [← before_3 hg c t (fun _ => Classical.arbitrary _), ← before_3 hg c u (fun _ => Classical.arbitrary _),
      (dat hg 0 c).before_in_eq_fetched (3 : Fin 5) rfl (fun _ => rfl) (fun _ _ _ => rfl) (fun t => by rw [after_3]; unfold Dat.blockOf blkOf; rfl),
      (dat hg 0 c).before_in_eq_fetched (3 : Fin 5) rfl (fun _ => rfl) (fun _ _ _ => rfl) (fun t => by rw [after_3]; unfold Dat.blockOf blkOf; rfl)]
    exact (dat hg 0 c).fetched_congr (3 : Fin 5) (same_index hg t u h).2.2 rfl _
  unfold s2; rw [h3]

/-- A used step that copies nothing finds its own expert's matrices. -/
theorem found (c : Dev nD) (t : Fin (cfgT hg).N) (hu : Used m t) (hn : ¬isNew (grid0.coords t) (tabE m) = 1#1)
    {a0 : Buf (Elt Bits) ((c : Thread nD τ).loc cc0_scratch0)} {a1 : Buf (Elt Bits) ((c : Thread nD τ).loc cc0_scratch1)}
    (ha : ∀ u : Fin (cfgT hg).N, u.val + 1 = t.castSucc.val → Used m u → a0 = s13 hg c u ∧ a1 = s2 hg c u) : a0 = s13 hg c t ∧ a1 = s2 hg c t := by
  obtain ⟨h0, he⟩ := old_of_not_new _ _ hn
  rw [coord_val] at h0
  have hlt : t.val - 1 < (cfgT hg).N := lt_of_le_of_lt (Nat.sub_le _ _) t.isLt
  have hu' : Used m ⟨t.val - 1, hlt⟩ := by
    have := (used_iff_lt t _).1 hu
    refine (used_iff_lt (⟨t.val - 1, hlt⟩ : Fin grid0.N) _).2 ?_
    show ((t.val - 1 : ℕ) : ℤ) < _
    omega
  have hs : expHere (grid0.coords (⟨t.val - 1, hlt⟩ : Fin grid0.N)) (tabE m) = expHere (grid0.coords t) (tabE m) := by
    rw [he, expHere_eq, expBefore_eq]
  obtain ⟨e0, e1⟩ := ha ⟨t.val - 1, hlt⟩ (by show t.val - 1 + 1 = t.val; omega) hu'
  exact ⟨e0.trans (s13_same hg c _ _ hs), e1.trans (s2_same hg c _ _ hs)⟩

/-- No step leaves the result's block untouched. -/
theorem never_idle (t : Fin (cfgT hg).N) : (cfgT hg).idle (4 : Fin 5) ((cfgT hg).grid.coords t) = false := by
  have e : (cfgT hg).idle (4 : Fin 5) ((cfgT hg).grid.coords t)
      = (!(k0_cond1 (grid0.coords t) ((tabs m).atD 1 ![0]) == 1#1) && !(k0_cond3 (grid0.coords t) ((tabs m).atD 1 ![0]) == 1#1)) := rfl
  rw [e]
  by_cases h : k0_cond1 (grid0.coords t) ((tabs m).atD 1 ![0]) = 1#1
  · rw [h]; rfl
  · rw [rest_of_not_used _ _ h]; simp

/-- The step as the pipeline calls it. -/
abbrev bodyOf (t : Fin (cfgT hg).N) : Prog (TpuEff nD τ sig (Elt Bits) Λ₀ .tc) PUnit :=
  cc0_moe_experts (pt hg t) expT (Memref.isWhole_whole _) cntT (Memref.isWhole_whole _) (g0 hg t) (wg0 hg t) (g1 hg t) (wg1 hg t) (g2 hg t) (wg2 hg t) (g3 hg t) (wg3 hg t) (g4 hg t) (wg4 hg t) w13S (Memref.isWhole_whole _) w2S (Memref.isWhole_whole _)

set_option maxHeartbeats 4000000 in
/-- Every step keeps the invariant and leaves its block of the result. -/
theorem body_ok (c : Dev nD) (t : Fin (cfgT hg).N) :
    iprop((dat hg 0 c).Φ t.castSucc ∗ (dat hg 0 c).owesAt () t.castSucc
        ∗ (∃ d, owns (c : Thread nD τ) (g0 hg t) fullShare ((dat hg 0 c).before (0 : Fin 5) t d))
        ∗ (∃ d, owns (c : Thread nD τ) (g1 hg t) fullShare ((dat hg 0 c).before (1 : Fin 5) t d))
        ∗ (∃ d, owns (c : Thread nD τ) (g2 hg t) fullShare ((dat hg 0 c).before (2 : Fin 5) t d))
        ∗ (∃ d, owns (c : Thread nD τ) (g3 hg t) fullShare ((dat hg 0 c).before (3 : Fin 5) t d))
        ∗ (∃ d, owns (c : Thread nD τ) (g4 hg t) fullShare ((dat hg 0 c).before (4 : Fin 5) t d)))
      ⊢ wp frame (wpE (defs₀ (F := Bits)) Variants.none c none) Set.univ (bodyOf hg t) fun _ =>
          iprop((dat hg 0 c).Φ t.succ ∗ (dat hg 0 c).owesAt () t.succ
            ∗ bigSep Finset.univ fun w : Fin (cfgT hg).W =>
                match (cfgT hg).idle w ((cfgT hg).grid.coords t) with
                | true =>
                  match ((cfgT hg).win w).flush t with
                  | false => iprop(∃ d, owns (c : Thread nD τ) (((cfgT hg).win w).stage ((cfgT hg).slots t w)) fullShare ((dat hg 0 c).before w t d))
                  | true => owns (c : Thread nD τ) (((cfgT hg).win w).stage ((cfgT hg).slots t w)) fullShare ((dat hg 0 c).after w t)
                | false => owns (c : Thread nD τ) (((cfgT hg).win w).stage ((cfgT hg).slots t w)) fullShare ((dat hg 0 c).after w t)) := by
  obtain rfl : c = 0 := Subsingleton.elim _ _
  rw [bigSep_W0]
  rewrite [never_idle hg t]
  simp only [before_0, before_1, before_2, before_3, after_0, after_1, after_2, after_3, after_4]
  rewrite [show (dat hg 0 0).Φ t.succ = Inv hg 0 t.succ from rfl, show (dat hg 0 0).Φ t.castSucc = Inv hg 0 t.castSucc from rfl,
    show (dat hg 0 0).owesAt () t.succ = (dat hg 0 0).owesAt () t.castSucc from rfl]
  unfold Inv
  iintro ⟨⟨%a0, %a1, %ha, HS, HT, HE, HN⟩, Ho, ⟨%d0, H0⟩, ⟨%d1, H1⟩, ⟨%d2, H2⟩, ⟨%d3, H3⟩, ⟨%d4, H4⟩⟩
  by_cases hu : Used m t
  · by_cases hn : isNew (grid0.coords t) (tabE m) = 1#1
    · iapply ((stepNew 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) hu hn (rest_of_used _ _ hu)).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact ⟨stepNew_w13 .., stepNew_w2 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu]; exact stepNew_out ..
    · iapply ((stepSame 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu hn (rest_of_used _ _ hu)).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact found hg 0 u hu hn ha
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu, ← (found hg 0 t hu hn ha).1, ← (found hg 0 t hu hn ha).2]; exact stepSame_out ..
  · iapply ((stepZero 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu (rest_of_not_used _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HE]; · iexact HE
    isplitl [HN]; · iexact HN
    isplitl [H4]; · iexists _; iexact H4
    isplitl [HS]; · iexact HS
    isplitl [HT]; · iexact HT
    iintro ⟨H0, H1, H2, H3, HE, HN, ⟨%e4, H4⟩, HS, HT⟩
    isplitl [HS HT HE HN]
    · iexists _; iexists _; isplitr; swap
      · isplitl [HS]; · iexact HS
        isplitl [HT]; · iexact HT
        isplitl [HE]; · iexact HE
        iexact HN
      · ipureintro; intro u huv hu'
        obtain rfl : u = t := Fin.ext (by simpa using huv)
        exact absurd hu' hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; unfold resOf; rw [if_neg hu]; exact stepZero_out ..

theorem body_all (c : Dev nD) : BodyObligation (dat hg 0 c) (defs₀ (F := Bits)) Variants.none () Set.univ := fun t => by
  rw [bigSep_W0]
  exact body_ok hg c t

/-! ## The run -/

/-- The staging cells' first element. -/
def cells0 : UR sig nD τ :=
  initOf (Pipeline.cells (pinned hg) ((launch0 (F := Bits)).cellOf_inj fun _ => admT hg))
    (Pipeline.launchToks (pinned hg) ((launch0 (F := Bits)).cellOf_inj fun _ => admT hg))

theorem share_full (c : Dev nD) (w : Fin (cfgT hg).W) : (dat hg 0 c).share w = fullShare := by unfold Dat.share; split <;> rfl

theorem tabs_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = {(0 : Fin 2), (1 : Fin 2)} from by decide, bigSep_insert (by decide), bigSep_singleton]
  rfl

theorem inv_first (c : Dev nD) :
    iprop(BI.emp ∗ Pipeline.prefHeld pre0 c (fun _ => fullShare.right) (admT hg).1 ∗ Pipeline.scopedRest spec0 c) ⊢ (dat hg 0 c).Φ 0 := by
  rw [tabs_held, scopedRest0_eq, show (dat hg 0 c).Φ 0 = Inv hg c 0 from rfl]
  unfold Inv
  iintro ⟨-, ⟨HE, HN⟩, ⟨%a0, HS⟩, ⟨%a1, HT⟩⟩
  iexists a0; iexists a1
  isplitr
  · ipureintro; intro u hu; exact absurd hu (Nat.succ_ne_zero _)
  isplitl [HS]; · iexact HS
  isplitl [HT]; · iexact HT
  isplitl [HE]; · iexact HE
  iexact HN

theorem inv_last (c : Dev nD) : (dat hg 0 c).Φ (Fin.last (cfgT hg).N) ⊢ iprop(BI.emp ∗ Pipeline.scopedRest spec0 c) := by
  rw [scopedRest0_eq, show (dat hg 0 c).Φ (Fin.last (cfgT hg).N) = Inv hg c (Fin.last _) from rfl]
  unfold Inv
  iintro ⟨%a0, %a1, -, HS, HT, -, -⟩
  isplitr; · iempintro
  isplitl [HS]
  · iexists a0; iexact HS
  iexists a1; iexact HT

/-- What the run ends with: each array as the steps leave it, the tables as found. -/
def Ends : PUnit × MemSt nD τ sig (Elt Bits) → Prop := fun r =>
  ∀ c : Dev nD, (∀ w : Fin (cfgT hg).W, r.2.mem (((cfgT hg).win w).arr.view.loc (c : Thread nD τ)) = (dat hg 0 c).arrAt w (cfgT hg).N)
    ∧ ∀ j, r.2.mem ((c : Thread nD τ).loc (pre0.ref j)) = (admT hg).1 j

theorem tabs_of (c : Dev nD) (j : Fin 2) : m ((c : Thread nD τ).loc (pre0.ref j)) = (admT hg).1 j := by
  obtain rfl : c = 0 := Subsingleton.elim _ _
  fin_cases j <;> rfl

set_option backward.isDefEq.respectTransparency.types false in
set_option maxHeartbeats 4000000 in
theorem run_ends : θ_run (defs (F := Bits)) (onTc (τ := τ) (main (F := Bits))) (s₀ m ρ) (fun r => Ends hg r ∧ r.2.sem = fun _ => 0) :=
  Pipeline.θ_run_region_noSem_pf_quiescent pcfgs (fun _ => admT hg) (dat hg) () ((launch0 (F := Bits)).cellOf_inj fun _ => admT hg) (0 : Fin 1)
    (launch0 (F := Bits)).win.to₀ (launch0 (F := Bits)).pre EC defs₀ Variants.none m ρ main
    (hbody := fun c => (body_all hg c).loose) (hne := (launch0 (F := Bits)).block_pos)
    (harr := (launch0 (F := Bits)).arr_whole) (hstage := (launch0 (F := Bits)).stage_whole) (howed := fun _ _ => rfl)
    (u₀ := cells0 hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned hg) (dat hg) 0 (launch0 (F := Bits)).win.arr_inj c (launch0 (F := Bits)).arr_whole
      (share_full hg c) _ _ fun _ => rfl)
    (hpf := tabs_of hg)
    (X := fun _ => iprop(emp)) (Y := fun _ => iprop(emp)) (Z := fun _ => iprop(emp))
    (hX := fun c => by rw [unscopedRestP0_eq]; iintro -; isplitr <;> iempintro)
    (hin := inv_first hg)
    (hout := inv_last hg)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hg in
/-- The arguments end as they were and every counter at zero. -/
theorem args_kept : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 (0 : Fin 5)).trans ((dat hg 0 c).arrAt_in (0 : Fin 5) rfl _),
    ((h.1 c).2 0).trans (tabs_of hg c 0).symm, ((h.1 c).2 1).trans (tabs_of hg c 1).symm,
    ((h.1 c).1 (1 : Fin 5)).trans ((dat hg 0 c).arrAt_in (1 : Fin 5) rfl _),
    ((h.1 c).1 (2 : Fin 5)).trans ((dat hg 0 c).arrAt_in (2 : Fin 5) rfl _),
    ((h.1 c).1 (3 : Fin 5)).trans ((dat hg 0 c).arrAt_in (3 : Fin 5) rfl _)⟩, h.2⟩) (run_ends ρ hg)

end Cert.ExpertsOne.Step
-- ==== Proof.ExpertsOneStep.lean ====
module

public import proofs.«01_k».proof.Defs
public import proofs.«01_k».proof.Proof.Gen.ExpertsOneIdeal
public import proofs.«01_k».proof.Proof.Gen.ExpertsOneIdeal.Launch
public import proofs.«01_k».proof.Proof.Gen.ExpertsOneIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Pointwise.Index
public import Idealize.ShloMosaic.Lib.Tactic

/-! # One step of the experts' call of layer 1, by the branch it takes

A step whose block is used and whose expert is new first copies the expert's three matrices to scratch (`stepNew`); a used
block with the expert of the block before it takes the matrices as they lie in scratch (`stepSame`); an unused block is
filled with zeros (`stepZero`). Each says what the step leaves. -/

@[expose] public section
set_option maxRecDepth 16384

noncomputable section

namespace Cert.ExpertsOneIdeal.Step

open Cert.ExpertsOneIdeal Cert.ExpertsOneIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The table of experts, the number of used blocks, and the two scratch buffers. -/
noncomputable abbrev expT : Memref sig .tc .smem S580 .i32 := Memref.whole main_arg1
noncomputable abbrev cntT : Memref sig .tc .smem S1 .i32 := Memref.whole main_arg2
noncomputable abbrev w13S : Memref sig .tc .vmem S1024x512 .bf16 := Memref.whole cc0_scratch0
noncomputable abbrev w2S : Memref sig .tc .vmem S256x1024 .bf16 := Memref.whole cc0_scratch1

/-- The number of used blocks, the expert of this block and of the one before it, as the step reads them. -/
noncomputable abbrev cnt (T1 : S1.Idx → Elt Ideal .i32) : BitVec 32 :=
  View.readAt (Elt Ideal) cntT.view (Rect.unit (s := S1) ![0] S1.size inb_S1_S1_0).toLoadRect T1 (Shape.Idx.first (numel1_S1.symm ▸ Nat.one_pos))
noncomputable abbrev expHere (i : grid0.Coords) (T0 : S580.Idx → Elt Ideal .i32) : BitVec 32 :=
  View.readAt (Elt Ideal) expT.view (Rect.unit (s := S580) (k0_off2 i) S1.size (k0_off2_inb i)).toLoadRect T0 (Shape.Idx.first (numel1_S1.symm ▸ Nat.one_pos))
noncomputable abbrev expBefore (i : grid0.Coords) (T0 : S580.Idx → Elt Ideal .i32) : BitVec 32 :=
  View.readAt (Elt Ideal) expT.view (Rect.unit (s := S580) (k0_off3 i) S1.size (k0_off3_inb i)).toLoadRect T0 (Shape.Idx.first (numel1_S1.symm ▸ Nat.one_pos))
/-- Whether the matrices are to be copied. -/
noncomputable abbrev isNew (i : grid0.Coords) (T0 : S580.Idx → Elt Ideal .i32) : BitVec 1 :=
  Scalar.cmpi .ne (Scalar.extui (Scalar.ori (Scalar.cmpi .eq (BitVec.ofNat 32 (i 0).val) 0#32) (Scalar.cmpi .ne (expHere i T0) (expBefore i T0)))) 0#32

set_option backward.proofsInPublic true in
set_option maxHeartbeats 8000000 in
/-- A used block whose expert is new. -/
noncomputable def stepNew (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32)
    (used : k0_cond1 i (cnt T1) = 1#1) (new : isNew i T0 = 1#1) (rest : ¬k0_cond3 i (cnt T1) = 1#1) :
    Σ' (out : List (View.Piece (Elt Ideal) S128x1024 .f32)) (s0 : Buf (Elt Ideal) ((c : Thread nD τ).loc cc0_scratch0)), { s1 : Buf (Elt Ideal) ((c : Thread nD τ).loc cc0_scratch1) //
      ∀ (a0 : Buf (Elt Ideal) ((c : Thread nD τ).loc cc0_scratch0)) (a1 : Buf (Elt Ideal) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Ideal) f out)
              ∗ (w13S.view.loc (c : Thread nD τ) ↦{fullShare} s0)
              ∗ (w2S.view.loc (c : Thread nD τ) ↦{fullShare} s1)) -∗ K ⟨⟩))
          ⊢ wp frame (wpE (defs₀ (F := Ideal)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, _, _, fun a0 a1 K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = Scalar.cmpi = _; exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- A used block whose expert is the one before it. -/
noncomputable def stepSame (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32) (a0 : Buf (Elt Ideal) ((c : Thread nD τ).loc cc0_scratch0)) (a1 : Buf (Elt Ideal) ((c : Thread nD τ).loc cc0_scratch1))
    (used : k0_cond1 i (cnt T1) = 1#1) (new : ¬isNew i T0 = 1#1) (rest : ¬k0_cond3 i (cnt T1) = 1#1) :
    { out : List (View.Piece (Elt Ideal) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Ideal) f out)
              ∗ (w13S.view.loc (c : Thread nD τ) ↦{fullShare} a0)
              ∗ (w2S.view.loc (c : Thread nD τ) ↦{fullShare} a1)) -∗ K ⟨⟩))
          ⊢ wp frame (wpE (defs₀ (F := Ideal)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = k0_cond1 _ _ = _; exact used) | (guard_target = ¬(Scalar.cmpi = _); exact new) | (guard_target = ¬(k0_cond3 _ _ = _); exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

set_option backward.proofsInPublic true in
set_option maxHeartbeats 8000000 in
/-- An unused block. -/
noncomputable def stepZero (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32) (a0 : Buf (Elt Ideal) ((c : Thread nD τ).loc cc0_scratch0)) (a1 : Buf (Elt Ideal) ((c : Thread nD τ).loc cc0_scratch1))
    (used : ¬k0_cond1 i (cnt T1) = 1#1) (rest : k0_cond3 i (cnt T1) = 1#1) :
    { out : List (View.Piece (Elt Ideal) S128x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (expT.view.loc (c : Thread nD τ) ↦{fullShare.right} T0)
          ∗ (cntT.view.loc (c : Thread nD τ) ↦{fullShare.right} T1)
          ∗ (∃ d, owns (c : Thread nD τ) arg7 fullShare d)
          ∗ (w13S.view.loc (c : Thread nD τ) ↦{fullShare} a0)
          ∗ (w2S.view.loc (c : Thread nD τ) ↦{fullShare} a1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (expT.view.loc (c : Thread nD τ) ↦{fullShare.right} T0)
              ∗ (cntT.view.loc (c : Thread nD τ) ↦{fullShare.right} T1)
              ∗ (∃ f, arg7.view.loc (c : Thread nD τ) ↦[arg7.view.set]{fullShare} arg7.view.writes (Elt Ideal) f out)
              ∗ (w13S.view.loc (c : Thread nD τ) ↦{fullShare} a0)
              ∗ (w2S.view.loc (c : Thread nD τ) ↦{fullShare} a1)) -∗ K ⟨⟩))
          ⊢ wp frame (wpE (defs₀ (F := Ideal)) Variants.none c none) Set.univ (cc0_moe_experts i expT (Memref.isWhole_whole _) cntT (Memref.isWhole_whole _) arg3 harg3 arg4 harg4 arg5 harg5 arg6 harg6 arg7 harg7 w13S (Memref.isWhole_whole _) w2S (Memref.isWhole_whole _)) K } :=
  ⟨_, fun K => by
    unfold owns
    rw [cc0_moe_experts_eq_skeleton]; unfold cc0_moe_experts_skel
    iintro ⟨HX, HA, HB, HC, HE, HN, ⟨%d, %f, -, HY⟩, HS, HT, Hk⟩
    have wS : w13S.IsWhole := Memref.isWhole_whole _
    have wT : w2S.IsWhole := Memref.isWhole_whole _
    have wE : expT.IsWhole := Memref.isWhole_whole _
    have wN : cntT.IsWhole := Memref.isWhole_whole _
    sl_exec! (disch := first | (guard_target = ¬(k0_cond1 _ _ = _); exact used) | (guard_target = k0_cond3 _ _ = _; exact rest))
    sl_step
    iapply Hk
    isplitl [HX]; · iexact HX
    isplitl [HA]; · iexact HA
    isplitl [HB]; · iexact HB
    isplitl [HC]; · iexact HC
    isplitl [HE]; · iexact HE
    isplitl [HN]; · iexact HN
    isplitl [HY]; · iexists _; iexact HY
    isplitl [HS]; · iexact HS
    iexact HT⟩

/-! ## What the steps leave -/

/-- The first scratch buffer once an expert's two input matrices are copied: `w1` on its left half, `w3` on its right. -/
noncomputable def w13Of (c : Dev nD) (x1 x2 : S1x1x1024x256.Idx → Elt Ideal .f32) : Buf (Elt Ideal) ((c : Thread nD τ).loc cc0_scratch0) :=
  (View.whole cc0_scratch0).writes (Elt Ideal) (View.whole cc0_scratch0).junk
    [⟨Rect.unit ![0, 256] S1024x256.size inb_S1024x512_S1024x256_0_256, k0_pay2 x2⟩, ⟨Rect.unit ![0, 0] S1024x256.size inb_S1024x512_S1024x256_0_0, k0_pay1 x1⟩]

/-- The second scratch buffer once the expert's output matrix is copied. -/
noncomputable def w2Of (c : Dev nD) (x3 : S1x1x256x1024.Idx → Elt Ideal .f32) : Buf (Elt Ideal) ((c : Thread nD τ).loc cc0_scratch1) :=
  (View.whole cc0_scratch1).writes (Elt Ideal) (View.whole cc0_scratch1).junk [⟨Rect.unit ![0, 0] S256x1024.size inb_S256x1024_S256x1024_0_0, k0_pay3 x3⟩]

/-- The block of results computed from rows and scratch contents. -/
noncomputable def outOf (c : Dev nD) (x0 : S128x1024.Idx → Elt Ideal .f32) (a0 : Buf (Elt Ideal) ((c : Thread nD τ).loc cc0_scratch0))
    (a1 : Buf (Elt Ideal) ((c : Thread nD τ).loc cc0_scratch1)) : S128x1024.Idx → Elt Ideal .f32 :=
  k0_pay4 x0 (View.readAt (Elt Ideal) w13S.view (Rect.unit (s := S1024x512) ![0, 0] S1024x512.size inb_S1024x512_S1024x512_0_0).toLoadRect a0)
    (View.readAt (Elt Ideal) w2S.view (Rect.unit (s := S256x1024) ![0, 0] S256x1024.size inb_S256x1024_S256x1024_0_0).toLoadRect a1)

section
variable (c : Dev nD) (i : grid0.Coords)
    (arg3 : Memref sig .tc .vmem S128x1024 .f32) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S128x1024 .f32) (harg7 : arg7.IsWhole) (T0 : S580.Idx → Elt Ideal .i32) (T1 : S1.Idx → Elt Ideal .i32)
    (x0 : S128x1024.Idx → Elt Ideal .f32) (x1 x2 : S1x1x1024x256.Idx → Elt Ideal .f32) (x3 : S1x1x256x1024.Idx → Elt Ideal .f32)
    (a0 : Buf (Elt Ideal) ((c : Thread nD τ).loc cc0_scratch0)) (a1 : Buf (Elt Ideal) ((c : Thread nD τ).loc cc0_scratch1))

theorem stepNew_w13 (h1 h2 h3) : (stepNew c i arg3 harg3 arg4 harg4 arg5 harg5 arg6 harg6 arg7 harg7 T0 T1 x0 x1 x2 x3 h1 h2 h3).2.1 = w13Of c x1 x2 := by
  unfold stepNew; dsimp only; unfold stepNew.sl.HS_2 w13Of
  rw [View.readAt_rep_full, View.readAt_rep_full]

theorem stepNew_w2 (h1 h2 h3) : (stepNew c i arg3 harg3 arg4 harg4 arg5 harg5 arg6 harg6 arg7 harg7 T0 T1 x0 x1 x2 x3 h1 h2 h3).2.2.1 = w2Of c x3 := by
  unfold stepNew; dsimp only; unfold stepNew.sl.HT_1 w2Of
  rw [View.readAt_rep_full]

theorem stepNew_out (h1 h2 h3) (f) : arg7.view.read (Elt Ideal) (arg7.view.writes (Elt Ideal) f (stepNew c i arg3 harg3 arg4 harg4 arg5 harg5 arg6 harg6 arg7 harg7 T0 T1 x0 x1 x2 x3 h1 h2 h3).1)
    = outOf c x0 (w13Of c x1 x2) (w2Of c x3) := by
  unfold stepNew; dsimp only; unfold stepNew.sl.HY_1
  rw [View.read_writes_full, View.readAt_rep_full]
  unfold outOf stepNew.sl.v20 stepNew.sl.v28 stepNew.sl.HS_2 stepNew.sl.HT_1 View.readCov w13Of w2Of
  rw [View.readAt_rep_full, View.readAt_rep_full, View.readAt_rep_full]
  try rfl

theorem stepSame_out (h1 h2 h3) (f) : arg7.view.read (Elt Ideal) (arg7.view.writes (Elt Ideal) f (stepSame c i arg3 harg3 arg4 harg4 arg5 harg5 arg6 harg6 arg7 harg7 T0 T1 x0 x1 x2 x3 a0 a1 h1 h2 h3).1)
    = outOf c x0 a0 a1 := by
  unfold stepSame; dsimp only; unfold stepSame.sl.HY_1
  rw [View.read_writes_full, View.readAt_rep_full]
  try rfl

theorem stepZero_out (h1 h2) (f) : arg7.view.read (Elt Ideal) (arg7.view.writes (Elt Ideal) f (stepZero c i arg3 harg3 arg4 harg4 arg5 harg5 arg6 harg6 arg7 harg7 T0 T1 x0 x1 x2 x3 a0 a1 h1 h2).1)
    = k0_pay5 (F := Ideal) := by
  unfold stepZero; dsimp only; unfold stepZero.sl.HY_1
  rw [View.read_writes_full]
end

/-! ## When a step takes which branch -/

theorem coord_val (t : Fin grid0.N) : (grid0.coords t 0).val = t.val := by revert t; decide +kernel

theorem used_iff (i : grid0.Coords) (v : BitVec 32) : k0_cond1 i v = 1#1 ↔ ((BitVec.ofNat 32 (i 0).val).slt v) = true := by
  unfold k0_cond1
  simp only [Scalar.cmpi, Scalar.extui, IntOp.cmpi]
  cases (BitVec.ofNat 32 (i 0).val).slt v <;> decide

theorem rest_iff (i : grid0.Coords) (v : BitVec 32) : k0_cond3 i v = 1#1 ↔ ¬((BitVec.ofNat 32 (i 0).val).slt v) = true := by
  unfold k0_cond3
  simp only [Scalar.cmpi, Scalar.extui, IntOp.cmpi]
  rw [BitVec.sle_eq_not_slt]
  cases (BitVec.ofNat 32 (i 0).val).slt v <;> decide

theorem slt_iff (n : ℕ) (h : n < 580) (v : BitVec 32) : ((BitVec.ofNat 32 n).slt v) = true ↔ (n : ℤ) < v.toInt := by
  rw [BitVec.slt_iff_toInt_lt, show (BitVec.ofNat 32 n).toInt = (n : ℤ) from by rw [BitVec.toInt_ofNat', Int.bmod_def]; split <;> omega]

/-- A block is used if it comes before the count. -/
theorem used_iff_lt (t : Fin grid0.N) (v : BitVec 32) : k0_cond1 (grid0.coords t) v = 1#1 ↔ (t.val : ℤ) < v.toInt := by
  rw [used_iff, coord_val, slt_iff _ (lt_of_lt_of_eq t.isLt N_0)]

theorem rest_of_used (i : grid0.Coords) (v : BitVec 32) (h : k0_cond1 i v = 1#1) : ¬k0_cond3 i v = 1#1 := by
  rw [rest_iff, not_not, ← used_iff]; exact h

theorem rest_of_not_used (i : grid0.Coords) (v : BitVec 32) (h : ¬k0_cond1 i v = 1#1) : k0_cond3 i v = 1#1 := by
  rw [rest_iff, ← used_iff]; exact h

/-- A step that copies nothing is not the first, and its expert is the one before. -/
theorem old_of_not_new (i : grid0.Coords) (T0 : S580.Idx → Elt Ideal .i32) (h : ¬isNew i T0 = 1#1) : (i 0).val ≠ 0 ∧ expHere i T0 = expBefore i T0 := by
  unfold isNew at h
  generalize expHere i T0 = a at *
  generalize expBefore i T0 = b at *
  simp only [Scalar.cmpi, Scalar.extui, Scalar.ori, IntOp.cmpi] at h
  refine ⟨fun e => h ?_, by_contra fun e => h ?_⟩
  · rw [e]; cases (a != b) <;> decide
  · rw [show (a != b) = true from by simpa using e]
    cases (BitVec.ofNat 32 (i 0).val == 0#32) <;> decide

theorem off3_val (t : Fin grid0.N) : k0_off3 (grid0.coords t) 0 = t.val - 1 := by revert t; decide +kernel

/-- The expert a step reads is its entry of the table; -/
theorem expHere_eq (t : Fin grid0.N) (T0 : S580.Idx → Elt Ideal .i32) :
    expHere (grid0.coords t) T0 = T0 (ix1 (⟨t.val, lt_of_lt_of_eq t.isLt N_0⟩ : Fin 580)) := by
  refine congrArg T0 (funext fun a => ?_)
  match a with
  | ⟨0, _⟩ =>
    refine Fin.ext ?_
    have h := congrFun (k0_off2_eq (grid0.coords t)) 0
    rw [Matrix.cons_val_zero, coord_val] at h
    exact h

/-- the one before it is the entry before. -/
theorem expBefore_eq (t : Fin grid0.N) (T0 : S580.Idx → Elt Ideal .i32) :
    expBefore (grid0.coords t) T0 = T0 (ix1 (⟨t.val - 1, lt_of_le_of_lt (Nat.sub_le _ _) (lt_of_lt_of_eq t.isLt N_0)⟩ : Fin 580)) := by
  refine congrArg T0 (funext fun a => ?_)
  match a with
  | ⟨0, _⟩ => exact Fin.ext (off3_val t)

end Cert.ExpertsOneIdeal.Step
-- ==== Proof.ExpertsOneFrame.lean ====
module

public import proofs.«01_k».proof.Proof.ExpertsOneStep
public import Idealize.ShloMosaic.Lib.Pipeline.Quiescent
public import Idealize.ShloMosaic.Lib.Claim
public import Idealize.ShloMosaic.Lib.Affine
public import Idealize.ShloMosaic.PureOps.Ideal
public import Idealize.ShloMosaic.Adequacy
public import Idealize.ShloMosaic.Init

/-! # The experts' call of layer 1: it runs, and what it leaves

For any table of experts below 64 and any positive count of used blocks. After step `t` the scratch buffers hold the
matrices of block `t`'s expert as long as the blocks are used: a step that copies nothing has the expert of the step before
it, so what it finds is its own expert's matrices. -/

@[expose] public section

set_option maxRecDepth 16384
set_option Elab.async false

noncomputable section

namespace Cert.ExpertsOneIdeal.Step

open Cert.ExpertsOneIdeal Cert.ExpertsOneIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The staging cells' algebra. -/
abbrev EC : Emb (UR sig nD τ) 𝕄 := emb₁

variable (m : (ℓ : Loc nD τ sig) → Buf (Elt Ideal) ℓ) (ρ : Dev nD → PrngReg)

/-- The table of experts and the count, as the call finds them. -/
abbrev tabE : S580.Idx → Elt Ideal .i32 := m (((0 : Dev nD) : Thread nD τ).loc main_arg1)
abbrev tabN : S1.Idx → Elt Ideal .i32 := m (((0 : Dev nD) : Thread nD τ).loc main_arg2)

set_option backward.proofsInPublic true in
/-- Both tables. -/
def tabs : pre0.Contents (Elt Ideal) := fun | ⟨0, _⟩ => tabE m | ⟨1, _⟩ => tabN m | ⟨_ + 2, h⟩ => absurd h (by simp)

/-- Every expert is one of the 64, and at least one block is used. -/
def Good : Prop := (∀ x, (tabE m x : BitVec 32).toNat < 64) ∧ ∀ x, 1 ≤ (tabN m x : BitVec 32).toInt

variable {m}

theorem row_index (n : ℕ) (hn : n < 580) (v : BitVec 32) (hv : 1 ≤ v.toInt) :
    (Scalar.minsi (BitVec.ofNat 32 n) (Scalar.subi v 1#32)).toNat ≤ n ∧ ((n : ℤ) < v.toInt → (Scalar.minsi (BitVec.ofNat 32 n) (Scalar.subi v 1#32)).toNat = n) := by
  have e : (v - 1#32).toInt = v.toInt - 1 := by
    have h1 := BitVec.toInt_lt (x := v)
    rw [BitVec.toInt_sub, show (1#32 : BitVec 32).toInt = 1 from rfl, Int.bmod_def]
    split <;> omega
  have ei : (BitVec.ofNat 32 n).toInt = (n : ℤ) := by rw [BitVec.toInt_ofNat', Int.bmod_def]; split <;> omega
  have en : (BitVec.ofNat 32 n).toNat = n := by rw [BitVec.toNat_ofNat]; omega
  have h2 := BitVec.toInt_eq_toNat_cond (v - 1#32)
  have h3 := (v - 1#32).isLt
  show (if ((BitVec.ofNat 32 n).slt (v - 1#32)) = true then BitVec.ofNat 32 n else v - 1#32).toNat ≤ n
    ∧ ((n : ℤ) < v.toInt → (if ((BitVec.ofNat 32 n).slt (v - 1#32)) = true then BitVec.ofNat 32 n else v - 1#32).toNat = n)
  by_cases hs : ((BitVec.ofNat 32 n).slt (v - 1#32)) = true
  · rw [if_pos hs]; omega
  · rw [if_neg hs]
    rw [BitVec.slt_iff_toInt_lt] at hs
    split at h2 <;> omega

theorem rows_block (hg : Good m) (i : grid0.Coords) (a) :
    (cc0_transform_0 inb_S1_S1_0 numel1_S1 (tabs m) i a + 1) * S128x1024.size a ≤ S74240x1024.size a := by
  have hi : (i 0).val < 580 := (i 0).isLt
  have hv := (row_index _ hi ((tabs m).at 1 (Rect.unit (s := S1) ![0] S1.size inb_S1_S1_0) numel1_S1 : BitVec 32) (hg.2 _)).1
  match a with
  | ⟨0, _⟩ =>
    show ((Scalar.minsi (BitVec.ofNat 32 (i 0).val) (Scalar.subi ((tabs m).at 1 (Rect.unit (s := S1) ![0] S1.size inb_S1_S1_0) numel1_S1 : BitVec 32) 1#32)).toNat + 1) * 128 ≤ 74240
    omega
  | ⟨1, _⟩ => exact Nat.le_refl _

theorem w1_block (hg : Good m) (i : grid0.Coords) (a) :
    (cc0_transform_1 k0_off1_inb numel1_S1 (tabs m) i a + 1) * S1x1x1024x256.size a ≤ S2x64x1024x256.size a := by
  have hv : ((tabs m).at 0 (Rect.unit (s := S580) (k0_off1 i) S1.size (k0_off1_inb i)) numel1_S1 : BitVec 32).toNat < 64 := hg.1 _
  match a with
  | ⟨0, _⟩ => show (1 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

theorem w2_block (hg : Good m) (i : grid0.Coords) (a) :
    (cc0_transform_3 k0_off1_inb numel1_S1 (tabs m) i a + 1) * S1x1x256x1024.size a ≤ S2x64x256x1024.size a := by
  have hv : ((tabs m).at 0 (Rect.unit (s := S580) (k0_off1 i) S1.size (k0_off1_inb i)) numel1_S1 : BitVec 32).toNat < 64 := hg.1 _
  match a with
  | ⟨0, _⟩ => show (1 + 1) * 1 ≤ 2; omega
  | ⟨1, _⟩ => show (((tabs m).at 0 (Rect.unit (s := S580) (k0_off1 i) S1.size (k0_off1_inb i)) numel1_S1 : BitVec 32).toNat + 1) * 1 ≤ 64; omega
  | ⟨2, _⟩ => exact Nat.le_refl _
  | ⟨3, _⟩ => exact Nat.le_refl _

/-- Every window's block lies in its array. -/
theorem blocks_ok (hg : Good m) : ok0 (F := Ideal) (tabs m) :=
  ⟨fun i => ⟨rows_block hg i, .inl rfl⟩, fun i => ⟨w1_block hg i, .inl rfl⟩, fun i => ⟨w1_block hg i, .inl rfl⟩, fun i => ⟨w2_block hg i, .inl rfl⟩⟩

/-- The tables the pipeline runs at, and the pipeline at them. -/
def admT (hg : Good m) : (pcfg0 (F := Ideal)).Adm := ⟨tabs m, blocks_ok hg⟩
abbrev cfgT (hg : Good m) : Pipeline.Cfg sig Λ₀ := cfg0 (F := Ideal) (admT hg)
abbrev pinned (hg : Good m) : Fin 1 → Pipeline.Cfg sig Λ₀ := Pipeline.pin (pcfgs (F := Ideal)) fun _ => admT hg

variable (hg : Good m)

/-- A step's coordinates and the staging buffers it is handed. -/
abbrev pt (t : Fin (cfgT hg).N) : (cfgT hg).grid.Coords := (cfgT hg).grid.coords t
abbrev g0 (t : Fin (cfgT hg).N) : Memref sig .tc .vmem S128x1024 .f32 := spec0_0.stage ((cfgT hg).slots t (0 : Fin 5))
abbrev g1 (t : Fin (cfgT hg).N) : Memref sig .tc .vmem S1x1x1024x256 .f32 := spec0_1.stage ((cfgT hg).slots t (1 : Fin 5))
abbrev g2 (t : Fin (cfgT hg).N) : Memref sig .tc .vmem S1x1x1024x256 .f32 := spec0_2.stage ((cfgT hg).slots t (2 : Fin 5))
abbrev g3 (t : Fin (cfgT hg).N) : Memref sig .tc .vmem S1x1x256x1024 .f32 := spec0_3.stage ((cfgT hg).slots t (3 : Fin 5))
abbrev g4 (t : Fin (cfgT hg).N) : Memref sig .tc .vmem S128x1024 .f32 := spec0_4.stage ((cfgT hg).slots t (4 : Fin 5))
abbrev wg0 (t : Fin (cfgT hg).N) : (g0 hg t).IsWhole := hstage0_0 (((cfgT hg).slots t (0 : Fin 5)).cast nbuf0_0)
abbrev wg1 (t : Fin (cfgT hg).N) : (g1 hg t).IsWhole := hstage0_1 (((cfgT hg).slots t (1 : Fin 5)).cast nbuf0_1)
abbrev wg2 (t : Fin (cfgT hg).N) : (g2 hg t).IsWhole := hstage0_2 (((cfgT hg).slots t (2 : Fin 5)).cast nbuf0_2)
abbrev wg3 (t : Fin (cfgT hg).N) : (g3 hg t).IsWhole := hstage0_3 (((cfgT hg).slots t (3 : Fin 5)).cast nbuf0_3)
abbrev wg4 (t : Fin (cfgT hg).N) : (g4 hg t).IsWhole := hstage0_4 (((cfgT hg).slots t (4 : Fin 5)).cast nbuf0_4)

/-- Window `w`'s block at step `t`. -/
def blkOf (c : Dev nD) (w : Fin (cfgT hg).W) (t : Fin (cfgT hg).N) : (((cfgT hg).win w).xblock (pt hg t)).Idx → Elt Ideal ((cfgT hg).win w).elt :=
  (((cfgT hg).win w).blk t).view.read (Elt Ideal) (m (((cfgT hg).win w).arr.view.loc (c : Thread nD τ)))

/-- Whether block `t` is used. -/
abbrev Used (m : (ℓ : Loc nD τ sig) → Buf (Elt Ideal) ℓ) (t : Fin grid0.N) : Prop := k0_cond1 (grid0.coords t) (cnt (tabN m)) = 1#1

/-- What the scratch buffers hold after a used step, and what the step leaves in the result's block. -/
def s13 (c : Dev nD) (t : Fin (cfgT hg).N) : Buf (Elt Ideal) ((c : Thread nD τ).loc cc0_scratch0) := w13Of c (blkOf hg c (1 : Fin 5) t) (blkOf hg c (2 : Fin 5) t)
def s2 (c : Dev nD) (t : Fin (cfgT hg).N) : Buf (Elt Ideal) ((c : Thread nD τ).loc cc0_scratch1) := w2Of c (blkOf hg c (3 : Fin 5) t)
open Classical in
def resOf (c : Dev nD) (t : Fin (cfgT hg).N) : S128x1024.Idx → Elt Ideal .f32 :=
  if Used m t then outOf c (blkOf hg c (0 : Fin 5) t) (s13 hg c t) (s2 hg c t) else k0_pay5 (F := Ideal)

/-- Before step `t`: the scratch buffers hold the matrices of the block before it, if that one is used; the tables are as found. -/
def Inv (c : Dev nD) (t : Fin ((cfgT hg).N + 1)) : sProp 𝕄 :=
  iprop(∃ a0 a1, ⌜∀ u : Fin (cfgT hg).N, u.val + 1 = t.val → Used m u → a0 = s13 hg c u ∧ a1 = s2 hg c u⌝
    ∗ (w13S.view.loc (c : Thread nD τ) ↦{fullShare} a0) ∗ (w2S.view.loc (c : Thread nD τ) ↦{fullShare} a1)
    ∗ (expT.view.loc (c : Thread nD τ) ↦{fullShare.right} tabE m) ∗ (cntT.view.loc (c : Thread nD τ) ↦{fullShare.right} tabN m))

/-- The pipeline's proof data. -/
def dat (_ : Fin 1) (c : Dev nD) : Dat τ (Elt Ideal) Unit ℕ (UR sig nD τ) ℕ (cfgT hg) c where
  A w := m (((cfgT hg).win w).arr.view.loc (c : Thread nD τ))
  after w t := match w with
    | ⟨0, _⟩ => blkOf hg c (0 : Fin 5) t
    | ⟨1, _⟩ => blkOf hg c (1 : Fin 5) t
    | ⟨2, _⟩ => blkOf hg c (2 : Fin 5) t
    | ⟨3, _⟩ => blkOf hg c (3 : Fin 5) t
    | ⟨4, _⟩ => resOf hg c t
  Φ t := Inv hg c t
  q _ := fullShare
  owed _ := 0

theorem after_0 (c : Dev nD) (t : Fin (cfgT hg).N) : (dat hg 0 c).after (0 : Fin 5) t = blkOf hg c (0 : Fin 5) t := rfl
theorem after_1 (c : Dev nD) (t : Fin (cfgT hg).N) : (dat hg 0 c).after (1 : Fin 5) t = blkOf hg c (1 : Fin 5) t := rfl
theorem after_2 (c : Dev nD) (t : Fin (cfgT hg).N) : (dat hg 0 c).after (2 : Fin 5) t = blkOf hg c (2 : Fin 5) t := rfl
theorem after_3 (c : Dev nD) (t : Fin (cfgT hg).N) : (dat hg 0 c).after (3 : Fin 5) t = blkOf hg c (3 : Fin 5) t := rfl
theorem after_4 (c : Dev nD) (t : Fin (cfgT hg).N) : (dat hg 0 c).after (4 : Fin 5) t = resOf hg c t := rfl

theorem before_0 (c : Dev nD) (t : Fin (cfgT hg).N) (d) : (dat hg 0 c).before (0 : Fin 5) t d = blkOf hg c (0 : Fin 5) t :=
  ((dat hg 0 c).before_in_eq_fetched (0 : Fin 5) rfl (fun _ => rfl) (fun _ _ _ => rfl) (fun t => by rw [after_0]; unfold Dat.blockOf blkOf; rfl) t d).trans
    (by unfold Dat.fetched Dat.blockOf blkOf; rfl)
theorem before_1 (c : Dev nD) (t : Fin (cfgT hg).N) (d) : (dat hg 0 c).before (1 : Fin 5) t d = blkOf hg c (1 : Fin 5) t :=
  ((dat hg 0 c).before_in_eq_fetched (1 : Fin 5) rfl (fun _ => rfl) (fun _ _ _ => rfl) (fun t => by rw [after_1]; unfold Dat.blockOf blkOf; rfl) t d).trans
    (by unfold Dat.fetched Dat.blockOf blkOf; rfl)
theorem before_2 (c : Dev nD) (t : Fin (cfgT hg).N) (d) : (dat hg 0 c).before (2 : Fin 5) t d = blkOf hg c (2 : Fin 5) t :=
  ((dat hg 0 c).before_in_eq_fetched (2 : Fin 5) rfl (fun _ => rfl) (fun _ _ _ => rfl) (fun t => by rw [after_2]; unfold Dat.blockOf blkOf; rfl) t d).trans
    (by unfold Dat.fetched Dat.blockOf blkOf; rfl)
theorem before_3 (c : Dev nD) (t : Fin (cfgT hg).N) (d) : (dat hg 0 c).before (3 : Fin 5) t d = blkOf hg c (3 : Fin 5) t :=
  ((dat hg 0 c).before_in_eq_fetched (3 : Fin 5) rfl (fun _ => rfl) (fun _ _ _ => rfl) (fun t => by rw [after_3]; unfold Dat.blockOf blkOf; rfl) t d).trans
    (by unfold Dat.fetched Dat.blockOf blkOf; rfl)

/-- Two steps whose experts agree are handed the same matrices. -/
theorem same_index (t u : Fin (cfgT hg).N) (h : expHere (grid0.coords t) (tabE m) = expHere (grid0.coords u) (tabE m)) :
    ((cfgT hg).win (1 : Fin 5)).index t = ((cfgT hg).win (1 : Fin 5)).index u ∧ ((cfgT hg).win (2 : Fin 5)).index t = ((cfgT hg).win (2 : Fin 5)).index u
      ∧ ((cfgT hg).win (3 : Fin 5)).index t = ((cfgT hg).win (3 : Fin 5)).index u := by
  have e : ∀ t : Fin (cfgT hg).N, (![1, (expHere (grid0.coords t) (tabE m)).toNat, 0, 0] : Fin 4 → ℕ) = ((cfgT hg).win (1 : Fin 5)).index t := fun _ => rfl
  have h' : (![1, (expHere (grid0.coords t) (tabE m)).toNat, 0, 0] : Fin 4 → ℕ) = ![1, (expHere (grid0.coords u) (tabE m)).toNat, 0, 0] := by rw [h]
  exact ⟨h', h', h'⟩

theorem s13_same (c : Dev nD) (t u : Fin (cfgT hg).N) (h : expHere (grid0.coords t) (tabE m) = expHere (grid0.coords u) (tabE m)) : s13 hg c t = s13 hg c u := by
  have h1 : blkOf hg c (1 : Fin 5) t = blkOf hg c (1 : Fin 5) u := by
    rw [← before_1 hg c t (fun _ => Classical.arbitrary _), ← before_1 hg c u (fun _ => Classical.arbitrary _),
      (dat hg 0 c).before_in_eq_fetched (1 : Fin 5) rfl (fun _ => rfl) (fun _ _ _ => rfl) (fun t => by rw [after_1]; unfold Dat.blockOf blkOf; rfl),
      (dat hg 0 c).before_in_eq_fetched (1 : Fin 5) rfl (fun _ => rfl) (fun _ _ _ => rfl) (fun t => by rw [after_1]; unfold Dat.blockOf blkOf; rfl)]
    exact (dat hg 0 c).fetched_congr (1 : Fin 5) (same_index hg t u h).1 rfl _
  have h2 : blkOf hg c (2 : Fin 5) t = blkOf hg c (2 : Fin 5) u := by
    rw [← before_2 hg c t (fun _ => Classical.arbitrary _), ← before_2 hg c u (fun _ => Classical.arbitrary _),
      (dat hg 0 c).before_in_eq_fetched (2 : Fin 5) rfl (fun _ => rfl) (fun _ _ _ => rfl) (fun t => by rw [after_2]; unfold Dat.blockOf blkOf; rfl),
      (dat hg 0 c).before_in_eq_fetched (2 : Fin 5) rfl (fun _ => rfl) (fun _ _ _ => rfl) (fun t => by rw [after_2]; unfold Dat.blockOf blkOf; rfl)]
    exact (dat hg 0 c).fetched_congr (2 : Fin 5) (same_index hg t u h).2.1 rfl _
  unfold s13; rw [h1, h2]

theorem s2_same (c : Dev nD) (t u : Fin (cfgT hg).N) (h : expHere (grid0.coords t) (tabE m) = expHere (grid0.coords u) (tabE m)) : s2 hg c t = s2 hg c u := by
  have h3 : blkOf hg c (3 : Fin 5) t = blkOf hg c (3 : Fin 5) u := by
    rw [← before_3 hg c t (fun _ => Classical.arbitrary _), ← before_3 hg c u (fun _ => Classical.arbitrary _),
      (dat hg 0 c).before_in_eq_fetched (3 : Fin 5) rfl (fun _ => rfl) (fun _ _ _ => rfl) (fun t => by rw [after_3]; unfold Dat.blockOf blkOf; rfl),
      (dat hg 0 c).before_in_eq_fetched (3 : Fin 5) rfl (fun _ => rfl) (fun _ _ _ => rfl) (fun t => by rw [after_3]; unfold Dat.blockOf blkOf; rfl)]
    exact (dat hg 0 c).fetched_congr (3 : Fin 5) (same_index hg t u h).2.2 rfl _
  unfold s2; rw [h3]

/-- A used step that copies nothing finds its own expert's matrices. -/
theorem found (c : Dev nD) (t : Fin (cfgT hg).N) (hu : Used m t) (hn : ¬isNew (grid0.coords t) (tabE m) = 1#1)
    {a0 : Buf (Elt Ideal) ((c : Thread nD τ).loc cc0_scratch0)} {a1 : Buf (Elt Ideal) ((c : Thread nD τ).loc cc0_scratch1)}
    (ha : ∀ u : Fin (cfgT hg).N, u.val + 1 = t.castSucc.val → Used m u → a0 = s13 hg c u ∧ a1 = s2 hg c u) : a0 = s13 hg c t ∧ a1 = s2 hg c t := by
  obtain ⟨h0, he⟩ := old_of_not_new _ _ hn
  rw [coord_val] at h0
  have hlt : t.val - 1 < (cfgT hg).N := lt_of_le_of_lt (Nat.sub_le _ _) t.isLt
  have hu' : Used m ⟨t.val - 1, hlt⟩ := by
    have := (used_iff_lt t _).1 hu
    refine (used_iff_lt (⟨t.val - 1, hlt⟩ : Fin grid0.N) _).2 ?_
    show ((t.val - 1 : ℕ) : ℤ) < _
    omega
  have hs : expHere (grid0.coords (⟨t.val - 1, hlt⟩ : Fin grid0.N)) (tabE m) = expHere (grid0.coords t) (tabE m) := by
    rw [he, expHere_eq, expBefore_eq]
  obtain ⟨e0, e1⟩ := ha ⟨t.val - 1, hlt⟩ (by show t.val - 1 + 1 = t.val; omega) hu'
  exact ⟨e0.trans (s13_same hg c _ _ hs), e1.trans (s2_same hg c _ _ hs)⟩

/-- No step leaves the result's block untouched. -/
theorem never_idle (t : Fin (cfgT hg).N) : (cfgT hg).idle (4 : Fin 5) ((cfgT hg).grid.coords t) = false := by
  have e : (cfgT hg).idle (4 : Fin 5) ((cfgT hg).grid.coords t)
      = (!(k0_cond1 (grid0.coords t) ((tabs m).atD 1 ![0]) == 1#1) && !(k0_cond3 (grid0.coords t) ((tabs m).atD 1 ![0]) == 1#1)) := rfl
  rw [e]
  by_cases h : k0_cond1 (grid0.coords t) ((tabs m).atD 1 ![0]) = 1#1
  · rw [h]; rfl
  · rw [rest_of_not_used _ _ h]; simp

/-- The step as the pipeline calls it. -/
abbrev bodyOf (t : Fin (cfgT hg).N) : Prog (TpuEff nD τ sig (Elt Ideal) Λ₀ .tc) PUnit :=
  cc0_moe_experts (pt hg t) expT (Memref.isWhole_whole _) cntT (Memref.isWhole_whole _) (g0 hg t) (wg0 hg t) (g1 hg t) (wg1 hg t) (g2 hg t) (wg2 hg t) (g3 hg t) (wg3 hg t) (g4 hg t) (wg4 hg t) w13S (Memref.isWhole_whole _) w2S (Memref.isWhole_whole _)

set_option maxHeartbeats 4000000 in
/-- Every step keeps the invariant and leaves its block of the result. -/
theorem body_ok (c : Dev nD) (t : Fin (cfgT hg).N) :
    iprop((dat hg 0 c).Φ t.castSucc ∗ (dat hg 0 c).owesAt () t.castSucc
        ∗ (∃ d, owns (c : Thread nD τ) (g0 hg t) fullShare ((dat hg 0 c).before (0 : Fin 5) t d))
        ∗ (∃ d, owns (c : Thread nD τ) (g1 hg t) fullShare ((dat hg 0 c).before (1 : Fin 5) t d))
        ∗ (∃ d, owns (c : Thread nD τ) (g2 hg t) fullShare ((dat hg 0 c).before (2 : Fin 5) t d))
        ∗ (∃ d, owns (c : Thread nD τ) (g3 hg t) fullShare ((dat hg 0 c).before (3 : Fin 5) t d))
        ∗ (∃ d, owns (c : Thread nD τ) (g4 hg t) fullShare ((dat hg 0 c).before (4 : Fin 5) t d)))
      ⊢ wp frame (wpE (defs₀ (F := Ideal)) Variants.none c none) Set.univ (bodyOf hg t) fun _ =>
          iprop((dat hg 0 c).Φ t.succ ∗ (dat hg 0 c).owesAt () t.succ
            ∗ bigSep Finset.univ fun w : Fin (cfgT hg).W =>
                match (cfgT hg).idle w ((cfgT hg).grid.coords t) with
                | true =>
                  match ((cfgT hg).win w).flush t with
                  | false => iprop(∃ d, owns (c : Thread nD τ) (((cfgT hg).win w).stage ((cfgT hg).slots t w)) fullShare ((dat hg 0 c).before w t d))
                  | true => owns (c : Thread nD τ) (((cfgT hg).win w).stage ((cfgT hg).slots t w)) fullShare ((dat hg 0 c).after w t)
                | false => owns (c : Thread nD τ) (((cfgT hg).win w).stage ((cfgT hg).slots t w)) fullShare ((dat hg 0 c).after w t)) := by
  obtain rfl : c = 0 := Subsingleton.elim _ _
  rw [bigSep_W0]
  rewrite [never_idle hg t]
  simp only [before_0, before_1, before_2, before_3, after_0, after_1, after_2, after_3, after_4]
  rewrite [show (dat hg 0 0).Φ t.succ = Inv hg 0 t.succ from rfl, show (dat hg 0 0).Φ t.castSucc = Inv hg 0 t.castSucc from rfl,
    show (dat hg 0 0).owesAt () t.succ = (dat hg 0 0).owesAt () t.castSucc from rfl]
  unfold Inv
  iintro ⟨⟨%a0, %a1, %ha, HS, HT, HE, HN⟩, Ho, ⟨%d0, H0⟩, ⟨%d1, H1⟩, ⟨%d2, H2⟩, ⟨%d3, H3⟩, ⟨%d4, H4⟩⟩
  by_cases hu : Used m t
  · by_cases hn : isNew (grid0.coords t) (tabE m) = 1#1
    · iapply ((stepNew 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) hu hn (rest_of_used _ _ hu)).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact ⟨stepNew_w13 .., stepNew_w2 ..⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu]; exact stepNew_out ..
    · iapply ((stepSame 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu hn (rest_of_used _ _ hu)).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HE]; · iexact HE
      isplitl [HN]; · iexact HN
      isplitl [H4]; · iexists _; iexact H4
      isplitl [HS]; · iexact HS
      isplitl [HT]; · iexact HT
      iintro ⟨H0, H1, H2, H3, HE, HN, ⟨%e4, H4⟩, HS, HT⟩
      isplitl [HS HT HE HN]
      · iexists _; iexists _; isplitr; swap
        · isplitl [HS]; · iexact HS
          isplitl [HT]; · iexact HT
          isplitl [HE]; · iexact HE
          iexact HN
        · ipureintro; intro u huv hu'
          obtain rfl : u = t := Fin.ext (by simpa using huv)
          exact found hg 0 u hu hn ha
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; unfold resOf; rw [if_pos hu, ← (found hg 0 t hu hn ha).1, ← (found hg 0 t hu hn ha).2]; exact stepSame_out ..
  · iapply ((stepZero 0 (pt hg t) (g0 hg t) (wg0 hg t) (g1 hg t) (wg1 hg t) (g2 hg t) (wg2 hg t) (g3 hg t) (wg3 hg t) (g4 hg t) (wg4 hg t) (tabE m) (tabN m) (blkOf hg 0 (0 : Fin 5) t) (blkOf hg 0 (1 : Fin 5) t) (blkOf hg 0 (2 : Fin 5) t) (blkOf hg 0 (3 : Fin 5) t) a0 a1 hu (rest_of_not_used _ _ hu)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HE]; · iexact HE
    isplitl [HN]; · iexact HN
    isplitl [H4]; · iexists _; iexact H4
    isplitl [HS]; · iexact HS
    isplitl [HT]; · iexact HT
    iintro ⟨H0, H1, H2, H3, HE, HN, ⟨%e4, H4⟩, HS, HT⟩
    isplitl [HS HT HE HN]
    · iexists _; iexists _; isplitr; swap
      · isplitl [HS]; · iexact HS
        isplitl [HT]; · iexact HT
        isplitl [HE]; · iexact HE
        iexact HN
      · ipureintro; intro u huv hu'
        obtain rfl : u = t := Fin.ext (by simpa using huv)
        exact absurd hu' hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; unfold resOf; rw [if_neg hu]; exact stepZero_out ..

theorem body_all (c : Dev nD) : BodyObligation (dat hg 0 c) (defs₀ (F := Ideal)) Variants.none () Set.univ := fun t => by
  rw [bigSep_W0]
  exact body_ok hg c t

/-! ## The run -/

/-- The staging cells' first element. -/
def cells0 : UR sig nD τ :=
  initOf (Pipeline.cells (pinned hg) ((launch0 (F := Ideal)).cellOf_inj fun _ => admT hg))
    (Pipeline.launchToks (pinned hg) ((launch0 (F := Ideal)).cellOf_inj fun _ => admT hg))

theorem share_full (c : Dev nD) (w : Fin (cfgT hg).W) : (dat hg 0 c).share w = fullShare := by unfold Dat.share; split <;> rfl

theorem tabs_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = {(0 : Fin 2), (1 : Fin 2)} from by decide, bigSep_insert (by decide), bigSep_singleton]
  rfl

theorem inv_first (c : Dev nD) :
    iprop(BI.emp ∗ Pipeline.prefHeld pre0 c (fun _ => fullShare.right) (admT hg).1 ∗ Pipeline.scopedRest spec0 c) ⊢ (dat hg 0 c).Φ 0 := by
  rw [tabs_held, scopedRest0_eq, show (dat hg 0 c).Φ 0 = Inv hg c 0 from rfl]
  unfold Inv
  iintro ⟨-, ⟨HE, HN⟩, ⟨%a0, HS⟩, ⟨%a1, HT⟩⟩
  iexists a0; iexists a1
  isplitr
  · ipureintro; intro u hu; exact absurd hu (Nat.succ_ne_zero _)
  isplitl [HS]; · iexact HS
  isplitl [HT]; · iexact HT
  isplitl [HE]; · iexact HE
  iexact HN

theorem inv_last (c : Dev nD) : (dat hg 0 c).Φ (Fin.last (cfgT hg).N) ⊢ iprop(BI.emp ∗ Pipeline.scopedRest spec0 c) := by
  rw [scopedRest0_eq, show (dat hg 0 c).Φ (Fin.last (cfgT hg).N) = Inv hg c (Fin.last _) from rfl]
  unfold Inv
  iintro ⟨%a0, %a1, -, HS, HT, -, -⟩
  isplitr; · iempintro
  isplitl [HS]
  · iexists a0; iexact HS
  iexists a1; iexact HT

/-- What the run ends with: each array as the steps leave it, the tables as found. -/
def Ends : PUnit × MemSt nD τ sig (Elt Ideal) → Prop := fun r =>
  ∀ c : Dev nD, (∀ w : Fin (cfgT hg).W, r.2.mem (((cfgT hg).win w).arr.view.loc (c : Thread nD τ)) = (dat hg 0 c).arrAt w (cfgT hg).N)
    ∧ ∀ j, r.2.mem ((c : Thread nD τ).loc (pre0.ref j)) = (admT hg).1 j

theorem tabs_of (c : Dev nD) (j : Fin 2) : m ((c : Thread nD τ).loc (pre0.ref j)) = (admT hg).1 j := by
  obtain rfl : c = 0 := Subsingleton.elim _ _
  fin_cases j <;> rfl

set_option backward.isDefEq.respectTransparency.types false in
set_option maxHeartbeats 4000000 in
theorem run_ends : θ_run (defs (F := Ideal)) (onTc (τ := τ) (main (F := Ideal))) (s₀ m ρ) (fun r => Ends hg r ∧ r.2.sem = fun _ => 0) :=
  Pipeline.θ_run_region_noSem_pf_quiescent pcfgs (fun _ => admT hg) (dat hg) () ((launch0 (F := Ideal)).cellOf_inj fun _ => admT hg) (0 : Fin 1)
    (launch0 (F := Ideal)).win.to₀ (launch0 (F := Ideal)).pre EC defs₀ Variants.none m ρ main
    (hbody := fun c => (body_all hg c).loose) (hne := (launch0 (F := Ideal)).block_pos)
    (harr := (launch0 (F := Ideal)).arr_whole) (hstage := (launch0 (F := Ideal)).stage_whole) (howed := fun _ _ => rfl)
    (u₀ := cells0 hg) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned hg) (dat hg) 0 (launch0 (F := Ideal)).win.arr_inj c (launch0 (F := Ideal)).arr_whole
      (share_full hg c) _ _ fun _ => rfl)
    (hpf := tabs_of hg)
    (X := fun _ => iprop(emp)) (Y := fun _ => iprop(emp)) (Z := fun _ => iprop(emp))
    (hX := fun c => by rw [unscopedRestP0_eq]; iintro -; isplitr <;> iempintro)
    (hin := inv_first hg)
    (hout := inv_last hg)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hg in
/-- The arguments end as they were and every counter at zero. -/
theorem args_kept : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 (0 : Fin 5)).trans ((dat hg 0 c).arrAt_in (0 : Fin 5) rfl _),
    ((h.1 c).2 0).trans (tabs_of hg c 0).symm, ((h.1 c).2 1).trans (tabs_of hg c 1).symm,
    ((h.1 c).1 (1 : Fin 5)).trans ((dat hg 0 c).arrAt_in (1 : Fin 5) rfl _),
    ((h.1 c).1 (2 : Fin 5)).trans ((dat hg 0 c).arrAt_in (2 : Fin 5) rfl _),
    ((h.1 c).1 (3 : Fin 5)).trans ((dat hg 0 c).arrAt_in (3 : Fin 5) rfl _)⟩, h.2⟩) (run_ends ρ hg)

end Cert.ExpertsOneIdeal.Step
-- ==== Proof.ExpertsOneVal.lean ====
module

public import proofs.«01_k».proof.Proof.ExpertsOneFrame
public import Idealize.ShloMosaic.Lib.Pipeline.ValueKit
public import Idealize.ShloMosaic.Lib.Pipeline.Covers

/-! # The experts' call of layer 1: what the kernel's array holds -/

@[expose] public section

set_option maxRecDepth 16384

noncomputable section

open Idealize.ShloMosaic Idealize.ShloMosaic.TcCoe Idealize.SL.Sem
open Idealize.ShloMosaic.Pipeline (Dat)

namespace Cert.ExpertsOneIdeal.Val
open Cert.ExpertsOneIdeal Cert.ExpertsOneIdeal.Gen Cert.ExpertsOneIdeal.Step

/-- A row's product with an expert's input matrix, at hidden lane `e`. -/
def lane (x : Fin 1024 → EReal) (W : Fin 1024 → Fin 256 → EReal) (e : Fin 256) : EReal := ∑ d : Fin 1024, x d * W d e

/-- An expert applied to a row, at lane `l`. -/
def expert (x : Fin 1024 → EReal) (W1 W3 : Fin 1024 → Fin 256 → EReal) (W2 : Fin 256 → Fin 1024 → EReal) (l : Fin 1024) : EReal :=
  ∑ e : Fin 256, lane x W1 e * Ideal.logistic (lane x W1 e) * lane x W3 e * W2 e l

/-! ## What the scratch buffers read as -/

/-- Two matrices side by side. -/
def beside (x1 x2 : S1x1x1024x256.Idx → EReal) : S1024x512.Idx → EReal := fun y =>
  if h : (y 1).val < 256 then x1 (ix4 (0 : Fin 1) (0 : Fin 1) (y 0) (⟨(y 1).val, h⟩ : Fin 256))
  else x2 (ix4 (0 : Fin 1) (0 : Fin 1) (y 0) (⟨(y 1).val - 256, by have h2 : (y 1).val < 512 := (y 1).isLt; omega⟩ : Fin 256))

theorem pay1_apply (x : S1x1x1024x256.Idx → EReal) (d : Fin 1024) (e : Fin 256) :
    k0_pay1 (F := Ideal) x (ix2 d e) = x (ix4 (0 : Fin 1) (0 : Fin 1) d e) := by
  pointwise [k0_pay1]

theorem pay2_apply (x : S1x1x1024x256.Idx → EReal) (d : Fin 1024) (e : Fin 256) :
    k0_pay2 (F := Ideal) x (ix2 d e) = x (ix4 (0 : Fin 1) (0 : Fin 1) d e) := by
  pointwise [k0_pay2]

theorem pay3_apply (x : S1x1x256x1024.Idx → EReal) (e : Fin 256) (l : Fin 1024) :
    k0_pay3 (F := Ideal) x (ix2 e l) = x (ix4 (0 : Fin 1) (0 : Fin 1) e l) := by
  pointwise [k0_pay3]

theorem read13 (c : Dev nD) (x1 x2 : S1x1x1024x256.Idx → EReal) :
    View.readAt (Elt Ideal) w13S.view (Rect.unit (s := S1024x512) ![0, 0] S1024x512.size inb_S1024x512_S1024x512_0_0).toLoadRect (w13Of c x1 x2)
      = beside x1 x2 := by
  have hz : (![0, 0] : Fin S1024x512.rank → ℕ) = fun _ => 0 := by funext a; fin_cases a <;> rfl
  refine (View.readAt_full w13S.view (w13Of c x1 x2) inb_S1024x512_S1024x512_0_0).trans ?_
  funext y
  refine View.read_writes_apply_of_pieces (Val := Elt Ideal) (View.whole cc0_scratch0) (View.whole cc0_scratch0).junk (beside x1 x2) _ ?_ y ?_
  · intro p hp x
    rcases List.mem_cons.1 hp with rfl | hp
    · obtain ⟨d, e, rfl⟩ : ∃ (d : Fin 1024) (e : Fin 256), x = ix2 d e := ⟨x 0, x 1, by funext a; fin_cases a <;> rfl⟩
      refine (pay2_apply x2 d e).trans ?_
      unfold beside
      rw [dif_neg (by show ¬ 256 + 1 * e.val < 256; omega)]
      refine congrArg x2 ?_
      funext a
      match a with
      | ⟨0, _⟩ => rfl
      | ⟨1, _⟩ => rfl
      | ⟨2, _⟩ => exact Fin.ext (by show d.val = 0 + 1 * d.val; omega)
      | ⟨3, _⟩ => exact Fin.ext (by show e.val = 256 + 1 * e.val - 256; omega)
    · rcases List.mem_singleton.1 hp with rfl
      obtain ⟨d, e, rfl⟩ : ∃ (d : Fin 1024) (e : Fin 256), x = ix2 d e := ⟨x 0, x 1, by funext a; fin_cases a <;> rfl⟩
      refine (pay1_apply x1 d e).trans ?_
      unfold beside
      rw [dif_pos (by show 0 + 1 * e.val < 256; omega)]
      refine congrArg x1 ?_
      funext a
      match a with
      | ⟨0, _⟩ => rfl
      | ⟨1, _⟩ => rfl
      | ⟨2, _⟩ => exact Fin.ext (by show d.val = 0 + 1 * d.val; omega)
      | ⟨3, _⟩ => exact Fin.ext (by show e.val = 0 + 1 * e.val; omega)
  · exact View.cover_of_tiledL (s := S1024x512) _ ![1024, 256] (by sl_kernel_rfl) y

theorem read2 (c : Dev nD) (x3 : S1x1x256x1024.Idx → EReal) :
    View.readAt (Elt Ideal) w2S.view (Rect.unit (s := S256x1024) ![0, 0] S256x1024.size inb_S256x1024_S256x1024_0_0).toLoadRect (w2Of c x3)
      = k0_pay3 (F := Ideal) x3 := by
  unfold w2Of
  exact View.readAt_writes_full _ _ inb_S256x1024_S256x1024_0_0 _ _ _

theorem pay4_apply (x0 : S128x1024.Idx → EReal) (a : S1024x512.Idx → EReal) (b : S256x1024.Idx → EReal) (r : Fin 128) (l : Fin 1024) :
    k0_pay4 (F := Ideal) x0 a b (ix2 r l)
      = ∑ e : Fin 256, (∑ d : Fin 1024, x0 (ix2 r d) * a (ix2 d (⟨e.val, by omega⟩ : Fin 512)))
          * Ideal.logistic (∑ d : Fin 1024, x0 (ix2 r d) * a (ix2 d (⟨e.val, by omega⟩ : Fin 512)))
          * (∑ d : Fin 1024, x0 (ix2 r d) * a (ix2 d (⟨256 + e.val, by omega⟩ : Fin 512))) * b (ix2 e l) := by
  pointwise [k0_pay4]

theorem beside_left (x1 x2 : S1x1x1024x256.Idx → EReal) (d : Fin 1024) (e : Fin 256) :
    beside x1 x2 (ix2 d (⟨e.val, by omega⟩ : Fin 512)) = x1 (ix4 (0 : Fin 1) (0 : Fin 1) d e) := by
  unfold beside
  rw [dif_pos (by show e.val < 256; omega)]
  rfl

theorem beside_right (x1 x2 : S1x1x1024x256.Idx → EReal) (d : Fin 1024) (e : Fin 256) :
    beside x1 x2 (ix2 d (⟨256 + e.val, by omega⟩ : Fin 512)) = x2 (ix4 (0 : Fin 1) (0 : Fin 1) d e) := by
  unfold beside
  rw [dif_neg (by show ¬ 256 + e.val < 256; omega)]
  refine congrArg x2 ?_
  funext a
  match a with
  | ⟨0, _⟩ => rfl
  | ⟨1, _⟩ => rfl
  | ⟨2, _⟩ => rfl
  | ⟨3, _⟩ => exact Fin.ext (by show 256 + e.val - 256 = e.val; omega)

/-- A used step's block: its expert applied to its rows. -/
theorem outOf_apply (c : Dev nD) (x0 : S128x1024.Idx → EReal) (x1 x2 : S1x1x1024x256.Idx → EReal) (x3 : S1x1x256x1024.Idx → EReal) (r : Fin 128) (l : Fin 1024) :
    outOf c x0 (w13Of c x1 x2) (w2Of c x3) (ix2 r l)
      = expert (fun d => x0 (ix2 r d)) (fun d e => x1 (ix4 (0 : Fin 1) (0 : Fin 1) d e)) (fun d e => x2 (ix4 (0 : Fin 1) (0 : Fin 1) d e))
          (fun e l => x3 (ix4 (0 : Fin 1) (0 : Fin 1) e l)) l := by
  unfold outOf
  rw [read13, read2]
  refine (pay4_apply _ _ _ r l).trans ?_
  unfold expert lane
  simp only [beside_left, beside_right]
  exact Finset.sum_congr rfl fun e _ => by rw [pay3_apply]

theorem pay5_apply (y : S128x1024.Idx) : (k0_pay5 (F := Ideal) y : EReal) = 0 := Ideal.ofBits_zero_f32

/-! ## The blocks -/

variable {m : (ℓ : Loc nD τ sig) → Buf (Elt Ideal) ℓ} (hg : Good m)

/-- Block `t`'s number and its expert. -/
abbrev num (t : Fin grid0.N) : Fin 580 := ⟨t.val, lt_of_lt_of_eq t.isLt N_0⟩
abbrev who (b : Fin 580) : Fin 64 := ⟨(tabE m (ix1 b) : BitVec 32).toNat, hg.1 _⟩

theorem index_4 (t : Fin (cfgT hg).N) : ((cfgT hg).win (4 : Fin 5)).index t = (![t.val, 0] : Fin 2 → ℕ) := by
  have e : ((cfgT hg).win (4 : Fin 5)).index t = (![(BitVec.ofNat 32 (grid0.coords t 0).val).toNat, 0] : Fin 2 → ℕ) := rfl
  have ht : t.val < 580 := lt_of_lt_of_eq t.isLt N_0
  rw [e, coord_val, BitVec.toNat_ofNat, Nat.mod_eq_of_lt (by omega)]

theorem index_0 (t : Fin (cfgT hg).N) (h : Used m t) : ((cfgT hg).win (0 : Fin 5)).index t = (![t.val, 0] : Fin 2 → ℕ) := by
  have e : ((cfgT hg).win (0 : Fin 5)).index t
      = (![(Scalar.minsi (BitVec.ofNat 32 (grid0.coords t 0).val) (Scalar.subi (cnt (tabN m)) 1#32)).toNat, 0] : Fin 2 → ℕ) := rfl
  have ht : t.val < 580 := lt_of_lt_of_eq t.isLt N_0
  rw [e, coord_val, (row_index t.val ht (cnt (tabN m)) (hg.2 _)).2 ((used_iff_lt t _).1 h)]

theorem index_w (t : Fin (cfgT hg).N) : ((cfgT hg).win (1 : Fin 5)).index t = (![1, (who hg (num t)).val, 0, 0] : Fin 4 → ℕ)
    ∧ ((cfgT hg).win (2 : Fin 5)).index t = (![1, (who hg (num t)).val, 0, 0] : Fin 4 → ℕ)
    ∧ ((cfgT hg).win (3 : Fin 5)).index t = (![1, (who hg (num t)).val, 0, 0] : Fin 4 → ℕ) := by
  have h : (![1, (expHere (grid0.coords t) (tabE m) : BitVec 32).toNat, 0, 0] : Fin 4 → ℕ) = ![1, (who hg (num t)).val, 0, 0] := by rw [expHere_eq]
  exact ⟨h, h, h⟩

theorem rows_of (c : Dev nD) (t : Fin (cfgT hg).N) (h : Used m t) (r : Fin 128) (d : Fin 1024) :
    blkOf hg c (0 : Fin 5) t (ix2 r d) = m ((c : Thread nD τ).loc main_arg0) (ix2 (⟨(num t).val * 128 + r.val, by have := (num t).isLt; omega⟩ : Fin 74240) d) := by
  show m ((c : Thread nD τ).loc main_arg0) ((((cfgT hg).win (0 : Fin 5)).rect t).emb (ix2 r d)) = _
  refine congrArg (m ((c : Thread nD τ).loc main_arg0)) (funext fun a => Fin.ext ?_)
  rw [Pipeline.Window.rect_emb_val ((cfgT hg).win (0 : Fin 5)) t _ _ rfl, index_0 hg t h]
  match a with
  | ⟨0, _⟩ => rfl
  | ⟨1, _⟩ => show 0 * 1024 + d.val = d.val; omega

theorem w1_of (c : Dev nD) (t : Fin (cfgT hg).N) (d : Fin 1024) (e : Fin 256) :
    blkOf hg c (1 : Fin 5) t (ix4 (0 : Fin 1) (0 : Fin 1) d e) = m ((c : Thread nD τ).loc main_arg3) (ix4 (1 : Fin 2) (who hg (num t)) d e) := by
  show m ((c : Thread nD τ).loc main_arg3) ((((cfgT hg).win (1 : Fin 5)).rect t).emb (ix4 (0 : Fin 1) (0 : Fin 1) d e)) = _
  refine congrArg (m ((c : Thread nD τ).loc main_arg3)) (funext fun a => Fin.ext ?_)
  rw [Pipeline.Window.rect_emb_val ((cfgT hg).win (1 : Fin 5)) t _ _ rfl, (index_w hg t).1]
  match a with
  | ⟨0, _⟩ => rfl
  | ⟨1, _⟩ => show (who hg (num t)).val * 1 + 0 = (who hg (num t)).val; omega
  | ⟨2, _⟩ => show 0 * 1024 + d.val = d.val; omega
  | ⟨3, _⟩ => show 0 * 256 + e.val = e.val; omega

theorem w3_of (c : Dev nD) (t : Fin (cfgT hg).N) (d : Fin 1024) (e : Fin 256) :
    blkOf hg c (2 : Fin 5) t (ix4 (0 : Fin 1) (0 : Fin 1) d e) = m ((c : Thread nD τ).loc main_arg4) (ix4 (1 : Fin 2) (who hg (num t)) d e) := by
  show m ((c : Thread nD τ).loc main_arg4) ((((cfgT hg).win (2 : Fin 5)).rect t).emb (ix4 (0 : Fin 1) (0 : Fin 1) d e)) = _
  refine congrArg (m ((c : Thread nD τ).loc main_arg4)) (funext fun a => Fin.ext ?_)
  rw [Pipeline.Window.rect_emb_val ((cfgT hg).win (2 : Fin 5)) t _ _ rfl, (index_w hg t).2.1]
  match a with
  | ⟨0, _⟩ => rfl
  | ⟨1, _⟩ => show (who hg (num t)).val * 1 + 0 = (who hg (num t)).val; omega
  | ⟨2, _⟩ => show 0 * 1024 + d.val = d.val; omega
  | ⟨3, _⟩ => show 0 * 256 + e.val = e.val; omega

theorem w2_of (c : Dev nD) (t : Fin (cfgT hg).N) (e : Fin 256) (l : Fin 1024) :
    blkOf hg c (3 : Fin 5) t (ix4 (0 : Fin 1) (0 : Fin 1) e l) = m ((c : Thread nD τ).loc main_arg5) (ix4 (1 : Fin 2) (who hg (num t)) e l) := by
  show m ((c : Thread nD τ).loc main_arg5) ((((cfgT hg).win (3 : Fin 5)).rect t).emb (ix4 (0 : Fin 1) (0 : Fin 1) e l)) = _
  refine congrArg (m ((c : Thread nD τ).loc main_arg5)) (funext fun a => Fin.ext ?_)
  rw [Pipeline.Window.rect_emb_val ((cfgT hg).win (3 : Fin 5)) t _ _ rfl, (index_w hg t).2.2]
  match a with
  | ⟨0, _⟩ => rfl
  | ⟨1, _⟩ => show (who hg (num t)).val * 1 + 0 = (who hg (num t)).val; omega
  | ⟨2, _⟩ => show 0 * 256 + e.val = e.val; omega
  | ⟨3, _⟩ => show 0 * 1024 + l.val = l.val; omega

/-- The rows of block `b` through its expert, or zero if the block is not used. -/
def rowOf (X : FVec Ideal S74240x1024 .f32) (W1 W3 : FVec Ideal S2x64x1024x256 .f32) (W2 : FVec Ideal S2x64x256x1024 .f32) (N : BitVec 32)
    (E : Fin 580 → Fin 64) (b : Fin 580) (r : Fin 128) (l : Fin 1024) : EReal :=
  open Classical in if (b.val : ℤ) < N.toInt then
    expert (fun d => X (ix2 (⟨b.val * 128 + r.val, by omega⟩ : Fin 74240) d)) (fun d e => W1 (ix4 (1 : Fin 2) (E b) d e))
      (fun d e => W3 (ix4 (1 : Fin 2) (E b) d e)) (fun e l => W2 (ix4 (1 : Fin 2) (E b) e l)) l
  else 0

/-- The call's array. -/
def whole (X : FVec Ideal S74240x1024 .f32) (W1 W3 : FVec Ideal S2x64x1024x256 .f32) (W2 : FVec Ideal S2x64x256x1024 .f32) (N : BitVec 32)
    (E : Fin 580 → Fin 64) : FVec Ideal S74240x1024 .f32 := fun i =>
  rowOf X W1 W3 W2 N E (⟨(i 0).val / 128, by have h : (i 0).val < 74240 := (i 0).isLt; omega⟩ : Fin 580) (⟨(i 0).val % 128, by omega⟩ : Fin 128) (i 1)

theorem resOf_apply (c : Dev nD) (t : Fin (cfgT hg).N) (r : Fin 128) (l : Fin 1024) :
    resOf hg c t (ix2 r l) = rowOf (m ((c : Thread nD τ).loc main_arg0)) (m ((c : Thread nD τ).loc main_arg3)) (m ((c : Thread nD τ).loc main_arg4))
      (m ((c : Thread nD τ).loc main_arg5)) (cnt (tabN m)) (who hg) (num t) r l := by
  unfold resOf rowOf
  have hu := used_iff_lt t (cnt (tabN m))
  by_cases h : Used m t
  · rw [if_pos h, if_pos (hu.1 h)]
    unfold s13 s2
    refine (outOf_apply c _ _ _ _ r l).trans ?_
    simp only [w1_of, w3_of, w2_of, rows_of hg c t h]
  · rw [if_neg h, if_neg (fun h' => h (hu.2 h'))]
    exact pay5_apply _

theorem covers : ((cfgT hg).win (4 : Fin 5)).Covers := by
  refine Pipeline.Window.covers_of_index_surj _ rfl (fun a => ?_) fun β => ?_
  · match a with
    | ⟨0, _⟩ => show 0 < 128; omega
    | ⟨1, _⟩ => show 0 < 1024; omega
  · have h0 : (β (0 : Fin 2)).val < 580 := lt_of_lt_of_eq (β (0 : Fin 2)).isLt (show (74240 + 128 - 1) / 128 = 580 by norm_num)
    have h1 : (β (1 : Fin 2)).val < 1 := lt_of_lt_of_eq (β (1 : Fin 2)).isLt (show (1024 + 1024 - 1) / 1024 = 1 by norm_num)
    refine ⟨⟨(β (0 : Fin 2)).val, lt_of_lt_of_eq h0 N_0.symm⟩, fun a => ?_⟩
    rw [index_4]
    match a with
    | ⟨0, _⟩ => rfl
    | ⟨1, _⟩ => show 0 = (β (1 : Fin 2)).val; omega

theorem final (c : Dev nD) : (dat hg 0 c).arrAt (4 : Fin 5) (cfgT hg).N
    = whole (m ((c : Thread nD τ).loc main_arg0)) (m ((c : Thread nD τ).loc main_arg3)) (m ((c : Thread nD τ).loc main_arg4))
      (m ((c : Thread nD τ).loc main_arg5)) (cnt (tabN m)) (who hg) := by
  refine (dat hg 0 c).arrAt_eq_of_covers (4 : Fin 5) _ (covers hg) (fun t hf y => ?_) (Memref.isWhole_whole _)
  obtain ⟨r, l, rfl⟩ : ∃ (r : Fin 128) (l : Fin 1024), y = ix2 r l := ⟨y 0, y 1, by funext a; fin_cases a <;> rfl⟩
  refine (resOf_apply hg c t r l).trans ?_
  have e0 : ((((cfgT hg).win (4 : Fin 5)).rect t).emb (ix2 r l) (0 : Fin 2)).val = t.val * 128 + r.val := by
    rw [Pipeline.Window.rect_emb_val ((cfgT hg).win (4 : Fin 5)) t _ _ rfl, index_4]; rfl
  have e1 : ((((cfgT hg).win (4 : Fin 5)).rect t).emb (ix2 r l) (1 : Fin 2)).val = l.val := by
    rw [Pipeline.Window.rect_emb_val ((cfgT hg).win (4 : Fin 5)) t _ _ rfl, index_4]; show 0 * 1024 + l.val = l.val; omega
  show _ = rowOf _ _ _ _ _ _ (⟨((((cfgT hg).win (4 : Fin 5)).rect t).emb (ix2 r l) (0 : Fin 2)).val / 128, _⟩ : Fin 580)
    (⟨((((cfgT hg).win (4 : Fin 5)).rect t).emb (ix2 r l) (0 : Fin 2)).val % 128, _⟩ : Fin 128) ((((cfgT hg).win (4 : Fin 5)).rect t).emb (ix2 r l) (1 : Fin 2))
  refine congr (congr (congrArg _ (Fin.ext ?_)) (Fin.ext ?_)) (Fin.ext ?_)
  · show t.val = _ / 128; rw [e0]; omega
  · show r.val = _ % 128; rw [e0]; omega
  · exact e1.symm

include hg in
/-- The run: the result is the call's array, the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v0) = whole (m ((c : Thread nD τ).loc main_arg0)) (m ((c : Thread nD τ).loc main_arg3)) (m ((c : Thread nD τ).loc main_arg4))
      (m ((c : Thread nD τ).loc main_arg5)) (cnt (tabN m)) (who hg)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨((h.1 c).1 (4 : Fin 5)).trans (final hg c),
    ((h.1 c).1 (0 : Fin 5)).trans ((dat hg 0 c).arrAt_in (0 : Fin 5) rfl _),
    ((h.1 c).2 0).trans (tabs_of hg c 0).symm, ((h.1 c).2 1).trans (tabs_of hg c 1).symm,
    ((h.1 c).1 (1 : Fin 5)).trans ((dat hg 0 c).arrAt_in (1 : Fin 5) rfl _),
    ((h.1 c).1 (2 : Fin 5)).trans ((dat hg 0 c).arrAt_in (2 : Fin 5) rfl _),
    ((h.1 c).1 (3 : Fin 5)).trans ((dat hg 0 c).arrAt_in (3 : Fin 5) rfl _)⟩) (run_ends ρ hg)

end Cert.ExpertsOneIdeal.Val
-- ==== Proof.ExpertsOneRefVal.lean ====
module

public import proofs.«01_k».proof.Proof.Gen.ExpertsOneRefIdeal.Run
public import Idealize.ShloMosaic.Lib.Pipeline.ValueKit

/-! # The experts' call of layer 1: what the reference's result holds

Row `128 b + r` of the result is the expert of block `b` applied to that row, for the used blocks, and zero for the rest. -/

@[expose] public section

set_option maxRecDepth 16384

noncomputable section

open Idealize.ShloMosaic Idealize.ShloMosaic.TcCoe Idealize.SL.Sem

namespace Cert.ExpertsOneRefIdeal.Val
open Cert.ExpertsOneRefIdeal Cert.ExpertsOneRefIdeal.Gen Cert.ExpertsOneRefIdeal.Value

/-! ## Slabs picked by a table -/

/-- Picking, for each of `n` blocks, one of `K` slabs of `P` rows of `Q`. -/
abbrev slabDims (K n P Q : ℕ) (wf : GatherDims.WF (⟨3, ![K, P, Q]⟩ : Shape) ⟨2, ![n, 1]⟩ ⟨3, ![n, P, Q]⟩ [1, 2] [0] [] [0] [] 1 ![1, P, Q]) :
    GatherDims (⟨3, ![K, P, Q]⟩ : Shape) ⟨2, ![n, 1]⟩ ⟨3, ![n, P, Q]⟩ where
  offsetDims := [1, 2]
  collapsedSliceDims := [0]
  operandBatchingDims := []
  startIndicesBatchingDims := []
  startIndexMap := [0]
  indexVectorDim := 1
  sliceSizes := ![1, P, Q]
  wf := wf

/-- Entry `(b, i, j)` of the picked slabs is entry `(i, j)` of slab `e`, if the table names `e` for block `b`. -/
theorem slab_apply {K n P Q : ℕ} (wf) (X : (⟨3, ![K, P, Q]⟩ : Shape).Idx → EReal) (I : IVec ⟨2, ![n, 1]⟩ 32) (b : Fin n) (i : Fin P) (j : Fin Q)
    (e : Fin K) (he : (I (ix2 b (0 : Fin 1))).toInt.toNat = e.val) :
    Host.gather (slabDims K n P Q wf) X I (ix3 b i j) = X (ix3 e i j) := by
  unfold Host.gather
  refine congrArg X (funext fun a => Fin.ext ?_)
  show (slabDims K n P Q wf).start (ix3 b i j) I a + (slabDims K n P Q wf).batchCoord (ix3 b i j) a + (slabDims K n P Q wf).offCoord (ix3 b i j) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (slabDims K n P Q wf).startIndexMap from List.mem_singleton.mpr rfl)]
    have hs : (slabDims K n P Q wf).siIdx (ix3 b i j) ⟨List.idxOf (⟨0, by decide⟩ : Fin 3) (slabDims K n P Q wf).startIndexMap,
        List.idxOf_lt_length_iff.2 (List.mem_singleton.mpr rfl)⟩ = ix2 b (0 : Fin 1) := by
      funext x
      refine Fin.ext ?_
      match x with
      | ⟨0, _⟩ => rfl
      | ⟨1, _⟩ => rfl
    rw [hs]
    show min (I (ix2 b (0 : Fin 1))).toInt.toNat (K - 1) = e.val
    have := e.isLt
    omega
  | ⟨1, _⟩ =>
    unfold GatherDims.start
    rw [dif_neg (show (⟨1, by decide⟩ : Fin 3) ∉ (slabDims K n P Q wf).startIndexMap from by show (⟨1, by decide⟩ : Fin 3) ∉ ([0] : List (Fin 3)); decide), Nat.zero_add]
    rfl
  | ⟨2, _⟩ =>
    unfold GatherDims.start
    rw [dif_neg (show (⟨2, by decide⟩ : Fin 3) ∉ (slabDims K n P Q wf).startIndexMap from by show (⟨2, by decide⟩ : Fin 3) ∉ ([0] : List (Fin 3)); decide), Nat.zero_add]
    rfl

/-! ## The reference's steps -/

/-- The table as it indexes: a negative entry counts from the end. -/
def index (T : IVec S580 32) : IVec S580x1 32 :=
  broadcastInDim S580x1 ![0] bcast_S580_S580x1_0 (select (cmpi .slt T (broadcastInDim S580 ![] bcast_S_S580 (constantI S_ 32 0#32))) (addi T (broadcastInDim S580 ![] bcast_S_S580 (constantI S_ 32 64#32))) T)

/-- Each block's matrix into the hidden rows, and out of them. -/
def slabs (T : IVec S580 32) (W : FVec Ideal S2x64x1024x256 .f32) : FVec Ideal S580x1024x256 .f32 :=
  Host.gather gather_S64x1024x256_S580x1_S580x1024x256_12_0_n_n_0_1_11024256 (shapeCast _ (extractStridedSlice S1x64x1024x256 ![1, 0, 0, 0] W slices_S2x64x1024x256_S1x64x1024x256_1_0_0_0) shapeCasts_S1x64x1024x256_S64x1024x256) (index T)
def slabsOut (T : IVec S580 32) (W : FVec Ideal S2x64x256x1024 .f32) : FVec Ideal S580x256x1024 .f32 :=
  Host.gather gather_S64x256x1024_S580x1_S580x256x1024_12_0_n_n_0_1_12561024 (shapeCast _ (extractStridedSlice S1x64x256x1024 ![1, 0, 0, 0] W slices_S2x64x256x1024_S1x64x256x1024_1_0_0_0) shapeCasts_S1x64x256x1024_S64x256x1024) (index T)

/-- The blocks' rows by their experts' matrices. -/
def hid (X : FVec Ideal S74240x1024 .f32) (G : FVec Ideal S580x1024x256 .f32) : FVec Ideal S580x128x256 .f32 :=
  Host.dotGeneral dot_S580x128x1024_S580x1024x256_S580x128x256_2_1_1_2_0_0 none (shapeCast _ X shapeCasts_S74240x1024_S580x128x1024) G

def act (Y : FVec Ideal S580x128x256 .f32) : FVec Ideal S580x128x256 .f32 :=
  mulf Y (Host.divf (broadcastInDim S580x128x256 ![] bcast_S_S580x128x256 (constant S_ .f32 0x3F800000#32)) (addf (broadcastInDim S580x128x256 ![] bcast_S_S580x128x256 (constant S_ .f32 0x3F800000#32)) (Host.exp (Host.negf Y))))

def dot2 (H : FVec Ideal S580x128x256 .f32) (G : FVec Ideal S580x256x1024 .f32) : FVec Ideal S580x128x1024 .f32 :=
  Host.dotGeneral dot_S580x128x256_S580x256x1024_S580x128x1024_2_1_1_2_0_0 none H G

def masked (N : IVec S1 32) (Y : FVec Ideal S580x128x1024 .f32) : FVec Ideal S74240x1024 .f32 :=
  shapeCast _ (select (broadcastInDim S580x128x1024 ![0, 1, 2] bcast_S580x1x1_S580x128x1024_0_1_2 (broadcastInDim S580x1x1 ![0] bcast_S580_S580x1x1_0 (cmpi .slt (iotaInDim S580 32 0) (broadcastInDim S580 ![] bcast_S_S580 (shapeCast _ N shapeCasts_S1_S_))))) Y (broadcastInDim S580x128x1024 ![] bcast_S_S580x128x1024 (id (constant S_ .f32 0x00000000#32)))) shapeCasts_S580x128x1024_S74240x1024

/-- The reference's result. -/
def out (X : FVec Ideal S74240x1024 .f32) (T : IVec S580 32) (N : IVec S1 32) (W1 W3 : FVec Ideal S2x64x1024x256 .f32) (W2 : FVec Ideal S2x64x256x1024 .f32) :
    FVec Ideal S74240x1024 .f32 :=
  masked N (dot2 (mulf (act (hid X (slabs T W1))) (hid X (slabs T W3))) (slabsOut T W2))

theorem index_apply (T : IVec S580 32) (b : Fin 580) (h : (T (ix1 b)).toNat < 64) : index T (ix2 b (0 : Fin 1)) = T (ix1 b) := by
  have e : IntOp.cmpi .slt (T (ix1 b)) 0#32 = 0#1 := by
    have : ¬ (T (ix1 b)).toInt < 0 := by
      have := BitVec.toInt_eq_toNat_cond (T (ix1 b))
      split at this <;> omega
    simp only [IntOp.cmpi]
    rw [show (T (ix1 b)).slt 0#32 = false from by rw [Bool.eq_false_iff]; intro hh; rw [BitVec.slt_iff_toInt_lt] at hh; exact this hh]
    rfl
  pointwise [index]
  rw [e]
  rfl

theorem index_toNat (T : IVec S580 32) (b : Fin 580) (h : (T (ix1 b)).toNat < 64) : (index T (ix2 b (0 : Fin 1))).toInt.toNat = (T (ix1 b)).toNat := by
  rw [index_apply T b h]
  have := BitVec.toInt_eq_toNat_cond (T (ix1 b))
  split at this <;> omega

theorem slabs_apply (T : IVec S580 32) (W : FVec Ideal S2x64x1024x256 .f32) (b : Fin 580) (h : (T (ix1 b)).toNat < 64) (d : Fin 1024) (e : Fin 256) :
    slabs T W (ix3 b d e) = W (ix4 (1 : Fin 2) (⟨_, h⟩ : Fin 64) d e) := by
  refine (slab_apply gather_S64x1024x256_S580x1_S580x1024x256_12_0_n_n_0_1_11024256_wf _ (index T) b d e ⟨_, h⟩ (index_toNat T b h)).trans ?_
  pointwise
  blk_ext

theorem slabsOut_apply (T : IVec S580 32) (W : FVec Ideal S2x64x256x1024 .f32) (b : Fin 580) (h : (T (ix1 b)).toNat < 64) (d : Fin 256) (e : Fin 1024) :
    slabsOut T W (ix3 b d e) = W (ix4 (1 : Fin 2) (⟨_, h⟩ : Fin 64) d e) := by
  refine (slab_apply gather_S64x256x1024_S580x1_S580x256x1024_12_0_n_n_0_1_12561024_wf _ (index T) b d e ⟨_, h⟩ (index_toNat T b h)).trans ?_
  pointwise
  blk_ext

theorem hid_apply (X : FVec Ideal S74240x1024 .f32) (G : FVec Ideal S580x1024x256 .f32) (b : Fin 580) (r : Fin 128) (e : Fin 256) :
    hid X G (ix3 b r e) = ∑ d : Fin 1024, X (ix2 (⟨b.val * 128 + r.val, by omega⟩ : Fin 74240) d) * G (ix3 b d e) := by
  pointwise [hid]

theorem act_apply (Y : FVec Ideal S580x128x256 .f32) (i) : act Y i = Y i * Ideal.logistic (Y i) := by
  pointwise [act, Ideal.logistic]

theorem dot2_apply (H : FVec Ideal S580x128x256 .f32) (G : FVec Ideal S580x256x1024 .f32) (b : Fin 580) (r : Fin 128) (l : Fin 1024) :
    dot2 H G (ix3 b r l) = ∑ e : Fin 256, H (ix3 b r e) * G (ix3 b e l) := by
  pointwise [dot2]

theorem masked_apply (N : IVec S1 32) (Y : FVec Ideal S580x128x1024 .f32) (b : Fin 580) (r : Fin 128) (l : Fin 1024) :
    masked N Y (ix2 (⟨b.val * 128 + r.val, by omega⟩ : Fin 74240) l)
      = if IntOp.cmpi .slt (BitVec.ofNat 32 b.val) (N (ix1 (0 : Fin 1))) = 1#1 then Y (ix3 b r l) else 0 := by
  pointwise [masked]
  rw [show (id (constant (F := Ideal) S_ .f32 0#32) ix0 : EReal) = 0 from Ideal.ofBits_zero_f32]
  rfl

end Cert.ExpertsOneRefIdeal.Val
-- ==== Proof.ExpertsOneEq.lean ====
module

public import proofs.«01_k».proof.Defs
public import proofs.«01_k».proof.Proof.ExpertsOneBitsFrame
public import proofs.«01_k».proof.Proof.ExpertsOneVal
public import proofs.«01_k».proof.Proof.ExpertsOneRefVal
public import proofs.«01_k».proof.Proof.ExpertsEq

/-! # The experts' call of layer 1: the two closed forms met -/

@[expose] public section

set_option maxRecDepth 16384

noncomputable section

open Idealize.ShloMosaic Idealize.ShloMosaic.TcCoe Idealize.SL.Sem

namespace Cert.ExpertsOneEq

theorem good_bits (m) (h : Cert.Pre_ExpertsOne m) : Cert.ExpertsOne.Step.Good m := Cert.ExpertsEq.named_of_pre _ _ _ _ _ _ (h 0)
theorem good_ideal (m) (h : Cert.Pre_ExpertsOneIdeal m) : Cert.ExpertsOneIdeal.Step.Good m := Cert.ExpertsEq.named_of_pre _ _ _ _ _ _ (h 0)

open Cert.ExpertsOneRefIdeal Cert.ExpertsOneRefIdeal.Val

section
variable (X : FVec Ideal S74240x1024 .f32) (T : IVec S580 32) (N : IVec S1 32) (W1 W3 : FVec Ideal S2x64x1024x256 .f32) (W2 : FVec Ideal S2x64x256x1024 .f32)
  (hT : ∀ x, (T x).toNat < 64)

theorem out_row (b : Fin 580) (r : Fin 128) (l : Fin 1024) : out X T N W1 W3 W2 (ix2 (⟨b.val * 128 + r.val, by omega⟩ : Fin 74240) l)
    = Cert.ExpertsOneIdeal.Val.rowOf X W1 W3 W2 (N (ix1 (0 : Fin 1))) (fun b => ⟨(T (ix1 b)).toNat, hT _⟩) b r l := by
  unfold out Cert.ExpertsOneIdeal.Val.rowOf
  refine (masked_apply N _ b r l).trans ?_
  by_cases h : (b.val : ℤ) < (N (ix1 (0 : Fin 1))).toInt
  · rw [if_pos ((Cert.ExpertsEq.used_ref b _).2 h), if_pos h, dot2_apply]
    unfold Cert.ExpertsOneIdeal.Val.expert Cert.ExpertsOneIdeal.Val.lane
    refine Finset.sum_congr rfl fun e _ => ?_
    rw [slabsOut_apply T W2 b (hT _) e l]
    refine congrArg (· * _) ?_
    show act (hid X (slabs T W1)) (ix3 b r e) * hid X (slabs T W3) (ix3 b r e) = _
    rw [act_apply, hid_apply, hid_apply]
    simp only [slabs_apply T W1 b (hT _), slabs_apply T W3 b (hT _)]
  · rw [if_neg (fun h' => h ((Cert.ExpertsEq.used_ref b _).1 h')), if_neg h]

/-- The reference's result is the call's array. -/
theorem out_eq : out X T N W1 W3 W2 = Cert.ExpertsOneIdeal.Val.whole X W1 W3 W2 (N (ix1 (0 : Fin 1))) fun b => ⟨(T (ix1 b)).toNat, hT _⟩ := by
  funext i
  obtain ⟨R, l, rfl⟩ : ∃ (R : Fin 74240) (l : Fin 1024), i = ix2 R l := ⟨i 0, i 1, by funext a; fin_cases a <;> rfl⟩
  have hR : R = (⟨(⟨R.val / 128, by omega⟩ : Fin 580).val * 128 + (⟨R.val % 128, by omega⟩ : Fin 128).val, by show R.val / 128 * 128 + R.val % 128 < 74240; omega⟩ : Fin 74240) :=
    Fin.ext (by show R.val = R.val / 128 * 128 + R.val % 128; omega)
  exact (congrArg (fun R => out X T N W1 W3 W2 (ix2 R l)) hR).trans (out_row X T N W1 W3 W2 hT _ _ l)

end

open Cert.ExpertsOneIdeal.Step in
/-- The two programs leave the same result. -/
theorem meets (m) (hpre : Cert.Pre_ExpertsOneIdeal m) (c : Dev Cert.ExpertsOneIdeal.nD) :
    out (m ((c : Thread Cert.ExpertsOneIdeal.nD Cert.ExpertsOneIdeal.τ).loc Cert.ExpertsOneIdeal.main_arg0)) (m ((c : Thread Cert.ExpertsOneIdeal.nD Cert.ExpertsOneIdeal.τ).loc Cert.ExpertsOneIdeal.main_arg1))
      (m ((c : Thread Cert.ExpertsOneIdeal.nD Cert.ExpertsOneIdeal.τ).loc Cert.ExpertsOneIdeal.main_arg2)) (m ((c : Thread Cert.ExpertsOneIdeal.nD Cert.ExpertsOneIdeal.τ).loc Cert.ExpertsOneIdeal.main_arg3))
      (m ((c : Thread Cert.ExpertsOneIdeal.nD Cert.ExpertsOneIdeal.τ).loc Cert.ExpertsOneIdeal.main_arg4)) (m ((c : Thread Cert.ExpertsOneIdeal.nD Cert.ExpertsOneIdeal.τ).loc Cert.ExpertsOneIdeal.main_arg5))
    = Cert.ExpertsOneIdeal.Val.whole (m ((c : Thread Cert.ExpertsOneIdeal.nD Cert.ExpertsOneIdeal.τ).loc Cert.ExpertsOneIdeal.main_arg0)) (m ((c : Thread Cert.ExpertsOneIdeal.nD Cert.ExpertsOneIdeal.τ).loc Cert.ExpertsOneIdeal.main_arg3))
      (m ((c : Thread Cert.ExpertsOneIdeal.nD Cert.ExpertsOneIdeal.τ).loc Cert.ExpertsOneIdeal.main_arg4)) (m ((c : Thread Cert.ExpertsOneIdeal.nD Cert.ExpertsOneIdeal.τ).loc Cert.ExpertsOneIdeal.main_arg5)) (cnt (tabN m))
      (Cert.ExpertsOneIdeal.Val.who (good_ideal m hpre)) := by
  obtain rfl : c = 0 := Subsingleton.elim _ _
  refine (out_eq _ _ _ _ _ _ (good_ideal m hpre).1).trans ?_
  have e : cnt (tabN m) = tabN m (ix1 (0 : Fin 1)) :=
    congrArg (tabN m) (by funext a; fin_cases a; exact Subsingleton.elim (α := Fin 1) _ _)
  rw [e]

end Cert.ExpertsOneEq
-- ==== Proof.lean ====
module

public import proofs.«01_k».proof.Defs
public import proofs.«01_k».proof.Proof.Gen.Memkv.Frame
public import proofs.«01_k».proof.Proof.MemkvVal
public import proofs.«01_k».proof.Proof.Gen.LayerOne.Frame
public import proofs.«01_k».proof.Proof.Gen.LayerOneIdeal.Value
public import proofs.«01_k».proof.Proof.Gen.LayerOneRefIdeal.Run
public import proofs.«01_k».proof.Proof.LayerOneVal
public import proofs.«01_k».proof.Proof.LayerOneRefVal
public import proofs.«01_k».proof.Proof.LayerOneEq
public import proofs.«01_k».proof.Proof.Gen.LayerZero.Frame
public import proofs.«01_k».proof.Proof.Gen.LayerZeroIdeal.Value
public import proofs.«01_k».proof.Proof.Gen.LayerZeroRefIdeal.Run
public import proofs.«01_k».proof.Proof.LayerZeroEq
public import proofs.«01_k».proof.Proof.Gen.LayerZeroS.Frame
public import proofs.«01_k».proof.Proof.Gen.LayerZeroSIdeal.Value
public import proofs.«01_k».proof.Proof.Gen.LayerZeroSRefIdeal.Run
public import proofs.«01_k».proof.Proof.LayerZeroSEq
public import proofs.«01_k».proof.Proof.Gen.ExpertsRefIdeal.Run
public import proofs.«01_k».proof.Proof.ExpertsEq
public import proofs.«01_k».proof.Proof.Gen.ExpertsOneRefIdeal.Run
public import proofs.«01_k».proof.Proof.ExpertsOneEq
public import Idealize.ShloMosaic.Lib.Claim

/-! # The claims, assembled -/

@[expose] public section
noncomputable section

open Idealize.ShloMosaic Idealize.SL.Sem Idealize.ShloMosaic.StableHlo

namespace Cert.Proof

theorem quiescent_MemkvRef : Cert.quiescent_MemkvRefIdeal := by
  intro m g _
  exact (θ_run Cert.MemkvRefIdeal.defs _ _).mono (fun r h => ⟨fun c => (h c).2.2, sem_eq_zero_of_no_sems (by decide) r.2⟩)
    (Cert.MemkvRefIdeal.Value.run m g)

theorem algebraic_Memkv : Cert.algebraic_MemkvIdeal_MemkvRefIdeal := by
  pair_intro
  · run_from Cert.MemkvIdeal.Val.run m g
  · run_from Cert.MemkvRefIdeal.Value.run m' g'
    · exact (Cert.MemkvRefIdeal.Val.eq_v48 _ _ _).trans (by rw [(hagree c).2.2])
    · exact (Cert.MemkvRefIdeal.Val.eq_v51 _ _ _).trans (by rw [(hagree c).2.2])

theorem quiescent_LayerOneRef : Cert.quiescent_LayerOneRefIdeal := by
  intro m g _
  exact (θ_run Cert.LayerOneRefIdeal.defs _ _).mono (fun r h => ⟨fun c => (h c).2.2, sem_eq_zero_of_no_sems (by decide) r.2⟩)
    (Cert.LayerOneRefIdeal.Value.run m g)

theorem algebraic_LayerOne : Cert.algebraic_LayerOneIdeal_LayerOneRefIdeal_pre_finite_qm := by
  intro m g m' g' hpre hagree
  have h0 : ∀ c, Cert.LayerOneRefIdeal.Value.res_main_v29 m' c = Cert.LayerOneIdeal.Val.X1m m c := fun c => by
    obtain ⟨hq, hK⟩ := Cert.LayerOneEq.real_of_pre _ _ _ _ _ _ _ _ _ _ (hpre c)
    obtain ⟨a0, a1, a2, a3, a4, -⟩ := hagree c
    rw [Cert.LayerOneRefIdeal.Val.out0_eq, a0, a1, a2, a3, a4]
    exact Cert.LayerOneEq.eq0 _ _ _ _ _ hq hK
  refine ⟨_, _, Cert.LayerOneIdeal.Val.run m g,
    (θ_run Cert.LayerOneRefIdeal.defs _ _).mono (fun r h c => ⟨(h c).1.trans (h0 c), (h c).2.1.trans ?_, (h c).2.2⟩)
      (Cert.LayerOneRefIdeal.Value.run m' g')⟩
  rw [Cert.LayerOneRefIdeal.Val.out1_eq, h0 c, (hagree c).2.2.2.2.2.1]
  exact Cert.LayerOneEq.eq1 _ _

theorem quiescent_LayerZeroRef : Cert.quiescent_LayerZeroRefIdeal := by
  intro m g _
  exact (θ_run Cert.LayerZeroRefIdeal.defs _ _).mono (fun r h => ⟨fun c => (h c).2.2.2, sem_eq_zero_of_no_sems (by decide) r.2⟩)
    (Cert.LayerZeroRefIdeal.Value.run m g)

theorem algebraic_LayerZero : Cert.algebraic_LayerZeroIdeal_LayerZeroRefIdeal_pre_finite_in := by
  intro m g m' g' hpre hagree
  have hr : ∀ c, _ := fun c => Cert.LayerZeroEq.real_of_pre _ _ _ _ _ _ _ _ _ _ _ _ _ _ (hpre c)
  refine ⟨_, _, _, Cert.LayerZeroIdeal.Val.run m g,
    (θ_run Cert.LayerZeroRefIdeal.defs _ _).mono (fun r h c => ⟨(h c).1.trans ?_, (h c).2.1.trans ?_, (h c).2.2.1.trans ?_, (h c).2.2.2⟩)
      (Cert.LayerZeroRefIdeal.Value.run m' g')⟩
  all_goals
    obtain ⟨hK, hg, hW⟩ := hr c
    obtain ⟨a0, a1, a2, a3, a4, a5, a6, a7, a8, a9, -⟩ := hagree c
    have e0 : Cert.LayerZeroRefIdeal.Val.arg0 (launchContents m' c) = Cert.LayerZeroIdeal.Val.A0 m c := a0
    have e1 : Cert.LayerZeroRefIdeal.Val.arg1 (launchContents m' c) = Cert.LayerZeroIdeal.Val.A1 m c := a1
    have e2 : Cert.LayerZeroRefIdeal.Val.arg2 (launchContents m' c) = Cert.LayerZeroIdeal.Val.A2 m c := a2
    have e3 : Cert.LayerZeroRefIdeal.Val.arg3 (launchContents m' c) = Cert.LayerZeroIdeal.Val.A3 m c := a3
    have e4 : Cert.LayerZeroRefIdeal.Val.arg4 (launchContents m' c) = Cert.LayerZeroIdeal.Val.A4 m c := a4
    have e5 : Cert.LayerZeroRefIdeal.Val.arg5 (launchContents m' c) = Cert.LayerZeroIdeal.Val.A5 m c := a5
    have e6 : Cert.LayerZeroRefIdeal.Val.arg6 (launchContents m' c) = Cert.LayerZeroIdeal.Val.A6 m c := a6
    have e7 : Cert.LayerZeroRefIdeal.Val.arg7 (launchContents m' c) = Cert.LayerZeroIdeal.Val.A7 m c := a7
    have e8 : Cert.LayerZeroRefIdeal.Val.arg8 (launchContents m' c) = Cert.LayerZeroIdeal.Val.A8 m c := a8
    have e9 : Cert.LayerZeroRefIdeal.Val.arg9 (launchContents m' c) = Cert.LayerZeroIdeal.Val.A9 m c := a9
  · rw [Cert.LayerZeroRefIdeal.Val.out0_eq, e0, e1, e2, e3, e4, e5, e6, e7, e8]
    exact Cert.LayerZeroEq.eq0 _ _ _ _ _ _ _ _ _ hK hg hW _
  · refine Eq.trans (congrArg (fun X => Cert.LayerZeroRefIdeal.Val.scaled X (Cert.LayerZeroRefIdeal.Val.arg9 (launchContents m' c)))
      (Cert.LayerZeroRefIdeal.Val.out0_eq (launchContents m' c))) ?_
    rw [e0, e1, e2, e3, e4, e5, e6, e7, e8, e9]
    exact Cert.LayerZeroEq.eq1 _ _ _ _ _ _ _ _ _ _ hK hg hW
  · rw [Cert.LayerZeroRefIdeal.Val.out2_eq, e0, e2, e3]
    exact Cert.LayerZeroEq.eq2 _ _ _ _

theorem quiescent_LayerZeroSRef : Cert.quiescent_LayerZeroSRefIdeal := by
  intro m g _
  exact (θ_run Cert.LayerZeroSRefIdeal.defs _ _).mono (fun r h => ⟨fun c => (h c).2.2.2, sem_eq_zero_of_no_sems (by decide) r.2⟩)
    (Cert.LayerZeroSRefIdeal.Value.run m g)

theorem algebraic_LayerZeroS : Cert.algebraic_LayerZeroSIdeal_LayerZeroSRefIdeal_pre_finite_state := by
  intro m g m' g' hpre hagree
  have hr : ∀ c, _ := fun c => Cert.LayerZeroSEq.real_of_pre _ _ _ _ _ _ _ _ _ _ _ _ _ _ _ _ (hpre c)
  refine ⟨_, _, _, Cert.LayerZeroSIdeal.Val.run m g,
    (θ_run Cert.LayerZeroSRefIdeal.defs _ _).mono (fun r h c => ⟨(h c).1.trans ?_, (h c).2.1.trans ?_, (h c).2.2.1.trans ?_, (h c).2.2.2⟩)
      (Cert.LayerZeroSRefIdeal.Value.run m' g')⟩
  all_goals
    obtain ⟨hK, hg, hW⟩ := hr c
    obtain ⟨a0, a1, a2, a3, a4, a5, a6, a7, a8, a9, a10, a11, -⟩ := hagree c
    have e0 : Cert.LayerZeroSRefIdeal.Val.arg0 (launchContents m' c) = Cert.LayerZeroSIdeal.Val.A0 m c := a0
    have e1 : Cert.LayerZeroSRefIdeal.Val.arg1 (launchContents m' c) = Cert.LayerZeroSIdeal.Val.A1 m c := a1
    have e2 : Cert.LayerZeroSRefIdeal.Val.arg2 (launchContents m' c) = Cert.LayerZeroSIdeal.Val.A2 m c := a2
    have e3 : Cert.LayerZeroSRefIdeal.Val.arg3 (launchContents m' c) = Cert.LayerZeroSIdeal.Val.A3 m c := a3
    have e4 : Cert.LayerZeroSRefIdeal.Val.arg4 (launchContents m' c) = Cert.LayerZeroSIdeal.Val.A4 m c := a4
    have e5 : Cert.LayerZeroSRefIdeal.Val.arg5 (launchContents m' c) = Cert.LayerZeroSIdeal.Val.A5 m c := a5
    have e6 : Cert.LayerZeroSRefIdeal.Val.arg6 (launchContents m' c) = Cert.LayerZeroSIdeal.Val.A6 m c := a6
    have e7 : Cert.LayerZeroSRefIdeal.Val.arg7 (launchContents m' c) = Cert.LayerZeroSIdeal.Val.A7 m c := a7
    have e8 : Cert.LayerZeroSRefIdeal.Val.arg8 (launchContents m' c) = Cert.LayerZeroSIdeal.Val.A8 m c := a8
    have e9 : Cert.LayerZeroSRefIdeal.Val.arg9 (launchContents m' c) = Cert.LayerZeroSIdeal.Val.A9 m c := a9
    have e10 : Cert.LayerZeroSRefIdeal.Val.arg10 (launchContents m' c) = Cert.LayerZeroSIdeal.Val.A10 m c := a10
    have e11 : Cert.LayerZeroSRefIdeal.Val.arg11 (launchContents m' c) = Cert.LayerZeroSIdeal.Val.A11 m c := a11
  · rw [Cert.LayerZeroSRefIdeal.Val.out0_eq, e0, e1, e2, e3, e4, e5, e6, e7, e8, e9, e10]
    exact Cert.LayerZeroSEq.eq0 _ _ _ _ _ _ _ _ _ _ _ hK hg hW _
  · refine Eq.trans (congrArg (fun X => Cert.LayerZeroSRefIdeal.Val.scaled X (Cert.LayerZeroSRefIdeal.Val.arg11 (launchContents m' c)))
      (Cert.LayerZeroSRefIdeal.Val.out0_eq (launchContents m' c))) ?_
    rw [e0, e1, e2, e3, e4, e5, e6, e7, e8, e9, e10, e11]
    exact Cert.LayerZeroSEq.eq1 _ _ _ _ _ _ _ _ _ _ _ _ hK hg hW
  · rw [Cert.LayerZeroSRefIdeal.Val.out2_eq, e0, e1, e4, e5]
    exact Cert.LayerZeroSEq.eq2 _ _ _ _ _

theorem quiescent_ExpertsRef : Cert.quiescent_ExpertsRefIdeal := by
  intro m g _
  exact (θ_run Cert.ExpertsRefIdeal.defs _ _).mono (fun r h => ⟨fun c => (h c).2, sem_eq_zero_of_no_sems (by decide) r.2⟩)
    (Cert.ExpertsRefIdeal.Value.run m g)

theorem algebraic_Experts : Cert.algebraic_ExpertsIdeal_ExpertsRefIdeal := by
  intro m g m' g' hpre hagree
  refine ⟨_, Cert.ExpertsIdeal.Val.run (Cert.ExpertsEq.good_ideal m hpre) g,
    (θ_run Cert.ExpertsRefIdeal.defs _ _).mono (fun r h c => ⟨(h c).1.trans ?_, (h c).2⟩) (Cert.ExpertsRefIdeal.Value.run m' g')⟩
  obtain ⟨a0, a1, a2, a3, a4, a5⟩ := hagree c
  rw [a0, a1, a2, a3, a4, a5]
  exact Cert.ExpertsEq.meets m hpre c

theorem quiescent_ExpertsOneRef : Cert.quiescent_ExpertsOneRefIdeal := by
  intro m g _
  exact (θ_run Cert.ExpertsOneRefIdeal.defs _ _).mono (fun r h => ⟨fun c => (h c).2, sem_eq_zero_of_no_sems (by decide) r.2⟩)
    (Cert.ExpertsOneRefIdeal.Value.run m g)

theorem algebraic_ExpertsOne : Cert.algebraic_ExpertsOneIdeal_ExpertsOneRefIdeal := by
  intro m g m' g' hpre hagree
  refine ⟨_, Cert.ExpertsOneIdeal.Val.run (Cert.ExpertsOneEq.good_ideal m hpre) g,
    (θ_run Cert.ExpertsOneRefIdeal.defs _ _).mono (fun r h c => ⟨(h c).1.trans ?_, (h c).2⟩) (Cert.ExpertsOneRefIdeal.Value.run m' g')⟩
  obtain ⟨a0, a1, a2, a3, a4, a5⟩ := hagree c
  rw [a0, a1, a2, a3, a4, a5]
  exact Cert.ExpertsOneEq.meets m hpre c

theorem claim : Cert.Claim :=
  ⟨Cert.Memkv.Gen.facts, Cert.MemkvIdeal.Gen.facts, Cert.MemkvRefIdeal.Gen.facts,
    Cert.LayerOne.Gen.facts, Cert.LayerOneIdeal.Gen.facts, Cert.LayerOneRefIdeal.Gen.facts,
    Cert.LayerZero.Gen.facts, Cert.LayerZeroIdeal.Gen.facts, Cert.LayerZeroRefIdeal.Gen.facts,
    Cert.LayerZeroS.Gen.facts, Cert.LayerZeroSIdeal.Gen.facts, Cert.LayerZeroSRefIdeal.Gen.facts,
    Cert.Experts.Gen.facts, Cert.ExpertsIdeal.Gen.facts, Cert.ExpertsRefIdeal.Gen.facts,
    Cert.ExpertsOne.Gen.facts, Cert.ExpertsOneIdeal.Gen.facts, Cert.ExpertsOneRefIdeal.Gen.facts,
    Cert.LayerOneEq.facts, Cert.LayerZeroEq.facts, Cert.LayerZeroSEq.facts, Cert.Pre_experts_named.Gen.facts,
    fun m ρ _ => Cert.Memkv.Gen.frame m ρ,
    fun m ρ _ => Cert.MemkvIdeal.Gen.frame m ρ,
    quiescent_MemkvRef,
    fun m ρ _ => Cert.LayerOne.Gen.frame m ρ,
    fun m ρ _ => Cert.LayerOneIdeal.Gen.frame m ρ,
    fun m ρ _ => Cert.LayerOneIdeal.Gen.frame m ρ,
    quiescent_LayerOneRef,
    fun m ρ _ => quiescent_LayerOneRef m ρ trivial,
    fun m ρ _ => Cert.LayerZero.Gen.frame m ρ,
    fun m ρ _ => Cert.LayerZeroIdeal.Gen.frame m ρ,
    fun m ρ _ => Cert.LayerZeroIdeal.Gen.frame m ρ,
    quiescent_LayerZeroRef,
    fun m ρ _ => quiescent_LayerZeroRef m ρ trivial,
    fun m ρ _ => Cert.LayerZeroS.Gen.frame m ρ,
    fun m ρ _ => Cert.LayerZeroSIdeal.Gen.frame m ρ,
    fun m ρ _ => Cert.LayerZeroSIdeal.Gen.frame m ρ,
    quiescent_LayerZeroSRef,
    fun m ρ _ => quiescent_LayerZeroSRef m ρ trivial,
    fun m ρ h => Cert.Experts.Step.args_kept ρ (Cert.ExpertsEq.good_bits m h),
    fun m ρ h => Cert.ExpertsIdeal.Step.args_kept ρ (Cert.ExpertsEq.good_ideal m h),
    quiescent_ExpertsRef,
    fun m ρ _ => quiescent_ExpertsRef m ρ trivial,
    fun m ρ h => Cert.ExpertsOne.Step.args_kept ρ (Cert.ExpertsOneEq.good_bits m h),
    fun m ρ h => Cert.ExpertsOneIdeal.Step.args_kept ρ (Cert.ExpertsOneEq.good_ideal m h),
    quiescent_ExpertsOneRef,
    fun m ρ _ => quiescent_ExpertsOneRef m ρ trivial,
    trivial,
    algebraic_Memkv,
    trivial,
    algebraic_LayerOne,
    trivial,
    algebraic_LayerZero,
    trivial,
    algebraic_LayerZeroS,
    trivial,
    algebraic_Experts,
    trivial,
    algebraic_ExpertsOne⟩

end Cert.Proof

end

end
